-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite1 [hPre_finite1 : Cert.Pre_finite1.Facts] (m : (ℓ : Loc Cert.KernelIdeal.nD Cert.KernelIdeal.τ Cert.KernelIdeal.sig) → Buf (Elt Ideal) ℓ) : Prop :=
  ∀ c : Dev Cert.KernelIdeal.nD,
    (Cert.Pre_finite1.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite1 [hPre_finite1 : Cert.Pre_finite1.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite1.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Kernel4Ideal_finite4 [hPre_finite4 : Cert.Pre_finite4.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_finite4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3))) = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_finite4 [hPre_finite4 : Cert.Pre_finite4.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_finite4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3))) = (fun _ => 1#1)

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Kernel5Ideal_finite5 [hPre_finite5 : Cert.Pre_finite5.Facts] (m : (ℓ : Loc Cert.Kernel5Ideal.nD Cert.Kernel5Ideal.τ Cert.Kernel5Ideal.sig) → Buf (Elt Ideal) ℓ) : Prop :=
  ∀ c : Dev Cert.Kernel5Ideal.nD,
    (Cert.Pre_finite5.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5))) = (fun _ => 1#1)

def Pre_Reference5Ideal (m : (ℓ : Loc Cert.Reference5Ideal.nD Cert.Reference5Ideal.τ Cert.Reference5Ideal.sig) → Buf (Elt Ideal) ℓ) : Prop :=
  True

def Pre_Reference5Ideal_finite5 [hPre_finite5 : Cert.Pre_finite5.Facts] (m : (ℓ : Loc Cert.Reference5Ideal.nD Cert.Reference5Ideal.τ Cert.Reference5Ideal.sig) → Buf (Elt Ideal) ℓ) : Prop :=
  ∀ c : Dev Cert.Reference5Ideal.nD,
    (Cert.Pre_finite5.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5))) = (fun _ => 1#1)

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 [hPre_tables17 : Cert.Pre_tables17.Facts] (m : (ℓ : Loc Cert.Kernel17.nD Cert.Kernel17.τ Cert.Kernel17.sig) → Buf (Elt Bits) ℓ) : Prop :=
  ∀ c : Dev Cert.Kernel17.nD,
    (Cert.Pre_tables17.fn (F := Bits) (m ((c.tc : Thread Cert.Kernel17.nD Cert.Kernel17.τ).loc Cert.Kernel17.main_arg0)) (m ((c.tc : Thread Cert.Kernel17.nD Cert.Kernel17.τ).loc Cert.Kernel17.main_arg1)) (m ((c.tc : Thread Cert.Kernel17.nD Cert.Kernel17.τ).loc Cert.Kernel17.main_arg2)) (m ((c.tc : Thread Cert.Kernel17.nD Cert.Kernel17.τ).loc Cert.Kernel17.main_arg3)) (m ((c.tc : Thread Cert.Kernel17.nD Cert.Kernel17.τ).loc Cert.Kernel17.main_arg4))).1 = (fun _ => 1#1)
    ∧ (Cert.Pre_tables17.fn (F := Bits) (m ((c.tc : Thread Cert.Kernel17.nD Cert.Kernel17.τ).loc Cert.Kernel17.main_arg0)) (m ((c.tc : Thread Cert.Kernel17.nD Cert.Kernel17.τ).loc Cert.Kernel17.main_arg1)) (m ((c.tc : Thread Cert.Kernel17.nD Cert.Kernel17.τ).loc Cert.Kernel17.main_arg2)) (m ((c.tc : Thread Cert.Kernel17.nD Cert.Kernel17.τ).loc Cert.Kernel17.main_arg3)) (m ((c.tc : Thread Cert.Kernel17.nD Cert.Kernel17.τ).loc Cert.Kernel17.main_arg4))).2 = (fun _ => 1#1)

def Pre_Kernel17Ideal [hPre_tables17 : Cert.Pre_tables17.Facts] (m : (ℓ : Loc Cert.Kernel17Ideal.nD Cert.Kernel17Ideal.τ Cert.Kernel17Ideal.sig) → Buf (Elt Ideal) ℓ) : Prop :=
  ∀ c : Dev Cert.Kernel17Ideal.nD,
    (Cert.Pre_tables17.fn (F := Ideal) (m ((c.tc : Thread Cert.Kernel17Ideal.nD Cert.Kernel17Ideal.τ).loc Cert.Kernel17Ideal.main_arg0)) (m ((c.tc : Thread Cert.Kernel17Ideal.nD Cert.Kernel17Ideal.τ).loc Cert.Kernel17Ideal.main_arg1)) (m ((c.tc : Thread Cert.Kernel17Ideal.nD Cert.Kernel17Ideal.τ).loc Cert.Kernel17Ideal.main_arg2)) (m ((c.tc : Thread Cert.Kernel17Ideal.nD Cert.Kernel17Ideal.τ).loc Cert.Kernel17Ideal.main_arg3)) (m ((c.tc : Thread Cert.Kernel17Ideal.nD Cert.Kernel17Ideal.τ).loc Cert.Kernel17Ideal.main_arg4))).1 = (fun _ => 1#1)
    ∧ (Cert.Pre_tables17.fn (F := Ideal) (m ((c.tc : Thread Cert.Kernel17Ideal.nD Cert.Kernel17Ideal.τ).loc Cert.Kernel17Ideal.main_arg0)) (m ((c.tc : Thread Cert.Kernel17Ideal.nD Cert.Kernel17Ideal.τ).loc Cert.Kernel17Ideal.main_arg1)) (m ((c.tc : Thread Cert.Kernel17Ideal.nD Cert.Kernel17Ideal.τ).loc Cert.Kernel17Ideal.main_arg2)) (m ((c.tc : Thread Cert.Kernel17Ideal.nD Cert.Kernel17Ideal.τ).loc Cert.Kernel17Ideal.main_arg3)) (m ((c.tc : Thread Cert.Kernel17Ideal.nD Cert.Kernel17Ideal.τ).loc Cert.Kernel17Ideal.main_arg4))).2 = (fun _ => 1#1)

def Pre_Kernel17Ideal_finite17 [hPre_finite17 : Cert.Pre_finite17.Facts] (m : (ℓ : Loc Cert.Kernel17Ideal.nD Cert.Kernel17Ideal.τ Cert.Kernel17Ideal.sig) → Buf (Elt Ideal) ℓ) : Prop :=
  ∀ c : Dev Cert.Kernel17Ideal.nD,
    (Cert.Pre_finite17.fn (F := Ideal) (m ((c.tc : Thread Cert.Kernel17Ideal.nD Cert.Kernel17Ideal.τ).loc Cert.Kernel17Ideal.main_arg0)) (m ((c.tc : Thread Cert.Kernel17Ideal.nD Cert.Kernel17Ideal.τ).loc Cert.Kernel17Ideal.main_arg1)) (m ((c.tc : Thread Cert.Kernel17Ideal.nD Cert.Kernel17Ideal.τ).loc Cert.Kernel17Ideal.main_arg2)) (m ((c.tc : Thread Cert.Kernel17Ideal.nD Cert.Kernel17Ideal.τ).loc Cert.Kernel17Ideal.main_arg3)) (m ((c.tc : Thread Cert.Kernel17Ideal.nD Cert.Kernel17Ideal.τ).loc Cert.Kernel17Ideal.main_arg4))).1 = (fun _ => 1#1)
    ∧ (Cert.Pre_finite17.fn (F := Ideal) (m ((c.tc : Thread Cert.Kernel17Ideal.nD Cert.Kernel17Ideal.τ).loc Cert.Kernel17Ideal.main_arg0)) (m ((c.tc : Thread Cert.Kernel17Ideal.nD Cert.Kernel17Ideal.τ).loc Cert.Kernel17Ideal.main_arg1)) (m ((c.tc : Thread Cert.Kernel17Ideal.nD Cert.Kernel17Ideal.τ).loc Cert.Kernel17Ideal.main_arg2)) (m ((c.tc : Thread Cert.Kernel17Ideal.nD Cert.Kernel17Ideal.τ).loc Cert.Kernel17Ideal.main_arg3)) (m ((c.tc : Thread Cert.Kernel17Ideal.nD Cert.Kernel17Ideal.τ).loc Cert.Kernel17Ideal.main_arg4))).2.1 = (fun _ => 1#1)
    ∧ (Cert.Pre_finite17.fn (F := Ideal) (m ((c.tc : Thread Cert.Kernel17Ideal.nD Cert.Kernel17Ideal.τ).loc Cert.Kernel17Ideal.main_arg0)) (m ((c.tc : Thread Cert.Kernel17Ideal.nD Cert.Kernel17Ideal.τ).loc Cert.Kernel17Ideal.main_arg1)) (m ((c.tc : Thread Cert.Kernel17Ideal.nD Cert.Kernel17Ideal.τ).loc Cert.Kernel17Ideal.main_arg2)) (m ((c.tc : Thread Cert.Kernel17Ideal.nD Cert.Kernel17Ideal.τ).loc Cert.Kernel17Ideal.main_arg3)) (m ((c.tc : Thread Cert.Kernel17Ideal.nD Cert.Kernel17Ideal.τ).loc Cert.Kernel17Ideal.main_arg4))).2.2 = (fun _ => 1#1)

def Pre_Reference17Ideal (m : (ℓ : Loc Cert.Reference17Ideal.nD Cert.Reference17Ideal.τ Cert.Reference17Ideal.sig) → Buf (Elt Ideal) ℓ) : Prop :=
  True

def Pre_Reference17Ideal_finite17 [hPre_finite17 : Cert.Pre_finite17.Facts] (m : (ℓ : Loc Cert.Reference17Ideal.nD Cert.Reference17Ideal.τ Cert.Reference17Ideal.sig) → Buf (Elt Ideal) ℓ) : Prop :=
  ∀ c : Dev Cert.Reference17Ideal.nD,
    (Cert.Pre_finite17.fn (F := Ideal) (m ((c.tc : Thread Cert.Reference17Ideal.nD Cert.Reference17Ideal.τ).loc Cert.Reference17Ideal.main_arg0)) (m ((c.tc : Thread Cert.Reference17Ideal.nD Cert.Reference17Ideal.τ).loc Cert.Reference17Ideal.main_arg1)) (m ((c.tc : Thread Cert.Reference17Ideal.nD Cert.Reference17Ideal.τ).loc Cert.Reference17Ideal.main_arg2)) (m ((c.tc : Thread Cert.Reference17Ideal.nD Cert.Reference17Ideal.τ).loc Cert.Reference17Ideal.main_arg3)) (m ((c.tc : Thread Cert.Reference17Ideal.nD Cert.Reference17Ideal.τ).loc Cert.Reference17Ideal.main_arg4))).1 = (fun _ => 1#1)
    ∧ (Cert.Pre_finite17.fn (F := Ideal) (m ((c.tc : Thread Cert.Reference17Ideal.nD Cert.Reference17Ideal.τ).loc Cert.Reference17Ideal.main_arg0)) (m ((c.tc : Thread Cert.Reference17Ideal.nD Cert.Reference17Ideal.τ).loc Cert.Reference17Ideal.main_arg1)) (m ((c.tc : Thread Cert.Reference17Ideal.nD Cert.Reference17Ideal.τ).loc Cert.Reference17Ideal.main_arg2)) (m ((c.tc : Thread Cert.Reference17Ideal.nD Cert.Reference17Ideal.τ).loc Cert.Reference17Ideal.main_arg3)) (m ((c.tc : Thread Cert.Reference17Ideal.nD Cert.Reference17Ideal.τ).loc Cert.Reference17Ideal.main_arg4))).2.1 = (fun _ => 1#1)
    ∧ (Cert.Pre_finite17.fn (F := Ideal) (m ((c.tc : Thread Cert.Reference17Ideal.nD Cert.Reference17Ideal.τ).loc Cert.Reference17Ideal.main_arg0)) (m ((c.tc : Thread Cert.Reference17Ideal.nD Cert.Reference17Ideal.τ).loc Cert.Reference17Ideal.main_arg1)) (m ((c.tc : Thread Cert.Reference17Ideal.nD Cert.Reference17Ideal.τ).loc Cert.Reference17Ideal.main_arg2)) (m ((c.tc : Thread Cert.Reference17Ideal.nD Cert.Reference17Ideal.τ).loc Cert.Reference17Ideal.main_arg3)) (m ((c.tc : Thread Cert.Reference17Ideal.nD Cert.Reference17Ideal.τ).loc Cert.Reference17Ideal.main_arg4))).2.2 = (fun _ => 1#1)

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def Pre_Kernel21 (m : (ℓ : Loc Cert.Kernel21.nD Cert.Kernel21.τ Cert.Kernel21.sig) → Buf (Elt Bits) ℓ) : Prop :=
  True

def Pre_Kernel21Ideal (m : (ℓ : Loc Cert.Kernel21Ideal.nD Cert.Kernel21Ideal.τ Cert.Kernel21Ideal.sig) → Buf (Elt Ideal) ℓ) : Prop :=
  True

def Pre_Reference21Ideal (m : (ℓ : Loc Cert.Reference21Ideal.nD Cert.Reference21Ideal.τ Cert.Reference21Ideal.sig) → Buf (Elt Ideal) ℓ) : Prop :=
  True

def Pre_Kernel22 (m : (ℓ : Loc Cert.Kernel22.nD Cert.Kernel22.τ Cert.Kernel22.sig) → Buf (Elt Bits) ℓ) : Prop :=
  True

def Pre_Kernel22Ideal (m : (ℓ : Loc Cert.Kernel22Ideal.nD Cert.Kernel22Ideal.τ Cert.Kernel22Ideal.sig) → Buf (Elt Ideal) ℓ) : Prop :=
  True

def Pre_Reference22Ideal (m : (ℓ : Loc Cert.Reference22Ideal.nD Cert.Reference22Ideal.τ Cert.Reference22Ideal.sig) → Buf (Elt Ideal) ℓ) : Prop :=
  True

def Pre_Kernel23 (m : (ℓ : Loc Cert.Kernel23.nD Cert.Kernel23.τ Cert.Kernel23.sig) → Buf (Elt Bits) ℓ) : Prop :=
  True

def Pre_Kernel23Ideal (m : (ℓ : Loc Cert.Kernel23Ideal.nD Cert.Kernel23Ideal.τ Cert.Kernel23Ideal.sig) → Buf (Elt Ideal) ℓ) : Prop :=
  True

def Pre_Reference23Ideal (m : (ℓ : Loc Cert.Reference23Ideal.nD Cert.Reference23Ideal.τ Cert.Reference23Ideal.sig) → Buf (Elt Ideal) ℓ) : Prop :=
  True

def Pre_Kernel24 (m : (ℓ : Loc Cert.Kernel24.nD Cert.Kernel24.τ Cert.Kernel24.sig) → Buf (Elt Bits) ℓ) : Prop :=
  True

def Pre_Kernel24Ideal (m : (ℓ : Loc Cert.Kernel24Ideal.nD Cert.Kernel24Ideal.τ Cert.Kernel24Ideal.sig) → Buf (Elt Ideal) ℓ) : Prop :=
  True

def Pre_Reference24Ideal (m : (ℓ : Loc Cert.Reference24Ideal.nD Cert.Reference24Ideal.τ Cert.Reference24Ideal.sig) → Buf (Elt Ideal) ℓ) : Prop :=
  True

def Pre_Kernel25 (m : (ℓ : Loc Cert.Kernel25.nD Cert.Kernel25.τ Cert.Kernel25.sig) → Buf (Elt Bits) ℓ) : Prop :=
  True

def Pre_Kernel25Ideal (m : (ℓ : Loc Cert.Kernel25Ideal.nD Cert.Kernel25Ideal.τ Cert.Kernel25Ideal.sig) → Buf (Elt Ideal) ℓ) : Prop :=
  True

def Pre_Reference25Ideal (m : (ℓ : Loc Cert.Reference25Ideal.nD Cert.Reference25Ideal.τ Cert.Reference25Ideal.sig) → Buf (Elt Ideal) ℓ) : Prop :=
  True

def Pre_Kernel26 (m : (ℓ : Loc Cert.Kernel26.nD Cert.Kernel26.τ Cert.Kernel26.sig) → Buf (Elt Bits) ℓ) : Prop :=
  True

def Pre_Kernel26Ideal (m : (ℓ : Loc Cert.Kernel26Ideal.nD Cert.Kernel26Ideal.τ Cert.Kernel26Ideal.sig) → Buf (Elt Ideal) ℓ) : Prop :=
  True

def Pre_Kernel26Ideal_finite26 [hPre_finite26 : Cert.Pre_finite26.Facts] (m : (ℓ : Loc Cert.Kernel26Ideal.nD Cert.Kernel26Ideal.τ Cert.Kernel26Ideal.sig) → Buf (Elt Ideal) ℓ) : Prop :=
  ∀ c : Dev Cert.Kernel26Ideal.nD,
    (Cert.Pre_finite26.fn (F := Ideal) (m ((c.tc : Thread Cert.Kernel26Ideal.nD Cert.Kernel26Ideal.τ).loc Cert.Kernel26Ideal.main_arg0)) (m ((c.tc : Thread Cert.Kernel26Ideal.nD Cert.Kernel26Ideal.τ).loc Cert.Kernel26Ideal.main_arg1)) (m ((c.tc : Thread Cert.Kernel26Ideal.nD Cert.Kernel26Ideal.τ).loc Cert.Kernel26Ideal.main_arg2)) (m ((c.tc : Thread Cert.Kernel26Ideal.nD Cert.Kernel26Ideal.τ).loc Cert.Kernel26Ideal.main_arg3)) (m ((c.tc : Thread Cert.Kernel26Ideal.nD Cert.Kernel26Ideal.τ).loc Cert.Kernel26Ideal.main_arg4))) = (fun _ => 1#1)

def Pre_Reference26Ideal (m : (ℓ : Loc Cert.Reference26Ideal.nD Cert.Reference26Ideal.τ Cert.Reference26Ideal.sig) → Buf (Elt Ideal) ℓ) : Prop :=
  True

def Pre_Reference26Ideal_finite26 [hPre_finite26 : Cert.Pre_finite26.Facts] (m : (ℓ : Loc Cert.Reference26Ideal.nD Cert.Reference26Ideal.τ Cert.Reference26Ideal.sig) → Buf (Elt Ideal) ℓ) : Prop :=
  ∀ c : Dev Cert.Reference26Ideal.nD,
    (Cert.Pre_finite26.fn (F := Ideal) (m ((c.tc : Thread Cert.Reference26Ideal.nD Cert.Reference26Ideal.τ).loc Cert.Reference26Ideal.main_arg0)) (m ((c.tc : Thread Cert.Reference26Ideal.nD Cert.Reference26Ideal.τ).loc Cert.Reference26Ideal.main_arg1)) (m ((c.tc : Thread Cert.Reference26Ideal.nD Cert.Reference26Ideal.τ).loc Cert.Reference26Ideal.main_arg2)) (m ((c.tc : Thread Cert.Reference26Ideal.nD Cert.Reference26Ideal.τ).loc Cert.Reference26Ideal.main_arg3)) (m ((c.tc : Thread Cert.Reference26Ideal.nD Cert.Reference26Ideal.τ).loc Cert.Reference26Ideal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite1 [hKernelIdeal : Cert.KernelIdeal.Facts] [hPre_finite1 : Cert.Pre_finite1.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite1 m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite1 [hReferenceIdeal : Cert.ReferenceIdeal.Facts] [hPre_finite1 : Cert.Pre_finite1.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite1 m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Kernel4Ideal_pre_finite4 [hKernel4Ideal : Cert.Kernel4Ideal.Facts] [hPre_finite4 : Cert.Pre_finite4.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal_finite4 m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def quiescent_Reference4Ideal_pre_finite4 [hReference4Ideal : Cert.Reference4Ideal.Facts] [hPre_finite4 : Cert.Pre_finite4.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_finite4 m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ r.2.sem = fun _ => 0)

def quiescent_Kernel5Ideal_pre_finite5 [hKernel5Ideal : Cert.Kernel5Ideal.Facts] [hPre_finite5 : Cert.Pre_finite5.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal_finite5 m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5))
      ∧ r.2.sem = fun _ => 0)

def quiescent_Reference5Ideal_pre_finite5 [hReference5Ideal : Cert.Reference5Ideal.Facts] [hPre_finite5 : Cert.Pre_finite5.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal_finite5 m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2)
      ∧ r.2.mem ((c.tc : Thread Cert.Kernel11.nD Cert.Kernel11.τ).loc Cert.Kernel11.main_arg3) = m ((c.tc : Thread Cert.Kernel11.nD Cert.Kernel11.τ).loc Cert.Kernel11.main_arg3))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2)
      ∧ r.2.mem ((c.tc : Thread Cert.Kernel14.nD Cert.Kernel14.τ).loc Cert.Kernel14.main_arg3) = m ((c.tc : Thread Cert.Kernel14.nD Cert.Kernel14.τ).loc Cert.Kernel14.main_arg3))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
      ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2)
      ∧ r.2.mem ((c.tc : Thread Cert.Reference14Ideal.nD Cert.Reference14Ideal.τ).loc Cert.Reference14Ideal.main_arg3) = m ((c.tc : Thread Cert.Reference14Ideal.nD Cert.Reference14Ideal.τ).loc Cert.Reference14Ideal.main_arg3))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1))
      ∧ r.2.sem = fun _ => 0)

def quiescent_Kernel17 [hKernel17 : Cert.Kernel17.Facts] [hPre_tables17 : Cert.Pre_tables17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1)
      ∧ r.2.mem ((c.tc : Thread Cert.Kernel17.nD Cert.Kernel17.τ).loc Cert.Kernel17.main_arg2) = m ((c.tc : Thread Cert.Kernel17.nD Cert.Kernel17.τ).loc Cert.Kernel17.main_arg2)
      ∧ r.2.mem ((c.tc : Thread Cert.Kernel17.nD Cert.Kernel17.τ).loc Cert.Kernel17.main_arg3) = m ((c.tc : Thread Cert.Kernel17.nD Cert.Kernel17.τ).loc Cert.Kernel17.main_arg3)
      ∧ r.2.mem ((c.tc : Thread Cert.Kernel17.nD Cert.Kernel17.τ).loc Cert.Kernel17.main_arg4) = m ((c.tc : Thread Cert.Kernel17.nD Cert.Kernel17.τ).loc Cert.Kernel17.main_arg4))
      ∧ r.2.sem = fun _ => 0)

def quiescent_Kernel17Ideal [hKernel17Ideal : Cert.Kernel17Ideal.Facts] [hPre_tables17 : Cert.Pre_tables17.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
      ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
      ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3)
      ∧ r.2.mem ((c.tc : Thread Cert.Kernel17Ideal.nD Cert.Kernel17Ideal.τ).loc Cert.Kernel17Ideal.main_arg4) = m ((c.tc : Thread Cert.Kernel17Ideal.nD Cert.Kernel17Ideal.τ).loc Cert.Kernel17Ideal.main_arg4))
      ∧ r.2.sem = fun _ => 0)

def quiescent_Kernel17Ideal_pre_finite17 [hKernel17Ideal : Cert.Kernel17Ideal.Facts] [hPre_finite17 : Cert.Pre_finite17.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal_finite17 m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
      ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
      ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3)
      ∧ r.2.mem ((c.tc : Thread Cert.Kernel17Ideal.nD Cert.Kernel17Ideal.τ).loc Cert.Kernel17Ideal.main_arg4) = m ((c.tc : Thread Cert.Kernel17Ideal.nD Cert.Kernel17Ideal.τ).loc Cert.Kernel17Ideal.main_arg4))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1)
      ∧ r.2.mem ((c.tc : Thread Cert.Reference17Ideal.nD Cert.Reference17Ideal.τ).loc Cert.Reference17Ideal.main_arg2) = m ((c.tc : Thread Cert.Reference17Ideal.nD Cert.Reference17Ideal.τ).loc Cert.Reference17Ideal.main_arg2)
      ∧ r.2.mem ((c.tc : Thread Cert.Reference17Ideal.nD Cert.Reference17Ideal.τ).loc Cert.Reference17Ideal.main_arg3) = m ((c.tc : Thread Cert.Reference17Ideal.nD Cert.Reference17Ideal.τ).loc Cert.Reference17Ideal.main_arg3)
      ∧ r.2.mem ((c.tc : Thread Cert.Reference17Ideal.nD Cert.Reference17Ideal.τ).loc Cert.Reference17Ideal.main_arg4) = m ((c.tc : Thread Cert.Reference17Ideal.nD Cert.Reference17Ideal.τ).loc Cert.Reference17Ideal.main_arg4))
      ∧ r.2.sem = fun _ => 0)

def quiescent_Reference17Ideal_pre_finite17 [hReference17Ideal : Cert.Reference17Ideal.Facts] [hPre_finite17 : Cert.Pre_finite17.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal_finite17 m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1)
      ∧ r.2.mem ((c.tc : Thread Cert.Reference17Ideal.nD Cert.Reference17Ideal.τ).loc Cert.Reference17Ideal.main_arg2) = m ((c.tc : Thread Cert.Reference17Ideal.nD Cert.Reference17Ideal.τ).loc Cert.Reference17Ideal.main_arg2)
      ∧ r.2.mem ((c.tc : Thread Cert.Reference17Ideal.nD Cert.Reference17Ideal.τ).loc Cert.Reference17Ideal.main_arg3) = m ((c.tc : Thread Cert.Reference17Ideal.nD Cert.Reference17Ideal.τ).loc Cert.Reference17Ideal.main_arg3)
      ∧ r.2.mem ((c.tc : Thread Cert.Reference17Ideal.nD Cert.Reference17Ideal.τ).loc Cert.Reference17Ideal.main_arg4) = m ((c.tc : Thread Cert.Reference17Ideal.nD Cert.Reference17Ideal.τ).loc Cert.Reference17Ideal.main_arg4))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1))
      ∧ r.2.sem = fun _ => 0)

def quiescent_Kernel21 [hKernel21 : Cert.Kernel21.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0)
      ∧ r.2.mem ((c.tc : Thread Cert.Kernel21.nD Cert.Kernel21.τ).loc Cert.Kernel21.main_arg1) = m ((c.tc : Thread Cert.Kernel21.nD Cert.Kernel21.τ).loc Cert.Kernel21.main_arg1))
      ∧ r.2.sem = fun _ => 0)

def quiescent_Kernel21Ideal [hKernel21Ideal : Cert.Kernel21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1))
      ∧ r.2.sem = fun _ => 0)

def quiescent_Reference21Ideal [hReference21Ideal : Cert.Reference21Ideal.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1))
      ∧ r.2.sem = fun _ => 0)

def quiescent_Kernel22 [hKernel22 : Cert.Kernel22.Facts] : Prop :=
  ∀ (m : (ℓ : Loc Cert.Kernel22.nD Cert.Kernel22.τ Cert.Kernel22.sig) → Buf (Elt Bits) ℓ) (g : Dev Cert.Kernel22.nD → PrngReg), Pre_Kernel22 m →
    θ_run (Cert.Kernel22.defs (F := Bits)) (onTc (τ := Cert.Kernel22.τ) (Cert.Kernel22.main (F := Bits))) ⟨m, fun _ => 0, g⟩ (fun r => (∀ c : Dev Cert.Kernel22.nD,
      r.2.mem ((c.tc : Thread Cert.Kernel22.nD Cert.Kernel22.τ).loc Cert.Kernel22.main_arg0) = m ((c.tc : Thread Cert.Kernel22.nD Cert.Kernel22.τ).loc Cert.Kernel22.main_arg0)
      ∧ r.2.mem ((c.tc : Thread Cert.Kernel22.nD Cert.Kernel22.τ).loc Cert.Kernel22.main_arg1) = m ((c.tc : Thread Cert.Kernel22.nD Cert.Kernel22.τ).loc Cert.Kernel22.main_arg1))
      ∧ r.2.sem = fun _ => 0)

def quiescent_Kernel22Ideal [hKernel22Ideal : Cert.Kernel22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg), Pre_Kernel22Ideal m →
    θ_run (Cert.Kernel22Ideal.defs (F := Ideal)) (onTc (τ := Cert.Kernel22Ideal.τ) (Cert.Kernel22Ideal.main (F := Ideal))) ⟨m, fun _ => 0, g⟩ (fun r => (∀ c : Dev Cert.Kernel22Ideal.nD,
      r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
      ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1))
      ∧ r.2.sem = fun _ => 0)

def quiescent_Reference22Ideal [hReference22Ideal : Cert.Reference22Ideal.Facts] : Prop :=
  ∀ (m : (ℓ : Loc Cert.Reference22Ideal.nD Cert.Reference22Ideal.τ Cert.Reference22Ideal.sig) → Buf (Elt Ideal) ℓ) (g : Dev Cert.Reference22Ideal.nD → PrngReg), Pre_Reference22Ideal m →
    θ_run (Cert.Reference22Ideal.defs (F := Ideal)) (onTc (τ := Cert.Reference22Ideal.τ) (Cert.Reference22Ideal.main (F := Ideal))) ⟨m, fun _ => 0, g⟩ (fun r => (∀ c : Dev Cert.Reference22Ideal.nD,
      r.2.mem ((c.tc : Thread Cert.Reference22Ideal.nD Cert.Reference22Ideal.τ).loc Cert.Reference22Ideal.main_arg0) = m ((c.tc : Thread Cert.Reference22Ideal.nD Cert.Reference22Ideal.τ).loc Cert.Reference22Ideal.main_arg0)
      ∧ r.2.mem ((c.tc : Thread Cert.Reference22Ideal.nD Cert.Reference22Ideal.τ).loc Cert.Reference22Ideal.main_arg1) = m ((c.tc : Thread Cert.Reference22Ideal.nD Cert.Reference22Ideal.τ).loc Cert.Reference22Ideal.main_arg1))
      ∧ r.2.sem = fun _ => 0)

def quiescent_Kernel23 [hKernel23 : Cert.Kernel23.Facts] : Prop :=
  ∀ (m : (ℓ : Loc Cert.Kernel23.nD Cert.Kernel23.τ Cert.Kernel23.sig) → Buf (Elt Bits) ℓ) (g : Dev Cert.Kernel23.nD → PrngReg), Pre_Kernel23 m →
    θ_run (Cert.Kernel23.defs (F := Bits)) (onTc (τ := Cert.Kernel23.τ) (Cert.Kernel23.main (F := Bits))) ⟨m, fun _ => 0, g⟩ (fun r => (∀ c : Dev Cert.Kernel23.nD,
      r.2.mem ((c.tc : Thread Cert.Kernel23.nD Cert.Kernel23.τ).loc Cert.Kernel23.main_arg0) = m ((c.tc : Thread Cert.Kernel23.nD Cert.Kernel23.τ).loc Cert.Kernel23.main_arg0)
      ∧ r.2.mem ((c.tc : Thread Cert.Kernel23.nD Cert.Kernel23.τ).loc Cert.Kernel23.main_arg1) = m ((c.tc : Thread Cert.Kernel23.nD Cert.Kernel23.τ).loc Cert.Kernel23.main_arg1))
      ∧ r.2.sem = fun _ => 0)

def quiescent_Kernel23Ideal [hKernel23Ideal : Cert.Kernel23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg), Pre_Kernel23Ideal m →
    θ_run (Cert.Kernel23Ideal.defs (F := Ideal)) (onTc (τ := Cert.Kernel23Ideal.τ) (Cert.Kernel23Ideal.main (F := Ideal))) ⟨m, fun _ => 0, g⟩ (fun r => (∀ c : Dev Cert.Kernel23Ideal.nD,
      r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
      ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1))
      ∧ r.2.sem = fun _ => 0)

def quiescent_Reference23Ideal [hReference23Ideal : Cert.Reference23Ideal.Facts] : Prop :=
  ∀ (m : (ℓ : Loc Cert.Reference23Ideal.nD Cert.Reference23Ideal.τ Cert.Reference23Ideal.sig) → Buf (Elt Ideal) ℓ) (g : Dev Cert.Reference23Ideal.nD → PrngReg), Pre_Reference23Ideal m →
    θ_run (Cert.Reference23Ideal.defs (F := Ideal)) (onTc (τ := Cert.Reference23Ideal.τ) (Cert.Reference23Ideal.main (F := Ideal))) ⟨m, fun _ => 0, g⟩ (fun r => (∀ c : Dev Cert.Reference23Ideal.nD,
      r.2.mem ((c.tc : Thread Cert.Reference23Ideal.nD Cert.Reference23Ideal.τ).loc Cert.Reference23Ideal.main_arg0) = m ((c.tc : Thread Cert.Reference23Ideal.nD Cert.Reference23Ideal.τ).loc Cert.Reference23Ideal.main_arg0)
      ∧ r.2.mem ((c.tc : Thread Cert.Reference23Ideal.nD Cert.Reference23Ideal.τ).loc Cert.Reference23Ideal.main_arg1) = m ((c.tc : Thread Cert.Reference23Ideal.nD Cert.Reference23Ideal.τ).loc Cert.Reference23Ideal.main_arg1))
      ∧ r.2.sem = fun _ => 0)

def quiescent_Kernel24 [hKernel24 : Cert.Kernel24.Facts] : Prop :=
  ∀ (m : (ℓ : Loc Cert.Kernel24.nD Cert.Kernel24.τ Cert.Kernel24.sig) → Buf (Elt Bits) ℓ) (g : Dev Cert.Kernel24.nD → PrngReg), Pre_Kernel24 m →
    θ_run (Cert.Kernel24.defs (F := Bits)) (onTc (τ := Cert.Kernel24.τ) (Cert.Kernel24.main (F := Bits))) ⟨m, fun _ => 0, g⟩ (fun r => (∀ c : Dev Cert.Kernel24.nD,
      r.2.mem ((c.tc : Thread Cert.Kernel24.nD Cert.Kernel24.τ).loc Cert.Kernel24.main_arg0) = m ((c.tc : Thread Cert.Kernel24.nD Cert.Kernel24.τ).loc Cert.Kernel24.main_arg0)
      ∧ r.2.mem ((c.tc : Thread Cert.Kernel24.nD Cert.Kernel24.τ).loc Cert.Kernel24.main_arg1) = m ((c.tc : Thread Cert.Kernel24.nD Cert.Kernel24.τ).loc Cert.Kernel24.main_arg1))
      ∧ r.2.sem = fun _ => 0)

def quiescent_Kernel24Ideal [hKernel24Ideal : Cert.Kernel24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg), Pre_Kernel24Ideal m →
    θ_run (Cert.Kernel24Ideal.defs (F := Ideal)) (onTc (τ := Cert.Kernel24Ideal.τ) (Cert.Kernel24Ideal.main (F := Ideal))) ⟨m, fun _ => 0, g⟩ (fun r => (∀ c : Dev Cert.Kernel24Ideal.nD,
      r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
      ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1))
      ∧ r.2.sem = fun _ => 0)

def quiescent_Reference24Ideal [hReference24Ideal : Cert.Reference24Ideal.Facts] : Prop :=
  ∀ (m : (ℓ : Loc Cert.Reference24Ideal.nD Cert.Reference24Ideal.τ Cert.Reference24Ideal.sig) → Buf (Elt Ideal) ℓ) (g : Dev Cert.Reference24Ideal.nD → PrngReg), Pre_Reference24Ideal m →
    θ_run (Cert.Reference24Ideal.defs (F := Ideal)) (onTc (τ := Cert.Reference24Ideal.τ) (Cert.Reference24Ideal.main (F := Ideal))) ⟨m, fun _ => 0, g⟩ (fun r => (∀ c : Dev Cert.Reference24Ideal.nD,
      r.2.mem ((c.tc : Thread Cert.Reference24Ideal.nD Cert.Reference24Ideal.τ).loc Cert.Reference24Ideal.main_arg0) = m ((c.tc : Thread Cert.Reference24Ideal.nD Cert.Reference24Ideal.τ).loc Cert.Reference24Ideal.main_arg0)
      ∧ r.2.mem ((c.tc : Thread Cert.Reference24Ideal.nD Cert.Reference24Ideal.τ).loc Cert.Reference24Ideal.main_arg1) = m ((c.tc : Thread Cert.Reference24Ideal.nD Cert.Reference24Ideal.τ).loc Cert.Reference24Ideal.main_arg1))
      ∧ r.2.sem = fun _ => 0)

def quiescent_Kernel25 [hKernel25 : Cert.Kernel25.Facts] : Prop :=
  ∀ (m : (ℓ : Loc Cert.Kernel25.nD Cert.Kernel25.τ Cert.Kernel25.sig) → Buf (Elt Bits) ℓ) (g : Dev Cert.Kernel25.nD → PrngReg), Pre_Kernel25 m →
    θ_run (Cert.Kernel25.defs (F := Bits)) (onTc (τ := Cert.Kernel25.τ) (Cert.Kernel25.main (F := Bits))) ⟨m, fun _ => 0, g⟩ (fun r => (∀ c : Dev Cert.Kernel25.nD,
      r.2.mem ((c.tc : Thread Cert.Kernel25.nD Cert.Kernel25.τ).loc Cert.Kernel25.main_arg0) = m ((c.tc : Thread Cert.Kernel25.nD Cert.Kernel25.τ).loc Cert.Kernel25.main_arg0)
      ∧ r.2.mem ((c.tc : Thread Cert.Kernel25.nD Cert.Kernel25.τ).loc Cert.Kernel25.main_arg1) = m ((c.tc : Thread Cert.Kernel25.nD Cert.Kernel25.τ).loc Cert.Kernel25.main_arg1))
      ∧ r.2.sem = fun _ => 0)

def quiescent_Kernel25Ideal [hKernel25Ideal : Cert.Kernel25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg), Pre_Kernel25Ideal m →
    θ_run (Cert.Kernel25Ideal.defs (F := Ideal)) (onTc (τ := Cert.Kernel25Ideal.τ) (Cert.Kernel25Ideal.main (F := Ideal))) ⟨m, fun _ => 0, g⟩ (fun r => (∀ c : Dev Cert.Kernel25Ideal.nD,
      r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
      ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1))
      ∧ r.2.sem = fun _ => 0)

def quiescent_Reference25Ideal [hReference25Ideal : Cert.Reference25Ideal.Facts] : Prop :=
  ∀ (m : (ℓ : Loc Cert.Reference25Ideal.nD Cert.Reference25Ideal.τ Cert.Reference25Ideal.sig) → Buf (Elt Ideal) ℓ) (g : Dev Cert.Reference25Ideal.nD → PrngReg), Pre_Reference25Ideal m →
    θ_run (Cert.Reference25Ideal.defs (F := Ideal)) (onTc (τ := Cert.Reference25Ideal.τ) (Cert.Reference25Ideal.main (F := Ideal))) ⟨m, fun _ => 0, g⟩ (fun r => (∀ c : Dev Cert.Reference25Ideal.nD,
      r.2.mem ((c.tc : Thread Cert.Reference25Ideal.nD Cert.Reference25Ideal.τ).loc Cert.Reference25Ideal.main_arg0) = m ((c.tc : Thread Cert.Reference25Ideal.nD Cert.Reference25Ideal.τ).loc Cert.Reference25Ideal.main_arg0)
      ∧ r.2.mem ((c.tc : Thread Cert.Reference25Ideal.nD Cert.Reference25Ideal.τ).loc Cert.Reference25Ideal.main_arg1) = m ((c.tc : Thread Cert.Reference25Ideal.nD Cert.Reference25Ideal.τ).loc Cert.Reference25Ideal.main_arg1))
      ∧ r.2.sem = fun _ => 0)

def quiescent_Kernel26 [hKernel26 : Cert.Kernel26.Facts] : Prop :=
  ∀ (m : (ℓ : Loc Cert.Kernel26.nD Cert.Kernel26.τ Cert.Kernel26.sig) → Buf (Elt Bits) ℓ) (g : Dev Cert.Kernel26.nD → PrngReg), Pre_Kernel26 m →
    θ_run (Cert.Kernel26.defs (F := Bits)) (onTc (τ := Cert.Kernel26.τ) (Cert.Kernel26.main (F := Bits))) ⟨m, fun _ => 0, g⟩ (fun r => (∀ c : Dev Cert.Kernel26.nD,
      r.2.mem ((c.tc : Thread Cert.Kernel26.nD Cert.Kernel26.τ).loc Cert.Kernel26.main_arg0) = m ((c.tc : Thread Cert.Kernel26.nD Cert.Kernel26.τ).loc Cert.Kernel26.main_arg0)
      ∧ r.2.mem ((c.tc : Thread Cert.Kernel26.nD Cert.Kernel26.τ).loc Cert.Kernel26.main_arg1) = m ((c.tc : Thread Cert.Kernel26.nD Cert.Kernel26.τ).loc Cert.Kernel26.main_arg1)
      ∧ r.2.mem ((c.tc : Thread Cert.Kernel26.nD Cert.Kernel26.τ).loc Cert.Kernel26.main_arg2) = m ((c.tc : Thread Cert.Kernel26.nD Cert.Kernel26.τ).loc Cert.Kernel26.main_arg2)
      ∧ r.2.mem ((c.tc : Thread Cert.Kernel26.nD Cert.Kernel26.τ).loc Cert.Kernel26.main_arg3) = m ((c.tc : Thread Cert.Kernel26.nD Cert.Kernel26.τ).loc Cert.Kernel26.main_arg3)
      ∧ r.2.mem ((c.tc : Thread Cert.Kernel26.nD Cert.Kernel26.τ).loc Cert.Kernel26.main_arg4) = m ((c.tc : Thread Cert.Kernel26.nD Cert.Kernel26.τ).loc Cert.Kernel26.main_arg4))
      ∧ r.2.sem = fun _ => 0)

def quiescent_Kernel26Ideal [hKernel26Ideal : Cert.Kernel26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg), Pre_Kernel26Ideal m →
    θ_run (Cert.Kernel26Ideal.defs (F := Ideal)) (onTc (τ := Cert.Kernel26Ideal.τ) (Cert.Kernel26Ideal.main (F := Ideal))) ⟨m, fun _ => 0, g⟩ (fun r => (∀ c : Dev Cert.Kernel26Ideal.nD,
      r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
      ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1)
      ∧ r.2.mem ((c.tc : Thread Cert.Kernel26Ideal.nD Cert.Kernel26Ideal.τ).loc Cert.Kernel26Ideal.main_arg2) = m ((c.tc : Thread Cert.Kernel26Ideal.nD Cert.Kernel26Ideal.τ).loc Cert.Kernel26Ideal.main_arg2)
      ∧ r.2.mem ((c.tc : Thread Cert.Kernel26Ideal.nD Cert.Kernel26Ideal.τ).loc Cert.Kernel26Ideal.main_arg3) = m ((c.tc : Thread Cert.Kernel26Ideal.nD Cert.Kernel26Ideal.τ).loc Cert.Kernel26Ideal.main_arg3)
      ∧ r.2.mem ((c.tc : Thread Cert.Kernel26Ideal.nD Cert.Kernel26Ideal.τ).loc Cert.Kernel26Ideal.main_arg4) = m ((c.tc : Thread Cert.Kernel26Ideal.nD Cert.Kernel26Ideal.τ).loc Cert.Kernel26Ideal.main_arg4))
      ∧ r.2.sem = fun _ => 0)

def quiescent_Kernel26Ideal_pre_finite26 [hKernel26Ideal : Cert.Kernel26Ideal.Facts] [hPre_finite26 : Cert.Pre_finite26.Facts] : Prop :=
  ∀ (m : (ℓ : Loc Cert.Kernel26Ideal.nD Cert.Kernel26Ideal.τ Cert.Kernel26Ideal.sig) → Buf (Elt Ideal) ℓ) (g : Dev Cert.Kernel26Ideal.nD → PrngReg), Pre_Kernel26Ideal_finite26 m →
    θ_run (Cert.Kernel26Ideal.defs (F := Ideal)) (onTc (τ := Cert.Kernel26Ideal.τ) (Cert.Kernel26Ideal.main (F := Ideal))) ⟨m, fun _ => 0, g⟩ (fun r => (∀ c : Dev Cert.Kernel26Ideal.nD,
      r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
      ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1)
      ∧ r.2.mem ((c.tc : Thread Cert.Kernel26Ideal.nD Cert.Kernel26Ideal.τ).loc Cert.Kernel26Ideal.main_arg2) = m ((c.tc : Thread Cert.Kernel26Ideal.nD Cert.Kernel26Ideal.τ).loc Cert.Kernel26Ideal.main_arg2)
      ∧ r.2.mem ((c.tc : Thread Cert.Kernel26Ideal.nD Cert.Kernel26Ideal.τ).loc Cert.Kernel26Ideal.main_arg3) = m ((c.tc : Thread Cert.Kernel26Ideal.nD Cert.Kernel26Ideal.τ).loc Cert.Kernel26Ideal.main_arg3)
      ∧ r.2.mem ((c.tc : Thread Cert.Kernel26Ideal.nD Cert.Kernel26Ideal.τ).loc Cert.Kernel26Ideal.main_arg4) = m ((c.tc : Thread Cert.Kernel26Ideal.nD Cert.Kernel26Ideal.τ).loc Cert.Kernel26Ideal.main_arg4))
      ∧ r.2.sem = fun _ => 0)

def quiescent_Reference26Ideal [hReference26Ideal : Cert.Reference26Ideal.Facts] : Prop :=
  ∀ (m : (ℓ : Loc Cert.Reference26Ideal.nD Cert.Reference26Ideal.τ Cert.Reference26Ideal.sig) → Buf (Elt Ideal) ℓ) (g : Dev Cert.Reference26Ideal.nD → PrngReg), Pre_Reference26Ideal m →
    θ_run (Cert.Reference26Ideal.defs (F := Ideal)) (onTc (τ := Cert.Reference26Ideal.τ) (Cert.Reference26Ideal.main (F := Ideal))) ⟨m, fun _ => 0, g⟩ (fun r => (∀ c : Dev Cert.Reference26Ideal.nD,
      r.2.mem ((c.tc : Thread Cert.Reference26Ideal.nD Cert.Reference26Ideal.τ).loc Cert.Reference26Ideal.main_arg0) = m ((c.tc : Thread Cert.Reference26Ideal.nD Cert.Reference26Ideal.τ).loc Cert.Reference26Ideal.main_arg0)
      ∧ r.2.mem ((c.tc : Thread Cert.Reference26Ideal.nD Cert.Reference26Ideal.τ).loc Cert.Reference26Ideal.main_arg1) = m ((c.tc : Thread Cert.Reference26Ideal.nD Cert.Reference26Ideal.τ).loc Cert.Reference26Ideal.main_arg1)
      ∧ r.2.mem ((c.tc : Thread Cert.Reference26Ideal.nD Cert.Reference26Ideal.τ).loc Cert.Reference26Ideal.main_arg2) = m ((c.tc : Thread Cert.Reference26Ideal.nD Cert.Reference26Ideal.τ).loc Cert.Reference26Ideal.main_arg2)
      ∧ r.2.mem ((c.tc : Thread Cert.Reference26Ideal.nD Cert.Reference26Ideal.τ).loc Cert.Reference26Ideal.main_arg3) = m ((c.tc : Thread Cert.Reference26Ideal.nD Cert.Reference26Ideal.τ).loc Cert.Reference26Ideal.main_arg3)
      ∧ r.2.mem ((c.tc : Thread Cert.Reference26Ideal.nD Cert.Reference26Ideal.τ).loc Cert.Reference26Ideal.main_arg4) = m ((c.tc : Thread Cert.Reference26Ideal.nD Cert.Reference26Ideal.τ).loc Cert.Reference26Ideal.main_arg4))
      ∧ r.2.sem = fun _ => 0)

def quiescent_Reference26Ideal_pre_finite26 [hReference26Ideal : Cert.Reference26Ideal.Facts] [hPre_finite26 : Cert.Pre_finite26.Facts] : Prop :=
  ∀ (m : (ℓ : Loc Cert.Reference26Ideal.nD Cert.Reference26Ideal.τ Cert.Reference26Ideal.sig) → Buf (Elt Ideal) ℓ) (g : Dev Cert.Reference26Ideal.nD → PrngReg), Pre_Reference26Ideal_finite26 m →
    θ_run (Cert.Reference26Ideal.defs (F := Ideal)) (onTc (τ := Cert.Reference26Ideal.τ) (Cert.Reference26Ideal.main (F := Ideal))) ⟨m, fun _ => 0, g⟩ (fun r => (∀ c : Dev Cert.Reference26Ideal.nD,
      r.2.mem ((c.tc : Thread Cert.Reference26Ideal.nD Cert.Reference26Ideal.τ).loc Cert.Reference26Ideal.main_arg0) = m ((c.tc : Thread Cert.Reference26Ideal.nD Cert.Reference26Ideal.τ).loc Cert.Reference26Ideal.main_arg0)
      ∧ r.2.mem ((c.tc : Thread Cert.Reference26Ideal.nD Cert.Reference26Ideal.τ).loc Cert.Reference26Ideal.main_arg1) = m ((c.tc : Thread Cert.Reference26Ideal.nD Cert.Reference26Ideal.τ).loc Cert.Reference26Ideal.main_arg1)
      ∧ r.2.mem ((c.tc : Thread Cert.Reference26Ideal.nD Cert.Reference26Ideal.τ).loc Cert.Reference26Ideal.main_arg2) = m ((c.tc : Thread Cert.Reference26Ideal.nD Cert.Reference26Ideal.τ).loc Cert.Reference26Ideal.main_arg2)
      ∧ r.2.mem ((c.tc : Thread Cert.Reference26Ideal.nD Cert.Reference26Ideal.τ).loc Cert.Reference26Ideal.main_arg3) = m ((c.tc : Thread Cert.Reference26Ideal.nD Cert.Reference26Ideal.τ).loc Cert.Reference26Ideal.main_arg3)
      ∧ r.2.mem ((c.tc : Thread Cert.Reference26Ideal.nD Cert.Reference26Ideal.τ).loc Cert.Reference26Ideal.main_arg4) = m ((c.tc : Thread Cert.Reference26Ideal.nD Cert.Reference26Ideal.τ).loc Cert.Reference26Ideal.main_arg4))
      ∧ r.2.sem = fun _ => 0)

def preserves_Kernel_KernelIdeal : Prop :=
  True

def algebraic_KernelIdeal_ReferenceIdeal_pre_finite1 [hKernelIdeal : Cert.KernelIdeal.Facts] [hReferenceIdeal : Cert.ReferenceIdeal.Facts] [hPre_finite1 : Cert.Pre_finite1.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite1 m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v69) = v0 c
          ∧ r.2.mem ((c.tc : Thread Cert.ReferenceIdeal.nD Cert.ReferenceIdeal.τ).loc Cert.ReferenceIdeal.main_v68) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v0_0)) (v1 : (c : Dev Cert.Kernel2Ideal.nD) → Buf (Elt Ideal) ((c.tc : Thread Cert.Kernel2Ideal.nD Cert.Kernel2Ideal.τ).loc Cert.Kernel2Ideal.main_v0_1)) (v2 : (c : Dev Cert.Kernel2Ideal.nD) → Buf (Elt Ideal) ((c.tc : Thread Cert.Kernel2Ideal.nD Cert.Kernel2Ideal.τ).loc Cert.Kernel2Ideal.main_v0_2)) (v3 : (c : Dev Cert.Kernel2Ideal.nD) → Buf (Elt Ideal) ((c.tc : Thread Cert.Kernel2Ideal.nD Cert.Kernel2Ideal.τ).loc Cert.Kernel2Ideal.main_v0_3)) (v4 : (c : Dev Cert.Kernel2Ideal.nD) → Buf (Elt Ideal) ((c.tc : Thread Cert.Kernel2Ideal.nD Cert.Kernel2Ideal.τ).loc Cert.Kernel2Ideal.main_v0_4)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0_0) = v0 c
          ∧ r.2.mem ((c.tc : Thread Cert.Kernel2Ideal.nD Cert.Kernel2Ideal.τ).loc Cert.Kernel2Ideal.main_v0_1) = v1 c
          ∧ r.2.mem ((c.tc : Thread Cert.Kernel2Ideal.nD Cert.Kernel2Ideal.τ).loc Cert.Kernel2Ideal.main_v0_2) = v2 c
          ∧ r.2.mem ((c.tc : Thread Cert.Kernel2Ideal.nD Cert.Kernel2Ideal.τ).loc Cert.Kernel2Ideal.main_v0_3) = v3 c
          ∧ r.2.mem ((c.tc : Thread Cert.Kernel2Ideal.nD Cert.Kernel2Ideal.τ).loc Cert.Kernel2Ideal.main_v0_4) = v4 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v47) = v0 c
          ∧ r.2.mem ((c.tc : Thread Cert.Reference2Ideal.nD Cert.Reference2Ideal.τ).loc Cert.Reference2Ideal.main_v48) = v1 c
          ∧ r.2.mem ((c.tc : Thread Cert.Reference2Ideal.nD Cert.Reference2Ideal.τ).loc Cert.Reference2Ideal.main_v49) = v2 c
          ∧ r.2.mem ((c.tc : Thread Cert.Reference2Ideal.nD Cert.Reference2Ideal.τ).loc Cert.Reference2Ideal.main_v50) = v3 c
          ∧ r.2.mem ((c.tc : Thread Cert.Reference2Ideal.nD Cert.Reference2Ideal.τ).loc Cert.Reference2Ideal.main_v46) = v4 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  True

def preserves_Kernel4_Kernel4Ideal : Prop :=
  True

def algebraic_Kernel4Ideal_Reference4Ideal_pre_finite4 [hKernel4Ideal : Cert.Kernel4Ideal.Facts] [hReference4Ideal : Cert.Reference4Ideal.Facts] [hPre_finite4 : Cert.Pre_finite4.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal_finite4 m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)) →
    ∃ (v0 : (c : Dev Cert.Kernel4Ideal.nD) → Buf (Elt Ideal) ((c.tc : Thread Cert.Kernel4Ideal.nD Cert.Kernel4Ideal.τ).loc Cert.Kernel4Ideal.main_v0_0)) (v1 : (c : Dev Cert.Kernel4Ideal.nD) → Buf (Elt Ideal) ((c.tc : Thread Cert.Kernel4Ideal.nD Cert.Kernel4Ideal.τ).loc Cert.Kernel4Ideal.main_v0_1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0_0) = v0 c
          ∧ r.2.mem ((c.tc : Thread Cert.Kernel4Ideal.nD Cert.Kernel4Ideal.τ).loc Cert.Kernel4Ideal.main_v0_1) = v1 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v16) = v0 c
          ∧ r.2.mem ((c.tc : Thread Cert.Reference4Ideal.nD Cert.Reference4Ideal.τ).loc Cert.Reference4Ideal.main_v17) = v1 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3))

def preserves_Kernel5_Kernel5Ideal : Prop :=
  True

def algebraic_Kernel5Ideal_Reference5Ideal_pre_finite5 [hKernel5Ideal : Cert.Kernel5Ideal.Facts] [hReference5Ideal : Cert.Reference5Ideal.Facts] [hPre_finite5 : Cert.Pre_finite5.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal_finite5 m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)) →
    ∃ (v0 : (c : Dev Cert.Kernel5Ideal.nD) → Buf (Elt Ideal) ((c.tc : Thread Cert.Kernel5Ideal.nD Cert.Kernel5Ideal.τ).loc Cert.Kernel5Ideal.main_v0_0)) (v1 : (c : Dev Cert.Kernel5Ideal.nD) → Buf (Elt Ideal) ((c.tc : Thread Cert.Kernel5Ideal.nD Cert.Kernel5Ideal.τ).loc Cert.Kernel5Ideal.main_v0_1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0_0) = v0 c
          ∧ r.2.mem ((c.tc : Thread Cert.Kernel5Ideal.nD Cert.Kernel5Ideal.τ).loc Cert.Kernel5Ideal.main_v0_1) = v1 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v44) = v0 c
          ∧ r.2.mem ((c.tc : Thread Cert.Reference5Ideal.nD Cert.Reference5Ideal.τ).loc Cert.Reference5Ideal.main_v27) = v1 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v10) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v7) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v7) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v0)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v6) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v0_0)) (v1 : (c : Dev Cert.Kernel10Ideal.nD) → Buf (Elt Ideal) ((c.tc : Thread Cert.Kernel10Ideal.nD Cert.Kernel10Ideal.τ).loc Cert.Kernel10Ideal.main_v0_1)) (v2 : (c : Dev Cert.Kernel10Ideal.nD) → Buf (Elt Ideal) ((c.tc : Thread Cert.Kernel10Ideal.nD Cert.Kernel10Ideal.τ).loc Cert.Kernel10Ideal.main_v0_2)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0_0) = v0 c
          ∧ r.2.mem ((c.tc : Thread Cert.Kernel10Ideal.nD Cert.Kernel10Ideal.τ).loc Cert.Kernel10Ideal.main_v0_1) = v1 c
          ∧ r.2.mem ((c.tc : Thread Cert.Kernel10Ideal.nD Cert.Kernel10Ideal.τ).loc Cert.Kernel10Ideal.main_v0_2) = v2 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v7) = v0 c
          ∧ r.2.mem ((c.tc : Thread Cert.Reference10Ideal.nD Cert.Reference10Ideal.τ).loc Cert.Reference10Ideal.main_v8) = v1 c
          ∧ r.2.mem ((c.tc : Thread Cert.Reference10Ideal.nD Cert.Reference10Ideal.τ).loc Cert.Reference10Ideal.main_v9) = v2 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)
      ∧ m' ((c.tc : Thread Cert.Reference11Ideal.nD Cert.Reference11Ideal.τ).loc Cert.Reference11Ideal.main_arg3) = m ((c.tc : Thread Cert.Kernel11Ideal.nD Cert.Kernel11Ideal.τ).loc Cert.Kernel11Ideal.main_arg3)) →
    ∃ (v0 : (c : Dev Cert.Kernel11Ideal.nD) → Buf (Elt Ideal) ((c.tc : Thread Cert.Kernel11Ideal.nD Cert.Kernel11Ideal.τ).loc Cert.Kernel11Ideal.main_v0_0)) (v1 : (c : Dev Cert.Kernel11Ideal.nD) → Buf (Elt Ideal) ((c.tc : Thread Cert.Kernel11Ideal.nD Cert.Kernel11Ideal.τ).loc Cert.Kernel11Ideal.main_v0_1)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0_0) = v0 c
          ∧ r.2.mem ((c.tc : Thread Cert.Kernel11Ideal.nD Cert.Kernel11Ideal.τ).loc Cert.Kernel11Ideal.main_v0_1) = v1 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
          ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v5) = v0 c
          ∧ r.2.mem ((c.tc : Thread Cert.Reference11Ideal.nD Cert.Reference11Ideal.τ).loc Cert.Reference11Ideal.main_v18) = v1 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2)
          ∧ r.2.mem ((c.tc : Thread Cert.Reference11Ideal.nD Cert.Reference11Ideal.τ).loc Cert.Reference11Ideal.main_arg3) = m' ((c.tc : Thread Cert.Reference11Ideal.nD Cert.Reference11Ideal.τ).loc Cert.Reference11Ideal.main_arg3))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)) →
    ∃ (v0 : (c : Dev Cert.Kernel12Ideal.nD) → Buf (Elt Ideal) ((c.tc : Thread Cert.Kernel12Ideal.nD Cert.Kernel12Ideal.τ).loc Cert.Kernel12Ideal.main_v0)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v3) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)) →
    ∃ (v0 : (c : Dev Cert.Kernel13Ideal.nD) → Buf (Elt Ideal) ((c.tc : Thread Cert.Kernel13Ideal.nD Cert.Kernel13Ideal.τ).loc Cert.Kernel13Ideal.main_v0)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v3) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)
      ∧ m' ((c.tc : Thread Cert.Reference14Ideal.nD Cert.Reference14Ideal.τ).loc Cert.Reference14Ideal.main_arg3) = m ((c.tc : Thread Cert.Kernel14Ideal.nD Cert.Kernel14Ideal.τ).loc Cert.Kernel14Ideal.main_arg3)) →
    ∃ (v0 : (c : Dev Cert.Kernel14Ideal.nD) → Buf (Elt Ideal) ((c.tc : Thread Cert.Kernel14Ideal.nD Cert.Kernel14Ideal.τ).loc Cert.Kernel14Ideal.main_v0_0)) (v1 : (c : Dev Cert.Kernel14Ideal.nD) → Buf (Elt Ideal) ((c.tc : Thread Cert.Kernel14Ideal.nD Cert.Kernel14Ideal.τ).loc Cert.Kernel14Ideal.main_v0_1)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0_0) = v0 c
          ∧ r.2.mem ((c.tc : Thread Cert.Kernel14Ideal.nD Cert.Kernel14Ideal.τ).loc Cert.Kernel14Ideal.main_v0_1) = v1 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
          ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v3) = v0 c
          ∧ r.2.mem ((c.tc : Thread Cert.Reference14Ideal.nD Cert.Reference14Ideal.τ).loc Cert.Reference14Ideal.main_v16) = v1 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2)
          ∧ r.2.mem ((c.tc : Thread Cert.Reference14Ideal.nD Cert.Reference14Ideal.τ).loc Cert.Reference14Ideal.main_arg3) = m' ((c.tc : Thread Cert.Reference14Ideal.nD Cert.Reference14Ideal.τ).loc Cert.Reference14Ideal.main_arg3))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)) →
    ∃ (v0 : (c : Dev Cert.Kernel15Ideal.nD) → Buf (Elt Ideal) ((c.tc : Thread Cert.Kernel15Ideal.nD Cert.Kernel15Ideal.τ).loc Cert.Kernel15Ideal.main_v0)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v0) = v0 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v6) = v0 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)) →
    ∃ (v0 : (c : Dev Cert.Kernel16Ideal.nD) → Buf (Elt Ideal) ((c.tc : Thread Cert.Kernel16Ideal.nD Cert.Kernel16Ideal.τ).loc Cert.Kernel16Ideal.main_v0)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v0) = v0 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v7) = v0 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1))

def preserves_Kernel17_Kernel17Ideal : Prop :=
  IdealRules.named_const.Statement Cert.Kernel17Ideal.κ "mask" .f32 0xF149F2CA#32 ⊥

def algebraic_Kernel17Ideal_Reference17Ideal_pre_finite17 [hKernel17Ideal : Cert.Kernel17Ideal.Facts] [hReference17Ideal : Cert.Reference17Ideal.Facts] [hPre_finite17 : Cert.Pre_finite17.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal_finite17 m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)
      ∧ m' ((c.tc : Thread Cert.Reference17Ideal.nD Cert.Reference17Ideal.τ).loc Cert.Reference17Ideal.main_arg2) = m ((c.tc : Thread Cert.Kernel17Ideal.nD Cert.Kernel17Ideal.τ).loc Cert.Kernel17Ideal.main_arg2)
      ∧ m' ((c.tc : Thread Cert.Reference17Ideal.nD Cert.Reference17Ideal.τ).loc Cert.Reference17Ideal.main_arg3) = m ((c.tc : Thread Cert.Kernel17Ideal.nD Cert.Kernel17Ideal.τ).loc Cert.Kernel17Ideal.main_arg3)
      ∧ m' ((c.tc : Thread Cert.Reference17Ideal.nD Cert.Reference17Ideal.τ).loc Cert.Reference17Ideal.main_arg4) = m ((c.tc : Thread Cert.Kernel17Ideal.nD Cert.Kernel17Ideal.τ).loc Cert.Kernel17Ideal.main_arg4)) →
    ∃ (v0 : (c : Dev Cert.Kernel17Ideal.nD) → Buf (Elt Ideal) ((c.tc : Thread Cert.Kernel17Ideal.nD Cert.Kernel17Ideal.τ).loc Cert.Kernel17Ideal.main_v0_0)) (v1 : (c : Dev Cert.Kernel17Ideal.nD) → Buf (Elt Ideal) ((c.tc : Thread Cert.Kernel17Ideal.nD Cert.Kernel17Ideal.τ).loc Cert.Kernel17Ideal.main_v0_1)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v0_0) = v0 c
          ∧ r.2.mem ((c.tc : Thread Cert.Kernel17Ideal.nD Cert.Kernel17Ideal.τ).loc Cert.Kernel17Ideal.main_v0_1) = v1 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
          ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
          ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3)
          ∧ r.2.mem ((c.tc : Thread Cert.Kernel17Ideal.nD Cert.Kernel17Ideal.τ).loc Cert.Kernel17Ideal.main_arg4) = m ((c.tc : Thread Cert.Kernel17Ideal.nD Cert.Kernel17Ideal.τ).loc Cert.Kernel17Ideal.main_arg4))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v22) = v0 c
          ∧ r.2.mem ((c.tc : Thread Cert.Reference17Ideal.nD Cert.Reference17Ideal.τ).loc Cert.Reference17Ideal.main_v25) = v1 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1)
          ∧ r.2.mem ((c.tc : Thread Cert.Reference17Ideal.nD Cert.Reference17Ideal.τ).loc Cert.Reference17Ideal.main_arg2) = m' ((c.tc : Thread Cert.Reference17Ideal.nD Cert.Reference17Ideal.τ).loc Cert.Reference17Ideal.main_arg2)
          ∧ r.2.mem ((c.tc : Thread Cert.Reference17Ideal.nD Cert.Reference17Ideal.τ).loc Cert.Reference17Ideal.main_arg3) = m' ((c.tc : Thread Cert.Reference17Ideal.nD Cert.Reference17Ideal.τ).loc Cert.Reference17Ideal.main_arg3)
          ∧ r.2.mem ((c.tc : Thread Cert.Reference17Ideal.nD Cert.Reference17Ideal.τ).loc Cert.Reference17Ideal.main_arg4) = m' ((c.tc : Thread Cert.Reference17Ideal.nD Cert.Reference17Ideal.τ).loc Cert.Reference17Ideal.main_arg4))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)) →
    ∃ (v0 : (c : Dev Cert.Kernel18Ideal.nD) → Buf (Elt Ideal) ((c.tc : Thread Cert.Kernel18Ideal.nD Cert.Kernel18Ideal.τ).loc Cert.Kernel18Ideal.main_v0)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v0) = v0 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v6) = v0 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)) →
    ∃ (v0 : (c : Dev Cert.Kernel19Ideal.nD) → Buf (Elt Ideal) ((c.tc : Thread Cert.Kernel19Ideal.nD Cert.Kernel19Ideal.τ).loc Cert.Kernel19Ideal.main_v0)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v0) = v0 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v7) = v0 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1))

def preserves_Kernel20_Kernel20Ideal : Prop :=
  True

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)) →
    ∃ (v0 : (c : Dev Cert.Kernel20Ideal.nD) → Buf (Elt Ideal) ((c.tc : Thread Cert.Kernel20Ideal.nD Cert.Kernel20Ideal.τ).loc Cert.Kernel20Ideal.main_v0)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v0) = v0 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v3) = v0 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1))

def preserves_Kernel21_Kernel21Ideal : Prop :=
  True

def algebraic_Kernel21Ideal_Reference21Ideal [hKernel21Ideal : Cert.Kernel21Ideal.Facts] [hReference21Ideal : Cert.Reference21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference21Ideal.nD Cert.Reference21Ideal.τ Cert.Reference21Ideal.sig) → Buf (Elt Ideal) ℓ) (g' : Dev Cert.Reference21Ideal.nD → PrngReg), Pre_Kernel21Ideal m →
    (∀ c : Dev Cert.Kernel21Ideal.nD,
      m' ((c.tc : Thread Cert.Reference21Ideal.nD Cert.Reference21Ideal.τ).loc Cert.Reference21Ideal.main_arg0) = m ((c.tc : Thread Cert.Kernel21Ideal.nD Cert.Kernel21Ideal.τ).loc Cert.Kernel21Ideal.main_arg0)
      ∧ m' ((c.tc : Thread Cert.Reference21Ideal.nD Cert.Reference21Ideal.τ).loc Cert.Reference21Ideal.main_arg1) = m ((c.tc : Thread Cert.Kernel21Ideal.nD Cert.Kernel21Ideal.τ).loc Cert.Kernel21Ideal.main_arg1)) →
    ∃ (v0 : (c : Dev Cert.Kernel21Ideal.nD) → Buf (Elt Ideal) ((c.tc : Thread Cert.Kernel21Ideal.nD Cert.Kernel21Ideal.τ).loc Cert.Kernel21Ideal.main_v0)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          r.2.mem ((c.tc : Thread Cert.Kernel21Ideal.nD Cert.Kernel21Ideal.τ).loc Cert.Kernel21Ideal.main_v0) = v0 c
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
          ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1))
      ∧ θ_run (Cert.Reference21Ideal.defs (F := Ideal)) (onTc (τ := Cert.Reference21Ideal.τ) (Cert.Reference21Ideal.main (F := Ideal))) ⟨m', fun _ => 0, g'⟩ (fun r => ∀ c : Dev Cert.Reference21Ideal.nD,
          r.2.mem ((c.tc : Thread Cert.Reference21Ideal.nD Cert.Reference21Ideal.τ).loc Cert.Reference21Ideal.main_v7) = v0 c
          ∧ r.2.mem ((c.tc : Thread Cert.Reference21Ideal.nD Cert.Reference21Ideal.τ).loc Cert.Reference21Ideal.main_arg0) = m' ((c.tc : Thread Cert.Reference21Ideal.nD Cert.Reference21Ideal.τ).loc Cert.Reference21Ideal.main_arg0)
          ∧ r.2.mem ((c.tc : Thread Cert.Reference21Ideal.nD Cert.Reference21Ideal.τ).loc Cert.Reference21Ideal.main_arg1) = m' ((c.tc : Thread Cert.Reference21Ideal.nD Cert.Reference21Ideal.τ).loc Cert.Reference21Ideal.main_arg1))

def preserves_Kernel22_Kernel22Ideal : Prop :=
  True

def algebraic_Kernel22Ideal_Reference22Ideal [hKernel22Ideal : Cert.Kernel22Ideal.Facts] [hReference22Ideal : Cert.Reference22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg)
    (m' : (ℓ : Loc Cert.Reference22Ideal.nD Cert.Reference22Ideal.τ Cert.Reference22Ideal.sig) → Buf (Elt Ideal) ℓ) (g' : Dev Cert.Reference22Ideal.nD → PrngReg), Pre_Kernel22Ideal m →
    (∀ c : Dev Cert.Kernel22Ideal.nD,
      m' ((c.tc : Thread Cert.Reference22Ideal.nD Cert.Reference22Ideal.τ).loc Cert.Reference22Ideal.main_arg0) = m ((c.tc : Thread Cert.Kernel22Ideal.nD Cert.Kernel22Ideal.τ).loc Cert.Kernel22Ideal.main_arg0)
      ∧ m' ((c.tc : Thread Cert.Reference22Ideal.nD Cert.Reference22Ideal.τ).loc Cert.Reference22Ideal.main_arg1) = m ((c.tc : Thread Cert.Kernel22Ideal.nD Cert.Kernel22Ideal.τ).loc Cert.Kernel22Ideal.main_arg1)) →
    ∃ (v0 : (c : Dev Cert.Kernel22Ideal.nD) → Buf (Elt Ideal) ((c.tc : Thread Cert.Kernel22Ideal.nD Cert.Kernel22Ideal.τ).loc Cert.Kernel22Ideal.main_v0)),
      θ_run (Cert.Kernel22Ideal.defs (F := Ideal)) (onTc (τ := Cert.Kernel22Ideal.τ) (Cert.Kernel22Ideal.main (F := Ideal))) ⟨m, fun _ => 0, g⟩ (fun r => ∀ c : Dev Cert.Kernel22Ideal.nD,
          r.2.mem ((c.tc : Thread Cert.Kernel22Ideal.nD Cert.Kernel22Ideal.τ).loc Cert.Kernel22Ideal.main_v0) = v0 c
          ∧ r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
          ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1))
      ∧ θ_run (Cert.Reference22Ideal.defs (F := Ideal)) (onTc (τ := Cert.Reference22Ideal.τ) (Cert.Reference22Ideal.main (F := Ideal))) ⟨m', fun _ => 0, g'⟩ (fun r => ∀ c : Dev Cert.Reference22Ideal.nD,
          r.2.mem ((c.tc : Thread Cert.Reference22Ideal.nD Cert.Reference22Ideal.τ).loc Cert.Reference22Ideal.main_v2) = v0 c
          ∧ r.2.mem ((c.tc : Thread Cert.Reference22Ideal.nD Cert.Reference22Ideal.τ).loc Cert.Reference22Ideal.main_arg0) = m' ((c.tc : Thread Cert.Reference22Ideal.nD Cert.Reference22Ideal.τ).loc Cert.Reference22Ideal.main_arg0)
          ∧ r.2.mem ((c.tc : Thread Cert.Reference22Ideal.nD Cert.Reference22Ideal.τ).loc Cert.Reference22Ideal.main_arg1) = m' ((c.tc : Thread Cert.Reference22Ideal.nD Cert.Reference22Ideal.τ).loc Cert.Reference22Ideal.main_arg1))

def preserves_Kernel23_Kernel23Ideal : Prop :=
  True

def algebraic_Kernel23Ideal_Reference23Ideal [hKernel23Ideal : Cert.Kernel23Ideal.Facts] [hReference23Ideal : Cert.Reference23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg)
    (m' : (ℓ : Loc Cert.Reference23Ideal.nD Cert.Reference23Ideal.τ Cert.Reference23Ideal.sig) → Buf (Elt Ideal) ℓ) (g' : Dev Cert.Reference23Ideal.nD → PrngReg), Pre_Kernel23Ideal m →
    (∀ c : Dev Cert.Kernel23Ideal.nD,
      m' ((c.tc : Thread Cert.Reference23Ideal.nD Cert.Reference23Ideal.τ).loc Cert.Reference23Ideal.main_arg0) = m ((c.tc : Thread Cert.Kernel23Ideal.nD Cert.Kernel23Ideal.τ).loc Cert.Kernel23Ideal.main_arg0)
      ∧ m' ((c.tc : Thread Cert.Reference23Ideal.nD Cert.Reference23Ideal.τ).loc Cert.Reference23Ideal.main_arg1) = m ((c.tc : Thread Cert.Kernel23Ideal.nD Cert.Kernel23Ideal.τ).loc Cert.Kernel23Ideal.main_arg1)) →
    ∃ (v0 : (c : Dev Cert.Kernel23Ideal.nD) → Buf (Elt Ideal) ((c.tc : Thread Cert.Kernel23Ideal.nD Cert.Kernel23Ideal.τ).loc Cert.Kernel23Ideal.main_v0)),
      θ_run (Cert.Kernel23Ideal.defs (F := Ideal)) (onTc (τ := Cert.Kernel23Ideal.τ) (Cert.Kernel23Ideal.main (F := Ideal))) ⟨m, fun _ => 0, g⟩ (fun r => ∀ c : Dev Cert.Kernel23Ideal.nD,
          r.2.mem ((c.tc : Thread Cert.Kernel23Ideal.nD Cert.Kernel23Ideal.τ).loc Cert.Kernel23Ideal.main_v0) = v0 c
          ∧ r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
          ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1))
      ∧ θ_run (Cert.Reference23Ideal.defs (F := Ideal)) (onTc (τ := Cert.Reference23Ideal.τ) (Cert.Reference23Ideal.main (F := Ideal))) ⟨m', fun _ => 0, g'⟩ (fun r => ∀ c : Dev Cert.Reference23Ideal.nD,
          r.2.mem ((c.tc : Thread Cert.Reference23Ideal.nD Cert.Reference23Ideal.τ).loc Cert.Reference23Ideal.main_v7) = v0 c
          ∧ r.2.mem ((c.tc : Thread Cert.Reference23Ideal.nD Cert.Reference23Ideal.τ).loc Cert.Reference23Ideal.main_arg0) = m' ((c.tc : Thread Cert.Reference23Ideal.nD Cert.Reference23Ideal.τ).loc Cert.Reference23Ideal.main_arg0)
          ∧ r.2.mem ((c.tc : Thread Cert.Reference23Ideal.nD Cert.Reference23Ideal.τ).loc Cert.Reference23Ideal.main_arg1) = m' ((c.tc : Thread Cert.Reference23Ideal.nD Cert.Reference23Ideal.τ).loc Cert.Reference23Ideal.main_arg1))

def preserves_Kernel24_Kernel24Ideal : Prop :=
  True

def algebraic_Kernel24Ideal_Reference24Ideal [hKernel24Ideal : Cert.Kernel24Ideal.Facts] [hReference24Ideal : Cert.Reference24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg)
    (m' : (ℓ : Loc Cert.Reference24Ideal.nD Cert.Reference24Ideal.τ Cert.Reference24Ideal.sig) → Buf (Elt Ideal) ℓ) (g' : Dev Cert.Reference24Ideal.nD → PrngReg), Pre_Kernel24Ideal m →
    (∀ c : Dev Cert.Kernel24Ideal.nD,
      m' ((c.tc : Thread Cert.Reference24Ideal.nD Cert.Reference24Ideal.τ).loc Cert.Reference24Ideal.main_arg0) = m ((c.tc : Thread Cert.Kernel24Ideal.nD Cert.Kernel24Ideal.τ).loc Cert.Kernel24Ideal.main_arg0)
      ∧ m' ((c.tc : Thread Cert.Reference24Ideal.nD Cert.Reference24Ideal.τ).loc Cert.Reference24Ideal.main_arg1) = m ((c.tc : Thread Cert.Kernel24Ideal.nD Cert.Kernel24Ideal.τ).loc Cert.Kernel24Ideal.main_arg1)) →
    ∃ (v0 : (c : Dev Cert.Kernel24Ideal.nD) → Buf (Elt Ideal) ((c.tc : Thread Cert.Kernel24Ideal.nD Cert.Kernel24Ideal.τ).loc Cert.Kernel24Ideal.main_v0)),
      θ_run (Cert.Kernel24Ideal.defs (F := Ideal)) (onTc (τ := Cert.Kernel24Ideal.τ) (Cert.Kernel24Ideal.main (F := Ideal))) ⟨m, fun _ => 0, g⟩ (fun r => ∀ c : Dev Cert.Kernel24Ideal.nD,
          r.2.mem ((c.tc : Thread Cert.Kernel24Ideal.nD Cert.Kernel24Ideal.τ).loc Cert.Kernel24Ideal.main_v0) = v0 c
          ∧ r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
          ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1))
      ∧ θ_run (Cert.Reference24Ideal.defs (F := Ideal)) (onTc (τ := Cert.Reference24Ideal.τ) (Cert.Reference24Ideal.main (F := Ideal))) ⟨m', fun _ => 0, g'⟩ (fun r => ∀ c : Dev Cert.Reference24Ideal.nD,
          r.2.mem ((c.tc : Thread Cert.Reference24Ideal.nD Cert.Reference24Ideal.τ).loc Cert.Reference24Ideal.main_v6) = v0 c
          ∧ r.2.mem ((c.tc : Thread Cert.Reference24Ideal.nD Cert.Reference24Ideal.τ).loc Cert.Reference24Ideal.main_arg0) = m' ((c.tc : Thread Cert.Reference24Ideal.nD Cert.Reference24Ideal.τ).loc Cert.Reference24Ideal.main_arg0)
          ∧ r.2.mem ((c.tc : Thread Cert.Reference24Ideal.nD Cert.Reference24Ideal.τ).loc Cert.Reference24Ideal.main_arg1) = m' ((c.tc : Thread Cert.Reference24Ideal.nD Cert.Reference24Ideal.τ).loc Cert.Reference24Ideal.main_arg1))

def preserves_Kernel25_Kernel25Ideal : Prop :=
  True

def algebraic_Kernel25Ideal_Reference25Ideal [hKernel25Ideal : Cert.Kernel25Ideal.Facts] [hReference25Ideal : Cert.Reference25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg)
    (m' : (ℓ : Loc Cert.Reference25Ideal.nD Cert.Reference25Ideal.τ Cert.Reference25Ideal.sig) → Buf (Elt Ideal) ℓ) (g' : Dev Cert.Reference25Ideal.nD → PrngReg), Pre_Kernel25Ideal m →
    (∀ c : Dev Cert.Kernel25Ideal.nD,
      m' ((c.tc : Thread Cert.Reference25Ideal.nD Cert.Reference25Ideal.τ).loc Cert.Reference25Ideal.main_arg0) = m ((c.tc : Thread Cert.Kernel25Ideal.nD Cert.Kernel25Ideal.τ).loc Cert.Kernel25Ideal.main_arg0)
      ∧ m' ((c.tc : Thread Cert.Reference25Ideal.nD Cert.Reference25Ideal.τ).loc Cert.Reference25Ideal.main_arg1) = m ((c.tc : Thread Cert.Kernel25Ideal.nD Cert.Kernel25Ideal.τ).loc Cert.Kernel25Ideal.main_arg1)) →
    ∃ (v0 : (c : Dev Cert.Kernel25Ideal.nD) → Buf (Elt Ideal) ((c.tc : Thread Cert.Kernel25Ideal.nD Cert.Kernel25Ideal.τ).loc Cert.Kernel25Ideal.main_v0)),
      θ_run (Cert.Kernel25Ideal.defs (F := Ideal)) (onTc (τ := Cert.Kernel25Ideal.τ) (Cert.Kernel25Ideal.main (F := Ideal))) ⟨m, fun _ => 0, g⟩ (fun r => ∀ c : Dev Cert.Kernel25Ideal.nD,
          r.2.mem ((c.tc : Thread Cert.Kernel25Ideal.nD Cert.Kernel25Ideal.τ).loc Cert.Kernel25Ideal.main_v0) = v0 c
          ∧ r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
          ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1))
      ∧ θ_run (Cert.Reference25Ideal.defs (F := Ideal)) (onTc (τ := Cert.Reference25Ideal.τ) (Cert.Reference25Ideal.main (F := Ideal))) ⟨m', fun _ => 0, g'⟩ (fun r => ∀ c : Dev Cert.Reference25Ideal.nD,
          r.2.mem ((c.tc : Thread Cert.Reference25Ideal.nD Cert.Reference25Ideal.τ).loc Cert.Reference25Ideal.main_v24) = v0 c
          ∧ r.2.mem ((c.tc : Thread Cert.Reference25Ideal.nD Cert.Reference25Ideal.τ).loc Cert.Reference25Ideal.main_arg0) = m' ((c.tc : Thread Cert.Reference25Ideal.nD Cert.Reference25Ideal.τ).loc Cert.Reference25Ideal.main_arg0)
          ∧ r.2.mem ((c.tc : Thread Cert.Reference25Ideal.nD Cert.Reference25Ideal.τ).loc Cert.Reference25Ideal.main_arg1) = m' ((c.tc : Thread Cert.Reference25Ideal.nD Cert.Reference25Ideal.τ).loc Cert.Reference25Ideal.main_arg1))

def preserves_Kernel26_Kernel26Ideal : Prop :=
  True

def algebraic_Kernel26Ideal_Reference26Ideal_pre_finite26 [hKernel26Ideal : Cert.Kernel26Ideal.Facts] [hReference26Ideal : Cert.Reference26Ideal.Facts] [hPre_finite26 : Cert.Pre_finite26.Facts] : Prop :=
  ∀ (m : (ℓ : Loc Cert.Kernel26Ideal.nD Cert.Kernel26Ideal.τ Cert.Kernel26Ideal.sig) → Buf (Elt Ideal) ℓ) (g : Dev Cert.Kernel26Ideal.nD → PrngReg)
    (m' : (ℓ : Loc Cert.Reference26Ideal.nD Cert.Reference26Ideal.τ Cert.Reference26Ideal.sig) → Buf (Elt Ideal) ℓ) (g' : Dev Cert.Reference26Ideal.nD → PrngReg), Pre_Kernel26Ideal_finite26 m →
    (∀ c : Dev Cert.Kernel26Ideal.nD,
      m' ((c.tc : Thread Cert.Reference26Ideal.nD Cert.Reference26Ideal.τ).loc Cert.Reference26Ideal.main_arg0) = m ((c.tc : Thread Cert.Kernel26Ideal.nD Cert.Kernel26Ideal.τ).loc Cert.Kernel26Ideal.main_arg0)
      ∧ m' ((c.tc : Thread Cert.Reference26Ideal.nD Cert.Reference26Ideal.τ).loc Cert.Reference26Ideal.main_arg1) = m ((c.tc : Thread Cert.Kernel26Ideal.nD Cert.Kernel26Ideal.τ).loc Cert.Kernel26Ideal.main_arg1)
      ∧ m' ((c.tc : Thread Cert.Reference26Ideal.nD Cert.Reference26Ideal.τ).loc Cert.Reference26Ideal.main_arg2) = m ((c.tc : Thread Cert.Kernel26Ideal.nD Cert.Kernel26Ideal.τ).loc Cert.Kernel26Ideal.main_arg2)
      ∧ m' ((c.tc : Thread Cert.Reference26Ideal.nD Cert.Reference26Ideal.τ).loc Cert.Reference26Ideal.main_arg3) = m ((c.tc : Thread Cert.Kernel26Ideal.nD Cert.Kernel26Ideal.τ).loc Cert.Kernel26Ideal.main_arg3)
      ∧ m' ((c.tc : Thread Cert.Reference26Ideal.nD Cert.Reference26Ideal.τ).loc Cert.Reference26Ideal.main_arg4) = m ((c.tc : Thread Cert.Kernel26Ideal.nD Cert.Kernel26Ideal.τ).loc Cert.Kernel26Ideal.main_arg4)) →
    ∃ (v0 : (c : Dev Cert.Kernel26Ideal.nD) → Buf (Elt Ideal) ((c.tc : Thread Cert.Kernel26Ideal.nD Cert.Kernel26Ideal.τ).loc Cert.Kernel26Ideal.main_v0_0)) (v1 : (c : Dev Cert.Kernel26Ideal.nD) → Buf (Elt Ideal) ((c.tc : Thread Cert.Kernel26Ideal.nD Cert.Kernel26Ideal.τ).loc Cert.Kernel26Ideal.main_v0_1)),
      θ_run (Cert.Kernel26Ideal.defs (F := Ideal)) (onTc (τ := Cert.Kernel26Ideal.τ) (Cert.Kernel26Ideal.main (F := Ideal))) ⟨m, fun _ => 0, g⟩ (fun r => ∀ c : Dev Cert.Kernel26Ideal.nD,
          r.2.mem ((c.tc : Thread Cert.Kernel26Ideal.nD Cert.Kernel26Ideal.τ).loc Cert.Kernel26Ideal.main_v0_0) = v0 c
          ∧ r.2.mem ((c.tc : Thread Cert.Kernel26Ideal.nD Cert.Kernel26Ideal.τ).loc Cert.Kernel26Ideal.main_v0_1) = v1 c
          ∧ r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
          ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1)
          ∧ r.2.mem ((c.tc : Thread Cert.Kernel26Ideal.nD Cert.Kernel26Ideal.τ).loc Cert.Kernel26Ideal.main_arg2) = m ((c.tc : Thread Cert.Kernel26Ideal.nD Cert.Kernel26Ideal.τ).loc Cert.Kernel26Ideal.main_arg2)
          ∧ r.2.mem ((c.tc : Thread Cert.Kernel26Ideal.nD Cert.Kernel26Ideal.τ).loc Cert.Kernel26Ideal.main_arg3) = m ((c.tc : Thread Cert.Kernel26Ideal.nD Cert.Kernel26Ideal.τ).loc Cert.Kernel26Ideal.main_arg3)
          ∧ r.2.mem ((c.tc : Thread Cert.Kernel26Ideal.nD Cert.Kernel26Ideal.τ).loc Cert.Kernel26Ideal.main_arg4) = m ((c.tc : Thread Cert.Kernel26Ideal.nD Cert.Kernel26Ideal.τ).loc Cert.Kernel26Ideal.main_arg4))
      ∧ θ_run (Cert.Reference26Ideal.defs (F := Ideal)) (onTc (τ := Cert.Reference26Ideal.τ) (Cert.Reference26Ideal.main (F := Ideal))) ⟨m', fun _ => 0, g'⟩ (fun r => ∀ c : Dev Cert.Reference26Ideal.nD,
          r.2.mem ((c.tc : Thread Cert.Reference26Ideal.nD Cert.Reference26Ideal.τ).loc Cert.Reference26Ideal.main_v40) = v0 c
          ∧ r.2.mem ((c.tc : Thread Cert.Reference26Ideal.nD Cert.Reference26Ideal.τ).loc Cert.Reference26Ideal.main_v23) = v1 c
          ∧ r.2.mem ((c.tc : Thread Cert.Reference26Ideal.nD Cert.Reference26Ideal.τ).loc Cert.Reference26Ideal.main_arg0) = m' ((c.tc : Thread Cert.Reference26Ideal.nD Cert.Reference26Ideal.τ).loc Cert.Reference26Ideal.main_arg0)
          ∧ r.2.mem ((c.tc : Thread Cert.Reference26Ideal.nD Cert.Reference26Ideal.τ).loc Cert.Reference26Ideal.main_arg1) = m' ((c.tc : Thread Cert.Reference26Ideal.nD Cert.Reference26Ideal.τ).loc Cert.Reference26Ideal.main_arg1)
          ∧ r.2.mem ((c.tc : Thread Cert.Reference26Ideal.nD Cert.Reference26Ideal.τ).loc Cert.Reference26Ideal.main_arg2) = m' ((c.tc : Thread Cert.Reference26Ideal.nD Cert.Reference26Ideal.τ).loc Cert.Reference26Ideal.main_arg2)
          ∧ r.2.mem ((c.tc : Thread Cert.Reference26Ideal.nD Cert.Reference26Ideal.τ).loc Cert.Reference26Ideal.main_arg3) = m' ((c.tc : Thread Cert.Reference26Ideal.nD Cert.Reference26Ideal.τ).loc Cert.Reference26Ideal.main_arg3)
          ∧ r.2.mem ((c.tc : Thread Cert.Reference26Ideal.nD Cert.Reference26Ideal.τ).loc Cert.Reference26Ideal.main_arg4) = m' ((c.tc : Thread Cert.Reference26Ideal.nD Cert.Reference26Ideal.τ).loc Cert.Reference26Ideal.main_arg4))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hKernel21 : Cert.Kernel21.Facts) (hKernel21Ideal : Cert.Kernel21Ideal.Facts) (hReference21Ideal : Cert.Reference21Ideal.Facts) (hKernel22 : Cert.Kernel22.Facts) (hKernel22Ideal : Cert.Kernel22Ideal.Facts) (hReference22Ideal : Cert.Reference22Ideal.Facts) (hKernel23 : Cert.Kernel23.Facts) (hKernel23Ideal : Cert.Kernel23Ideal.Facts) (hReference23Ideal : Cert.Reference23Ideal.Facts) (hKernel24 : Cert.Kernel24.Facts) (hKernel24Ideal : Cert.Kernel24Ideal.Facts) (hReference24Ideal : Cert.Reference24Ideal.Facts) (hKernel25 : Cert.Kernel25.Facts) (hKernel25Ideal : Cert.Kernel25Ideal.Facts) (hReference25Ideal : Cert.Reference25Ideal.Facts) (hKernel26 : Cert.Kernel26.Facts) (hKernel26Ideal : Cert.Kernel26Ideal.Facts) (hReference26Ideal : Cert.Reference26Ideal.Facts) (hPre_finite1 : Cert.Pre_finite1.Facts) (hPre_finite4 : Cert.Pre_finite4.Facts) (hPre_finite5 : Cert.Pre_finite5.Facts) (hPre_tables17 : Cert.Pre_tables17.Facts) (hPre_finite17 : Cert.Pre_finite17.Facts) (hPre_finite26 : Cert.Pre_finite26.Facts),
    quiescent_Kernel (hKernel := hKernel)
    ∧ quiescent_KernelIdeal (hKernelIdeal := hKernelIdeal)
    ∧ quiescent_KernelIdeal_pre_finite1 (hKernelIdeal := hKernelIdeal) (hPre_finite1 := hPre_finite1)
    ∧ quiescent_ReferenceIdeal (hReferenceIdeal := hReferenceIdeal)
    ∧ quiescent_ReferenceIdeal_pre_finite1 (hReferenceIdeal := hReferenceIdeal) (hPre_finite1 := hPre_finite1)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Kernel4 (hKernel4 := hKernel4)
    ∧ quiescent_Kernel4Ideal (hKernel4Ideal := hKernel4Ideal)
    ∧ quiescent_Kernel4Ideal_pre_finite4 (hKernel4Ideal := hKernel4Ideal) (hPre_finite4 := hPre_finite4)
    ∧ quiescent_Reference4Ideal (hReference4Ideal := hReference4Ideal)
    ∧ quiescent_Reference4Ideal_pre_finite4 (hReference4Ideal := hReference4Ideal) (hPre_finite4 := hPre_finite4)
    ∧ quiescent_Kernel5 (hKernel5 := hKernel5)
    ∧ quiescent_Kernel5Ideal (hKernel5Ideal := hKernel5Ideal)
    ∧ quiescent_Kernel5Ideal_pre_finite5 (hKernel5Ideal := hKernel5Ideal) (hPre_finite5 := hPre_finite5)
    ∧ quiescent_Reference5Ideal (hReference5Ideal := hReference5Ideal)
    ∧ quiescent_Reference5Ideal_pre_finite5 (hReference5Ideal := hReference5Ideal) (hPre_finite5 := hPre_finite5)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17) (hPre_tables17 := hPre_tables17)
    ∧ quiescent_Kernel17Ideal (hKernel17Ideal := hKernel17Ideal) (hPre_tables17 := hPre_tables17)
    ∧ quiescent_Kernel17Ideal_pre_finite17 (hKernel17Ideal := hKernel17Ideal) (hPre_finite17 := hPre_finite17)
    ∧ quiescent_Reference17Ideal (hReference17Ideal := hReference17Ideal)
    ∧ quiescent_Reference17Ideal_pre_finite17 (hReference17Ideal := hReference17Ideal) (hPre_finite17 := hPre_finite17)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Reference20Ideal (hReference20Ideal := hReference20Ideal)
    ∧ quiescent_Kernel21 (hKernel21 := hKernel21)
    ∧ quiescent_Kernel21Ideal (hKernel21Ideal := hKernel21Ideal)
    ∧ quiescent_Reference21Ideal (hReference21Ideal := hReference21Ideal)
    ∧ quiescent_Kernel22 (hKernel22 := hKernel22)
    ∧ quiescent_Kernel22Ideal (hKernel22Ideal := hKernel22Ideal)
    ∧ quiescent_Reference22Ideal (hReference22Ideal := hReference22Ideal)
    ∧ quiescent_Kernel23 (hKernel23 := hKernel23)
    ∧ quiescent_Kernel23Ideal (hKernel23Ideal := hKernel23Ideal)
    ∧ quiescent_Reference23Ideal (hReference23Ideal := hReference23Ideal)
    ∧ quiescent_Kernel24 (hKernel24 := hKernel24)
    ∧ quiescent_Kernel24Ideal (hKernel24Ideal := hKernel24Ideal)
    ∧ quiescent_Reference24Ideal (hReference24Ideal := hReference24Ideal)
    ∧ quiescent_Kernel25 (hKernel25 := hKernel25)
    ∧ quiescent_Kernel25Ideal (hKernel25Ideal := hKernel25Ideal)
    ∧ quiescent_Reference25Ideal (hReference25Ideal := hReference25Ideal)
    ∧ quiescent_Kernel26 (hKernel26 := hKernel26)
    ∧ quiescent_Kernel26Ideal (hKernel26Ideal := hKernel26Ideal)
    ∧ quiescent_Kernel26Ideal_pre_finite26 (hKernel26Ideal := hKernel26Ideal) (hPre_finite26 := hPre_finite26)
    ∧ quiescent_Reference26Ideal (hReference26Ideal := hReference26Ideal)
    ∧ quiescent_Reference26Ideal_pre_finite26 (hReference26Ideal := hReference26Ideal) (hPre_finite26 := hPre_finite26)
    ∧ preserves_Kernel_KernelIdeal
    ∧ algebraic_KernelIdeal_ReferenceIdeal_pre_finite1 (hKernelIdeal := hKernelIdeal) (hReferenceIdeal := hReferenceIdeal) (hPre_finite1 := hPre_finite1)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ preserves_Kernel4_Kernel4Ideal
    ∧ algebraic_Kernel4Ideal_Reference4Ideal_pre_finite4 (hKernel4Ideal := hKernel4Ideal) (hReference4Ideal := hReference4Ideal) (hPre_finite4 := hPre_finite4)
    ∧ preserves_Kernel5_Kernel5Ideal
    ∧ algebraic_Kernel5Ideal_Reference5Ideal_pre_finite5 (hKernel5Ideal := hKernel5Ideal) (hReference5Ideal := hReference5Ideal) (hPre_finite5 := hPre_finite5)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal_pre_finite17 (hKernel17Ideal := hKernel17Ideal) (hReference17Ideal := hReference17Ideal) (hPre_finite17 := hPre_finite17)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal (hKernel20Ideal := hKernel20Ideal) (hReference20Ideal := hReference20Ideal)
    ∧ preserves_Kernel21_Kernel21Ideal
    ∧ algebraic_Kernel21Ideal_Reference21Ideal (hKernel21Ideal := hKernel21Ideal) (hReference21Ideal := hReference21Ideal)
    ∧ preserves_Kernel22_Kernel22Ideal
    ∧ algebraic_Kernel22Ideal_Reference22Ideal (hKernel22Ideal := hKernel22Ideal) (hReference22Ideal := hReference22Ideal)
    ∧ preserves_Kernel23_Kernel23Ideal
    ∧ algebraic_Kernel23Ideal_Reference23Ideal (hKernel23Ideal := hKernel23Ideal) (hReference23Ideal := hReference23Ideal)
    ∧ preserves_Kernel24_Kernel24Ideal
    ∧ algebraic_Kernel24Ideal_Reference24Ideal (hKernel24Ideal := hKernel24Ideal) (hReference24Ideal := hReference24Ideal)
    ∧ preserves_Kernel25_Kernel25Ideal
    ∧ algebraic_Kernel25Ideal_Reference25Ideal (hKernel25Ideal := hKernel25Ideal) (hReference25Ideal := hReference25Ideal)
    ∧ preserves_Kernel26_Kernel26Ideal
    ∧ algebraic_Kernel26Ideal_Reference26Ideal_pre_finite26 (hKernel26Ideal := hKernel26Ideal) (hReference26Ideal := hReference26Ideal) (hPre_finite26 := hPre_finite26)
-- ==== Pre_finite1.lean ====
abbrev S8192x1024 : Shape := ⟨2, ![8192, 1024]⟩
abbrev S256x2048 : Shape := ⟨2, ![256, 2048]⟩
abbrev S_ : Shape := ⟨0, ![]⟩

class Facts : Prop where
  bitsLt_bf16_f32 : FTy.bits .bf16 < FTy.bits .f32
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S256x2048 : S_.BroadcastsInDim S256x2048 (![] : Fin 0 → Fin S256x2048.rank)
  reducesTo_S256x2048_S_d0_1 : S256x2048.ReducesTo [0, 1] S_

variable [Facts]

def fn {F : FTy → Type} [FloatOps F] (main_arg0 : FVec F S8192x1024 .bf16) (main_arg1 : FVec F S256x2048 .bf16) (main_arg2 : FVec F S8192x1024 .bf16) : IVec S_ 1 :=
  let main_v0 : FVec F S8192x1024 .f32 := (extf .f32 · bitsLt_bf16_f32) main_arg0
  let main_v1 : FVec F S8192x1024 .f32 := Host.absf main_v0
  let main_cst : FVec F S_ .f32 := constant S_ .f32 0x7F800000#32
  let main_v2 : FVec F S8192x1024 .f32 := broadcastInDim S8192x1024 ![] bcast_S_S8192x1024 main_cst
  let main_v3 : IVec S8192x1024 1 := cmpf .olt main_v1 main_v2
  let main_c : IVec S_ 1 := constantI S_ 1 1#1
  let main_v4 : IVec S_ 1 := (fun x v => Host.reduce IntOp.andi x v reducesTo_S8192x1024_S_d0_1 h_S_) main_v3 main_c
  let main_v5 : FVec F S256x2048 .f32 := (extf .f32 · bitsLt_bf16_f32) main_arg1
  let main_v6 : FVec F S256x2048 .f32 := Host.absf main_v5
  let main_cst_0 : FVec F S_ .f32 := constant S_ .f32 0x7F800000#32
  let main_v7 : FVec F S256x2048 .f32 := broadcastInDim S256x2048 ![] bcast_S_S256x2048 main_cst_0
  let main_v8 : IVec S256x2048 1 := cmpf .olt main_v6 main_v7
  let main_c_1 : IVec S_ 1 := constantI S_ 1 1#1
  let main_v9 : IVec S_ 1 := (fun x v => Host.reduce IntOp.andi x v reducesTo_S256x2048_S_d0_1 h_S_) main_v8 main_c_1
  let main_v10 : IVec S_ 1 := andi main_v4 main_v9
  let main_v11 : FVec F S8192x1024 .f32 := (extf .f32 · bitsLt_bf16_f32) main_arg2
  let main_v12 : FVec F S8192x1024 .f32 := Host.absf main_v11
  let main_cst_2 : FVec F S_ .f32 := constant S_ .f32 0x7F800000#32
  let main_v13 : FVec F S8192x1024 .f32 := broadcastInDim S8192x1024 ![] bcast_S_S8192x1024 main_cst_2
  let main_v14 : IVec S8192x1024 1 := cmpf .olt main_v12 main_v13
  let main_c_3 : IVec S_ 1 := constantI S_ 1 1#1
  let main_v15 : IVec S_ 1 := (fun x v => Host.reduce IntOp.andi x v reducesTo_S8192x1024_S_d0_1 h_S_) main_v14 main_c_3
  let main_v16 : IVec S_ 1 := andi main_v10 main_v15
  main_v16
-- ==== Pre_finite17.lean ====
abbrev S136 : Shape := ⟨1, ![136]⟩
abbrev S8x80x8192 : Shape := ⟨3, ![8, 80, 8192]⟩
abbrev S8x8192x80 : Shape := ⟨3, ![8, 8192, 80]⟩
abbrev S8x64x8192 : Shape := ⟨3, ![8, 64, 8192]⟩
abbrev S_ : Shape := ⟨0, ![]⟩

class Facts : Prop where
  bitsLt_bf16_f32 : FTy.bits .bf16 < FTy.bits .f32
  bcast_S_S8x80x8192 : S_.BroadcastsInDim S8x80x8192 (![] : Fin 0 → Fin S8x80x8192.rank)
  reducesTo_S8x80x8192_S_d0_1_2 : S8x80x8192.ReducesTo [0, 1, 2] S_
  h_S_ : 0 < S_.numel
  bcast_S_S8x8192x80 : S_.BroadcastsInDim S8x8192x80 (![] : Fin 0 → Fin S8x8192x80.rank)
  reducesTo_S8x8192x80_S_d0_1_2 : S8x8192x80.ReducesTo [0, 1, 2] S_
  bcast_S_S8x64x8192 : S_.BroadcastsInDim S8x64x8192 (![] : Fin 0 → Fin S8x64x8192.rank)
  reducesTo_S8x64x8192_S_d0_1_2 : S8x64x8192.ReducesTo [0, 1, 2] S_

variable [Facts]

noncomputable abbrev lit0 : Fin 136 → BitVec 32 := fun
  | 0 => 0#32 | 1 => 1#32 | 2 => 1#32 | 3 => 2#32 | 4 => 2#32 | 5 => 2#32 | 6 => 3#32 | 7 => 3#32
  | 8 => 3#32 | 9 => 3#32 | 10 => 4#32 | 11 => 4#32 | 12 => 4#32 | 13 => 4#32 | 14 => 4#32 | 15 => 5#32
  | 16 => 5#32 | 17 => 5#32 | 18 => 5#32 | 19 => 5#32 | 20 => 5#32 | 21 => 6#32 | 22 => 6#32 | 23 => 6#32
  | 24 => 6#32 | 25 => 6#32 | 26 => 6#32 | 27 => 6#32 | 28 => 7#32 | 29 => 7#32 | 30 => 7#32 | 31 => 7#32
  | 32 => 7#32 | 33 => 7#32 | 34 => 7#32 | 35 => 7#32 | 36 => 8#32 | 37 => 8#32 | 38 => 8#32 | 39 => 8#32
  | 40 => 8#32 | 41 => 8#32 | 42 => 8#32 | 43 => 8#32 | 44 => 8#32 | 45 => 9#32 | 46 => 9#32 | 47 => 9#32
  | 48 => 9#32 | 49 => 9#32 | 50 => 9#32 | 51 => 9#32 | 52 => 9#32 | 53 => 9#32 | 54 => 9#32 | 55 => 10#32
  | 56 => 10#32 | 57 => 10#32 | 58 => 10#32 | 59 => 10#32 | 60 => 10#32 | 61 => 10#32 | 62 => 10#32 | 63 => 10#32
  | 64 => 10#32 | 65 => 10#32 | 66 => 11#32 | 67 => 11#32 | 68 => 11#32 | 69 => 11#32 | 70 => 11#32 | 71 => 11#32
  | 72 => 11#32 | 73 => 11#32 | 74 => 11#32 | 75 => 11#32 | 76 => 11#32 | 77 => 11#32 | 78 => 12#32 | 79 => 12#32
  | 80 => 12#32 | 81 => 12#32 | 82 => 12#32 | 83 => 12#32 | 84 => 12#32 | 85 => 12#32 | 86 => 12#32 | 87 => 12#32
  | 88 => 12#32 | 89 => 12#32 | 90 => 12#32 | 91 => 13#32 | 92 => 13#32 | 93 => 13#32 | 94 => 13#32 | 95 => 13#32
  | 96 => 13#32 | 97 => 13#32 | 98 => 13#32 | 99 => 13#32 | 100 => 13#32 | 101 => 13#32 | 102 => 13#32 | 103 => 13#32
  | 104 => 13#32 | 105 => 14#32 | 106 => 14#32 | 107 => 14#32 | 108 => 14#32 | 109 => 14#32 | 110 => 14#32 | 111 => 14#32
  | 112 => 14#32 | 113 => 14#32 | 114 => 14#32 | 115 => 14#32 | 116 => 14#32 | 117 => 14#32 | 118 => 14#32 | 119 => 14#32
  | 120 => 15#32 | 121 => 15#32 | 122 => 15#32 | 123 => 15#32 | 124 => 15#32 | 125 => 15#32 | 126 => 15#32 | 127 => 15#32
  | 128 => 15#32 | 129 => 15#32 | 130 => 15#32 | 131 => 15#32 | 132 => 15#32 | 133 => 15#32 | 134 => 15#32 | 135 => 15#32
  | _ => 0#32

noncomputable abbrev lit1 : Fin 136 → BitVec 32 := fun
  | 0 => 0#32 | 1 => 0#32 | 2 => 1#32 | 3 => 0#32 | 4 => 1#32 | 5 => 2#32 | 6 => 0#32 | 7 => 1#32
  | 8 => 2#32 | 9 => 3#32 | 10 => 0#32 | 11 => 1#32 | 12 => 2#32 | 13 => 3#32 | 14 => 4#32 | 15 => 0#32
  | 16 => 1#32 | 17 => 2#32 | 18 => 3#32 | 19 => 4#32 | 20 => 5#32 | 21 => 0#32 | 22 => 1#32 | 23 => 2#32
  | 24 => 3#32 | 25 => 4#32 | 26 => 5#32 | 27 => 6#32 | 28 => 0#32 | 29 => 1#32 | 30 => 2#32 | 31 => 3#32
  | 32 => 4#32 | 33 => 5#32 | 34 => 6#32 | 35 => 7#32 | 36 => 0#32 | 37 => 1#32 | 38 => 2#32 | 39 => 3#32
  | 40 => 4#32 | 41 => 5#32 | 42 => 6#32 | 43 => 7#32 | 44 => 8#32 | 45 => 0#32 | 46 => 1#32 | 47 => 2#32
  | 48 => 3#32 | 49 => 4#32 | 50 => 5#32 | 51 => 6#32 | 52 => 7#32 | 53 => 8#32 | 54 => 9#32 | 55 => 0#32
  | 56 => 1#32 | 57 => 2#32 | 58 => 3#32 | 59 => 4#32 | 60 => 5#32 | 61 => 6#32 | 62 => 7#32 | 63 => 8#32
  | 64 => 9#32 | 65 => 10#32 | 66 => 0#32 | 67 => 1#32 | 68 => 2#32 | 69 => 3#32 | 70 => 4#32 | 71 => 5#32
  | 72 => 6#32 | 73 => 7#32 | 74 => 8#32 | 75 => 9#32 | 76 => 10#32 | 77 => 11#32 | 78 => 0#32 | 79 => 1#32
  | 80 => 2#32 | 81 => 3#32 | 82 => 4#32 | 83 => 5#32 | 84 => 6#32 | 85 => 7#32 | 86 => 8#32 | 87 => 9#32
  | 88 => 10#32 | 89 => 11#32 | 90 => 12#32 | 91 => 0#32 | 92 => 1#32 | 93 => 2#32 | 94 => 3#32 | 95 => 4#32
  | 96 => 5#32 | 97 => 6#32 | 98 => 7#32 | 99 => 8#32 | 100 => 9#32 | 101 => 10#32 | 102 => 11#32 | 103 => 12#32
  | 104 => 13#32 | 105 => 0#32 | 106 => 1#32 | 107 => 2#32 | 108 => 3#32 | 109 => 4#32 | 110 => 5#32 | 111 => 6#32
  | 112 => 7#32 | 113 => 8#32 | 114 => 9#32 | 115 => 10#32 | 116 => 11#32 | 117 => 12#32 | 118 => 13#32 | 119 => 14#32
  | 120 => 0#32 | 121 => 1#32 | 122 => 2#32 | 123 => 3#32 | 124 => 4#32 | 125 => 5#32 | 126 => 6#32 | 127 => 7#32
  | 128 => 8#32 | 129 => 9#32 | 130 => 10#32 | 131 => 11#32 | 132 => 12#32 | 133 => 13#32 | 134 => 14#32 | 135 => 15#32
  | _ => 0#32

def fn_part1 {F : FTy → Type} [FloatOps F] (main_v0 : IVec S136 1) (main_v1 : IVec S136 1) (main_v12 : IVec S_ 1) (main_v16 : IVec S8x64x8192 1) : IVec S136 1 × IVec S136 1 × IVec S_ 1 :=
  let main_c_5 : IVec S_ 1 := constantI S_ 1 1#1
  let main_v17 : IVec S_ 1 := (fun x v => Host.reduce IntOp.andi x v reducesTo_S8x64x8192_S_d0_1_2 h_S_) main_v16 main_c_5
  let main_v18 : IVec S_ 1 := andi main_v12 main_v17
  (main_v0, main_v1, main_v18)

def fn {F : FTy → Type} [FloatOps F] (main_arg0 : IVec S136 32) (main_arg1 : IVec S136 32) (main_arg2 : FVec F S8x80x8192 .bf16) (main_arg3 : FVec F S8x8192x80 .bf16) (main_arg4 : FVec F S8x64x8192 .bf16) : IVec S136 1 × IVec S136 1 × IVec S_ 1 :=
  let main_c : IVec S136 32 := fun i => lit0 (S136.rowMajor i)
  let main_c_0 : IVec S136 32 := fun i => lit1 (S136.rowMajor i)
  let main_v0 : IVec S136 1 := cmpi .eq main_arg0 main_c
  let main_v1 : IVec S136 1 := cmpi .eq main_arg1 main_c_0
  let main_v2 : FVec F S8x80x8192 .f32 := (extf .f32 · bitsLt_bf16_f32) main_arg2
  let main_v3 : FVec F S8x80x8192 .f32 := Host.absf main_v2
  let main_cst : FVec F S_ .f32 := constant S_ .f32 0x7F800000#32
  let main_v4 : FVec F S8x80x8192 .f32 := broadcastInDim S8x80x8192 ![] bcast_S_S8x80x8192 main_cst
  let main_v5 : IVec S8x80x8192 1 := cmpf .olt main_v3 main_v4
  let main_c_1 : IVec S_ 1 := constantI S_ 1 1#1
  let main_v6 : IVec S_ 1 := (fun x v => Host.reduce IntOp.andi x v reducesTo_S8x80x8192_S_d0_1_2 h_S_) main_v5 main_c_1
  let main_v7 : FVec F S8x8192x80 .f32 := (extf .f32 · bitsLt_bf16_f32) main_arg3
  let main_v8 : FVec F S8x8192x80 .f32 := Host.absf main_v7
  let main_cst_2 : FVec F S_ .f32 := constant S_ .f32 0x7F800000#32
  let main_v9 : FVec F S8x8192x80 .f32 := broadcastInDim S8x8192x80 ![] bcast_S_S8x8192x80 main_cst_2
  let main_v10 : IVec S8x8192x80 1 := cmpf .olt main_v8 main_v9
  let main_c_3 : IVec S_ 1 := constantI S_ 1 1#1
  let main_v11 : IVec S_ 1 := (fun x v => Host.reduce IntOp.andi x v reducesTo_S8x8192x80_S_d0_1_2 h_S_) main_v10 main_c_3
  let main_v12 : IVec S_ 1 := andi main_v6 main_v11
  let main_v13 : FVec F S8x64x8192 .f32 := (extf .f32 · bitsLt_bf16_f32) main_arg4
  let main_v14 : FVec F S8x64x8192 .f32 := Host.absf main_v13
  let main_cst_4 : FVec F S_ .f32 := constant S_ .f32 0x7F800000#32
  let main_v15 : FVec F S8x64x8192 .f32 := broadcastInDim S8x64x8192 ![] bcast_S_S8x64x8192 main_cst_4
  let main_v16 : IVec S8x64x8192 1 := cmpf .olt main_v14 main_v15
  fn_part1 (F := F) main_v0 main_v1 main_v12 main_v16
-- ==== Pre_finite26.lean ====
abbrev S8192x1024 : Shape := ⟨2, ![8192, 1024]⟩
abbrev S1024x1024 : Shape := ⟨2, ![1024, 1024]⟩
abbrev S1x1024 : Shape := ⟨2, ![1, 1024]⟩
abbrev S_ : Shape := ⟨0, ![]⟩

class Facts : Prop where
  bitsLt_bf16_f32 : FTy.bits .bf16 < FTy.bits .f32
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1x1024 : S_.BroadcastsInDim S1x1024 (![] : Fin 0 → Fin S1x1024.rank)
  reducesTo_S1x1024_S_d0_1 : S1x1024.ReducesTo [0, 1] S_

variable [Facts]

def fn_part1 {F : FTy → Type} [FloatOps F] (main_v15 : IVec S_ 1) (main_v16 : FVec F S1x1024 .f32) (main_cst_4 : FVec F S_ .f32) : IVec S_ 1 :=
  let main_v17 : FVec F S1x1024 .f32 := broadcastInDim S1x1024 ![] bcast_S_S1x1024 main_cst_4
  let main_v18 : IVec S1x1024 1 := cmpf .olt main_v16 main_v17
  let main_c_5 : IVec S_ 1 := constantI S_ 1 1#1
  let main_v19 : IVec S_ 1 := (fun x v => Host.reduce IntOp.andi x v reducesTo_S1x1024_S_d0_1 h_S_) main_v18 main_c_5
  let main_v20 : IVec S_ 1 := andi main_v15 main_v19
  main_v20

def fn {F : FTy → Type} [FloatOps F] (main_arg0 : FVec F S8192x1024 .bf16) (main_arg1 : FVec F S1024x1024 .bf16) (main_arg2 : FVec F S8192x1024 .f32) (main_arg3 : FVec F S1x1024 .f32) (main_arg4 : FVec F S8192x1024 .f32) : IVec S_ 1 :=
  let main_v0 : FVec F S8192x1024 .f32 := (extf .f32 · bitsLt_bf16_f32) main_arg0
  let main_v1 : FVec F S8192x1024 .f32 := Host.absf main_v0
  let main_cst : FVec F S_ .f32 := constant S_ .f32 0x7F800000#32
  let main_v2 : FVec F S8192x1024 .f32 := broadcastInDim S8192x1024 ![] bcast_S_S8192x1024 main_cst
  let main_v3 : IVec S8192x1024 1 := cmpf .olt main_v1 main_v2
  let main_c : IVec S_ 1 := constantI S_ 1 1#1
  let main_v4 : IVec S_ 1 := (fun x v => Host.reduce IntOp.andi x v reducesTo_S8192x1024_S_d0_1 h_S_) main_v3 main_c
  let main_v5 : FVec F S1024x1024 .f32 := (extf .f32 · bitsLt_bf16_f32) main_arg1
  let main_v6 : FVec F S1024x1024 .f32 := Host.absf main_v5
  let main_cst_0 : FVec F S_ .f32 := constant S_ .f32 0x7F800000#32
  let main_v7 : FVec F S1024x1024 .f32 := broadcastInDim S1024x1024 ![] bcast_S_S1024x1024 main_cst_0
  let main_v8 : IVec S1024x1024 1 := cmpf .olt main_v6 main_v7
  let main_c_1 : IVec S_ 1 := constantI S_ 1 1#1
  let main_v9 : IVec S_ 1 := (fun x v => Host.reduce IntOp.andi x v reducesTo_S1024x1024_S_d0_1 h_S_) main_v8 main_c_1
  let main_v10 : IVec S_ 1 := andi main_v4 main_v9
  let main_v11 : FVec F S8192x1024 .f32 := Host.absf main_arg2
  let main_cst_2 : FVec F S_ .f32 := constant S_ .f32 0x7F800000#32
  let main_v12 : FVec F S8192x1024 .f32 := broadcastInDim S8192x1024 ![] bcast_S_S8192x1024 main_cst_2
  let main_v13 : IVec S8192x1024 1 := cmpf .olt main_v11 main_v12
  let main_c_3 : IVec S_ 1 := constantI S_ 1 1#1
  let main_v14 : IVec S_ 1 := (fun x v => Host.reduce IntOp.andi x v reducesTo_S8192x1024_S_d0_1 h_S_) main_v13 main_c_3
  let main_v15 : IVec S_ 1 := andi main_v10 main_v14
  let main_v16 : FVec F S1x1024 .f32 := Host.absf main_arg3
  let main_cst_4 : FVec F S_ .f32 := constant S_ .f32 0x7F800000#32
  fn_part1 (F := F) main_v15 main_v16 main_cst_4
-- ==== Pre_finite4.lean ====
abbrev S8192x1024 : Shape := ⟨2, ![8192, 1024]⟩
abbrev S2816x1024 : Shape := ⟨2, ![2816, 1024]⟩
abbrev S8192x2816 : Shape := ⟨2, ![8192, 2816]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bitsLt_bf16_f32 : FTy.bits .bf16 < FTy.bits .f32
  bcast_S_S2816x1024 : S_.BroadcastsInDim S2816x1024 (![] : Fin 0 → Fin S2816x1024.rank)
  reducesTo_S2816x1024_S_d0_1 : S2816x1024.ReducesTo [0, 1] S_
  bcast_S_S8192x2816 : S_.BroadcastsInDim S8192x2816 (![] : Fin 0 → Fin S8192x2816.rank)
  reducesTo_S8192x2816_S_d0_1 : S8192x2816.ReducesTo [0, 1] S_

variable [Facts]

def fn {F : FTy → Type} [FloatOps F] (main_arg0 : FVec F S8192x1024 .f32) (main_arg1 : FVec F S2816x1024 .bf16) (main_arg2 : FVec F S8192x2816 .bf16) (main_arg3 : FVec F S8192x2816 .bf16) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S2816x1024 .f32 := (extf .f32 · bitsLt_bf16_f32) main_arg1
  let main_v5 : FVec F S2816x1024 .f32 := Host.absf main_v4
  let main_cst_0 : FVec F S_ .f32 := constant S_ .f32 0x7F800000#32
  let main_v6 : FVec F S2816x1024 .f32 := broadcastInDim S2816x1024 ![] bcast_S_S2816x1024 main_cst_0
  let main_v7 : IVec S2816x1024 1 := cmpf .olt main_v5 main_v6
  let main_c_1 : IVec S_ 1 := constantI S_ 1 1#1
  let main_v8 : IVec S_ 1 := (fun x v => Host.reduce IntOp.andi x v reducesTo_S2816x1024_S_d0_1 h_S_) main_v7 main_c_1
  let main_v9 : IVec S_ 1 := andi main_v3 main_v8
  let main_v10 : FVec F S8192x2816 .f32 := (extf .f32 · bitsLt_bf16_f32) main_arg3
  let main_v11 : FVec F S8192x2816 .f32 := Host.absf main_v10
  let main_cst_2 : FVec F S_ .f32 := constant S_ .f32 0x7F800000#32
  let main_v12 : FVec F S8192x2816 .f32 := broadcastInDim S8192x2816 ![] bcast_S_S8192x2816 main_cst_2
  let main_v13 : IVec S8192x2816 1 := cmpf .olt main_v11 main_v12
  let main_c_3 : IVec S_ 1 := constantI S_ 1 1#1
  let main_v14 : IVec S_ 1 := (fun x v => Host.reduce IntOp.andi x v reducesTo_S8192x2816_S_d0_1 h_S_) main_v13 main_c_3
  let main_v15 : IVec S_ 1 := andi main_v9 main_v14
  main_v15
-- ==== Pre_finite5.lean ====
abbrev S8192x2816 : Shape := ⟨2, ![8192, 2816]⟩
abbrev S1024x5632 : Shape := ⟨2, ![1024, 5632]⟩
abbrev S8192x1024 : Shape := ⟨2, ![8192, 1024]⟩
abbrev S1x1024 : Shape := ⟨2, ![1, 1024]⟩
abbrev S_ : Shape := ⟨0, ![]⟩

class Facts : Prop where
  bitsLt_bf16_f32 : FTy.bits .bf16 < FTy.bits .f32
  bcast_S_S8192x2816 : S_.BroadcastsInDim S8192x2816 (![] : Fin 0 → Fin S8192x2816.rank)
  reducesTo_S8192x2816_S_d0_1 : S8192x2816.ReducesTo [0, 1] S_
  h_S_ : 0 < S_.numel
  bcast_S_S1024x5632 : S_.BroadcastsInDim S1024x5632 (![] : Fin 0 → Fin S1024x5632.rank)
  reducesTo_S1024x5632_S_d0_1 : S1024x5632.ReducesTo [0, 1] S_
  bcast_S_S8192x1024 : S_.BroadcastsInDim S8192x1024 (![] : Fin 0 → Fin S8192x1024.rank)
  reducesTo_S8192x1024_S_d0_1 : S8192x1024.ReducesTo [0, 1] S_
  bcast_S_S1x1024 : S_.BroadcastsInDim S1x1024 (![] : Fin 0 → Fin S1x1024.rank)
  reducesTo_S1x1024_S_d0_1 : S1x1024.ReducesTo [0, 1] S_

variable [Facts]

def fn_part1 {F : FTy → Type} [FloatOps F] (main_arg4 : FVec F S1x1024 .f32) (main_v16 : IVec S_ 1) (main_v17 : FVec F S8192x1024 .f32) : IVec S_ 1 :=
  let main_cst_4 : FVec F S_ .f32 := constant S_ .f32 0x7F800000#32
  let main_v18 : FVec F S8192x1024 .f32 := broadcastInDim S8192x1024 ![] bcast_S_S8192x1024 main_cst_4
  let main_v19 : IVec S8192x1024 1 := cmpf .olt main_v17 main_v18
  let main_c_5 : IVec S_ 1 := constantI S_ 1 1#1
  let main_v20 : IVec S_ 1 := (fun x v => Host.reduce IntOp.andi x v reducesTo_S8192x1024_S_d0_1 h_S_) main_v19 main_c_5
  let main_v21 : IVec S_ 1 := andi main_v16 main_v20
  let main_v22 : FVec F S1x1024 .f32 := Host.absf main_arg4
  let main_cst_6 : FVec F S_ .f32 := constant S_ .f32 0x7F800000#32
  let main_v23 : FVec F S1x1024 .f32 := broadcastInDim S1x1024 ![] bcast_S_S1x1024 main_cst_6
  let main_v24 : IVec S1x1024 1 := cmpf .olt main_v22 main_v23
  let main_c_7 : IVec S_ 1 := constantI S_ 1 1#1
  let main_v25 : IVec S_ 1 := (fun x v => Host.reduce IntOp.andi x v reducesTo_S1x1024_S_d0_1 h_S_) main_v24 main_c_7
  let main_v26 : IVec S_ 1 := andi main_v21 main_v25
  main_v26

def fn {F : FTy → Type} [FloatOps F] (main_arg0 : FVec F S8192x2816 .bf16) (main_arg1 : FVec F S8192x2816 .bf16) (main_arg2 : FVec F S1024x5632 .bf16) (main_arg3 : FVec F S8192x1024 .f32) (main_arg4 : FVec F S1x1024 .f32) (main_arg5 : FVec F S8192x1024 .f32) : IVec S_ 1 :=
  let main_v0 : FVec F S8192x2816 .f32 := (extf .f32 · bitsLt_bf16_f32) main_arg0
  let main_v1 : FVec F S8192x2816 .f32 := Host.absf main_v0
  let main_cst : FVec F S_ .f32 := constant S_ .f32 0x7F800000#32
  let main_v2 : FVec F S8192x2816 .f32 := broadcastInDim S8192x2816 ![] bcast_S_S8192x2816 main_cst
  let main_v3 : IVec S8192x2816 1 := cmpf .olt main_v1 main_v2
  let main_c : IVec S_ 1 := constantI S_ 1 1#1
  let main_v4 : IVec S_ 1 := (fun x v => Host.reduce IntOp.andi x v reducesTo_S8192x2816_S_d0_1 h_S_) main_v3 main_c
  let main_v5 : FVec F S8192x2816 .f32 := (extf .f32 · bitsLt_bf16_f32) main_arg1
  let main_v6 : FVec F S8192x2816 .f32 := Host.absf main_v5
  let main_cst_0 : FVec F S_ .f32 := constant S_ .f32 0x7F800000#32
  let main_v7 : FVec F S8192x2816 .f32 := broadcastInDim S8192x2816 ![] bcast_S_S8192x2816 main_cst_0
  let main_v8 : IVec S8192x2816 1 := cmpf .olt main_v6 main_v7
  let main_c_1 : IVec S_ 1 := constantI S_ 1 1#1
  let main_v9 : IVec S_ 1 := (fun x v => Host.reduce IntOp.andi x v reducesTo_S8192x2816_S_d0_1 h_S_) main_v8 main_c_1
  let main_v10 : IVec S_ 1 := andi main_v4 main_v9
  let main_v11 : FVec F S1024x5632 .f32 := (extf .f32 · bitsLt_bf16_f32) main_arg2
  let main_v12 : FVec F S1024x5632 .f32 := Host.absf main_v11
  let main_cst_2 : FVec F S_ .f32 := constant S_ .f32 0x7F800000#32
  let main_v13 : FVec F S1024x5632 .f32 := broadcastInDim S1024x5632 ![] bcast_S_S1024x5632 main_cst_2
  let main_v14 : IVec S1024x5632 1 := cmpf .olt main_v12 main_v13
  let main_c_3 : IVec S_ 1 := constantI S_ 1 1#1
  let main_v15 : IVec S_ 1 := (fun x v => Host.reduce IntOp.andi x v reducesTo_S1024x5632_S_d0_1 h_S_) main_v14 main_c_3
  let main_v16 : IVec S_ 1 := andi main_v10 main_v15
  let main_v17 : FVec F S8192x1024 .f32 := Host.absf main_arg3
  fn_part1 (F := F) main_arg4 main_v16 main_v17
-- ==== Pre_tables17.lean ====
abbrev S136 : Shape := ⟨1, ![136]⟩
abbrev S8x80x8192 : Shape := ⟨3, ![8, 80, 8192]⟩
abbrev S8x8192x80 : Shape := ⟨3, ![8, 8192, 80]⟩
abbrev S8x64x8192 : Shape := ⟨3, ![8, 64, 8192]⟩

class Facts : Prop where

variable [Facts]

noncomputable abbrev lit0 : Fin 136 → BitVec 32 := fun
  | 0 => 0#32 | 1 => 1#32 | 2 => 1#32 | 3 => 2#32 | 4 => 2#32 | 5 => 2#32 | 6 => 3#32 | 7 => 3#32
  | 8 => 3#32 | 9 => 3#32 | 10 => 4#32 | 11 => 4#32 | 12 => 4#32 | 13 => 4#32 | 14 => 4#32 | 15 => 5#32
  | 16 => 5#32 | 17 => 5#32 | 18 => 5#32 | 19 => 5#32 | 20 => 5#32 | 21 => 6#32 | 22 => 6#32 | 23 => 6#32
  | 24 => 6#32 | 25 => 6#32 | 26 => 6#32 | 27 => 6#32 | 28 => 7#32 | 29 => 7#32 | 30 => 7#32 | 31 => 7#32
  | 32 => 7#32 | 33 => 7#32 | 34 => 7#32 | 35 => 7#32 | 36 => 8#32 | 37 => 8#32 | 38 => 8#32 | 39 => 8#32
  | 40 => 8#32 | 41 => 8#32 | 42 => 8#32 | 43 => 8#32 | 44 => 8#32 | 45 => 9#32 | 46 => 9#32 | 47 => 9#32
  | 48 => 9#32 | 49 => 9#32 | 50 => 9#32 | 51 => 9#32 | 52 => 9#32 | 53 => 9#32 | 54 => 9#32 | 55 => 10#32
  | 56 => 10#32 | 57 => 10#32 | 58 => 10#32 | 59 => 10#32 | 60 => 10#32 | 61 => 10#32 | 62 => 10#32 | 63 => 10#32
  | 64 => 10#32 | 65 => 10#32 | 66 => 11#32 | 67 => 11#32 | 68 => 11#32 | 69 => 11#32 | 70 => 11#32 | 71 => 11#32
  | 72 => 11#32 | 73 => 11#32 | 74 => 11#32 | 75 => 11#32 | 76 => 11#32 | 77 => 11#32 | 78 => 12#32 | 79 => 12#32
  | 80 => 12#32 | 81 => 12#32 | 82 => 12#32 | 83 => 12#32 | 84 => 12#32 | 85 => 12#32 | 86 => 12#32 | 87 => 12#32
  | 88 => 12#32 | 89 => 12#32 | 90 => 12#32 | 91 => 13#32 | 92 => 13#32 | 93 => 13#32 | 94 => 13#32 | 95 => 13#32
  | 96 => 13#32 | 97 => 13#32 | 98 => 13#32 | 99 => 13#32 | 100 => 13#32 | 101 => 13#32 | 102 => 13#32 | 103 => 13#32
  | 104 => 13#32 | 105 => 14#32 | 106 => 14#32 | 107 => 14#32 | 108 => 14#32 | 109 => 14#32 | 110 => 14#32 | 111 => 14#32
  | 112 => 14#32 | 113 => 14#32 | 114 => 14#32 | 115 => 14#32 | 116 => 14#32 | 117 => 14#32 | 118 => 14#32 | 119 => 14#32
  | 120 => 15#32 | 121 => 15#32 | 122 => 15#32 | 123 => 15#32 | 124 => 15#32 | 125 => 15#32 | 126 => 15#32 | 127 => 15#32
  | 128 => 15#32 | 129 => 15#32 | 130 => 15#32 | 131 => 15#32 | 132 => 15#32 | 133 => 15#32 | 134 => 15#32 | 135 => 15#32
  | _ => 0#32

noncomputable abbrev lit1 : Fin 136 → BitVec 32 := fun
  | 0 => 0#32 | 1 => 0#32 | 2 => 1#32 | 3 => 0#32 | 4 => 1#32 | 5 => 2#32 | 6 => 0#32 | 7 => 1#32
  | 8 => 2#32 | 9 => 3#32 | 10 => 0#32 | 11 => 1#32 | 12 => 2#32 | 13 => 3#32 | 14 => 4#32 | 15 => 0#32
  | 16 => 1#32 | 17 => 2#32 | 18 => 3#32 | 19 => 4#32 | 20 => 5#32 | 21 => 0#32 | 22 => 1#32 | 23 => 2#32
  | 24 => 3#32 | 25 => 4#32 | 26 => 5#32 | 27 => 6#32 | 28 => 0#32 | 29 => 1#32 | 30 => 2#32 | 31 => 3#32
  | 32 => 4#32 | 33 => 5#32 | 34 => 6#32 | 35 => 7#32 | 36 => 0#32 | 37 => 1#32 | 38 => 2#32 | 39 => 3#32
  | 40 => 4#32 | 41 => 5#32 | 42 => 6#32 | 43 => 7#32 | 44 => 8#32 | 45 => 0#32 | 46 => 1#32 | 47 => 2#32
  | 48 => 3#32 | 49 => 4#32 | 50 => 5#32 | 51 => 6#32 | 52 => 7#32 | 53 => 8#32 | 54 => 9#32 | 55 => 0#32
  | 56 => 1#32 | 57 => 2#32 | 58 => 3#32 | 59 => 4#32 | 60 => 5#32 | 61 => 6#32 | 62 => 7#32 | 63 => 8#32
  | 64 => 9#32 | 65 => 10#32 | 66 => 0#32 | 67 => 1#32 | 68 => 2#32 | 69 => 3#32 | 70 => 4#32 | 71 => 5#32
  | 72 => 6#32 | 73 => 7#32 | 74 => 8#32 | 75 => 9#32 | 76 => 10#32 | 77 => 11#32 | 78 => 0#32 | 79 => 1#32
  | 80 => 2#32 | 81 => 3#32 | 82 => 4#32 | 83 => 5#32 | 84 => 6#32 | 85 => 7#32 | 86 => 8#32 | 87 => 9#32
  | 88 => 10#32 | 89 => 11#32 | 90 => 12#32 | 91 => 0#32 | 92 => 1#32 | 93 => 2#32 | 94 => 3#32 | 95 => 4#32
  | 96 => 5#32 | 97 => 6#32 | 98 => 7#32 | 99 => 8#32 | 100 => 9#32 | 101 => 10#32 | 102 => 11#32 | 103 => 12#32
  | 104 => 13#32 | 105 => 0#32 | 106 => 1#32 | 107 => 2#32 | 108 => 3#32 | 109 => 4#32 | 110 => 5#32 | 111 => 6#32
  | 112 => 7#32 | 113 => 8#32 | 114 => 9#32 | 115 => 10#32 | 116 => 11#32 | 117 => 12#32 | 118 => 13#32 | 119 => 14#32
  | 120 => 0#32 | 121 => 1#32 | 122 => 2#32 | 123 => 3#32 | 124 => 4#32 | 125 => 5#32 | 126 => 6#32 | 127 => 7#32
  | 128 => 8#32 | 129 => 9#32 | 130 => 10#32 | 131 => 11#32 | 132 => 12#32 | 133 => 13#32 | 134 => 14#32 | 135 => 15#32
  | _ => 0#32

def fn {F : FTy → Type} [FloatOps F] (main_arg0 : IVec S136 32) (main_arg1 : IVec S136 32) (main_arg2 : FVec F S8x80x8192 .bf16) (main_arg3 : FVec F S8x8192x80 .bf16) (main_arg4 : FVec F S8x64x8192 .bf16) : IVec S136 1 × IVec S136 1 :=
  let main_c : IVec S136 32 := fun i => lit0 (S136.rowMajor i)
  let main_c_0 : IVec S136 32 := fun i => lit1 (S136.rowMajor i)
  let main_v0 : IVec S136 1 := cmpi .eq main_arg0 main_c
  let main_v1 : IVec S136 1 := cmpi .eq main_arg1 main_c_0
  (main_v0, main_v1)
-- ==== Kernel.lean ====
abbrev S8192x1024 : Shape := ⟨2, ![8192, 1024]⟩
abbrev S256x2048 : Shape := ⟨2, ![256, 2048]⟩
abbrev S512x1024 : Shape := ⟨2, ![512, 1024]⟩
abbrev S256x1024 : Shape := ⟨2, ![256, 1024]⟩
abbrev S512x256 : Shape := ⟨2, ![512, 256]⟩
abbrev S256x256 : Shape := ⟨2, ![256, 256]⟩
abbrev S512 : Shape := ⟨1, ![512]⟩
abbrev S512x1 : Shape := ⟨2, ![512, 1]⟩

abbrev nBuf : Space → Nat
  | .hbm => 5
  | .vmem => 9
  | .smem => 0
  | _ => 0

abbrev bufTy : (tb : Table) → Fin (tcTables nBuf tb) → BufTy
  | .hbm, ⟨0, _⟩ => ⟨S8192x1024, .bf16⟩
  | .hbm, ⟨1, _⟩ => ⟨S256x2048, .bf16⟩
  | .hbm, ⟨2, _⟩ => ⟨S8192x1024, .bf16⟩
  | .hbm, ⟨3, _⟩ => ⟨S8192x1024, .bf16⟩
  | .hbm, ⟨4, _⟩ => ⟨S256x2048, .f32⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S256x1024, .bf16⟩
  | .local _ .vmem, ⟨5, _⟩ => ⟨S256x1024, .bf16⟩
  | .local _ .vmem, ⟨6, _⟩ => ⟨S512x1024, .bf16⟩
  | .local _ .vmem, ⟨7, _⟩ => ⟨S512x1024, .bf16⟩
  | .local _ .vmem, ⟨8, _⟩ => ⟨S256x2048, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c1_i32 : BitVec 32 := 1#32
  let c0_i32_0 : BitVec 32 := 0#32
  ![c0_i32.toNat, c1_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S256x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== ReferenceIdeal.lean ====
abbrev S8192x1024 : Shape := ⟨2, ![8192, 1024]⟩
abbrev S256x2048 : Shape := ⟨2, ![256, 2048]⟩
abbrev S256x1024 : Shape := ⟨2, ![256, 1024]⟩
abbrev S8192x4x256 : Shape := ⟨3, ![8192, 4, 256]⟩
abbrev S256x4x256 : Shape := ⟨3, ![256, 4, 256]⟩
abbrev S4x8192x256 : Shape := ⟨3, ![4, 8192, 256]⟩
abbrev S_ : Shape := ⟨0, ![]⟩
abbrev S4x8192 : Shape := ⟨2, ![4, 8192]⟩
abbrev S4x8192x1 : Shape := ⟨3, ![4, 8192, 1]⟩
abbrev S4x256x8192 : Shape := ⟨3, ![4, 256, 8192]⟩
abbrev S4x256x256 : Shape := ⟨3, ![4, 256, 256]⟩

abbrev nBuf : Space → Nat
  | .hbm => 87
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S256x2048, .bf16⟩
  | .hbm, ⟨2, _⟩ => ⟨S8192x1024, .bf16⟩
  | .hbm, ⟨3, _⟩ => ⟨S8192x1024, .f32⟩
  | .hbm, ⟨4, _⟩ => ⟨S256x2048, .f32⟩
  | .hbm, ⟨5, _⟩ => ⟨S256x1024, .f32⟩
  | .hbm, ⟨6, _⟩ => ⟨S256x1024, .f32⟩
  | .hbm, ⟨7, _⟩ => ⟨S8192x4x256, .f32⟩
  | .hbm, ⟨8, _⟩ => ⟨S256x4x256, .f32⟩
  | .hbm, ⟨9, _⟩ => ⟨S256x4x256, .f32⟩
  | .hbm, ⟨10, _⟩ => ⟨S4x8192x256, .f32⟩
  | .hbm, ⟨11, _⟩ => ⟨S_, .f32⟩
  | .hbm, ⟨12, _⟩ => ⟨S4x8192x256, .f32⟩
  | .hbm, ⟨13, _⟩ => ⟨S4x8192x256, .f32⟩
  | .hbm, ⟨14, _⟩ => ⟨S_, .f32⟩
  | .hbm, ⟨15, _⟩ => ⟨S4x8192, .f32⟩
  | .hbm, ⟨16, _⟩ => ⟨S4x8192x1, .f32⟩
  | .hbm, ⟨17, _⟩ => ⟨S4x8192x256, .f32⟩
  | .hbm, ⟨18, _⟩ => ⟨S4x8192x256, .i1⟩
  | .hbm, ⟨19, _⟩ => ⟨S4x8192x256, .f32⟩
  | .hbm, ⟨20, _⟩ => ⟨S_, .f32⟩
  | .hbm, ⟨21, _⟩ => ⟨S4x8192, .f32⟩
  | .hbm, ⟨22, _⟩ => ⟨S_, .f32⟩
  | .hbm, ⟨23, _⟩ => ⟨S4x8192, .f32⟩
  | .hbm, ⟨24, _⟩ => ⟨S4x8192, .f32⟩
  | .hbm, ⟨25, _⟩ => ⟨S_, .f32⟩
  | .hbm, ⟨26, _⟩ => ⟨S4x8192, .f32⟩
  | .hbm, ⟨27, _⟩ => ⟨S4x8192, .i1⟩
  | .hbm, ⟨28, _⟩ => ⟨S_, .f32⟩
  | .hbm, ⟨29, _⟩ => ⟨S4x8192, .f32⟩
  | .hbm, ⟨30, _⟩ => ⟨S4x8192, .i1⟩
  | .hbm, ⟨31, _⟩ => ⟨S_, .f32⟩
  | .hbm, ⟨32, _⟩ => ⟨S4x8192, .f32⟩
  | .hbm, ⟨33, _⟩ => ⟨S_, .f32⟩
  | .hbm, ⟨34, _⟩ => ⟨S4x8192, .f32⟩
  | .hbm, ⟨35, _⟩ => ⟨S_, .f32⟩
  | .hbm, ⟨36, _⟩ => ⟨S4x8192, .f32⟩
  | .hbm, ⟨37, _⟩ => ⟨S4x8192, .f32⟩
  | .hbm, ⟨38, _⟩ => ⟨S4x8192, .f32⟩
  | .hbm, ⟨39, _⟩ => ⟨S4x8192x1, .f32⟩
  | .hbm, ⟨40, _⟩ => ⟨S4x8192x256, .f32⟩
  | .hbm, ⟨41, _⟩ => ⟨S4x8192x256, .f32⟩
  | .hbm, ⟨42, _⟩ => ⟨S4x8192x256, .f32⟩
  | .hbm, ⟨43, _⟩ => ⟨S_, .f32⟩
  | .hbm, ⟨44, _⟩ => ⟨S4x8192, .f32⟩
  | .hbm, ⟨45, _⟩ => ⟨S4x8192x1, .f32⟩
  | .hbm, ⟨46, _⟩ => ⟨S4x8192x256, .f32⟩
  | .hbm, ⟨47, _⟩ => ⟨S4x8192x256, .f32⟩
  | .hbm, ⟨48, _⟩ => ⟨S4x8192x1, .f32⟩
  | .hbm, ⟨49, _⟩ => ⟨S_, .f32⟩
  | .hbm, ⟨50, _⟩ => ⟨S4x8192x1, .f32⟩
  | .hbm, ⟨51, _⟩ => ⟨S4x8192x1, .f32⟩
  | .hbm, ⟨52, _⟩ => ⟨S4x256x8192, .f32⟩
  | .hbm, ⟨53, _⟩ => ⟨S8192x4x256, .f32⟩
  | .hbm, ⟨54, _⟩ => ⟨S8192x1024, .f32⟩
  | .hbm, ⟨55, _⟩ => ⟨S8192x1024, .f32⟩
  | .hbm, ⟨56, _⟩ => ⟨S8192x4x256, .f32⟩
  | .hbm, ⟨57, _⟩ => ⟨S4x256x8192, .f32⟩
  | .hbm, ⟨58, _⟩ => ⟨S4x8192x256, .f32⟩
  | .hbm, ⟨59, _⟩ => ⟨S4x256x256, .f32⟩
  | .hbm, ⟨60, _⟩ => ⟨S256x4x256, .f32⟩
  | .hbm, ⟨61, _⟩ => ⟨S4x8192x256, .f32⟩
  | .hbm, ⟨62, _⟩ => ⟨S4x8192x256, .f32⟩
  | .hbm, ⟨63, _⟩ => ⟨S4x8192x256, .f32⟩
  | .hbm, ⟨64, _⟩ => ⟨S_, .f32⟩
  | .hbm, ⟨65, _⟩ => ⟨S4x8192, .f32⟩
  | .hbm, ⟨66, _⟩ => ⟨S4x8192x1, .f32⟩
  | .hbm, ⟨67, _⟩ => ⟨S4x8192x1, .f32⟩
  | .hbm, ⟨68, _⟩ => ⟨S4x8192x256, .f32⟩
  | .hbm, ⟨69, _⟩ => ⟨S4x8192x256, .f32⟩
  | .hbm, ⟨70, _⟩ => ⟨S_, .f32⟩
  | .hbm, ⟨71, _⟩ => ⟨S4x8192, .f32⟩
  | .hbm, ⟨72, _⟩ => ⟨S4x8192x256, .f32⟩
  | .hbm, ⟨73, _⟩ => ⟨S4x8192x256, .f32⟩
  | .hbm, ⟨74, _⟩ => ⟨S4x8192x256, .f32⟩
  | .hbm, ⟨75, _⟩ => ⟨S_, .f32⟩
  | .hbm, ⟨76, _⟩ => ⟨S4x8192x256, .f32⟩
  | .hbm, ⟨77, _⟩ => ⟨S4x8192x256, .f32⟩
  | .hbm, ⟨78, _⟩ => ⟨S4x256x256, .f32⟩
  | .hbm, ⟨79, _⟩ => ⟨S256x4x256, .f32⟩
  | .hbm, ⟨80, _⟩ => ⟨S4x8192x256, .f32⟩
  | .hbm, ⟨81, _⟩ => ⟨S8192x4x256, .f32⟩
  | .hbm, ⟨82, _⟩ => ⟨S256x1024, .f32⟩
  | .hbm, ⟨83, _⟩ => ⟨S256x1024, .f32⟩
  | .hbm, ⟨84, _⟩ => ⟨S8192x1024, .f32⟩
  | .hbm, ⟨85, _⟩ => ⟨S256x2048, .f32⟩
  | .hbm, ⟨86, _⟩ => ⟨S8192x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst : Ref sig .tc := ⟨.hbm, 11, rfl⟩
abbrev main_v8 : Ref sig .tc := ⟨.hbm, 12, rfl⟩
abbrev main_v9 : Ref sig .tc := ⟨.hbm, 13, rfl⟩
abbrev main_cst_0 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst_1 : Ref sig .tc := ⟨.hbm, 20, rfl⟩
abbrev main_v15 : Ref sig .tc := ⟨.hbm, 21, rfl⟩
abbrev main_cst_2 : Ref sig .tc := ⟨.hbm, 22, rfl⟩
abbrev main_v16 : Ref sig .tc := ⟨.hbm, 23, rfl⟩
abbrev main_v17 : Ref sig .tc := ⟨.hbm, 24, rfl⟩
abbrev main_cst_3 : Ref sig .tc := ⟨.hbm, 25, rfl⟩
abbrev main_v18 : Ref sig .tc := ⟨.hbm, 26, rfl⟩
abbrev main_v19 : Ref sig .tc := ⟨.hbm, 27, rfl⟩
abbrev main_cst_4 : Ref sig .tc := ⟨.hbm, 28, rfl⟩
abbrev main_v20 : Ref sig .tc := ⟨.hbm, 29, rfl⟩
abbrev main_v21 : Ref sig .tc := ⟨.hbm, 30, rfl⟩
abbrev main_cst_5 : Ref sig .tc := ⟨.hbm, 31, rfl⟩
abbrev main_v22 : Ref sig .tc := ⟨.hbm, 32, rfl⟩
abbrev main_cst_6 : Ref sig .tc := ⟨.hbm, 33, rfl⟩
abbrev main_v23 : Ref sig .tc := ⟨.hbm, 34, rfl⟩
abbrev main_cst_7 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_8 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_cst_9 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_cst_10 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_cst_11 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_cst_12 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩

abbrev nD : Nat := 1
abbrev τ : Topo := Topo.v7x

variable {F : FTy → Type} [FloatOps F]
-- ==== Kernel2.lean ====
abbrev S8192x1024 : Shape := ⟨2, ![8192, 1024]⟩
abbrev S8192x7168 : Shape := ⟨2, ![8192, 7168]⟩
abbrev S1x3072 : Shape := ⟨2, ![1, 3072]⟩
abbrev S8192x3072 : Shape := ⟨2, ![8192, 3072]⟩
abbrev S256x1024 : Shape := ⟨2, ![256, 1024]⟩
abbrev S256x3072 : Shape := ⟨2, ![256, 3072]⟩
abbrev S1x1024 : Shape := ⟨2, ![1, 1024]⟩
abbrev S3072 : Shape := ⟨1, ![3072]⟩

abbrev nBuf : Space → Nat
  | .hbm => 11
  | .vmem => 24
  | .smem => 0
  | _ => 0

abbrev bufTy : (tb : Table) → Fin (tcTables nBuf tb) → BufTy
  | .hbm, ⟨0, _⟩ => ⟨S8192x1024, .bf16⟩
  | .hbm, ⟨1, _⟩ => ⟨S8192x7168, .bf16⟩
  | .hbm, ⟨2, _⟩ => ⟨S8192x1024, .bf16⟩
  | .hbm, ⟨3, _⟩ => ⟨S8192x1024, .bf16⟩
  | .hbm, ⟨4, _⟩ => ⟨S8192x1024, .bf16⟩
  | .hbm, ⟨5, _⟩ => ⟨S1x3072, .f32⟩
  | .hbm, ⟨6, _⟩ => ⟨S8192x1024, .bf16⟩
  | .hbm, ⟨7, _⟩ => ⟨S8192x1024, .bf16⟩
  | .hbm, ⟨8, _⟩ => ⟨S8192x1024, .bf16⟩
  | .hbm, ⟨9, _⟩ => ⟨S8192x3072, .bf16⟩
  | .hbm, ⟨10, _⟩ => ⟨S1x3072, .f32⟩
  | .local _ .vmem, ⟨0, _⟩ => ⟨S256x1024, .bf16⟩
  | .local _ .vmem, ⟨1, _⟩ => ⟨S256x1024, .bf16⟩
  | .local _ .vmem, ⟨2, _⟩ => ⟨S256x1024, .bf16⟩
  | .local _ .vmem, ⟨3, _⟩ => ⟨S256x1024, .bf16⟩
  | .local _ .vmem, ⟨4, _⟩ => ⟨S256x1024, .bf16⟩
  | .local _ .vmem, ⟨5, _⟩ => ⟨S256x1024, .bf16⟩
  | .local _ .vmem, ⟨6, _⟩ => ⟨S256x1024, .bf16⟩
  | .local _ .vmem, ⟨7, _⟩ => ⟨S256x1024, .bf16⟩
  | .local _ .vmem, ⟨8, _⟩ => ⟨S256x1024, .bf16⟩
  | .local _ .vmem, ⟨9, _⟩ => ⟨S256x1024, .bf16⟩
  | .local _ .vmem, ⟨10, _⟩ => ⟨S256x1024, .bf16⟩
  | .local _ .vmem, ⟨11, _⟩ => ⟨S256x1024, .bf16⟩
  | .local _ .vmem, ⟨12, _⟩ => ⟨S256x1024, .bf16⟩
  | .local _ .vmem, ⟨13, _⟩ => ⟨S256x1024, .bf16⟩
  | .local _ .vmem, ⟨14, _⟩ => ⟨S1x3072, .f32⟩
  | .local _ .vmem, ⟨15, _⟩ => ⟨S256x1024, .bf16⟩
  | .local _ .vmem, ⟨16, _⟩ => ⟨S256x1024, .bf16⟩
  | .local _ .vmem, ⟨17, _⟩ => ⟨S256x1024, .bf16⟩
  | .local _ .vmem, ⟨18, _⟩ => ⟨S256x1024, .bf16⟩
  | .local _ .vmem, ⟨19, _⟩ => ⟨S256x1024, .bf16⟩
  | .local _ .vmem, ⟨20, _⟩ => ⟨S256x1024, .bf16⟩
  | .local _ .vmem, ⟨21, _⟩ => ⟨S256x3072, .bf16⟩
  | .local _ .vmem, ⟨22, _⟩ => ⟨S256x3072, .bf16⟩
  | .local _ .vmem, ⟨23, _⟩ => ⟨S1x3072, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev main_v0_4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_stg11_1 : Ref sig .tc := ⟨.vmem, 22, rfl⟩
abbrev cc0_stg12_0 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22
abbrev cc0_sem12_0 : DmaSem sig := 23

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_2 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_3 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x3072 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x3072 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S1x3072 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]
-- ==== Reference2Ideal.lean ====
abbrev S8192x1024 : Shape := ⟨2, ![8192, 1024]⟩
abbrev S8192x7168 : Shape := ⟨2, ![8192, 7168]⟩
abbrev S1x3072 : Shape := ⟨2, ![1, 3072]⟩
abbrev S8192x3072 : Shape := ⟨2, ![8192, 3072]⟩
abbrev S_ : Shape := ⟨0, ![]⟩
abbrev S8192x3x1024 : Shape := ⟨3, ![8192, 3, 1024]⟩
abbrev S8192x1x1024 : Shape := ⟨3, ![8192, 1, 1024]⟩
abbrev S3072 : Shape := ⟨1, ![3072]⟩

abbrev nBuf : Space → Nat
  | .hbm => 64
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x7168, .bf16⟩
  | .hbm, ⟨2, _⟩ => ⟨S8192x1024, .bf16⟩
  | .hbm, ⟨3, _⟩ => ⟨S8192x1024, .bf16⟩
  | .hbm, ⟨4, _⟩ => ⟨S8192x1024, .bf16⟩
  | .hbm, ⟨5, _⟩ => ⟨S1x3072, .f32⟩
  | .hbm, ⟨6, _⟩ => ⟨S8192x3072, .bf16⟩
  | .hbm, ⟨7, _⟩ => ⟨S8192x3072, .f32⟩
  | .hbm, ⟨8, _⟩ => ⟨S8192x1024, .f32⟩
  | .hbm, ⟨9, _⟩ => ⟨S8192x1024, .f32⟩
  | .hbm, ⟨10, _⟩ => ⟨S8192x1024, .f32⟩
  | .hbm, ⟨11, _⟩ => ⟨S8192x3072, .f32⟩
  | .hbm, ⟨12, _⟩ => ⟨S8192x3072, .f32⟩
  | .hbm, ⟨13, _⟩ => ⟨S8192x3072, .f32⟩
  | .hbm, ⟨14, _⟩ => ⟨S8192x3072, .f32⟩
  | .hbm, ⟨15, _⟩ => ⟨S_, .f32⟩
  | .hbm, ⟨16, _⟩ => ⟨S8192x3072, .f32⟩
  | .hbm, ⟨17, _⟩ => ⟨S8192x3072, .f32⟩
  | .hbm, ⟨18, _⟩ => ⟨S_, .f32⟩
  | .hbm, ⟨19, _⟩ => ⟨S8192x3072, .f32⟩
  | .hbm, ⟨20, _⟩ => ⟨S8192x3072, .f32⟩
  | .hbm, ⟨21, _⟩ => ⟨S_, .f32⟩
  | .hbm, ⟨22, _⟩ => ⟨S8192x3072, .f32⟩
  | .hbm, ⟨23, _⟩ => ⟨S8192x3072, .f32⟩
  | .hbm, ⟨24, _⟩ => ⟨S8192x3072, .f32⟩
  | .hbm, ⟨25, _⟩ => ⟨S8192x3x1024, .f32⟩
  | .hbm, ⟨26, _⟩ => ⟨S8192x1x1024, .f32⟩
  | .hbm, ⟨27, _⟩ => ⟨S8192x1024, .f32⟩
  | .hbm, ⟨28, _⟩ => ⟨S8192x1024, .f32⟩
  | .hbm, ⟨29, _⟩ => ⟨S8192x1x1024, .f32⟩
  | .hbm, ⟨30, _⟩ => ⟨S8192x1024, .f32⟩
  | .hbm, ⟨31, _⟩ => ⟨S8192x1024, .f32⟩
  | .hbm, ⟨32, _⟩ => ⟨S8192x1024, .f32⟩
  | .hbm, ⟨33, _⟩ => ⟨S8192x1x1024, .f32⟩
  | .hbm, ⟨34, _⟩ => ⟨S8192x1024, .f32⟩
  | .hbm, ⟨35, _⟩ => ⟨S8192x1024, .f32⟩
  | .hbm, ⟨36, _⟩ => ⟨S8192x1024, .f32⟩
  | .hbm, ⟨37, _⟩ => ⟨S8192x1024, .f32⟩
  | .hbm, ⟨38, _⟩ => ⟨S8192x1024, .f32⟩
  | .hbm, ⟨39, _⟩ => ⟨S8192x1024, .f32⟩
  | .hbm, ⟨40, _⟩ => ⟨S8192x1x1024, .f32⟩
  | .hbm, ⟨41, _⟩ => ⟨S_, .f32⟩
  | .hbm, ⟨42, _⟩ => ⟨S8192x3x1024, .f32⟩
  | .hbm, ⟨43, _⟩ => ⟨S8192x1024, .f32⟩
  | .hbm, ⟨44, _⟩ => ⟨S8192x1024, .f32⟩
  | .hbm, ⟨45, _⟩ => ⟨S8192x1x1024, .f32⟩
  | .hbm, ⟨46, _⟩ => ⟨S_, .f32⟩
  | .hbm, ⟨47, _⟩ => ⟨S8192x3x1024, .f32⟩
  | .hbm, ⟨48, _⟩ => ⟨S8192x3x1024, .f32⟩
  | .hbm, ⟨49, _⟩ => ⟨S8192x1024, .f32⟩
  | .hbm, ⟨50, _⟩ => ⟨S8192x1024, .f32⟩
  | .hbm, ⟨51, _⟩ => ⟨S8192x1x1024, .f32⟩
  | .hbm, ⟨52, _⟩ => ⟨S_, .f32⟩
  | .hbm, ⟨53, _⟩ => ⟨S8192x3x1024, .f32⟩
  | .hbm, ⟨54, _⟩ => ⟨S8192x3x1024, .f32⟩
  | .hbm, ⟨55, _⟩ => ⟨S8192x3072, .f32⟩
  | .hbm, ⟨56, _⟩ => ⟨S8192x3072, .f32⟩
  | .hbm, ⟨57, _⟩ => ⟨S_, .f32⟩
  | .hbm, ⟨58, _⟩ => ⟨S3072, .f32⟩
  | .hbm, ⟨59, _⟩ => ⟨S1x3072, .f32⟩
  | .hbm, ⟨60, _⟩ => ⟨S8192x1024, .bf16⟩
  | .hbm, ⟨61, _⟩ => ⟨S8192x1024, .bf16⟩
  | .hbm, ⟨62, _⟩ => ⟨S8192x1024, .bf16⟩
  | .hbm, ⟨63, _⟩ => ⟨S8192x3072, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst : Ref sig .tc := ⟨.hbm, 15, rfl⟩
abbrev main_v9 : Ref sig .tc := ⟨.hbm, 16, rfl⟩
abbrev main_v10 : Ref sig .tc := ⟨.hbm, 17, rfl⟩
abbrev main_cst_0 : Ref sig .tc := ⟨.hbm, 18, rfl⟩
abbrev main_v11 : Ref sig .tc := ⟨.hbm, 19, rfl⟩
abbrev main_v12 : Ref sig .tc := ⟨.hbm, 20, rfl⟩
abbrev main_cst_1 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_cst_2 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_cst_3 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_cst_4 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_cst_5 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩

abbrev nD : Nat := 1
abbrev τ : Topo := Topo.v7x

variable {F : FTy → Type} [FloatOps F]
-- ==== Kernel3.lean ====
abbrev S8192x512 : Shape := ⟨2, ![8192, 512]⟩
abbrev S4x128x128 : Shape := ⟨3, ![4, 128, 128]⟩
abbrev S1x512 : Shape := ⟨2, ![1, 512]⟩
abbrev S256x512 : Shape := ⟨2, ![256, 512]⟩
abbrev S16x512 : Shape := ⟨2, ![16, 512]⟩
abbrev S272x512 : Shape := ⟨2, ![272, 512]⟩
abbrev S272x128 : Shape := ⟨2, ![272, 128]⟩
abbrev S1x128x128 : Shape := ⟨3, ![1, 128, 128]⟩
abbrev S128x128 : Shape := ⟨2, ![128, 128]⟩
abbrev S256x128 : Shape := ⟨2, ![256, 128]⟩
abbrev S128 : Shape := ⟨1, ![128]⟩
abbrev S1x128 : Shape := ⟨2, ![1, 128]⟩

abbrev nBuf : Space → Nat
  | .hbm => 7
  | .vmem => 12
  | .smem => 0
  | _ => 0

abbrev bufTy : (tb : Table) → Fin (tcTables nBuf tb) → BufTy
  | .hbm, ⟨0, _⟩ => ⟨S8192x512, .bf16⟩
  | .hbm, ⟨1, _⟩ => ⟨S8192x512, .bf16⟩
  | .hbm, ⟨2, _⟩ => ⟨S4x128x128, .f32⟩
  | .hbm, ⟨3, _⟩ => ⟨S1x512, .f32⟩
  | .hbm, ⟨4, _⟩ => ⟨S8192x512, .bf16⟩
  | .hbm, ⟨5, _⟩ => ⟨S4x128x128, .f32⟩
  | .hbm, ⟨6, _⟩ => ⟨S1x512, .f32⟩
  | .local _ .vmem, ⟨0, _⟩ => ⟨S256x512, .bf16⟩
  | .local _ .vmem, ⟨1, _⟩ => ⟨S256x512, .bf16⟩
  | .local _ .vmem, ⟨2, _⟩ => ⟨S16x512, .bf16⟩
  | .local _ .vmem, ⟨3, _⟩ => ⟨S16x512, .bf16⟩
  | .local _ .vmem, ⟨4, _⟩ => ⟨S256x512, .bf16⟩
  | .local _ .vmem, ⟨5, _⟩ => ⟨S256x512, .bf16⟩
  | .local _ .vmem, ⟨6, _⟩ => ⟨S4x128x128, .f32⟩
  | .local _ .vmem, ⟨7, _⟩ => ⟨S1x512, .f32⟩
  | .local _ .vmem, ⟨8, _⟩ => ⟨S256x512, .bf16⟩
  | .local _ .vmem, ⟨9, _⟩ => ⟨S256x512, .bf16⟩
  | .local _ .vmem, ⟨10, _⟩ => ⟨S4x128x128, .f32⟩
  | .local _ .vmem, ⟨11, _⟩ => ⟨S1x512, .f32⟩
  | _, _ => ⟨S8192x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem7_0 : DmaSem sig := 11

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let v0 : BitVec 32 := Scalar.addi arg0 c1_i32
  let c16_i32 : BitVec 32 := 16#32
  let v1 : BitVec 32 := Scalar.muli v0 c16_i32
  let c511_i32 : BitVec 32 := 511#32
  let v2 : BitVec 32 := Scalar.minsi v1 c511_i32
  let c0_i32 : BitVec 32 := 0#32
  let c0_i32_0 : BitVec 32 := 0#32
  ![v2.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S4x128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S4x128x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== Kernel4.lean ====
abbrev S8192x1024 : Shape := ⟨2, ![8192, 1024]⟩
abbrev S2816x1024 : Shape := ⟨2, ![2816, 1024]⟩
abbrev S8192x2816 : Shape := ⟨2, ![8192, 2816]⟩
abbrev S1024x1024 : Shape := ⟨2, ![1024, 1024]⟩
abbrev S1408x1024 : Shape := ⟨2, ![1408, 1024]⟩
abbrev S1024x1408 : Shape := ⟨2, ![1024, 1408]⟩

abbrev nBuf : Space → Nat
  | .hbm => 6
  | .vmem => 12
  | .smem => 0
  | _ => 0

abbrev bufTy : (tb : Table) → Fin (tcTables nBuf tb) → BufTy
  | .hbm, ⟨0, _⟩ => ⟨S8192x1024, .f32⟩
  | .hbm, ⟨1, _⟩ => ⟨S2816x1024, .bf16⟩
  | .hbm, ⟨2, _⟩ => ⟨S8192x2816, .bf16⟩
  | .hbm, ⟨3, _⟩ => ⟨S8192x2816, .bf16⟩
  | .hbm, ⟨4, _⟩ => ⟨S8192x2816, .bf16⟩
  | .hbm, ⟨5, _⟩ => ⟨S8192x2816, .bf16⟩
  | .local _ .vmem, ⟨0, _⟩ => ⟨S1024x1024, .f32⟩
  | .local _ .vmem, ⟨1, _⟩ => ⟨S1024x1024, .f32⟩
  | .local _ .vmem, ⟨2, _⟩ => ⟨S1408x1024, .bf16⟩
  | .local _ .vmem, ⟨3, _⟩ => ⟨S1408x1024, .bf16⟩
  | .local _ .vmem, ⟨4, _⟩ => ⟨S1024x1408, .bf16⟩
  | .local _ .vmem, ⟨5, _⟩ => ⟨S1024x1408, .bf16⟩
  | .local _ .vmem, ⟨6, _⟩ => ⟨S1024x1408, .bf16⟩
  | .local _ .vmem, ⟨7, _⟩ => ⟨S1024x1408, .bf16⟩
  | .local _ .vmem, ⟨8, _⟩ => ⟨S1024x1408, .bf16⟩
  | .local _ .vmem, ⟨9, _⟩ => ⟨S1024x1408, .bf16⟩
  | .local _ .vmem, ⟨10, _⟩ => ⟨S1024x1408, .bf16⟩
  | .local _ .vmem, ⟨11, _⟩ => ⟨S1024x1408, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![8, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x1408 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference4Ideal.lean ====
abbrev S8192x1024 : Shape := ⟨2, ![8192, 1024]⟩
abbrev S2816x1024 : Shape := ⟨2, ![2816, 1024]⟩
abbrev S8192x2816 : Shape := ⟨2, ![8192, 2816]⟩
abbrev S_ : Shape := ⟨0, ![]⟩
abbrev S1024x2816 : Shape := ⟨2, ![1024, 2816]⟩

abbrev nBuf : Space → Nat
  | .hbm => 39
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S2816x1024, .bf16⟩
  | .hbm, ⟨2, _⟩ => ⟨S8192x2816, .bf16⟩
  | .hbm, ⟨3, _⟩ => ⟨S8192x2816, .bf16⟩
  | .hbm, ⟨4, _⟩ => ⟨S8192x2816, .f32⟩
  | .hbm, ⟨5, _⟩ => ⟨S8192x2816, .f32⟩
  | .hbm, ⟨6, _⟩ => ⟨S2816x1024, .f32⟩
  | .hbm, ⟨7, _⟩ => ⟨S8192x2816, .f32⟩
  | .hbm, ⟨8, _⟩ => ⟨S8192x2816, .f32⟩
  | .hbm, ⟨9, _⟩ => ⟨S_, .f32⟩
  | .hbm, ⟨10, _⟩ => ⟨S8192x2816, .f32⟩
  | .hbm, ⟨11, _⟩ => ⟨S8192x2816, .f32⟩
  | .hbm, ⟨12, _⟩ => ⟨S_, .f32⟩
  | .hbm, ⟨13, _⟩ => ⟨S8192x2816, .f32⟩
  | .hbm, ⟨14, _⟩ => ⟨S8192x2816, .f32⟩
  | .hbm, ⟨15, _⟩ => ⟨S_, .f32⟩
  | .hbm, ⟨16, _⟩ => ⟨S8192x2816, .f32⟩
  | .hbm, ⟨17, _⟩ => ⟨S8192x2816, .f32⟩
  | .hbm, ⟨18, _⟩ => ⟨S8192x2816, .f32⟩
  | .hbm, ⟨19, _⟩ => ⟨S8192x2816, .f32⟩
  | .hbm, ⟨20, _⟩ => ⟨S8192x2816, .f32⟩
  | .hbm, ⟨21, _⟩ => ⟨S8192x1024, .f32⟩
  | .hbm, ⟨22, _⟩ => ⟨S_, .f32⟩
  | .hbm, ⟨23, _⟩ => ⟨S8192x1024, .f32⟩
  | .hbm, ⟨24, _⟩ => ⟨S8192x1024, .f32⟩
  | .hbm, ⟨25, _⟩ => ⟨S_, .f32⟩
  | .hbm, ⟨26, _⟩ => ⟨S8192x1024, .f32⟩
  | .hbm, ⟨27, _⟩ => ⟨S8192x1024, .f32⟩
  | .hbm, ⟨28, _⟩ => ⟨S1024x2816, .f32⟩
  | .hbm, ⟨29, _⟩ => ⟨S2816x1024, .f32⟩
  | .hbm, ⟨30, _⟩ => ⟨S8192x2816, .f32⟩
  | .hbm, ⟨31, _⟩ => ⟨S8192x2816, .f32⟩
  | .hbm, ⟨32, _⟩ => ⟨S8192x2816, .f32⟩
  | .hbm, ⟨33, _⟩ => ⟨S8192x2816, .f32⟩
  | .hbm, ⟨34, _⟩ => ⟨S8192x2816, .f32⟩
  | .hbm, ⟨35, _⟩ => ⟨S8192x2816, .f32⟩
  | .hbm, ⟨36, _⟩ => ⟨S8192x2816, .f32⟩
  | .hbm, ⟨37, _⟩ => ⟨S8192x2816, .bf16⟩
  | .hbm, ⟨38, _⟩ => ⟨S8192x2816, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_v3_2 : Ref sig .tc := ⟨.hbm, 14, rfl⟩
abbrev main_call0_cst_1 : Ref sig .tc := ⟨.hbm, 15, rfl⟩
abbrev main_call0_v6 : Ref sig .tc := ⟨.hbm, 16, rfl⟩
abbrev main_call0_v7 : Ref sig .tc := ⟨.hbm, 17, rfl⟩
abbrev main_v3_1 : Ref sig .tc := ⟨.hbm, 18, rfl⟩
abbrev main_v3_0 : Ref sig .tc := ⟨.hbm, 19, rfl⟩
abbrev main_v4 : Ref sig .tc := ⟨.hbm, 20, rfl⟩
abbrev main_v5 : Ref sig .tc := ⟨.hbm, 21, rfl⟩
abbrev main_cst : Ref sig .tc := ⟨.hbm, 22, rfl⟩
abbrev main_v6 : Ref sig .tc := ⟨.hbm, 23, rfl⟩
abbrev main_v7 : Ref sig .tc := ⟨.hbm, 24, rfl⟩
abbrev main_cst_0 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_call1_v0 : Ref sig .tc := ⟨.hbm, 33, rfl⟩
abbrev main_call1_v1 : Ref sig .tc := ⟨.hbm, 34, rfl⟩
abbrev main_call1_v2 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩

abbrev nD : Nat := 1
abbrev τ : Topo := Topo.v7x

variable {F : FTy → Type} [FloatOps F]
-- ==== Kernel5.lean ====
abbrev S8192x2816 : Shape := ⟨2, ![8192, 2816]⟩
abbrev S1024x5632 : Shape := ⟨2, ![1024, 5632]⟩
abbrev S8192x1024 : Shape := ⟨2, ![8192, 1024]⟩
abbrev S1x1024 : Shape := ⟨2, ![1, 1024]⟩
abbrev S1024x1408 : Shape := ⟨2, ![1024, 1408]⟩
abbrev S1024x1024 : Shape := ⟨2, ![1024, 1024]⟩
abbrev S1024 : Shape := ⟨1, ![1024]⟩
abbrev S1024x1 : Shape := ⟨2, ![1024, 1]⟩

abbrev nBuf : Space → Nat
  | .hbm => 8
  | .vmem => 15
  | .smem => 0
  | _ => 0

abbrev bufTy : (tb : Table) → Fin (tcTables nBuf tb) → BufTy
  | .hbm, ⟨0, _⟩ => ⟨S8192x2816, .bf16⟩
  | .hbm, ⟨1, _⟩ => ⟨S8192x2816, .bf16⟩
  | .hbm, ⟨2, _⟩ => ⟨S1024x5632, .bf16⟩
  | .hbm, ⟨3, _⟩ => ⟨S8192x1024, .f32⟩
  | .hbm, ⟨4, _⟩ => ⟨S1x1024, .f32⟩
  | .hbm, ⟨5, _⟩ => ⟨S8192x1024, .f32⟩
  | .hbm, ⟨6, _⟩ => ⟨S8192x1024, .f32⟩
  | .hbm, ⟨7, _⟩ => ⟨S1x1024, .f32⟩
  | .local _ .vmem, ⟨0, _⟩ => ⟨S1024x1408, .bf16⟩
  | .local _ .vmem, ⟨1, _⟩ => ⟨S1024x1408, .bf16⟩
  | .local _ .vmem, ⟨2, _⟩ => ⟨S1024x1408, .bf16⟩
  | .local _ .vmem, ⟨3, _⟩ => ⟨S1024x1408, .bf16⟩
  | .local _ .vmem, ⟨4, _⟩ => ⟨S1024x1024, .f32⟩
  | .local _ .vmem, ⟨5, _⟩ => ⟨S1024x1024, .f32⟩
  | .local _ .vmem, ⟨6, _⟩ => ⟨S1x1024, .f32⟩
  | .local _ .vmem, ⟨7, _⟩ => ⟨S1024x1408, .bf16⟩
  | .local _ .vmem, ⟨8, _⟩ => ⟨S1024x1408, .bf16⟩
  | .local _ .vmem, ⟨9, _⟩ => ⟨S1024x1024, .f32⟩
  | .local _ .vmem, ⟨10, _⟩ => ⟨S1024x1024, .f32⟩
  | .local _ .vmem, ⟨11, _⟩ => ⟨S1024x1024, .f32⟩
  | .local _ .vmem, ⟨12, _⟩ => ⟨S1024x1024, .f32⟩
  | .local _ .vmem, ⟨13, _⟩ => ⟨S1x1024, .f32⟩
  | .local _ .vmem, ⟨14, _⟩ => ⟨S1024x1024, .f32⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13

abbrev nD : Nat := 1
abbrev τ : Topo := Topo.v7x

variable {F : FTy → Type} [FloatOps F]

abbrev grid0 : Pipeline.Grid := ⟨2, ![8, 4], ![false, false]⟩

def k0_cond5 (i : grid0.Coords) : BitVec 1 :=
  let arg1 : BitVec 32 := BitVec.ofNat 32 (i 1).val
  let c3_i32 : BitVec 32 := 3#32
  let v14 : BitVec 1 := Scalar.cmpi .eq arg1 c3_i32
  let v15 : BitVec 32 := Scalar.extui v14
  let c0_i32_7 : BitVec 32 := 0#32
  let v16 : BitVec 1 := Scalar.cmpi .ne v15 c0_i32_7
  v16

def k0_cond2 (i : grid0.Coords) : BitVec 1 :=
  let arg0 : BitVec 32 := BitVec.ofNat 32 (i 0).val
  let c0_i32_1 : BitVec 32 := 0#32
  let v3 : BitVec 1 := Scalar.cmpi .eq arg0 c0_i32_1
  let arg1 : BitVec 32 := BitVec.ofNat 32 (i 1).val
  let c0_i32_2 : BitVec 32 := 0#32
  let v4 : BitVec 1 := Scalar.cmpi .eq arg1 c0_i32_2
  let v5 : BitVec 1 := Scalar.andi v3 v4
  let v6 : BitVec 32 := Scalar.extui v5
  let c0_i32_3 : BitVec 32 := 0#32
  let v7 : BitVec 1 := Scalar.cmpi .ne v6 c0_i32_3
  v7

def cc0_transform_0 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.minsi arg1 c1_i32
  let c0_i32 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.subi arg1 c2_i32
  let c0_i32 : BitVec 32 := 0#32
  let v1 : BitVec 32 := Scalar.maxsi v0 c0_i32
  let c0_i32_0 : BitVec 32 := 0#32
  ![arg0.toNat, v1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1024x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]
-- ==== Reference5Ideal.lean ====
abbrev S8192x2816 : Shape := ⟨2, ![8192, 2816]⟩
abbrev S1024x5632 : Shape := ⟨2, ![1024, 5632]⟩
abbrev S8192x1024 : Shape := ⟨2, ![8192, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩
abbrev S8192x5632 : Shape := ⟨2, ![8192, 5632]⟩
abbrev S5632x1024 : Shape := ⟨2, ![5632, 1024]⟩
abbrev S1024 : Shape := ⟨1, ![1024]⟩

abbrev nBuf : Space → Nat
  | .hbm => 59
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S8192x2816, .bf16⟩
  | .hbm, ⟨2, _⟩ => ⟨S1024x5632, .bf16⟩
  | .hbm, ⟨3, _⟩ => ⟨S8192x1024, .f32⟩
  | .hbm, ⟨4, _⟩ => ⟨S1x1024, .f32⟩
  | .hbm, ⟨5, _⟩ => ⟨S8192x1024, .f32⟩
  | .hbm, ⟨6, _⟩ => ⟨S1024x5632, .f32⟩
  | .hbm, ⟨7, _⟩ => ⟨S8192x1024, .f32⟩
  | .hbm, ⟨8, _⟩ => ⟨S_, .f32⟩
  | .hbm, ⟨9, _⟩ => ⟨S8192, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S8192x1, .f32⟩
  | .hbm, ⟨19, _⟩ => ⟨S_, .f32⟩
  | .hbm, ⟨20, _⟩ => ⟨S8192x1, .f32⟩
  | .hbm, ⟨21, _⟩ => ⟨S8192x1, .f32⟩
  | .hbm, ⟨22, _⟩ => ⟨S8192x1024, .f32⟩
  | .hbm, ⟨23, _⟩ => ⟨S8192x1024, .f32⟩
  | .hbm, ⟨24, _⟩ => ⟨S8192x1024, .f32⟩
  | .hbm, ⟨25, _⟩ => ⟨S8192x1024, .f32⟩
  | .hbm, ⟨26, _⟩ => ⟨S8192x5632, .f32⟩
  | .hbm, ⟨27, _⟩ => ⟨S8192x2816, .f32⟩
  | .hbm, ⟨28, _⟩ => ⟨S8192x2816, .f32⟩
  | .hbm, ⟨29, _⟩ => ⟨S8192x2816, .f32⟩
  | .hbm, ⟨30, _⟩ => ⟨S8192x2816, .f32⟩
  | .hbm, ⟨31, _⟩ => ⟨S8192x5632, .f32⟩
  | .hbm, ⟨32, _⟩ => ⟨S5632x1024, .f32⟩
  | .hbm, ⟨33, _⟩ => ⟨S1024x5632, .f32⟩
  | .hbm, ⟨34, _⟩ => ⟨S8192x1024, .f32⟩
  | .hbm, ⟨35, _⟩ => ⟨S8192x1024, .f32⟩
  | .hbm, ⟨36, _⟩ => ⟨S_, .f32⟩
  | .hbm, ⟨37, _⟩ => ⟨S1024, .f32⟩
  | .hbm, ⟨38, _⟩ => ⟨S1x1024, .f32⟩
  | .hbm, ⟨39, _⟩ => ⟨S8192x1024, .f32⟩
  | .hbm, ⟨40, _⟩ => ⟨S8192x1024, .f32⟩
  | .hbm, ⟨41, _⟩ => ⟨S8192x1024, .f32⟩
  | .hbm, ⟨42, _⟩ => ⟨S_, .f32⟩
  | .hbm, ⟨43, _⟩ => ⟨S8192, .f32⟩
  | .hbm, ⟨44, _⟩ => ⟨S8192x1, .f32⟩
  | .hbm, ⟨45, _⟩ => ⟨S8192x1024, .f32⟩
  | .hbm, ⟨46, _⟩ => ⟨S8192x1024, .f32⟩
  | .hbm, ⟨47, _⟩ => ⟨S8192x1024, .f32⟩
  | .hbm, ⟨48, _⟩ => ⟨S8192x1, .f32⟩
  | .hbm, ⟨49, _⟩ => ⟨S_, .f32⟩
  | .hbm, ⟨50, _⟩ => ⟨S8192x1, .f32⟩
  | .hbm, ⟨51, _⟩ => ⟨S8192x1, .f32⟩
  | .hbm, ⟨52, _⟩ => ⟨S_, .f32⟩
  | .hbm, ⟨53, _⟩ => ⟨S8192, .f32⟩
  | .hbm, ⟨54, _⟩ => ⟨S8192x1024, .f32⟩
  | .hbm, ⟨55, _⟩ => ⟨S8192x1024, .f32⟩
  | .hbm, ⟨56, _⟩ => ⟨S8192x1024, .f32⟩
  | .hbm, ⟨57, _⟩ => ⟨S8192x1024, .f32⟩
  | .hbm, ⟨58, _⟩ => ⟨S8192x1024, .f32⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_2 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_3 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst_4 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_cst_5 : Ref sig .tc := ⟨.hbm, 49, rfl⟩
abbrev main_v37 : Ref sig .tc := ⟨.hbm, 50, rfl⟩
abbrev main_v38 : Ref sig .tc := ⟨.hbm, 51, rfl⟩
abbrev main_cst_6 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩

abbrev nD : Nat := 1
abbrev τ : Topo := Topo.v7x

variable {F : FTy → Type} [FloatOps F]
-- ==== Kernel6.lean ====
abbrev S8192x2816 : Shape := ⟨2, ![8192, 2816]⟩
abbrev S8192x1024 : Shape := ⟨2, ![8192, 1024]⟩
abbrev S2816x1024 : Shape := ⟨2, ![2816, 1024]⟩
abbrev S1024x1408 : Shape := ⟨2, ![1024, 1408]⟩
abbrev S1024x1024 : Shape := ⟨2, ![1024, 1024]⟩
abbrev S1408x1024 : Shape := ⟨2, ![1408, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .f32⟩
  | .hbm, ⟨2, _⟩ => ⟨S2816x1024, .bf16⟩
  | .local _ .vmem, ⟨0, _⟩ => ⟨S1024x1408, .bf16⟩
  | .local _ .vmem, ⟨1, _⟩ => ⟨S1024x1408, .bf16⟩
  | .local _ .vmem, ⟨2, _⟩ => ⟨S1024x1024, .f32⟩
  | .local _ .vmem, ⟨3, _⟩ => ⟨S1024x1024, .f32⟩
  | .local _ .vmem, ⟨4, _⟩ => ⟨S1408x1024, .bf16⟩
  | .local _ .vmem, ⟨5, _⟩ => ⟨S1408x1024, .bf16⟩
  | .local _ .vmem, ⟨6, _⟩ => ⟨S1408x1024, .f32⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 8], ![false, false, false]⟩

def k0_cond2 (i : grid0.Coords) : BitVec 1 :=
  let arg2 : BitVec 32 := BitVec.ofNat 32 (i 2).val
  let c7_i32 : BitVec 32 := 7#32
  let v12 : BitVec 1 := Scalar.cmpi .eq arg2 c7_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference6Ideal.lean ====
abbrev S8192x2816 : Shape := ⟨2, ![8192, 2816]⟩
abbrev S8192x1024 : Shape := ⟨2, ![8192, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 16
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .f32⟩
  | .hbm, ⟨2, _⟩ => ⟨S_, .f32⟩
  | .hbm, ⟨3, _⟩ => ⟨S2816x1024, .f32⟩
  | .hbm, ⟨4, _⟩ => ⟨S8192x2816, .f32⟩
  | .hbm, ⟨5, _⟩ => ⟨S8192x1024, .f32⟩
  | .hbm, ⟨6, _⟩ => ⟨S_, .f32⟩
  | .hbm, ⟨7, _⟩ => ⟨S8192x1024, .f32⟩
  | .hbm, ⟨8, _⟩ => ⟨S8192x1024, .f32⟩
  | .hbm, ⟨9, _⟩ => ⟨S_, .f32⟩
  | .hbm, ⟨10, _⟩ => ⟨S8192x1024, .f32⟩
  | .hbm, ⟨11, _⟩ => ⟨S8192x1024, .f32⟩
  | .hbm, ⟨12, _⟩ => ⟨S1024x2816, .f32⟩
  | .hbm, ⟨13, _⟩ => ⟨S2816x1024, .f32⟩
  | .hbm, ⟨14, _⟩ => ⟨S8192x2816, .f32⟩
  | .hbm, ⟨15, _⟩ => ⟨S2816x1024, .bf16⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩

abbrev nD : Nat := 1
abbrev τ : Topo := Topo.v7x

variable {F : FTy → Type} [FloatOps F]
-- ==== Kernel7.lean ====
abbrev S8192x1024 : Shape := ⟨2, ![8192, 1024]⟩
abbrev S8192x2816 : Shape := ⟨2, ![8192, 2816]⟩
abbrev S1024x2816 : Shape := ⟨2, ![1024, 2816]⟩
abbrev S1024x1024 : Shape := ⟨2, ![1024, 1024]⟩
abbrev S1024x1408 : Shape := ⟨2, ![1024, 1408]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S8192x2816, .bf16⟩
  | .hbm, ⟨2, _⟩ => ⟨S1024x2816, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1408, .bf16⟩
  | .local _ .vmem, ⟨3, _⟩ => ⟨S1024x1408, .bf16⟩
  | .local _ .vmem, ⟨4, _⟩ => ⟨S1024x1408, .bf16⟩
  | .local _ .vmem, ⟨5, _⟩ => ⟨S1024x1408, .bf16⟩
  | .local _ .vmem, ⟨6, _⟩ => ⟨S1024x1408, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 8], ![false, false, false]⟩

def k0_cond2 (i : grid0.Coords) : BitVec 1 :=
  let arg2 : BitVec 32 := BitVec.ofNat 32 (i 2).val
  let c7_i32 : BitVec 32 := 7#32
  let v11 : BitVec 1 := Scalar.cmpi .eq arg2 c7_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference7Ideal.lean ====
abbrev S8192x1024 : Shape := ⟨2, ![8192, 1024]⟩
abbrev S8192x2816 : Shape := ⟨2, ![8192, 2816]⟩
abbrev S_ : Shape := ⟨0, ![]⟩
abbrev S1024x2816 : Shape := ⟨2, ![1024, 2816]⟩
abbrev S2816x1024 : Shape := ⟨2, ![2816, 1024]⟩

abbrev nBuf : Space → Nat
  | .hbm => 11
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x2816, .bf16⟩
  | .hbm, ⟨2, _⟩ => ⟨S_, .f32⟩
  | .hbm, ⟨3, _⟩ => ⟨S1024x2816, .f32⟩
  | .hbm, ⟨4, _⟩ => ⟨S8192x1024, .f32⟩
  | .hbm, ⟨5, _⟩ => ⟨S8192x2816, .f32⟩
  | .hbm, ⟨6, _⟩ => ⟨S8192x2816, .f32⟩
  | .hbm, ⟨7, _⟩ => ⟨S2816x1024, .f32⟩
  | .hbm, ⟨8, _⟩ => ⟨S1024x2816, .f32⟩
  | .hbm, ⟨9, _⟩ => ⟨S8192x1024, .f32⟩
  | .hbm, ⟨10, _⟩ => ⟨S1024x2816, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel8.lean ====
abbrev S8192x1024 : Shape := ⟨2, ![8192, 1024]⟩
abbrev S8192x7168 : Shape := ⟨2, ![8192, 7168]⟩
abbrev S1024x7168 : Shape := ⟨2, ![1024, 7168]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S8192x7168, .bf16⟩
  | .hbm, ⟨2, _⟩ => ⟨S1024x7168, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 7, 8], ![false, false, false]⟩

def k0_cond2 (i : grid0.Coords) : BitVec 1 :=
  let arg2 : BitVec 32 := BitVec.ofNat 32 (i 2).val
  let c7_i32 : BitVec 32 := 7#32
  let v11 : BitVec 1 := Scalar.cmpi .eq arg2 c7_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference8Ideal.lean ====
abbrev S8192x1024 : Shape := ⟨2, ![8192, 1024]⟩
abbrev S8192x7168 : Shape := ⟨2, ![8192, 7168]⟩
abbrev S_ : Shape := ⟨0, ![]⟩
abbrev S1024x7168 : Shape := ⟨2, ![1024, 7168]⟩
abbrev S7168x1024 : Shape := ⟨2, ![7168, 1024]⟩

abbrev nBuf : Space → Nat
  | .hbm => 11
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x7168, .bf16⟩
  | .hbm, ⟨2, _⟩ => ⟨S_, .f32⟩
  | .hbm, ⟨3, _⟩ => ⟨S1024x7168, .f32⟩
  | .hbm, ⟨4, _⟩ => ⟨S8192x1024, .f32⟩
  | .hbm, ⟨5, _⟩ => ⟨S8192x7168, .f32⟩
  | .hbm, ⟨6, _⟩ => ⟨S8192x7168, .f32⟩
  | .hbm, ⟨7, _⟩ => ⟨S7168x1024, .f32⟩
  | .hbm, ⟨8, _⟩ => ⟨S1024x7168, .f32⟩
  | .hbm, ⟨9, _⟩ => ⟨S8192x1024, .f32⟩
  | .hbm, ⟨10, _⟩ => ⟨S1024x7168, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel9.lean ====
abbrev S8192x7168 : Shape := ⟨2, ![8192, 7168]⟩
abbrev S1024x7168 : Shape := ⟨2, ![1024, 7168]⟩
abbrev S8192x1024 : Shape := ⟨2, ![8192, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x7168, .bf16⟩
  | .hbm, ⟨1, _⟩ => ⟨S1024x7168, .bf16⟩
  | .hbm, ⟨2, _⟩ => ⟨S8192x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x7168, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 1, 7], ![false, false, false]⟩

def k0_cond2 (i : grid0.Coords) : BitVec 1 :=
  let arg2 : BitVec 32 := BitVec.ofNat 32 (i 2).val
  let c6_i32 : BitVec 32 := 6#32
  let v11 : BitVec 1 := Scalar.cmpi .eq arg2 c6_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference9Ideal.lean ====
abbrev S8192x7168 : Shape := ⟨2, ![8192, 7168]⟩
abbrev S1024x7168 : Shape := ⟨2, ![1024, 7168]⟩
abbrev S_ : Shape := ⟨0, ![]⟩
abbrev S8192x1024 : Shape := ⟨2, ![8192, 1024]⟩
abbrev S7168x1024 : Shape := ⟨2, ![7168, 1024]⟩

abbrev nBuf : Space → Nat
  | .hbm => 10
  | .vmem => 0
  | .smem => 0
  | _ => 0

abbrev bufTy : (tb : Table) → Fin (tcTables nBuf tb) → BufTy
  | .hbm, ⟨0, _⟩ => ⟨S8192x7168, .bf16⟩
  | .hbm, ⟨1, _⟩ => ⟨S1024x7168, .bf16⟩
  | .hbm, ⟨2, _⟩ => ⟨S_, .f32⟩
  | .hbm, ⟨3, _⟩ => ⟨S8192x1024, .f32⟩
  | .hbm, ⟨4, _⟩ => ⟨S1024x7168, .f32⟩
  | .hbm, ⟨5, _⟩ => ⟨S8192x7168, .f32⟩
  | .hbm, ⟨6, _⟩ => ⟨S8192x7168, .f32⟩
  | .hbm, ⟨7, _⟩ => ⟨S7168x1024, .f32⟩
  | .hbm, ⟨8, _⟩ => ⟨S1024x7168, .f32⟩
  | .hbm, ⟨9, _⟩ => ⟨S8192x1024, .f32⟩
  | _, _ => ⟨S8192x7168, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel10.lean ====
abbrev S8192x1024 : Shape := ⟨2, ![8192, 1024]⟩
abbrev S1024x5632 : Shape := ⟨2, ![1024, 5632]⟩
abbrev S8192x2816 : Shape := ⟨2, ![8192, 2816]⟩
abbrev S1024x1024 : Shape := ⟨2, ![1024, 1024]⟩
abbrev S1024x1408 : Shape := ⟨2, ![1024, 1408]⟩

abbrev nBuf : Space → Nat
  | .hbm => 5
  | .vmem => 12
  | .smem => 0
  | _ => 0

abbrev bufTy : (tb : Table) → Fin (tcTables nBuf tb) → BufTy
  | .hbm, ⟨0, _⟩ => ⟨S8192x1024, .bf16⟩
  | .hbm, ⟨1, _⟩ => ⟨S1024x5632, .bf16⟩
  | .hbm, ⟨2, _⟩ => ⟨S8192x2816, .bf16⟩
  | .hbm, ⟨3, _⟩ => ⟨S8192x2816, .bf16⟩
  | .hbm, ⟨4, _⟩ => ⟨S8192x2816, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1408, .bf16⟩
  | .local _ .vmem, ⟨3, _⟩ => ⟨S1024x1408, .bf16⟩
  | .local _ .vmem, ⟨4, _⟩ => ⟨S1024x1408, .bf16⟩
  | .local _ .vmem, ⟨5, _⟩ => ⟨S1024x1408, .bf16⟩
  | .local _ .vmem, ⟨6, _⟩ => ⟨S1024x1408, .bf16⟩
  | .local _ .vmem, ⟨7, _⟩ => ⟨S1024x1408, .bf16⟩
  | .local _ .vmem, ⟨8, _⟩ => ⟨S1024x1408, .bf16⟩
  | .local _ .vmem, ⟨9, _⟩ => ⟨S1024x1408, .bf16⟩
  | .local _ .vmem, ⟨10, _⟩ => ⟨S1024x1408, .bf16⟩
  | .local _ .vmem, ⟨11, _⟩ => ⟨S1024x1408, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v0_2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![8, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi arg1 c2_i32
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x1408 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference10Ideal.lean ====
abbrev S8192x1024 : Shape := ⟨2, ![8192, 1024]⟩
abbrev S1024x5632 : Shape := ⟨2, ![1024, 5632]⟩
abbrev S8192x5632 : Shape := ⟨2, ![8192, 5632]⟩
abbrev S8192x2816 : Shape := ⟨2, ![8192, 2816]⟩
abbrev S_ : Shape := ⟨0, ![]⟩

abbrev nBuf : Space → Nat
  | .hbm => 20
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x5632, .bf16⟩
  | .hbm, ⟨2, _⟩ => ⟨S8192x1024, .f32⟩
  | .hbm, ⟨3, _⟩ => ⟨S1024x5632, .f32⟩
  | .hbm, ⟨4, _⟩ => ⟨S8192x5632, .f32⟩
  | .hbm, ⟨5, _⟩ => ⟨S8192x2816, .f32⟩
  | .hbm, ⟨6, _⟩ => ⟨S8192x2816, .f32⟩
  | .hbm, ⟨7, _⟩ => ⟨S8192x2816, .f32⟩
  | .hbm, ⟨8, _⟩ => ⟨S8192x2816, .f32⟩
  | .hbm, ⟨9, _⟩ => ⟨S_, .f32⟩
  | .hbm, ⟨10, _⟩ => ⟨S8192x2816, .f32⟩
  | .hbm, ⟨11, _⟩ => ⟨S8192x2816, .f32⟩
  | .hbm, ⟨12, _⟩ => ⟨S_, .f32⟩
  | .hbm, ⟨13, _⟩ => ⟨S8192x2816, .f32⟩
  | .hbm, ⟨14, _⟩ => ⟨S8192x2816, .f32⟩
  | .hbm, ⟨15, _⟩ => ⟨S8192x2816, .f32⟩
  | .hbm, ⟨16, _⟩ => ⟨S8192x2816, .f32⟩
  | .hbm, ⟨17, _⟩ => ⟨S8192x2816, .bf16⟩
  | .hbm, ⟨18, _⟩ => ⟨S8192x2816, .bf16⟩
  | .hbm, ⟨19, _⟩ => ⟨S8192x2816, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_call0_v5 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩

abbrev nD : Nat := 1
abbrev τ : Topo := Topo.v7x

variable {F : FTy → Type} [FloatOps F]
-- ==== Kernel11.lean ====
abbrev S8192x2816 : Shape := ⟨2, ![8192, 2816]⟩
abbrev S2816x1024 : Shape := ⟨2, ![2816, 1024]⟩
abbrev S8192x1024 : Shape := ⟨2, ![8192, 1024]⟩
abbrev S1x1024 : Shape := ⟨2, ![1, 1024]⟩
abbrev S1024x1408 : Shape := ⟨2, ![1024, 1408]⟩
abbrev S1408x1024 : Shape := ⟨2, ![1408, 1024]⟩
abbrev S1024x1024 : Shape := ⟨2, ![1024, 1024]⟩
abbrev S1024 : Shape := ⟨1, ![1024]⟩
abbrev S1024x1 : Shape := ⟨2, ![1024, 1]⟩

abbrev nBuf : Space → Nat
  | .hbm => 6
  | .vmem => 12
  | .smem => 0
  | _ => 0

abbrev bufTy : (tb : Table) → Fin (tcTables nBuf tb) → BufTy
  | .hbm, ⟨0, _⟩ => ⟨S8192x2816, .bf16⟩
  | .hbm, ⟨1, _⟩ => ⟨S2816x1024, .bf16⟩
  | .hbm, ⟨2, _⟩ => ⟨S8192x1024, .f32⟩
  | .hbm, ⟨3, _⟩ => ⟨S1x1024, .f32⟩
  | .hbm, ⟨4, _⟩ => ⟨S8192x1024, .f32⟩
  | .hbm, ⟨5, _⟩ => ⟨S8192x1024, .bf16⟩
  | .local _ .vmem, ⟨0, _⟩ => ⟨S1024x1408, .bf16⟩
  | .local _ .vmem, ⟨1, _⟩ => ⟨S1024x1408, .bf16⟩
  | .local _ .vmem, ⟨2, _⟩ => ⟨S1408x1024, .bf16⟩
  | .local _ .vmem, ⟨3, _⟩ => ⟨S1408x1024, .bf16⟩
  | .local _ .vmem, ⟨4, _⟩ => ⟨S1024x1024, .f32⟩
  | .local _ .vmem, ⟨5, _⟩ => ⟨S1024x1024, .f32⟩
  | .local _ .vmem, ⟨6, _⟩ => ⟨S1x1024, .f32⟩
  | .local _ .vmem, ⟨7, _⟩ => ⟨S1024x1024, .f32⟩
  | .local _ .vmem, ⟨8, _⟩ => ⟨S1024x1024, .f32⟩
  | .local _ .vmem, ⟨9, _⟩ => ⟨S1024x1024, .bf16⟩
  | .local _ .vmem, ⟨10, _⟩ => ⟨S1024x1024, .bf16⟩
  | .local _ .vmem, ⟨11, _⟩ => ⟨S1024x1024, .f32⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨3, ![8, 1, 2], ![false, false, false]⟩

def k0_cond2 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== Reference11Ideal.lean ====
abbrev S8192x2816 : Shape := ⟨2, ![8192, 2816]⟩
abbrev S2816x1024 : Shape := ⟨2, ![2816, 1024]⟩
abbrev S8192x1024 : Shape := ⟨2, ![8192, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩

abbrev nBuf : Space → Nat
  | .hbm => 27
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S2816x1024, .bf16⟩
  | .hbm, ⟨2, _⟩ => ⟨S8192x1024, .f32⟩
  | .hbm, ⟨3, _⟩ => ⟨S1x1024, .f32⟩
  | .hbm, ⟨4, _⟩ => ⟨S8192x2816, .f32⟩
  | .hbm, ⟨5, _⟩ => ⟨S2816x1024, .f32⟩
  | .hbm, ⟨6, _⟩ => ⟨S8192x1024, .f32⟩
  | .hbm, ⟨7, _⟩ => ⟨S_, .f32⟩
  | .hbm, ⟨8, _⟩ => ⟨S8192x1024, .f32⟩
  | .hbm, ⟨9, _⟩ => ⟨S8192x1024, .f32⟩
  | .hbm, ⟨10, _⟩ => ⟨S8192x1024, .f32⟩
  | .hbm, ⟨11, _⟩ => ⟨S8192x1024, .f32⟩
  | .hbm, ⟨12, _⟩ => ⟨S_, .f32⟩
  | .hbm, ⟨13, _⟩ => ⟨S8192, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S_, .f32⟩
  | .hbm, ⟨19, _⟩ => ⟨S8192x1, .f32⟩
  | .hbm, ⟨20, _⟩ => ⟨S8192x1, .f32⟩
  | .hbm, ⟨21, _⟩ => ⟨S8192x1, .f32⟩
  | .hbm, ⟨22, _⟩ => ⟨S8192x1024, .f32⟩
  | .hbm, ⟨23, _⟩ => ⟨S8192x1024, .f32⟩
  | .hbm, ⟨24, _⟩ => ⟨S8192x1024, .f32⟩
  | .hbm, ⟨25, _⟩ => ⟨S8192x1024, .f32⟩
  | .hbm, ⟨26, _⟩ => ⟨S8192x1024, .bf16⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_cst_2 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩

abbrev nD : Nat := 1
abbrev τ : Topo := Topo.v7x

variable {F : FTy → Type} [FloatOps F]
-- ==== Kernel12.lean ====
abbrev S8192x1024 : Shape := ⟨2, ![8192, 1024]⟩
abbrev S1024x7168 : Shape := ⟨2, ![1024, 7168]⟩
abbrev S8192x7168 : Shape := ⟨2, ![8192, 7168]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S1024x7168, .bf16⟩
  | .hbm, ⟨2, _⟩ => ⟨S8192x7168, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 7, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference12Ideal.lean ====
abbrev S8192x1024 : Shape := ⟨2, ![8192, 1024]⟩
abbrev S1024x7168 : Shape := ⟨2, ![1024, 7168]⟩
abbrev S8192x7168 : Shape := ⟨2, ![8192, 7168]⟩

abbrev nBuf : Space → Nat
  | .hbm => 6
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x7168, .bf16⟩
  | .hbm, ⟨2, _⟩ => ⟨S8192x1024, .f32⟩
  | .hbm, ⟨3, _⟩ => ⟨S1024x7168, .f32⟩
  | .hbm, ⟨4, _⟩ => ⟨S8192x7168, .f32⟩
  | .hbm, ⟨5, _⟩ => ⟨S8192x7168, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel13.lean ====
abbrev S8192x1024 : Shape := ⟨2, ![8192, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference13Ideal.lean ====
abbrev S8192x1024 : Shape := ⟨2, ![8192, 1024]⟩
abbrev S1024x1024 : Shape := ⟨2, ![1024, 1024]⟩

abbrev nBuf : Space → Nat
  | .hbm => 6
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .f32⟩
  | .hbm, ⟨3, _⟩ => ⟨S1024x1024, .f32⟩
  | .hbm, ⟨4, _⟩ => ⟨S8192x1024, .f32⟩
  | .hbm, ⟨5, _⟩ => ⟨S8192x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel14.lean ====
abbrev S8192x1024 : Shape := ⟨2, ![8192, 1024]⟩
abbrev S1024x1024 : Shape := ⟨2, ![1024, 1024]⟩
abbrev S1x1024 : Shape := ⟨2, ![1, 1024]⟩
abbrev S1024 : Shape := ⟨1, ![1024]⟩
abbrev S1024x1 : Shape := ⟨2, ![1024, 1]⟩

abbrev nBuf : Space → Nat
  | .hbm => 6
  | .vmem => 11
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .f32⟩
  | .hbm, ⟨3, _⟩ => ⟨S1x1024, .f32⟩
  | .hbm, ⟨4, _⟩ => ⟨S8192x1024, .f32⟩
  | .hbm, ⟨5, _⟩ => ⟨S8192x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .bf16⟩
  | .local _ .vmem, ⟨9, _⟩ => ⟨S1024x1024, .bf16⟩
  | .local _ .vmem, ⟨10, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨3, ![8, 1, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== Reference14Ideal.lean ====
abbrev S8192x1024 : Shape := ⟨2, ![8192, 1024]⟩
abbrev S1024x1024 : Shape := ⟨2, ![1024, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩

abbrev nBuf : Space → Nat
  | .hbm => 24
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .f32⟩
  | .hbm, ⟨3, _⟩ => ⟨S1x1024, .f32⟩
  | .hbm, ⟨4, _⟩ => ⟨S8192x1024, .f32⟩
  | .hbm, ⟨5, _⟩ => ⟨S1024x1024, .f32⟩
  | .hbm, ⟨6, _⟩ => ⟨S8192x1024, .f32⟩
  | .hbm, ⟨7, _⟩ => ⟨S8192x1024, .f32⟩
  | .hbm, ⟨8, _⟩ => ⟨S8192x1024, .f32⟩
  | .hbm, ⟨9, _⟩ => ⟨S_, .f32⟩
  | .hbm, ⟨10, _⟩ => ⟨S8192, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S8192x1, .f32⟩
  | .hbm, ⟨19, _⟩ => ⟨S8192x1024, .f32⟩
  | .hbm, ⟨20, _⟩ => ⟨S8192x1024, .f32⟩
  | .hbm, ⟨21, _⟩ => ⟨S8192x1024, .f32⟩
  | .hbm, ⟨22, _⟩ => ⟨S8192x1024, .f32⟩
  | .hbm, ⟨23, _⟩ => ⟨S8192x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩

abbrev nD : Nat := 1
abbrev τ : Topo := Topo.v7x

variable {F : FTy → Type} [FloatOps F]
-- ==== Kernel15.lean ====
abbrev S8192x1024 : Shape := ⟨2, ![8192, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S1024x1024, .bf16⟩
  | .hbm, ⟨2, _⟩ => ⟨S8192x1024, .bf16⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def k0_cond2 (i : grid0.Coords) : BitVec 1 :=
  let arg2 : BitVec 32 := BitVec.ofNat 32 (i 2).val
  let c0_i32_8 : BitVec 32 := 0#32
  let v12 : BitVec 1 := Scalar.cmpi .eq arg2 c0_i32_8
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference15Ideal.lean ====
abbrev S8192x1024 : Shape := ⟨2, ![8192, 1024]⟩
abbrev S1024x1024 : Shape := ⟨2, ![1024, 1024]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x1024, .bf16⟩
  | .hbm, ⟨2, _⟩ => ⟨S_, .f32⟩
  | .hbm, ⟨3, _⟩ => ⟨S8192x1024, .f32⟩
  | .hbm, ⟨4, _⟩ => ⟨S1024x1024, .f32⟩
  | .hbm, ⟨5, _⟩ => ⟨S8192x1024, .f32⟩
  | .hbm, ⟨6, _⟩ => ⟨S1024x1024, .f32⟩
  | .hbm, ⟨7, _⟩ => ⟨S1024x1024, .f32⟩
  | .hbm, ⟨8, _⟩ => ⟨S8192x1024, .f32⟩
  | .hbm, ⟨9, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel16.lean ====
abbrev S8192x1024 : Shape := ⟨2, ![8192, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference16Ideal.lean ====
abbrev S8192x1024 : Shape := ⟨2, ![8192, 1024]⟩
abbrev S1024x1024 : Shape := ⟨2, ![1024, 1024]⟩
abbrev S_ : Shape := ⟨0, ![]⟩

abbrev nBuf : Space → Nat
  | .hbm => 11
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S_, .f32⟩
  | .hbm, ⟨3, _⟩ => ⟨S8192x1024, .f32⟩
  | .hbm, ⟨4, _⟩ => ⟨S1024x1024, .f32⟩
  | .hbm, ⟨5, _⟩ => ⟨S8192x1024, .f32⟩
  | .hbm, ⟨6, _⟩ => ⟨S8192x1024, .f32⟩
  | .hbm, ⟨7, _⟩ => ⟨S1024x1024, .f32⟩
  | .hbm, ⟨8, _⟩ => ⟨S1024x1024, .f32⟩
  | .hbm, ⟨9, _⟩ => ⟨S8192x1024, .f32⟩
  | .hbm, ⟨10, _⟩ => ⟨S8192x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel17.lean ====
abbrev S136 : Shape := ⟨1, ![136]⟩
abbrev S8x80x8192 : Shape := ⟨3, ![8, 80, 8192]⟩
abbrev S8x8192x80 : Shape := ⟨3, ![8, 8192, 80]⟩
abbrev S8x64x8192 : Shape := ⟨3, ![8, 64, 8192]⟩
abbrev S8x1x8192 : Shape := ⟨3, ![8, 1, 8192]⟩
abbrev S8x512x80 : Shape := ⟨3, ![8, 512, 80]⟩
abbrev S1 : Shape := ⟨1, ![1]⟩
abbrev S8x80x512 : Shape := ⟨3, ![8, 80, 512]⟩
abbrev S8x64x512 : Shape := ⟨3, ![8, 64, 512]⟩
abbrev S8x1x512 : Shape := ⟨3, ![8, 1, 512]⟩
abbrev S1x512x80 : Shape := ⟨3, ![1, 512, 80]⟩
abbrev S512x80 : Shape := ⟨2, ![512, 80]⟩
abbrev S1x80x512 : Shape := ⟨3, ![1, 80, 512]⟩
abbrev S80x512 : Shape := ⟨2, ![80, 512]⟩
abbrev S512x512 : Shape := ⟨2, ![512, 512]⟩
abbrev S1x1x512 : Shape := ⟨3, ![1, 1, 512]⟩
abbrev S1x512 : Shape := ⟨2, ![1, 512]⟩
abbrev S512 : Shape := ⟨1, ![512]⟩
abbrev S1x64x512 : Shape := ⟨3, ![1, 64, 512]⟩
abbrev S64x512 : Shape := ⟨2, ![64, 512]⟩

abbrev nBuf : Space → Nat
  | .hbm => 5
  | .vmem => 13
  | .smem => 2
  | _ => 0

abbrev bufTy : (tb : Table) → Fin (tcTables nBuf tb) → BufTy
  | .hbm, ⟨0, _⟩ => ⟨S8x80x8192, .bf16⟩
  | .hbm, ⟨1, _⟩ => ⟨S8x8192x80, .bf16⟩
  | .hbm, ⟨2, _⟩ => ⟨S8x64x8192, .bf16⟩
  | .hbm, ⟨3, _⟩ => ⟨S8x64x8192, .f32⟩
  | .hbm, ⟨4, _⟩ => ⟨S8x1x8192, .f32⟩
  | .local _ .vmem, ⟨0, _⟩ => ⟨S8x512x80, .bf16⟩
  | .local _ .vmem, ⟨1, _⟩ => ⟨S8x512x80, .bf16⟩
  | .local _ .vmem, ⟨2, _⟩ => ⟨S8x80x512, .bf16⟩
  | .local _ .vmem, ⟨3, _⟩ => ⟨S8x80x512, .bf16⟩
  | .local _ .vmem, ⟨4, _⟩ => ⟨S8x64x512, .bf16⟩
  | .local _ .vmem, ⟨5, _⟩ => ⟨S8x64x512, .bf16⟩
  | .local _ .vmem, ⟨6, _⟩ => ⟨S8x64x512, .f32⟩
  | .local _ .vmem, ⟨7, _⟩ => ⟨S8x64x512, .f32⟩
  | .local _ .vmem, ⟨8, _⟩ => ⟨S8x1x512, .f32⟩
  | .local _ .vmem, ⟨9, _⟩ => ⟨S8x1x512, .f32⟩
  | .local _ .vmem, ⟨10, _⟩ => ⟨S8x1x512, .f32⟩
  | .local _ .vmem, ⟨11, _⟩ => ⟨S8x1x512, .f32⟩
  | .local _ .vmem, ⟨12, _⟩ => ⟨S8x64x512, .f32⟩
  | .local _ .smem, ⟨0, _⟩ => ⟨S136, .i32⟩
  | .local _ .smem, ⟨1, _⟩ => ⟨S136, .i32⟩
  | _, _ => ⟨S8x80x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg2 : Ref sig .tc := ⟨.hbm, 0, rfl⟩
abbrev main_arg3 : Ref sig .tc := ⟨.hbm, 1, rfl⟩
abbrev main_arg4 : Ref sig .tc := ⟨.hbm, 2, rfl⟩
abbrev main_v0_0 : Ref sig .tc := ⟨.hbm, 3, rfl⟩
abbrev main_v0_1 : Ref sig .tc := ⟨.hbm, 4, rfl⟩
abbrev main_arg0 : Ref sig .tc := ⟨.smem, 0, rfl⟩
abbrev main_arg1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![1, 136], ![false, false]⟩

abbrev pre0 : Pipeline.Prefetch sig := ⟨2, ![main_arg0.idx, main_arg1.idx], fun | 0 => main_arg0.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg1 : BitVec 32 := BitVec.ofNat 32 (i 1).val
  let v0 : Index := Scalar.indexCast arg1
  ![v0.toNat]
def k0_cond3 (v1 : BitVec 32) (v3 : BitVec 32) : BitVec 1 :=
  let v10 : BitVec 1 := Scalar.cmpi .eq v3 v1
  let v11 : BitVec 32 := Scalar.extui v10
  let c0_i32_2 : BitVec 32 := 0#32
  let v12 : BitVec 1 := Scalar.cmpi .ne v11 c0_i32_2
  v12

def cc0_transform_0 (k0_off1_inb : ∀ i : grid0.Coords, ∀ a, (k0_off1 i) a + S1.size a ≤ S136.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 1 (Rect.unit (s := S136) ![v0.toNat] S1.size (k0_off1_inb i)) numel1_S1
  let c0_i32 : BitVec 32 := 0#32
  let c0_i32_0 : BitVec 32 := 0#32
  ![arg0.toNat, v1.toNat, c0_i32.toNat]

def cc0_transform_1 (k0_off1_inb : ∀ i : grid0.Coords, ∀ a, (k0_off1 i) a + S1.size a ≤ S136.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S136) ![v0.toNat] S1.size (k0_off1_inb i)) numel1_S1
  let c0_i32 : BitVec 32 := 0#32
  let c0_i32_0 : BitVec 32 := 0#32
  ![arg0.toNat, c0_i32.toNat, v1.toNat]

def cc0_transform_2 (k0_off1_inb : ∀ i : grid0.Coords, ∀ a, (k0_off1 i) a + S1.size a ≤ S136.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 1 (Rect.unit (s := S136) ![v0.toNat] S1.size (k0_off1_inb i)) numel1_S1
  let c0_i32 : BitVec 32 := 0#32
  let c0_i32_0 : BitVec 32 := 0#32
  ![arg0.toNat, c0_i32.toNat, v1.toNat]

def cc0_transform_3 (k0_off1_inb : ∀ i : grid0.Coords, ∀ a, (k0_off1 i) a + S1.size a ≤ S136.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S136) ![v0.toNat] S1.size (k0_off1_inb i)) numel1_S1
  let c0_i32 : BitVec 32 := 0#32
  let c0_i32_0 : BitVec 32 := 0#32
  ![arg0.toNat, c0_i32.toNat, v1.toNat]

def cc0_transform_4 (k0_off1_inb : ∀ i : grid0.Coords, ∀ a, (k0_off1 i) a + S1.size a ≤ S136.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S136) ![v0.toNat] S1.size (k0_off1_inb i)) numel1_S1
  let c0_i32 : BitVec 32 := 0#32
  let c0_i32_0 : BitVec 32 := 0#32
  ![arg0.toNat, c0_i32.toNat, v1.toNat]

abbrev stage0_0 : Fin 2 → Memref sig .tc .vmem S8x512x80 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x80x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x64x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S8x64x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S8x1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Kernel17Ideal.lean ====
variable {F : FTy → Type} [FloatOps F] [Named F]
def κ : String → Option EReal := fun
  | "mask" => some ⊥
  | _ => none
-- ==== Reference17Ideal.lean ====
abbrev S136 : Shape := ⟨1, ![136]⟩
abbrev S8x80x8192 : Shape := ⟨3, ![8, 80, 8192]⟩
abbrev S8x8192x80 : Shape := ⟨3, ![8, 8192, 80]⟩
abbrev S8x64x8192 : Shape := ⟨3, ![8, 64, 8192]⟩
abbrev S8x8192x8192 : Shape := ⟨3, ![8, 8192, 8192]⟩
abbrev S8192 : Shape := ⟨1, ![8192]⟩
abbrev S1x1x8192 : Shape := ⟨3, ![1, 1, 8192]⟩
abbrev S1x8192x1 : Shape := ⟨3, ![1, 8192, 1]⟩
abbrev S1x8192x8192 : Shape := ⟨3, ![1, 8192, 8192]⟩
abbrev S_ : Shape := ⟨0, ![]⟩
abbrev S8x8192 : Shape := ⟨2, ![8, 8192]⟩
abbrev S8x8192x1 : Shape := ⟨3, ![8, 8192, 1]⟩
abbrev S8x1x8192 : Shape := ⟨3, ![8, 1, 8192]⟩

abbrev nBuf : Space → Nat
  | .hbm => 37
  | .vmem => 0
  | .smem => 0
  | _ => 0

abbrev bufTy : (tb : Table) → Fin (tcTables nBuf tb) → BufTy
  | .hbm, ⟨0, _⟩ => ⟨S136, .i32⟩
  | .hbm, ⟨1, _⟩ => ⟨S136, .i32⟩
  | .hbm, ⟨2, _⟩ => ⟨S8x80x8192, .bf16⟩
  | .hbm, ⟨3, _⟩ => ⟨S8x8192x80, .bf16⟩
  | .hbm, ⟨4, _⟩ => ⟨S8x64x8192, .bf16⟩
  | .hbm, ⟨5, _⟩ => ⟨S8x80x8192, .f32⟩
  | .hbm, ⟨6, _⟩ => ⟨S8x8192x80, .f32⟩
  | .hbm, ⟨7, _⟩ => ⟨S8x8192x8192, .f32⟩
  | .hbm, ⟨8, _⟩ => ⟨S8192, .i32⟩
  | .hbm, ⟨9, _⟩ => ⟨S1x1x8192, .i32⟩
  | .hbm, ⟨10, _⟩ => ⟨S1x8192x1, .i32⟩
  | .hbm, ⟨11, _⟩ => ⟨S1x8192x8192, .i32⟩
  | .hbm, ⟨12, _⟩ => ⟨S1x8192x8192, .i32⟩
  | .hbm, ⟨13, _⟩ => ⟨S1x8192x8192, .i1⟩
  | .hbm, ⟨14, _⟩ => ⟨S_, .f32⟩
  | .hbm, ⟨15, _⟩ => ⟨S_, .f32⟩
  | .hbm, ⟨16, _⟩ => ⟨S8x8192x8192, .i1⟩
  | .hbm, ⟨17, _⟩ => ⟨S8x8192x8192, .f32⟩
  | .hbm, ⟨18, _⟩ => ⟨S8x8192x8192, .f32⟩
  | .hbm, ⟨19, _⟩ => ⟨S_, .f32⟩
  | .hbm, ⟨20, _⟩ => ⟨S8x8192, .f32⟩
  | .hbm, ⟨21, _⟩ => ⟨S8x8192x1, .f32⟩
  | .hbm, ⟨22, _⟩ => ⟨S8x8192x8192, .f32⟩
  | .hbm, ⟨23, _⟩ => ⟨S8x8192x8192, .f32⟩
  | .hbm, ⟨24, _⟩ => ⟨S8x8192x8192, .f32⟩
  | .hbm, ⟨25, _⟩ => ⟨S_, .f32⟩
  | .hbm, ⟨26, _⟩ => ⟨S8x8192, .f32⟩
  | .hbm, ⟨27, _⟩ => ⟨S8x8192x1, .f32⟩
  | .hbm, ⟨28, _⟩ => ⟨S8x8192x8192, .f32⟩
  | .hbm, ⟨29, _⟩ => ⟨S8x8192x8192, .f32⟩
  | .hbm, ⟨30, _⟩ => ⟨S8x8192x8192, .bf16⟩
  | .hbm, ⟨31, _⟩ => ⟨S8x8192x8192, .f32⟩
  | .hbm, ⟨32, _⟩ => ⟨S8x64x8192, .f32⟩
  | .hbm, ⟨33, _⟩ => ⟨S8x64x8192, .f32⟩
  | .hbm, ⟨34, _⟩ => ⟨S8x8192x1, .f32⟩
  | .hbm, ⟨35, _⟩ => ⟨S8x8192x1, .f32⟩
  | .hbm, ⟨36, _⟩ => ⟨S8x1x8192, .f32⟩
  | _, _ => ⟨S136, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst : Ref sig .tc := ⟨.hbm, 14, rfl⟩
abbrev main_call0_v0 : Ref sig .tc := ⟨.hbm, 15, rfl⟩
abbrev main_call0_v1 : Ref sig .tc := ⟨.hbm, 16, rfl⟩
abbrev main_call0_v2 : Ref sig .tc := ⟨.hbm, 17, rfl⟩
abbrev main_v9 : Ref sig .tc := ⟨.hbm, 18, rfl⟩
abbrev main_cst_0 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_1 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩

abbrev nD : Nat := 1
abbrev τ : Topo := Topo.v7x

variable {F : FTy → Type} [FloatOps F]
-- ==== Kernel18.lean ====
abbrev S8192x1024 : Shape := ⟨2, ![8192, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .f32⟩
  | .hbm, ⟨2, _⟩ => ⟨S1024x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .f32⟩
  | .local _ .vmem, ⟨3, _⟩ => ⟨S1024x1024, .f32⟩
  | .local _ .vmem, ⟨4, _⟩ => ⟨S1024x1024, .bf16⟩
  | .local _ .vmem, ⟨5, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 8], ![false, false, false]⟩

def k0_cond2 (i : grid0.Coords) : BitVec 1 :=
  let arg2 : BitVec 32 := BitVec.ofNat 32 (i 2).val
  let c7_i32 : BitVec 32 := 7#32
  let v12 : BitVec 1 := Scalar.cmpi .eq arg2 c7_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference18Ideal.lean ====
abbrev S8192x1024 : Shape := ⟨2, ![8192, 1024]⟩
abbrev S_ : Shape := ⟨0, ![]⟩
abbrev S1024x1024 : Shape := ⟨2, ![1024, 1024]⟩

abbrev nBuf : Space → Nat
  | .hbm => 10
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .f32⟩
  | .hbm, ⟨2, _⟩ => ⟨S_, .f32⟩
  | .hbm, ⟨3, _⟩ => ⟨S1024x1024, .f32⟩
  | .hbm, ⟨4, _⟩ => ⟨S8192x1024, .f32⟩
  | .hbm, ⟨5, _⟩ => ⟨S8192x1024, .f32⟩
  | .hbm, ⟨6, _⟩ => ⟨S1024x1024, .f32⟩
  | .hbm, ⟨7, _⟩ => ⟨S1024x1024, .f32⟩
  | .hbm, ⟨8, _⟩ => ⟨S8192x1024, .f32⟩
  | .hbm, ⟨9, _⟩ => ⟨S1024x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel19.lean ====
abbrev S8192x1024 : Shape := ⟨2, ![8192, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S1024x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 8], ![false, false, false]⟩

def k0_cond2 (i : grid0.Coords) : BitVec 1 :=
  let arg2 : BitVec 32 := BitVec.ofNat 32 (i 2).val
  let c7_i32 : BitVec 32 := 7#32
  let v11 : BitVec 1 := Scalar.cmpi .eq arg2 c7_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference19Ideal.lean ====
abbrev S8192x1024 : Shape := ⟨2, ![8192, 1024]⟩
abbrev S_ : Shape := ⟨0, ![]⟩
abbrev S1024x1024 : Shape := ⟨2, ![1024, 1024]⟩

abbrev nBuf : Space → Nat
  | .hbm => 11
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S_, .f32⟩
  | .hbm, ⟨3, _⟩ => ⟨S1024x1024, .f32⟩
  | .hbm, ⟨4, _⟩ => ⟨S8192x1024, .f32⟩
  | .hbm, ⟨5, _⟩ => ⟨S8192x1024, .f32⟩
  | .hbm, ⟨6, _⟩ => ⟨S8192x1024, .f32⟩
  | .hbm, ⟨7, _⟩ => ⟨S1024x1024, .f32⟩
  | .hbm, ⟨8, _⟩ => ⟨S1024x1024, .f32⟩
  | .hbm, ⟨9, _⟩ => ⟨S8192x1024, .f32⟩
  | .hbm, ⟨10, _⟩ => ⟨S1024x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel20.lean ====
abbrev S8192x512 : Shape := ⟨2, ![8192, 512]⟩
abbrev S512x1024 : Shape := ⟨2, ![512, 1024]⟩
abbrev S8192x1024 : Shape := ⟨2, ![8192, 1024]⟩
abbrev S1024x512 : Shape := ⟨2, ![1024, 512]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x512, .bf16⟩
  | .hbm, ⟨1, _⟩ => ⟨S512x1024, .bf16⟩
  | .hbm, ⟨2, _⟩ => ⟨S8192x1024, .bf16⟩
  | .local _ .vmem, ⟨0, _⟩ => ⟨S1024x512, .bf16⟩
  | .local _ .vmem, ⟨1, _⟩ => ⟨S1024x512, .bf16⟩
  | .local _ .vmem, ⟨2, _⟩ => ⟨S512x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .f32⟩
  | _, _ => ⟨S8192x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S512x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference20Ideal.lean ====
abbrev S8192x512 : Shape := ⟨2, ![8192, 512]⟩
abbrev S512x1024 : Shape := ⟨2, ![512, 1024]⟩
abbrev S8192x1024 : Shape := ⟨2, ![8192, 1024]⟩

abbrev nBuf : Space → Nat
  | .hbm => 6
  | .vmem => 0
  | .smem => 0
  | _ => 0

abbrev bufTy : (tb : Table) → Fin (tcTables nBuf tb) → BufTy
  | .hbm, ⟨0, _⟩ => ⟨S8192x512, .bf16⟩
  | .hbm, ⟨1, _⟩ => ⟨S512x1024, .bf16⟩
  | .hbm, ⟨2, _⟩ => ⟨S8192x512, .f32⟩
  | .hbm, ⟨3, _⟩ => ⟨S512x1024, .f32⟩
  | .hbm, ⟨4, _⟩ => ⟨S8192x1024, .f32⟩
  | .hbm, ⟨5, _⟩ => ⟨S8192x1024, .bf16⟩
  | _, _ => ⟨S8192x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel21.lean ====
abbrev S8192x1024 : Shape := ⟨2, ![8192, 1024]⟩
abbrev S512x1024 : Shape := ⟨2, ![512, 1024]⟩
abbrev S8192x512 : Shape := ⟨2, ![8192, 512]⟩
abbrev S1024x1024 : Shape := ⟨2, ![1024, 1024]⟩
abbrev S1024x512 : Shape := ⟨2, ![1024, 512]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S512x1024, .bf16⟩
  | .hbm, ⟨2, _⟩ => ⟨S8192x512, .bf16⟩
  | .local _ .vmem, ⟨0, _⟩ => ⟨S1024x1024, .bf16⟩
  | .local _ .vmem, ⟨1, _⟩ => ⟨S1024x1024, .bf16⟩
  | .local _ .vmem, ⟨2, _⟩ => ⟨S512x1024, .bf16⟩
  | .local _ .vmem, ⟨3, _⟩ => ⟨S1024x512, .bf16⟩
  | .local _ .vmem, ⟨4, _⟩ => ⟨S1024x512, .bf16⟩
  | .local _ .vmem, ⟨5, _⟩ => ⟨S1024x512, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S512x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference21Ideal.lean ====
abbrev S8192x1024 : Shape := ⟨2, ![8192, 1024]⟩
abbrev S512x1024 : Shape := ⟨2, ![512, 1024]⟩
abbrev S_ : Shape := ⟨0, ![]⟩
abbrev S8192x512 : Shape := ⟨2, ![8192, 512]⟩
abbrev S1024x512 : Shape := ⟨2, ![1024, 512]⟩

abbrev nBuf : Space → Nat
  | .hbm => 11
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S512x1024, .bf16⟩
  | .hbm, ⟨2, _⟩ => ⟨S_, .f32⟩
  | .hbm, ⟨3, _⟩ => ⟨S8192x512, .f32⟩
  | .hbm, ⟨4, _⟩ => ⟨S512x1024, .f32⟩
  | .hbm, ⟨5, _⟩ => ⟨S8192x1024, .f32⟩
  | .hbm, ⟨6, _⟩ => ⟨S8192x1024, .f32⟩
  | .hbm, ⟨7, _⟩ => ⟨S1024x512, .f32⟩
  | .hbm, ⟨8, _⟩ => ⟨S512x1024, .f32⟩
  | .hbm, ⟨9, _⟩ => ⟨S8192x512, .f32⟩
  | .hbm, ⟨10, _⟩ => ⟨S8192x512, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel22.lean ====
abbrev S8192x512 : Shape := ⟨2, ![8192, 512]⟩
abbrev S512x1024 : Shape := ⟨2, ![512, 1024]⟩
abbrev S8192x1024 : Shape := ⟨2, ![8192, 1024]⟩
abbrev S1024x512 : Shape := ⟨2, ![1024, 512]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x512, .f32⟩
  | .hbm, ⟨1, _⟩ => ⟨S512x1024, .bf16⟩
  | .hbm, ⟨2, _⟩ => ⟨S8192x1024, .bf16⟩
  | .local _ .vmem, ⟨0, _⟩ => ⟨S1024x512, .f32⟩
  | .local _ .vmem, ⟨1, _⟩ => ⟨S1024x512, .f32⟩
  | .local _ .vmem, ⟨2, _⟩ => ⟨S512x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def k0_cond2 (i : grid0.Coords) : BitVec 1 :=
  let arg2 : BitVec 32 := BitVec.ofNat 32 (i 2).val
  let c0_i32_8 : BitVec 32 := 0#32
  let v12 : BitVec 1 := Scalar.cmpi .eq arg2 c0_i32_8
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S512x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference22Ideal.lean ====
abbrev S8192x512 : Shape := ⟨2, ![8192, 512]⟩
abbrev S512x1024 : Shape := ⟨2, ![512, 1024]⟩
abbrev S8192x1024 : Shape := ⟨2, ![8192, 1024]⟩

abbrev nBuf : Space → Nat
  | .hbm => 5
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S512x1024, .bf16⟩
  | .hbm, ⟨2, _⟩ => ⟨S512x1024, .f32⟩
  | .hbm, ⟨3, _⟩ => ⟨S8192x1024, .f32⟩
  | .hbm, ⟨4, _⟩ => ⟨S8192x1024, .bf16⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel23.lean ====
abbrev S8192x512 : Shape := ⟨2, ![8192, 512]⟩
abbrev S8192x1024 : Shape := ⟨2, ![8192, 1024]⟩
abbrev S512x1024 : Shape := ⟨2, ![512, 1024]⟩
abbrev S1024x512 : Shape := ⟨2, ![1024, 512]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x512, .bf16⟩
  | .hbm, ⟨1, _⟩ => ⟨S8192x1024, .bf16⟩
  | .hbm, ⟨2, _⟩ => ⟨S512x1024, .bf16⟩
  | .local _ .vmem, ⟨0, _⟩ => ⟨S1024x512, .bf16⟩
  | .local _ .vmem, ⟨1, _⟩ => ⟨S1024x512, .bf16⟩
  | .local _ .vmem, ⟨2, _⟩ => ⟨S1024x1024, .bf16⟩
  | .local _ .vmem, ⟨3, _⟩ => ⟨S1024x1024, .bf16⟩
  | .local _ .vmem, ⟨4, _⟩ => ⟨S512x1024, .bf16⟩
  | .local _ .vmem, ⟨5, _⟩ => ⟨S512x1024, .f32⟩
  | _, _ => ⟨S8192x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 8], ![false, false, false]⟩

def k0_cond2 (i : grid0.Coords) : BitVec 1 :=
  let arg2 : BitVec 32 := BitVec.ofNat 32 (i 2).val
  let c7_i32 : BitVec 32 := 7#32
  let v11 : BitVec 1 := Scalar.cmpi .eq arg2 c7_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S512x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference23Ideal.lean ====
abbrev S8192x512 : Shape := ⟨2, ![8192, 512]⟩
abbrev S8192x1024 : Shape := ⟨2, ![8192, 1024]⟩
abbrev S_ : Shape := ⟨0, ![]⟩
abbrev S512x1024 : Shape := ⟨2, ![512, 1024]⟩
abbrev S1024x512 : Shape := ⟨2, ![1024, 512]⟩

abbrev nBuf : Space → Nat
  | .hbm => 11
  | .vmem => 0
  | .smem => 0
  | _ => 0

abbrev bufTy : (tb : Table) → Fin (tcTables nBuf tb) → BufTy
  | .hbm, ⟨0, _⟩ => ⟨S8192x512, .bf16⟩
  | .hbm, ⟨1, _⟩ => ⟨S8192x1024, .bf16⟩
  | .hbm, ⟨2, _⟩ => ⟨S_, .f32⟩
  | .hbm, ⟨3, _⟩ => ⟨S512x1024, .f32⟩
  | .hbm, ⟨4, _⟩ => ⟨S8192x512, .f32⟩
  | .hbm, ⟨5, _⟩ => ⟨S8192x1024, .f32⟩
  | .hbm, ⟨6, _⟩ => ⟨S8192x1024, .f32⟩
  | .hbm, ⟨7, _⟩ => ⟨S1024x512, .f32⟩
  | .hbm, ⟨8, _⟩ => ⟨S512x1024, .f32⟩
  | .hbm, ⟨9, _⟩ => ⟨S8192x512, .f32⟩
  | .hbm, ⟨10, _⟩ => ⟨S512x1024, .bf16⟩
  | _, _ => ⟨S8192x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel24.lean ====
abbrev S8192x512 : Shape := ⟨2, ![8192, 512]⟩
abbrev S8192x1024 : Shape := ⟨2, ![8192, 1024]⟩
abbrev S512x1024 : Shape := ⟨2, ![512, 1024]⟩
abbrev S1024x512 : Shape := ⟨2, ![1024, 512]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x512, .f32⟩
  | .hbm, ⟨1, _⟩ => ⟨S8192x1024, .bf16⟩
  | .hbm, ⟨2, _⟩ => ⟨S512x1024, .bf16⟩
  | .local _ .vmem, ⟨0, _⟩ => ⟨S1024x512, .f32⟩
  | .local _ .vmem, ⟨1, _⟩ => ⟨S1024x512, .f32⟩
  | .local _ .vmem, ⟨2, _⟩ => ⟨S1024x1024, .bf16⟩
  | .local _ .vmem, ⟨3, _⟩ => ⟨S1024x1024, .bf16⟩
  | .local _ .vmem, ⟨4, _⟩ => ⟨S512x1024, .bf16⟩
  | .local _ .vmem, ⟨5, _⟩ => ⟨S512x1024, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 8], ![false, false, false]⟩

def k0_cond2 (i : grid0.Coords) : BitVec 1 :=
  let arg2 : BitVec 32 := BitVec.ofNat 32 (i 2).val
  let c7_i32 : BitVec 32 := 7#32
  let v12 : BitVec 1 := Scalar.cmpi .eq arg2 c7_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S512x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference24Ideal.lean ====
abbrev S8192x512 : Shape := ⟨2, ![8192, 512]⟩
abbrev S8192x1024 : Shape := ⟨2, ![8192, 1024]⟩
abbrev S_ : Shape := ⟨0, ![]⟩
abbrev S512x1024 : Shape := ⟨2, ![512, 1024]⟩
abbrev S1024x512 : Shape := ⟨2, ![1024, 512]⟩

abbrev nBuf : Space → Nat
  | .hbm => 10
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S8192x1024, .bf16⟩
  | .hbm, ⟨2, _⟩ => ⟨S_, .f32⟩
  | .hbm, ⟨3, _⟩ => ⟨S512x1024, .f32⟩
  | .hbm, ⟨4, _⟩ => ⟨S8192x1024, .f32⟩
  | .hbm, ⟨5, _⟩ => ⟨S8192x1024, .f32⟩
  | .hbm, ⟨6, _⟩ => ⟨S1024x512, .f32⟩
  | .hbm, ⟨7, _⟩ => ⟨S512x1024, .f32⟩
  | .hbm, ⟨8, _⟩ => ⟨S8192x512, .f32⟩
  | .hbm, ⟨9, _⟩ => ⟨S512x1024, .bf16⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel25.lean ====
abbrev S8192x1024 : Shape := ⟨2, ![8192, 1024]⟩
abbrev S256x2048 : Shape := ⟨2, ![256, 2048]⟩
abbrev S512x1024 : Shape := ⟨2, ![512, 1024]⟩
abbrev S256x1024 : Shape := ⟨2, ![256, 1024]⟩
abbrev S512x256 : Shape := ⟨2, ![512, 256]⟩
abbrev S256x256 : Shape := ⟨2, ![256, 256]⟩
abbrev S512 : Shape := ⟨1, ![512]⟩
abbrev S512x1 : Shape := ⟨2, ![512, 1]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S256x2048, .bf16⟩
  | .hbm, ⟨2, _⟩ => ⟨S8192x1024, .bf16⟩
  | .local _ .vmem, ⟨0, _⟩ => ⟨S512x1024, .bf16⟩
  | .local _ .vmem, ⟨1, _⟩ => ⟨S512x1024, .bf16⟩
  | .local _ .vmem, ⟨2, _⟩ => ⟨S256x1024, .bf16⟩
  | .local _ .vmem, ⟨3, _⟩ => ⟨S256x1024, .bf16⟩
  | .local _ .vmem, ⟨4, _⟩ => ⟨S512x1024, .bf16⟩
  | .local _ .vmem, ⟨5, _⟩ => ⟨S512x1024, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c1_i32 : BitVec 32 := 1#32
  let c0_i32_0 : BitVec 32 := 0#32
  ![c0_i32.toNat, c1_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference25Ideal.lean ====
abbrev S8192x1024 : Shape := ⟨2, ![8192, 1024]⟩
abbrev S256x2048 : Shape := ⟨2, ![256, 2048]⟩
abbrev S256x1024 : Shape := ⟨2, ![256, 1024]⟩
abbrev S8192x4x256 : Shape := ⟨3, ![8192, 4, 256]⟩
abbrev S256x4x256 : Shape := ⟨3, ![256, 4, 256]⟩
abbrev S4x8192x256 : Shape := ⟨3, ![4, 8192, 256]⟩
abbrev S_ : Shape := ⟨0, ![]⟩
abbrev S4x8192 : Shape := ⟨2, ![4, 8192]⟩
abbrev S4x8192x1 : Shape := ⟨3, ![4, 8192, 1]⟩
abbrev S4x256x8192 : Shape := ⟨3, ![4, 256, 8192]⟩

abbrev nBuf : Space → Nat
  | .hbm => 31
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S256x2048, .bf16⟩
  | .hbm, ⟨2, _⟩ => ⟨S8192x1024, .f32⟩
  | .hbm, ⟨3, _⟩ => ⟨S256x2048, .f32⟩
  | .hbm, ⟨4, _⟩ => ⟨S256x1024, .f32⟩
  | .hbm, ⟨5, _⟩ => ⟨S256x1024, .f32⟩
  | .hbm, ⟨6, _⟩ => ⟨S8192x4x256, .f32⟩
  | .hbm, ⟨7, _⟩ => ⟨S256x4x256, .f32⟩
  | .hbm, ⟨8, _⟩ => ⟨S256x4x256, .f32⟩
  | .hbm, ⟨9, _⟩ => ⟨S4x8192x256, .f32⟩
  | .hbm, ⟨10, _⟩ => ⟨S_, .f32⟩
  | .hbm, ⟨11, _⟩ => ⟨S4x8192x256, .f32⟩
  | .hbm, ⟨12, _⟩ => ⟨S4x8192x256, .f32⟩
  | .hbm, ⟨13, _⟩ => ⟨S_, .f32⟩
  | .hbm, ⟨14, _⟩ => ⟨S4x8192, .f32⟩
  | .hbm, ⟨15, _⟩ => ⟨S_, .f32⟩
  | .hbm, ⟨16, _⟩ => ⟨S4x8192, .f32⟩
  | .hbm, ⟨17, _⟩ => ⟨S4x8192, .f32⟩
  | .hbm, ⟨18, _⟩ => ⟨S4x8192x1, .f32⟩
  | .hbm, ⟨19, _⟩ => ⟨S4x8192x256, .f32⟩
  | .hbm, ⟨20, _⟩ => ⟨S4x8192x256, .f32⟩
  | .hbm, ⟨21, _⟩ => ⟨S4x8192x256, .f32⟩
  | .hbm, ⟨22, _⟩ => ⟨S_, .f32⟩
  | .hbm, ⟨23, _⟩ => ⟨S4x8192, .f32⟩
  | .hbm, ⟨24, _⟩ => ⟨S4x8192x1, .f32⟩
  | .hbm, ⟨25, _⟩ => ⟨S4x8192x256, .f32⟩
  | .hbm, ⟨26, _⟩ => ⟨S4x8192x256, .f32⟩
  | .hbm, ⟨27, _⟩ => ⟨S4x256x8192, .f32⟩
  | .hbm, ⟨28, _⟩ => ⟨S8192x4x256, .f32⟩
  | .hbm, ⟨29, _⟩ => ⟨S8192x1024, .f32⟩
  | .hbm, ⟨30, _⟩ => ⟨S8192x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_cst : Ref sig .tc := ⟨.hbm, 10, rfl⟩
abbrev main_v8 : Ref sig .tc := ⟨.hbm, 11, rfl⟩
abbrev main_v9 : Ref sig .tc := ⟨.hbm, 12, rfl⟩
abbrev main_cst_0 : Ref sig .tc := ⟨.hbm, 13, rfl⟩
abbrev main_v10 : Ref sig .tc := ⟨.hbm, 14, rfl⟩
abbrev main_cst_1 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_cst_2 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩

abbrev nD : Nat := 1
abbrev τ : Topo := Topo.v7x

variable {F : FTy → Type} [FloatOps F]
-- ==== Kernel26.lean ====
abbrev S8192x1024 : Shape := ⟨2, ![8192, 1024]⟩
abbrev S1024x1024 : Shape := ⟨2, ![1024, 1024]⟩
abbrev S1x1024 : Shape := ⟨2, ![1, 1024]⟩
abbrev S1024 : Shape := ⟨1, ![1024]⟩
abbrev S1024x1 : Shape := ⟨2, ![1024, 1]⟩

abbrev nBuf : Space → Nat
  | .hbm => 7
  | .vmem => 12
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .f32⟩
  | .hbm, ⟨3, _⟩ => ⟨S1x1024, .f32⟩
  | .hbm, ⟨4, _⟩ => ⟨S8192x1024, .f32⟩
  | .hbm, ⟨5, _⟩ => ⟨S8192x1024, .f32⟩
  | .hbm, ⟨6, _⟩ => ⟨S1x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | .local _ .vmem, ⟨9, _⟩ => ⟨S1024x1024, .f32⟩
  | .local _ .vmem, ⟨10, _⟩ => ⟨S1x1024, .f32⟩
  | .local _ .vmem, ⟨11, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨2, ![8, 1], ![false, false]⟩

def k0_cond3 (i : grid0.Coords) : BitVec 1 :=
  let arg1 : BitVec 32 := BitVec.ofNat 32 (i 1).val
  let c0_i32_11 : BitVec 32 := 0#32
  let v16 : BitVec 1 := Scalar.cmpi .eq arg1 c0_i32_11
  let v17 : BitVec 32 := Scalar.extui v16
  let c0_i32_12 : BitVec 32 := 0#32
  let v18 : BitVec 1 := Scalar.cmpi .ne v17 c0_i32_12
  v18

def k0_cond2 (i : grid0.Coords) : BitVec 1 :=
  let arg0 : BitVec 32 := BitVec.ofNat 32 (i 0).val
  let c0_i32_1 : BitVec 32 := 0#32
  let v3 : BitVec 1 := Scalar.cmpi .eq arg0 c0_i32_1
  let arg1 : BitVec 32 := BitVec.ofNat 32 (i 1).val
  let c0_i32_2 : BitVec 32 := 0#32
  let v4 : BitVec 1 := Scalar.cmpi .eq arg1 c0_i32_2
  let v5 : BitVec 1 := Scalar.andi v3 v4
  let v6 : BitVec 32 := Scalar.extui v5
  let c0_i32_3 : BitVec 32 := 0#32
  let v7 : BitVec 1 := Scalar.cmpi .ne v6 c0_i32_3
  v7

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.minsi arg1 c0_i32
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]
-- ==== Reference26Ideal.lean ====
abbrev S8192x1024 : Shape := ⟨2, ![8192, 1024]⟩
abbrev S1024x1024 : Shape := ⟨2, ![1024, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩
abbrev S1024 : Shape := ⟨1, ![1024]⟩

abbrev nBuf : Space → Nat
  | .hbm => 54
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .f32⟩
  | .hbm, ⟨3, _⟩ => ⟨S1x1024, .f32⟩
  | .hbm, ⟨4, _⟩ => ⟨S8192x1024, .f32⟩
  | .hbm, ⟨5, _⟩ => ⟨S1024x1024, .f32⟩
  | .hbm, ⟨6, _⟩ => ⟨S8192x1024, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S_, .f32⟩
  | .hbm, ⟨19, _⟩ => ⟨S8192x1, .f32⟩
  | .hbm, ⟨20, _⟩ => ⟨S8192x1, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S8192x1024, .f32⟩
  | .hbm, ⟨25, _⟩ => ⟨S8192x1024, .f32⟩
  | .hbm, ⟨26, _⟩ => ⟨S8192x1024, .f32⟩
  | .hbm, ⟨27, _⟩ => ⟨S1024x1024, .f32⟩
  | .hbm, ⟨28, _⟩ => ⟨S1024x1024, .f32⟩
  | .hbm, ⟨29, _⟩ => ⟨S8192x1024, .f32⟩
  | .hbm, ⟨30, _⟩ => ⟨S8192x1024, .f32⟩
  | .hbm, ⟨31, _⟩ => ⟨S_, .f32⟩
  | .hbm, ⟨32, _⟩ => ⟨S1024, .f32⟩
  | .hbm, ⟨33, _⟩ => ⟨S1x1024, .f32⟩
  | .hbm, ⟨34, _⟩ => ⟨S8192x1024, .f32⟩
  | .hbm, ⟨35, _⟩ => ⟨S8192x1024, .f32⟩
  | .hbm, ⟨36, _⟩ => ⟨S8192x1024, .f32⟩
  | .hbm, ⟨37, _⟩ => ⟨S_, .f32⟩
  | .hbm, ⟨38, _⟩ => ⟨S8192, .f32⟩
  | .hbm, ⟨39, _⟩ => ⟨S8192x1, .f32⟩
  | .hbm, ⟨40, _⟩ => ⟨S8192x1024, .f32⟩
  | .hbm, ⟨41, _⟩ => ⟨S8192x1024, .f32⟩
  | .hbm, ⟨42, _⟩ => ⟨S8192x1024, .f32⟩
  | .hbm, ⟨43, _⟩ => ⟨S8192x1, .f32⟩
  | .hbm, ⟨44, _⟩ => ⟨S_, .f32⟩
  | .hbm, ⟨45, _⟩ => ⟨S8192x1, .f32⟩
  | .hbm, ⟨46, _⟩ => ⟨S8192x1, .f32⟩
  | .hbm, ⟨47, _⟩ => ⟨S_, .f32⟩
  | .hbm, ⟨48, _⟩ => ⟨S8192, .f32⟩
  | .hbm, ⟨49, _⟩ => ⟨S8192x1024, .f32⟩
  | .hbm, ⟨50, _⟩ => ⟨S8192x1024, .f32⟩
  | .hbm, ⟨51, _⟩ => ⟨S8192x1024, .f32⟩
  | .hbm, ⟨52, _⟩ => ⟨S8192x1024, .f32⟩
  | .hbm, ⟨53, _⟩ => ⟨S8192x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_3 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_4 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_cst_5 : Ref sig .tc := ⟨.hbm, 44, rfl⟩
abbrev main_v33 : Ref sig .tc := ⟨.hbm, 45, rfl⟩
abbrev main_v34 : Ref sig .tc := ⟨.hbm, 46, rfl⟩
abbrev main_cst_6 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩

abbrev nD : Nat := 1
abbrev τ : Topo := Topo.v7x

variable {F : FTy → Type} [FloatOps F]
-- ==== Proof.Pin.lean ====
module

public import proofs.«01_k».proof.Defs
public import proofs.«01_k».proof.Proof.Gen.Kernel17.Flash
public import proofs.«01_k».proof.Proof.Gen.Kernel17Ideal.Flash
public import proofs.«01_k».proof.Proof.Gen.Pre_tables17
public import proofs.«01_k».proof.Proof.Gen.Pre_finite17

@[expose] public section

set_option maxRecDepth 16384

/-! The tables of the causal schedule: the precondition compares the two prefetched tables with the pairs `(qi, ki)`, `ki ≤ qi`, so the launch memory is the one the frames are written at. -/

noncomputable section

open Idealize.ShloMosaic
open Idealize.ShloMosaic.TcCoe Idealize.SL.Sem

namespace Cert.Proof.Pin

theorem ofBool_eq_one (p : Bool) : (BitVec.ofBool p = 1#1) ↔ p = true := by cases p <;> decide

theorem cmp_eq {a b : BitVec 32} (h : IntOp.cmpi .eq a b = 1#1) : a = b := by
  simpa only [IntOp.cmpi, ofBool_eq_one, beq_iff_eq] using h

/-- The two printed predicates hold the same tables. -/
theorem lit0_eq : ∀ i : Fin 136, Cert.Pre_tables17.lit0 i = Cert.Pre_finite17.lit0 i := by decide +kernel
theorem lit1_eq : ∀ i : Fin 136, Cert.Pre_tables17.lit1 i = Cert.Pre_finite17.lit1 i := by decide +kernel

theorem table0 : ∀ x : Cert.Kernel17Ideal.S136.Idx, Cert.Pre_tables17.lit0 (Cert.Pre_tables17.S136.rowMajor x) = Cert.Kernel17Ideal.Gen.pinT_0 0 x := by decide +kernel
theorem table1 : ∀ x : Cert.Kernel17Ideal.S136.Idx, Cert.Pre_tables17.lit1 (Cert.Pre_tables17.S136.rowMajor x) = Cert.Kernel17Ideal.Gen.pinT_1 0 x := by decide +kernel

namespace Kernel17

open Cert.Kernel17 Cert.Kernel17.Gen

theorem pinned_of_pre (m : (ℓ : Loc nD τ sig) → Buf (Elt Bits) ℓ) (h : Cert.Pre_Kernel17 m) : ∃ ch, Pinned ch m :=
  ⟨0, fun c => funext fun y => (cmp_eq (congrFun (h c).1 y)).trans (table0 y), fun c => funext fun y => (cmp_eq (congrFun (h c).2 y)).trans (table1 y)⟩

end Kernel17

namespace Kernel17Ideal

open Cert.Kernel17Ideal Cert.Kernel17Ideal.Gen

theorem pinned_of_pre (m : (ℓ : Loc nD τ sig) → Buf (Elt Ideal) ℓ) (h : Cert.Pre_Kernel17Ideal m) : ∃ ch, Pinned ch m :=
  ⟨0, fun c => funext fun y => (cmp_eq (congrFun (h c).1 y)).trans (table0 y), fun c => funext fun y => (cmp_eq (congrFun (h c).2 y)).trans (table1 y)⟩

theorem pinned_of_fin (m : (ℓ : Loc nD τ sig) → Buf (Elt Ideal) ℓ) (h : Cert.Pre_Kernel17Ideal_finite17 m) : Pinned 0 m :=
  ⟨fun c => funext fun y => (cmp_eq (congrFun (h c).1 y)).trans ((lit0_eq _).symm.trans (table0 y)),
    fun c => funext fun y => (cmp_eq (congrFun (h c).2.1 y)).trans ((lit1_eq _).symm.trans (table1 y))⟩

end Kernel17Ideal

end Cert.Proof.Pin

end
-- ==== Proof.Common.lean ====
/-
  Facts about the extended reals that several of the launches use: when a value is a real number, how a precondition
  that says "every entry is finite" reads, and sums of real numbers.
-/
module

public import Idealize.ShloMosaic.Lib.MatmulPlain
public import Idealize.ShloMosaic.Lib.ReduceAll
public import Idealize.ShloMosaic.Lib.Pointwise.Select
public import Idealize.ShloMosaic.Lib.Tactic
public import Idealize.ShloMosaic.Lib.Claim

@[expose] public section

noncomputable section

namespace Cert.Proof

open Idealize.ShloMosaic hiding ix2
open Idealize.ShloMosaic.ValueIdx

/-- An extended real that is a real number. -/
def Fin' (x : EReal) : Prop := ∃ r : ℝ, x = (r : EReal)

theorem Fin'.coe (r : ℝ) : Fin' (r : EReal) := ⟨r, rfl⟩
theorem Fin'.zero : Fin' 0 := ⟨0, rfl⟩
theorem Fin'.add {x y : EReal} (hx : Fin' x) (hy : Fin' y) : Fin' (x + y) := by
  obtain ⟨a, rfl⟩ := hx; obtain ⟨b, rfl⟩ := hy; exact ⟨a + b, by push_cast; rfl⟩
theorem Fin'.mul {x y : EReal} (hx : Fin' x) (hy : Fin' y) : Fin' (x * y) := by
  obtain ⟨a, rfl⟩ := hx; obtain ⟨b, rfl⟩ := hy; exact ⟨a * b, by push_cast; rfl⟩
theorem Fin'.neg {x : EReal} (hx : Fin' x) : Fin' (-x) := by
  obtain ⟨a, rfl⟩ := hx; exact ⟨-a, by push_cast; rfl⟩
theorem Fin'.sub {x y : EReal} (hx : Fin' x) (hy : Fin' y) : Fin' (x - y) := by
  obtain ⟨a, rfl⟩ := hx; obtain ⟨b, rfl⟩ := hy; exact ⟨a - b, by push_cast; rfl⟩
theorem Fin'.sum {ι : Type} (s : Finset ι) {f : ι → EReal} (h : ∀ i, Fin' (f i)) : Fin' (∑ i ∈ s, f i) := by
  classical
  induction s using Finset.induction_on with
  | empty => simpa using Fin'.zero
  | insert a s ha ih => rw [Finset.sum_insert ha]; exact (h a).add ih

theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A factor goes through a sum of real numbers. -/
theorem mul_sum_fin {ι : Type} (s : Finset ι) {c : EReal} {f : ι → EReal} (hc : Fin' c) (h : ∀ i, Fin' (f i)) :
    c * ∑ i ∈ s, f i = ∑ i ∈ s, c * f i := by
  choose g hg using h
  obtain ⟨r, rfl⟩ := hc
  simp only [hg, ← EReal.coe_mul, ← coe_sum, Finset.mul_sum]

theorem sum_mul_fin {ι : Type} (s : Finset ι) {c : EReal} {f : ι → EReal} (hc : Fin' c) (h : ∀ i, Fin' (f i)) :
    (∑ i ∈ s, f i) * c = ∑ i ∈ s, f i * c := by
  rw [mul_comm, mul_sum_fin s hc h]; exact Finset.sum_congr rfl fun _ _ => mul_comm _ _

theorem lt_top_abs {x : EReal} (h : max x (-x) < ⊤) : Fin' x := by
  induction x with
  | bot => simp at h
  | top => simp at h
  | coe r => exact ⟨r, rfl⟩

theorem one_sub_one : (1 : EReal) - 1 = 0 := by rw [← EReal.coe_one, ← EReal.coe_sub]; simp

theorem ofBits_inf : Ideal.ofBits .f32 0x7F800000#32 = ⊤ := by simp [Ideal.ofBits, Ideal.ieee]
theorem ofBits_half : Ideal.ofBits .f32 0x3F000000#32 = ((1 / 2 : ℝ) : EReal) := by
  simp [Ideal.ofBits, Ideal.ieee, -EReal.coe_mul]; norm_num
theorem ofBits_one : Ideal.ofBits .f32 0x3F800000#32 = ((1 : ℝ) : EReal) := by
  simp [Ideal.ofBits, Ideal.ieee, -EReal.coe_mul]; norm_num

/-- A conjunction over all entries of "its absolute value is below infinity" makes every entry a real number. -/
theorem fin_of_all {s t u : Shape} {axes : List (Fin s.rank)} [Subsingleton t.Idx] (x : s.Idx → EReal) (p : s.Idx → BitVec 1)
    (hp : ∀ i, p i = Ideal.cmp .olt (max (x i) (-x i)) (Ideal.ofBits .f32 0x7F800000#32))
    (init : u.Idx → BitVec 1) (h : s.ReducesTo axes t) (hu : 0 < u.numel) (j : t.Idx)
    (e : Host.reduce IntOp.andi p init h hu j = 1#1) (i : s.Idx) : Fin' (x i) := by
  have := Host.reduce_andi_all p init h hu j e i
  rw [hp, ofBits_inf] at this
  exact lt_top_abs ((Ideal.cmp_olt_eq_one _ _).1 this)

/-! ## A product contracted over the rows of both operands -/

/-- The dimension numbers of `K×M` by `K×N`, both contracted on their rows. -/
def rowDims (M K N : ℕ) : DotDims ⟨2, ![K, M]⟩ ⟨2, ![K, N]⟩ ⟨2, ![M, N]⟩ where
  lhsContracting := [0]
  rhsContracting := [0]
  lhsNonContracting := [1]
  rhsNonContracting := [1]
  lhsBatch := []
  rhsBatch := []
  wf := ⟨rfl, by simp, rfl, by simp, by simp, by simp, by simp [List.finRange]; exact List.Perm.swap _ _ _,
    by simp [List.finRange]; exact List.Perm.swap _ _ _, rfl, Nat.two_pos,
    fun b => by fin_cases b <;> rfl⟩

theorem matmul_row_apply {M K N : ℕ} {φ₁ φ₂ : FTy} (prec : Option ContractPrecision)
    (lhs : FVec Ideal ⟨2, ![K, M]⟩ φ₁) (rhs : FVec Ideal ⟨2, ![K, N]⟩ φ₂) (acc : FVec Ideal ⟨2, ![M, N]⟩ .f32) (r : Fin M) (c : Fin N) :
    FloatOps.matmul (rowDims M K N) prec lhs rhs acc (ix2 r c) = acc (ix2 r c) + ∑ k : Fin K, lhs (ix2 k r) * rhs (ix2 k c) := by
  have hr : (rowDims M K N).contr.rank = 1 := rfl
  have hs : (rowDims M K N).contr.size ⟨0, by rw [hr]; exact Nat.one_pos⟩ = K := rfl
  rw [Ideal.matmul_apply, ← Equiv.sum_comp (contrEquiv1 _ K hr hs).symm]
  refine congrArg (acc (ix2 r c) + ·) (Finset.sum_congr rfl fun k _ => ?_)
  have hk := contrEquiv1_symm_val _ K hr hs k
  have el : (rowDims M K N).lhsIdx (ix2 r c) ((contrEquiv1 _ K hr hs).symm k) = ix2 k r := by
    funext a; apply Fin.ext
    match a with
    | ⟨0, _⟩ => exact hk
    | ⟨1, _⟩ => rfl
  have er : (rowDims M K N).rhsIdx (ix2 r c) ((contrEquiv1 _ K hr hs).symm k) = ix2 k c := by
    funext a; apply Fin.ext
    match a with
    | ⟨0, _⟩ => exact hk
    | ⟨1, _⟩ => rfl
  rw [el, er]

/-! ## Sums taken in runs of consecutive terms -/

/-- The sum of the first `n` of `N` terms. -/
def psum {N : ℕ} (f : Fin N → EReal) (n : ℕ) : EReal := ∑ i ∈ Finset.range n, if h : i < N then f ⟨i, h⟩ else 0

theorem psum_zero {N : ℕ} (f : Fin N → EReal) : psum f 0 = 0 := by simp [psum]

theorem psum_add {N : ℕ} (f : Fin N → EReal) (n K : ℕ) (h : n + K ≤ N) :
    psum f (n + K) = psum f n + ∑ r : Fin K, f ⟨n + r.val, by have := r.isLt; omega⟩ := by
  unfold psum
  rw [Finset.sum_range_add]
  congr 1
  rw [Finset.sum_range]
  refine Finset.sum_congr rfl fun r _ => ?_
  rw [dif_pos]

theorem psum_full {N : ℕ} (f : Fin N → EReal) : psum f N = ∑ i, f i := by
  unfold psum
  rw [Finset.sum_range]
  exact Finset.sum_congr rfl fun r _ => by rw [dif_pos r.isLt]

/-- An accumulator that starts afresh at every multiple of `nk` and takes in `K` terms at each point holds, after a point,
    the sum of the terms of its run so far. -/
theorem acc_runs {Nt L : ℕ} (nk K : ℕ) (hL : nk * K = L) (hn : 0 < nk) (acc : (n : ℕ) → n < Nt → EReal) (T : ℕ → Fin L → EReal)
    (t : (n : ℕ) → n < Nt → Fin K → EReal)
    (ht : ∀ n h k (hk : n % nk * K + k.val < L), t n h k = T (n / nk) ⟨n % nk * K + k.val, hk⟩)
    (h0 : ∀ n h, n % nk = 0 → acc n h = ∑ k, t n h k)
    (h1 : ∀ n h (h' : n - 1 < Nt), ¬n % nk = 0 → acc n h = acc (n - 1) h' + ∑ k, t n h k) :
    ∀ (n : ℕ) (h : n < Nt), acc n h = psum (T (n / nk)) (n % nk * K + K) := by
  have hb : ∀ n, n % nk * K + K ≤ L := fun n => by
    have := Nat.mod_lt n hn
    calc n % nk * K + K = (n % nk + 1) * K := by ring
      _ ≤ nk * K := Nat.mul_le_mul_right _ this
      _ = L := hL
  intro n
  induction n with
  | zero =>
    intro h
    rw [h0 0 h (Nat.zero_mod _), psum_add _ _ K (hb 0)]
    refine (Finset.sum_congr rfl fun k _ => ht 0 h k (by have := hb 0; have := k.isLt; omega)).trans ?_
    have e : psum (T (0 / nk)) (0 % nk * K) = 0 := by rw [Nat.zero_mod, Nat.zero_mul, psum_zero]
    rw [e, zero_add]
  | succ n ih =>
    intro h
    have e : ∑ k, t (n + 1) h k = ∑ k : Fin K, T ((n + 1) / nk) ⟨(n + 1) % nk * K + k.val, by have := hb (n + 1); have := k.isLt; omega⟩ :=
      Finset.sum_congr rfl fun k _ => ht _ h k _
    rw [psum_add _ _ K (hb (n + 1))]
    by_cases hz : (n + 1) % nk = 0
    · rw [h0 _ h hz, e]
      have e0 : psum (T ((n + 1) / nk)) ((n + 1) % nk * K) = 0 := by rw [hz, Nat.zero_mul, psum_zero]
      rw [e0, zero_add]
    · rw [h1 _ h (Nat.lt_of_succ_lt h) hz, e]
      refine congrArg (· + _) ((ih _).trans ?_)
      have hd : (n + 1) / nk = n / nk := by
        rw [Nat.succ_div, if_neg (fun hd => hz (Nat.mod_eq_zero_of_dvd hd))]; rfl
      have hm : (n + 1) % nk = n % nk + 1 := by
        have a := Nat.div_add_mod (n + 1) nk
        have b := Nat.div_add_mod n nk
        rw [hd] at a
        omega
      show psum (T (n / nk)) (n % nk * K + K) = _
      rw [hd, hm]
      congr 1
      ring

/-- A product's terms summed over a run, at the run's last point. -/
theorem acc_last {Nt L : ℕ} (nk K : ℕ) (hL : nk * K = L) (hn : 0 < nk) (acc : (n : ℕ) → n < Nt → EReal) (T : ℕ → Fin L → EReal)
    (t : (n : ℕ) → n < Nt → Fin K → EReal)
    (ht : ∀ n h k (hk : n % nk * K + k.val < L), t n h k = T (n / nk) ⟨n % nk * K + k.val, hk⟩)
    (h0 : ∀ n h, n % nk = 0 → acc n h = ∑ k, t n h k)
    (h1 : ∀ n h (h' : n - 1 < Nt), ¬n % nk = 0 → acc n h = acc (n - 1) h' + ∑ k, t n h k)
    (n : ℕ) (h : n < Nt) (e : n % nk = nk - 1) : acc n h = ∑ i, T (n / nk) i := by
  rw [acc_runs nk K hL hn acc T t ht h0 h1 n h, ← psum_full, e]
  congr 1
  rw [← hL]
  obtain ⟨q, rfl⟩ : ∃ q, nk = q + 1 := ⟨nk - 1, by omega⟩
  show (q + 1 - 1) * K + K = _
  rw [Nat.add_sub_cancel]; ring

/-- A factor that is a nonnegative real number goes through any sum. -/
theorem mul_sum_nonneg {ι : Type} (s : Finset ι) {c : ℝ} (hc : 0 ≤ c) (f : ι → EReal) : (c : EReal) * ∑ i ∈ s, f i = ∑ i ∈ s, (c : EReal) * f i := by
  classical
  induction s using Finset.induction_on with
  | empty => simp
  | insert a s ha ih =>
    rw [Finset.sum_insert ha, Finset.sum_insert ha, EReal.left_distrib_of_nonneg_of_ne_top (by exact_mod_cast hc) (EReal.coe_ne_top c), ih]

/-! ## A row's maximum -/

theorem ofBits_neg_inf : Ideal.ofBits .f32 0xFF800000#32 = ⊥ := by simp [Ideal.ofBits, Ideal.ieee]

theorem Fin'.fold_max {n : ℕ} [NeZero n] {f : Fin n → EReal} (h : ∀ i, Fin' (f i)) : Fin' (Finset.univ.fold max ⊥ f) := by
  have h1 : Finset.univ.fold max ⊥ f < ⊤ := by
    rw [Finset.fold_max_lt]
    exact ⟨bot_lt_top, fun i _ => by obtain ⟨r, hr⟩ := h i; rw [hr]; exact EReal.coe_lt_top r⟩
  have h2 : ⊥ < Finset.univ.fold max ⊥ f := by
    rw [Finset.lt_fold_max]
    exact .inr ⟨0, Finset.mem_univ _, by obtain ⟨r, hr⟩ := h 0; rw [hr]; exact EReal.bot_lt_coe r⟩
  exact ⟨_, (EReal.coe_toReal h1.ne h2.ne').symm⟩

/-- A load through the whole buffer of what several stores left, the last one through the whole buffer, reads that
    one's payload. -/
theorem readCov_cons_zero {Val : EltTy → Type} [∀ e, Nonempty (Val e)] {S : Shape} {e : EltTy} {sig : RefSig} {κ : Kind} {sp : Space}
    (v : View sig κ sp S e) {off : Fin S.rank → Nat} (h : off = fun _ => 0) (inb : ∀ a, off a + S.size a ≤ S.size a)
    (w : S.Idx → Val e) (L : List (View.Piece Val S e)) :
    v.readCov ((⟨Rect.unit off S.size inb, w⟩ : View.Piece Val S e) :: L) (Rect.unit off S.size inb).toLoadRect = w := by
  rw [View.readCov_eq_canon_ld _ _ _ (fun y => ⟨_, List.mem_cons_self .., View.mem_set_unit_zero h inb _⟩),
    View.canon_cons_unit_zero h, View.ld_unit_zero h]

end Cert.Proof

end
-- ==== Proof.Xattn.lean ====
module

public import proofs.«01_k».proof.Defs
public import proofs.«01_k».proof.Proof.Gen.KernelIdeal.Value
public import proofs.«01_k».proof.Proof.Gen.ReferenceIdeal.Read
public import proofs.«01_k».proof.Proof.Common
public import Idealize.ShloMosaic.Lib.Tactic
public import Idealize.ShloMosaic.Lib.Claim

@[expose] public section

set_option maxRecDepth 16384

noncomputable section

open Idealize.ShloMosaic hiding ix1 ix2 ix3
open Idealize.ShloMosaic.TcCoe Idealize.ShloMosaic.ValueIdx Idealize.SL.Sem
open Idealize.ShloMosaic.Pipeline (Dat)
open scoped BigOperators

namespace Cert.Proof.Xattn

open Cert.KernelIdeal Cert.KernelIdeal.Gen

theorem hz : (![0, 0] : Fin 2 → Nat) = fun _ => 0 := funext fun a => by fin_cases a <;> rfl

/-! ## One row's softmax, and its derivative -/

/-- The scale of the scores. -/
abbrev sc : EReal := Ideal.ofBits .f32 0x3D800000#32

def mx (s : Fin 256 → EReal) : EReal := Finset.univ.fold max (Ideal.ofBits .f32 0xFF800000#32) fun m => s m * sc
def ew (s : Fin 256 → EReal) (m : Fin 256) : EReal := Ideal.exp (s m * sc - mx s)
def lw (s : Fin 256 → EReal) : EReal := ∑ m, ew s m
def pw (s : Fin 256 → EReal) (m : Fin 256) : EReal := Ideal.div (ew s m) (lw s)
def dsw (s dp : Fin 256 → EReal) (m : Fin 256) : EReal := pw s m * (dp m - ∑ k, pw s k * dp k) * sc

/-- Column `d` of head `h`, among all the heads' columns. -/
abbrev hd (h : Fin 4) (d : Fin 256) : Fin 1024 := ⟨256 * h.val + d.val, by have := h.isLt; have := d.isLt; omega⟩
abbrev hc (c : Fin 1024) : Fin 4 := ⟨c.val / 256, by have := c.isLt; omega⟩
abbrev hr (c : Fin 1024) : Fin 256 := ⟨c.val % 256, by omega⟩

theorem hd_hc (c : Fin 1024) : hd (hc c) (hr c) = c := Fin.ext (by show 256 * (c.val / 256) + c.val % 256 = c.val; omega)

/-- A row of scores of one head. -/
def rw' (q : Fin 1024 → EReal) (k : Fin 256 → Fin 1024 → EReal) (h : Fin 4) (m : Fin 256) : EReal := ∑ d : Fin 256, q (hd h d) * k m (hd h d)

def DS (q d : Fin 1024 → EReal) (k v : Fin 256 → Fin 1024 → EReal) (h : Fin 4) : Fin 256 → EReal := dsw (rw' q k h) (rw' d v h)

/-- A row of the gradient of the queries. -/
def dq (q d : Fin 1024 → EReal) (k v : Fin 256 → Fin 1024 → EReal) (c : Fin 1024) : EReal := ∑ m, DS q d k v (hc c) m * k m c

def dkT (q d : Fin 1024 → EReal) (k v : Fin 256 → Fin 1024 → EReal) (m : Fin 256) (c : Fin 1024) : EReal := DS q d k v (hc c) m * q c
def dvT (q d : Fin 1024 → EReal) (k : Fin 256 → Fin 1024 → EReal) (m : Fin 256) (c : Fin 1024) : EReal := pw (rw' q k (hc c)) m * d c

/-- What one row adds to the gradient of the keys (the first 1024 columns) and of the values (the others). -/
def dkvT (q d : Fin 1024 → EReal) (k v : Fin 256 → Fin 1024 → EReal) (m : Fin 256) (c : Fin 2048) : EReal :=
  if h : c.val < 1024 then dkT q d k v m ⟨c.val, h⟩ else dvT q d k m ⟨c.val - 1024, by have := c.isLt; omega⟩

/-! ## The payloads read at an index -/

theorem bcast_row (v : FVec Ideal S512 .f32) (r : Fin 512) (m : Fin 256) :
    broadcastTo S512x256 (shapeCast S512x1 v shapeCasts_S512_S512x1) broadcasts_S512x1_S512x256 (ix2 r m) = v (ix1 r) := by
  rw [broadcastTo_apply _ _ _ (ix2 r (0 : Fin 1)) (fun a => match a with | ⟨0, _⟩ => rfl | ⟨1, _⟩ => rfl)]
  rw [shapeCast_apply _ _ _ (ix1 r) (by rw [Shape.rowMajor_val_one, Shape.rowMajor_val_two]; show r.val = r.val * 1 + 0; omega)]

theorem lift_row (h : S512x256.Reduces [1] S512) (r : Fin 512) (k : Fin 256) : h.lift (ix1 r) k = ix2 r k := by
  funext a; apply Fin.ext
  match a with
  | ⟨0, _⟩ => rfl
  | ⟨1, _⟩ => rfl

theorem sum_row (x : FVec Ideal S512x256 .f32) (r : Fin 512) :
    multiReduction .add [1] S512 x 0x00000000#32 reduces_S512x256_S512 (.inl rfl) rfl (ix1 r) = ∑ k : Fin 256, x (ix2 r k) := by
  refine (Ideal.multiReduction_add_single _ _ _ _ _ _).trans ?_
  exact Finset.sum_congr rfl fun k _ => congrArg x (lift_row _ r k)

theorem max_row (x : FVec Ideal S512x256 .f32) (r : Fin 512) :
    multiReduction .maximumf [1] S512 x 0xFF800000#32 reduces_S512x256_S512 (.inl rfl) rfl (ix1 r)
      = Finset.univ.fold max (Ideal.ofBits .f32 0xFF800000#32) fun k : Fin 256 => x (ix2 r k) := by
  refine (Ideal.multiReduction_maximumf_single _ _ _ _ _ _).trans ?_
  exact congrArg (Finset.univ.fold max _) (funext fun k => congrArg x (lift_row _ r k))

theorem pay17_apply (x : FVec Ideal S512x256 .f32) (r : Fin 512) (m : Fin 256) :
    k0_pay17 (F := Ideal) x (ix2 r m) = pw (fun k => x (ix2 r k)) m := by
  have e : ∀ k : Fin 256, Ideal.exp (x (ix2 r k) * sc - broadcastTo S512x256 (shapeCast S512x1 (multiReduction .maximumf [1] S512 (mulf x (broadcast S512x256 (Scalar.ofBits (F := Ideal) .f32 0x3D800000#32))) 0xFF800000#32 reduces_S512x256_S512 (.inl rfl) rfl) shapeCasts_S512_S512x1) broadcasts_S512x1_S512x256 (ix2 r k)) = ew (fun k => x (ix2 r k)) k := by
    intro k
    rw [bcast_row, max_row]
    rfl
  unfold pw lw
  rw [← e m]
  refine congrArg (Ideal.div _) ?_
  refine (bcast_row _ r m).trans ?_
  rw [sum_row]
  exact Finset.sum_congr rfl fun k _ => e k

theorem pay18_apply (x y : FVec Ideal S512x256 .f32) (r : Fin 512) (m : Fin 256) :
    k0_pay18 (F := Ideal) x y (ix2 r m) = dsw (fun k => x (ix2 r k)) (fun k => y (ix2 r k)) m := by
  unfold dsw
  rw [← pay17_apply]
  refine congrArg (fun z => k0_pay17 (F := Ideal) x (ix2 r m) * (y (ix2 r m) - z) * sc) ?_
  refine (bcast_row _ r m).trans ?_
  rw [sum_row]
  exact Finset.sum_congr rfl fun k _ => congrArg (· * y (ix2 r k)) (pay17_apply x r k)

theorem sl512 : ∀ h : Fin 4, S512x1024.Slices ![0, 256 * h.val] S512x256 := by decide
theorem sl256 : ∀ h : Fin 4, S256x1024.Slices ![0, 256 * h.val] S256x256 := by decide

variable {F : FTy → Type} [FloatOps F]

def qs (h : Fin 4) (x : Vec F S512x1024 .bf16) : FVec F S512x256 .bf16 := extractStridedSlice S512x256 ![0, 256 * h.val] x (sl512 h)
def ks (h : Fin 4) (x : Vec F S256x1024 .bf16) : FVec F S256x256 .bf16 := extractStridedSlice S256x256 ![0, 256 * h.val] x (sl256 h)

theorem qs_apply (h : Fin 4) (x : Vec Ideal S512x1024 .bf16) (r : Fin 512) (d : Fin 256) : qs (F := Ideal) h x (ix2 r d) = x (ix2 r (hd h d)) :=
  extractStridedSlice_apply _ _ _ _ _ (fun a => match a with
    | ⟨0, _⟩ => by show r.val = 0 + r.val; omega
    | ⟨1, _⟩ => rfl)
theorem ks_apply (h : Fin 4) (x : Vec Ideal S256x1024 .bf16) (r : Fin 256) (d : Fin 256) : ks (F := Ideal) h x (ix2 r d) = x (ix2 r (hd h d)) :=
  extractStridedSlice_apply _ _ _ _ _ (fun a => match a with
    | ⟨0, _⟩ => by show r.val = 0 + r.val; omega
    | ⟨1, _⟩ => rfl)

/-- The scores of head `h` over a block of rows. -/
def raw (h : Fin 4) (x : Vec F S512x1024 .bf16) (k : Vec F S256x1024 .bf16) : FVec F S512x256 .f32 :=
  matmul dot_S512x256_S256x256_S512x256_1_1_0_0_n_n none (qs h x) (ks h k) (constant S512x256 .f32 0x00000000#32)
/-- The gradient of the scores of head `h` over a block of rows. -/
def dsv (h : Fin 4) (x0 x1 : Vec F S512x1024 .bf16) (x2 x3 : Vec F S256x1024 .bf16) : FVec F S512x256 .bf16 :=
  k0_pay18 (raw h x0 x2) (raw h x1 x3)
def dqv (h : Fin 4) (x0 x1 : Vec F S512x1024 .bf16) (x2 x3 : Vec F S256x1024 .bf16) : FVec F S512x256 .f32 :=
  matmul dot_S512x256_S256x256_S512x256_1_0_0_1_n_n none (dsv h x0 x1 x2 x3) (ks h x2) (constant S512x256 .f32 0x00000000#32)
def dkv (h : Fin 4) (x0 x1 : Vec F S512x1024 .bf16) (x2 x3 : Vec F S256x1024 .bf16) : FVec F S256x256 .f32 :=
  matmul dot_S512x256_S512x256_S256x256_0_0_1_1_n_n none (dsv h x0 x1 x2 x3) (qs h x0) (constant S256x256 .f32 0x00000000#32)
def dvv (h : Fin 4) (x0 x1 : Vec F S512x1024 .bf16) (x2 : Vec F S256x1024 .bf16) : FVec F S256x256 .f32 :=
  matmul dot_S512x256_S512x256_S256x256_0_0_1_1_n_n none (truncf .bf16 (k0_pay17 (raw h x0 x2)) bitsLt_bf16_f32) (qs h x1) (constant S256x256 .f32 0x00000000#32)

/-- Keys' gradients head by head, then values'. -/
def piece (x0 x1 : Vec F S512x1024 .bf16) (x2 x3 : Vec F S256x1024 .bf16) (n : Fin 8) : FVec F S256x256 .f32 :=
  if h : n.val < 4 then dkv ⟨n.val, h⟩ x0 x1 x2 x3 else dvv ⟨n.val - 4, by have := n.isLt; omega⟩ x0 x1 x2

def outQ (x0 x1 : Vec F S512x1024 .bf16) (x2 x3 : Vec F S256x1024 .bf16) : FVec F S512x1024 .bf16 :=
  k0_pay1 (dqv 0 x0 x1 x2 x3) (dqv 1 x0 x1 x2 x3) (dqv 2 x0 x1 x2 x3) (dqv 3 x0 x1 x2 x3)
def outKV (x0 x1 : Vec F S512x1024 .bf16) (x2 x3 : Vec F S256x1024 .bf16) (a : Vec F S256x2048 .f32) : FVec F S256x2048 .f32 :=
  addf (shapeCast S256x2048 a shapeCasts_S256x2048_S256x2048)
    (concatenate S256x2048 1 [⟨S256x256, dkv 0 x0 x1 x2 x3⟩, ⟨S256x256, dkv 1 x0 x1 x2 x3⟩, ⟨S256x256, dkv 2 x0 x1 x2 x3⟩, ⟨S256x256, dkv 3 x0 x1 x2 x3⟩,
      ⟨S256x256, dvv 0 x0 x1 x2⟩, ⟨S256x256, dvv 1 x0 x1 x2⟩, ⟨S256x256, dvv 2 x0 x1 x2⟩, ⟨S256x256, dvv 3 x0 x1 x2⟩]
      concatenates_S256x256_S256x256_S256x256_S256x256_S256x256_S256x256_S256x256_S256x256_S256x2048_d1)

/-! ## What a point of the grid leaves -/

section Outs
variable (c : Dev nD) (i : grid0.Coords) (arg1 : Memref sig .tc .vmem S512x1024 .bf16) (harg1 : arg1.IsWhole) (arg2 : Memref sig .tc .vmem S512x1024 .bf16) (harg2 : arg2.IsWhole) (arg3 : Memref sig .tc .vmem S256x1024 .bf16) (harg3 : arg3.IsWhole) (arg4 : Memref sig .tc .vmem S256x1024 .bf16) (harg4 : arg4.IsWhole) (arg5 : Memref sig .tc .vmem S512x1024 .bf16) (harg5 : arg5.IsWhole) (arg6 : Memref sig .tc .vmem S256x2048 .f32) (harg6 : arg6.IsWhole)
  (x0 x1 : Vec F S512x1024 .bf16) (x2 x3 : Vec F S256x1024 .bf16) (x5 : Vec F S256x2048 .f32)

theorem out_A_4 (hc0 : cond0_0 i) :
    out0_A_4 c i arg1 harg1 arg2 harg2 arg3 harg3 arg4 harg4 arg5 harg5 arg6 harg6 hc0 x0 x1 x2 x3 = outQ x0 x1 x2 x3 := by
  unfold out0_A_4
  rw [View.read_writes_eq_canon _ _ _ (cover0_A_4 c i arg1 harg1 arg2 harg2 arg3 harg3 arg4 harg4 arg5 harg5 arg6 harg6 hc0 x0 x1 x2 x3)]
  unfold kernelRun0_A
  dsimp only
  sl_unfold_words
  rw [View.canon_unit_zero hz]
  simp only [View.readAt_eq_ld, harg1.read_unread, harg2.read_unread, harg3.read_unread, harg4.read_unread, View.ld_unit_zero (S := S512x1024) hz, View.ld_unit_zero (S := S256x1024) hz]
  rfl

theorem out_B_4 (hc0 : ¬cond0_0 i) :
    out0_B_4 c i arg1 harg1 arg2 harg2 arg3 harg3 arg4 harg4 arg5 harg5 arg6 harg6 hc0 x0 x1 x2 x3 x5 = outQ x0 x1 x2 x3 := by
  unfold out0_B_4
  rw [View.read_writes_eq_canon _ _ _ (cover0_B_4 c i arg1 harg1 arg2 harg2 arg3 harg3 arg4 harg4 arg5 harg5 arg6 harg6 hc0 x0 x1 x2 x3 x5)]
  unfold kernelRun0_B
  dsimp only
  sl_unfold_words
  rw [View.canon_unit_zero hz]
  simp only [View.readAt_eq_ld, harg1.read_unread, harg2.read_unread, harg3.read_unread, harg4.read_unread, View.ld_unit_zero (S := S512x1024) hz, View.ld_unit_zero (S := S256x1024) hz]
  rfl

theorem out_A_5 (hc0 : cond0_0 i) :
    out0_A_5 c i arg1 harg1 arg2 harg2 arg3 harg3 arg4 harg4 arg5 harg5 arg6 harg6 hc0 x0 x1 x2 x3 = outKV x0 x1 x2 x3 k0_pay2 := by
  unfold out0_A_5
  rw [View.read_writes_eq_canon _ _ _ (cover0_A_5 c i arg1 harg1 arg2 harg2 arg3 harg3 arg4 harg4 arg5 harg5 arg6 harg6 hc0 x0 x1 x2 x3)]
  unfold kernelRun0_A
  dsimp only
  sl_unfold_words
  rw [View.canon_cons_unit_zero hz]
  simp only [View.readAt_eq_ld, harg1.read_unread, harg2.read_unread, harg3.read_unread, harg4.read_unread, View.ld_unit_zero (S := S512x1024) hz, View.ld_unit_zero (S := S256x1024) hz]
  rw [View.readCov_unit_zero (S := S256x2048) _ hz]
  rfl

theorem out_B_5 (hc0 : ¬cond0_0 i) :
    out0_B_5 c i arg1 harg1 arg2 harg2 arg3 harg3 arg4 harg4 arg5 harg5 arg6 harg6 hc0 x0 x1 x2 x3 x5 = outKV x0 x1 x2 x3 x5 := by
  unfold out0_B_5
  rw [View.read_writes_eq_canon _ _ _ (cover0_B_5 c i arg1 harg1 arg2 harg2 arg3 harg3 arg4 harg4 arg5 harg5 arg6 harg6 hc0 x0 x1 x2 x3 x5)]
  unfold kernelRun0_B
  dsimp only
  sl_unfold_words
  rw [View.canon_unit_zero hz]
  simp only [View.readAt_eq_ld, harg1.read_unread, harg2.read_unread, harg3.read_unread, harg4.read_unread, harg6.read_unread, View.ld_unit_zero (S := S512x1024) hz, View.ld_unit_zero (S := S256x1024) hz, View.ld_unit_zero (S := S256x2048) hz]
  rfl

end Outs

/-! ## Blocks read at an index -/

abbrev rowOf {n : ℕ} (x : (⟨2, ![n, 1024]⟩ : Shape).Idx → EReal) (r : Fin n) : Fin 1024 → EReal := fun c => x (ix2 r c)

theorem raw_apply (h : Fin 4) (x : Vec Ideal S512x1024 .bf16) (k : Vec Ideal S256x1024 .bf16) (r : Fin 512) (m : Fin 256) :
    raw (F := Ideal) h x k (ix2 r m) = rw' (rowOf (n := 512) x r) (rowOf (n := 256) k) h m := by
  show FloatOps.matmul (DotDims.transposedRhs 512 256 256) none (qs (F := Ideal) h x) (ks (F := Ideal) h k) (constant S512x256 .f32 0x00000000#32) (ix2 r m) = _
  rw [Ideal.matmul_transposedRhs_apply]
  show Ideal.ofBits .f32 0x00000000#32 + _ = _
  rw [Ideal.ofBits_zero_f32, zero_add]
  exact Finset.sum_congr rfl fun d _ => by rw [qs_apply, ks_apply]

theorem dsv_apply (h : Fin 4) (x0 x1 : Vec Ideal S512x1024 .bf16) (x2 x3 : Vec Ideal S256x1024 .bf16) (r : Fin 512) (m : Fin 256) :
    dsv (F := Ideal) h x0 x1 x2 x3 (ix2 r m) = DS (rowOf (n := 512) x0 r) (rowOf (n := 512) x1 r) (rowOf (n := 256) x2) (rowOf (n := 256) x3) h m := by
  unfold dsv DS
  rw [pay18_apply]
  congr 1 <;> (funext k; exact raw_apply h _ _ r k)

theorem dqv_apply (h : Fin 4) (x0 x1 : Vec Ideal S512x1024 .bf16) (x2 x3 : Vec Ideal S256x1024 .bf16) (r : Fin 512) (d : Fin 256) :
    dqv (F := Ideal) h x0 x1 x2 x3 (ix2 r d)
      = ∑ m : Fin 256, DS (rowOf (n := 512) x0 r) (rowOf (n := 512) x1 r) (rowOf (n := 256) x2) (rowOf (n := 256) x3) h m * x2 (ix2 m (hd h d)) := by
  show FloatOps.matmul (DotDims.plain 512 256 256) none (dsv (F := Ideal) h x0 x1 x2 x3) (ks (F := Ideal) h x2) (constant S512x256 .f32 0x00000000#32) (ix2 r d) = _
  rw [Ideal.matmul_plain_apply]
  show Ideal.ofBits .f32 0x00000000#32 + _ = _
  rw [Ideal.ofBits_zero_f32, zero_add]
  exact Finset.sum_congr rfl fun d _ => by rw [dsv_apply, ks_apply]

theorem dkv_apply (h : Fin 4) (x0 x1 : Vec Ideal S512x1024 .bf16) (x2 x3 : Vec Ideal S256x1024 .bf16) (m : Fin 256) (d : Fin 256) :
    dkv (F := Ideal) h x0 x1 x2 x3 (ix2 m d)
      = ∑ r : Fin 512, DS (rowOf (n := 512) x0 r) (rowOf (n := 512) x1 r) (rowOf (n := 256) x2) (rowOf (n := 256) x3) h m * x0 (ix2 r (hd h d)) := by
  show FloatOps.matmul (rowDims 256 512 256) none (dsv (F := Ideal) h x0 x1 x2 x3) (qs (F := Ideal) h x0) (constant S256x256 .f32 0x00000000#32) (ix2 m d) = _
  rw [matmul_row_apply]
  show Ideal.ofBits .f32 0x00000000#32 + _ = _
  rw [Ideal.ofBits_zero_f32, zero_add]
  exact Finset.sum_congr rfl fun d _ => by rw [dsv_apply, qs_apply]

theorem dvv_apply (h : Fin 4) (x0 x1 : Vec Ideal S512x1024 .bf16) (x2 : Vec Ideal S256x1024 .bf16) (m : Fin 256) (d : Fin 256) :
    dvv (F := Ideal) h x0 x1 x2 (ix2 m d)
      = ∑ r : Fin 512, pw (rw' (rowOf (n := 512) x0 r) (rowOf (n := 256) x2) h) m * x1 (ix2 r (hd h d)) := by
  show FloatOps.matmul (rowDims 256 512 256) none (truncf .bf16 (k0_pay17 (F := Ideal) (raw (F := Ideal) h x0 x2)) bitsLt_bf16_f32) (qs (F := Ideal) h x1) (constant S256x256 .f32 0x00000000#32) (ix2 m d) = _
  rw [matmul_row_apply]
  show Ideal.ofBits .f32 0x00000000#32 + _ = _
  rw [Ideal.ofBits_zero_f32, zero_add]
  refine Finset.sum_congr rfl fun r _ => ?_
  rw [qs_apply]
  congr 1
  show k0_pay17 (F := Ideal) (raw (F := Ideal) h x0 x2) (ix2 r m) = _
  rw [pay17_apply]
  congr 1
  funext k; exact raw_apply h _ _ r k

theorem outQ_apply (x0 x1 : Vec Ideal S512x1024 .bf16) (x2 x3 : Vec Ideal S256x1024 .bf16) (r : Fin 512) (c : Fin 1024) :
    outQ (F := Ideal) x0 x1 x2 x3 (ix2 r c) = dq (rowOf (n := 512) x0 r) (rowOf (n := 512) x1 r) (rowOf (n := 256) x2) (rowOf (n := 256) x3) c := by
  refine (concatenate_ofFn_apply (t := S512x1024) (s₁ := S512x256) 1 (fun h => dqv (F := Ideal) h x0 x1 x2 x3) concatenates_S512x256_S512x256_S512x256_S512x256_S512x1024_d1 rfl 256 rfl (ix2 r c) (hc c) rfl (ix2 r (hr c)) rfl
    (fun b hb => match b with | ⟨0, _⟩ => rfl | ⟨1, _⟩ => absurd rfl hb)).trans ?_
  rw [dqv_apply, hd_hc]
  rfl

theorem outKV_apply (x0 x1 : Vec Ideal S512x1024 .bf16) (x2 x3 : Vec Ideal S256x1024 .bf16) (a : Vec Ideal S256x2048 .f32) (m : Fin 256) (c : Fin 2048) :
    outKV (F := Ideal) x0 x1 x2 x3 a (ix2 m c)
      = a (ix2 m c) + ∑ r : Fin 512, dkvT (rowOf (n := 512) x0 r) (rowOf (n := 512) x1 r) (rowOf (n := 256) x2) (rowOf (n := 256) x3) m c := by
  unfold outKV
  refine congrArg₂ (· + ·) (shapeCast_apply _ _ _ _ rfl) ?_
  have hcl := c.isLt
  refine (concatenate_ofFn_apply (t := S256x2048) (s₁ := S256x256) 1 (piece (F := Ideal) x0 x1 x2 x3) concatenates_S256x256_S256x256_S256x256_S256x256_S256x256_S256x256_S256x256_S256x256_S256x2048_d1 rfl 256 rfl (ix2 m c) ⟨c.val / 256, by omega⟩ rfl (ix2 m ⟨c.val % 256, by omega⟩) rfl
    (fun b hb => match b with | ⟨0, _⟩ => rfl | ⟨1, _⟩ => absurd rfl hb)).trans ?_
  unfold piece dkvT
  by_cases h : c.val < 1024
  · rw [dif_pos (show c.val / 256 < 4 by omega)]
    simp only [dif_pos h]
    rw [dkv_apply]
    refine Finset.sum_congr rfl fun r _ => ?_
    unfold dkT
    congr 1
    exact congrArg x0 (congrArg (ix2 r) (hd_hc ⟨c.val, h⟩))
  · rw [dif_neg (show ¬c.val / 256 < 4 by omega)]
    simp only [dif_neg h]
    rw [dvv_apply]
    refine Finset.sum_congr rfl fun r _ => ?_
    unfold dvT
    congr 1
    · congr 2
      apply Fin.ext
      show c.val / 256 - 4 = (c.val - 1024) / 256
      omega
    · refine congrArg x1 (congrArg (ix2 r) (Fin.ext ?_))
      show 256 * (c.val / 256 - 4) + c.val % 256 = c.val - 1024
      omega

/-! ## From blocks to arrays -/

variable (m : (ℓ : Loc nD τ sig) → Buf (Elt Ideal) ℓ)

abbrev Q (c : Dev nD) : S8192x1024.Idx → EReal := m ((c : Thread nD τ).loc main_arg0)
abbrev KV (c : Dev nD) : S256x2048.Idx → EReal := m ((c : Thread nD τ).loc main_arg1)
abbrev DO (c : Dev nD) : S8192x1024.Idx → EReal := m ((c : Thread nD τ).loc main_arg2)

/-- The keys: the first 1024 columns. -/
def kOf (kv : S256x2048.Idx → EReal) (m : Fin 256) (c : Fin 1024) : EReal := kv (ix2 m ⟨c.val, by have := c.isLt; omega⟩)
/-- The values: the other columns. -/
def vOf (kv : S256x2048.Idx → EReal) (m : Fin 256) (c : Fin 1024) : EReal := kv (ix2 m ⟨1024 + c.val, by have := c.isLt; omega⟩)

abbrev termKV (c : Dev nD) (k : Fin 256) (f : Fin 2048) (R : Fin 8192) : EReal :=
  dkvT (rowOf (n := 8192) (Q m c) R) (rowOf (n := 8192) (DO m c) R) (kOf (KV m c)) (vOf (KV m c)) k f

def sumKV (c : Dev nD) (k : Fin 256) (f : Fin 2048) : EReal := ∑ R : Fin 8192, termKV m c k f R

abbrev resQ (c : Dev nD) : Buf (Elt Ideal) ((c : Thread nD τ).loc main_v0_0) := fun i : S8192x1024.Idx =>
  dq (rowOf (n := 8192) (Q m c) (i 0)) (rowOf (n := 8192) (DO m c) (i 0)) (kOf (KV m c)) (vOf (KV m c)) (i 1)
abbrev resKV (c : Dev nD) : Buf (Elt Ideal) ((c : Thread nD τ).loc main_v0_1) := fun i : S256x2048.Idx =>
  sumKV m c (i 0) (i 1)

abbrev blk0 (c : Dev nD) (t : Fin cfg0.N) : Vec Ideal S512x1024 .bf16 := iblk m c 0 t
abbrev blk1 (c : Dev nD) (t : Fin cfg0.N) : Vec Ideal S512x1024 .bf16 := iblk m c 1 t
abbrev blk2 (c : Dev nD) (t : Fin cfg0.N) : Vec Ideal S256x1024 .bf16 := iblk m c 2 t
abbrev blk3 (c : Dev nD) (t : Fin cfg0.N) : Vec Ideal S256x1024 .bf16 := iblk m c 3 t

theorem idx_facts : ∀ t : Fin cfg0.N,
    win0_0.index t 0 = t.val ∧ win0_0.index t 1 = 0 ∧ win0_1.index t 0 = t.val ∧ win0_1.index t 1 = 0
      ∧ win0_2.index t 0 = 0 ∧ win0_2.index t 1 = 0 ∧ win0_3.index t 0 = 0 ∧ win0_3.index t 1 = 1
      ∧ win0_4.index t 0 = t.val ∧ win0_4.index t 1 = 0 ∧ win0_5.index t 0 = 0 ∧ win0_5.index t 1 = 0 :=
  (by decide +kernel : ∀ t : Fin grid0.N, _)

theorem lt16 (t : Fin cfg0.N) : t.val < 16 := lt_of_lt_of_eq t.isLt N_0

abbrev gr (t : ℕ) (ht : t < 16) (r : Fin 512) : Fin 8192 := ⟨t * 512 + r.val, by have := r.isLt; omega⟩

theorem blk0_row (c : Dev nD) (t : Fin cfg0.N) (r : Fin 512) : rowOf (n := 512) (blk0 m c t) r = rowOf (n := 8192) (Q m c) (gr t.val (lt16 t) r) := by
  obtain ⟨e0, e1, -⟩ := idx_facts t
  funext k
  show m ((c : Thread nD τ).loc main_arg0) _ = m ((c : Thread nD τ).loc main_arg0) _
  congr 1
  funext a; apply Fin.ext
  match a with
  | ⟨0, _⟩ => show win0_0.index t 0 * 512 + 1 * r.val = t.val * 512 + r.val; rw [e0]; omega
  | ⟨1, _⟩ => show win0_0.index t 1 * 1024 + 1 * k.val = k.val; rw [e1]; omega
theorem blk1_row (c : Dev nD) (t : Fin cfg0.N) (r : Fin 512) : rowOf (n := 512) (blk1 m c t) r = rowOf (n := 8192) (DO m c) (gr t.val (lt16 t) r) := by
  obtain ⟨-, -, e0, e1, -⟩ := idx_facts t
  funext k
  show m ((c : Thread nD τ).loc main_arg2) _ = m ((c : Thread nD τ).loc main_arg2) _
  congr 1
  funext a; apply Fin.ext
  match a with
  | ⟨0, _⟩ => show win0_1.index t 0 * 512 + 1 * r.val = t.val * 512 + r.val; rw [e0]; omega
  | ⟨1, _⟩ => show win0_1.index t 1 * 1024 + 1 * k.val = k.val; rw [e1]; omega
theorem blk2_row (c : Dev nD) (t : Fin cfg0.N) : rowOf (n := 256) (blk2 m c t) = kOf (KV m c) := by
  obtain ⟨-, -, -, -, e0, e1, -⟩ := idx_facts t
  funext r k
  show m ((c : Thread nD τ).loc main_arg1) _ = m ((c : Thread nD τ).loc main_arg1) _
  congr 1
  funext a; apply Fin.ext
  match a with
  | ⟨0, _⟩ => show win0_2.index t 0 * 256 + 1 * r.val = r.val; rw [e0]; omega
  | ⟨1, _⟩ => show win0_2.index t 1 * 1024 + 1 * k.val = k.val; rw [e1]; omega
theorem blk3_row (c : Dev nD) (t : Fin cfg0.N) : rowOf (n := 256) (blk3 m c t) = vOf (KV m c) := by
  obtain ⟨-, -, -, -, -, -, e0, e1, -⟩ := idx_facts t
  funext r k
  show m ((c : Thread nD τ).loc main_arg1) _ = m ((c : Thread nD τ).loc main_arg1) _
  congr 1
  funext a; apply Fin.ext
  match a with
  | ⟨0, _⟩ => show win0_3.index t 0 * 256 + 1 * r.val = r.val; rw [e0]; omega
  | ⟨1, _⟩ => show win0_3.index t 1 * 1024 + 1 * k.val = 1024 + k.val; rw [e1]; omega

theorem outs4 (c : Dev nD) (t : Fin cfg0.N) :
    (outsAt0 m c t.val t.isLt).1 = outQ (F := Ideal) (blk0 m c t) (blk1 m c t) (blk2 m c t) (blk3 m c t) := by
  by_cases h0 : t.val % 16 = 0
  · rw [outsAt0_A m c t h0]; dsimp only; rw [out_A_4]
  · rw [outsAt0_B m c t h0]; dsimp only; rw [out_B_4]

theorem block_sum (c : Dev nD) (t : Fin cfg0.N) (k : Fin 256) (f : Fin 2048) :
    ∑ r : Fin 512, dkvT (rowOf (n := 512) (blk0 m c t) r) (rowOf (n := 512) (blk1 m c t) r) (rowOf (n := 256) (blk2 m c t)) (rowOf (n := 256) (blk3 m c t)) k f
      = ∑ r : Fin 512, termKV m c k f (gr t.val (lt16 t) r) := by
  refine Finset.sum_congr rfl fun r _ => ?_
  rw [blk0_row, blk1_row, blk2_row, blk3_row]

/-- After `n + 1` points the accumulator holds the sum over the first `n + 1` blocks of rows. -/
theorem outs5 (c : Dev nD) : ∀ (n : ℕ) (hn : n < cfg0.N) (k : Fin 256) (f : Fin 2048),
    (outsAt0 m c n hn).2 (ix2 k f) = psum (termKV m c k f) ((n + 1) * 512) := by
  intro n
  induction n with
  | zero =>
    intro hn k f
    have e := congrArg Prod.snd (outsAt0_A m c ⟨0, hn⟩ rfl)
    dsimp only at e
    rw [out_A_5] at e
    rw [show (outsAt0 m c 0 hn).2 = outKV (F := Ideal) (blk0 m c ⟨0, hn⟩) (blk1 m c ⟨0, hn⟩) (blk2 m c ⟨0, hn⟩) (blk3 m c ⟨0, hn⟩) (k0_pay2 (F := Ideal)) from e]
    rw [outKV_apply, block_sum]
    rw [show (0 + 1) * 512 = 0 + 512 from rfl, psum_add _ 0 512 (by omega), psum_zero]
    refine congrArg₂ (· + ·) Ideal.ofBits_zero_f32 (Finset.sum_congr rfl fun r _ => congrArg _ (Fin.ext (by show 0 * 512 + r.val = 0 + r.val; omega)))
  | succ n ih =>
    intro hn k f
    have h16 : n + 1 < 16 := lt16 ⟨n + 1, hn⟩
    have e := congrArg Prod.snd (outsAt0_B m c ⟨n + 1, hn⟩ (by show ¬(n + 1) % 16 = 0; omega))
    dsimp only at e
    rw [out_B_5] at e
    rw [show (outsAt0 m c (n + 1) hn).2 = outKV (F := Ideal) (blk0 m c ⟨n + 1, hn⟩) (blk1 m c ⟨n + 1, hn⟩) (blk2 m c ⟨n + 1, hn⟩) (blk3 m c ⟨n + 1, hn⟩) (outsAt0 m c n (Nat.lt_of_succ_lt hn)).2 from e]
    rw [outKV_apply, block_sum, ih]
    rw [show (n + 1 + 1) * 512 = (n + 1) * 512 + 512 from by omega, psum_add _ ((n + 1) * 512) 512 (by omega)]

theorem flushed4_eq (c : Dev nD) (t : Fin cfg0.N) :
    (dats m 0 c).flushed 4 t = ((cfg0.win 4).blk t).view.read (Elt Ideal) (resQ m c) := by
  obtain ⟨-, -, -, -, -, -, -, -, e0, e1, -⟩ := idx_facts t
  rw [Value.flushed4, outs4]
  funext j
  obtain ⟨r, f, rfl⟩ : ∃ (r : Fin 512) (f : Fin 1024), j = ix2 r f := ⟨j 0, j 1, by funext a; match a with | ⟨0, _⟩ => rfl | ⟨1, _⟩ => rfl⟩
  refine (outQ_apply _ _ _ _ r f).trans ?_
  rw [blk0_row, blk1_row, blk2_row, blk3_row]
  show _ = resQ m c (((cfg0.win 4).blk t).view.emb (ix2 r f))
  have e : ((cfg0.win 4).blk t).view.emb (ix2 r f) = (ix2 (gr t.val (lt16 t) r) f : S8192x1024.Idx) := by
    funext a; apply Fin.ext
    match a with
    | ⟨0, _⟩ => show win0_4.index t 0 * 512 + 1 * r.val = t.val * 512 + r.val; rw [e0]; omega
    | ⟨1, _⟩ => show win0_4.index t 1 * 1024 + 1 * f.val = f.val; rw [e1]; omega
  rw [e]

theorem flushed5_eq (c : Dev nD) (t : Fin cfg0.N) (ht : (cfg0.win 5).flush t = true) :
    (dats m 0 c).flushed 5 t = ((cfg0.win 5).blk t).view.read (Elt Ideal) (resKV m c) := by
  obtain ⟨-, -, -, -, -, -, -, -, -, -, e0, e1⟩ := idx_facts t
  have ht := (flush0_5 t).1 ht
  have h16 := lt16 t
  rw [Value.flushed5]
  funext j
  obtain ⟨r, f, rfl⟩ : ∃ (r : Fin 256) (f : Fin 2048), j = ix2 r f := ⟨j 0, j 1, by funext a; match a with | ⟨0, _⟩ => rfl | ⟨1, _⟩ => rfl⟩
  refine (outs5 m c t.val t.isLt r f).trans ?_
  show _ = resKV m c (((cfg0.win 5).blk t).view.emb (ix2 r f))
  have e : ((cfg0.win 5).blk t).view.emb (ix2 r f) = (ix2 r f : S256x2048.Idx) := by
    funext a; apply Fin.ext
    match a with
    | ⟨0, _⟩ => show win0_5.index t 0 * 256 + 1 * r.val = r.val; rw [e0]; omega
    | ⟨1, _⟩ => show win0_5.index t 1 * 2048 + 1 * f.val = f.val; rw [e1]; omega
  rw [e, show (t.val + 1) * 512 = 8192 by omega, psum_full]
  rfl

theorem cover4 (i : S8192x1024.Idx) : ∃ t : Fin cfg0.N, (cfg0.win 4).flush t = true ∧ i ∈ ((cfg0.win 4).blk t).view.set := by
  have h0 : (i 0 : Nat) < 8192 := (i 0).isLt
  have h1 : (i 1 : Nat) < 1024 := (i 1).isLt
  let t : Fin cfg0.N := ⟨(i 0).val / 512, by rw [show cfg0.N = 16 from N_0]; omega⟩
  obtain ⟨-, -, -, -, -, -, -, -, e0, e1, -⟩ := idx_facts t
  refine ⟨t, flush0_4 t, ?_⟩
  show i ∈ ((View.whole main_v0_0).slice (win0_4.rect t)).set
  rw [View.set_slice_whole, Rect.mem_set_unit]
  intro a
  match a with
  | ⟨0, _⟩ => show win0_4.index t 0 * 512 ≤ (i 0).val ∧ (i 0).val < win0_4.index t 0 * 512 + 512; rw [e0]; dsimp only [t]; omega
  | ⟨1, _⟩ => show win0_4.index t 1 * 1024 ≤ (i 1).val ∧ (i 1).val < win0_4.index t 1 * 1024 + 1024; rw [e1]; omega

theorem cover5 (i : S256x2048.Idx) : ∃ t : Fin cfg0.N, (cfg0.win 5).flush t = true ∧ i ∈ ((cfg0.win 5).blk t).view.set := by
  have h0 : (i 0 : Nat) < 256 := (i 0).isLt
  have h1 : (i 1 : Nat) < 2048 := (i 1).isLt
  let t : Fin cfg0.N := ⟨15, by rw [show cfg0.N = 16 from N_0]; omega⟩
  obtain ⟨-, -, -, -, -, -, -, -, -, -, e0, e1⟩ := idx_facts t
  refine ⟨t, (flush0_5 t).2 rfl, ?_⟩
  show i ∈ ((View.whole main_v0_1).slice (win0_5.rect t)).set
  rw [View.set_slice_whole, Rect.mem_set_unit]
  intro a
  match a with
  | ⟨0, _⟩ => show win0_5.index t 0 * 256 ≤ (i 0).val ∧ (i 0).val < win0_5.index t 0 * 256 + 256; rw [e0]; omega
  | ⟨1, _⟩ => show win0_5.index t 1 * 2048 ≤ (i 1).val ∧ (i 1).val < win0_5.index t 1 * 2048 + 2048; rw [e1]; omega

theorem final4 (c : Dev nD) : (dats m 0 c).arrAt 4 cfg0.N = resQ m c :=
  (dats m 0 c).arrAt_eq_of_cover 4 (resQ m c) (fun t _ => flushed4_eq m c t) cover4
theorem final5 (c : Dev nD) : (dats m 0 c).arrAt 5 cfg0.N = resKV m c :=
  (dats m 0 c).arrAt_eq_of_cover 5 (resKV m c) (flushed5_eq m c) cover5

/-! ## The reference's formula -/

section Ref
open Cert.ReferenceIdeal.Read

variable (x0 : S8192x1024.Idx → EReal) (x1 : S256x2048.Idx → EReal) (x2 : S8192x1024.Idx → EReal)

theorem v4_at (i : Cert.ReferenceIdeal.S8192x4x256.Idx) : val_main_v4 (F := Ideal) x0 i = x0 (ix2 (i 0) (hd (i 1) (i 2))) := by
  rw [val_main_v4_apply]
  show x0 _ = x0 _
  congr 1
  have h0 : (i 0).val < 8192 := (i 0).isLt
  have h1 : (i 1).val < 4 := (i 1).isLt
  have h2 : (i 2).val < 256 := (i 2).isLt
  funext a; apply Fin.ext
  match a with
  | ⟨0, _⟩ => show (((i 0).val * 4 + (i 1).val) * 256 + (i 2).val) / 1024 = (i 0).val; omega
  | ⟨1, _⟩ => show (((i 0).val * 4 + (i 1).val) * 256 + (i 2).val) % 1024 = 256 * (i 1).val + (i 2).val; omega

theorem v5_at (i : Cert.ReferenceIdeal.S256x4x256.Idx) : val_main_v5 (F := Ideal) x1 i = kOf x1 (i 0) (hd (i 1) (i 2)) := by
  rw [val_main_v5_apply, val_main_v2_apply]
  show x1 _ = x1 _
  congr 1
  have h0 : (i 0).val < 256 := (i 0).isLt
  have h1 : (i 1).val < 4 := (i 1).isLt
  have h2 : (i 2).val < 256 := (i 2).isLt
  funext a; apply Fin.ext
  match a with
  | ⟨0, _⟩ => show (((i 0).val * 4 + (i 1).val) * 256 + (i 2).val) / 1024 = (i 0).val; omega
  | ⟨1, _⟩ => show (((i 0).val * 4 + (i 1).val) * 256 + (i 2).val) % 1024 = 256 * (i 1).val + (i 2).val; omega

theorem v6_at (i : Cert.ReferenceIdeal.S256x4x256.Idx) : val_main_v6 (F := Ideal) x1 i = vOf x1 (i 0) (hd (i 1) (i 2)) := by
  rw [val_main_v6_apply, val_main_v3_apply]
  show x1 _ = x1 _
  congr 1
  have h0 : (i 0).val < 256 := (i 0).isLt
  have h1 : (i 1).val < 4 := (i 1).isLt
  have h2 : (i 2).val < 256 := (i 2).isLt
  funext a; apply Fin.ext
  match a with
  | ⟨0, _⟩ => show (((i 0).val * 4 + (i 1).val) * 256 + (i 2).val) / 1024 = (i 0).val; omega
  | ⟨1, _⟩ => show 1024 + (((i 0).val * 4 + (i 1).val) * 256 + (i 2).val) % 1024 = 1024 + (256 * (i 1).val + (i 2).val); omega

theorem v43_at (i : Cert.ReferenceIdeal.S4x256x8192.Idx) : val_main_v43 (F := Ideal) x2 i = x2 (ix2 (i 2) (hd (i 0) (i 1))) := by
  rw [val_main_v43_apply, val_main_v42_apply]
  show x2 _ = x2 _
  congr 1
  have h0 : (i 0).val < 4 := (i 0).isLt
  have h1 : (i 1).val < 256 := (i 1).isLt
  have h2 : (i 2).val < 8192 := (i 2).isLt
  funext a; apply Fin.ext
  match a with
  | ⟨0, _⟩ => show (((i 2).val * 4 + (i 0).val) * 256 + (i 1).val) / 1024 = (i 2).val; omega
  | ⟨1, _⟩ => show (((i 2).val * 4 + (i 0).val) * 256 + (i 1).val) % 1024 = 256 * (i 0).val + (i 1).val; omega

abbrev sR (h : Fin 4) (r : Fin 8192) : Fin 256 → EReal := rw' (rowOf (n := 8192) x0 r) (kOf x1) h
abbrev dR (h : Fin 4) (r : Fin 8192) : Fin 256 → EReal := rw' (rowOf (n := 8192) x2 r) (vOf x1) h

theorem v7_at (i : Cert.ReferenceIdeal.S4x8192x256.Idx) : val_main_v7 (F := Ideal) x0 x1 i = sR x0 x1 (i 0) (i 1) (i 2) := by
  rw [val_main_v7_apply]
  refine Finset.sum_congr rfl fun k _ => ?_
  rw [v4_at, v5_at]
  rfl

theorem v44_at (i : Cert.ReferenceIdeal.S4x8192x256.Idx) : val_main_v44 (F := Ideal) x1 x2 i = dR x1 x2 (i 0) (i 1) (i 2) := by
  rw [val_main_v44_apply]
  refine Finset.sum_congr rfl fun k _ => ?_
  rw [v43_at, v6_at]
  rfl

theorem lift3 (h : Cert.ReferenceIdeal.S4x8192x256.Reduces [2] Cert.ReferenceIdeal.S4x8192) (j : Cert.ReferenceIdeal.S4x8192.Idx) (k : Fin 256) :
    h.lift j k = ix3 (j 0) (j 1) k := by
  funext a; apply Fin.ext
  match a with
  | ⟨0, _⟩ => rfl
  | ⟨1, _⟩ => rfl
  | ⟨2, _⟩ => rfl

theorem v9_at (i : Cert.ReferenceIdeal.S4x8192x256.Idx) : val_main_v9 (F := Ideal) x0 x1 i = sR x0 x1 (i 0) (i 1) (i 2) * sc := by
  rw [val_main_v9_apply, v7_at]
  rfl

theorem v10_at (j : Cert.ReferenceIdeal.S4x8192.Idx) : val_main_v10 (F := Ideal) x0 x1 j = mx (sR x0 x1 (j 0) (j 1)) := by
  unfold val_main_v10 mx
  generalize hy : val_main_v9 (F := Ideal) x0 x1 = y
  have e : ∀ (h : Cert.ReferenceIdeal.S4x8192x256.Reduces [2] Cert.ReferenceIdeal.S4x8192) (k : Fin 256), (y ∘ h.lift j) k = sR x0 x1 (j 0) (j 1) k * sc := fun h k => by
    rw [← hy]
    exact (congrArg (val_main_v9 (F := Ideal) x0 x1) (lift3 h j k)).trans (v9_at x0 x1 _)
  have e2 := Host.reduce_eq_fold_single (FloatOps.maximumf (F := Ideal) (φ := .f32)) y (val_main_cst_0 (F := Ideal)) Cert.ReferenceIdeal.Gen.reducesTo_S4x8192x256_S4x8192_d2 (by decide : Cert.ReferenceIdeal.S4x8192x256.Reduces [2] Cert.ReferenceIdeal.S4x8192) Cert.ReferenceIdeal.Gen.h_S_ j
  rw [e2]
  exact congrArg (Finset.univ.fold max _) (funext fun k => e _ k)

theorem v17_at (j : Cert.ReferenceIdeal.S4x8192.Idx) : val_main_v17 (F := Ideal) x0 x1 j = mx (sR x0 x1 (j 0) (j 1)) := by
  rw [val_main_v17_apply, v10_at, val_main_v16_apply]
  show max (Ideal.ofBits .f32 0xFF800000#32) _ = _
  rw [ofBits_neg_inf, max_eq_right bot_le]

theorem v30_at (i : Cert.ReferenceIdeal.S4x8192x256.Idx) : val_main_v30 (F := Ideal) x0 x1 i = ew (sR x0 x1 (i 0) (i 1)) (i 2) := by
  show Ideal.exp (val_main_v7 (F := Ideal) x0 x1 i * sc - val_main_v28 (F := Ideal) x0 x1 i) = _
  rw [v7_at, val_main_v28_apply, val_main_v27_apply, v17_at]
  rfl

theorem v31_at (j : Cert.ReferenceIdeal.S4x8192.Idx) : val_main_v31 (F := Ideal) x0 x1 j = lw (sR x0 x1 (j 0) (j 1)) := by
  rw [val_main_v31_apply]
  show Ideal.ofBits .f32 0x00000000#32 + _ = _
  rw [Ideal.ofBits_zero_f32, zero_add]
  refine Finset.sum_congr rfl fun k _ => ?_
  rw [v30_at]
  rfl

theorem v34_at (i : Cert.ReferenceIdeal.S4x8192x256.Idx) : val_main_v34 (F := Ideal) x0 x1 i = pw (sR x0 x1 (i 0) (i 1)) (i 2) := by
  show Ideal.div (val_main_v30 (F := Ideal) x0 x1 i) (val_main_v33 (F := Ideal) x0 x1 i) = _
  rw [v30_at, val_main_v33_apply, val_main_v32_apply, v31_at]
  rfl

/-- The reference's derivative of the softmax: a quotient's derivative term by term. -/
def dswRef (s dp : Fin 256 → EReal) (m : Fin 256) : EReal :=
  (Ideal.div (dp m) (lw s) + -(∑ k, dp k * Ideal.div 1 (lw s * lw s) * ew s k)) * ew s m * sc

theorem v49_at (i : Cert.ReferenceIdeal.S4x8192x256.Idx) :
    val_main_v49 (F := Ideal) x0 x1 x2 i
      = dR x1 x2 (i 0) (i 1) (i 2) * Ideal.div 1 (lw (sR x0 x1 (i 0) (i 1)) * lw (sR x0 x1 (i 0) (i 1))) * ew (sR x0 x1 (i 0) (i 1)) (i 2) := by
  show val_main_v44 (F := Ideal) x1 x2 i * val_main_v47 (F := Ideal) x0 x1 i * val_main_v30 (F := Ideal) x0 x1 i = _
  rw [v44_at, v30_at, val_main_v47_apply]
  show _ * Ideal.div (Ideal.ofBits .f32 0x3F800000#32) (val_main_v32 (F := Ideal) x0 x1 _ * val_main_v32 (F := Ideal) x0 x1 _) * _ = _
  rw [val_main_v32_apply, v31_at, ofBits_one]
  rfl

theorem v50_at (j : Cert.ReferenceIdeal.S4x8192.Idx) :
    val_main_v50 (F := Ideal) x0 x1 x2 j
      = ∑ k, dR x1 x2 (j 0) (j 1) k * Ideal.div 1 (lw (sR x0 x1 (j 0) (j 1)) * lw (sR x0 x1 (j 0) (j 1))) * ew (sR x0 x1 (j 0) (j 1)) k := by
  rw [val_main_v50_apply]
  show Ideal.ofBits .f32 0x00000000#32 + _ = _
  rw [Ideal.ofBits_zero_f32, zero_add]
  refine Finset.sum_congr rfl fun k _ => ?_
  rw [v49_at]
  rfl

theorem v55_at (j : Cert.ReferenceIdeal.S4x8192.Idx) : val_main_v55 (F := Ideal) x0 x1 x2 j = -val_main_v50 (F := Ideal) x0 x1 x2 j := by
  rw [val_main_v55_apply]
  show Ideal.ofBits .f32 0x00000000#32 + _ = _
  rw [Ideal.ofBits_zero_f32, zero_add, Fin.sum_univ_one]
  show -val_main_v51 (F := Ideal) x0 x1 x2 _ = _
  rw [val_main_v51_apply]
  congr 2
  have h0 : (j 0).val < 4 := (j 0).isLt
  have h1 : (j 1).val < 8192 := (j 1).isLt
  funext a; apply Fin.ext
  match a with
  | ⟨0, _⟩ => show (((j 0).val * 8192 + (j 1).val) * 1 + 0) / 8192 = (j 0).val; omega
  | ⟨1, _⟩ => show (((j 0).val * 8192 + (j 1).val) * 1 + 0) % 8192 = (j 1).val; omega

theorem v60_at (i : Cert.ReferenceIdeal.S4x8192x256.Idx) :
    val_main_v60 (F := Ideal) x0 x1 x2 i = dswRef (sR x0 x1 (i 0) (i 1)) (dR x1 x2 (i 0) (i 1)) (i 2) := by
  show (Ideal.div (val_main_v44 (F := Ideal) x1 x2 i) (val_main_v53 (F := Ideal) x0 x1 i) + val_main_v56 (F := Ideal) x0 x1 x2 i)
    * val_main_v30 (F := Ideal) x0 x1 i * sc = _
  rw [v44_at, v30_at, val_main_v53_apply, val_main_v32_apply, v31_at, val_main_v56_apply, v55_at, v50_at]
  rfl

/-! ## The two derivatives of the softmax agree on real numbers -/

theorem sc_fin : Fin' sc := by
  refine ⟨1 / 16, ?_⟩
  simp [Ideal.ofBits, Ideal.ieee, -EReal.coe_mul]; norm_num

theorem ew_real {s : Fin 256 → EReal} (hs : ∀ m, Fin' (s m)) : ∃ e : Fin 256 → ℝ, (∀ m, 0 < e m) ∧ ∀ m, ew s m = (e m : EReal) := by
  have hx : Fin' (mx s) := by
    unfold mx
    rw [ofBits_neg_inf]
    exact Fin'.fold_max fun i => (hs i).mul sc_fin
  have h : ∀ m, ∃ e : ℝ, 0 < e ∧ ew s m = (e : EReal) := fun m => by
    obtain ⟨a, ha⟩ := ((hs m).mul sc_fin).sub hx
    exact ⟨Real.exp a, Real.exp_pos a, by unfold ew; rw [ha, Ideal.exp_coe]⟩
  choose e h1 h2 using h
  exact ⟨e, h1, h2⟩

theorem dsw_eq {s dp : Fin 256 → EReal} (hs : ∀ m, Fin' (s m)) (hd : ∀ m, Fin' (dp m)) (m : Fin 256) : dswRef s dp m = dsw s dp m := by
  obtain ⟨e, he, hse⟩ := ew_real hs
  choose d hd using hd
  obtain ⟨a, ha⟩ := sc_fin
  have hl : lw s = ((∑ k, e k : ℝ) : EReal) := by unfold lw; rw [coe_sum]; exact Finset.sum_congr rfl fun k _ => hse k
  have hpos : (0 : ℝ) < ∑ k, e k := Finset.sum_pos (fun k _ => he k) ⟨0, Finset.mem_univ _⟩
  unfold dswRef dsw pw
  generalize (∑ k, e k : ℝ) = l at hl hpos
  have hne := hpos.ne'
  simp only [hl, hse, hd, ha, ← EReal.coe_mul]
  simp only [Ideal.div_coe hne, Ideal.div_coe (mul_ne_zero hne hne), one_mul, ← EReal.coe_mul, ← coe_sum, ← EReal.coe_neg, ← EReal.coe_add, ← EReal.coe_sub]
  congr 1
  have e1 : ∑ k, d k * (1 / (l * l)) * e k = (∑ k, e k * (1 / l) * d k) * (1 / l) := by
    rw [Finset.sum_mul]
    exact Finset.sum_congr rfl fun k _ => by field_simp
  rw [e1]
  ring

theorem v69_at (i : S8192x1024.Idx) :
    val_main_v69 (F := Ideal) x0 x1 x2 i
      = ∑ m : Fin 256, dswRef (sR x0 x1 (hc (i 1)) (i 0)) (dR x1 x2 (hc (i 1)) (i 0)) m * kOf x1 m (i 1) := by
  show val_main_v67 (F := Ideal) x0 x1 x2 i = _
  have h0 : (i 0).val < 8192 := (i 0).isLt
  have h1 : (i 1).val < 1024 := (i 1).isLt
  have e : idx_main_v64 (idx_main_v67 i) = ix3 (hc (i 1)) (i 0) (hr (i 1)) := by
    funext a; apply Fin.ext
    match a with
    | ⟨0, _⟩ => show ((i 0).val * 1024 + (i 1).val) / 256 % 4 = (i 1).val / 256; omega
    | ⟨1, _⟩ => show ((i 0).val * 1024 + (i 1).val) / 1024 = (i 0).val; omega
    | ⟨2, _⟩ => show ((i 0).val * 1024 + (i 1).val) % 256 = (i 1).val % 256; omega
  rw [val_main_v67_apply, val_main_v64_apply]
  refine (congrArg (val_main_v63 (F := Ideal) x0 x1 x2) e).trans ((val_main_v63_apply x0 x1 x2 _).trans ?_)
  refine Finset.sum_congr rfl fun k _ => ?_
  rw [v60_at, v5_at]
  exact congrArg (fun c => _ * kOf x1 k c) (hd_hc (i 1))

theorem v66_at (i : Cert.ReferenceIdeal.S256x1024.Idx) :
    val_main_v66 (F := Ideal) x0 x1 x2 i
      = ∑ R : Fin 8192, dswRef (sR x0 x1 (hc (i 1)) R) (dR x1 x2 (hc (i 1)) R) (i 0) * rowOf (n := 8192) x0 R (i 1) := by
  have h0 : (i 0).val < 256 := (i 0).isLt
  have h1 : (i 1).val < 1024 := (i 1).isLt
  have e : idx_main_v62 (idx_main_v66 i) = ix3 (hc (i 1)) (i 0) (hr (i 1)) := by
    funext a; apply Fin.ext
    match a with
    | ⟨0, _⟩ => show ((i 0).val * 1024 + (i 1).val) / 256 % 4 = (i 1).val / 256; omega
    | ⟨1, _⟩ => show ((i 0).val * 1024 + (i 1).val) / 1024 = (i 0).val; omega
    | ⟨2, _⟩ => show ((i 0).val * 1024 + (i 1).val) % 256 = (i 1).val % 256; omega
  rw [val_main_v66_apply, val_main_v62_apply]
  refine (congrArg (val_main_v61 (F := Ideal) x0 x1 x2) e).trans ((val_main_v61_apply x0 x1 x2 _).trans ?_)
  refine Finset.sum_congr rfl fun k _ => ?_
  rw [v60_at, v4_at]
  exact congrArg (fun c => _ * x0 (ix2 k c)) (hd_hc (i 1))

theorem v65_at (i : Cert.ReferenceIdeal.S256x1024.Idx) :
    val_main_v65 (F := Ideal) x0 x1 x2 i
      = ∑ R : Fin 8192, pw (sR x0 x1 (hc (i 1)) R) (i 0) * rowOf (n := 8192) x2 R (i 1) := by
  have h0 : (i 0).val < 256 := (i 0).isLt
  have h1 : (i 1).val < 1024 := (i 1).isLt
  have e : idx_main_v46 (idx_main_v65 i) = ix3 (hc (i 1)) (hr (i 1)) (i 0) := by
    funext a; apply Fin.ext
    match a with
    | ⟨0, _⟩ => show ((i 0).val * 1024 + (i 1).val) / 256 % 4 = (i 1).val / 256; omega
    | ⟨1, _⟩ => show ((i 0).val * 1024 + (i 1).val) % 256 = (i 1).val % 256; omega
    | ⟨2, _⟩ => show ((i 0).val * 1024 + (i 1).val) / 1024 = (i 0).val; omega
  rw [val_main_v65_apply, val_main_v46_apply]
  refine (congrArg (val_main_v45 (F := Ideal) x0 x1 x2) e).trans ((val_main_v45_apply x0 x1 x2 _).trans ?_)
  refine Finset.sum_congr rfl fun k _ => ?_
  rw [v34_at, v43_at, mul_comm]
  exact congrArg (fun c => _ * x2 (ix2 k c)) (hd_hc (i 1))

variable {x0 x1 x2}

theorem sR_fin (h0 : ∀ i, Fin' (x0 i)) (h1 : ∀ i, Fin' (x1 i)) (h : Fin 4) (r : Fin 8192) (m : Fin 256) : Fin' (sR x0 x1 h r m) :=
  Fin'.sum _ fun _ => (h0 _).mul (h1 _)
theorem dR_fin (h1 : ∀ i, Fin' (x1 i)) (h2 : ∀ i, Fin' (x2 i)) (h : Fin 4) (r : Fin 8192) (m : Fin 256) : Fin' (dR x1 x2 h r m) :=
  Fin'.sum _ fun _ => (h2 _).mul (h1 _)

theorem v68_at (h0 : ∀ i, Fin' (x0 i)) (h1 : ∀ i, Fin' (x1 i)) (h2 : ∀ i, Fin' (x2 i)) (k : Fin 256) (c : Fin 2048) :
    val_main_v68 (F := Ideal) x0 x1 x2 (ix2 k c)
      = ∑ R : Fin 8192, dkvT (rowOf (n := 8192) x0 R) (rowOf (n := 8192) x2 R) (kOf x1) (vOf x1) k c := by
  have hcl := c.isLt
  let f : Fin 2 → (Cert.ReferenceIdeal.S256x1024.Idx → EReal) := fun n => if n.val = 0 then val_main_v66 (F := Ideal) x0 x1 x2 else val_main_v65 (F := Ideal) x0 x1 x2
  unfold dkvT
  by_cases h : c.val < 1024
  · refine (concatenate_ofFn_apply (t := S256x2048) (s₁ := Cert.ReferenceIdeal.S256x1024) 1 f Cert.ReferenceIdeal.Gen.concatenates_S256x1024_S256x1024_S256x2048_d1 rfl 1024 rfl (ix2 k c) 0
      (show c.val / 1024 = 0 by omega) (ix2 k ⟨c.val, h⟩) (show c.val = c.val % 1024 by omega)
      (fun b hb => match b with | ⟨0, _⟩ => rfl | ⟨1, _⟩ => absurd rfl hb)).trans ((v66_at x0 x1 x2 _).trans ?_)
    simp only [dif_pos h]
    refine Finset.sum_congr rfl fun R _ => ?_
    rw [dsw_eq (sR_fin h0 h1 _ _) (dR_fin h1 h2 _ _)]
    rfl
  · refine (concatenate_ofFn_apply (t := S256x2048) (s₁ := Cert.ReferenceIdeal.S256x1024) 1 f Cert.ReferenceIdeal.Gen.concatenates_S256x1024_S256x1024_S256x2048_d1 rfl 1024 rfl (ix2 k c) 1
      (show c.val / 1024 = 1 by omega) (ix2 k ⟨c.val - 1024, by omega⟩) (show c.val - 1024 = c.val % 1024 by omega)
      (fun b hb => match b with | ⟨0, _⟩ => rfl | ⟨1, _⟩ => absurd rfl hb)).trans ((v65_at x0 x1 x2 _).trans ?_)
    simp only [dif_neg h]
    rfl

end Ref

/-- What the precondition says: the three arguments are real numbers throughout. -/
theorem fin_of_pre [Cert.Pre_finite1.Facts] (x0 : S8192x1024.Idx → EReal) (x1 : S256x2048.Idx → EReal) (x2 : S8192x1024.Idx → EReal)
    (h : Cert.Pre_finite1.fn (F := Ideal) x0 x1 x2 = fun _ => 1#1) :
    (∀ i, Fin' (x0 i)) ∧ (∀ i, Fin' (x1 i)) ∧ ∀ i, Fin' (x2 i) := by
  have h := congrFun h (fun a => a.elim0)
  dsimp only [Cert.Pre_finite1.fn] at h
  obtain ⟨h, h2⟩ := IntOp.andi_eq_one.1 h
  obtain ⟨h0, h1⟩ := IntOp.andi_eq_one.1 h
  exact ⟨fin_of_all x0 _ (fun _ => rfl) _ _ _ _ h0, fin_of_all x1 _ (fun _ => rfl) _ _ _ _ h1, fin_of_all x2 _ (fun _ => rfl) _ _ _ _ h2⟩

theorem ref_q [Cert.Pre_finite1.Facts] (hpre : Cert.Pre_KernelIdeal_finite1 m) (c : Dev nD) :
    Cert.ReferenceIdeal.Read.val_main_v69 (F := Ideal) (Q m c) (KV m c) (DO m c) = resQ m c := by
  obtain ⟨h0, h1, h2⟩ := fin_of_pre _ _ _ (hpre c)
  funext i
  refine (v69_at _ _ _ i).trans (Finset.sum_congr rfl fun k _ => ?_)
  exact congrArg (· * kOf (KV m c) k (i 1)) (dsw_eq (sR_fin h0 h1 _ _) (dR_fin h1 h2 _ _) k)

theorem ref_kv [Cert.Pre_finite1.Facts] (hpre : Cert.Pre_KernelIdeal_finite1 m) (c : Dev nD) :
    Cert.ReferenceIdeal.Read.val_main_v68 (F := Ideal) (Q m c) (KV m c) (DO m c) = resKV m c := by
  obtain ⟨h0, h1, h2⟩ := fin_of_pre _ _ _ (hpre c)
  funext i
  obtain ⟨k, f, rfl⟩ : ∃ (k : Fin 256) (f : Fin 2048), i = ix2 k f := ⟨i 0, i 1, by funext a; match a with | ⟨0, _⟩ => rfl | ⟨1, _⟩ => rfl⟩
  exact v68_at h0 h1 h2 k f

theorem algebraic [Cert.Pre_finite1.Facts] [Cert.KernelIdeal.Facts] [Cert.ReferenceIdeal.Facts] :
    Cert.algebraic_KernelIdeal_ReferenceIdeal_pre_finite1 := by
  pair_intro
  · run_from Cert.KernelIdeal.Value.run_blocks m g
  · run_from Cert.ReferenceIdeal.Value.run m' g'
    · rw [Cert.ReferenceIdeal.Read.val_main_v69_eq, (hagree c).1, (hagree c).2.1, (hagree c).2.2]
      exact (ref_q m hpre c).trans (final4 m c).symm
    · rw [Cert.ReferenceIdeal.Read.val_main_v68_eq, (hagree c).1, (hagree c).2.1, (hagree c).2.2]
      exact (ref_kv m hpre c).trans (final5 m c).symm

end Cert.Proof.Xattn

end
-- ==== Proof.Merge.lean ====
/-
  The gradient of the gated merge of the three mixers: each mixer's output takes the gradient through its gate, and each
  gate's logits take it through the logistic function; the gradient of the gates' bias sums the latter over the rows.
-/
module

public import proofs.«01_k».proof.Defs
public import proofs.«01_k».proof.Proof.Gen.Kernel2Ideal.Value
public import proofs.«01_k».proof.Proof.Gen.Reference2Ideal.Read
public import proofs.«01_k».proof.Proof.Common
public import Idealize.ShloMosaic.Lib.KernelVsHost
public import Idealize.ShloMosaic.Lib.Tactic
public import Idealize.ShloMosaic.Lib.Claim

@[expose] public section

set_option maxRecDepth 16384

noncomputable section

open Idealize.ShloMosaic hiding ix1 ix2 ix3
open Idealize.ShloMosaic.TcCoe Idealize.ShloMosaic.ValueIdx Idealize.SL.Sem
open scoped BigOperators

namespace Cert.Proof.Merge

open Cert.Kernel2Ideal Cert.Kernel2Ideal.Gen

theorem hz : (![0, 0] : Fin 2 → Nat) = fun _ => 0 := funext fun a => by fin_cases a <;> rfl

/-! ## What a point of the grid leaves -/

section Outs
variable {F : FTy → Type} [FloatOps F]
variable (c : Dev nD) (i : grid0.Coords)
  (arg1 : Memref sig .tc .vmem S256x1024 .bf16) (harg1 : arg1.IsWhole) (arg2 : Memref sig .tc .vmem S256x1024 .bf16) (harg2 : arg2.IsWhole) (arg3 : Memref sig .tc .vmem S256x1024 .bf16) (harg3 : arg3.IsWhole) (arg4 : Memref sig .tc .vmem S256x1024 .bf16) (harg4 : arg4.IsWhole)
  (arg5 : Memref sig .tc .vmem S256x1024 .bf16) (harg5 : arg5.IsWhole) (arg6 : Memref sig .tc .vmem S256x1024 .bf16) (harg6 : arg6.IsWhole) (arg7 : Memref sig .tc .vmem S256x1024 .bf16) (harg7 : arg7.IsWhole) (arg8 : Memref sig .tc .vmem S1x3072 .f32) (harg8 : arg8.IsWhole)
  (arg9 : Memref sig .tc .vmem S256x1024 .bf16) (harg9 : arg9.IsWhole) (arg10 : Memref sig .tc .vmem S256x1024 .bf16) (harg10 : arg10.IsWhole) (arg11 : Memref sig .tc .vmem S256x1024 .bf16) (harg11 : arg11.IsWhole) (arg12 : Memref sig .tc .vmem S256x3072 .bf16) (harg12 : arg12.IsWhole)
  (arg13 : Memref sig .tc .vmem S1x3072 .f32) (harg13 : arg13.IsWhole)
  (x0 x1 x2 x3 x4 x5 x6 : Vec F S256x1024 .bf16) (x7 xo12 : Vec F S1x3072 .f32)

theorem out_A_8 (hc0 : cond0_0 i) :
    out0_A_8 c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 x7 = k0_pay12 (k0_pay5 x0 x1 x7) := by
  unfold out0_A_8
  rw [View.read_writes_eq_canon _ _ _ (cover0_A_8 c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 x7)]
  unfold kernelRun0_A
  dsimp only
  sl_unfold_words
  rw [View.canon_unit_zero hz]
  simp only [View.readAt_eq_ld, harg1.read_unread, harg2.read_unread, harg3.read_unread, harg4.read_unread, harg5.read_unread, harg6.read_unread, harg7.read_unread, harg8.read_unread, harg13.read_unread, View.ld_unit_zero (S := S256x1024) hz, View.ld_unit_zero (S := S1x3072) hz]

theorem out_B_8 (hc0 : ¬cond0_0 i) :
    out0_B_8 c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 x7 xo12 = k0_pay12 (k0_pay5 x0 x1 x7) := by
  unfold out0_B_8
  rw [View.read_writes_eq_canon _ _ _ (cover0_B_8 c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 x7 xo12)]
  unfold kernelRun0_B
  dsimp only
  sl_unfold_words
  rw [View.canon_unit_zero hz]
  simp only [View.readAt_eq_ld, harg1.read_unread, harg2.read_unread, harg3.read_unread, harg4.read_unread, harg5.read_unread, harg6.read_unread, harg7.read_unread, harg8.read_unread, harg13.read_unread, View.ld_unit_zero (S := S256x1024) hz, View.ld_unit_zero (S := S1x3072) hz]

theorem out_A_9 (hc0 : cond0_0 i) :
    out0_A_9 c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 x7 = k0_pay13 (k0_pay3 x0) (k0_pay7 x2 x7) (Scalar.ofBits .f32 0x3F800000#32) := by
  unfold out0_A_9
  rw [View.read_writes_eq_canon _ _ _ (cover0_A_9 c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 x7)]
  unfold kernelRun0_A
  dsimp only
  sl_unfold_words
  rw [View.canon_unit_zero hz]
  simp only [View.readAt_eq_ld, harg1.read_unread, harg2.read_unread, harg3.read_unread, harg4.read_unread, harg5.read_unread, harg6.read_unread, harg7.read_unread, harg8.read_unread, harg13.read_unread, View.ld_unit_zero (S := S256x1024) hz, View.ld_unit_zero (S := S1x3072) hz]

theorem out_B_9 (hc0 : ¬cond0_0 i) :
    out0_B_9 c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 x7 xo12 = k0_pay13 (k0_pay3 x0) (k0_pay7 x2 x7) (Scalar.ofBits .f32 0x3F800000#32) := by
  unfold out0_B_9
  rw [View.read_writes_eq_canon _ _ _ (cover0_B_9 c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 x7 xo12)]
  unfold kernelRun0_B
  dsimp only
  sl_unfold_words
  rw [View.canon_unit_zero hz]
  simp only [View.readAt_eq_ld, harg1.read_unread, harg2.read_unread, harg3.read_unread, harg4.read_unread, harg5.read_unread, harg6.read_unread, harg7.read_unread, harg8.read_unread, harg13.read_unread, View.ld_unit_zero (S := S256x1024) hz, View.ld_unit_zero (S := S1x3072) hz]

theorem out_A_10 (hc0 : cond0_0 i) :
    out0_A_10 c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 x7 = k0_pay14 x3 x7 (k0_pay3 x0) := by
  unfold out0_A_10
  rw [View.read_writes_eq_canon _ _ _ (cover0_A_10 c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 x7)]
  unfold kernelRun0_A
  dsimp only
  sl_unfold_words
  rw [View.canon_unit_zero hz]
  simp only [View.readAt_eq_ld, harg1.read_unread, harg2.read_unread, harg3.read_unread, harg4.read_unread, harg5.read_unread, harg6.read_unread, harg7.read_unread, harg8.read_unread, harg13.read_unread, View.ld_unit_zero (S := S256x1024) hz, View.ld_unit_zero (S := S1x3072) hz]

theorem out_B_10 (hc0 : ¬cond0_0 i) :
    out0_B_10 c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 x7 xo12 = k0_pay14 x3 x7 (k0_pay3 x0) := by
  unfold out0_B_10
  rw [View.read_writes_eq_canon _ _ _ (cover0_B_10 c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 x7 xo12)]
  unfold kernelRun0_B
  dsimp only
  sl_unfold_words
  rw [View.canon_unit_zero hz]
  simp only [View.readAt_eq_ld, harg1.read_unread, harg2.read_unread, harg3.read_unread, harg4.read_unread, harg5.read_unread, harg6.read_unread, harg7.read_unread, harg8.read_unread, harg13.read_unread, View.ld_unit_zero (S := S256x1024) hz, View.ld_unit_zero (S := S1x3072) hz]

theorem out_A_11 (hc0 : cond0_0 i) :
    out0_A_11 c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 x7 = k0_pay15 x3 x5 x6 x7 (k0_pay3 x0) (k0_pay6 x0 x1 x4 x7) (k0_pay7 x2 x7) (Scalar.ofBits .f32 0x3F800000#32) := by
  unfold out0_A_11
  rw [View.read_writes_eq_canon _ _ _ (cover0_A_11 c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 x7)]
  unfold kernelRun0_A
  dsimp only
  sl_unfold_words
  rw [View.canon_unit_zero hz]
  simp only [View.readAt_eq_ld, harg1.read_unread, harg2.read_unread, harg3.read_unread, harg4.read_unread, harg5.read_unread, harg6.read_unread, harg7.read_unread, harg8.read_unread, harg13.read_unread, View.ld_unit_zero (S := S256x1024) hz, View.ld_unit_zero (S := S1x3072) hz]

theorem out_B_11 (hc0 : ¬cond0_0 i) :
    out0_B_11 c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 x7 xo12 = k0_pay15 x3 x5 x6 x7 (k0_pay3 x0) (k0_pay6 x0 x1 x4 x7) (k0_pay7 x2 x7) (Scalar.ofBits .f32 0x3F800000#32) := by
  unfold out0_B_11
  rw [View.read_writes_eq_canon _ _ _ (cover0_B_11 c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 x7 xo12)]
  unfold kernelRun0_B
  dsimp only
  sl_unfold_words
  rw [View.canon_unit_zero hz]
  simp only [View.readAt_eq_ld, harg1.read_unread, harg2.read_unread, harg3.read_unread, harg4.read_unread, harg5.read_unread, harg6.read_unread, harg7.read_unread, harg8.read_unread, harg13.read_unread, View.ld_unit_zero (S := S256x1024) hz, View.ld_unit_zero (S := S1x3072) hz]

theorem out_A_12 (hc0 : cond0_0 i) :
    out0_A_12 c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 x7 = k0_pay2 (k0_pay11 x3 x5 x6 x7 (k0_pay3 x0) (k0_pay6 x0 x1 x4 x7) (k0_pay7 x2 x7) (Scalar.ofBits .f32 0x3F800000#32)) k0_pay1 := by
  unfold out0_A_12
  rw [View.read_writes_eq_canon _ _ _ (cover0_A_12 c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 x7)]
  unfold kernelRun0_A
  dsimp only
  sl_unfold_words
  rw [View.canon_cons_unit_zero hz, View.readCov_unit_zero (S := S1x3072) _ hz]
  simp only [View.readAt_eq_ld, harg1.read_unread, harg2.read_unread, harg3.read_unread, harg4.read_unread, harg5.read_unread, harg6.read_unread, harg7.read_unread, harg8.read_unread, harg13.read_unread, View.ld_unit_zero (S := S256x1024) hz, View.ld_unit_zero (S := S1x3072) hz]

theorem out_B_12 (hc0 : ¬cond0_0 i) :
    out0_B_12 c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 x7 xo12 = k0_pay2 (k0_pay11 x3 x5 x6 x7 (k0_pay3 x0) (k0_pay6 x0 x1 x4 x7) (k0_pay7 x2 x7) (Scalar.ofBits .f32 0x3F800000#32)) xo12 := by
  unfold out0_B_12
  rw [View.read_writes_eq_canon _ _ _ (cover0_B_12 c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 x7 xo12)]
  unfold kernelRun0_B
  dsimp only
  sl_unfold_words
  rw [View.canon_unit_zero hz]
  simp only [View.readAt_eq_ld, harg1.read_unread, harg2.read_unread, harg3.read_unread, harg4.read_unread, harg5.read_unread, harg6.read_unread, harg7.read_unread, harg8.read_unread, harg13.read_unread, View.ld_unit_zero (S := S256x1024) hz, View.ld_unit_zero (S := S1x3072) hz]

end Outs

variable (m : (ℓ : Loc nD τ sig) → Buf (Elt Ideal) ℓ)

abbrev pblk (c : Dev nD) (t : Fin cfg0.N) (w : Fin 7) : Vec Ideal S256x1024 .bf16 :=
  match w with
  | 0 => iblk m c 0 t
  | 1 => iblk m c 1 t
  | 2 => iblk m c 2 t
  | 3 => iblk m c 3 t
  | 4 => iblk m c 4 t
  | 5 => iblk m c 5 t
  | 6 => iblk m c 6 t
abbrev bblk (c : Dev nD) (t : Fin cfg0.N) : Vec Ideal S1x3072 .f32 := iblk m c 7 t

abbrev one : EReal := Ideal.ofBits .f32 0x3F800000#32

/-! ## The payloads at an index -/

/-- The logistic function as both programs write it. -/
def sg (z : EReal) : EReal := Ideal.div one (one + Ideal.exp (-z))

/-- The gradient a gate's logit takes from the gradient `d` of the merged row and its mixer's output `y`. -/
def dlog (d y z : EReal) : EReal := d * y * (sg z * (one - sg z))

/-- The column of mixer `k`'s gate for channel `c`. -/
abbrev col (k : Fin 3) (c : Fin 1024) : Fin 3072 := ⟨k.val * 1024 + c.val, by have := k.isLt; have := c.isLt; omega⟩

theorem col_split (o : Fin 3072) : ∃ k c, o = col k c :=
  ⟨⟨o.val / 1024, by have := o.isLt; omega⟩, ⟨o.val % 1024, Nat.mod_lt _ (by omega)⟩, Fin.ext (by show o.val = o.val / 1024 * 1024 + o.val % 1024; omega)⟩

theorem part_apply (v : Vec Ideal S1x3072 .f32) (off : Fin 2 → Nat) (h : S1x3072.Slices off S1x1024) (k : Fin 3)
    (h0 : off 0 = 0) (h1 : off 1 = k.val * 1024) (r : Fin 256) (c : Fin 1024) :
    broadcastTo S256x1024 (extractStridedSlice S1x1024 off v h) broadcasts_S1x1024_S256x1024 (ix2 r c) = v (ix2 (0 : Fin 1) (col k c)) := by
  refine (broadcastTo_apply _ _ _ (ix2 (0 : Fin 1) c) (fun a => match a with | ⟨0, _⟩ => rfl | ⟨1, _⟩ => rfl)).trans ?_
  refine extractStridedSlice_apply off v h _ _ (fun a => ?_)
  match a with
  | ⟨0, _⟩ => show 0 = off 0 + 0; omega
  | ⟨1, _⟩ => show k.val * 1024 + c.val = off 1 + c.val; omega

theorem sg_of (v : Vec Ideal S256x1024 .bf16) (b : Vec Ideal S1x3072 .f32) (off : Fin 2 → Nat) (h : S1x3072.Slices off S1x1024) (k : Fin 3)
    (h0 : off 0 = 0) (h1 : off 1 = k.val * 1024) (r : Fin 256) (c : Fin 1024) :
    Ideal.div one (one + Ideal.exp (Ideal.ofBits .f32 0x00000000#32 - (v (ix2 r c) + broadcastTo S256x1024 (extractStridedSlice S1x1024 off b h) broadcasts_S1x1024_S256x1024 (ix2 r c))))
      = sg (v (ix2 r c) + b (ix2 (0 : Fin 1) (col k c))) := by
  rw [part_apply b off h k h0 h1 r c, Ideal.ofBits_zero_f32, zero_sub]
  rfl

theorem pay4_apply (v : Vec Ideal S256x1024 .bf16) (b : Vec Ideal S1x3072 .f32) (r : Fin 256) (c : Fin 1024) :
    k0_pay4 (F := Ideal) v b (ix2 r c) = sg (v (ix2 r c) + b (ix2 (0 : Fin 1) (col 0 c))) := sg_of v b _ _ 0 rfl rfl r c

theorem pay8_apply (v : Vec Ideal S256x1024 .bf16) (b : Vec Ideal S1x3072 .f32) (r : Fin 256) (c : Fin 1024) :
    k0_pay8 (F := Ideal) (k0_pay7 (F := Ideal) v b) one (ix2 r c) = sg (v (ix2 r c) + b (ix2 (0 : Fin 1) (col 1 c))) := sg_of v b _ _ 1 rfl rfl r c

theorem pay9_apply (v : Vec Ideal S256x1024 .bf16) (b : Vec Ideal S1x3072 .f32) (r : Fin 256) (c : Fin 1024) :
    k0_pay9 (F := Ideal) v b (ix2 r c) = sg (v (ix2 r c) + b (ix2 (0 : Fin 1) (col 2 c))) := sg_of v b _ _ 2 rfl rfl r c

abbrev dg10 (x : Fin 7 → Vec Ideal S256x1024 .bf16) (b : Vec Ideal S1x3072 .f32) : FVec Ideal S256x3072 .f32 :=
  k0_pay10 (F := Ideal) (x 3) (x 5) (x 6) b (k0_pay3 (F := Ideal) (x 0)) (k0_pay6 (F := Ideal) (x 0) (x 1) (x 4) b) (k0_pay7 (F := Ideal) (x 2) b) one

abbrev gl (k : Fin 3) : Fin 7 := ⟨k.val + 1, by have := k.isLt; omega⟩
abbrev yk (k : Fin 3) : Fin 7 := ⟨k.val + 4, by have := k.isLt; omega⟩

theorem dg10_apply (x : Fin 7 → Vec Ideal S256x1024 .bf16) (b : Vec Ideal S1x3072 .f32) (r : Fin 256) (k : Fin 3) (c : Fin 1024) :
    dg10 x b (ix2 r (col k c)) = dlog (x 0 (ix2 r c)) (x (yk k) (ix2 r c)) (x (gl k) (ix2 r c) + b (ix2 (0 : Fin 1) (col k c))) := by
  have piece : ∀ (n : Nat) (hn : n < 3) (v : FVec Ideal S256x1024 .f32) (vs : Fin 3 → FVec Ideal S256x1024 .f32) (_ : vs ⟨n, hn⟩ = v)
      (h : Shape.Concatenates _ S256x3072 1), concatenate S256x3072 1 [⟨S256x1024, vs 0⟩, ⟨S256x1024, vs 1⟩, ⟨S256x1024, vs 2⟩] h (ix2 r (col ⟨n, hn⟩ c)) = v (ix2 r c) := by
    intro n hn v vs hv h
    have hi : ∀ a : Fin 2, a ≠ 1 → ((ix2 r c : S256x1024.Idx) a).val = ((ix2 r (col ⟨n, hn⟩ c) : S256x3072.Idx) a).val := fun a ha => by
      match a with
      | ⟨0, _⟩ => rfl
      | ⟨1, _⟩ => exact absurd rfl ha
    interval_cases n
    · exact concatenate_apply_piece 1 _ h _ 0 (by simp) S256x1024 v (by rw [← hv]; rfl) rfl 0 rfl _ hi rfl
    · exact concatenate_apply_piece 1 _ h _ 1 (by simp) S256x1024 v (by rw [← hv]; rfl) rfl 1024 rfl _ hi rfl
    · exact concatenate_apply_piece 1 _ h _ 2 (by simp) S256x1024 v (by rw [← hv]; rfl) rfl 2048 rfl _ hi rfl
  unfold dg10 k0_pay10
  match k with
  | ⟨0, hk⟩ =>
    refine (piece 0 hk _ ![_, _, _] rfl _).trans ?_
    show x 0 (ix2 r c) * x 4 (ix2 r c) * (k0_pay4 (F := Ideal) (x 1) b (ix2 r c) * (one - k0_pay4 (F := Ideal) (x 1) b (ix2 r c))) = _
    rw [pay4_apply]; rfl
  | ⟨1, hk⟩ =>
    refine (piece 1 hk _ ![_, _, _] rfl _).trans ?_
    show x 0 (ix2 r c) * x 5 (ix2 r c) * (k0_pay8 (F := Ideal) (k0_pay7 (F := Ideal) (x 2) b) one (ix2 r c) * (one - k0_pay8 (F := Ideal) (k0_pay7 (F := Ideal) (x 2) b) one (ix2 r c))) = _
    rw [pay8_apply]; rfl
  | ⟨2, hk⟩ =>
    refine (piece 2 hk _ ![_, _, _] rfl _).trans ?_
    show x 0 (ix2 r c) * x 6 (ix2 r c) * (k0_pay9 (F := Ideal) (x 3) b (ix2 r c) * (one - k0_pay9 (F := Ideal) (x 3) b (ix2 r c))) = _
    rw [pay9_apply]; rfl

theorem db_apply (x : Fin 7 → Vec Ideal S256x1024 .bf16) (b : Vec Ideal S1x3072 .f32) (s : Vec Ideal S1x3072 .f32) (o : Fin 3072) :
    k0_pay2 (F := Ideal) (k0_pay11 (F := Ideal) (x 3) (x 5) (x 6) b (k0_pay3 (F := Ideal) (x 0)) (k0_pay6 (F := Ideal) (x 0) (x 1) (x 4) b) (k0_pay7 (F := Ideal) (x 2) b) one) s (ix2 (0 : Fin 1) o)
      = s (ix2 (0 : Fin 1) o) + ∑ r : Fin 256, dg10 x b (ix2 r o) := by
  unfold k0_pay2 k0_pay11
  refine congrArg₂ (· + ·) (shapeCast_apply _ _ _ _ rfl) ((shapeCast_apply _ _ _ (ix1 o) (by rw [Shape.rowMajor_val_one, Shape.rowMajor_val_two]; show o.val = 0 * 3072 + o.val; omega)).trans ?_)
  refine (Ideal.multiReduction_add_single _ _ _ _ _ _).trans ?_
  refine Finset.sum_congr rfl fun k _ => congrArg (dg10 x b) ?_
  funext a; apply Fin.ext
  match a with
  | ⟨0, _⟩ => rfl
  | ⟨1, _⟩ => rfl

/-! ## From blocks to arrays -/

abbrev D (c : Dev nD) : S8192x1024.Idx → EReal := m ((c : Thread nD τ).loc main_arg0)
abbrev P (c : Dev nD) : S8192x7168.Idx → EReal := m ((c : Thread nD τ).loc main_arg1)
abbrev Ya (c : Dev nD) : S8192x1024.Idx → EReal := m ((c : Thread nD τ).loc main_arg2)
abbrev Yb (c : Dev nD) : S8192x1024.Idx → EReal := m ((c : Thread nD τ).loc main_arg3)
abbrev Yc (c : Dev nD) : S8192x1024.Idx → EReal := m ((c : Thread nD τ).loc main_arg4)
abbrev Bg (c : Dev nD) : S1x3072.Idx → EReal := m ((c : Thread nD τ).loc main_arg5)

/-- A gate's logit, its bias added: the gates' columns of the packed projection begin at column 2048. -/
def logit (p : S8192x7168.Idx → EReal) (b : S1x3072.Idx → EReal) (r : Fin 8192) (o : Fin 3072) : EReal :=
  p (ix2 r (⟨2048 + o.val, by have := o.isLt; omega⟩ : Fin 7168)) + b (ix2 (0 : Fin 1) o)

/-- What mixer `k`'s output takes. -/
def dy (d : S8192x1024.Idx → EReal) (p : S8192x7168.Idx → EReal) (b : S1x3072.Idx → EReal) (k : Fin 3) (r : Fin 8192) (c : Fin 1024) : EReal :=
  d (ix2 r c) * sg (logit p b r (col k c))

/-- What mixer `k`'s logits take, `y` the outputs of the three mixers. -/
def dgl (d : S8192x1024.Idx → EReal) (p : S8192x7168.Idx → EReal) (y : Fin 3 → S8192x1024.Idx → EReal) (b : S1x3072.Idx → EReal)
    (r : Fin 8192) (k : Fin 3) (c : Fin 1024) : EReal := dlog (d (ix2 r c)) (y k (ix2 r c)) (logit p b r (col k c))

abbrev kOf (o : Fin 3072) : Fin 3 := ⟨o.val / 1024, by have := o.isLt; omega⟩
abbrev cOf (o : Fin 3072) : Fin 1024 := ⟨o.val % 1024, Nat.mod_lt _ (by omega)⟩

theorem kOf_col (k : Fin 3) (c : Fin 1024) : kOf (col k c) = k := Fin.ext (by have := c.isLt; show (k.val * 1024 + c.val) / 1024 = k.val; omega)
theorem cOf_col (k : Fin 3) (c : Fin 1024) : cOf (col k c) = c := Fin.ext (by have := c.isLt; show (k.val * 1024 + c.val) % 1024 = c.val; omega)

abbrev dgl' (d : S8192x1024.Idx → EReal) (p : S8192x7168.Idx → EReal) (y : Fin 3 → S8192x1024.Idx → EReal) (b : S1x3072.Idx → EReal)
    (r : Fin 8192) (o : Fin 3072) : EReal := dgl d p y b r (kOf o) (cOf o)

abbrev Y (c : Dev nD) : Fin 3 → S8192x1024.Idx → EReal := ![Ya m c, Yb m c, Yc m c]

abbrev res8 (c : Dev nD) : Buf (Elt Ideal) ((c : Thread nD τ).loc main_v0_0) := fun i : S8192x1024.Idx => dy (D m c) (P m c) (Bg m c) 0 (i 0) (i 1)
abbrev res9 (c : Dev nD) : Buf (Elt Ideal) ((c : Thread nD τ).loc main_v0_1) := fun i : S8192x1024.Idx => dy (D m c) (P m c) (Bg m c) 1 (i 0) (i 1)
abbrev res10 (c : Dev nD) : Buf (Elt Ideal) ((c : Thread nD τ).loc main_v0_2) := fun i : S8192x1024.Idx => dy (D m c) (P m c) (Bg m c) 2 (i 0) (i 1)
abbrev res11 (c : Dev nD) : Buf (Elt Ideal) ((c : Thread nD τ).loc main_v0_3) := fun i : S8192x3072.Idx => dgl' (D m c) (P m c) (Y m c) (Bg m c) (i 0) (i 1)
/-- What the bias takes. -/
abbrev dbias (d : S8192x1024.Idx → EReal) (p : S8192x7168.Idx → EReal) (y : Fin 3 → S8192x1024.Idx → EReal) (b : S1x3072.Idx → EReal)
    (o : Fin 3072) : EReal := ∑ r : Fin 8192, dgl' d p y b r o

abbrev res12 (c : Dev nD) : Buf (Elt Ideal) ((c : Thread nD τ).loc main_v0_4) := fun i : S1x3072.Idx => dbias (D m c) (P m c) (Y m c) (Bg m c) (i 1)

theorem idx_in : ∀ t : Fin cfg0.N, (win0_0.index t 0 = t.val ∧ win0_0.index t 1 = 0) ∧ (win0_1.index t 0 = t.val ∧ win0_1.index t 1 = 2)
    ∧ (win0_2.index t 0 = t.val ∧ win0_2.index t 1 = 3) ∧ (win0_3.index t 0 = t.val ∧ win0_3.index t 1 = 4) ∧ (win0_4.index t 0 = t.val ∧ win0_4.index t 1 = 0)
    ∧ (win0_5.index t 0 = t.val ∧ win0_5.index t 1 = 0) ∧ (win0_6.index t 0 = t.val ∧ win0_6.index t 1 = 0) ∧ (win0_7.index t 0 = 0 ∧ win0_7.index t 1 = 0) :=
  (by decide +kernel : ∀ t : Fin grid0.N, _)

theorem idx_out : ∀ t : Fin cfg0.N, (win0_8.index t 0 = t.val ∧ win0_8.index t 1 = 0) ∧ (win0_9.index t 0 = t.val ∧ win0_9.index t 1 = 0)
    ∧ (win0_10.index t 0 = t.val ∧ win0_10.index t 1 = 0) ∧ (win0_11.index t 0 = t.val ∧ win0_11.index t 1 = 0) ∧ (win0_12.index t 0 = 0 ∧ win0_12.index t 1 = 0) :=
  (by decide +kernel : ∀ t : Fin grid0.N, _)

theorem ltN (t : Fin cfg0.N) : t.val < 32 := lt_of_lt_of_eq t.isLt N_0

abbrev gR (n : ℕ) (h : n < 32) (x : Fin 256) : Fin 8192 := ⟨n * 256 + x.val, by have := x.isLt; omega⟩
abbrev gT (t : Fin cfg0.N) (x : Fin 256) : Fin 8192 := gR t.val (ltN t) x

theorem blk0_at (d : Dev nD) (t : Fin cfg0.N) (r : Fin 256) (c : Fin 1024) : pblk m d t 0 (ix2 r c) = D m d (ix2 (gT t r) c) := by
  obtain ⟨e0, e1⟩ := (idx_in t).1
  show m ((d : Thread nD τ).loc main_arg0) _ = m ((d : Thread nD τ).loc main_arg0) _
  congr 1
  funext a; apply Fin.ext
  match a with
  | ⟨0, _⟩ => show win0_0.index t 0 * 256 + 1 * r.val = t.val * 256 + r.val; rw [e0]; omega
  | ⟨1, _⟩ => show win0_0.index t 1 * 1024 + 1 * c.val = c.val; rw [e1]; omega

theorem blk1_at (d : Dev nD) (t : Fin cfg0.N) (r : Fin 256) (c : Fin 1024) : pblk m d t 1 (ix2 r c) = P m d (ix2 (gT t r) (⟨2048 + c.val, by have := c.isLt; omega⟩ : Fin 7168)) := by
  obtain ⟨e0, e1⟩ := (idx_in t).2.1
  show m ((d : Thread nD τ).loc main_arg1) _ = m ((d : Thread nD τ).loc main_arg1) _
  congr 1
  funext a; apply Fin.ext
  match a with
  | ⟨0, _⟩ => show win0_1.index t 0 * 256 + 1 * r.val = t.val * 256 + r.val; rw [e0]; omega
  | ⟨1, _⟩ => show win0_1.index t 1 * 1024 + 1 * c.val = 2048 + c.val; rw [e1]; omega

theorem blk2_at (d : Dev nD) (t : Fin cfg0.N) (r : Fin 256) (c : Fin 1024) : pblk m d t 2 (ix2 r c) = P m d (ix2 (gT t r) (⟨3072 + c.val, by have := c.isLt; omega⟩ : Fin 7168)) := by
  obtain ⟨e0, e1⟩ := (idx_in t).2.2.1
  show m ((d : Thread nD τ).loc main_arg1) _ = m ((d : Thread nD τ).loc main_arg1) _
  congr 1
  funext a; apply Fin.ext
  match a with
  | ⟨0, _⟩ => show win0_2.index t 0 * 256 + 1 * r.val = t.val * 256 + r.val; rw [e0]; omega
  | ⟨1, _⟩ => show win0_2.index t 1 * 1024 + 1 * c.val = 3072 + c.val; rw [e1]; omega

theorem blk3_at (d : Dev nD) (t : Fin cfg0.N) (r : Fin 256) (c : Fin 1024) : pblk m d t 3 (ix2 r c) = P m d (ix2 (gT t r) (⟨4096 + c.val, by have := c.isLt; omega⟩ : Fin 7168)) := by
  obtain ⟨e0, e1⟩ := (idx_in t).2.2.2.1
  show m ((d : Thread nD τ).loc main_arg1) _ = m ((d : Thread nD τ).loc main_arg1) _
  congr 1
  funext a; apply Fin.ext
  match a with
  | ⟨0, _⟩ => show win0_3.index t 0 * 256 + 1 * r.val = t.val * 256 + r.val; rw [e0]; omega
  | ⟨1, _⟩ => show win0_3.index t 1 * 1024 + 1 * c.val = 4096 + c.val; rw [e1]; omega

theorem blk4_at (d : Dev nD) (t : Fin cfg0.N) (r : Fin 256) (c : Fin 1024) : pblk m d t 4 (ix2 r c) = Ya m d (ix2 (gT t r) c) := by
  obtain ⟨e0, e1⟩ := (idx_in t).2.2.2.2.1
  show m ((d : Thread nD τ).loc main_arg2) _ = m ((d : Thread nD τ).loc main_arg2) _
  congr 1
  funext a; apply Fin.ext
  match a with
  | ⟨0, _⟩ => show win0_4.index t 0 * 256 + 1 * r.val = t.val * 256 + r.val; rw [e0]; omega
  | ⟨1, _⟩ => show win0_4.index t 1 * 1024 + 1 * c.val = c.val; rw [e1]; omega

theorem blk5_at (d : Dev nD) (t : Fin cfg0.N) (r : Fin 256) (c : Fin 1024) : pblk m d t 5 (ix2 r c) = Yb m d (ix2 (gT t r) c) := by
  obtain ⟨e0, e1⟩ := (idx_in t).2.2.2.2.2.1
  show m ((d : Thread nD τ).loc main_arg3) _ = m ((d : Thread nD τ).loc main_arg3) _
  congr 1
  funext a; apply Fin.ext
  match a with
  | ⟨0, _⟩ => show win0_5.index t 0 * 256 + 1 * r.val = t.val * 256 + r.val; rw [e0]; omega
  | ⟨1, _⟩ => show win0_5.index t 1 * 1024 + 1 * c.val = c.val; rw [e1]; omega

theorem blk6_at (d : Dev nD) (t : Fin cfg0.N) (r : Fin 256) (c : Fin 1024) : pblk m d t 6 (ix2 r c) = Yc m d (ix2 (gT t r) c) := by
  obtain ⟨e0, e1⟩ := (idx_in t).2.2.2.2.2.2.1
  show m ((d : Thread nD τ).loc main_arg4) _ = m ((d : Thread nD τ).loc main_arg4) _
  congr 1
  funext a; apply Fin.ext
  match a with
  | ⟨0, _⟩ => show win0_6.index t 0 * 256 + 1 * r.val = t.val * 256 + r.val; rw [e0]; omega
  | ⟨1, _⟩ => show win0_6.index t 1 * 1024 + 1 * c.val = c.val; rw [e1]; omega

theorem bblk_at (d : Dev nD) (t : Fin cfg0.N) (o : Fin 3072) : bblk m d t (ix2 (0 : Fin 1) o) = Bg m d (ix2 (0 : Fin 1) o) := by
  obtain ⟨e0, e1⟩ := (idx_in t).2.2.2.2.2.2.2
  show m ((d : Thread nD τ).loc main_arg5) _ = m ((d : Thread nD τ).loc main_arg5) _
  congr 1
  funext a; apply Fin.ext
  match a with
  | ⟨0, _⟩ => show win0_7.index t 0 * 1 + 1 * 0 = 0; rw [e0]
  | ⟨1, _⟩ => show win0_7.index t 1 * 3072 + 1 * o.val = o.val; rw [e1]; omega

theorem logit_at (d : Dev nD) (t : Fin cfg0.N) (k : Fin 3) (r : Fin 256) (c : Fin 1024) :
    pblk m d t (gl k) (ix2 r c) + bblk m d t (ix2 (0 : Fin 1) (col k c)) = logit (P m d) (Bg m d) (gT t r) (col k c) := by
  rw [bblk_at]
  unfold logit
  refine congrArg (· + _) ?_
  match k with
  | ⟨0, _⟩ => exact (blk1_at m d t r c).trans (congrArg (fun q => P m d (ix2 (gT t r) q)) (Fin.ext (by show 2048 + c.val = 2048 + (0 * 1024 + c.val); omega)))
  | ⟨1, _⟩ => exact (blk2_at m d t r c).trans (congrArg (fun q => P m d (ix2 (gT t r) q)) (Fin.ext (by show 3072 + c.val = 2048 + (1 * 1024 + c.val); omega)))
  | ⟨2, _⟩ => exact (blk3_at m d t r c).trans (congrArg (fun q => P m d (ix2 (gT t r) q)) (Fin.ext (by show 4096 + c.val = 2048 + (2 * 1024 + c.val); omega)))

theorem y_at (d : Dev nD) (t : Fin cfg0.N) (k : Fin 3) (r : Fin 256) (c : Fin 1024) : pblk m d t (yk k) (ix2 r c) = Y m d k (ix2 (gT t r) c) := by
  match k with
  | ⟨0, _⟩ => exact blk4_at m d t r c
  | ⟨1, _⟩ => exact blk5_at m d t r c
  | ⟨2, _⟩ => exact blk6_at m d t r c

theorem dg_at (d : Dev nD) (t : Fin cfg0.N) (r : Fin 256) (o : Fin 3072) :
    dg10 (pblk m d t) (bblk m d t) (ix2 r o) = dgl' (D m d) (P m d) (Y m d) (Bg m d) (gT t r) o := by
  obtain ⟨k, c, rfl⟩ := col_split o
  rw [dg10_apply, logit_at, y_at, blk0_at]
  show _ = dgl _ _ _ _ _ (kOf (col k c)) (cOf (col k c))
  rw [kOf_col, cOf_col]
  rfl

/-! ## What is written back -/

theorem left8 (c : Dev nD) (t : Fin cfg0.N) : (outsAt0 m c t.val t.isLt).1 = k0_pay12 (F := Ideal) (k0_pay5 (F := Ideal) (pblk m c t 0) (pblk m c t 1) (bblk m c t)) := by
  by_cases h0 : t.val % 32 = 0
  · rw [outsAt0_A m c t h0]; dsimp only; rw [out_A_8]
  · rw [outsAt0_B m c t h0]; dsimp only; rw [out_B_8]

theorem flushed8_eq (c : Dev nD) (t : Fin cfg0.N) (_ : (cfg0.win 8).flush t = true) :
    (dats m 0 c).flushed 8 t = ((cfg0.win 8).blk t).view.read (Elt Ideal) (res8 m c) := by
  rw [Value.flushed8, left8]
  obtain ⟨e0, e1⟩ := (idx_out t).1
  funext j
  obtain ⟨r, o, rfl⟩ : ∃ (r : Fin 256) (o : Fin 1024), j = ix2 r o := ⟨j 0, j 1, by funext a; match a with | ⟨0, _⟩ => rfl | ⟨1, _⟩ => rfl⟩
  show _ = res8 m c (((cfg0.win 8).blk t).view.emb (ix2 r o))
  have e : ((cfg0.win 8).blk t).view.emb (ix2 r o) = (ix2 (gT t r) o : S8192x1024.Idx) := by
    funext a; apply Fin.ext
    match a with
    | ⟨0, _⟩ => show win0_8.index t 0 * 256 + 1 * r.val = t.val * 256 + r.val; rw [e0]; omega
    | ⟨1, _⟩ => show win0_8.index t 1 * 1024 + 1 * o.val = o.val; rw [e1]; omega
  rw [e]
  show pblk m c t 0 (ix2 r o) * k0_pay4 (F := Ideal) (pblk m c t 1) (bblk m c t) (ix2 r o) = _
  rw [pay4_apply, blk0_at]
  exact congrArg (fun z => D m c (ix2 (gT t r) o) * sg z) (logit_at m c t 0 r o)

theorem cover8 (i : S8192x1024.Idx) : ∃ t : Fin cfg0.N, (cfg0.win 8).flush t = true ∧ i ∈ ((cfg0.win 8).blk t).view.set := by
  have h0 : (i 0 : Nat) < 8192 := (i 0).isLt
  have h1 : (i 1 : Nat) < 1024 := (i 1).isLt
  have hN : (i 0).val / 256 < cfg0.N := lt_of_lt_of_eq (by omega) N_0.symm
  refine ⟨⟨_, hN⟩, flush0_8 _, ?_⟩
  obtain ⟨e0, e1⟩ := (idx_out ⟨_, hN⟩).1
  show i ∈ ((View.whole main_v0_0).slice (win0_8.rect ⟨_, hN⟩)).set
  rw [View.set_slice_whole, Rect.mem_set_unit]
  intro a
  match a with
  | ⟨0, _⟩ => show win0_8.index ⟨_, hN⟩ 0 * 256 ≤ (i 0).val ∧ (i 0).val < win0_8.index ⟨_, hN⟩ 0 * 256 + 256; rw [e0]; dsimp only; omega
  | ⟨1, _⟩ => show win0_8.index ⟨_, hN⟩ 1 * 1024 ≤ (i 1).val ∧ (i 1).val < win0_8.index ⟨_, hN⟩ 1 * 1024 + 1024; rw [e1]; omega

theorem final8 (c : Dev nD) : (dats m 0 c).arrAt 8 cfg0.N = res8 m c := (dats m 0 c).arrAt_eq_of_cover 8 (res8 m c) (flushed8_eq m c) cover8

theorem left9 (c : Dev nD) (t : Fin cfg0.N) : (outsAt0 m c t.val t.isLt).2.1 = k0_pay13 (F := Ideal) (k0_pay3 (F := Ideal) (pblk m c t 0)) (k0_pay7 (F := Ideal) (pblk m c t 2) (bblk m c t)) one := by
  by_cases h0 : t.val % 32 = 0
  · rw [outsAt0_A m c t h0]; dsimp only; rw [out_A_9]; rfl
  · rw [outsAt0_B m c t h0]; dsimp only; rw [out_B_9]; rfl

theorem flushed9_eq (c : Dev nD) (t : Fin cfg0.N) (_ : (cfg0.win 9).flush t = true) :
    (dats m 0 c).flushed 9 t = ((cfg0.win 9).blk t).view.read (Elt Ideal) (res9 m c) := by
  rw [Value.flushed9, left9]
  obtain ⟨e0, e1⟩ := (idx_out t).2.1
  funext j
  obtain ⟨r, o, rfl⟩ : ∃ (r : Fin 256) (o : Fin 1024), j = ix2 r o := ⟨j 0, j 1, by funext a; match a with | ⟨0, _⟩ => rfl | ⟨1, _⟩ => rfl⟩
  show _ = res9 m c (((cfg0.win 9).blk t).view.emb (ix2 r o))
  have e : ((cfg0.win 9).blk t).view.emb (ix2 r o) = (ix2 (gT t r) o : S8192x1024.Idx) := by
    funext a; apply Fin.ext
    match a with
    | ⟨0, _⟩ => show win0_9.index t 0 * 256 + 1 * r.val = t.val * 256 + r.val; rw [e0]; omega
    | ⟨1, _⟩ => show win0_9.index t 1 * 1024 + 1 * o.val = o.val; rw [e1]; omega
  rw [e]
  show pblk m c t 0 (ix2 r o) * k0_pay8 (F := Ideal) (k0_pay7 (F := Ideal) (pblk m c t 2) (bblk m c t)) one (ix2 r o) = _
  rw [pay8_apply, blk0_at]
  exact congrArg (fun z => D m c (ix2 (gT t r) o) * sg z) (logit_at m c t 1 r o)

theorem cover9 (i : S8192x1024.Idx) : ∃ t : Fin cfg0.N, (cfg0.win 9).flush t = true ∧ i ∈ ((cfg0.win 9).blk t).view.set := by
  have h0 : (i 0 : Nat) < 8192 := (i 0).isLt
  have h1 : (i 1 : Nat) < 1024 := (i 1).isLt
  have hN : (i 0).val / 256 < cfg0.N := lt_of_lt_of_eq (by omega) N_0.symm
  refine ⟨⟨_, hN⟩, flush0_9 _, ?_⟩
  obtain ⟨e0, e1⟩ := (idx_out ⟨_, hN⟩).2.1
  show i ∈ ((View.whole main_v0_1).slice (win0_9.rect ⟨_, hN⟩)).set
  rw [View.set_slice_whole, Rect.mem_set_unit]
  intro a
  match a with
  | ⟨0, _⟩ => show win0_9.index ⟨_, hN⟩ 0 * 256 ≤ (i 0).val ∧ (i 0).val < win0_9.index ⟨_, hN⟩ 0 * 256 + 256; rw [e0]; dsimp only; omega
  | ⟨1, _⟩ => show win0_9.index ⟨_, hN⟩ 1 * 1024 ≤ (i 1).val ∧ (i 1).val < win0_9.index ⟨_, hN⟩ 1 * 1024 + 1024; rw [e1]; omega

theorem final9 (c : Dev nD) : (dats m 0 c).arrAt 9 cfg0.N = res9 m c := (dats m 0 c).arrAt_eq_of_cover 9 (res9 m c) (flushed9_eq m c) cover9

theorem left10 (c : Dev nD) (t : Fin cfg0.N) : (outsAt0 m c t.val t.isLt).2.2.1 = k0_pay14 (F := Ideal) (pblk m c t 3) (bblk m c t) (k0_pay3 (F := Ideal) (pblk m c t 0)) := by
  by_cases h0 : t.val % 32 = 0
  · rw [outsAt0_A m c t h0]; dsimp only; rw [out_A_10]
  · rw [outsAt0_B m c t h0]; dsimp only; rw [out_B_10]

theorem flushed10_eq (c : Dev nD) (t : Fin cfg0.N) (_ : (cfg0.win 10).flush t = true) :
    (dats m 0 c).flushed 10 t = ((cfg0.win 10).blk t).view.read (Elt Ideal) (res10 m c) := by
  rw [Value.flushed10, left10]
  obtain ⟨e0, e1⟩ := (idx_out t).2.2.1
  funext j
  obtain ⟨r, o, rfl⟩ : ∃ (r : Fin 256) (o : Fin 1024), j = ix2 r o := ⟨j 0, j 1, by funext a; match a with | ⟨0, _⟩ => rfl | ⟨1, _⟩ => rfl⟩
  show _ = res10 m c (((cfg0.win 10).blk t).view.emb (ix2 r o))
  have e : ((cfg0.win 10).blk t).view.emb (ix2 r o) = (ix2 (gT t r) o : S8192x1024.Idx) := by
    funext a; apply Fin.ext
    match a with
    | ⟨0, _⟩ => show win0_10.index t 0 * 256 + 1 * r.val = t.val * 256 + r.val; rw [e0]; omega
    | ⟨1, _⟩ => show win0_10.index t 1 * 1024 + 1 * o.val = o.val; rw [e1]; omega
  rw [e]
  show pblk m c t 0 (ix2 r o) * k0_pay9 (F := Ideal) (pblk m c t 3) (bblk m c t) (ix2 r o) = _
  rw [pay9_apply, blk0_at]
  exact congrArg (fun z => D m c (ix2 (gT t r) o) * sg z) (logit_at m c t 2 r o)

theorem cover10 (i : S8192x1024.Idx) : ∃ t : Fin cfg0.N, (cfg0.win 10).flush t = true ∧ i ∈ ((cfg0.win 10).blk t).view.set := by
  have h0 : (i 0 : Nat) < 8192 := (i 0).isLt
  have h1 : (i 1 : Nat) < 1024 := (i 1).isLt
  have hN : (i 0).val / 256 < cfg0.N := lt_of_lt_of_eq (by omega) N_0.symm
  refine ⟨⟨_, hN⟩, flush0_10 _, ?_⟩
  obtain ⟨e0, e1⟩ := (idx_out ⟨_, hN⟩).2.2.1
  show i ∈ ((View.whole main_v0_2).slice (win0_10.rect ⟨_, hN⟩)).set
  rw [View.set_slice_whole, Rect.mem_set_unit]
  intro a
  match a with
  | ⟨0, _⟩ => show win0_10.index ⟨_, hN⟩ 0 * 256 ≤ (i 0).val ∧ (i 0).val < win0_10.index ⟨_, hN⟩ 0 * 256 + 256; rw [e0]; dsimp only; omega
  | ⟨1, _⟩ => show win0_10.index ⟨_, hN⟩ 1 * 1024 ≤ (i 1).val ∧ (i 1).val < win0_10.index ⟨_, hN⟩ 1 * 1024 + 1024; rw [e1]; omega

theorem final10 (c : Dev nD) : (dats m 0 c).arrAt 10 cfg0.N = res10 m c := (dats m 0 c).arrAt_eq_of_cover 10 (res10 m c) (flushed10_eq m c) cover10

theorem left11 (c : Dev nD) (t : Fin cfg0.N) : (outsAt0 m c t.val t.isLt).2.2.2.1 = dg10 (pblk m c t) (bblk m c t) := by
  by_cases h0 : t.val % 32 = 0
  · rw [outsAt0_A m c t h0]; dsimp only; rw [out_A_11]; rfl
  · rw [outsAt0_B m c t h0]; dsimp only; rw [out_B_11]; rfl

theorem flushed11_eq (c : Dev nD) (t : Fin cfg0.N) (_ : (cfg0.win 11).flush t = true) :
    (dats m 0 c).flushed 11 t = ((cfg0.win 11).blk t).view.read (Elt Ideal) (res11 m c) := by
  rw [Value.flushed11, left11]
  obtain ⟨e0, e1⟩ := (idx_out t).2.2.2.1
  funext j
  obtain ⟨r, o, rfl⟩ : ∃ (r : Fin 256) (o : Fin 3072), j = ix2 r o := ⟨j 0, j 1, by funext a; match a with | ⟨0, _⟩ => rfl | ⟨1, _⟩ => rfl⟩
  show _ = res11 m c (((cfg0.win 11).blk t).view.emb (ix2 r o))
  have e : ((cfg0.win 11).blk t).view.emb (ix2 r o) = (ix2 (gT t r) o : S8192x3072.Idx) := by
    funext a; apply Fin.ext
    match a with
    | ⟨0, _⟩ => show win0_11.index t 0 * 256 + 1 * r.val = t.val * 256 + r.val; rw [e0]; omega
    | ⟨1, _⟩ => show win0_11.index t 1 * 3072 + 1 * o.val = o.val; rw [e1]; omega
  rw [e]
  exact dg_at m c t r o

theorem cover11 (i : S8192x3072.Idx) : ∃ t : Fin cfg0.N, (cfg0.win 11).flush t = true ∧ i ∈ ((cfg0.win 11).blk t).view.set := by
  have h0 : (i 0 : Nat) < 8192 := (i 0).isLt
  have h1 : (i 1 : Nat) < 3072 := (i 1).isLt
  have hN : (i 0).val / 256 < cfg0.N := lt_of_lt_of_eq (by omega) N_0.symm
  refine ⟨⟨_, hN⟩, flush0_11 _, ?_⟩
  obtain ⟨e0, e1⟩ := (idx_out ⟨_, hN⟩).2.2.2.1
  show i ∈ ((View.whole main_v0_3).slice (win0_11.rect ⟨_, hN⟩)).set
  rw [View.set_slice_whole, Rect.mem_set_unit]
  intro a
  match a with
  | ⟨0, _⟩ => show win0_11.index ⟨_, hN⟩ 0 * 256 ≤ (i 0).val ∧ (i 0).val < win0_11.index ⟨_, hN⟩ 0 * 256 + 256; rw [e0]; dsimp only; omega
  | ⟨1, _⟩ => show win0_11.index ⟨_, hN⟩ 1 * 3072 ≤ (i 1).val ∧ (i 1).val < win0_11.index ⟨_, hN⟩ 1 * 3072 + 3072; rw [e1]; omega

theorem final11 (c : Dev nD) : (dats m 0 c).arrAt 11 cfg0.N = res11 m c := (dats m 0 c).arrAt_eq_of_cover 11 (res11 m c) (flushed11_eq m c) cover11

theorem db_start (c : Dev nD) (t : Fin cfg0.N) (h0 : t.val % 32 = 0) (o : Fin 3072) :
    (outsAt0 m c t.val t.isLt).2.2.2.2 (ix2 (0 : Fin 1) o) = ∑ r : Fin 256, dg10 (pblk m c t) (bblk m c t) (ix2 r o) := by
  rw [outsAt0_A m c t h0]; dsimp only; rw [out_A_12]
  refine (db_apply (pblk m c t) (bblk m c t) _ o).trans ?_
  show Ideal.ofBits .f32 0x00000000#32 + _ = _
  rw [Ideal.ofBits_zero_f32, zero_add]

theorem db_next (c : Dev nD) (t : Fin cfg0.N) (h0 : ¬t.val % 32 = 0) (o : Fin 3072) :
    (outsAt0 m c t.val t.isLt).2.2.2.2 (ix2 (0 : Fin 1) o) = (outsAt0 m c (t.val - 1) (Nat.lt_of_le_of_lt (Nat.sub_le _ _) t.isLt)).2.2.2.2 (ix2 (0 : Fin 1) o)
      + ∑ r : Fin 256, dg10 (pblk m c t) (bblk m c t) (ix2 r o) := by
  rw [outsAt0_B m c t h0]; dsimp only; rw [out_B_12]
  exact db_apply (pblk m c t) (bblk m c t) _ o

theorem db_full (c : Dev nD) (t : Fin cfg0.N) (h : t.val % 32 = 31) (o : Fin 3072) :
    (outsAt0 m c t.val t.isLt).2.2.2.2 (ix2 (0 : Fin 1) o) = ∑ r : Fin 8192, dgl' (D m c) (P m c) (Y m c) (Bg m c) r o := by
  refine acc_last 32 256 rfl (by omega) (fun n h => (outsAt0 m c n h).2.2.2.2 (ix2 (0 : Fin 1) o))
    (fun _ r => dgl' (D m c) (P m c) (Y m c) (Bg m c) r o)
    (fun n h k => dg10 (pblk m c ⟨n, h⟩) (bblk m c ⟨n, h⟩) (ix2 k o))
    (fun n h k hk => ?_)
    (fun n h e => db_start m c ⟨n, h⟩ e o)
    (fun n h _ e => db_next m c ⟨n, h⟩ e o)
    t.val t.isLt h
  have hn : n < 32 := ltN ⟨n, h⟩
  rw [dg_at]
  refine congrArg (fun r => dgl' (D m c) (P m c) (Y m c) (Bg m c) r o) (Fin.ext ?_)
  show n * 256 + k.val = n % 32 * 256 + k.val
  omega

theorem flushed12_eq (c : Dev nD) (t : Fin cfg0.N) (ht : (cfg0.win 12).flush t = true) :
    (dats m 0 c).flushed 12 t = ((cfg0.win 12).blk t).view.read (Elt Ideal) (res12 m c) := by
  obtain ⟨e0, e1⟩ := (idx_out t).2.2.2.2
  rw [Value.flushed12]
  funext j
  obtain ⟨r, o, rfl⟩ : ∃ (r : Fin 1) (o : Fin 3072), j = ix2 r o := ⟨j 0, j 1, by funext a; match a with | ⟨0, _⟩ => rfl | ⟨1, _⟩ => rfl⟩
  obtain rfl : r = 0 := Subsingleton.elim _ _
  show _ = res12 m c (((cfg0.win 12).blk t).view.emb (ix2 (0 : Fin 1) o))
  have e : ((cfg0.win 12).blk t).view.emb (ix2 (0 : Fin 1) o) = (ix2 (0 : Fin 1) o : S1x3072.Idx) := by
    funext a; apply Fin.ext
    match a with
    | ⟨0, _⟩ => show win0_12.index t 0 * 1 + 1 * 0 = 0; rw [e0]
    | ⟨1, _⟩ => show win0_12.index t 1 * 3072 + 1 * o.val = o.val; rw [e1]; omega
  rw [e]
  exact db_full m c t ((flush0_12 t).1 ht) o

theorem cover12 (i : S1x3072.Idx) : ∃ t : Fin cfg0.N, (cfg0.win 12).flush t = true ∧ i ∈ ((cfg0.win 12).blk t).view.set := by
  have h0 : (i 0 : Nat) < 1 := (i 0).isLt
  have h1 : (i 1 : Nat) < 3072 := (i 1).isLt
  have hN : 31 < cfg0.N := lt_of_lt_of_eq (by omega) N_0.symm
  refine ⟨⟨31, hN⟩, (flush0_12 _).2 rfl, ?_⟩
  obtain ⟨e0, e1⟩ := (idx_out ⟨31, hN⟩).2.2.2.2
  show i ∈ ((View.whole main_v0_4).slice (win0_12.rect ⟨31, hN⟩)).set
  rw [View.set_slice_whole, Rect.mem_set_unit]
  intro a
  match a with
  | ⟨0, _⟩ => show win0_12.index ⟨31, hN⟩ 0 * 1 ≤ (i 0).val ∧ (i 0).val < win0_12.index ⟨31, hN⟩ 0 * 1 + 1; rw [e0]; omega
  | ⟨1, _⟩ => show win0_12.index ⟨31, hN⟩ 1 * 3072 ≤ (i 1).val ∧ (i 1).val < win0_12.index ⟨31, hN⟩ 1 * 3072 + 3072; rw [e1]; omega

theorem final12 (c : Dev nD) : (dats m 0 c).arrAt 12 cfg0.N = res12 m c := (dats m 0 c).arrAt_eq_of_cover 12 (res12 m c) (flushed12_eq m c) cover12

/-! ## The reference -/

open Cert.Reference2Ideal.Read

abbrev R3 := Cert.Reference2Ideal.S8192x3x1024

theorem ref_gate (p : S8192x7168.Idx → EReal) (b : S1x3072.Idx → EReal) (i : S8192x3072.Idx) :
    val_main_v12 (F := Ideal) p b i = sg (logit p b (i 0) (i 1)) := by
  show Ideal.div one (one + Ideal.exp (-(val_main_v0 (F := Ideal) p i + val_main_v5 (F := Ideal) b i))) = _
  rw [val_main_v0_apply, val_main_v5_apply]
  unfold logit sg
  refine congrArg (fun z => Ideal.div one (one + Ideal.exp (-z))) (congrArg₂ (· + ·) (congrArg p ?_) (congrArg b ?_))
  · funext a; apply Fin.ext
    match a with
    | ⟨0, _⟩ => rfl
    | ⟨1, _⟩ => rfl
  · funext a; apply Fin.ext
    match a with
    | ⟨0, _⟩ => rfl
    | ⟨1, _⟩ => rfl

theorem at3 (p : S8192x7168.Idx → EReal) (b : S1x3072.Idx → EReal) (j : S8192x3072.Idx) (r : Fin 8192) (k : Fin 3) (c : Fin 1024)
    (h0 : (j 0).val = r.val) (h1 : (j 1).val = k.val * 1024 + c.val) : val_main_v12 (F := Ideal) p b j = sg (logit p b r (col k c)) := by
  rw [ref_gate]
  exact congrArg₂ (fun x y => sg (logit p b x y)) (Fin.ext h0) (Fin.ext h1)

theorem ref_dy0 (d : S8192x1024.Idx → EReal) (p : S8192x7168.Idx → EReal) (b : S1x3072.Idx → EReal) (i : S8192x1024.Idx) :
    val_main_v47 (F := Ideal) d p b i = dy d p b 0 (i 0) (i 1) := by
  have h1 : (i 1 : Nat) < 1024 := (i 1).isLt
  show val_main_v18 (F := Ideal) p b i * d i = _
  rw [val_main_v18_apply, val_main_v17_apply, val_main_v16_apply, at3 p b _ (i 0) 0 (i 1), mul_comm]
  · exact congrArg (fun q => d q * _) (show i = ix2 (i 0) (i 1) from by funext a; match a with | ⟨0, _⟩ => rfl | ⟨1, _⟩ => rfl)
  · show ((((i 0).val * 1024 + (i 1).val) / 1024 * 3 + 0) * 1024 + ((i 0).val * 1024 + (i 1).val) % 1024) / 3072 = (i 0).val
    omega
  · show ((((i 0).val * 1024 + (i 1).val) / 1024 * 3 + 0) * 1024 + ((i 0).val * 1024 + (i 1).val) % 1024) % 3072 = 0 * 1024 + (i 1).val
    omega

theorem ref_dy1 (d : S8192x1024.Idx → EReal) (p : S8192x7168.Idx → EReal) (b : S1x3072.Idx → EReal) (i : S8192x1024.Idx) :
    val_main_v48 (F := Ideal) d p b i = dy d p b 1 (i 0) (i 1) := by
  have h1 : (i 1 : Nat) < 1024 := (i 1).isLt
  show val_main_v21 (F := Ideal) p b i * d i = _
  rw [val_main_v21_apply, val_main_v20_apply, val_main_v16_apply, at3 p b _ (i 0) 1 (i 1), mul_comm]
  · exact congrArg (fun q => d q * _) (show i = ix2 (i 0) (i 1) from by funext a; match a with | ⟨0, _⟩ => rfl | ⟨1, _⟩ => rfl)
  · show ((((i 0).val * 1024 + (i 1).val) / 1024 * 3 + (1 + 0)) * 1024 + ((i 0).val * 1024 + (i 1).val) % 1024) / 3072 = (i 0).val
    omega
  · show ((((i 0).val * 1024 + (i 1).val) / 1024 * 3 + (1 + 0)) * 1024 + ((i 0).val * 1024 + (i 1).val) % 1024) % 3072 = 1 * 1024 + (i 1).val
    omega

theorem ref_dy2 (d : S8192x1024.Idx → EReal) (p : S8192x7168.Idx → EReal) (b : S1x3072.Idx → EReal) (i : S8192x1024.Idx) :
    val_main_v49 (F := Ideal) d p b i = dy d p b 2 (i 0) (i 1) := by
  have h1 : (i 1 : Nat) < 1024 := (i 1).isLt
  show val_main_v25 (F := Ideal) p b i * d i = _
  rw [val_main_v25_apply, val_main_v24_apply, val_main_v16_apply, at3 p b _ (i 0) 2 (i 1), mul_comm]
  · exact congrArg (fun q => d q * _) (show i = ix2 (i 0) (i 1) from by funext a; match a with | ⟨0, _⟩ => rfl | ⟨1, _⟩ => rfl)
  · show ((((i 0).val * 1024 + (i 1).val) / 1024 * 3 + (2 + 0)) * 1024 + ((i 0).val * 1024 + (i 1).val) % 1024) / 3072 = (i 0).val
    omega
  · show ((((i 0).val * 1024 + (i 1).val) / 1024 * 3 + (2 + 0)) * 1024 + ((i 0).val * 1024 + (i 1).val) % 1024) % 3072 = 2 * 1024 + (i 1).val
    omega

/-- One mixer's part of the logits' gradient before the logistic function's derivative, placed at its gate and zero elsewhere. -/
theorem pad_at (lo hi : Fin 3 → Nat) (x : Cert.Reference2Ideal.S8192x1x1024.Idx → EReal) (h : Cert.Reference2Ideal.S8192x1x1024.Pads lo hi ![0, 0, 0] R3)
    (v : Cert.Reference2Ideal.S_.Idx → EReal) (hu : 0 < Cert.Reference2Ideal.S_.numel) (hv : ∀ j, v j = 0) (n : Nat) (h0 : lo 0 = 0) (h1 : lo 1 = n) (h2 : lo 2 = 0)
    (r : Fin 8192) (k : Fin 3) (c : Fin 1024) :
    pad R3 lo hi ![0, 0, 0] x v h hu (ix3 r k c) = if k.val = n then x (ix3 r (0 : Fin 1) c) else 0 := by
  by_cases hk : k.val = n
  · rw [if_pos hk]
    refine pad_apply_of_inside lo hi _ x v h hu _ (ix3 r (0 : Fin 1) c) (fun a => ?_)
    match a with
    | ⟨0, _⟩ => show r.val = lo 0 + r.val * (0 + 1); omega
    | ⟨1, _⟩ => show k.val = lo 1 + 0 * (0 + 1); omega
    | ⟨2, _⟩ => show c.val = lo 2 + c.val * (0 + 1); omega
  · rw [if_neg hk]
    refine (pad_apply_of_not_inside lo hi _ x v h hu _ (1 : Fin 3) ?_).trans (hv _)
    show ¬(lo 1 ≤ k.val ∧ (k.val - lo 1) % (0 + 1) = 0 ∧ (k.val - lo 1) / (0 + 1) < 1)
    omega

theorem ref_sum3 (d ya yb yc : S8192x1024.Idx → EReal) (r : Fin 8192) (k : Fin 3) (c : Fin 1024) :
    val_main_v42 (F := Ideal) d ya yb yc (ix3 r k c) = d (ix2 r c) * (![ya, yb, yc] : Fin 3 → S8192x1024.Idx → EReal) k (ix2 r c) := by
  have z2 : ∀ j, val_main_cst_2 (F := Ideal) j = (0 : EReal) := fun j => Ideal.ofBits_zero_f32
  have z3 : ∀ j, val_main_cst_3 (F := Ideal) j = (0 : EReal) := fun j => Ideal.ofBits_zero_f32
  have z4 : ∀ j, val_main_cst_4 (F := Ideal) j = (0 : EReal) := fun j => Ideal.ofBits_zero_f32
  show (val_main_v32 (F := Ideal) d yc (ix3 r k c) + val_main_v36 (F := Ideal) d yb (ix3 r k c)) + val_main_v41 (F := Ideal) d ya (ix3 r k c) = _
  unfold val_main_v32 val_main_v36 val_main_v41
  rw [pad_at _ _ _ _ _ _ z2 2 rfl rfl rfl, pad_at _ _ _ _ _ _ z3 1 rfl rfl rfl, pad_at _ _ _ _ _ _ z4 0 rfl rfl rfl,
    val_main_v31_apply, val_main_v35_apply, val_main_v40_apply]
  have e : ∀ y : S8192x1024.Idx → EReal, ∀ j : S8192x1024.Idx, j = ix2 r c → d j * y j = d (ix2 r c) * y (ix2 r c) := fun y j h => by rw [h]
  match k with
  | ⟨0, _⟩ =>
    rw [if_neg (by simp), if_neg (by simp), if_pos rfl, zero_add, zero_add]
    exact e ya _ (by funext a; match a with | ⟨0, _⟩ => rfl | ⟨1, _⟩ => rfl)
  | ⟨1, _⟩ =>
    rw [if_neg (by simp), if_pos rfl, if_neg (by simp), zero_add, add_zero]
    exact e yb _ (by funext a; match a with | ⟨0, _⟩ => rfl | ⟨1, _⟩ => rfl)
  | ⟨2, _⟩ =>
    rw [if_pos rfl, if_neg (by simp), if_neg (by simp), add_zero, add_zero]
    exact e yc _ (by funext a; match a with | ⟨0, _⟩ => rfl | ⟨1, _⟩ => rfl)

theorem ref_dgl (d : S8192x1024.Idx → EReal) (p : S8192x7168.Idx → EReal) (ya yb yc : S8192x1024.Idx → EReal) (b : S1x3072.Idx → EReal) (i : S8192x3072.Idx) :
    val_main_v44 (F := Ideal) d p ya yb yc b i = dgl' d p ![ya, yb, yc] b (i 0) (i 1) := by
  have h1 : (i 1 : Nat) < 3072 := (i 1).isLt
  show val_main_v43 (F := Ideal) d ya yb yc i * (val_main_v12 (F := Ideal) p b i * (one - val_main_v12 (F := Ideal) p b i)) = _
  rw [val_main_v43_apply, at3 p b i (i 0) (kOf (i 1)) (cOf (i 1)) rfl (by show (i 1).val = (i 1).val / 1024 * 1024 + (i 1).val % 1024; omega)]
  have e : idx_main_v43 i = ix3 (i 0) (kOf (i 1)) (cOf (i 1)) := by
    funext a; apply Fin.ext
    match a with
    | ⟨0, _⟩ => show ((i 0).val * 3072 + (i 1).val) / 3072 = (i 0).val; omega
    | ⟨1, _⟩ => show ((i 0).val * 3072 + (i 1).val) / 1024 % 3 = (i 1).val / 1024; omega
    | ⟨2, _⟩ => show ((i 0).val * 3072 + (i 1).val) % 1024 = (i 1).val % 1024; omega
  rw [e]
  exact congrArg (· * _) (ref_sum3 d ya yb yc (i 0) (kOf (i 1)) (cOf (i 1)))

theorem ref_db (d : S8192x1024.Idx → EReal) (p : S8192x7168.Idx → EReal) (ya yb yc : S8192x1024.Idx → EReal) (b : S1x3072.Idx → EReal) (i : S1x3072.Idx) :
    val_main_v46 (F := Ideal) d p ya yb yc b i = ∑ r : Fin 8192, dgl' d p ![ya, yb, yc] b r (i 1) := by
  rw [val_main_v46_apply, val_main_v45_apply]
  show Ideal.ofBits .f32 0x00000000#32 + _ = _
  rw [Ideal.ofBits_zero_f32, zero_add]
  refine Finset.sum_congr rfl fun r _ => ?_
  rw [ref_dgl]
  have h0 : (i 0 : Nat) < 1 := (i 0).isLt
  exact congrArg (dgl' d p ![ya, yb, yc] b r) (Fin.ext (by show (i 0).val * 3072 + (i 1).val = (i 1).val; omega))

theorem algebraic [Cert.Kernel2Ideal.Facts] [Cert.Reference2Ideal.Facts] : Cert.algebraic_Kernel2Ideal_Reference2Ideal := by
  pair_intro
  · run_from Cert.Kernel2Ideal.Value.run_blocks m g
  · run_from Cert.Reference2Ideal.Value.run m' g'
    · exact (val_main_v47_eq (F := Ideal) (D m c) (P m c) (Bg m c)).trans ((show _ = res8 m c from funext fun i => ref_dy0 _ _ _ i).trans (final8 m c).symm)
    · exact (val_main_v48_eq (F := Ideal) (D m c) (P m c) (Bg m c)).trans ((show _ = res9 m c from funext fun i => ref_dy1 _ _ _ i).trans (final9 m c).symm)
    · exact (val_main_v49_eq (F := Ideal) (D m c) (P m c) (Bg m c)).trans ((show _ = res10 m c from funext fun i => ref_dy2 _ _ _ i).trans (final10 m c).symm)
    · exact (val_main_v50_eq (F := Ideal) (D m c) (P m c) (Ya m c) (Yb m c) (Yc m c) (Bg m c)).trans ((show _ = res11 m c from funext fun i => ref_dgl _ _ _ _ _ _ i).trans (final11 m c).symm)
    · exact (val_main_v46_eq (F := Ideal) (D m c) (P m c) (Ya m c) (Yb m c) (Yc m c) (Bg m c)).trans ((show _ = res12 m c from funext fun i => ref_db _ _ _ _ _ _ i).trans (final12 m c).symm)

end Cert.Proof.Merge

end
-- ==== Proof.Swiglu.lean ====
module

public import proofs.«01_k».proof.Defs
public import proofs.«01_k».proof.Proof.Gen.Kernel4Ideal.Value
public import proofs.«01_k».proof.Proof.Gen.Reference4Ideal.Read
public import proofs.«01_k».proof.Proof.Common
public import Idealize.ShloMosaic.Lib.Tactic
public import Idealize.ShloMosaic.Lib.Claim

@[expose] public section

set_option maxRecDepth 16384

noncomputable section

open Idealize.ShloMosaic hiding ix2
open Idealize.ShloMosaic.TcCoe Idealize.ShloMosaic.ValueIdx Idealize.SL.Sem
open Idealize.ShloMosaic.Pipeline (Dat)
open scoped BigOperators

namespace Cert.Proof.Swiglu

open Cert.Kernel4Ideal Cert.Kernel4Ideal.Gen

variable (m : (ℓ : Loc nD τ sig) → Buf (Elt Ideal) ℓ)

theorem hz : (![0, 0] : Fin 2 → Nat) = fun _ => 0 := funext fun a => by fin_cases a <;> rfl

theorem idx_facts : ∀ t : Fin cfg0.N,
    win0_0.index t 0 = win0_4.index t 0 ∧ win0_0.index t 1 = 0 ∧ win0_1.index t 0 = win0_4.index t 1 ∧ win0_1.index t 1 = 0
      ∧ win0_2.index t = win0_4.index t ∧ win0_3.index t = win0_4.index t ∧ win0_5.index t = win0_4.index t :=
  (by decide +kernel : ∀ t : Fin grid0.N, _)

/-- The gradient of the activation at row `r`, column `f`: half the inner product of row `r` of the cotangent and row `f` of the weight. -/
def dact (dy : S8192x1024.Idx → EReal) (w : S2816x1024.Idx → EReal) (r : Fin 8192) (f : Fin 2816) : EReal :=
  Ideal.ofBits .f32 0x3F000000#32 * ∑ k : Fin 1024, dy (ix2 r k) * w (ix2 f k)

/-- The logistic function as the kernel writes it. -/
def sg (a : EReal) : EReal :=
  Ideal.div (Ideal.ofBits .f32 0x3F800000#32) (Ideal.ofBits .f32 0x3F800000#32 + Ideal.exp (0 - a))

def da (x a b : EReal) : EReal :=
  x * b * (sg a * (Ideal.ofBits .f32 0x3F800000#32 + a * (Ideal.ofBits .f32 0x3F800000#32 - sg a)))

def db (x a : EReal) : EReal := x * (a * sg a)

theorem pay1_apply (x0 : Vec Ideal S1024x1024 .f32) (x1 : Vec Ideal S1408x1024 .bf16) (r : Fin 1024) (f : Fin 1408) :
    k0_pay1 (F := Ideal) x0 x1 (ix2 r f) = Ideal.ofBits .f32 0x3F000000#32 * ∑ k : Fin 1024, x0 (ix2 r k) * x1 (ix2 f k) := by
  show Ideal.ofBits .f32 0x3F000000#32 * FloatOps.matmul (DotDims.transposedRhs 1024 1024 1408) none
    (truncf .bf16 x0 bitsLt_bf16_f32) x1 (constant S1024x1408 .f32 0x00000000#32) (ix2 r f) = _
  rw [Ideal.matmul_transposedRhs_apply]
  show _ * (Ideal.ofBits .f32 0x00000000#32 + _) = _
  rw [Ideal.ofBits_zero_f32, zero_add]
  rfl

theorem pay4_apply (x0 : Vec Ideal S1024x1024 .f32) (x1 : Vec Ideal S1408x1024 .bf16) (x2 x3 : Vec Ideal S1024x1408 .bf16)
    (r : Fin 1024) (f : Fin 1408) :
    k0_pay4 (F := Ideal) x0 x1 x2 x3 (ix2 r f)
      = da (Ideal.ofBits .f32 0x3F000000#32 * ∑ k : Fin 1024, x0 (ix2 r k) * x1 (ix2 f k)) (x2 (ix2 r f)) (x3 (ix2 r f)) := by
  show k0_pay1 (F := Ideal) x0 x1 (ix2 r f) * _ * _ = _
  rw [pay1_apply]
  show _ * _ * (Ideal.div _ (_ + Ideal.exp (Ideal.ofBits .f32 0x00000000#32 - _)) * (_ + _ * (_ - Ideal.div _ (_ + Ideal.exp (Ideal.ofBits .f32 0x00000000#32 - _))))) = _
  rw [Ideal.ofBits_zero_f32]
  rfl

theorem pay5_apply (x0 : Vec Ideal S1024x1024 .f32) (x1 : Vec Ideal S1408x1024 .bf16) (x2 : Vec Ideal S1024x1408 .bf16)
    (r : Fin 1024) (f : Fin 1408) :
    k0_pay5 (F := Ideal) x0 x1 x2 (ix2 r f)
      = db (Ideal.ofBits .f32 0x3F000000#32 * ∑ k : Fin 1024, x0 (ix2 r k) * x1 (ix2 f k)) (x2 (ix2 r f)) := by
  show k0_pay1 (F := Ideal) x0 x1 (ix2 r f) * _ = _
  rw [pay1_apply]
  show _ * (_ * Ideal.div _ (_ + Ideal.exp (Ideal.ofBits .f32 0x00000000#32 - _))) = _
  rw [Ideal.ofBits_zero_f32]
  rfl

/-! ## From blocks to arrays -/

abbrev DY (c : Dev nD) : S8192x1024.Idx → EReal := m ((c : Thread nD τ).loc main_arg0)
abbrev W (c : Dev nD) : S2816x1024.Idx → EReal := m ((c : Thread nD τ).loc main_arg1)
abbrev A (c : Dev nD) : S8192x2816.Idx → EReal := m ((c : Thread nD τ).loc main_arg2)
abbrev B (c : Dev nD) : S8192x2816.Idx → EReal := m ((c : Thread nD τ).loc main_arg3)

abbrev resA (c : Dev nD) : Buf (Elt Ideal) ((c : Thread nD τ).loc main_v0_0) := fun i : S8192x2816.Idx =>
  da (dact (DY m c) (W m c) (i 0) (i 1)) (A m c i) (B m c i)
abbrev resB (c : Dev nD) : Buf (Elt Ideal) ((c : Thread nD τ).loc main_v0_1) := fun i : S8192x2816.Idx =>
  db (dact (DY m c) (W m c) (i 0) (i 1)) (A m c i)

abbrev blk0 (c : Dev nD) (t : Fin cfg0.N) : Vec Ideal S1024x1024 .f32 := iblk m c 0 t
abbrev blk1 (c : Dev nD) (t : Fin cfg0.N) : Vec Ideal S1408x1024 .bf16 := iblk m c 1 t

theorem dact_blk (c : Dev nD) (t : Fin cfg0.N) (i : S8192x2816.Idx) (r : Fin 1024) (f : Fin 1408)
    (h0 : (i 0).val = win0_4.index t 0 * 1024 + r.val) (h1 : (i 1).val = win0_4.index t 1 * 1408 + f.val) :
    Ideal.ofBits .f32 0x3F000000#32 * ∑ k : Fin 1024, blk0 m c t (ix2 r k) * blk1 m c t (ix2 f k)
      = dact (DY m c) (W m c) (i 0) (i 1) := by
  obtain ⟨e0, e1, e2, e3, -⟩ := idx_facts t
  unfold dact
  refine congrArg _ (Finset.sum_congr rfl fun k _ => ?_)
  congr 1
  · show m ((c : Thread nD τ).loc main_arg0) _ = m ((c : Thread nD τ).loc main_arg0) _
    congr 1
    funext a; apply Fin.ext
    match a with
    | ⟨0, _⟩ => show win0_0.index t 0 * 1024 + 1 * r.val = (i 0).val; rw [e0, h0]; omega
    | ⟨1, _⟩ => show win0_0.index t 1 * 1024 + 1 * k.val = k.val; rw [e1]; omega
  · show m ((c : Thread nD τ).loc main_arg1) _ = m ((c : Thread nD τ).loc main_arg1) _
    congr 1
    funext a; apply Fin.ext
    match a with
    | ⟨0, _⟩ => show win0_1.index t 0 * 1408 + 1 * f.val = (i 1).val; rw [e2, h1]; omega
    | ⟨1, _⟩ => show win0_1.index t 1 * 1024 + 1 * k.val = k.val; rw [e3]; omega

theorem flushed4_eq (c : Dev nD) (t : Fin cfg0.N) :
    (dats m 0 c).flushed 4 t = ((cfg0.win 4).blk t).view.read (Elt Ideal) (resA m c) := by
  rw [Value.flushed4]
  unfold out0_4
  rw [View.canon_unit_zero hz]
  rw [View.ld_unit_zero (S := S1024x1024) hz, View.ld_unit_zero (S := S1408x1024) hz, View.ld_unit_zero (S := S1024x1408) hz, View.ld_unit_zero (S := S1024x1408) hz]
  funext j
  obtain ⟨r, f, rfl⟩ : ∃ (r : Fin 1024) (f : Fin 1408), j = ix2 r f := ⟨j 0, j 1, by funext a; match a with | ⟨0, _⟩ => rfl | ⟨1, _⟩ => rfl⟩
  refine (pay4_apply _ _ _ _ r f).trans ?_
  rw [dact_blk m c t (((cfg0.win 4).blk t).view.emb (ix2 r f)) r f (by show win0_4.index t 0 * 1024 + 1 * r.val = _; omega) (by show win0_4.index t 1 * 1408 + 1 * f.val = _; omega)]
  rfl

theorem flushed5_eq (c : Dev nD) (t : Fin cfg0.N) :
    (dats m 0 c).flushed 5 t = ((cfg0.win 5).blk t).view.read (Elt Ideal) (resB m c) := by
  rw [Value.flushed5]
  unfold out0_5
  rw [View.canon_unit_zero hz]
  rw [View.ld_unit_zero (S := S1024x1024) hz, View.ld_unit_zero (S := S1408x1024) hz, View.ld_unit_zero (S := S1024x1408) hz]
  obtain ⟨-, -, -, -, -, -, e5⟩ := idx_facts t
  funext j
  obtain ⟨r, f, rfl⟩ : ∃ (r : Fin 1024) (f : Fin 1408), j = ix2 r f := ⟨j 0, j 1, by funext a; match a with | ⟨0, _⟩ => rfl | ⟨1, _⟩ => rfl⟩
  refine (pay5_apply _ _ _ r f).trans ?_
  rw [dact_blk m c t (((cfg0.win 5).blk t).view.emb (ix2 r f)) r f (by show win0_5.index t 0 * 1024 + 1 * r.val = _; rw [e5]; omega) (by show win0_5.index t 1 * 1408 + 1 * f.val = _; rw [e5]; omega)]
  rfl

theorem idx_onto : ∀ p : Fin 8 × Fin 2, ∃ t : Fin cfg0.N, win0_4.index t 0 = p.1.val ∧ win0_4.index t 1 = p.2.val :=
  (by decide +kernel : ∀ p : Fin 8 × Fin 2, ∃ t : Fin grid0.N, win0_4.index t 0 = p.1.val ∧ win0_4.index t 1 = p.2.val)

theorem cover4 (i : S8192x2816.Idx) : ∃ t : Fin cfg0.N, (cfg0.win 4).flush t = true ∧ i ∈ ((cfg0.win 4).blk t).view.set := by
  have h0 : (i 0 : Nat) < 8192 := (i 0).isLt
  have h1 : (i 1 : Nat) < 2816 := (i 1).isLt
  obtain ⟨t, e0, e1⟩ := idx_onto (⟨(i 0).val / 1024, by omega⟩, ⟨(i 1).val / 1408, by omega⟩)
  refine ⟨t, flush0_4 t, ?_⟩
  show i ∈ ((View.whole main_v0_0).slice (win0_4.rect t)).set
  rw [View.set_slice_whole, Rect.mem_set_unit]
  intro a
  match a with
  | ⟨0, _⟩ => show win0_4.index t 0 * 1024 ≤ (i 0).val ∧ (i 0).val < win0_4.index t 0 * 1024 + 1024; rw [e0]; dsimp only; omega
  | ⟨1, _⟩ => show win0_4.index t 1 * 1408 ≤ (i 1).val ∧ (i 1).val < win0_4.index t 1 * 1408 + 1408; rw [e1]; dsimp only; omega

theorem cover5 (i : S8192x2816.Idx) : ∃ t : Fin cfg0.N, (cfg0.win 5).flush t = true ∧ i ∈ ((cfg0.win 5).blk t).view.set := by
  obtain ⟨t, -, h⟩ := cover4 i
  refine ⟨t, flush0_5 t, ?_⟩
  have e : win0_5.index t = win0_4.index t := (idx_facts t).2.2.2.2.2.2
  change i ∈ ((View.whole main_v0_0).slice (win0_4.rect t)).set at h
  show i ∈ ((View.whole main_v0_1).slice (win0_5.rect t)).set
  rw [View.set_slice_whole, Rect.mem_set_unit] at h ⊢
  intro a
  have := h a
  match a with
  | ⟨0, _⟩ => show win0_5.index t 0 * 1024 ≤ (i 0).val ∧ (i 0).val < win0_5.index t 0 * 1024 + 1024; rw [e]; exact this
  | ⟨1, _⟩ => show win0_5.index t 1 * 1408 ≤ (i 1).val ∧ (i 1).val < win0_5.index t 1 * 1408 + 1408; rw [e]; exact this

theorem final4 (c : Dev nD) : (dats m 0 c).arrAt 4 cfg0.N = resA m c :=
  (dats m 0 c).arrAt_eq_of_cover 4 (resA m c) (fun t _ => flushed4_eq m c t) cover4
theorem final5 (c : Dev nD) : (dats m 0 c).arrAt 5 cfg0.N = resB m c :=
  (dats m 0 c).arrAt_eq_of_cover 5 (resB m c) (fun t _ => flushed5_eq m c t) cover5

/-! ## The reference's formula, and the two compared -/

open Cert.Reference4Ideal.Read in
theorem ref_dact (dy : S8192x1024.Idx → EReal) (w : S2816x1024.Idx → EReal) (hdy : ∀ i, Fin' (dy i)) (hw : ∀ i, Fin' (w i))
    (i : S8192x2816.Idx) : val_main_v12 (F := Ideal) dy w i = dact dy w (i 0) (i 1) := by
  rw [val_main_v12_apply]
  unfold dact
  rw [ofBits_half, mul_sum_fin _ (Fin'.coe _) fun k => (hdy _).mul (hw _)]
  refine Finset.sum_congr rfl fun k _ => ?_
  rw [← mul_assoc, ← ofBits_half]
  congr 2
  · funext a; apply Fin.ext
    match a with | ⟨0, _⟩ => rfl | ⟨1, _⟩ => rfl
  · funext a; apply Fin.ext
    match a with | ⟨0, _⟩ => rfl | ⟨1, _⟩ => rfl

theorem sg_real (r : ℝ) : sg (r : EReal) = ((1 / (1 + Real.exp (-r)) : ℝ) : EReal) := by
  unfold sg
  have h : (0 : ℝ) < 1 + Real.exp (-r) := by positivity
  rw [ofBits_one, zero_sub, ← EReal.coe_neg, Ideal.exp_coe, ← EReal.coe_add, Ideal.div_coe h.ne', EReal.coe_one, one_mul]

theorem sg_top : sg ⊤ = 1 := by
  unfold sg
  rw [ofBits_one, zero_sub, EReal.neg_top]
  show Ideal.div _ (_ + 0) = _
  rw [add_zero, Ideal.div_coe one_ne_zero]; simp

theorem sg_bot : sg ⊥ = 0 := by
  unfold sg
  rw [ofBits_one, zero_sub, EReal.neg_bot]
  show Ideal.div _ (_ + ⊤) = _
  rw [EReal.coe_add_top]
  simp [Ideal.div]

/-- The kernel's factored derivative of the gate is the reference's sum of two products. -/
theorem da_eq {x b : EReal} (hx : Fin' x) (hb : Fin' b) (a : EReal) :
    da x a b = x * b * sg a + a * (x * b) * (sg a * (1 - sg a)) := by
  obtain ⟨x, rfl⟩ := hx
  obtain ⟨b, rfl⟩ := hb
  unfold da
  rw [ofBits_one]
  induction a with
  | bot => rw [sg_bot]; simp
  | top =>
    rw [sg_top, EReal.coe_one, one_sub_one]
    simp
  | coe a =>
    rw [sg_real]
    norm_cast
    ring

/-- What the precondition says: the cotangent, the weight and the second half of the gate's input are real numbers throughout. -/
theorem fin_of_pre [Cert.Pre_finite4.Facts] (x0 : S8192x1024.Idx → EReal) (x1 : S2816x1024.Idx → EReal) (x2 x3 : S8192x2816.Idx → EReal)
    (h : Cert.Pre_finite4.fn (F := Ideal) x0 x1 x2 x3 = fun _ => 1#1) :
    (∀ i, Fin' (x0 i)) ∧ (∀ i, Fin' (x1 i)) ∧ ∀ i, Fin' (x3 i) := by
  have h := congrFun h (fun a => a.elim0)
  dsimp only [Cert.Pre_finite4.fn] at h
  obtain ⟨h, h3⟩ := IntOp.andi_eq_one.1 h
  obtain ⟨h0, h1⟩ := IntOp.andi_eq_one.1 h
  exact ⟨fin_of_all x0 _ (fun _ => rfl) _ _ _ _ h0, fin_of_all x1 _ (fun _ => rfl) _ _ _ _ h1, fin_of_all x3 _ (fun _ => rfl) _ _ _ _ h3⟩

open Cert.Reference4Ideal.Read in
theorem ref_a [Cert.Pre_finite4.Facts] (hpre : Cert.Pre_Kernel4Ideal_finite4 m) (c : Dev nD) :
    val_main_v16 (F := Ideal) (DY m c) (W m c) (A m c) (B m c) = resA m c := by
  obtain ⟨h0, h1, h3⟩ := fin_of_pre _ _ _ _ (hpre c)
  funext i
  show val_main_v12 (F := Ideal) (DY m c) (W m c) i * B m c i * Ideal.div _ (_ + Ideal.exp (-A m c i))
    + A m c i * (val_main_v12 (F := Ideal) (DY m c) (W m c) i * B m c i)
      * (Ideal.div _ (_ + Ideal.exp (-A m c i)) * (_ - Ideal.div _ (_ + Ideal.exp (-A m c i)))) = da _ _ _
  rw [ref_dact _ _ h0 h1, da_eq ((Fin'.coe _).mul (Fin'.sum _ fun k => (h0 _).mul (h1 _)) |> fun h => by unfold dact; rw [ofBits_half]; exact h) (h3 i)]
  unfold sg
  rw [zero_sub, ← EReal.coe_one, ← ofBits_one]
  rfl

open Cert.Reference4Ideal.Read in
theorem ref_b [Cert.Pre_finite4.Facts] (hpre : Cert.Pre_Kernel4Ideal_finite4 m) (c : Dev nD) :
    val_main_v17 (F := Ideal) (DY m c) (W m c) (A m c) = resB m c := by
  obtain ⟨h0, h1, h3⟩ := fin_of_pre _ _ _ _ (hpre c)
  funext i
  show A m c i * Ideal.div _ (_ + Ideal.exp (-A m c i)) * val_main_v12 (F := Ideal) (DY m c) (W m c) i = db _ _
  rw [ref_dact _ _ h0 h1, mul_comm]
  unfold db sg
  rw [zero_sub]
  rfl

theorem algebraic [Cert.Pre_finite4.Facts] [Cert.Kernel4Ideal.Facts] [Cert.Reference4Ideal.Facts] :
    Cert.algebraic_Kernel4Ideal_Reference4Ideal_pre_finite4 := by
  pair_intro
  · run_from Cert.Kernel4Ideal.Value.run_blocks m g
  · run_from Cert.Reference4Ideal.Value.run m' g'
    · exact (ref_a m hpre c).trans (final4 m c).symm
    · exact (ref_b m hpre c).trans (final5 m c).symm

end Cert.Proof.Swiglu

end
-- ==== Proof.Rms.lean ====
/-
  The derivative of one row of the normalisation `x · rsqrt(mean(x²) + ε) · g`, with 1024 entries to a row: the kernel's
  form of it and the reference's form of it, and that they agree on real numbers.
-/
module

public import proofs.«01_k».proof.Proof.Common

@[expose] public section

noncomputable section

namespace Cert.Proof.Rms

open Idealize.ShloMosaic hiding ix2
open Idealize.ShloMosaic.ValueIdx

/-- The number of entries of a row. -/
abbrev cN : EReal := Ideal.ofBits .f32 0x44800000#32
/-- The small number under the root. -/
abbrev cE : EReal := Ideal.ofBits .f32 0x358637BD#32
/-- Minus one half. -/
abbrev cH : EReal := Ideal.ofBits .f32 0xBF000000#32

/-- The sum of a row. -/
def rsum (f : Fin 1024 → EReal) : EReal := ∑ k, f k

def ms (x : Fin 1024 → EReal) : EReal := Ideal.div (rsum fun k => x k * x k) cN + cE
def rs (x : Fin 1024 → EReal) : EReal := Ideal.rsqrt (ms x)
def xh (x : Fin 1024 → EReal) (k : Fin 1024) : EReal := x k * rs x

/-- The normalised row itself. -/
def nrm (x g : Fin 1024 → EReal) (k : Fin 1024) : EReal := xh x k * g k

/-- One row of an array. -/
abbrev rowOf {n N : ℕ} (x : (⟨2, ![n, N]⟩ : Shape).Idx → EReal) (r : Fin n) : Fin N → EReal := fun c => x (ix2 r c)

/-- The kernel's derivative with respect to the row. -/
def dk (d x g : Fin 1024 → EReal) (k : Fin 1024) : EReal :=
  rs x * (d k * g k - xh x k * Ideal.div (rsum fun j => xh x j * (d j * g j)) cN)

/-- The weight with which the reference's derivative of the root multiplies the row. -/
def wr (d x g : Fin 1024 → EReal) : EReal :=
  Ideal.div (rsum (fun j => x j * (d j * g j)) * (cH * Ideal.div (rs x) (ms x))) cN

theorem cN_eq : cN = ((1024 : ℝ) : EReal) := by simp [Ideal.ofBits, Ideal.ieee, -EReal.coe_mul]; norm_num
theorem cH_eq : cH = ((-(1 / 2) : ℝ) : EReal) := by simp [Ideal.ofBits, Ideal.ieee, -EReal.coe_mul]; norm_num
theorem cE_eq : ∃ e : ℝ, 0 < e ∧ cE = (e : EReal) := by
  refine ⟨_, ?_, by simp [Ideal.ofBits, Ideal.ieee, -EReal.coe_mul]; rfl⟩
  positivity

/-- On a row of real numbers the mean square is a positive real number. -/
theorem ms_pos (x : Fin 1024 → ℝ) : ∃ u : ℝ, 0 < u ∧ ms (fun k => (x k : EReal)) = (u : EReal) := by
  obtain ⟨e, he, hE⟩ := cE_eq
  have h0 : (0 : ℝ) ≤ ∑ k, x k * x k := Finset.sum_nonneg fun k _ => mul_self_nonneg _
  refine ⟨(∑ k, x k * x k) * (1 / 1024) + e, by positivity, ?_⟩
  unfold ms rsum
  rw [cN_eq, hE, Ideal.div_coe (by norm_num)]
  simp only [← EReal.coe_mul, ← coe_sum, ← EReal.coe_add]

theorem rs_pos {x : Fin 1024 → EReal} (hx : ∀ k, Fin' (x k)) :
    ∃ u r : ℝ, 0 < u ∧ r * r * u = 1 ∧ ms x = (u : EReal) ∧ rs x = (r : EReal) := by
  choose y hy using hx
  obtain rfl : x = fun k => (y k : EReal) := funext hy
  obtain ⟨u, hu, e⟩ := ms_pos y
  refine ⟨u, (Real.sqrt u)⁻¹, hu, ?_, e, ?_⟩
  · have := Real.sqrt_pos.2 hu
    rw [← mul_inv, Real.mul_self_sqrt hu.le, inv_mul_cancel₀ hu.ne']
  · unfold rs
    rw [e, Ideal.rsqrt_coe, if_neg hu.le.not_gt, if_neg hu.ne']

theorem Fin'.rs {x : Fin 1024 → EReal} (hx : ∀ k, Fin' (x k)) : Fin' (rs x) := by
  obtain ⟨_, r, _, _, _, h⟩ := rs_pos hx
  exact ⟨r, h⟩

theorem Fin'.xh {x : Fin 1024 → EReal} (hx : ∀ k, Fin' (x k)) (k : Fin 1024) : Fin' (xh x k) := (hx k).mul (Fin'.rs hx)

/-- The two forms of the derivative, each added to the row's other derivative. -/
theorem dk_eq {d x g : Fin 1024 → EReal} (hd : ∀ k, Fin' (d k)) (hx : ∀ k, Fin' (x k)) (hg : ∀ k, Fin' (g k)) (y : EReal) (k : Fin 1024) :
    y + d k * g k * rs x + x k * wr d x g + wr d x g * x k = dk d x g k + y := by
  obtain ⟨u, r, hu, hru, hU, hR⟩ := rs_pos hx
  choose d hd using hd
  choose x hx using hx
  choose g hg using hg
  rw [add_assoc, add_assoc, add_comm]
  congr 1
  unfold dk wr xh rsum
  simp only [hU, hR, hd, hx, hg, cN_eq, cH_eq, Ideal.div_coe hu.ne', Ideal.div_coe (show (1024 : ℝ) ≠ 0 by norm_num),
    ← EReal.coe_mul, ← coe_sum, ← EReal.coe_add, ← EReal.coe_sub]
  congr 1
  have e1 : ∑ j, x j * r * (d j * g j) = r * ∑ j, x j * (d j * g j) := by
    rw [Finset.mul_sum]; exact Finset.sum_congr rfl fun j _ => by ring
  have e2 : r * (1 / u) = r * r * r := by
    have : 1 / u = r * r := by field_simp; linarith
    rw [this]; ring
  rw [e1, e2]
  ring

end Cert.Proof.Rms

end
-- ==== Proof.Dh.lean ====
/-
  The backward pass of a feed-forward block's first product and of the normalisation before it: the kernel takes the two
  halves' cotangents through the weight, accumulating over runs of 1408 columns, then the normalisation's derivative of
  each row, and sums the weight of the normalisation's derivative over all rows.
-/
module

public import proofs.«01_k».proof.Defs
public import proofs.«01_k».proof.Proof.Gen.Kernel5Ideal.Value
public import proofs.«01_k».proof.Proof.Gen.Reference5Ideal.Read
public import proofs.«01_k».proof.Proof.Rms
public import Idealize.ShloMosaic.Lib.Tactic
public import Idealize.ShloMosaic.Lib.Claim

@[expose] public section

set_option maxRecDepth 16384

noncomputable section

open Idealize.ShloMosaic hiding ix1 ix2 ix3
open Idealize.ShloMosaic.TcCoe Idealize.ShloMosaic.ValueIdx Idealize.SL.Sem
open Idealize.ShloMosaic.Pipeline (Dat)
open scoped BigOperators

namespace Cert.Proof.Dh

open Cert.Kernel5Ideal Cert.Kernel5Ideal.Gen Cert.Proof.Rms

theorem hz : (![0, 0] : Fin 2 → Nat) = fun _ => 0 := funext fun a => by fin_cases a <;> rfl

/-! ## What a point of the grid leaves -/

section Outs
variable {F : FTy → Type} [FloatOps F]
variable (c : Dev nD) (i : grid0.Coords) (arg2 : Memref sig .tc .vmem S1024x1408 .bf16) (harg2 : arg2.IsWhole) (arg3 : Memref sig .tc .vmem S1024x1408 .bf16) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S1024x1408 .bf16) (harg6 : arg6.IsWhole) (arg7 : Memref sig .tc .vmem S1024x1024 .f32) (harg7 : arg7.IsWhole) (arg8 : Memref sig .tc .vmem S1024x1024 .f32) (harg8 : arg8.IsWhole) (arg9 : Memref sig .tc .vmem S1x1024 .f32) (harg9 : arg9.IsWhole) (arg10 : Memref sig .tc .vmem S1024x1024 .f32) (harg10 : arg10.IsWhole)
  (x0 x1 : Vec F S1024x1408 .bf16) (x2 : Vec F S1024x1024 .f32) (x3 : Vec F S1x1024 .f32) (x4 : Vec F S1024x1408 .bf16) (x5 : Vec F S1024x1024 .f32)
  (xo7 : Vec F S1x1024 .f32) (xs0 : Vec F S1024x1024 .f32)

theorem out_A_7 (hc0 : cond0_0 i) (hc1 : cond0_1 i) (hc2 : cond0_2 i) (hc3 : ¬cond0_3 i) (hc4 : ¬cond0_4 i) :
    out0_A_7 c i arg2 harg2 arg3 harg3 arg4 harg4 arg5 harg5 arg6 harg6 arg7 harg7 arg8 harg8 arg9 harg9 arg10 harg10 hc0 hc1 hc2 hc3 hc4 x0 x1 x2 x3 x4 x5 = k0_pay2 := by
  unfold out0_A_7
  rw [View.read_writes_eq_canon _ _ _ (cover0_A_7 c i arg2 harg2 arg3 harg3 arg4 harg4 arg5 harg5 arg6 harg6 arg7 harg7 arg8 harg8 arg9 harg9 arg10 harg10 hc0 hc1 hc2 hc3 hc4 x0 x1 x2 x3 x4 x5)]
  unfold kernelRun0_A
  dsimp only
  sl_unfold_words
  rw [View.canon_unit_zero hz]

theorem sout_A_0 (hc0 : cond0_0 i) (hc1 : cond0_1 i) (hc2 : cond0_2 i) (hc3 : ¬cond0_3 i) (hc4 : ¬cond0_4 i) :
    sout0_A_0 c i arg2 harg2 arg3 harg3 arg4 harg4 arg5 harg5 arg6 harg6 arg7 harg7 arg8 harg8 arg9 harg9 arg10 harg10 hc0 hc1 hc2 hc3 hc4 x0 x1 x2 x3 x4 x5 = k0_pay3 k0_pay1 x0 x1 := by
  unfold sout0_A_0
  rw [View.read_writes_eq_canon _ _ _ (scover0_A_0 c i arg2 harg2 arg3 harg3 arg4 harg4 arg5 harg5 arg6 harg6 arg7 harg7 arg8 harg8 arg9 harg9 arg10 harg10 hc0 hc1 hc2 hc3 hc4 x0 x1 x2 x3 x4 x5)]
  unfold kernelRun0_A
  dsimp only
  sl_unfold_words
  rw [View.canon_cons_unit_zero hz]
  try rw [View.readCov_unit_zero (S := S1024x1024) _ hz]
  simp only [View.readAt_eq_ld, harg2.read_unread, harg3.read_unread, harg4.read_unread, harg5.read_unread, harg6.read_unread, harg7.read_unread, harg9.read_unread, harg10.read_unread, View.ld_unit_zero (S := S1024x1024) hz, View.ld_unit_zero (S := S1024x1408) hz, View.ld_unit_zero (S := S1x1024) hz]

theorem sout_E_0 (hc0 : cond0_0 i) (hc1 : ¬cond0_1 i) (hc2 : cond0_2 i) (hc3 : ¬cond0_3 i) (hc4 : ¬cond0_4 i) :
    sout0_E_0 c i arg2 harg2 arg3 harg3 arg4 harg4 arg5 harg5 arg6 harg6 arg7 harg7 arg8 harg8 arg9 harg9 arg10 harg10 hc0 hc1 hc2 hc3 hc4 x0 x1 x2 x3 x4 x5 = k0_pay3 k0_pay1 x0 x1 := by
  unfold sout0_E_0
  rw [View.read_writes_eq_canon _ _ _ (scover0_E_0 c i arg2 harg2 arg3 harg3 arg4 harg4 arg5 harg5 arg6 harg6 arg7 harg7 arg8 harg8 arg9 harg9 arg10 harg10 hc0 hc1 hc2 hc3 hc4 x0 x1 x2 x3 x4 x5)]
  unfold kernelRun0_E
  dsimp only
  sl_unfold_words
  rw [View.canon_cons_unit_zero hz]
  try rw [View.readCov_unit_zero (S := S1024x1024) _ hz]
  simp only [View.readAt_eq_ld, harg2.read_unread, harg3.read_unread, harg4.read_unread, harg5.read_unread, harg6.read_unread, harg7.read_unread, harg9.read_unread, harg10.read_unread, View.ld_unit_zero (S := S1024x1024) hz, View.ld_unit_zero (S := S1024x1408) hz, View.ld_unit_zero (S := S1x1024) hz]

theorem sout_B_0 (hc0 : ¬cond0_0 i) (hc1 : ¬cond0_1 i) (hc2 : cond0_2 i) (hc3 : ¬cond0_3 i) (hc4 : ¬cond0_4 i) :
    sout0_B_0 c i arg2 harg2 arg3 harg3 arg4 harg4 arg5 harg5 arg6 harg6 arg7 harg7 arg8 harg8 arg9 harg9 arg10 harg10 hc0 hc1 hc2 hc3 hc4 x0 x1 x2 x3 x4 x5 xs0 = k0_pay3 xs0 x0 x1 := by
  unfold sout0_B_0
  rw [View.read_writes_eq_canon _ _ _ (scover0_B_0 c i arg2 harg2 arg3 harg3 arg4 harg4 arg5 harg5 arg6 harg6 arg7 harg7 arg8 harg8 arg9 harg9 arg10 harg10 hc0 hc1 hc2 hc3 hc4 x0 x1 x2 x3 x4 x5 xs0)]
  unfold kernelRun0_B
  dsimp only
  sl_unfold_words
  rw [View.canon_unit_zero hz]
  simp only [View.readAt_eq_ld, harg2.read_unread, harg3.read_unread, harg4.read_unread, harg5.read_unread, harg6.read_unread, harg7.read_unread, harg9.read_unread, harg10.read_unread, View.ld_unit_zero (S := S1024x1024) hz, View.ld_unit_zero (S := S1024x1408) hz, View.ld_unit_zero (S := S1x1024) hz]

theorem sout_C_0 (hc0 : ¬cond0_0 i) (hc1 : ¬cond0_1 i) (hc2 : ¬cond0_2 i) (hc3 : cond0_3 i) (hc4 : ¬cond0_4 i) :
    sout0_C_0 c i arg2 harg2 arg3 harg3 arg4 harg4 arg5 harg5 arg6 harg6 arg7 harg7 arg8 harg8 arg9 harg9 arg10 harg10 hc0 hc1 hc2 hc3 hc4 x0 x1 x2 x3 x4 x5 xs0 = k0_pay4 xs0 x4 x1 := by
  unfold sout0_C_0
  rw [View.read_writes_eq_canon _ _ _ (scover0_C_0 c i arg2 harg2 arg3 harg3 arg4 harg4 arg5 harg5 arg6 harg6 arg7 harg7 arg8 harg8 arg9 harg9 arg10 harg10 hc0 hc1 hc2 hc3 hc4 x0 x1 x2 x3 x4 x5 xs0)]
  unfold kernelRun0_C
  dsimp only
  sl_unfold_words
  rw [View.canon_unit_zero hz]
  simp only [View.readAt_eq_ld, harg2.read_unread, harg3.read_unread, harg4.read_unread, harg5.read_unread, harg6.read_unread, harg7.read_unread, harg9.read_unread, harg10.read_unread, View.ld_unit_zero (S := S1024x1024) hz, View.ld_unit_zero (S := S1024x1408) hz, View.ld_unit_zero (S := S1x1024) hz]

theorem sout_D_0 (hc0 : ¬cond0_0 i) (hc1 : ¬cond0_1 i) (hc2 : ¬cond0_2 i) (hc3 : cond0_3 i) (hc4 : cond0_4 i) :
    sout0_D_0 c i arg2 harg2 arg3 harg3 arg4 harg4 arg5 harg5 arg6 harg6 arg7 harg7 arg8 harg8 arg9 harg9 arg10 harg10 hc0 hc1 hc2 hc3 hc4 x0 x1 x2 x3 x4 x5 xo7 xs0 = k0_pay4 xs0 x4 x1 := by
  unfold sout0_D_0
  rw [View.read_writes_eq_canon _ _ _ (scover0_D_0 c i arg2 harg2 arg3 harg3 arg4 harg4 arg5 harg5 arg6 harg6 arg7 harg7 arg8 harg8 arg9 harg9 arg10 harg10 hc0 hc1 hc2 hc3 hc4 x0 x1 x2 x3 x4 x5 xo7 xs0)]
  unfold kernelRun0_D
  dsimp only
  sl_unfold_words
  rw [View.canon_unit_zero hz]
  simp only [View.readAt_eq_ld, harg2.read_unread, harg3.read_unread, harg4.read_unread, harg5.read_unread, harg6.read_unread, harg7.read_unread, harg9.read_unread, harg10.read_unread, View.ld_unit_zero (S := S1024x1024) hz, View.ld_unit_zero (S := S1024x1408) hz, View.ld_unit_zero (S := S1x1024) hz]

theorem out_D_6 (hc0 : ¬cond0_0 i) (hc1 : ¬cond0_1 i) (hc2 : ¬cond0_2 i) (hc3 : cond0_3 i) (hc4 : cond0_4 i) :
    out0_D_6 c i arg2 harg2 arg3 harg3 arg4 harg4 arg5 harg5 arg6 harg6 arg7 harg7 arg8 harg8 arg9 harg9 arg10 harg10 hc0 hc1 hc2 hc3 hc4 x0 x1 x2 x3 x4 x5 xo7 xs0 = k0_pay7 (k0_pay4 xs0 x4 x1) x2 x3 x5 := by
  unfold out0_D_6
  rw [View.read_writes_eq_canon _ _ _ (cover0_D_6 c i arg2 harg2 arg3 harg3 arg4 harg4 arg5 harg5 arg6 harg6 arg7 harg7 arg8 harg8 arg9 harg9 arg10 harg10 hc0 hc1 hc2 hc3 hc4 x0 x1 x2 x3 x4 x5 xo7 xs0)]
  unfold kernelRun0_D
  dsimp only
  sl_unfold_words
  rw [View.canon_unit_zero hz]
  try rw [View.readCov_unit_zero (S := S1024x1024) _ hz]
  simp only [View.readAt_eq_ld, harg2.read_unread, harg3.read_unread, harg4.read_unread, harg5.read_unread, harg6.read_unread, harg7.read_unread, harg9.read_unread, harg10.read_unread, View.ld_unit_zero (S := S1024x1024) hz, View.ld_unit_zero (S := S1024x1408) hz, View.ld_unit_zero (S := S1x1024) hz]

theorem out_D_7 (hc0 : ¬cond0_0 i) (hc1 : ¬cond0_1 i) (hc2 : ¬cond0_2 i) (hc3 : cond0_3 i) (hc4 : cond0_4 i) :
    out0_D_7 c i arg2 harg2 arg3 harg3 arg4 harg4 arg5 harg5 arg6 harg6 arg7 harg7 arg8 harg8 arg9 harg9 arg10 harg10 hc0 hc1 hc2 hc3 hc4 x0 x1 x2 x3 x4 x5 xo7 xs0 = k0_pay8 (k0_pay4 xs0 x4 x1) x2 xo7 := by
  unfold out0_D_7
  rw [View.read_writes_eq_canon _ _ _ (cover0_D_7 c i arg2 harg2 arg3 harg3 arg4 harg4 arg5 harg5 arg6 harg6 arg7 harg7 arg8 harg8 arg9 harg9 arg10 harg10 hc0 hc1 hc2 hc3 hc4 x0 x1 x2 x3 x4 x5 xo7 xs0)]
  unfold kernelRun0_D
  dsimp only
  sl_unfold_words
  rw [View.canon_unit_zero hz]
  try rw [View.readCov_unit_zero (S := S1024x1024) _ hz]
  simp only [View.readAt_eq_ld, harg2.read_unread, harg3.read_unread, harg4.read_unread, harg5.read_unread, harg6.read_unread, harg7.read_unread, harg9.read_unread, harg10.read_unread, View.ld_unit_zero (S := S1024x1024) hz, View.ld_unit_zero (S := S1024x1408) hz, View.ld_unit_zero (S := S1x1024) hz]

end Outs

/-! ## The payloads at an index -/

theorem bcast_col (v : FVec Ideal S1024x1 .f32) (r c : Fin 1024) :
    broadcastTo S1024x1024 v broadcasts_S1024x1_S1024x1024 (ix2 r c) = v (ix2 r (0 : Fin 1)) :=
  broadcastTo_apply _ _ _ (ix2 r (0 : Fin 1)) (fun a => match a with | ⟨0, _⟩ => rfl | ⟨1, _⟩ => rfl)

theorem bcast_vec (v : FVec Ideal S1x1024 .f32) (r c : Fin 1024) :
    broadcastTo S1024x1024 v broadcasts_S1x1024_S1024x1024 (ix2 r c) = v (ix2 (0 : Fin 1) c) :=
  broadcastTo_apply _ _ _ (ix2 (0 : Fin 1) c) (fun a => match a with | ⟨0, _⟩ => rfl | ⟨1, _⟩ => rfl)

theorem col_apply (v : FVec Ideal S1024 .f32) (r : Fin 1024) : shapeCast S1024x1 v shapeCasts_S1024_S1024x1 (ix2 r (0 : Fin 1)) = v (ix1 r) :=
  shapeCast_apply _ _ _ (ix1 r) (by rw [Shape.rowMajor_val_one, Shape.rowMajor_val_two]; show r.val = r.val * 1 + 0; omega)

theorem vec_apply (v : FVec Ideal S1024 .f32) (c : Fin 1024) : shapeCast S1x1024 v shapeCasts_S1024_S1x1024 (ix2 (0 : Fin 1) c) = v (ix1 c) :=
  shapeCast_apply _ _ _ (ix1 c) (by rw [Shape.rowMajor_val_one, Shape.rowMajor_val_two]; show c.val = 0 * 1024 + c.val; omega)

theorem sum_row (x : FVec Ideal S1024x1024 .f32) (r : Fin 1024) :
    multiReduction .add [1] S1024 x 0x00000000#32 reduces_S1024x1024_S1024 (.inl rfl) rfl (ix1 r) = rsum fun k => x (ix2 r k) := by
  refine (Ideal.multiReduction_add_single _ _ _ _ _ _).trans ?_
  refine Finset.sum_congr rfl fun k _ => congrArg x ?_
  funext a; apply Fin.ext
  match a with
  | ⟨0, _⟩ => rfl
  | ⟨1, _⟩ => rfl

theorem sum_col (x : FVec Ideal S1024x1024 .f32) (c : Fin 1024) :
    multiReduction .add [0] S1024 x 0x00000000#32 reduces_S1024x1024_S1024_2 (.inl rfl) rfl (ix1 c) = ∑ k : Fin 1024, x (ix2 k c) := by
  refine (Ideal.multiReduction_add_single _ _ _ _ _ _).trans ?_
  refine Finset.sum_congr rfl fun k _ => congrArg x ?_
  funext a; apply Fin.ext
  match a with
  | ⟨0, _⟩ => rfl
  | ⟨1, _⟩ => rfl

theorem pay3_apply (s : Vec Ideal S1024x1024 .f32) (a b : Vec Ideal S1024x1408 .bf16) (r c : Fin 1024) :
    k0_pay3 (F := Ideal) s a b (ix2 r c) = s (ix2 r c) + ∑ k : Fin 1408, a (ix2 r k) * b (ix2 c k) := by
  unfold k0_pay3
  refine (shapeCast_apply _ _ _ (ix2 r c) rfl).trans ?_
  show s (ix2 r c) + FloatOps.matmul (F := Ideal) (DotDims.transposedRhs 1024 1408 1024) none (a : FVec Ideal S1024x1408 .bf16) (b : FVec Ideal S1024x1408 .bf16) (constant S1024x1024 .f32 0x00000000#32) (ix2 r c) = _
  rw [Ideal.matmul_transposedRhs_apply]
  show _ + (Ideal.ofBits .f32 0x00000000#32 + _) = _
  rw [Ideal.ofBits_zero_f32, zero_add]

theorem pay4_apply (s : Vec Ideal S1024x1024 .f32) (a b : Vec Ideal S1024x1408 .bf16) (r c : Fin 1024) :
    k0_pay4 (F := Ideal) s a b (ix2 r c) = s (ix2 r c) + ∑ k : Fin 1408, a (ix2 r k) * b (ix2 c k) := pay3_apply s a b r c

theorem pay1_apply (j : S1024x1024.Idx) : k0_pay1 (F := Ideal) j = 0 := Ideal.ofBits_zero_f32
theorem pay2_apply (j : S1x1024.Idx) : k0_pay2 (F := Ideal) j = 0 := Ideal.ofBits_zero_f32

theorem pay5_apply (x : Vec Ideal S1024x1024 .f32) (r : Fin 1024) : k0_pay5 (F := Ideal) x (ix2 r (0 : Fin 1)) = rs (rowOf (n := 1024) x r) := by
  unfold k0_pay5 rs ms
  refine congrArg (fun z => Ideal.rsqrt (Ideal.div z cN + cE)) ((col_apply _ r).trans ?_)
  exact sum_row _ r

theorem pay6_apply (x : Vec Ideal S1024x1024 .f32) (r c : Fin 1024) : k0_pay6 (F := Ideal) x (ix2 r c) = xh (rowOf (n := 1024) x r) c := by
  unfold k0_pay6 xh
  refine congrArg (x (ix2 r c) * ·) ((bcast_col _ r c).trans (pay5_apply x r))

theorem pay7_apply (d x : Vec Ideal S1024x1024 .f32) (g : Vec Ideal S1x1024 .f32) (y : Vec Ideal S1024x1024 .f32) (r c : Fin 1024) :
    k0_pay7 (F := Ideal) d x g y (ix2 r c) = dk (rowOf (n := 1024) d r) (rowOf (n := 1024) x r) (rowOf (n := 1) g 0) c + y (ix2 r c) := by
  unfold k0_pay7 dk
  refine congrArg (· + y (ix2 r c)) ?_
  refine congrArg₂ (· * ·) ((bcast_col _ r c).trans (pay5_apply x r)) (congrArg₂ (· - ·) (congrArg (d (ix2 r c) * ·) (bcast_vec g r c)) (congrArg₂ (· * ·) (pay6_apply x r c) ?_))
  refine (bcast_col _ r c).trans (congrArg (fun z => Ideal.div z cN) ((col_apply _ r).trans ((sum_row _ r).trans ?_)))
  refine congrArg rsum (funext fun k => congrArg₂ (· * ·) (pay6_apply x r k) (congrArg (d (ix2 r k) * ·) (bcast_vec g r k)))

theorem pay8_apply (d x : Vec Ideal S1024x1024 .f32) (s : Vec Ideal S1x1024 .f32) (c : Fin 1024) :
    k0_pay8 (F := Ideal) d x s (ix2 (0 : Fin 1) c) = s (ix2 (0 : Fin 1) c) + ∑ r : Fin 1024, d (ix2 r c) * xh (rowOf (n := 1024) x r) c := by
  unfold k0_pay8
  refine congrArg₂ (· + ·) (shapeCast_apply _ _ _ _ rfl) ((vec_apply _ c).trans ((sum_col _ c).trans ?_))
  exact Finset.sum_congr rfl fun r _ => congrArg (d (ix2 r c) * ·) (pay6_apply x r c)

/-! ## From blocks to arrays -/

variable (m : (ℓ : Loc nD τ sig) → Buf (Elt Ideal) ℓ)

abbrev DA (c : Dev nD) : S8192x2816.Idx → EReal := m ((c : Thread nD τ).loc main_arg0)
abbrev DB (c : Dev nD) : S8192x2816.Idx → EReal := m ((c : Thread nD τ).loc main_arg1)
abbrev W (c : Dev nD) : S1024x5632.Idx → EReal := m ((c : Thread nD τ).loc main_arg2)
abbrev X (c : Dev nD) : S8192x1024.Idx → EReal := m ((c : Thread nD τ).loc main_arg3)
abbrev G (c : Dev nD) : S1x1024.Idx → EReal := m ((c : Thread nD τ).loc main_arg4)
abbrev DY (c : Dev nD) : S8192x1024.Idx → EReal := m ((c : Thread nD τ).loc main_arg5)

/-- The two cotangents side by side. -/
def cat (a b : S8192x2816.Idx → EReal) (R : Fin 8192) (k : Fin 5632) : EReal :=
  if h : k.val < 2816 then a (ix2 R ⟨k.val, h⟩) else b (ix2 R ⟨k.val - 2816, by have := k.isLt; omega⟩)

/-- The terms of the product with the weight. -/
abbrev term (a b : S8192x2816.Idx → EReal) (w : S1024x5632.Idx → EReal) (R : Fin 8192) (f : Fin 1024) (k : Fin 5632) : EReal :=
  cat a b R k * w (ix2 f k)

/-- The cotangent of the normalised row. -/
def dh (a b : S8192x2816.Idx → EReal) (w : S1024x5632.Idx → EReal) (R : Fin 8192) (f : Fin 1024) : EReal := ∑ k, term a b w R f k

/-- The terms of the derivative with respect to the normalisation's weight. -/
abbrev gterm (a b : S8192x2816.Idx → EReal) (w : S1024x5632.Idx → EReal) (x : S8192x1024.Idx → EReal) (f : Fin 1024) (R : Fin 8192) : EReal :=
  dh a b w R f * xh (rowOf (n := 8192) x R) f

def dg (a b : S8192x2816.Idx → EReal) (w : S1024x5632.Idx → EReal) (x : S8192x1024.Idx → EReal) (f : Fin 1024) : EReal := ∑ R, gterm a b w x f R

abbrev resX (c : Dev nD) : Buf (Elt Ideal) ((c : Thread nD τ).loc main_v0_0) := fun i : S8192x1024.Idx =>
  dk (dh (DA m c) (DB m c) (W m c) (i 0)) (rowOf (n := 8192) (X m c) (i 0)) (rowOf (n := 1) (G m c) 0) (i 1) + DY m c (ix2 (i 0) (i 1))
abbrev resG (c : Dev nD) : Buf (Elt Ideal) ((c : Thread nD τ).loc main_v0_1) := fun i : S1x1024.Idx => dg (DA m c) (DB m c) (W m c) (X m c) (i 1)

abbrev blk0 (c : Dev nD) (t : Fin cfg0.N) : Vec Ideal S1024x1408 .bf16 := iblk m c 0 t
abbrev blk1 (c : Dev nD) (t : Fin cfg0.N) : Vec Ideal S1024x1408 .bf16 := iblk m c 1 t
abbrev blk2 (c : Dev nD) (t : Fin cfg0.N) : Vec Ideal S1024x1024 .f32 := iblk m c 2 t
abbrev blk3 (c : Dev nD) (t : Fin cfg0.N) : Vec Ideal S1x1024 .f32 := iblk m c 3 t
abbrev blk4 (c : Dev nD) (t : Fin cfg0.N) : Vec Ideal S1024x1408 .bf16 := iblk m c 4 t
abbrev blk5 (c : Dev nD) (t : Fin cfg0.N) : Vec Ideal S1024x1024 .f32 := iblk m c 5 t

theorem idx_in : ∀ t : Fin cfg0.N,
    (t.val % 4 ≤ 1 → win0_0.index t 0 = t.val / 4 ∧ win0_0.index t 1 = t.val % 4) ∧ win0_1.index t 0 = 0 ∧ win0_1.index t 1 = t.val % 4
      ∧ win0_2.index t 0 = t.val / 4 ∧ win0_2.index t 1 = 0 ∧ win0_3.index t 0 = 0 ∧ win0_3.index t 1 = 0
      ∧ (2 ≤ t.val % 4 → win0_4.index t 0 = t.val / 4 ∧ win0_4.index t 1 = t.val % 4 - 2)
      ∧ win0_5.index t 0 = t.val / 4 ∧ win0_5.index t 1 = 0 :=
  (by decide +kernel : ∀ t : Fin grid0.N, _)

theorem idx_out : ∀ t : Fin cfg0.N,
    win0_6.index t 0 = t.val / 4 ∧ win0_6.index t 1 = 0 ∧ win0_7.index t 0 = 0 ∧ win0_7.index t 1 = 0 :=
  (by decide +kernel : ∀ t : Fin grid0.N, _)

theorem lt32 (t : Fin cfg0.N) : t.val < 32 := lt_of_lt_of_eq t.isLt N_0

abbrev gr (t : ℕ) (ht : t < 32) (r : Fin 1024) : Fin 8192 := ⟨t / 4 * 1024 + r.val, by have := r.isLt; omega⟩
abbrev gk (t : ℕ) (k : Fin 1408) : Fin 5632 := ⟨t % 4 * 1408 + k.val, by have := k.isLt; omega⟩

theorem blk0_at (c : Dev nD) (t : Fin cfg0.N) (h : t.val % 4 ≤ 1) (r : Fin 1024) (k : Fin 1408) :
    blk0 m c t (ix2 r k) = cat (DA m c) (DB m c) (gr t.val (lt32 t) r) (gk t.val k) := by
  obtain ⟨e0, e1⟩ := (idx_in t).1 h
  have hk := k.isLt
  unfold cat
  rw [dif_pos (show t.val % 4 * 1408 + k.val < 2816 by omega)]
  show m ((c : Thread nD τ).loc main_arg0) _ = m ((c : Thread nD τ).loc main_arg0) _
  congr 1
  funext a; apply Fin.ext
  match a with
  | ⟨0, _⟩ => show win0_0.index t 0 * 1024 + 1 * r.val = t.val / 4 * 1024 + r.val; rw [e0]; omega
  | ⟨1, _⟩ => show win0_0.index t 1 * 1408 + 1 * k.val = t.val % 4 * 1408 + k.val; rw [e1]; omega
theorem blk4_at (c : Dev nD) (t : Fin cfg0.N) (h : 2 ≤ t.val % 4) (r : Fin 1024) (k : Fin 1408) :
    blk4 m c t (ix2 r k) = cat (DA m c) (DB m c) (gr t.val (lt32 t) r) (gk t.val k) := by
  obtain ⟨e0, e1⟩ := (idx_in t).2.2.2.2.2.2.2.1 h
  have hk := k.isLt
  unfold cat
  rw [dif_neg (show ¬t.val % 4 * 1408 + k.val < 2816 by omega)]
  show m ((c : Thread nD τ).loc main_arg1) _ = m ((c : Thread nD τ).loc main_arg1) _
  congr 1
  funext a; apply Fin.ext
  match a with
  | ⟨0, _⟩ => show win0_4.index t 0 * 1024 + 1 * r.val = t.val / 4 * 1024 + r.val; rw [e0]; omega
  | ⟨1, _⟩ => show win0_4.index t 1 * 1408 + 1 * k.val = t.val % 4 * 1408 + k.val - 2816; rw [e1]; omega
theorem blk1_at (c : Dev nD) (t : Fin cfg0.N) (f : Fin 1024) (k : Fin 1408) : blk1 m c t (ix2 f k) = W m c (ix2 f (gk t.val k)) := by
  obtain ⟨-, e0, e1, -⟩ := idx_in t
  show m ((c : Thread nD τ).loc main_arg2) _ = m ((c : Thread nD τ).loc main_arg2) _
  congr 1
  funext a; apply Fin.ext
  match a with
  | ⟨0, _⟩ => show win0_1.index t 0 * 1024 + 1 * f.val = f.val; rw [e0]; omega
  | ⟨1, _⟩ => show win0_1.index t 1 * 1408 + 1 * k.val = t.val % 4 * 1408 + k.val; rw [e1]; omega
theorem blk2_at (c : Dev nD) (t : Fin cfg0.N) (r f : Fin 1024) : blk2 m c t (ix2 r f) = X m c (ix2 (gr t.val (lt32 t) r) f) := by
  obtain ⟨-, -, -, e0, e1, -⟩ := idx_in t
  show m ((c : Thread nD τ).loc main_arg3) _ = m ((c : Thread nD τ).loc main_arg3) _
  congr 1
  funext a; apply Fin.ext
  match a with
  | ⟨0, _⟩ => show win0_2.index t 0 * 1024 + 1 * r.val = t.val / 4 * 1024 + r.val; rw [e0]; omega
  | ⟨1, _⟩ => show win0_2.index t 1 * 1024 + 1 * f.val = f.val; rw [e1]; omega
theorem blk3_at (c : Dev nD) (t : Fin cfg0.N) (f : Fin 1024) : blk3 m c t (ix2 (0 : Fin 1) f) = G m c (ix2 (0 : Fin 1) f) := by
  obtain ⟨-, -, -, -, -, e0, e1, -⟩ := idx_in t
  show m ((c : Thread nD τ).loc main_arg4) _ = m ((c : Thread nD τ).loc main_arg4) _
  congr 1
  funext a; apply Fin.ext
  match a with
  | ⟨0, _⟩ => show win0_3.index t 0 * 1 + 1 * 0 = 0; rw [e0]
  | ⟨1, _⟩ => show win0_3.index t 1 * 1024 + 1 * f.val = f.val; rw [e1]; omega
theorem blk5_at (c : Dev nD) (t : Fin cfg0.N) (r f : Fin 1024) : blk5 m c t (ix2 r f) = DY m c (ix2 (gr t.val (lt32 t) r) f) := by
  obtain ⟨-, -, -, -, -, -, -, -, e0, e1⟩ := idx_in t
  show m ((c : Thread nD τ).loc main_arg5) _ = m ((c : Thread nD τ).loc main_arg5) _
  congr 1
  funext a; apply Fin.ext
  match a with
  | ⟨0, _⟩ => show win0_5.index t 0 * 1024 + 1 * r.val = t.val / 4 * 1024 + r.val; rw [e0]; omega
  | ⟨1, _⟩ => show win0_5.index t 1 * 1024 + 1 * f.val = f.val; rw [e1]; omega

/-! ## The accumulators, point by point -/

/-- What the accumulator holds before a point adds to it. -/
abbrev prevAcc (c : Dev nD) (t : Fin cfg0.N) : Vec Ideal S1024x1024 .f32 :=
  (outsAt0 m c (t.val - 1) (Nat.lt_of_le_of_lt (Nat.sub_le _ _) t.isLt)).2.2

theorem acc_start (c : Dev nD) (t : Fin cfg0.N) (h0 : t.val % 4 = 0) :
    (outsAt0 m c t.val t.isLt).2.2 = k0_pay3 (F := Ideal) (k0_pay1 (F := Ideal)) (blk0 m c t) (blk1 m c t) := by
  by_cases h1 : t.val % 32 = 0
  · rw [outsAt0_A m c t h0 h1 (by omega) (by omega) (by omega)]; dsimp only; rw [sout_A_0]
  · rw [outsAt0_E m c t h0 h1 (by omega) (by omega) (by omega)]; dsimp only; rw [sout_E_0]

theorem acc_one (c : Dev nD) (t : Fin cfg0.N) (h : t.val % 4 = 1) :
    (outsAt0 m c t.val t.isLt).2.2 = k0_pay3 (F := Ideal) (prevAcc m c t) (blk0 m c t) (blk1 m c t) := by
  rw [outsAt0_B m c t (by omega) (by omega) (by omega) (by omega) (by omega)]; dsimp only; rw [sout_B_0]

theorem acc_two (c : Dev nD) (t : Fin cfg0.N) (h : 2 ≤ t.val % 4) :
    (outsAt0 m c t.val t.isLt).2.2 = k0_pay4 (F := Ideal) (prevAcc m c t) (blk4 m c t) (blk1 m c t) := by
  by_cases h1 : t.val % 4 = 3
  · rw [outsAt0_D m c t (by omega) (by omega) (by omega) (by omega) h1]; dsimp only; rw [sout_D_0]
  · rw [outsAt0_C m c t (by omega) (by omega) (by omega) (by omega) h1]; dsimp only; rw [sout_C_0]

/-- The terms one point adds. -/
theorem block_sum (c : Dev nD) (t : Fin cfg0.N) (r f : Fin 1024) (b : Vec Ideal S1024x1408 .bf16)
    (hb : ∀ k, b (ix2 r k) = cat (DA m c) (DB m c) (gr t.val (lt32 t) r) (gk t.val k)) :
    ∑ k : Fin 1408, b (ix2 r k) * blk1 m c t (ix2 f k)
      = ∑ k : Fin 1408, term (DA m c) (DB m c) (W m c) (gr t.val (lt32 t) r) f ⟨t.val % 4 * 1408 + k.val, by have := k.isLt; omega⟩ :=
  Finset.sum_congr rfl fun k _ => by rw [hb, blk1_at]

theorem acc_at (c : Dev nD) : ∀ (n : ℕ) (hn : n < cfg0.N) (r f : Fin 1024),
    (outsAt0 m c n hn).2.2 (ix2 r f) = psum (term (DA m c) (DB m c) (W m c) (gr n (lt32 ⟨n, hn⟩) r) f) (n % 4 * 1408 + 1408) := by
  intro n
  induction n with
  | zero =>
    intro hn r f
    rw [acc_start m c ⟨0, hn⟩ rfl, pay3_apply, pay1_apply, zero_add, block_sum m c ⟨0, hn⟩ r f _ (fun k => blk0_at m c ⟨0, hn⟩ (by show 0 % 4 ≤ 1; omega) r k)]
    rw [psum_add _ _ 1408 (by omega)]
    exact ((congrArg (· + _) (psum_zero _)).trans (zero_add _)).symm
  | succ n ih =>
    intro hn r f
    have h32 := lt32 ⟨n + 1, hn⟩
    rw [psum_add _ _ 1408 (by omega)]
    by_cases h0 : (n + 1) % 4 = 0
    · rw [acc_start m c ⟨n + 1, hn⟩ h0, pay3_apply, pay1_apply, block_sum m c ⟨n + 1, hn⟩ r f _ (fun k => blk0_at m c ⟨n + 1, hn⟩ (by show (n + 1) % 4 ≤ 1; omega) r k)]
      refine congrArg (· + _) ?_
      rw [h0, Nat.zero_mul, psum_zero]
    · have hp : prevAcc m c ⟨n + 1, hn⟩ (ix2 r f) = psum (term (DA m c) (DB m c) (W m c) (gr (n + 1) h32 r) f) ((n + 1) % 4 * 1408) := by
        refine (ih (Nat.lt_of_succ_lt hn) r f).trans ?_
        rw [show n % 4 * 1408 + 1408 = (n + 1) % 4 * 1408 by omega]
        congr 2
        exact Fin.ext (by show n / 4 * 1024 + r.val = (n + 1) / 4 * 1024 + r.val; omega)
      by_cases h1 : (n + 1) % 4 = 1
      · rw [acc_one m c ⟨n + 1, hn⟩ h1, pay3_apply, hp, block_sum m c ⟨n + 1, hn⟩ r f _ (fun k => blk0_at m c ⟨n + 1, hn⟩ (by show (n + 1) % 4 ≤ 1; omega) r k)]
      · rw [acc_two m c ⟨n + 1, hn⟩ (by show 2 ≤ (n + 1) % 4; omega), pay4_apply, hp, block_sum m c ⟨n + 1, hn⟩ r f _ (fun k => blk4_at m c ⟨n + 1, hn⟩ (by show 2 ≤ (n + 1) % 4; omega) r k)]

/-- At the last run of columns the accumulator holds the whole product. -/
theorem acc_full (c : Dev nD) (t : Fin cfg0.N) (h : t.val % 4 = 3) (r : Fin 1024) :
    rowOf (n := 1024) (k0_pay4 (F := Ideal) (prevAcc m c t) (blk4 m c t) (blk1 m c t)) r = dh (DA m c) (DB m c) (W m c) (gr t.val (lt32 t) r) := by
  funext f
  show k0_pay4 (F := Ideal) (prevAcc m c t) (blk4 m c t) (blk1 m c t) (ix2 r f) = _
  rw [← acc_two m c t (by omega), acc_at m c t.val t.isLt r f, h, psum_full]
  rfl

theorem blk2_row (c : Dev nD) (t : Fin cfg0.N) (r : Fin 1024) : rowOf (n := 1024) (blk2 m c t) r = rowOf (n := 8192) (X m c) (gr t.val (lt32 t) r) :=
  funext fun f => blk2_at m c t r f

theorem dg_at (c : Dev nD) : ∀ (n : ℕ) (hn : n < cfg0.N) (f : Fin 1024),
    (outsAt0 m c n hn).2.1 (ix2 (0 : Fin 1) f) = psum (gterm (DA m c) (DB m c) (W m c) (X m c) f) ((n + 1) / 4 * 1024) := by
  intro n
  induction n with
  | zero =>
    intro hn f
    have e := congrArg (fun z => z.2.1) (outsAt0_A m c ⟨0, hn⟩ rfl rfl (by show 0 % 4 ≤ 1; omega) (by show ¬2 ≤ 0 % 4; omega) (by show ¬0 % 4 = 3; omega))
    dsimp only at e
    rw [out_A_7] at e
    rw [e, pay2_apply, show (0 + 1) / 4 * 1024 = 0 from rfl, psum_zero]
  | succ n ih =>
    intro hn f
    have h32 := lt32 ⟨n + 1, hn⟩
    have h32 : n + 1 < 32 := h32
    have hp := ih (Nat.lt_of_succ_lt hn) f
    by_cases h3 : (n + 1) % 4 = 3
    · have e := congrArg (fun z => z.2.1) (outsAt0_D m c ⟨n + 1, hn⟩ (by show ¬(n + 1) % 4 = 0; omega) (by show ¬(n + 1) % 32 = 0; omega) (by show ¬(n + 1) % 4 ≤ 1; omega) (by show 2 ≤ (n + 1) % 4; omega) h3)
      dsimp only at e
      rw [out_D_7] at e
      refine (congrFun e _).trans ((pay8_apply _ _ _ f).trans ?_)
      rw [show (n + 1 + 1) / 4 * 1024 = (n + 1) / 4 * 1024 + 1024 by omega, psum_add _ _ 1024 (by omega)]
      refine congrArg₂ (· + ·) hp (Finset.sum_congr rfl fun r _ => ?_)
      rw [blk2_row]
      exact congrArg (· * _) (congrFun (acc_full m c ⟨n + 1, hn⟩ h3 r) f)
    · have e : (outsAt0 m c (n + 1) hn).2.1 = (outsAt0 m c n (Nat.lt_of_succ_lt hn)).2.1 := by
        by_cases h0 : (n + 1) % 4 = 0
        · exact congrArg (fun z => z.2.1) (outsAt0_E m c ⟨n + 1, hn⟩ h0 (by show ¬(n + 1) % 32 = 0; omega) (by show (n + 1) % 4 ≤ 1; omega) (by show ¬2 ≤ (n + 1) % 4; omega) h3)
        · by_cases h1 : (n + 1) % 4 ≤ 1
          · exact congrArg (fun z => z.2.1) (outsAt0_B m c ⟨n + 1, hn⟩ h0 (by show ¬(n + 1) % 32 = 0; omega) h1 (by show ¬2 ≤ (n + 1) % 4; omega) h3)
          · exact congrArg (fun z => z.2.1) (outsAt0_C m c ⟨n + 1, hn⟩ h0 (by show ¬(n + 1) % 32 = 0; omega) h1 (by show 2 ≤ (n + 1) % 4; omega) h3)
      rw [e, hp, show (n + 1 + 1) / 4 = (n + 1) / 4 by omega]

theorem flushed6_eq (c : Dev nD) (t : Fin cfg0.N) (ht : (cfg0.win 6).flush t = true) :
    (dats m 0 c).flushed 6 t = ((cfg0.win 6).blk t).view.read (Elt Ideal) (resX m c) := by
  obtain ⟨e0, e1, -⟩ := idx_out t
  have h3 := (flush0_6 t).1 ht
  have h32 := lt32 t
  rw [Value.flushed6, outsAt0_D m c t (by omega) (by omega) (by omega) (by omega) h3]
  dsimp only
  rw [out_D_6]
  funext j
  obtain ⟨r, f, rfl⟩ : ∃ (r : Fin 1024) (f : Fin 1024), j = ix2 r f := ⟨j 0, j 1, by funext a; match a with | ⟨0, _⟩ => rfl | ⟨1, _⟩ => rfl⟩
  refine (pay7_apply _ _ _ _ r f).trans ?_
  rw [blk2_row, acc_full m c t h3 r, show rowOf (n := 1) (blk3 m c t) 0 = rowOf (n := 1) (G m c) 0 from funext fun f => blk3_at m c t f]
  show _ + blk5 m c t (ix2 r f) = _
  rw [blk5_at m c t r f]
  show _ = resX m c (((cfg0.win 6).blk t).view.emb (ix2 r f))
  have e : ((cfg0.win 6).blk t).view.emb (ix2 r f) = (ix2 (gr t.val (lt32 t) r) f : S8192x1024.Idx) := by
    funext a; apply Fin.ext
    match a with
    | ⟨0, _⟩ => show win0_6.index t 0 * 1024 + 1 * r.val = t.val / 4 * 1024 + r.val; rw [e0]; omega
    | ⟨1, _⟩ => show win0_6.index t 1 * 1024 + 1 * f.val = f.val; rw [e1]; omega
  rw [e]

theorem flushed7_eq (c : Dev nD) (t : Fin cfg0.N) (ht : (cfg0.win 7).flush t = true) :
    (dats m 0 c).flushed 7 t = ((cfg0.win 7).blk t).view.read (Elt Ideal) (resG m c) := by
  obtain ⟨-, -, e0, e1⟩ := idx_out t
  have ht := (flush0_7 t).1 ht
  have h32 := lt32 t
  rw [Value.flushed7]
  funext j
  obtain ⟨r, f, rfl⟩ : ∃ (r : Fin 1) (f : Fin 1024), j = ix2 r f := ⟨j 0, j 1, by funext a; match a with | ⟨0, _⟩ => rfl | ⟨1, _⟩ => rfl⟩
  obtain rfl : r = 0 := Subsingleton.elim _ _
  refine (dg_at m c t.val t.isLt f).trans ?_
  show _ = resG m c (((cfg0.win 7).blk t).view.emb (ix2 (0 : Fin 1) f))
  have e : ((cfg0.win 7).blk t).view.emb (ix2 (0 : Fin 1) f) = (ix2 (0 : Fin 1) f : S1x1024.Idx) := by
    funext a; apply Fin.ext
    match a with
    | ⟨0, _⟩ => show win0_7.index t 0 * 1 + 1 * 0 = 0; rw [e0]
    | ⟨1, _⟩ => show win0_7.index t 1 * 1024 + 1 * f.val = f.val; rw [e1]; omega
  rw [e, show (t.val + 1) / 4 * 1024 = 8192 by omega, psum_full]
  rfl

theorem cover6 (i : S8192x1024.Idx) : ∃ t : Fin cfg0.N, (cfg0.win 6).flush t = true ∧ i ∈ ((cfg0.win 6).blk t).view.set := by
  have h0 : (i 0 : Nat) < 8192 := (i 0).isLt
  have h1 : (i 1 : Nat) < 1024 := (i 1).isLt
  let t : Fin cfg0.N := ⟨(i 0).val / 1024 * 4 + 3, by rw [show cfg0.N = 32 from N_0]; omega⟩
  obtain ⟨e0, e1, -⟩ := idx_out t
  refine ⟨t, (flush0_6 t).2 (by dsimp only [t]; omega), ?_⟩
  show i ∈ ((View.whole main_v0_0).slice (win0_6.rect t)).set
  rw [View.set_slice_whole, Rect.mem_set_unit]
  intro a
  match a with
  | ⟨0, _⟩ => show win0_6.index t 0 * 1024 ≤ (i 0).val ∧ (i 0).val < win0_6.index t 0 * 1024 + 1024; rw [e0]; dsimp only [t]; omega
  | ⟨1, _⟩ => show win0_6.index t 1 * 1024 ≤ (i 1).val ∧ (i 1).val < win0_6.index t 1 * 1024 + 1024; rw [e1]; omega

theorem cover7 (i : S1x1024.Idx) : ∃ t : Fin cfg0.N, (cfg0.win 7).flush t = true ∧ i ∈ ((cfg0.win 7).blk t).view.set := by
  have h0 : (i 0 : Nat) < 1 := (i 0).isLt
  have h1 : (i 1 : Nat) < 1024 := (i 1).isLt
  let t : Fin cfg0.N := ⟨31, by rw [show cfg0.N = 32 from N_0]; omega⟩
  obtain ⟨-, -, e0, e1⟩ := idx_out t
  refine ⟨t, (flush0_7 t).2 rfl, ?_⟩
  show i ∈ ((View.whole main_v0_1).slice (win0_7.rect t)).set
  rw [View.set_slice_whole, Rect.mem_set_unit]
  intro a
  match a with
  | ⟨0, _⟩ => show win0_7.index t 0 * 1 ≤ (i 0).val ∧ (i 0).val < win0_7.index t 0 * 1 + 1; rw [e0]; omega
  | ⟨1, _⟩ => show win0_7.index t 1 * 1024 ≤ (i 1).val ∧ (i 1).val < win0_7.index t 1 * 1024 + 1024; rw [e1]; omega

theorem final6 (c : Dev nD) : (dats m 0 c).arrAt 6 cfg0.N = resX m c :=
  (dats m 0 c).arrAt_eq_of_cover 6 (resX m c) (flushed6_eq m c) cover6
theorem final7 (c : Dev nD) : (dats m 0 c).arrAt 7 cfg0.N = resG m c :=
  (dats m 0 c).arrAt_eq_of_cover 7 (resG m c) (flushed7_eq m c) cover7

/-! ## The reference's formula -/

section Ref
open Cert.Reference5Ideal.Read

variable (x0 x1 : S8192x2816.Idx → EReal) (x2 : S1024x5632.Idx → EReal) (x3 : S8192x1024.Idx → EReal) (x4 : S1x1024.Idx → EReal)

theorem v7_at (i : Cert.Reference5Ideal.S8192x1.Idx) : val_main_v7 (F := Ideal) x3 i = ms (rowOf (n := 8192) x3 (i 0)) := by
  show Ideal.div (val_main_v3 (F := Ideal) x3 i) (val_main_v4 (F := Ideal) i) + val_main_v6 (F := Ideal) i = _
  rw [val_main_v3_apply, val_main_v2_apply, val_main_v4_apply, val_main_v6_apply]
  show Ideal.div (Ideal.ofBits .f32 0x00000000#32 + _) cN + cE = _
  rw [Ideal.ofBits_zero_f32, zero_add]
  refine congrArg (fun z => Ideal.div z cN + cE) (Finset.sum_congr rfl fun k _ => ?_)
  show x3 _ * x3 _ = _
  have e : idx_main_v2 (idx_main_v3 i) k = (ix2 (i 0) k : S8192x1024.Idx) := by
    funext a; apply Fin.ext
    match a with
    | ⟨0, _⟩ => rfl
    | ⟨1, _⟩ => rfl
  rw [e]

theorem v8_at (i : Cert.Reference5Ideal.S8192x1.Idx) : val_main_v8 (F := Ideal) x3 i = rs (rowOf (n := 8192) x3 (i 0)) :=
  congrArg Ideal.rsqrt (v7_at x3 i)

theorem v13_at (R : Fin 8192) (k : Fin 1024) : val_main_v13 (F := Ideal) x3 (ix2 R k) = xh (rowOf (n := 8192) x3 R) k := by
  show x3 (ix2 R k) * val_main_v12 (F := Ideal) x3 (ix2 R k) = _
  rw [val_main_v12_apply, v8_at]
  rfl

theorem v21_at (R : Fin 8192) (k : Fin 5632) : val_main_v21 (F := Ideal) x0 x1 (ix2 R k) = cat x0 x1 R k := by
  have hk := k.isLt
  unfold cat
  let l : Fin 2 → (S8192x2816.Idx → EReal) := fun n => if n.val = 0 then val_main_v19 (F := Ideal) x0 else val_main_v20 (F := Ideal) x1
  by_cases h : k.val < 2816
  · rw [dif_pos h]
    exact concatenate_ofFn_apply (t := Cert.Reference5Ideal.S8192x5632) (s₁ := Cert.Reference5Ideal.S8192x2816) 1 l
      Cert.Reference5Ideal.Gen.concatenates_S8192x2816_S8192x2816_S8192x5632_d1 rfl 2816 rfl (ix2 R k) 0 (show k.val / 2816 = 0 by omega) (ix2 R ⟨k.val, h⟩) (show k.val = k.val % 2816 by omega)
      (fun b hb => match b with | ⟨0, _⟩ => rfl | ⟨1, _⟩ => absurd rfl hb)
  · rw [dif_neg h]
    exact concatenate_ofFn_apply (t := Cert.Reference5Ideal.S8192x5632) (s₁ := Cert.Reference5Ideal.S8192x2816) 1 l
      Cert.Reference5Ideal.Gen.concatenates_S8192x2816_S8192x2816_S8192x5632_d1 rfl 2816 rfl (ix2 R k) 1 (show k.val / 2816 = 1 by omega) (ix2 R ⟨k.val - 2816, by omega⟩) (show k.val - 2816 = k.val % 2816 by omega)
      (fun b hb => match b with | ⟨0, _⟩ => rfl | ⟨1, _⟩ => absurd rfl hb)

theorem v24_at (R : Fin 8192) (f : Fin 1024) : val_main_v24 (F := Ideal) x0 x1 x2 (ix2 R f) = dh x0 x1 x2 R f := by
  rw [val_main_v24_apply]
  refine Finset.sum_congr rfl fun k _ => ?_
  have e : lidx_main_v24 (ix2 R f) k = (ix2 R k : Cert.Reference5Ideal.S8192x5632.Idx) := by
    funext a; apply Fin.ext
    match a with
    | ⟨0, _⟩ => rfl
    | ⟨1, _⟩ => rfl
  have e' : ridx_main_v24 (ix2 R f) k = (ix2 f k : S1024x5632.Idx) := by
    funext a; apply Fin.ext
    match a with
    | ⟨0, _⟩ => rfl
    | ⟨1, _⟩ => rfl
  rw [e, e', v21_at]
  rfl

theorem v29_at (R : Fin 8192) (k : Fin 1024) : val_main_v29 (F := Ideal) x0 x1 x2 x4 (ix2 R k) = dh x0 x1 x2 R k * rowOf (n := 1) x4 0 k := by
  show val_main_v24 (F := Ideal) x0 x1 x2 (ix2 R k) * val_main_v28 (F := Ideal) x4 (ix2 R k) = _
  rw [v24_at, val_main_v28_apply]
  refine congrArg (fun z => _ * x4 z) ?_
  funext a; apply Fin.ext
  match a with
  | ⟨0, _⟩ => rfl
  | ⟨1, _⟩ => rfl

theorem v27_at (f : Fin 1024) : val_main_v27 (F := Ideal) x0 x1 x2 x3 (ix2 (0 : Fin 1) f) = dg x0 x1 x2 x3 f := by
  rw [val_main_v27_apply, val_main_v26_apply]
  show Ideal.ofBits .f32 0x00000000#32 + _ = _
  rw [Ideal.ofBits_zero_f32, zero_add]
  refine Finset.sum_congr rfl fun R _ => ?_
  have e : idx_main_v26 (idx_main_v27 (ix2 (0 : Fin 1) f)) R = (ix2 R f : S8192x1024.Idx) := by
    funext a; apply Fin.ext
    match a with
    | ⟨0, _⟩ => rfl
    | ⟨1, _⟩ => first | rfl | (show 0 * 1024 + f.val = f.val; omega)
  rw [e]
  show val_main_v13 (F := Ideal) x3 (ix2 R f) * val_main_v24 (F := Ideal) x0 x1 x2 (ix2 R f) = _
  rw [v13_at, v24_at, mul_comm]

theorem v40_at (R : Fin 8192) (k : Fin 1024) :
    val_main_v40 (F := Ideal) x0 x1 x2 x3 x4 (ix2 R k) = wr (dh x0 x1 x2 R) (rowOf (n := 8192) x3 R) (rowOf (n := 1) x4 0) := by
  rw [val_main_v40_apply, val_main_v39_apply]
  show Ideal.ofBits .f32 0x00000000#32 + _ = _
  rw [Ideal.ofBits_zero_f32, zero_add, Fin.sum_univ_one]
  have e : idx_main_v39 (idx_main_v40 (ix2 R k)) 0 = (ix2 R (0 : Fin 1) : Cert.Reference5Ideal.S8192x1.Idx) := by
    funext a; apply Fin.ext
    match a with
    | ⟨0, _⟩ => rfl
    | ⟨1, _⟩ => rfl
  rw [e]
  show Ideal.div (val_main_v32 (F := Ideal) x0 x1 x2 x3 x4 (ix2 R (0 : Fin 1)) * (val_main_v10 (F := Ideal) _ * Ideal.div (val_main_v8 (F := Ideal) x3 _) (val_main_v7 (F := Ideal) x3 _))) (val_main_v37 (F := Ideal) _) = _
  rw [v8_at, v7_at, val_main_v37_apply, val_main_v10_apply, val_main_v32_apply, val_main_v31_apply]
  unfold wr
  refine congrArg (fun z => Ideal.div (z * (cH * Ideal.div (rs (rowOf (n := 8192) x3 R)) (ms (rowOf (n := 8192) x3 R)))) cN) ?_
  show Ideal.ofBits .f32 0x00000000#32 + _ = _
  rw [Ideal.ofBits_zero_f32, zero_add]
  refine Finset.sum_congr rfl fun j _ => ?_
  have e : idx_main_v31 (idx_main_v32 (ix2 R (0 : Fin 1))) j = (ix2 R j : S8192x1024.Idx) := by
    funext a; apply Fin.ext
    match a with
    | ⟨0, _⟩ => show R.val * 1 + 0 = R.val; omega
    | ⟨1, _⟩ => rfl
  rw [e]
  show x3 (ix2 R j) * val_main_v29 (F := Ideal) x0 x1 x2 x4 (ix2 R j) = _
  rw [v29_at]

theorem v44_at (x5 : S8192x1024.Idx → EReal) (R : Fin 8192) (k : Fin 1024) :
    val_main_v44 (F := Ideal) x0 x1 x2 x3 x4 x5 (ix2 R k)
      = x5 (ix2 R k) + dh x0 x1 x2 R k * rowOf (n := 1) x4 0 k * rs (rowOf (n := 8192) x3 R)
        + rowOf (n := 8192) x3 R k * wr (dh x0 x1 x2 R) (rowOf (n := 8192) x3 R) (rowOf (n := 1) x4 0)
        + wr (dh x0 x1 x2 R) (rowOf (n := 8192) x3 R) (rowOf (n := 1) x4 0) * rowOf (n := 8192) x3 R k := by
  show x5 (ix2 R k) + val_main_v29 (F := Ideal) x0 x1 x2 x4 (ix2 R k) * val_main_v33 (F := Ideal) x3 (ix2 R k)
    + x3 (ix2 R k) * val_main_v40 (F := Ideal) x0 x1 x2 x3 x4 (ix2 R k) + val_main_v40 (F := Ideal) x0 x1 x2 x3 x4 (ix2 R k) * x3 (ix2 R k) = _
  rw [v29_at, v40_at, val_main_v33_apply, v8_at]
  rfl

end Ref

/-- What the precondition says: every argument but the last is a real number throughout. -/
theorem fin_of_pre [Cert.Pre_finite5.Facts] (x0 x1 : S8192x2816.Idx → EReal) (x2 : S1024x5632.Idx → EReal) (x3 : S8192x1024.Idx → EReal) (x4 : S1x1024.Idx → EReal)
    (x5 : S8192x1024.Idx → EReal) (h : Cert.Pre_finite5.fn (F := Ideal) x0 x1 x2 x3 x4 x5 = fun _ => 1#1) :
    (∀ i, Fin' (x0 i)) ∧ (∀ i, Fin' (x1 i)) ∧ (∀ i, Fin' (x2 i)) ∧ (∀ i, Fin' (x3 i)) ∧ ∀ i, Fin' (x4 i) := by
  have h := congrFun h (fun a => a.elim0)
  dsimp only [Cert.Pre_finite5.fn] at h
  obtain ⟨h, h4⟩ := IntOp.andi_eq_one.1 h
  obtain ⟨h, h3⟩ := IntOp.andi_eq_one.1 h
  obtain ⟨h, h2⟩ := IntOp.andi_eq_one.1 h
  obtain ⟨h0, h1⟩ := IntOp.andi_eq_one.1 h
  exact ⟨fin_of_all x0 _ (fun _ => rfl) _ _ _ _ h0, fin_of_all x1 _ (fun _ => rfl) _ _ _ _ h1, fin_of_all x2 _ (fun _ => rfl) _ _ _ _ h2,
    fin_of_all x3 _ (fun _ => rfl) _ _ _ _ h3, fin_of_all x4 _ (fun _ => rfl) _ _ _ _ h4⟩

theorem ref_x [Cert.Pre_finite5.Facts] (hpre : Cert.Pre_Kernel5Ideal_finite5 m) (c : Dev nD) :
    Cert.Reference5Ideal.Read.val_main_v44 (F := Ideal) (DA m c) (DB m c) (W m c) (X m c) (G m c) (DY m c) = resX m c := by
  obtain ⟨h0, h1, h2, h3, h4⟩ := fin_of_pre _ _ _ _ _ _ (hpre c)
  funext i
  obtain ⟨R, f, rfl⟩ : ∃ (R : Fin 8192) (f : Fin 1024), i = ix2 R f := ⟨i 0, i 1, by funext a; match a with | ⟨0, _⟩ => rfl | ⟨1, _⟩ => rfl⟩
  refine (v44_at _ _ _ _ _ _ R f).trans (dk_eq (fun k => ?_) (fun k => h3 _) (fun k => h4 _) _ f)
  refine Fin'.sum _ fun j => Fin'.mul ?_ (h2 _)
  unfold cat
  split
  · exact h0 _
  · exact h1 _

theorem ref_g (c : Dev nD) : Cert.Reference5Ideal.Read.val_main_v27 (F := Ideal) (DA m c) (DB m c) (W m c) (X m c) = resG m c := by
  funext i
  obtain ⟨r, f, rfl⟩ : ∃ (r : Fin 1) (f : Fin 1024), i = ix2 r f := ⟨i 0, i 1, by funext a; match a with | ⟨0, _⟩ => rfl | ⟨1, _⟩ => rfl⟩
  obtain rfl : r = 0 := Subsingleton.elim _ _
  exact v27_at _ _ _ _ f

/-- The reference's two results, as functions of its arguments. -/
@[irreducible] def refX (a b : S8192x2816.Idx → EReal) (w : S1024x5632.Idx → EReal) (x : S8192x1024.Idx → EReal) (g : S1x1024.Idx → EReal)
    (y : S8192x1024.Idx → EReal) : S8192x1024.Idx → EReal := Cert.Reference5Ideal.Read.val_main_v44 (F := Ideal) a b w x g y
@[irreducible] def refG (a b : S8192x2816.Idx → EReal) (w : S1024x5632.Idx → EReal) (x : S8192x1024.Idx → EReal) : S1x1024.Idx → EReal :=
  Cert.Reference5Ideal.Read.val_main_v27 (F := Ideal) a b w x

theorem ref_run [Cert.Reference5Ideal.Facts] (m : (ℓ : Loc Cert.Reference5Ideal.nD Cert.Reference5Ideal.τ Cert.Reference5Ideal.sig) → Buf (Elt Ideal) ℓ) (ρ : Dev Cert.Reference5Ideal.nD → PrngReg) :
    θ_run Cert.Reference5Ideal.defs (onTc (τ := Cert.Reference5Ideal.τ) (Cert.Reference5Ideal.main (F := Ideal))) ⟨m, fun _ => 0, ρ⟩ fun r => ∀ c : Dev Cert.Reference5Ideal.nD,
      r.2.mem ((c.tc : Thread Cert.Reference5Ideal.nD Cert.Reference5Ideal.τ).loc Cert.Reference5Ideal.main_v44) = refX (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5))
      ∧ r.2.mem ((c.tc : Thread Cert.Reference5Ideal.nD Cert.Reference5Ideal.τ).loc Cert.Reference5Ideal.main_v27) = refG (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3))
      ∧ r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5) := by
  refine (θ_run _ _ _).mono (fun r h c => ⟨(h c).1.trans ?_, (h c).2.1.trans ?_, ?_⟩) (Cert.Reference5Ideal.Value.run m ρ)
  · exact (h c).2.2
  · unfold refX; exact Cert.Reference5Ideal.Read.val_main_v44_eq m c
  · unfold refG; exact Cert.Reference5Ideal.Read.val_main_v27_eq _ _ _ _

theorem algebraic [Cert.Pre_finite5.Facts] [Cert.Kernel5Ideal.Facts] [Cert.Reference5Ideal.Facts] :
    Cert.algebraic_Kernel5Ideal_Reference5Ideal_pre_finite5 := by
  pair_intro
  · run_from Cert.Kernel5Ideal.Value.run_blocks m g
  · run_from ref_run m' g'
    · unfold refX
      exact (ref_x m hpre c).trans (final6 m c).symm
    · unfold refG
      exact (ref_g m c).trans (final7 m c).symm

end Cert.Proof.Dh

end
-- ==== Proof.Dwout.lean ====
/-
  The gradient of a feed-forward block's second weight: the kernel runs over blocks of 1024 tokens and of 1408 hidden
  units, accumulates the product of the activations with the output's cotangent in a scratch buffer, and scales the
  finished block by one half; the reference scales every cotangent before the product.
-/
module

public import proofs.«01_k».proof.Defs
public import proofs.«01_k».proof.Proof.Gen.Kernel6Ideal.Value
public import proofs.«01_k».proof.Proof.Gen.Reference6Ideal.Read
public import proofs.«01_k».proof.Proof.Common
public import Idealize.ShloMosaic.Lib.Tactic
public import Idealize.ShloMosaic.Lib.Claim

@[expose] public section

set_option maxRecDepth 16384

noncomputable section

open Idealize.ShloMosaic hiding ix1 ix2 ix3
open Idealize.ShloMosaic.TcCoe Idealize.ShloMosaic.ValueIdx Idealize.SL.Sem
open scoped BigOperators

namespace Cert.Proof.Dwout

open Cert.Kernel6Ideal Cert.Kernel6Ideal.Gen

theorem hz : (![0, 0] : Fin 2 → Nat) = fun _ => 0 := funext fun a => by fin_cases a <;> rfl

/-! ## What a point of the grid leaves -/

section Outs
variable {F : FTy → Type} [FloatOps F]
variable (c : Dev nD) (i : grid0.Coords) (arg3 : Memref sig .tc .vmem S1024x1408 .bf16) (harg3 : arg3.IsWhole) (arg4 : Memref sig .tc .vmem S1024x1024 .f32) (harg4 : arg4.IsWhole)
  (arg5 : Memref sig .tc .vmem S1408x1024 .bf16) (harg5 : arg5.IsWhole) (arg6 : Memref sig .tc .vmem S1408x1024 .f32) (harg6 : arg6.IsWhole)
  (x0 : Vec F S1024x1408 .bf16) (x1 : Vec F S1024x1024 .f32) (xs0 : Vec F S1408x1024 .f32)

theorem sout_A (hc0 : cond0_0 i) (hc1 : ¬cond0_1 i) :
    sout0_A_0 c i arg3 harg3 arg4 harg4 arg5 harg5 arg6 harg6 hc0 hc1 x0 x1 = k0_pay2 k0_pay1 x0 x1 := by
  unfold sout0_A_0
  rw [View.read_writes_eq_canon _ _ _ (scover0_A_0 c i arg3 harg3 arg4 harg4 arg5 harg5 arg6 harg6 hc0 hc1 x0 x1)]
  unfold kernelRun0_A
  dsimp only
  sl_unfold_words
  rw [View.canon_cons_unit_zero hz, View.readCov_unit_zero (S := S1408x1024) _ hz]
  simp only [View.readAt_eq_ld, harg3.read_unread, harg4.read_unread, View.ld_unit_zero (S := S1024x1408) hz, View.ld_unit_zero (S := S1024x1024) hz]

theorem sout_B (hc0 : ¬cond0_0 i) (hc1 : ¬cond0_1 i) :
    sout0_B_0 c i arg3 harg3 arg4 harg4 arg5 harg5 arg6 harg6 hc0 hc1 x0 x1 xs0 = k0_pay2 xs0 x0 x1 := by
  unfold sout0_B_0
  rw [View.read_writes_eq_canon _ _ _ (scover0_B_0 c i arg3 harg3 arg4 harg4 arg5 harg5 arg6 harg6 hc0 hc1 x0 x1 xs0)]
  unfold kernelRun0_B
  dsimp only
  sl_unfold_words
  rw [View.canon_unit_zero hz]
  simp only [View.readAt_eq_ld, harg3.read_unread, harg4.read_unread, harg6.read_unread, View.ld_unit_zero (S := S1408x1024) hz, View.ld_unit_zero (S := S1024x1408) hz, View.ld_unit_zero (S := S1024x1024) hz]

theorem sout_C (hc0 : ¬cond0_0 i) (hc1 : cond0_1 i) :
    sout0_C_0 c i arg3 harg3 arg4 harg4 arg5 harg5 arg6 harg6 hc0 hc1 x0 x1 xs0 = k0_pay2 xs0 x0 x1 := by
  unfold sout0_C_0
  rw [View.read_writes_eq_canon _ _ _ (scover0_C_0 c i arg3 harg3 arg4 harg4 arg5 harg5 arg6 harg6 hc0 hc1 x0 x1 xs0)]
  unfold kernelRun0_C
  dsimp only
  sl_unfold_words
  rw [View.canon_unit_zero hz]
  simp only [View.readAt_eq_ld, harg3.read_unread, harg4.read_unread, harg6.read_unread, View.ld_unit_zero (S := S1408x1024) hz, View.ld_unit_zero (S := S1024x1408) hz, View.ld_unit_zero (S := S1024x1024) hz]

theorem out_C (hc0 : ¬cond0_0 i) (hc1 : cond0_1 i) :
    out0_C_2 c i arg3 harg3 arg4 harg4 arg5 harg5 arg6 harg6 hc0 hc1 x0 x1 xs0 = k0_pay3 (k0_pay2 xs0 x0 x1) := by
  unfold out0_C_2
  rw [View.read_writes_eq_canon _ _ _ (cover0_C_2 c i arg3 harg3 arg4 harg4 arg5 harg5 arg6 harg6 hc0 hc1 x0 x1 xs0)]
  unfold kernelRun0_C
  dsimp only
  sl_unfold_words
  rw [View.canon_unit_zero hz, View.readCov_unit_zero (S := S1408x1024) _ hz]
  simp only [View.readAt_eq_ld, harg3.read_unread, harg4.read_unread, harg6.read_unread, View.ld_unit_zero (S := S1408x1024) hz, View.ld_unit_zero (S := S1024x1408) hz, View.ld_unit_zero (S := S1024x1024) hz]

end Outs

/-! ## The payloads at an index -/

theorem pay1_apply (j : S1408x1024.Idx) : k0_pay1 (F := Ideal) j = 0 := Ideal.ofBits_zero_f32

theorem pay2_apply (s : Vec Ideal S1408x1024 .f32) (a : Vec Ideal S1024x1408 .bf16) (b : Vec Ideal S1024x1024 .f32) (r : Fin 1408) (c : Fin 1024) :
    k0_pay2 (F := Ideal) s a b (ix2 r c) = s (ix2 r c) + ∑ k : Fin 1024, a (ix2 k r) * b (ix2 k c) := by
  unfold k0_pay2
  refine (shapeCast_apply _ _ _ (ix2 r c) rfl).trans ?_
  show s (ix2 r c) + FloatOps.matmul (F := Ideal) (rowDims 1408 1024 1024) none (a : FVec Ideal S1024x1408 .bf16) (b : FVec Ideal S1024x1024 .bf16) (constant S1408x1024 .f32 0x00000000#32) (ix2 r c) = _
  rw [matmul_row_apply]
  show _ + (Ideal.ofBits .f32 0x00000000#32 + _) = _
  rw [Ideal.ofBits_zero_f32, zero_add]

theorem pay3_apply (s : Vec Ideal S1408x1024 .f32) (j : S1408x1024.Idx) : k0_pay3 (F := Ideal) s j = ((1 / 2 : ℝ) : EReal) * s j :=
  (mul_comm _ _).trans (congrArg (· * s j) ofBits_half)

/-! ## From blocks to arrays -/

variable (m : (ℓ : Loc nD τ sig) → Buf (Elt Ideal) ℓ)

abbrev ACT (c : Dev nD) : S8192x2816.Idx → EReal := m ((c : Thread nD τ).loc main_arg0)
abbrev DY (c : Dev nD) : S8192x1024.Idx → EReal := m ((c : Thread nD τ).loc main_arg1)

/-- The terms of an entry of the product, one a token. -/
abbrev term (a : S8192x2816.Idx → EReal) (y : S8192x1024.Idx → EReal) (f : Fin 2816) (o : Fin 1024) (R : Fin 8192) : EReal := a (ix2 R f) * y (ix2 R o)

def dw (a : S8192x2816.Idx → EReal) (y : S8192x1024.Idx → EReal) (f : Fin 2816) (o : Fin 1024) : EReal := ((1 / 2 : ℝ) : EReal) * ∑ R, term a y f o R

abbrev res (c : Dev nD) : Buf (Elt Ideal) ((c : Thread nD τ).loc main_v0) := fun i : S2816x1024.Idx => dw (ACT m c) (DY m c) (i 0) (i 1)

abbrev blk0 (c : Dev nD) (t : Fin cfg0.N) : Vec Ideal S1024x1408 .bf16 := iblk m c 0 t
abbrev blk1 (c : Dev nD) (t : Fin cfg0.N) : Vec Ideal S1024x1024 .f32 := iblk m c 1 t

theorem idx_in : ∀ t : Fin cfg0.N, win0_0.index t 0 = t.val % 8 ∧ win0_0.index t 1 = t.val / 8 ∧ win0_1.index t 0 = t.val % 8 ∧ win0_1.index t 1 = 0
    ∧ win0_2.index t 0 = t.val / 8 ∧ win0_2.index t 1 = 0 :=
  (by decide +kernel : ∀ t : Fin grid0.N, _)

theorem lt16 (t : Fin cfg0.N) : t.val < 16 := lt_of_lt_of_eq t.isLt N_0

abbrev gR (t : ℕ) (k : Fin 1024) : Fin 8192 := ⟨t % 8 * 1024 + k.val, by have := k.isLt; omega⟩
abbrev gF (t : ℕ) (f : Fin 1408) : Fin 2816 := ⟨t / 8 % 2 * 1408 + f.val, by have := f.isLt; omega⟩

theorem blk0_at (c : Dev nD) (t : Fin cfg0.N) (k : Fin 1024) (f : Fin 1408) : blk0 m c t (ix2 k f) = ACT m c (ix2 (gR t.val k) (gF t.val f)) := by
  obtain ⟨e0, e1, -⟩ := idx_in t
  have h := lt16 t
  show m ((c : Thread nD τ).loc main_arg0) _ = m ((c : Thread nD τ).loc main_arg0) _
  congr 1
  funext a; apply Fin.ext
  match a with
  | ⟨0, _⟩ => show win0_0.index t 0 * 1024 + 1 * k.val = t.val % 8 * 1024 + k.val; rw [e0]; omega
  | ⟨1, _⟩ => show win0_0.index t 1 * 1408 + 1 * f.val = t.val / 8 % 2 * 1408 + f.val; rw [e1]; omega
theorem blk1_at (c : Dev nD) (t : Fin cfg0.N) (k o : Fin 1024) : blk1 m c t (ix2 k o) = DY m c (ix2 (gR t.val k) o) := by
  obtain ⟨-, -, e0, e1, -⟩ := idx_in t
  show m ((c : Thread nD τ).loc main_arg1) _ = m ((c : Thread nD τ).loc main_arg1) _
  congr 1
  funext a; apply Fin.ext
  match a with
  | ⟨0, _⟩ => show win0_1.index t 0 * 1024 + 1 * k.val = t.val % 8 * 1024 + k.val; rw [e0]; omega
  | ⟨1, _⟩ => show win0_1.index t 1 * 1024 + 1 * o.val = o.val; rw [e1]; omega

/-! ## The accumulator, point by point -/

abbrev prevAcc (c : Dev nD) (t : Fin cfg0.N) : Vec Ideal S1408x1024 .f32 :=
  (outsAt0 m c (t.val - 1) (Nat.lt_of_le_of_lt (Nat.sub_le _ _) t.isLt)).2

theorem acc_start (c : Dev nD) (t : Fin cfg0.N) (h0 : t.val % 8 = 0) :
    (outsAt0 m c t.val t.isLt).2 = k0_pay2 (F := Ideal) (k0_pay1 (F := Ideal)) (blk0 m c t) (blk1 m c t) := by
  rw [outsAt0_A m c t h0 (by omega)]; dsimp only; rw [sout_A]

theorem acc_next (c : Dev nD) (t : Fin cfg0.N) (h0 : ¬t.val % 8 = 0) :
    (outsAt0 m c t.val t.isLt).2 = k0_pay2 (F := Ideal) (prevAcc m c t) (blk0 m c t) (blk1 m c t) := by
  by_cases h1 : t.val % 8 = 7
  · rw [outsAt0_C m c t h0 h1]; dsimp only; rw [sout_C]
  · rw [outsAt0_B m c t h0 h1]; dsimp only; rw [sout_B]

theorem acc_full (c : Dev nD) (t : Fin cfg0.N) (h : t.val % 8 = 7) (f : Fin 1408) (o : Fin 1024) :
    (outsAt0 m c t.val t.isLt).2 (ix2 f o) = ∑ R, term (ACT m c) (DY m c) (gF t.val f) o R :=
  acc_last 8 1024 rfl (by omega) (fun n h => (outsAt0 m c n h).2 (ix2 f o))
    (fun q R => term (ACT m c) (DY m c) ⟨q % 2 * 1408 + f.val, by have := f.isLt; omega⟩ o R)
    (fun n h k => blk0 m c ⟨n, h⟩ (ix2 k f) * blk1 m c ⟨n, h⟩ (ix2 k o))
    (fun n h k hk => by rw [blk0_at, blk1_at])
    (fun n h e => by
      show (outsAt0 m c n h).2 (ix2 f o) = _
      rw [acc_start m c ⟨n, h⟩ e, pay2_apply, pay1_apply, zero_add])
    (fun n h _ e => by
      show (outsAt0 m c n h).2 (ix2 f o) = _
      rw [acc_next m c ⟨n, h⟩ e, pay2_apply])
    t.val t.isLt h

theorem flushed_eq (c : Dev nD) (t : Fin cfg0.N) (ht : (cfg0.win 2).flush t = true) :
    (dats m 0 c).flushed 2 t = ((cfg0.win 2).blk t).view.read (Elt Ideal) (res m c) := by
  obtain ⟨-, -, -, -, e0, e1⟩ := idx_in t
  have h := (flush0_2 t).1 ht
  have h16 := lt16 t
  have ea := acc_next m c t (by omega)
  rw [Value.flushed2, outsAt0_C m c t (by omega) h]
  dsimp only
  rw [out_C]
  funext j
  obtain ⟨f, o, rfl⟩ : ∃ (f : Fin 1408) (o : Fin 1024), j = ix2 f o := ⟨j 0, j 1, by funext a; match a with | ⟨0, _⟩ => rfl | ⟨1, _⟩ => rfl⟩
  refine (pay3_apply _ (ix2 f o)).trans ?_
  show _ = res m c (((cfg0.win 2).blk t).view.emb (ix2 f o))
  have e : ((cfg0.win 2).blk t).view.emb (ix2 f o) = (ix2 (gF t.val f) o : S2816x1024.Idx) := by
    funext a; apply Fin.ext
    match a with
    | ⟨0, _⟩ => show win0_2.index t 0 * 1408 + 1 * f.val = t.val / 8 % 2 * 1408 + f.val; rw [e0]; omega
    | ⟨1, _⟩ => show win0_2.index t 1 * 1024 + 1 * o.val = o.val; rw [e1]; omega
  rw [e]
  exact congrArg (_ * ·) ((congrFun ea.symm _).trans (acc_full m c t h f o))

theorem cover (i : S2816x1024.Idx) : ∃ t : Fin cfg0.N, (cfg0.win 2).flush t = true ∧ i ∈ ((cfg0.win 2).blk t).view.set :=
  (Value.covered_iff2 i).2 (by have h0 : (i 0).val < 2816 := (i 0).isLt; have h1 : (i 1).val < 1024 := (i 1).isLt; omega)

theorem final (c : Dev nD) : (dats m 0 c).arrAt 2 cfg0.N = res m c := (dats m 0 c).arrAt_eq_of_cover 2 (res m c) (flushed_eq m c) cover

/-! ## The reference -/

open Cert.Reference6Ideal.Read in
theorem ref_eq (a : S8192x2816.Idx → EReal) (y : S8192x1024.Idx → EReal) (f : Fin 2816) (o : Fin 1024) :
    val_main_v10 (F := Ideal) a y (ix2 f o) = dw a y f o := by
  unfold dw
  rw [mul_sum_nonneg _ (by norm_num)]
  show val_main_v8 (F := Ideal) a y (ix2 f o) = _
  rw [val_main_v8_apply, val_main_v7_apply]
  refine Finset.sum_congr rfl fun R _ => ?_
  have e1 : ridx_main_v7 (idx_main_v8 (ix2 f o)) R = ix2 R f := by
    funext a; apply Fin.ext
    match a with
    | ⟨0, _⟩ => rfl
    | ⟨1, _⟩ => rfl
  have e2 : lidx_main_v7 (idx_main_v8 (ix2 f o)) R = ix2 R o := by
    funext a; apply Fin.ext
    match a with
    | ⟨0, _⟩ => rfl
    | ⟨1, _⟩ => rfl
  rw [e1, e2]
  show (val_main_v5 (F := Ideal) (ix2 R o) * y (ix2 R o)) * a (ix2 R f) = _
  rw [val_main_v5_apply]
  show (Ideal.ofBits .f32 0x3F000000#32 * y (ix2 R o)) * a (ix2 R f) = _
  rw [ofBits_half, mul_assoc, mul_comm (y _)]

theorem ref_arr (c : Dev nD) : Cert.Reference6Ideal.Read.val_main_v10 (F := Ideal) (ACT m c) (DY m c) = res m c := by
  funext i
  obtain ⟨f, o, rfl⟩ : ∃ (f : Fin 2816) (o : Fin 1024), i = ix2 f o := ⟨i 0, i 1, by funext a; match a with | ⟨0, _⟩ => rfl | ⟨1, _⟩ => rfl⟩
  exact ref_eq _ _ f o

theorem algebraic [Cert.Kernel6Ideal.Facts] [Cert.Reference6Ideal.Facts] : Cert.algebraic_Kernel6Ideal_Reference6Ideal := by
  pair_intro
  · run_from Cert.Kernel6Ideal.Value.run_blocks m g
  · run_from Cert.Reference6Ideal.Value.run m' g'
    rw [Cert.Reference6Ideal.Read.val_main_v10_eq]
    exact (ref_arr m c).trans (final m c).symm

end Cert.Proof.Dwout

end
-- ==== Proof.Dwin.lean ====
/-
  The gradient of one half of a feed-forward block's first weight: the product of the normalised rows with that half's
  cotangent, accumulated over blocks of 1024 tokens.
-/
module

public import proofs.«01_k».proof.Defs
public import proofs.«01_k».proof.Proof.Gen.Kernel7Ideal.Value
public import proofs.«01_k».proof.Proof.Gen.Reference7Ideal.Read
public import proofs.«01_k».proof.Proof.Common
public import Idealize.ShloMosaic.Lib.Tactic
public import Idealize.ShloMosaic.Lib.Claim

@[expose] public section

set_option maxRecDepth 16384

noncomputable section

open Idealize.ShloMosaic hiding ix1 ix2 ix3
open Idealize.ShloMosaic.TcCoe Idealize.ShloMosaic.ValueIdx Idealize.SL.Sem
open scoped BigOperators

namespace Cert.Proof.Dwin

open Cert.Kernel7Ideal Cert.Kernel7Ideal.Gen

theorem hz : (![0, 0] : Fin 2 → Nat) = fun _ => 0 := funext fun a => by fin_cases a <;> rfl

/-! ## What a point of the grid leaves -/

section Outs
variable {F : FTy → Type} [FloatOps F]
variable (c : Dev nD) (i : grid0.Coords) (arg3 : Memref sig .tc .vmem S1024x1024 .bf16) (harg3 : arg3.IsWhole) (arg4 : Memref sig .tc .vmem S1024x1408 .bf16) (harg4 : arg4.IsWhole)
  (arg5 : Memref sig .tc .vmem S1024x1408 .bf16) (harg5 : arg5.IsWhole) (arg6 : Memref sig .tc .vmem S1024x1408 .f32) (harg6 : arg6.IsWhole)
  (x0 : Vec F S1024x1024 .bf16) (x1 : Vec F S1024x1408 .bf16) (xs0 : Vec F S1024x1408 .f32)

theorem sout_A (hc0 : cond0_0 i) (hc1 : ¬cond0_1 i) :
    sout0_A_0 c i arg3 harg3 arg4 harg4 arg5 harg5 arg6 harg6 hc0 hc1 x0 x1 = k0_pay2 k0_pay1 x0 x1 := by
  unfold sout0_A_0
  rw [View.read_writes_eq_canon _ _ _ (scover0_A_0 c i arg3 harg3 arg4 harg4 arg5 harg5 arg6 harg6 hc0 hc1 x0 x1)]
  unfold kernelRun0_A
  dsimp only
  sl_unfold_words
  rw [View.canon_cons_unit_zero hz, View.readCov_unit_zero (S := S1024x1408) _ hz]
  simp only [View.readAt_eq_ld, harg3.read_unread, harg4.read_unread, View.ld_unit_zero (S := S1024x1024) hz, View.ld_unit_zero (S := S1024x1408) hz]

theorem sout_B (hc0 : ¬cond0_0 i) (hc1 : ¬cond0_1 i) :
    sout0_B_0 c i arg3 harg3 arg4 harg4 arg5 harg5 arg6 harg6 hc0 hc1 x0 x1 xs0 = k0_pay2 xs0 x0 x1 := by
  unfold sout0_B_0
  rw [View.read_writes_eq_canon _ _ _ (scover0_B_0 c i arg3 harg3 arg4 harg4 arg5 harg5 arg6 harg6 hc0 hc1 x0 x1 xs0)]
  unfold kernelRun0_B
  dsimp only
  sl_unfold_words
  rw [View.canon_unit_zero hz]
  simp only [View.readAt_eq_ld, harg3.read_unread, harg4.read_unread, harg6.read_unread, View.ld_unit_zero (S := S1024x1024) hz, View.ld_unit_zero (S := S1024x1408) hz]

theorem sout_C (hc0 : ¬cond0_0 i) (hc1 : cond0_1 i) :
    sout0_C_0 c i arg3 harg3 arg4 harg4 arg5 harg5 arg6 harg6 hc0 hc1 x0 x1 xs0 = k0_pay2 xs0 x0 x1 := by
  unfold sout0_C_0
  rw [View.read_writes_eq_canon _ _ _ (scover0_C_0 c i arg3 harg3 arg4 harg4 arg5 harg5 arg6 harg6 hc0 hc1 x0 x1 xs0)]
  unfold kernelRun0_C
  dsimp only
  sl_unfold_words
  rw [View.canon_unit_zero hz]
  simp only [View.readAt_eq_ld, harg3.read_unread, harg4.read_unread, harg6.read_unread, View.ld_unit_zero (S := S1024x1024) hz, View.ld_unit_zero (S := S1024x1408) hz]

theorem out_C (hc0 : ¬cond0_0 i) (hc1 : cond0_1 i) :
    out0_C_2 c i arg3 harg3 arg4 harg4 arg5 harg5 arg6 harg6 hc0 hc1 x0 x1 xs0 = k0_pay3 (k0_pay2 xs0 x0 x1) := by
  unfold out0_C_2
  rw [View.read_writes_eq_canon _ _ _ (cover0_C_2 c i arg3 harg3 arg4 harg4 arg5 harg5 arg6 harg6 hc0 hc1 x0 x1 xs0)]
  unfold kernelRun0_C
  dsimp only
  sl_unfold_words
  rw [View.canon_unit_zero hz, View.readCov_unit_zero (S := S1024x1408) _ hz]
  simp only [View.readAt_eq_ld, harg3.read_unread, harg4.read_unread, harg6.read_unread, View.ld_unit_zero (S := S1024x1024) hz, View.ld_unit_zero (S := S1024x1408) hz]

end Outs

/-! ## The payloads at an index -/

theorem pay1_apply (j : S1024x1408.Idx) : k0_pay1 (F := Ideal) j = 0 := Ideal.ofBits_zero_f32

theorem pay2_apply (s : Vec Ideal S1024x1408 .f32) (a : Vec Ideal S1024x1024 .bf16) (b : Vec Ideal S1024x1408 .bf16) (r : Fin 1024) (o : Fin 1408) :
    k0_pay2 (F := Ideal) s a b (ix2 r o) = s (ix2 r o) + ∑ k : Fin 1024, a (ix2 k r) * b (ix2 k o) := by
  unfold k0_pay2
  refine (shapeCast_apply _ _ _ (ix2 r o) rfl).trans ?_
  show s (ix2 r o) + FloatOps.matmul (F := Ideal) (rowDims 1024 1024 1408) none (a : FVec Ideal S1024x1024 .bf16) (b : FVec Ideal S1024x1408 .bf16) (constant S1024x1408 .f32 0x00000000#32) (ix2 r o) = _
  rw [matmul_row_apply]
  show _ + (Ideal.ofBits .f32 0x00000000#32 + _) = _
  rw [Ideal.ofBits_zero_f32, zero_add]

/-! ## From blocks to arrays -/

variable (m : (ℓ : Loc nD τ sig) → Buf (Elt Ideal) ℓ)

abbrev A (c : Dev nD) : S8192x1024.Idx → EReal := m ((c : Thread nD τ).loc main_arg0)
abbrev B (c : Dev nD) : S8192x2816.Idx → EReal := m ((c : Thread nD τ).loc main_arg1)

/-- The terms of an entry of the product. -/
abbrev term (a : S8192x1024.Idx → EReal) (b : S8192x2816.Idx → EReal) (r : Fin 1024) (o : Fin 2816) (k : Fin 8192) : EReal := a (ix2 k r) * b (ix2 k o)

def prod (a : S8192x1024.Idx → EReal) (b : S8192x2816.Idx → EReal) (r : Fin 1024) (o : Fin 2816) : EReal := ∑ k, term a b r o k

abbrev res (c : Dev nD) : Buf (Elt Ideal) ((c : Thread nD τ).loc main_v0) := fun i : S1024x2816.Idx => prod (A m c) (B m c) (i 0) (i 1)

abbrev blk0 (c : Dev nD) (t : Fin cfg0.N) : Vec Ideal S1024x1024 .bf16 := iblk m c 0 t
abbrev blk1 (c : Dev nD) (t : Fin cfg0.N) : Vec Ideal S1024x1408 .bf16 := iblk m c 1 t

theorem idx_in : ∀ t : Fin cfg0.N, win0_0.index t 0 = t.val % 8 ∧ win0_0.index t 1 = 0 ∧ win0_1.index t 0 = t.val % 8 ∧ win0_1.index t 1 = t.val / 8 % 2
    ∧ win0_2.index t 0 = 0 ∧ win0_2.index t 1 = t.val / 8 % 2 :=
  (by decide +kernel : ∀ t : Fin grid0.N, _)

theorem ltN (t : Fin cfg0.N) : t.val < 16 := lt_of_lt_of_eq t.isLt N_0

abbrev gM (t : ℕ) (x : Fin 1024) : Fin 1024 := ⟨x.val, by have := x.isLt; omega⟩
abbrev gK (t : ℕ) (x : Fin 1024) : Fin 8192 := ⟨t % 8 * 1024 + x.val, by have := x.isLt; omega⟩
abbrev gN (t : ℕ) (x : Fin 1408) : Fin 2816 := ⟨t / 8 % 2 * 1408 + x.val, by have := x.isLt; omega⟩

theorem blk0_at (c : Dev nD) (t : Fin cfg0.N) (k : Fin 1024) (r : Fin 1024) :
    blk0 m c t (ix2 k r) = A m c (ix2 (gK t.val k) (gM t.val r)) := by
  obtain ⟨e0, e1, -⟩ := idx_in t
  have h := ltN t
  show m ((c : Thread nD τ).loc main_arg0) _ = m ((c : Thread nD τ).loc main_arg0) _
  congr 1
  funext a; apply Fin.ext
  match a with
  | ⟨0, _⟩ => show win0_0.index t 0 * 1024 + 1 * k.val = t.val % 8 * 1024 + k.val; rw [e0]; omega
  | ⟨1, _⟩ => show win0_0.index t 1 * 1024 + 1 * r.val = r.val; rw [e1]; omega

theorem blk1_at (c : Dev nD) (t : Fin cfg0.N) (k : Fin 1024) (o : Fin 1408) :
    blk1 m c t (ix2 k o) = B m c (ix2 (gK t.val k) (gN t.val o)) := by
  obtain ⟨-, -, e0, e1, -⟩ := idx_in t
  have h := ltN t
  show m ((c : Thread nD τ).loc main_arg1) _ = m ((c : Thread nD τ).loc main_arg1) _
  congr 1
  funext a; apply Fin.ext
  match a with
  | ⟨0, _⟩ => show win0_1.index t 0 * 1024 + 1 * k.val = t.val % 8 * 1024 + k.val; rw [e0]; omega
  | ⟨1, _⟩ => show win0_1.index t 1 * 1408 + 1 * o.val = t.val / 8 % 2 * 1408 + o.val; rw [e1]; omega

/-! ## The accumulator, point by point -/

abbrev prevAcc (c : Dev nD) (t : Fin cfg0.N) : Vec Ideal S1024x1408 .f32 :=
  (outsAt0 m c (t.val - 1) (Nat.lt_of_le_of_lt (Nat.sub_le _ _) t.isLt)).2

theorem acc_start (c : Dev nD) (t : Fin cfg0.N) (h0 : t.val % 8 = 0) :
    (outsAt0 m c t.val t.isLt).2 = k0_pay2 (F := Ideal) (k0_pay1 (F := Ideal)) (blk0 m c t) (blk1 m c t) := by
  rw [outsAt0_A m c t h0 (by omega)]; dsimp only; rw [sout_A]

theorem acc_next (c : Dev nD) (t : Fin cfg0.N) (h0 : ¬t.val % 8 = 0) :
    (outsAt0 m c t.val t.isLt).2 = k0_pay2 (F := Ideal) (prevAcc m c t) (blk0 m c t) (blk1 m c t) := by
  by_cases h1 : t.val % 8 = 7
  · rw [outsAt0_C m c t h0 h1]; dsimp only; rw [sout_C]
  · rw [outsAt0_B m c t h0 h1]; dsimp only; rw [sout_B]

theorem acc_full (c : Dev nD) (t : Fin cfg0.N) (h : t.val % 8 = 7) (r : Fin 1024) (o : Fin 1408) :
    (outsAt0 m c t.val t.isLt).2 (ix2 r o) = prod (A m c) (B m c) (gM t.val r) (gN t.val o) := by
  refine (acc_last 8 1024 rfl (by omega) (fun n h => (outsAt0 m c n h).2 (ix2 r o))
    (fun q => term (A m c) (B m c) ⟨r.val, by have := r.isLt; omega⟩ ⟨q % 2 * 1408 + o.val, by have := o.isLt; omega⟩)
    (fun n h k => blk0 m c ⟨n, h⟩ (ix2 k r) * blk1 m c ⟨n, h⟩ (ix2 k o))
    (fun n h k hk => ?_)
    (fun n h e => ?_)
    (fun n h _ e => ?_)
    t.val t.isLt h).trans ?_
  · rw [blk0_at, blk1_at]
  · show (outsAt0 m c n h).2 (ix2 r o) = _
    rw [acc_start m c ⟨n, h⟩ e, pay2_apply, pay1_apply, zero_add]
  · show (outsAt0 m c n h).2 (ix2 r o) = _
    rw [acc_next m c ⟨n, h⟩ e, pay2_apply]
  · rfl

theorem flushed_eq (c : Dev nD) (t : Fin cfg0.N) (ht : (cfg0.win 2).flush t = true) :
    (dats m 0 c).flushed 2 t = ((cfg0.win 2).blk t).view.read (Elt Ideal) (res m c) := by
  obtain ⟨-, -, -, -, e0, e1⟩ := idx_in t
  have h := (flush0_2 t).1 ht
  have hN := ltN t
  have ea := acc_next m c t (by omega)
  rw [Value.flushed2, outsAt0_C m c t (by omega) h]
  dsimp only
  rw [out_C]
  funext j
  obtain ⟨r, o, rfl⟩ : ∃ (r : Fin 1024) (o : Fin 1408), j = ix2 r o := ⟨j 0, j 1, by funext a; match a with | ⟨0, _⟩ => rfl | ⟨1, _⟩ => rfl⟩
  show _ = res m c (((cfg0.win 2).blk t).view.emb (ix2 r o))
  have e : ((cfg0.win 2).blk t).view.emb (ix2 r o) = (ix2 (gM t.val r) (gN t.val o) : S1024x2816.Idx) := by
    funext a; apply Fin.ext
    match a with
    | ⟨0, _⟩ => show win0_2.index t 0 * 1024 + 1 * r.val = r.val; rw [e0]; omega
    | ⟨1, _⟩ => show win0_2.index t 1 * 1408 + 1 * o.val = t.val / 8 % 2 * 1408 + o.val; rw [e1]; omega
  rw [e]
  exact ((congrFun ea.symm _).trans (acc_full m c t h r o))

theorem cover (i : S1024x2816.Idx) : ∃ t : Fin cfg0.N, (cfg0.win 2).flush t = true ∧ i ∈ ((cfg0.win 2).blk t).view.set :=
  (Value.covered_iff2 i).2 (by have h0 : (i 0).val < 1024 := (i 0).isLt; have h1 : (i 1).val < 2816 := (i 1).isLt; omega)

theorem final (c : Dev nD) : (dats m 0 c).arrAt 2 cfg0.N = res m c := (dats m 0 c).arrAt_eq_of_cover 2 (res m c) (flushed_eq m c) cover

/-! ## The reference -/

open Cert.Reference7Ideal.Read in
theorem ref_eq (a : S8192x1024.Idx → EReal) (b : S8192x2816.Idx → EReal) (r : Fin 1024) (o : Fin 2816) :
    val_main_v7 (F := Ideal) a b (ix2 r o) = prod a b r o := by
  show val_main_v5 (F := Ideal) a b (ix2 r o) = _
  rw [val_main_v5_apply, val_main_v4_apply]
  refine Finset.sum_congr rfl fun k _ => ?_
  have e1 : lidx_main_v4 (idx_main_v5 (ix2 r o)) k = ix2 k o := by
    funext a; apply Fin.ext
    match a with
    | ⟨0, _⟩ => rfl
    | ⟨1, _⟩ => rfl
  have e2 : ridx_main_v4 (idx_main_v5 (ix2 r o)) k = ix2 k r := by
    funext a; apply Fin.ext
    match a with
    | ⟨0, _⟩ => rfl
    | ⟨1, _⟩ => rfl
  rw [e1, e2]
  exact mul_comm (b (ix2 k o)) (a (ix2 k r))

theorem ref_arr (c : Dev nD) : Cert.Reference7Ideal.Read.val_main_v7 (F := Ideal) (A m c) (B m c) = res m c := by
  funext i
  obtain ⟨r, o, rfl⟩ : ∃ (r : Fin 1024) (o : Fin 2816), i = ix2 r o := ⟨i 0, i 1, by funext a; match a with | ⟨0, _⟩ => rfl | ⟨1, _⟩ => rfl⟩
  exact ref_eq _ _ r o

theorem algebraic [Cert.Kernel7Ideal.Facts] [Cert.Reference7Ideal.Facts] : Cert.algebraic_Kernel7Ideal_Reference7Ideal := by
  pair_intro
  · run_from Cert.Kernel7Ideal.Value.run_blocks m g
  · run_from Cert.Reference7Ideal.Value.run m' g'
    exact (Cert.Reference7Ideal.Read.val_main_v7_eq (F := Ideal) (A m c) (B m c)).trans ((ref_arr m c).trans (final m c).symm)

end Cert.Proof.Dwin

end
-- ==== Proof.Dwp.lean ====
/-
  The gradient of the mixer's input weight: the product of the normalised rows with the projection's cotangent,
  accumulated over blocks of 1024 tokens.
-/
module

public import proofs.«01_k».proof.Defs
public import proofs.«01_k».proof.Proof.Gen.Kernel8Ideal.Value
public import proofs.«01_k».proof.Proof.Gen.Reference8Ideal.Read
public import proofs.«01_k».proof.Proof.Common
public import Idealize.ShloMosaic.Lib.Tactic
public import Idealize.ShloMosaic.Lib.Claim

@[expose] public section

set_option maxRecDepth 16384

noncomputable section

open Idealize.ShloMosaic hiding ix1 ix2 ix3
open Idealize.ShloMosaic.TcCoe Idealize.ShloMosaic.ValueIdx Idealize.SL.Sem
open scoped BigOperators

namespace Cert.Proof.Dwp

open Cert.Kernel8Ideal Cert.Kernel8Ideal.Gen

theorem hz : (![0, 0] : Fin 2 → Nat) = fun _ => 0 := funext fun a => by fin_cases a <;> rfl

/-! ## What a point of the grid leaves -/

section Outs
variable {F : FTy → Type} [FloatOps F]
variable (c : Dev nD) (i : grid0.Coords) (arg3 : Memref sig .tc .vmem S1024x1024 .bf16) (harg3 : arg3.IsWhole) (arg4 : Memref sig .tc .vmem S1024x1024 .bf16) (harg4 : arg4.IsWhole)
  (arg5 : Memref sig .tc .vmem S1024x1024 .bf16) (harg5 : arg5.IsWhole) (arg6 : Memref sig .tc .vmem S1024x1024 .f32) (harg6 : arg6.IsWhole)
  (x0 : Vec F S1024x1024 .bf16) (x1 : Vec F S1024x1024 .bf16) (xs0 : Vec F S1024x1024 .f32)

theorem sout_A (hc0 : cond0_0 i) (hc1 : ¬cond0_1 i) :
    sout0_A_0 c i arg3 harg3 arg4 harg4 arg5 harg5 arg6 harg6 hc0 hc1 x0 x1 = k0_pay2 k0_pay1 x0 x1 := by
  unfold sout0_A_0
  rw [View.read_writes_eq_canon _ _ _ (scover0_A_0 c i arg3 harg3 arg4 harg4 arg5 harg5 arg6 harg6 hc0 hc1 x0 x1)]
  unfold kernelRun0_A
  dsimp only
  sl_unfold_words
  rw [View.canon_cons_unit_zero hz, View.readCov_unit_zero (S := S1024x1024) _ hz]
  simp only [View.readAt_eq_ld, harg3.read_unread, harg4.read_unread, View.ld_unit_zero (S := S1024x1024) hz]

theorem sout_B (hc0 : ¬cond0_0 i) (hc1 : ¬cond0_1 i) :
    sout0_B_0 c i arg3 harg3 arg4 harg4 arg5 harg5 arg6 harg6 hc0 hc1 x0 x1 xs0 = k0_pay2 xs0 x0 x1 := by
  unfold sout0_B_0
  rw [View.read_writes_eq_canon _ _ _ (scover0_B_0 c i arg3 harg3 arg4 harg4 arg5 harg5 arg6 harg6 hc0 hc1 x0 x1 xs0)]
  unfold kernelRun0_B
  dsimp only
  sl_unfold_words
  rw [View.canon_unit_zero hz]
  simp only [View.readAt_eq_ld, harg3.read_unread, harg4.read_unread, harg6.read_unread, View.ld_unit_zero (S := S1024x1024) hz]

theorem sout_C (hc0 : ¬cond0_0 i) (hc1 : cond0_1 i) :
    sout0_C_0 c i arg3 harg3 arg4 harg4 arg5 harg5 arg6 harg6 hc0 hc1 x0 x1 xs0 = k0_pay2 xs0 x0 x1 := by
  unfold sout0_C_0
  rw [View.read_writes_eq_canon _ _ _ (scover0_C_0 c i arg3 harg3 arg4 harg4 arg5 harg5 arg6 harg6 hc0 hc1 x0 x1 xs0)]
  unfold kernelRun0_C
  dsimp only
  sl_unfold_words
  rw [View.canon_unit_zero hz]
  simp only [View.readAt_eq_ld, harg3.read_unread, harg4.read_unread, harg6.read_unread, View.ld_unit_zero (S := S1024x1024) hz]

theorem out_C (hc0 : ¬cond0_0 i) (hc1 : cond0_1 i) :
    out0_C_2 c i arg3 harg3 arg4 harg4 arg5 harg5 arg6 harg6 hc0 hc1 x0 x1 xs0 = k0_pay3 (k0_pay2 xs0 x0 x1) := by
  unfold out0_C_2
  rw [View.read_writes_eq_canon _ _ _ (cover0_C_2 c i arg3 harg3 arg4 harg4 arg5 harg5 arg6 harg6 hc0 hc1 x0 x1 xs0)]
  unfold kernelRun0_C
  dsimp only
  sl_unfold_words
  rw [View.canon_unit_zero hz, View.readCov_unit_zero (S := S1024x1024) _ hz]
  simp only [View.readAt_eq_ld, harg3.read_unread, harg4.read_unread, harg6.read_unread, View.ld_unit_zero (S := S1024x1024) hz]

end Outs

/-! ## The payloads at an index -/

theorem pay1_apply (j : S1024x1024.Idx) : k0_pay1 (F := Ideal) j = 0 := Ideal.ofBits_zero_f32

theorem pay2_apply (s : Vec Ideal S1024x1024 .f32) (a : Vec Ideal S1024x1024 .bf16) (b : Vec Ideal S1024x1024 .bf16) (r : Fin 1024) (o : Fin 1024) :
    k0_pay2 (F := Ideal) s a b (ix2 r o) = s (ix2 r o) + ∑ k : Fin 1024, a (ix2 k r) * b (ix2 k o) := by
  unfold k0_pay2
  refine (shapeCast_apply _ _ _ (ix2 r o) rfl).trans ?_
  show s (ix2 r o) + FloatOps.matmul (F := Ideal) (rowDims 1024 1024 1024) none (a : FVec Ideal S1024x1024 .bf16) (b : FVec Ideal S1024x1024 .bf16) (constant S1024x1024 .f32 0x00000000#32) (ix2 r o) = _
  rw [matmul_row_apply]
  show _ + (Ideal.ofBits .f32 0x00000000#32 + _) = _
  rw [Ideal.ofBits_zero_f32, zero_add]

/-! ## From blocks to arrays -/

variable (m : (ℓ : Loc nD τ sig) → Buf (Elt Ideal) ℓ)

abbrev A (c : Dev nD) : S8192x1024.Idx → EReal := m ((c : Thread nD τ).loc main_arg0)
abbrev B (c : Dev nD) : S8192x7168.Idx → EReal := m ((c : Thread nD τ).loc main_arg1)

/-- The terms of an entry of the product. -/
abbrev term (a : S8192x1024.Idx → EReal) (b : S8192x7168.Idx → EReal) (r : Fin 1024) (o : Fin 7168) (k : Fin 8192) : EReal := a (ix2 k r) * b (ix2 k o)

def prod (a : S8192x1024.Idx → EReal) (b : S8192x7168.Idx → EReal) (r : Fin 1024) (o : Fin 7168) : EReal := ∑ k, term a b r o k

abbrev res (c : Dev nD) : Buf (Elt Ideal) ((c : Thread nD τ).loc main_v0) := fun i : S1024x7168.Idx => prod (A m c) (B m c) (i 0) (i 1)

abbrev blk0 (c : Dev nD) (t : Fin cfg0.N) : Vec Ideal S1024x1024 .bf16 := iblk m c 0 t
abbrev blk1 (c : Dev nD) (t : Fin cfg0.N) : Vec Ideal S1024x1024 .bf16 := iblk m c 1 t

theorem idx_in : ∀ t : Fin cfg0.N, win0_0.index t 0 = t.val % 8 ∧ win0_0.index t 1 = 0 ∧ win0_1.index t 0 = t.val % 8 ∧ win0_1.index t 1 = t.val / 8 % 7
    ∧ win0_2.index t 0 = 0 ∧ win0_2.index t 1 = t.val / 8 % 7 :=
  (by decide +kernel : ∀ t : Fin grid0.N, _)

theorem ltN (t : Fin cfg0.N) : t.val < 56 := lt_of_lt_of_eq t.isLt N_0

abbrev gM (t : ℕ) (x : Fin 1024) : Fin 1024 := ⟨x.val, by have := x.isLt; omega⟩
abbrev gK (t : ℕ) (x : Fin 1024) : Fin 8192 := ⟨t % 8 * 1024 + x.val, by have := x.isLt; omega⟩
abbrev gN (t : ℕ) (x : Fin 1024) : Fin 7168 := ⟨t / 8 % 7 * 1024 + x.val, by have := x.isLt; omega⟩

theorem blk0_at (c : Dev nD) (t : Fin cfg0.N) (k : Fin 1024) (r : Fin 1024) :
    blk0 m c t (ix2 k r) = A m c (ix2 (gK t.val k) (gM t.val r)) := by
  obtain ⟨e0, e1, -⟩ := idx_in t
  have h := ltN t
  show m ((c : Thread nD τ).loc main_arg0) _ = m ((c : Thread nD τ).loc main_arg0) _
  congr 1
  funext a; apply Fin.ext
  match a with
  | ⟨0, _⟩ => show win0_0.index t 0 * 1024 + 1 * k.val = t.val % 8 * 1024 + k.val; rw [e0]; omega
  | ⟨1, _⟩ => show win0_0.index t 1 * 1024 + 1 * r.val = r.val; rw [e1]; omega

theorem blk1_at (c : Dev nD) (t : Fin cfg0.N) (k : Fin 1024) (o : Fin 1024) :
    blk1 m c t (ix2 k o) = B m c (ix2 (gK t.val k) (gN t.val o)) := by
  obtain ⟨-, -, e0, e1, -⟩ := idx_in t
  have h := ltN t
  show m ((c : Thread nD τ).loc main_arg1) _ = m ((c : Thread nD τ).loc main_arg1) _
  congr 1
  funext a; apply Fin.ext
  match a with
  | ⟨0, _⟩ => show win0_1.index t 0 * 1024 + 1 * k.val = t.val % 8 * 1024 + k.val; rw [e0]; omega
  | ⟨1, _⟩ => show win0_1.index t 1 * 1024 + 1 * o.val = t.val / 8 % 7 * 1024 + o.val; rw [e1]; omega

/-! ## The accumulator, point by point -/

abbrev prevAcc (c : Dev nD) (t : Fin cfg0.N) : Vec Ideal S1024x1024 .f32 :=
  (outsAt0 m c (t.val - 1) (Nat.lt_of_le_of_lt (Nat.sub_le _ _) t.isLt)).2

theorem acc_start (c : Dev nD) (t : Fin cfg0.N) (h0 : t.val % 8 = 0) :
    (outsAt0 m c t.val t.isLt).2 = k0_pay2 (F := Ideal) (k0_pay1 (F := Ideal)) (blk0 m c t) (blk1 m c t) := by
  rw [outsAt0_A m c t h0 (by omega)]; dsimp only; rw [sout_A]

theorem acc_next (c : Dev nD) (t : Fin cfg0.N) (h0 : ¬t.val % 8 = 0) :
    (outsAt0 m c t.val t.isLt).2 = k0_pay2 (F := Ideal) (prevAcc m c t) (blk0 m c t) (blk1 m c t) := by
  by_cases h1 : t.val % 8 = 7
  · rw [outsAt0_C m c t h0 h1]; dsimp only; rw [sout_C]
  · rw [outsAt0_B m c t h0 h1]; dsimp only; rw [sout_B]

theorem acc_full (c : Dev nD) (t : Fin cfg0.N) (h : t.val % 8 = 7) (r : Fin 1024) (o : Fin 1024) :
    (outsAt0 m c t.val t.isLt).2 (ix2 r o) = prod (A m c) (B m c) (gM t.val r) (gN t.val o) := by
  refine (acc_last 8 1024 rfl (by omega) (fun n h => (outsAt0 m c n h).2 (ix2 r o))
    (fun q => term (A m c) (B m c) ⟨r.val, by have := r.isLt; omega⟩ ⟨q % 7 * 1024 + o.val, by have := o.isLt; omega⟩)
    (fun n h k => blk0 m c ⟨n, h⟩ (ix2 k r) * blk1 m c ⟨n, h⟩ (ix2 k o))
    (fun n h k hk => ?_)
    (fun n h e => ?_)
    (fun n h _ e => ?_)
    t.val t.isLt h).trans ?_
  · rw [blk0_at, blk1_at]
  · show (outsAt0 m c n h).2 (ix2 r o) = _
    rw [acc_start m c ⟨n, h⟩ e, pay2_apply, pay1_apply, zero_add]
  · show (outsAt0 m c n h).2 (ix2 r o) = _
    rw [acc_next m c ⟨n, h⟩ e, pay2_apply]
  · rfl

theorem flushed_eq (c : Dev nD) (t : Fin cfg0.N) (ht : (cfg0.win 2).flush t = true) :
    (dats m 0 c).flushed 2 t = ((cfg0.win 2).blk t).view.read (Elt Ideal) (res m c) := by
  obtain ⟨-, -, -, -, e0, e1⟩ := idx_in t
  have h := (flush0_2 t).1 ht
  have hN := ltN t
  have ea := acc_next m c t (by omega)
  rw [Value.flushed2, outsAt0_C m c t (by omega) h]
  dsimp only
  rw [out_C]
  funext j
  obtain ⟨r, o, rfl⟩ : ∃ (r : Fin 1024) (o : Fin 1024), j = ix2 r o := ⟨j 0, j 1, by funext a; match a with | ⟨0, _⟩ => rfl | ⟨1, _⟩ => rfl⟩
  show _ = res m c (((cfg0.win 2).blk t).view.emb (ix2 r o))
  have e : ((cfg0.win 2).blk t).view.emb (ix2 r o) = (ix2 (gM t.val r) (gN t.val o) : S1024x7168.Idx) := by
    funext a; apply Fin.ext
    match a with
    | ⟨0, _⟩ => show win0_2.index t 0 * 1024 + 1 * r.val = r.val; rw [e0]; omega
    | ⟨1, _⟩ => show win0_2.index t 1 * 1024 + 1 * o.val = t.val / 8 % 7 * 1024 + o.val; rw [e1]; omega
  rw [e]
  exact ((congrFun ea.symm _).trans (acc_full m c t h r o))

theorem cover (i : S1024x7168.Idx) : ∃ t : Fin cfg0.N, (cfg0.win 2).flush t = true ∧ i ∈ ((cfg0.win 2).blk t).view.set :=
  (Value.covered_iff2 i).2 (by have h0 : (i 0).val < 1024 := (i 0).isLt; have h1 : (i 1).val < 7168 := (i 1).isLt; omega)

theorem final (c : Dev nD) : (dats m 0 c).arrAt 2 cfg0.N = res m c := (dats m 0 c).arrAt_eq_of_cover 2 (res m c) (flushed_eq m c) cover

/-! ## The reference -/

open Cert.Reference8Ideal.Read in
theorem ref_eq (a : S8192x1024.Idx → EReal) (b : S8192x7168.Idx → EReal) (r : Fin 1024) (o : Fin 7168) :
    val_main_v7 (F := Ideal) a b (ix2 r o) = prod a b r o := by
  show val_main_v5 (F := Ideal) a b (ix2 r o) = _
  rw [val_main_v5_apply, val_main_v4_apply]
  refine Finset.sum_congr rfl fun k _ => ?_
  have e1 : lidx_main_v4 (idx_main_v5 (ix2 r o)) k = ix2 k o := by
    funext a; apply Fin.ext
    match a with
    | ⟨0, _⟩ => rfl
    | ⟨1, _⟩ => rfl
  have e2 : ridx_main_v4 (idx_main_v5 (ix2 r o)) k = ix2 k r := by
    funext a; apply Fin.ext
    match a with
    | ⟨0, _⟩ => rfl
    | ⟨1, _⟩ => rfl
  rw [e1, e2]
  exact mul_comm (b (ix2 k o)) (a (ix2 k r))

theorem ref_arr (c : Dev nD) : Cert.Reference8Ideal.Read.val_main_v7 (F := Ideal) (A m c) (B m c) = res m c := by
  funext i
  obtain ⟨r, o, rfl⟩ : ∃ (r : Fin 1024) (o : Fin 7168), i = ix2 r o := ⟨i 0, i 1, by funext a; match a with | ⟨0, _⟩ => rfl | ⟨1, _⟩ => rfl⟩
  exact ref_eq _ _ r o

theorem algebraic [Cert.Kernel8Ideal.Facts] [Cert.Reference8Ideal.Facts] : Cert.algebraic_Kernel8Ideal_Reference8Ideal := by
  pair_intro
  · run_from Cert.Kernel8Ideal.Value.run_blocks m g
  · run_from Cert.Reference8Ideal.Value.run m' g'
    exact (Cert.Reference8Ideal.Read.val_main_v7_eq (F := Ideal) (A m c) (B m c)).trans ((ref_arr m c).trans (final m c).symm)

end Cert.Proof.Dwp

end
-- ==== Proof.Du.lean ====
/-
  The cotangent of the mixer's normalised input: the product of the projection's cotangent with the transposed weight,
  accumulated over blocks of 1024 columns.
-/
module

public import proofs.«01_k».proof.Defs
public import proofs.«01_k».proof.Proof.Gen.Kernel9Ideal.Value
public import proofs.«01_k».proof.Proof.Gen.Reference9Ideal.Read
public import proofs.«01_k».proof.Proof.Common
public import Idealize.ShloMosaic.Lib.Tactic
public import Idealize.ShloMosaic.Lib.Claim

@[expose] public section

set_option maxRecDepth 16384

noncomputable section

open Idealize.ShloMosaic hiding ix1 ix2 ix3
open Idealize.ShloMosaic.TcCoe Idealize.ShloMosaic.ValueIdx Idealize.SL.Sem
open scoped BigOperators

namespace Cert.Proof.Du

open Cert.Kernel9Ideal Cert.Kernel9Ideal.Gen

theorem hz : (![0, 0] : Fin 2 → Nat) = fun _ => 0 := funext fun a => by fin_cases a <;> rfl

/-! ## What a point of the grid leaves -/

section Outs
variable {F : FTy → Type} [FloatOps F]
variable (c : Dev nD) (i : grid0.Coords) (arg3 : Memref sig .tc .vmem S1024x1024 .bf16) (harg3 : arg3.IsWhole) (arg4 : Memref sig .tc .vmem S1024x1024 .bf16) (harg4 : arg4.IsWhole)
  (arg5 : Memref sig .tc .vmem S1024x1024 .f32) (harg5 : arg5.IsWhole) (arg6 : Memref sig .tc .vmem S1024x1024 .f32) (harg6 : arg6.IsWhole)
  (x0 : Vec F S1024x1024 .bf16) (x1 : Vec F S1024x1024 .bf16) (xs0 : Vec F S1024x1024 .f32)

theorem sout_A (hc0 : cond0_0 i) (hc1 : ¬cond0_1 i) :
    sout0_A_0 c i arg3 harg3 arg4 harg4 arg5 harg5 arg6 harg6 hc0 hc1 x0 x1 = k0_pay2 k0_pay1 x0 x1 := by
  unfold sout0_A_0
  rw [View.read_writes_eq_canon _ _ _ (scover0_A_0 c i arg3 harg3 arg4 harg4 arg5 harg5 arg6 harg6 hc0 hc1 x0 x1)]
  unfold kernelRun0_A
  dsimp only
  sl_unfold_words
  rw [View.canon_cons_unit_zero hz, View.readCov_unit_zero (S := S1024x1024) _ hz]
  simp only [View.readAt_eq_ld, harg3.read_unread, harg4.read_unread, View.ld_unit_zero (S := S1024x1024) hz]

theorem sout_B (hc0 : ¬cond0_0 i) (hc1 : ¬cond0_1 i) :
    sout0_B_0 c i arg3 harg3 arg4 harg4 arg5 harg5 arg6 harg6 hc0 hc1 x0 x1 xs0 = k0_pay2 xs0 x0 x1 := by
  unfold sout0_B_0
  rw [View.read_writes_eq_canon _ _ _ (scover0_B_0 c i arg3 harg3 arg4 harg4 arg5 harg5 arg6 harg6 hc0 hc1 x0 x1 xs0)]
  unfold kernelRun0_B
  dsimp only
  sl_unfold_words
  rw [View.canon_unit_zero hz]
  simp only [View.readAt_eq_ld, harg3.read_unread, harg4.read_unread, harg6.read_unread, View.ld_unit_zero (S := S1024x1024) hz]

theorem sout_C (hc0 : ¬cond0_0 i) (hc1 : cond0_1 i) :
    sout0_C_0 c i arg3 harg3 arg4 harg4 arg5 harg5 arg6 harg6 hc0 hc1 x0 x1 xs0 = k0_pay2 xs0 x0 x1 := by
  unfold sout0_C_0
  rw [View.read_writes_eq_canon _ _ _ (scover0_C_0 c i arg3 harg3 arg4 harg4 arg5 harg5 arg6 harg6 hc0 hc1 x0 x1 xs0)]
  unfold kernelRun0_C
  dsimp only
  sl_unfold_words
  rw [View.canon_unit_zero hz]
  simp only [View.readAt_eq_ld, harg3.read_unread, harg4.read_unread, harg6.read_unread, View.ld_unit_zero (S := S1024x1024) hz]

theorem out_C (hc0 : ¬cond0_0 i) (hc1 : cond0_1 i) :
    out0_C_2 c i arg3 harg3 arg4 harg4 arg5 harg5 arg6 harg6 hc0 hc1 x0 x1 xs0 = k0_pay2 xs0 x0 x1 := by
  unfold out0_C_2
  rw [View.read_writes_eq_canon _ _ _ (cover0_C_2 c i arg3 harg3 arg4 harg4 arg5 harg5 arg6 harg6 hc0 hc1 x0 x1 xs0)]
  unfold kernelRun0_C
  dsimp only
  sl_unfold_words
  rw [View.canon_unit_zero hz, View.readCov_unit_zero (S := S1024x1024) _ hz]
  simp only [View.readAt_eq_ld, harg3.read_unread, harg4.read_unread, harg6.read_unread, View.ld_unit_zero (S := S1024x1024) hz]

end Outs

/-! ## The payloads at an index -/

theorem pay1_apply (j : S1024x1024.Idx) : k0_pay1 (F := Ideal) j = 0 := Ideal.ofBits_zero_f32

theorem pay2_apply (s : Vec Ideal S1024x1024 .f32) (a : Vec Ideal S1024x1024 .bf16) (b : Vec Ideal S1024x1024 .bf16) (r : Fin 1024) (o : Fin 1024) :
    k0_pay2 (F := Ideal) s a b (ix2 r o) = s (ix2 r o) + ∑ k : Fin 1024, a (ix2 r k) * b (ix2 o k) := by
  unfold k0_pay2
  refine (shapeCast_apply _ _ _ (ix2 r o) rfl).trans ?_
  show s (ix2 r o) + FloatOps.matmul (F := Ideal) (DotDims.transposedRhs 1024 1024 1024) none (a : FVec Ideal S1024x1024 .bf16) (b : FVec Ideal S1024x1024 .bf16) (constant S1024x1024 .f32 0x00000000#32) (ix2 r o) = _
  rw [Ideal.matmul_transposedRhs_apply]
  show _ + (Ideal.ofBits .f32 0x00000000#32 + _) = _
  rw [Ideal.ofBits_zero_f32, zero_add]

/-! ## From blocks to arrays -/

variable (m : (ℓ : Loc nD τ sig) → Buf (Elt Ideal) ℓ)

abbrev A (c : Dev nD) : S8192x7168.Idx → EReal := m ((c : Thread nD τ).loc main_arg0)
abbrev B (c : Dev nD) : S1024x7168.Idx → EReal := m ((c : Thread nD τ).loc main_arg1)

/-- The terms of an entry of the product. -/
abbrev term (a : S8192x7168.Idx → EReal) (b : S1024x7168.Idx → EReal) (r : Fin 8192) (o : Fin 1024) (k : Fin 7168) : EReal := a (ix2 r k) * b (ix2 o k)

def prod (a : S8192x7168.Idx → EReal) (b : S1024x7168.Idx → EReal) (r : Fin 8192) (o : Fin 1024) : EReal := ∑ k, term a b r o k

abbrev res (c : Dev nD) : Buf (Elt Ideal) ((c : Thread nD τ).loc main_v0) := fun i : S8192x1024.Idx => prod (A m c) (B m c) (i 0) (i 1)

abbrev blk0 (c : Dev nD) (t : Fin cfg0.N) : Vec Ideal S1024x1024 .bf16 := iblk m c 0 t
abbrev blk1 (c : Dev nD) (t : Fin cfg0.N) : Vec Ideal S1024x1024 .bf16 := iblk m c 1 t

theorem idx_in : ∀ t : Fin cfg0.N, win0_0.index t 0 = t.val / 7 ∧ win0_0.index t 1 = t.val % 7 ∧ win0_1.index t 0 = 0 ∧ win0_1.index t 1 = t.val % 7
    ∧ win0_2.index t 0 = t.val / 7 ∧ win0_2.index t 1 = 0 :=
  (by decide +kernel : ∀ t : Fin grid0.N, _)

theorem ltN (t : Fin cfg0.N) : t.val < 56 := lt_of_lt_of_eq t.isLt N_0

abbrev gM (t : ℕ) (x : Fin 1024) : Fin 8192 := ⟨t / 7 % 8 * 1024 + x.val, by have := x.isLt; omega⟩
abbrev gK (t : ℕ) (x : Fin 1024) : Fin 7168 := ⟨t % 7 * 1024 + x.val, by have := x.isLt; omega⟩
abbrev gN (t : ℕ) (x : Fin 1024) : Fin 1024 := ⟨x.val, by have := x.isLt; omega⟩

theorem blk0_at (c : Dev nD) (t : Fin cfg0.N) (r : Fin 1024) (k : Fin 1024) :
    blk0 m c t (ix2 r k) = A m c (ix2 (gM t.val r) (gK t.val k)) := by
  obtain ⟨e0, e1, -⟩ := idx_in t
  have h := ltN t
  show m ((c : Thread nD τ).loc main_arg0) _ = m ((c : Thread nD τ).loc main_arg0) _
  congr 1
  funext a; apply Fin.ext
  match a with
  | ⟨0, _⟩ => show win0_0.index t 0 * 1024 + 1 * r.val = t.val / 7 % 8 * 1024 + r.val; rw [e0]; omega
  | ⟨1, _⟩ => show win0_0.index t 1 * 1024 + 1 * k.val = t.val % 7 * 1024 + k.val; rw [e1]; omega

theorem blk1_at (c : Dev nD) (t : Fin cfg0.N) (o : Fin 1024) (k : Fin 1024) :
    blk1 m c t (ix2 o k) = B m c (ix2 (gN t.val o) (gK t.val k)) := by
  obtain ⟨-, -, e0, e1, -⟩ := idx_in t
  have h := ltN t
  show m ((c : Thread nD τ).loc main_arg1) _ = m ((c : Thread nD τ).loc main_arg1) _
  congr 1
  funext a; apply Fin.ext
  match a with
  | ⟨0, _⟩ => show win0_1.index t 0 * 1024 + 1 * o.val = o.val; rw [e0]; omega
  | ⟨1, _⟩ => show win0_1.index t 1 * 1024 + 1 * k.val = t.val % 7 * 1024 + k.val; rw [e1]; omega

/-! ## The accumulator, point by point -/

abbrev prevAcc (c : Dev nD) (t : Fin cfg0.N) : Vec Ideal S1024x1024 .f32 :=
  (outsAt0 m c (t.val - 1) (Nat.lt_of_le_of_lt (Nat.sub_le _ _) t.isLt)).2

theorem acc_start (c : Dev nD) (t : Fin cfg0.N) (h0 : t.val % 7 = 0) :
    (outsAt0 m c t.val t.isLt).2 = k0_pay2 (F := Ideal) (k0_pay1 (F := Ideal)) (blk0 m c t) (blk1 m c t) := by
  rw [outsAt0_A m c t h0 (by omega)]; dsimp only; rw [sout_A]

theorem acc_next (c : Dev nD) (t : Fin cfg0.N) (h0 : ¬t.val % 7 = 0) :
    (outsAt0 m c t.val t.isLt).2 = k0_pay2 (F := Ideal) (prevAcc m c t) (blk0 m c t) (blk1 m c t) := by
  by_cases h1 : t.val % 7 = 6
  · rw [outsAt0_C m c t h0 h1]; dsimp only; rw [sout_C]
  · rw [outsAt0_B m c t h0 h1]; dsimp only; rw [sout_B]

theorem acc_full (c : Dev nD) (t : Fin cfg0.N) (h : t.val % 7 = 6) (r : Fin 1024) (o : Fin 1024) :
    (outsAt0 m c t.val t.isLt).2 (ix2 r o) = prod (A m c) (B m c) (gM t.val r) (gN t.val o) := by
  refine (acc_last 7 1024 rfl (by omega) (fun n h => (outsAt0 m c n h).2 (ix2 r o))
    (fun q => term (A m c) (B m c) ⟨q % 8 * 1024 + r.val, by have := r.isLt; omega⟩ ⟨o.val, by have := o.isLt; omega⟩)
    (fun n h k => blk0 m c ⟨n, h⟩ (ix2 r k) * blk1 m c ⟨n, h⟩ (ix2 o k))
    (fun n h k hk => ?_)
    (fun n h e => ?_)
    (fun n h _ e => ?_)
    t.val t.isLt h).trans ?_
  · rw [blk0_at, blk1_at]
  · show (outsAt0 m c n h).2 (ix2 r o) = _
    rw [acc_start m c ⟨n, h⟩ e, pay2_apply, pay1_apply, zero_add]
  · show (outsAt0 m c n h).2 (ix2 r o) = _
    rw [acc_next m c ⟨n, h⟩ e, pay2_apply]
  · rfl

theorem flushed_eq (c : Dev nD) (t : Fin cfg0.N) (ht : (cfg0.win 2).flush t = true) :
    (dats m 0 c).flushed 2 t = ((cfg0.win 2).blk t).view.read (Elt Ideal) (res m c) := by
  obtain ⟨-, -, -, -, e0, e1⟩ := idx_in t
  have h := (flush0_2 t).1 ht
  have hN := ltN t
  have ea := acc_next m c t (by omega)
  rw [Value.flushed2, outsAt0_C m c t (by omega) h]
  dsimp only
  rw [out_C]
  funext j
  obtain ⟨r, o, rfl⟩ : ∃ (r : Fin 1024) (o : Fin 1024), j = ix2 r o := ⟨j 0, j 1, by funext a; match a with | ⟨0, _⟩ => rfl | ⟨1, _⟩ => rfl⟩
  show _ = res m c (((cfg0.win 2).blk t).view.emb (ix2 r o))
  have e : ((cfg0.win 2).blk t).view.emb (ix2 r o) = (ix2 (gM t.val r) (gN t.val o) : S8192x1024.Idx) := by
    funext a; apply Fin.ext
    match a with
    | ⟨0, _⟩ => show win0_2.index t 0 * 1024 + 1 * r.val = t.val / 7 % 8 * 1024 + r.val; rw [e0]; omega
    | ⟨1, _⟩ => show win0_2.index t 1 * 1024 + 1 * o.val = o.val; rw [e1]; omega
  rw [e]
  exact ((congrFun ea.symm _).trans (acc_full m c t h r o))

theorem cover (i : S8192x1024.Idx) : ∃ t : Fin cfg0.N, (cfg0.win 2).flush t = true ∧ i ∈ ((cfg0.win 2).blk t).view.set :=
  (Value.covered_iff2 i).2 (by have h0 : (i 0).val < 8192 := (i 0).isLt; have h1 : (i 1).val < 1024 := (i 1).isLt; omega)

theorem final (c : Dev nD) : (dats m 0 c).arrAt 2 cfg0.N = res m c := (dats m 0 c).arrAt_eq_of_cover 2 (res m c) (flushed_eq m c) cover

/-! ## The reference -/

open Cert.Reference9Ideal.Read in
theorem ref_eq (a : S8192x7168.Idx → EReal) (b : S1024x7168.Idx → EReal) (r : Fin 8192) (o : Fin 1024) :
    val_main_v6 (F := Ideal) a b (ix2 r o) = prod a b r o := by
  rw [val_main_v6_apply]
  refine Finset.sum_congr rfl fun k _ => ?_
  have e1 : lidx_main_v6 (ix2 r o) k = ix2 r k := by
    funext a; apply Fin.ext
    match a with
    | ⟨0, _⟩ => rfl
    | ⟨1, _⟩ => rfl
  have e2 : ridx_main_v6 (ix2 r o) k = ix2 o k := by
    funext a; apply Fin.ext
    match a with
    | ⟨0, _⟩ => rfl
    | ⟨1, _⟩ => rfl
  rw [e1, e2]
  rfl

theorem ref_arr (c : Dev nD) : Cert.Reference9Ideal.Read.val_main_v6 (F := Ideal) (A m c) (B m c) = res m c := by
  funext i
  obtain ⟨r, o, rfl⟩ : ∃ (r : Fin 8192) (o : Fin 1024), i = ix2 r o := ⟨i 0, i 1, by funext a; match a with | ⟨0, _⟩ => rfl | ⟨1, _⟩ => rfl⟩
  exact ref_eq _ _ r o

theorem algebraic [Cert.Kernel9Ideal.Facts] [Cert.Reference9Ideal.Facts] : Cert.algebraic_Kernel9Ideal_Reference9Ideal := by
  pair_intro
  · run_from Cert.Kernel9Ideal.Value.run_blocks m g
  · run_from Cert.Reference9Ideal.Value.run m' g'
    exact (Cert.Reference9Ideal.Read.val_main_v6_eq (F := Ideal) (A m c) (B m c)).trans ((ref_arr m c).trans (final m c).symm)

end Cert.Proof.Du

end
-- ==== Proof.Gate.lean ====
/-
  The gated activation of a feed-forward block: the normalised rows times the two halves of the first weight, and the
  first product times its logistic function times the second.
-/
module

public import proofs.«01_k».proof.Defs
public import proofs.«01_k».proof.Proof.Gen.Kernel10Ideal.Value
public import proofs.«01_k».proof.Proof.Gen.Reference10Ideal.Read
public import proofs.«01_k».proof.Proof.Common
public import Idealize.ShloMosaic.Lib.Tactic
public import Idealize.ShloMosaic.Lib.Claim

@[expose] public section

set_option maxRecDepth 16384

noncomputable section

open Idealize.ShloMosaic hiding ix1 ix2 ix3
open Idealize.ShloMosaic.TcCoe Idealize.ShloMosaic.ValueIdx Idealize.SL.Sem
open scoped BigOperators

namespace Cert.Proof.Gate

open Cert.Kernel10Ideal Cert.Kernel10Ideal.Gen

variable (m : (ℓ : Loc nD τ sig) → Buf (Elt Ideal) ℓ)

theorem hz : (![0, 0] : Fin 2 → Nat) = fun _ => 0 := funext fun a => by fin_cases a <;> rfl

/-- An entry of the rows times the weight; the columns of the second half follow those of the first. -/
def pre (h : S8192x1024.Idx → EReal) (w : S1024x5632.Idx → EReal) (r : Fin 8192) (f : Fin 5632) : EReal :=
  ∑ k : Fin 1024, h (ix2 r k) * w (ix2 k f)

abbrev lo (f : Fin 2816) : Fin 5632 := ⟨f.val, by have := f.isLt; omega⟩
abbrev hi (f : Fin 2816) : Fin 5632 := ⟨2816 + f.val, by have := f.isLt; omega⟩

/-- The activation as the kernel computes it. -/
def act (a b : EReal) : EReal :=
  a * Ideal.div (Ideal.ofBits .f32 0x3F800000#32) (Ideal.ofBits .f32 0x3F800000#32 + Ideal.exp (-a)) * b

/-! ## The payloads at an index -/

theorem prod_apply (x : Vec Ideal S1024x1024 .bf16) (w : Vec Ideal S1024x1408 .bf16) (r : Fin 1024) (f : Fin 1408) :
    FloatOps.matmul (F := Ideal) (φ₁ := .bf16) (φ₂ := .bf16) (DotDims.plain 1024 1024 1408) none (x : FVec Ideal S1024x1024 .bf16) (w : FVec Ideal S1024x1408 .bf16)
      (constant S1024x1408 .f32 0x00000000#32) (ix2 r f) = ∑ k : Fin 1024, x (ix2 r k) * w (ix2 k f) := by
  rw [Ideal.matmul_plain_apply]
  show Ideal.ofBits .f32 0x00000000#32 + _ = _
  rw [Ideal.ofBits_zero_f32, zero_add]

theorem pay1_apply (x : Vec Ideal S1024x1024 .bf16) (w : Vec Ideal S1024x1408 .bf16) (r : Fin 1024) (f : Fin 1408) :
    k0_pay1 (F := Ideal) x w (ix2 r f) = ∑ k : Fin 1024, x (ix2 r k) * w (ix2 k f) := prod_apply x w r f

theorem pay2_apply (x : Vec Ideal S1024x1024 .bf16) (w : Vec Ideal S1024x1408 .bf16) (r : Fin 1024) (f : Fin 1408) :
    k0_pay2 (F := Ideal) x w (ix2 r f) = ∑ k : Fin 1024, x (ix2 r k) * w (ix2 k f) := prod_apply x w r f

theorem pay3_apply (x : Vec Ideal S1024x1024 .bf16) (w v : Vec Ideal S1024x1408 .bf16) (r : Fin 1024) (f : Fin 1408) :
    k0_pay3 (F := Ideal) x w v (ix2 r f)
      = act (∑ k : Fin 1024, x (ix2 r k) * w (ix2 k f)) (∑ k : Fin 1024, x (ix2 r k) * v (ix2 k f)) := by
  show k0_pay1 (F := Ideal) x w (ix2 r f) * Ideal.div _ (_ + Ideal.exp (Ideal.ofBits .f32 0x00000000#32 - k0_pay1 (F := Ideal) x w (ix2 r f)))
    * k0_pay2 (F := Ideal) x v (ix2 r f) = _
  rw [pay1_apply, pay2_apply, Ideal.ofBits_zero_f32, zero_sub]
  rfl

/-! ## From blocks to arrays -/

abbrev H (c : Dev nD) : S8192x1024.Idx → EReal := m ((c : Thread nD τ).loc main_arg0)
abbrev W (c : Dev nD) : S1024x5632.Idx → EReal := m ((c : Thread nD τ).loc main_arg1)

abbrev res3 (c : Dev nD) : Buf (Elt Ideal) ((c : Thread nD τ).loc main_v0_0) := fun i : S8192x2816.Idx => pre (H m c) (W m c) (i 0) (lo (i 1))
abbrev res4 (c : Dev nD) : Buf (Elt Ideal) ((c : Thread nD τ).loc main_v0_1) := fun i : S8192x2816.Idx => pre (H m c) (W m c) (i 0) (hi (i 1))
abbrev res5 (c : Dev nD) : Buf (Elt Ideal) ((c : Thread nD τ).loc main_v0_2) := fun i : S8192x2816.Idx =>
  act (pre (H m c) (W m c) (i 0) (lo (i 1))) (pre (H m c) (W m c) (i 0) (hi (i 1)))

abbrev blk0 (c : Dev nD) (t : Fin cfg0.N) : Vec Ideal S1024x1024 .bf16 := iblk m c 0 t
abbrev blk1 (c : Dev nD) (t : Fin cfg0.N) : Vec Ideal S1024x1408 .bf16 := iblk m c 1 t
abbrev blk2 (c : Dev nD) (t : Fin cfg0.N) : Vec Ideal S1024x1408 .bf16 := iblk m c 2 t

theorem idx_in : ∀ t : Fin cfg0.N, win0_0.index t 0 = t.val / 2 ∧ win0_0.index t 1 = 0 ∧ win0_1.index t 0 = 0 ∧ win0_1.index t 1 = t.val % 2
    ∧ win0_2.index t 0 = 0 ∧ win0_2.index t 1 = t.val % 2 + 2 :=
  (by decide +kernel : ∀ t : Fin grid0.N, _)

theorem idx_out : ∀ t : Fin cfg0.N, (win0_3.index t 0 = t.val / 2 ∧ win0_3.index t 1 = t.val % 2) ∧ (win0_4.index t 0 = t.val / 2 ∧ win0_4.index t 1 = t.val % 2)
    ∧ (win0_5.index t 0 = t.val / 2 ∧ win0_5.index t 1 = t.val % 2) :=
  (by decide +kernel : ∀ t : Fin grid0.N, _)

theorem ltN (t : Fin cfg0.N) : t.val < 16 := lt_of_lt_of_eq t.isLt N_0

abbrev gR (t : Fin cfg0.N) (r : Fin 1024) : Fin 8192 := ⟨t.val / 2 * 1024 + r.val, by have := r.isLt; have := ltN t; omega⟩
abbrev gF (t : Fin cfg0.N) (f : Fin 1408) : Fin 2816 := ⟨t.val % 2 * 1408 + f.val, by have := f.isLt; omega⟩

theorem blk0_at (c : Dev nD) (t : Fin cfg0.N) (r k : Fin 1024) : blk0 m c t (ix2 r k) = H m c (ix2 (gR t r) k) := by
  obtain ⟨e0, e1, -⟩ := idx_in t
  show m ((c : Thread nD τ).loc main_arg0) _ = m ((c : Thread nD τ).loc main_arg0) _
  congr 1
  funext a; apply Fin.ext
  match a with
  | ⟨0, _⟩ => show win0_0.index t 0 * 1024 + 1 * r.val = t.val / 2 * 1024 + r.val; rw [e0]; omega
  | ⟨1, _⟩ => show win0_0.index t 1 * 1024 + 1 * k.val = k.val; rw [e1]; omega

theorem blk1_at (c : Dev nD) (t : Fin cfg0.N) (k : Fin 1024) (f : Fin 1408) : blk1 m c t (ix2 k f) = W m c (ix2 k (lo (gF t f))) := by
  obtain ⟨-, -, e0, e1, -⟩ := idx_in t
  show m ((c : Thread nD τ).loc main_arg1) _ = m ((c : Thread nD τ).loc main_arg1) _
  congr 1
  funext a; apply Fin.ext
  match a with
  | ⟨0, _⟩ => show win0_1.index t 0 * 1024 + 1 * k.val = k.val; rw [e0]; omega
  | ⟨1, _⟩ => show win0_1.index t 1 * 1408 + 1 * f.val = t.val % 2 * 1408 + f.val; rw [e1]; omega

theorem blk2_at (c : Dev nD) (t : Fin cfg0.N) (k : Fin 1024) (f : Fin 1408) : blk2 m c t (ix2 k f) = W m c (ix2 k (hi (gF t f))) := by
  obtain ⟨-, -, -, -, e0, e1⟩ := idx_in t
  show m ((c : Thread nD τ).loc main_arg1) _ = m ((c : Thread nD τ).loc main_arg1) _
  congr 1
  funext a; apply Fin.ext
  match a with
  | ⟨0, _⟩ => show win0_2.index t 0 * 1024 + 1 * k.val = k.val; rw [e0]; omega
  | ⟨1, _⟩ => show win0_2.index t 1 * 1408 + 1 * f.val = 2816 + (t.val % 2 * 1408 + f.val); rw [e1]; omega

theorem lo_blk (c : Dev nD) (t : Fin cfg0.N) (r : Fin 1024) (f : Fin 1408) :
    ∑ k : Fin 1024, blk0 m c t (ix2 r k) * blk1 m c t (ix2 k f) = pre (H m c) (W m c) (gR t r) (lo (gF t f)) :=
  Finset.sum_congr rfl fun k _ => by rw [blk0_at, blk1_at]

theorem hi_blk (c : Dev nD) (t : Fin cfg0.N) (r : Fin 1024) (f : Fin 1408) :
    ∑ k : Fin 1024, blk0 m c t (ix2 r k) * blk2 m c t (ix2 k f) = pre (H m c) (W m c) (gR t r) (hi (gF t f)) :=
  Finset.sum_congr rfl fun k _ => by rw [blk0_at, blk2_at]

theorem emb3 (t : Fin cfg0.N) (r : Fin 1024) (f : Fin 1408) :
    ((cfg0.win 3).blk t).view.emb (ix2 r f) = (ix2 (gR t r) (gF t f) : S8192x2816.Idx) := by
  obtain ⟨e0, e1⟩ := (idx_out t).1
  funext a; apply Fin.ext
  match a with
  | ⟨0, _⟩ => show win0_3.index t 0 * 1024 + 1 * r.val = t.val / 2 * 1024 + r.val; rw [e0]; omega
  | ⟨1, _⟩ => show win0_3.index t 1 * 1408 + 1 * f.val = t.val % 2 * 1408 + f.val; rw [e1]; omega

theorem flushed3_eq (c : Dev nD) (t : Fin cfg0.N) (_ : (cfg0.win 3).flush t = true) :
    (dats m 0 c).flushed 3 t = ((cfg0.win 3).blk t).view.read (Elt Ideal) (res3 m c) := by
  rw [Value.flushed3]
  unfold out0_3
  rw [View.canon_unit_zero hz]
  simp only [View.ld_unit_zero (S := S1024x1024) hz, View.ld_unit_zero (S := S1024x1408) hz]
  funext j
  obtain ⟨r, f, rfl⟩ : ∃ (r : Fin 1024) (f : Fin 1408), j = ix2 r f := ⟨j 0, j 1, by funext a; match a with | ⟨0, _⟩ => rfl | ⟨1, _⟩ => rfl⟩
  show _ = res3 m c (((cfg0.win 3).blk t).view.emb (ix2 r f))
  rw [emb3]
  exact (pay1_apply (blk0 m c t) (blk1 m c t) r f).trans (lo_blk m c t r f)

theorem cover3 (i : S8192x2816.Idx) : ∃ t : Fin cfg0.N, (cfg0.win 3).flush t = true ∧ i ∈ ((cfg0.win 3).blk t).view.set := by
  have h0 : (i 0 : Nat) < 8192 := (i 0).isLt
  have h1 : (i 1 : Nat) < 2816 := (i 1).isLt
  have hN : (i 0).val / 1024 * 2 + (i 1).val / 1408 < cfg0.N := lt_of_lt_of_eq (by omega) N_0.symm
  refine ⟨⟨_, hN⟩, flush0_3 _, ?_⟩
  obtain ⟨e0, e1⟩ := (idx_out ⟨_, hN⟩).1
  show i ∈ ((View.whole main_v0_0).slice (win0_3.rect ⟨_, hN⟩)).set
  rw [View.set_slice_whole, Rect.mem_set_unit]
  intro a
  match a with
  | ⟨0, _⟩ => show win0_3.index ⟨_, hN⟩ 0 * 1024 ≤ (i 0).val ∧ (i 0).val < win0_3.index ⟨_, hN⟩ 0 * 1024 + 1024; rw [e0]; dsimp only; omega
  | ⟨1, _⟩ => show win0_3.index ⟨_, hN⟩ 1 * 1408 ≤ (i 1).val ∧ (i 1).val < win0_3.index ⟨_, hN⟩ 1 * 1408 + 1408; rw [e1]; dsimp only; omega

theorem final3 (c : Dev nD) : (dats m 0 c).arrAt 3 cfg0.N = res3 m c := (dats m 0 c).arrAt_eq_of_cover 3 (res3 m c) (flushed3_eq m c) cover3

theorem emb4 (t : Fin cfg0.N) (r : Fin 1024) (f : Fin 1408) :
    ((cfg0.win 4).blk t).view.emb (ix2 r f) = (ix2 (gR t r) (gF t f) : S8192x2816.Idx) := by
  obtain ⟨e0, e1⟩ := (idx_out t).2.1
  funext a; apply Fin.ext
  match a with
  | ⟨0, _⟩ => show win0_4.index t 0 * 1024 + 1 * r.val = t.val / 2 * 1024 + r.val; rw [e0]; omega
  | ⟨1, _⟩ => show win0_4.index t 1 * 1408 + 1 * f.val = t.val % 2 * 1408 + f.val; rw [e1]; omega

theorem flushed4_eq (c : Dev nD) (t : Fin cfg0.N) (_ : (cfg0.win 4).flush t = true) :
    (dats m 0 c).flushed 4 t = ((cfg0.win 4).blk t).view.read (Elt Ideal) (res4 m c) := by
  rw [Value.flushed4]
  unfold out0_4
  rw [View.canon_unit_zero hz]
  simp only [View.ld_unit_zero (S := S1024x1024) hz, View.ld_unit_zero (S := S1024x1408) hz]
  funext j
  obtain ⟨r, f, rfl⟩ : ∃ (r : Fin 1024) (f : Fin 1408), j = ix2 r f := ⟨j 0, j 1, by funext a; match a with | ⟨0, _⟩ => rfl | ⟨1, _⟩ => rfl⟩
  show _ = res4 m c (((cfg0.win 4).blk t).view.emb (ix2 r f))
  rw [emb4]
  exact (pay2_apply (blk0 m c t) (blk2 m c t) r f).trans (hi_blk m c t r f)

theorem cover4 (i : S8192x2816.Idx) : ∃ t : Fin cfg0.N, (cfg0.win 4).flush t = true ∧ i ∈ ((cfg0.win 4).blk t).view.set := by
  have h0 : (i 0 : Nat) < 8192 := (i 0).isLt
  have h1 : (i 1 : Nat) < 2816 := (i 1).isLt
  have hN : (i 0).val / 1024 * 2 + (i 1).val / 1408 < cfg0.N := lt_of_lt_of_eq (by omega) N_0.symm
  refine ⟨⟨_, hN⟩, flush0_4 _, ?_⟩
  obtain ⟨e0, e1⟩ := (idx_out ⟨_, hN⟩).2.1
  show i ∈ ((View.whole main_v0_1).slice (win0_4.rect ⟨_, hN⟩)).set
  rw [View.set_slice_whole, Rect.mem_set_unit]
  intro a
  match a with
  | ⟨0, _⟩ => show win0_4.index ⟨_, hN⟩ 0 * 1024 ≤ (i 0).val ∧ (i 0).val < win0_4.index ⟨_, hN⟩ 0 * 1024 + 1024; rw [e0]; dsimp only; omega
  | ⟨1, _⟩ => show win0_4.index ⟨_, hN⟩ 1 * 1408 ≤ (i 1).val ∧ (i 1).val < win0_4.index ⟨_, hN⟩ 1 * 1408 + 1408; rw [e1]; dsimp only; omega

theorem final4 (c : Dev nD) : (dats m 0 c).arrAt 4 cfg0.N = res4 m c := (dats m 0 c).arrAt_eq_of_cover 4 (res4 m c) (flushed4_eq m c) cover4

theorem emb5 (t : Fin cfg0.N) (r : Fin 1024) (f : Fin 1408) :
    ((cfg0.win 5).blk t).view.emb (ix2 r f) = (ix2 (gR t r) (gF t f) : S8192x2816.Idx) := by
  obtain ⟨e0, e1⟩ := (idx_out t).2.2
  funext a; apply Fin.ext
  match a with
  | ⟨0, _⟩ => show win0_5.index t 0 * 1024 + 1 * r.val = t.val / 2 * 1024 + r.val; rw [e0]; omega
  | ⟨1, _⟩ => show win0_5.index t 1 * 1408 + 1 * f.val = t.val % 2 * 1408 + f.val; rw [e1]; omega

theorem flushed5_eq (c : Dev nD) (t : Fin cfg0.N) (_ : (cfg0.win 5).flush t = true) :
    (dats m 0 c).flushed 5 t = ((cfg0.win 5).blk t).view.read (Elt Ideal) (res5 m c) := by
  rw [Value.flushed5]
  unfold out0_5
  rw [View.canon_unit_zero hz]
  simp only [View.ld_unit_zero (S := S1024x1024) hz, View.ld_unit_zero (S := S1024x1408) hz]
  funext j
  obtain ⟨r, f, rfl⟩ : ∃ (r : Fin 1024) (f : Fin 1408), j = ix2 r f := ⟨j 0, j 1, by funext a; match a with | ⟨0, _⟩ => rfl | ⟨1, _⟩ => rfl⟩
  show _ = res5 m c (((cfg0.win 5).blk t).view.emb (ix2 r f))
  rw [emb5]
  refine (pay3_apply (blk0 m c t) (blk1 m c t) (blk2 m c t) r f).trans ?_
  rw [lo_blk, hi_blk]

theorem cover5 (i : S8192x2816.Idx) : ∃ t : Fin cfg0.N, (cfg0.win 5).flush t = true ∧ i ∈ ((cfg0.win 5).blk t).view.set := by
  have h0 : (i 0 : Nat) < 8192 := (i 0).isLt
  have h1 : (i 1 : Nat) < 2816 := (i 1).isLt
  have hN : (i 0).val / 1024 * 2 + (i 1).val / 1408 < cfg0.N := lt_of_lt_of_eq (by omega) N_0.symm
  refine ⟨⟨_, hN⟩, flush0_5 _, ?_⟩
  obtain ⟨e0, e1⟩ := (idx_out ⟨_, hN⟩).2.2
  show i ∈ ((View.whole main_v0_2).slice (win0_5.rect ⟨_, hN⟩)).set
  rw [View.set_slice_whole, Rect.mem_set_unit]
  intro a
  match a with
  | ⟨0, _⟩ => show win0_5.index ⟨_, hN⟩ 0 * 1024 ≤ (i 0).val ∧ (i 0).val < win0_5.index ⟨_, hN⟩ 0 * 1024 + 1024; rw [e0]; dsimp only; omega
  | ⟨1, _⟩ => show win0_5.index ⟨_, hN⟩ 1 * 1408 ≤ (i 1).val ∧ (i 1).val < win0_5.index ⟨_, hN⟩ 1 * 1408 + 1408; rw [e1]; dsimp only; omega

theorem final5 (c : Dev nD) : (dats m 0 c).arrAt 5 cfg0.N = res5 m c := (dats m 0 c).arrAt_eq_of_cover 5 (res5 m c) (flushed5_eq m c) cover5

/-! ## The reference -/

open Cert.Reference10Ideal.Read in
theorem ref_pre (h : S8192x1024.Idx → EReal) (w : S1024x5632.Idx → EReal) (i : Cert.Reference10Ideal.S8192x5632.Idx) :
    val_main_v2 (F := Ideal) h w i = pre h w (i 0) (i 1) := by
  rw [val_main_v2_apply]
  refine Finset.sum_congr rfl fun k _ => ?_
  have e1 : lidx_main_v2 i k = ix2 (i 0) k := by
    funext a; apply Fin.ext
    match a with
    | ⟨0, _⟩ => rfl
    | ⟨1, _⟩ => rfl
  have e2 : ridx_main_v2 i k = ix2 k (i 1) := by
    funext a; apply Fin.ext
    match a with
    | ⟨0, _⟩ => rfl
    | ⟨1, _⟩ => rfl
  rw [e1, e2]
  rfl

open Cert.Reference10Ideal.Read in
theorem ref_lo (h : S8192x1024.Idx → EReal) (w : S1024x5632.Idx → EReal) (i : S8192x2816.Idx) :
    val_main_v3 (F := Ideal) h w i = pre h w (i 0) (lo (i 1)) := by
  rw [val_main_v3_apply, ref_pre]
  congr 1
  all_goals first | rfl | (apply Fin.ext; show _ = (i 1).val; dsimp only; omega) | (apply Fin.ext; show _ = (i 0).val; dsimp only; omega)

open Cert.Reference10Ideal.Read in
theorem ref_hi (h : S8192x1024.Idx → EReal) (w : S1024x5632.Idx → EReal) (i : S8192x2816.Idx) :
    val_main_v4 (F := Ideal) h w i = pre h w (i 0) (hi (i 1)) := by
  rw [val_main_v4_apply, ref_pre]
  congr 1
  all_goals first | rfl | (apply Fin.ext; show _ = 2816 + (i 1).val; dsimp only; omega) | (apply Fin.ext; show _ = (i 0).val; dsimp only; omega)

open Cert.Reference10Ideal.Read in
theorem ref_act (h : S8192x1024.Idx → EReal) (w : S1024x5632.Idx → EReal) (i : S8192x2816.Idx) :
    val_main_v6 (F := Ideal) h w i = act (pre h w (i 0) (lo (i 1))) (pre h w (i 0) (hi (i 1))) := by
  show val_main_v3 (F := Ideal) h w i * Ideal.div _ (_ + Ideal.exp (-val_main_v3 (F := Ideal) h w i)) * val_main_v4 (F := Ideal) h w i = _
  rw [ref_lo, ref_hi]
  rfl

open Cert.Reference10Ideal.Read in
theorem algebraic [Cert.Kernel10Ideal.Facts] [Cert.Reference10Ideal.Facts] : Cert.algebraic_Kernel10Ideal_Reference10Ideal := by
  pair_intro
  · run_from Cert.Kernel10Ideal.Value.run_blocks m g
  · run_from Cert.Reference10Ideal.Value.run m' g'
    · exact (val_main_v7_eq (F := Ideal) (H m c) (W m c)).trans ((show _ = res3 m c from funext fun i => ref_lo _ _ i).trans (final3 m c).symm)
    · exact (val_main_v8_eq (F := Ideal) (H m c) (W m c)).trans ((show _ = res4 m c from funext fun i => ref_hi _ _ i).trans (final4 m c).symm)
    · exact (val_main_v9_eq (F := Ideal) (H m c) (W m c)).trans ((show _ = res5 m c from funext fun i => ref_act _ _ i).trans (final5 m c).symm)

end Cert.Proof.Gate

end
-- ==== Proof.FfnOut.lean ====
/-
  The second product of a feed-forward block, half of it added to the rows it started from, and the next normalisation
  of the sum.
-/
module

public import proofs.«01_k».proof.Defs
public import proofs.«01_k».proof.Proof.Gen.Kernel11Ideal.Value
public import proofs.«01_k».proof.Proof.Gen.Reference11Ideal.Read
public import proofs.«01_k».proof.Proof.Rms
public import Idealize.ShloMosaic.Lib.Tactic
public import Idealize.ShloMosaic.Lib.Claim

@[expose] public section

set_option maxRecDepth 16384

noncomputable section

open Idealize.ShloMosaic hiding ix1 ix2 ix3
open Idealize.ShloMosaic.TcCoe Idealize.ShloMosaic.ValueIdx Idealize.SL.Sem
open Cert.Proof.Rms
open scoped BigOperators

namespace Cert.Proof.FfnOut

open Cert.Kernel11Ideal Cert.Kernel11Ideal.Gen

theorem hz : (![0, 0] : Fin 2 → Nat) = fun _ => 0 := funext fun a => by fin_cases a <;> rfl

/-! ## What a point of the grid leaves -/

section Outs
variable {F : FTy → Type} [FloatOps F]
variable (c : Dev nD) (i : grid0.Coords) (arg3 : Memref sig .tc .vmem S1024x1408 .bf16) (harg3 : arg3.IsWhole) (arg4 : Memref sig .tc .vmem S1408x1024 .bf16) (harg4 : arg4.IsWhole)
  (arg5 : Memref sig .tc .vmem S1024x1024 .f32) (harg5 : arg5.IsWhole) (arg6 : Memref sig .tc .vmem S1x1024 .f32) (harg6 : arg6.IsWhole)
  (arg7 : Memref sig .tc .vmem S1024x1024 .f32) (harg7 : arg7.IsWhole) (arg8 : Memref sig .tc .vmem S1024x1024 .bf16) (harg8 : arg8.IsWhole)
  (arg9 : Memref sig .tc .vmem S1024x1024 .f32) (harg9 : arg9.IsWhole)
  (x0 : Vec F S1024x1408 .bf16) (x1 : Vec F S1408x1024 .bf16) (x2 : Vec F S1024x1024 .f32) (x3 : Vec F S1x1024 .f32) (xs0 : Vec F S1024x1024 .f32)

theorem sout_A (hc0 : cond0_0 i) (hc1 : ¬cond0_1 i) :
    sout0_A_0 c i arg3 harg3 arg4 harg4 arg5 harg5 arg6 harg6 arg7 harg7 arg8 harg8 arg9 harg9 hc0 hc1 x0 x1 x2 x3 = k0_pay2 k0_pay1 x0 x1 := by
  unfold sout0_A_0
  rw [View.read_writes_eq_canon _ _ _ (scover0_A_0 c i arg3 harg3 arg4 harg4 arg5 harg5 arg6 harg6 arg7 harg7 arg8 harg8 arg9 harg9 hc0 hc1 x0 x1 x2 x3)]
  unfold kernelRun0_A
  dsimp only
  sl_unfold_words
  rw [View.canon_cons_unit_zero hz, View.readCov_unit_zero (S := S1024x1024) _ hz]
  simp only [View.readAt_eq_ld, harg3.read_unread, harg4.read_unread, harg5.read_unread, harg6.read_unread, harg9.read_unread, View.ld_unit_zero (S := S1024x1408) hz, View.ld_unit_zero (S := S1408x1024) hz, View.ld_unit_zero (S := S1024x1024) hz, View.ld_unit_zero (S := S1x1024) hz]

theorem out_4 (hc0 : ¬cond0_0 i) (hc1 : cond0_1 i) :
    out0_B_4 c i arg3 harg3 arg4 harg4 arg5 harg5 arg6 harg6 arg7 harg7 arg8 harg8 arg9 harg9 hc0 hc1 x0 x1 x2 x3 xs0 = k0_pay3 (k0_pay2 xs0 x0 x1) x2 := by
  unfold out0_B_4
  rw [View.read_writes_eq_canon _ _ _ (cover0_B_4 c i arg3 harg3 arg4 harg4 arg5 harg5 arg6 harg6 arg7 harg7 arg8 harg8 arg9 harg9 hc0 hc1 x0 x1 x2 x3 xs0)]
  unfold kernelRun0_B
  dsimp only
  sl_unfold_words
  rw [View.canon_unit_zero hz, View.readCov_unit_zero (S := S1024x1024) _ hz]
  simp only [View.readAt_eq_ld, harg3.read_unread, harg4.read_unread, harg5.read_unread, harg6.read_unread, harg9.read_unread, View.ld_unit_zero (S := S1024x1408) hz, View.ld_unit_zero (S := S1408x1024) hz, View.ld_unit_zero (S := S1024x1024) hz, View.ld_unit_zero (S := S1x1024) hz]

theorem out_5 (hc0 : ¬cond0_0 i) (hc1 : cond0_1 i) :
    out0_B_5 c i arg3 harg3 arg4 harg4 arg5 harg5 arg6 harg6 arg7 harg7 arg8 harg8 arg9 harg9 hc0 hc1 x0 x1 x2 x3 xs0 = k0_pay4 (k0_pay2 xs0 x0 x1) x2 x3 := by
  unfold out0_B_5
  rw [View.read_writes_eq_canon _ _ _ (cover0_B_5 c i arg3 harg3 arg4 harg4 arg5 harg5 arg6 harg6 arg7 harg7 arg8 harg8 arg9 harg9 hc0 hc1 x0 x1 x2 x3 xs0)]
  unfold kernelRun0_B
  dsimp only
  sl_unfold_words
  rw [View.canon_unit_zero hz, View.readCov_unit_zero (S := S1024x1024) _ hz]
  simp only [View.readAt_eq_ld, harg3.read_unread, harg4.read_unread, harg5.read_unread, harg6.read_unread, harg9.read_unread, View.ld_unit_zero (S := S1024x1408) hz, View.ld_unit_zero (S := S1408x1024) hz, View.ld_unit_zero (S := S1024x1024) hz, View.ld_unit_zero (S := S1x1024) hz]

end Outs

/-! ## The payloads at an index -/

theorem pay1_apply (j : S1024x1024.Idx) : k0_pay1 (F := Ideal) j = 0 := Ideal.ofBits_zero_f32

theorem pay2_apply (s : Vec Ideal S1024x1024 .f32) (a : Vec Ideal S1024x1408 .bf16) (b : Vec Ideal S1408x1024 .bf16) (r o : Fin 1024) :
    k0_pay2 (F := Ideal) s a b (ix2 r o) = s (ix2 r o) + ∑ k : Fin 1408, a (ix2 r k) * b (ix2 k o) := by
  unfold k0_pay2
  refine (shapeCast_apply _ _ _ (ix2 r o) rfl).trans ?_
  show s (ix2 r o) + FloatOps.matmul (F := Ideal) (DotDims.plain 1024 1408 1024) none (a : FVec Ideal S1024x1408 .bf16) (b : FVec Ideal S1408x1024 .bf16) (constant S1024x1024 .f32 0x00000000#32) (ix2 r o) = _
  rw [Ideal.matmul_plain_apply]
  show _ + (Ideal.ofBits .f32 0x00000000#32 + _) = _
  rw [Ideal.ofBits_zero_f32, zero_add]

theorem pay3_apply (s x : Vec Ideal S1024x1024 .f32) (r o : Fin 1024) : k0_pay3 (F := Ideal) s x (ix2 r o) = s (ix2 r o) * Ideal.ofBits .f32 0x3F000000#32 + x (ix2 r o) := rfl

theorem bcast_col (v : FVec Ideal S1024x1 .f32) (r c : Fin 1024) :
    broadcastTo S1024x1024 v broadcasts_S1024x1_S1024x1024 (ix2 r c) = v (ix2 r (0 : Fin 1)) :=
  broadcastTo_apply _ _ _ (ix2 r (0 : Fin 1)) (fun a => match a with | ⟨0, _⟩ => rfl | ⟨1, _⟩ => rfl)

theorem bcast_vec (v : FVec Ideal S1x1024 .f32) (r c : Fin 1024) :
    broadcastTo S1024x1024 v broadcasts_S1x1024_S1024x1024 (ix2 r c) = v (ix2 (0 : Fin 1) c) :=
  broadcastTo_apply _ _ _ (ix2 (0 : Fin 1) c) (fun a => match a with | ⟨0, _⟩ => rfl | ⟨1, _⟩ => rfl)

theorem col_apply (v : FVec Ideal S1024 .f32) (r : Fin 1024) : shapeCast S1024x1 v shapeCasts_S1024_S1024x1 (ix2 r (0 : Fin 1)) = v (ix1 r) :=
  shapeCast_apply _ _ _ (ix1 r) (by rw [Shape.rowMajor_val_one, Shape.rowMajor_val_two]; show r.val = r.val * 1 + 0; omega)

theorem sum_row (x : FVec Ideal S1024x1024 .f32) (r : Fin 1024) :
    multiReduction .add [1] S1024 x 0x00000000#32 reduces_S1024x1024_S1024 (.inl rfl) rfl (ix1 r) = rsum fun k => x (ix2 r k) := by
  refine (Ideal.multiReduction_add_single _ _ _ _ _ _).trans ?_
  refine Finset.sum_congr rfl fun k _ => congrArg x ?_
  funext a; apply Fin.ext
  match a with
  | ⟨0, _⟩ => rfl
  | ⟨1, _⟩ => rfl

theorem pay4_apply (s x : Vec Ideal S1024x1024 .f32) (g : Vec Ideal S1x1024 .f32) (r o : Fin 1024) :
    k0_pay4 (F := Ideal) s x g (ix2 r o) = nrm (rowOf (n := 1024) (k0_pay3 (F := Ideal) s x) r) (rowOf (n := 1) g 0) o := by
  unfold k0_pay4 nrm xh rs ms
  refine congrArg₂ (· * ·) (congrArg (k0_pay3 (F := Ideal) s x (ix2 r o) * ·) ((bcast_col _ r o).trans ?_)) (bcast_vec g r o)
  refine congrArg (fun z => Ideal.rsqrt (Ideal.div z cN + cE)) ((col_apply _ r).trans ?_)
  exact sum_row _ r

/-! ## From blocks to arrays -/

variable (m : (ℓ : Loc nD τ sig) → Buf (Elt Ideal) ℓ)

abbrev A (c : Dev nD) : S8192x2816.Idx → EReal := m ((c : Thread nD τ).loc main_arg0)
abbrev B (c : Dev nD) : S2816x1024.Idx → EReal := m ((c : Thread nD τ).loc main_arg1)
abbrev X (c : Dev nD) : S8192x1024.Idx → EReal := m ((c : Thread nD τ).loc main_arg2)
abbrev G (c : Dev nD) : S1x1024.Idx → EReal := m ((c : Thread nD τ).loc main_arg3)

/-- The terms of an entry of the product. -/
abbrev term (a : S8192x2816.Idx → EReal) (b : S2816x1024.Idx → EReal) (r : Fin 8192) (o : Fin 1024) (k : Fin 2816) : EReal := a (ix2 r k) * b (ix2 k o)

def prod (a : S8192x2816.Idx → EReal) (b : S2816x1024.Idx → EReal) (r : Fin 8192) (o : Fin 1024) : EReal := ∑ k, term a b r o k

/-- The row with the residual added. -/
def y (a : S8192x2816.Idx → EReal) (b : S2816x1024.Idx → EReal) (x : S8192x1024.Idx → EReal) (r : Fin 8192) (o : Fin 1024) : EReal := (prod a b r o) * Ideal.ofBits .f32 0x3F000000#32 + x (ix2 r o)

abbrev res4 (c : Dev nD) : Buf (Elt Ideal) ((c : Thread nD τ).loc main_v0_0) := fun i : S8192x1024.Idx => y (A m c) (B m c) (X m c) (i 0) (i 1)
abbrev res5 (c : Dev nD) : Buf (Elt Ideal) ((c : Thread nD τ).loc main_v0_1) := fun i : S8192x1024.Idx => nrm (y (A m c) (B m c) (X m c) (i 0)) (rowOf (n := 1) (G m c) 0) (i 1)

abbrev blk0 (c : Dev nD) (t : Fin cfg0.N) : Vec Ideal S1024x1408 .bf16 := iblk m c 0 t
abbrev blk1 (c : Dev nD) (t : Fin cfg0.N) : Vec Ideal S1408x1024 .bf16 := iblk m c 1 t
abbrev blk2 (c : Dev nD) (t : Fin cfg0.N) : Vec Ideal S1024x1024 .f32 := iblk m c 2 t
abbrev blk3 (c : Dev nD) (t : Fin cfg0.N) : Vec Ideal S1x1024 .f32 := iblk m c 3 t

theorem idx_in : ∀ t : Fin cfg0.N, (win0_0.index t 0 = t.val / 2 ∧ win0_0.index t 1 = t.val % 2) ∧ (win0_1.index t 0 = t.val % 2 ∧ win0_1.index t 1 = 0)
    ∧ (win0_2.index t 0 = t.val / 2 ∧ win0_2.index t 1 = 0) ∧ (win0_3.index t 0 = 0 ∧ win0_3.index t 1 = 0) :=
  (by decide +kernel : ∀ t : Fin grid0.N, _)

theorem idx_out : ∀ t : Fin cfg0.N, (win0_4.index t 0 = t.val / 2 ∧ win0_4.index t 1 = 0) ∧ (win0_5.index t 0 = t.val / 2 ∧ win0_5.index t 1 = 0) :=
  (by decide +kernel : ∀ t : Fin grid0.N, _)

theorem ltN (t : Fin cfg0.N) : t.val < 16 := lt_of_lt_of_eq t.isLt N_0

abbrev gM (t : Fin cfg0.N) (x : Fin 1024) : Fin 8192 := ⟨t.val / 2 * 1024 + x.val, by have := x.isLt; have := ltN t; omega⟩
abbrev gK (t : Fin cfg0.N) (x : Fin 1408) : Fin 2816 := ⟨t.val % 2 * 1408 + x.val, by have := x.isLt; omega⟩

theorem blk0_at (c : Dev nD) (t : Fin cfg0.N) (r : Fin 1024) (k : Fin 1408) : blk0 m c t (ix2 r k) = A m c (ix2 (gM t r) (gK t k)) := by
  obtain ⟨e0, e1⟩ := (idx_in t).1
  show m ((c : Thread nD τ).loc main_arg0) _ = m ((c : Thread nD τ).loc main_arg0) _
  congr 1
  funext a; apply Fin.ext
  match a with
  | ⟨0, _⟩ => show win0_0.index t 0 * 1024 + 1 * r.val = t.val / 2 * 1024 + r.val; rw [e0]; omega
  | ⟨1, _⟩ => show win0_0.index t 1 * 1408 + 1 * k.val = t.val % 2 * 1408 + k.val; rw [e1]; omega

theorem blk1_at (c : Dev nD) (t : Fin cfg0.N) (k : Fin 1408) (o : Fin 1024) : blk1 m c t (ix2 k o) = B m c (ix2 (gK t k) o) := by
  obtain ⟨e0, e1⟩ := (idx_in t).2.1
  show m ((c : Thread nD τ).loc main_arg1) _ = m ((c : Thread nD τ).loc main_arg1) _
  congr 1
  funext a; apply Fin.ext
  match a with
  | ⟨0, _⟩ => show win0_1.index t 0 * 1408 + 1 * k.val = t.val % 2 * 1408 + k.val; rw [e0]; omega
  | ⟨1, _⟩ => show win0_1.index t 1 * 1024 + 1 * o.val = o.val; rw [e1]; omega

theorem blk2_at (c : Dev nD) (t : Fin cfg0.N) (r : Fin 1024) (o : Fin 1024) : blk2 m c t (ix2 r o) = X m c (ix2 (gM t r) o) := by
  obtain ⟨e0, e1⟩ := (idx_in t).2.2.1
  show m ((c : Thread nD τ).loc main_arg2) _ = m ((c : Thread nD τ).loc main_arg2) _
  congr 1
  funext a; apply Fin.ext
  match a with
  | ⟨0, _⟩ => show win0_2.index t 0 * 1024 + 1 * r.val = t.val / 2 * 1024 + r.val; rw [e0]; omega
  | ⟨1, _⟩ => show win0_2.index t 1 * 1024 + 1 * o.val = o.val; rw [e1]; omega

theorem blk3_at (c : Dev nD) (t : Fin cfg0.N) (r : Fin 1) (o : Fin 1024) : blk3 m c t (ix2 r o) = G m c (ix2 r o) := by
  obtain ⟨e0, e1⟩ := (idx_in t).2.2.2
  show m ((c : Thread nD τ).loc main_arg3) _ = m ((c : Thread nD τ).loc main_arg3) _
  congr 1
  funext a; apply Fin.ext
  match a with
  | ⟨0, _⟩ => show win0_3.index t 0 * 1 + 1 * r.val = r.val; rw [e0]; omega
  | ⟨1, _⟩ => show win0_3.index t 1 * 1024 + 1 * o.val = o.val; rw [e1]; omega

/-! ## The accumulator -/

abbrev prevAcc (c : Dev nD) (t : Fin cfg0.N) : Vec Ideal S1024x1024 .f32 :=
  (outsAt0 m c (t.val - 1) (Nat.lt_of_le_of_lt (Nat.sub_le _ _) t.isLt)).2.2

theorem acc_start (c : Dev nD) (t : Fin cfg0.N) (h0 : t.val % 2 = 0) :
    (outsAt0 m c t.val t.isLt).2.2 = k0_pay2 (F := Ideal) (k0_pay1 (F := Ideal)) (blk0 m c t) (blk1 m c t) := by
  rw [outsAt0_A m c t h0 (by omega)]; dsimp only; rw [sout_A]

/-- What the accumulator holds when the last run of columns has been added. -/
abbrev whole (c : Dev nD) (t : Fin cfg0.N) : Vec Ideal S1024x1024 .f32 := k0_pay2 (F := Ideal) (prevAcc m c t) (blk0 m c t) (blk1 m c t)

theorem whole_at (c : Dev nD) (t : Fin cfg0.N) (h : t.val % 2 = 1) (r o : Fin 1024) : whole m c t (ix2 r o) = prod (A m c) (B m c) (gM t r) o := by
  have hN := ltN t
  have hp : t.val - 1 < cfg0.N := Nat.lt_of_le_of_lt (Nat.sub_le _ _) t.isLt
  have e : prevAcc m c t (ix2 r o) = ∑ k : Fin 1408, blk0 m c ⟨t.val - 1, hp⟩ (ix2 r k) * blk1 m c ⟨t.val - 1, hp⟩ (ix2 k o) := by
    show (outsAt0 m c (⟨t.val - 1, hp⟩ : Fin cfg0.N).val (⟨t.val - 1, hp⟩ : Fin cfg0.N).isLt).2.2 (ix2 r o) = _
    rw [acc_start m c ⟨t.val - 1, hp⟩ (by show (t.val - 1) % 2 = 0; omega), pay2_apply, pay1_apply, zero_add]
  show k0_pay2 (F := Ideal) _ _ _ (ix2 r o) = _
  rw [pay2_apply, e]
  unfold prod
  refine Eq.trans ?_ (psum_full (term (A m c) (B m c) (gM t r) o))
  refine Eq.trans ?_ (psum_add (term (A m c) (B m c) (gM t r) o) (0 + 1408) 1408 (by omega)).symm
  rw [psum_add _ _ 1408 (by omega), psum_zero, zero_add]
  refine congrArg₂ (· + ·) (Finset.sum_congr rfl fun k _ => ?_) (Finset.sum_congr rfl fun k _ => ?_)
  · rw [blk0_at, blk1_at]
    have e1 : gM ⟨t.val - 1, hp⟩ r = gM t r := Fin.ext (by show (t.val - 1) / 2 * 1024 + r.val = t.val / 2 * 1024 + r.val; omega)
    have e2 : gK ⟨t.val - 1, hp⟩ k = ⟨0 + k.val, by have := k.isLt; omega⟩ := Fin.ext (by show (t.val - 1) % 2 * 1408 + k.val = 0 + k.val; omega)
    rw [e1, e2]
  · rw [blk0_at, blk1_at]
    have e2 : gK t k = ⟨0 + 1408 + k.val, by have := k.isLt; omega⟩ := Fin.ext (by show t.val % 2 * 1408 + k.val = 0 + 1408 + k.val; omega)
    rw [e2]

theorem y_at (c : Dev nD) (t : Fin cfg0.N) (h : t.val % 2 = 1) (r o : Fin 1024) :
    k0_pay3 (F := Ideal) (whole m c t) (blk2 m c t) (ix2 r o) = y (A m c) (B m c) (X m c) (gM t r) o := by
  rw [pay3_apply, whole_at m c t h, blk2_at]
  rfl

theorem flushed4_eq (c : Dev nD) (t : Fin cfg0.N) (ht : (cfg0.win 4).flush t = true) :
    (dats m 0 c).flushed 4 t = ((cfg0.win 4).blk t).view.read (Elt Ideal) (res4 m c) := by
  have h : t.val % 2 = 1 := (flush0_4 t).1 ht
  rw [Value.flushed4_B m c t (by omega) h, out_4]
  obtain ⟨e0, e1⟩ := (idx_out t).1
  funext j
  obtain ⟨r, o, rfl⟩ : ∃ (r : Fin 1024) (o : Fin 1024), j = ix2 r o := ⟨j 0, j 1, by funext a; match a with | ⟨0, _⟩ => rfl | ⟨1, _⟩ => rfl⟩
  show _ = res4 m c (((cfg0.win 4).blk t).view.emb (ix2 r o))
  have e : ((cfg0.win 4).blk t).view.emb (ix2 r o) = (ix2 (gM t r) o : S8192x1024.Idx) := by
    funext a; apply Fin.ext
    match a with
    | ⟨0, _⟩ => show win0_4.index t 0 * 1024 + 1 * r.val = t.val / 2 * 1024 + r.val; rw [e0]; omega
    | ⟨1, _⟩ => show win0_4.index t 1 * 1024 + 1 * o.val = o.val; rw [e1]; omega
  rw [e]
  exact y_at m c t h r o

theorem cover4 (i : S8192x1024.Idx) : ∃ t : Fin cfg0.N, (cfg0.win 4).flush t = true ∧ i ∈ ((cfg0.win 4).blk t).view.set := by
  have h0 : (i 0 : Nat) < 8192 := (i 0).isLt
  have h1 : (i 1 : Nat) < 1024 := (i 1).isLt
  have hN : (i 0).val / 1024 * 2 + 1 < cfg0.N := lt_of_lt_of_eq (by omega) N_0.symm
  refine ⟨⟨_, hN⟩, (flush0_4 _).2 (by show ((i 0).val / 1024 * 2 + 1) % 2 = 1; omega), ?_⟩
  obtain ⟨e0, e1⟩ := (idx_out ⟨_, hN⟩).1
  show i ∈ ((View.whole main_v0_0).slice (win0_4.rect ⟨_, hN⟩)).set
  rw [View.set_slice_whole, Rect.mem_set_unit]
  intro a
  match a with
  | ⟨0, _⟩ => show win0_4.index ⟨_, hN⟩ 0 * 1024 ≤ (i 0).val ∧ (i 0).val < win0_4.index ⟨_, hN⟩ 0 * 1024 + 1024; rw [e0]; dsimp only; omega
  | ⟨1, _⟩ => show win0_4.index ⟨_, hN⟩ 1 * 1024 ≤ (i 1).val ∧ (i 1).val < win0_4.index ⟨_, hN⟩ 1 * 1024 + 1024; rw [e1]; omega

theorem final4 (c : Dev nD) : (dats m 0 c).arrAt 4 cfg0.N = res4 m c := (dats m 0 c).arrAt_eq_of_cover 4 (res4 m c) (flushed4_eq m c) cover4

theorem flushed5_eq (c : Dev nD) (t : Fin cfg0.N) (ht : (cfg0.win 5).flush t = true) :
    (dats m 0 c).flushed 5 t = ((cfg0.win 5).blk t).view.read (Elt Ideal) (res5 m c) := by
  have h : t.val % 2 = 1 := (flush0_5 t).1 ht
  rw [Value.flushed5_B m c t (by omega) h, out_5]
  obtain ⟨e0, e1⟩ := (idx_out t).2
  funext j
  obtain ⟨r, o, rfl⟩ : ∃ (r : Fin 1024) (o : Fin 1024), j = ix2 r o := ⟨j 0, j 1, by funext a; match a with | ⟨0, _⟩ => rfl | ⟨1, _⟩ => rfl⟩
  show _ = res5 m c (((cfg0.win 5).blk t).view.emb (ix2 r o))
  have e : ((cfg0.win 5).blk t).view.emb (ix2 r o) = (ix2 (gM t r) o : S8192x1024.Idx) := by
    funext a; apply Fin.ext
    match a with
    | ⟨0, _⟩ => show win0_5.index t 0 * 1024 + 1 * r.val = t.val / 2 * 1024 + r.val; rw [e0]; omega
    | ⟨1, _⟩ => show win0_5.index t 1 * 1024 + 1 * o.val = o.val; rw [e1]; omega
  rw [e]
  refine (pay4_apply (whole m c t) (blk2 m c t) (blk3 m c t) r o).trans ?_
  show nrm _ _ _ = nrm (y (A m c) (B m c) (X m c) (gM t r)) (rowOf (n := 1) (G m c) 0) o
  rw [show rowOf (n := 1024) (k0_pay3 (F := Ideal) (whole m c t) (blk2 m c t)) r = y (A m c) (B m c) (X m c) (gM t r) from funext fun k => y_at m c t h r k,
    show rowOf (n := 1) (blk3 m c t) 0 = rowOf (n := 1) (G m c) 0 from funext fun k => blk3_at m c t 0 k]

theorem cover5 (i : S8192x1024.Idx) : ∃ t : Fin cfg0.N, (cfg0.win 5).flush t = true ∧ i ∈ ((cfg0.win 5).blk t).view.set := by
  have h0 : (i 0 : Nat) < 8192 := (i 0).isLt
  have h1 : (i 1 : Nat) < 1024 := (i 1).isLt
  have hN : (i 0).val / 1024 * 2 + 1 < cfg0.N := lt_of_lt_of_eq (by omega) N_0.symm
  refine ⟨⟨_, hN⟩, (flush0_5 _).2 (by show ((i 0).val / 1024 * 2 + 1) % 2 = 1; omega), ?_⟩
  obtain ⟨e0, e1⟩ := (idx_out ⟨_, hN⟩).2
  show i ∈ ((View.whole main_v0_1).slice (win0_5.rect ⟨_, hN⟩)).set
  rw [View.set_slice_whole, Rect.mem_set_unit]
  intro a
  match a with
  | ⟨0, _⟩ => show win0_5.index ⟨_, hN⟩ 0 * 1024 ≤ (i 0).val ∧ (i 0).val < win0_5.index ⟨_, hN⟩ 0 * 1024 + 1024; rw [e0]; dsimp only; omega
  | ⟨1, _⟩ => show win0_5.index ⟨_, hN⟩ 1 * 1024 ≤ (i 1).val ∧ (i 1).val < win0_5.index ⟨_, hN⟩ 1 * 1024 + 1024; rw [e1]; omega

theorem final5 (c : Dev nD) : (dats m 0 c).arrAt 5 cfg0.N = res5 m c := (dats m 0 c).arrAt_eq_of_cover 5 (res5 m c) (flushed5_eq m c) cover5

/-! ## The reference -/

open Cert.Reference11Ideal.Read

theorem ref_prod (a : S8192x2816.Idx → EReal) (b : S2816x1024.Idx → EReal) (i : S8192x1024.Idx) : val_main_v2 (F := Ideal) a b i = prod a b (i 0) (i 1) := by
  rw [val_main_v2_apply]
  refine Finset.sum_congr rfl fun k _ => ?_
  have e1 : lidx_main_v2 i k = ix2 (i 0) k := by
    funext a; apply Fin.ext
    match a with
    | ⟨0, _⟩ => rfl
    | ⟨1, _⟩ => rfl
  have e2 : ridx_main_v2 i k = ix2 k (i 1) := by
    funext a; apply Fin.ext
    match a with
    | ⟨0, _⟩ => rfl
    | ⟨1, _⟩ => rfl
  rw [e1, e2]
  rfl

theorem ref_y (a : S8192x2816.Idx → EReal) (b : S2816x1024.Idx → EReal) (x : S8192x1024.Idx → EReal) (i : S8192x1024.Idx) :
    val_main_v5 (F := Ideal) a b x i = y a b x (i 0) (i 1) := by
  show x i + Ideal.ofBits .f32 0x3F000000#32 * val_main_v2 (F := Ideal) a b i = _
  rw [ref_prod, add_comm, mul_comm (Ideal.ofBits .f32 0x3F000000#32)]
  unfold y
  exact congrArg (HAdd.hAdd _) (congrArg x (show i = ix2 (i 0) (i 1) from by funext a; match a with | ⟨0, _⟩ => rfl | ⟨1, _⟩ => rfl))

theorem ref_sum (a : S8192x2816.Idx → EReal) (b : S2816x1024.Idx → EReal) (x : S8192x1024.Idx → EReal) (i : Cert.Reference11Ideal.S8192.Idx) :
    val_main_v7 (F := Ideal) a b x i = rsum fun k => y a b x (i 0) k * y a b x (i 0) k := by
  rw [val_main_v7_apply]
  show Ideal.ofBits .f32 0x00000000#32 + _ = _
  rw [Ideal.ofBits_zero_f32, zero_add]
  refine Finset.sum_congr rfl fun k _ => ?_
  rw [val_main_v6_apply, ref_y]
  rfl

theorem ref_rs (a : S8192x2816.Idx → EReal) (b : S2816x1024.Idx → EReal) (x : S8192x1024.Idx → EReal) (i : S8192x1024.Idx) :
    val_main_v14 (F := Ideal) a b x i = rs (y a b x (i 0)) := by
  rw [val_main_v14_apply]
  show Ideal.rsqrt (Ideal.div (val_main_v8 (F := Ideal) a b x _) cN + cE) = _
  rw [val_main_v8_apply, ref_sum]
  rfl

theorem ref_h (a : S8192x2816.Idx → EReal) (b : S2816x1024.Idx → EReal) (x : S8192x1024.Idx → EReal) (g : S1x1024.Idx → EReal) (i : S8192x1024.Idx) :
    val_main_v18 (F := Ideal) a b x g i = nrm (y a b x (i 0)) (rowOf (n := 1) g 0) (i 1) := by
  show val_main_v5 (F := Ideal) a b x i * val_main_v14 (F := Ideal) a b x i * val_main_v16 (F := Ideal) g i = _
  rw [ref_y, ref_rs, val_main_v16_apply]
  unfold nrm xh
  refine congrArg (_ * ·) (congrArg g ?_)
  funext a; apply Fin.ext
  match a with
  | ⟨0, _⟩ => rfl
  | ⟨1, _⟩ => rfl

theorem algebraic [Cert.Kernel11Ideal.Facts] [Cert.Reference11Ideal.Facts] : Cert.algebraic_Kernel11Ideal_Reference11Ideal := by
  pair_intro
  · run_from Cert.Kernel11Ideal.Value.run_blocks m g
  · run_from Cert.Reference11Ideal.Value.run m' g'
    · exact (val_main_v5_eq (F := Ideal) (A m c) (B m c) (X m c)).trans ((show _ = res4 m c from funext fun i => ref_y _ _ _ i).trans (final4 m c).symm)
    · exact (val_main_v18_eq (F := Ideal) (A m c) (B m c) (X m c) (G m c)).trans ((show _ = res5 m c from funext fun i => ref_h _ _ _ _ i).trans (final5 m c).symm)

end Cert.Proof.FfnOut

end
-- ==== Proof.Proj.lean ====
/-
  The projection of the normalised rows onto the mixers, their gates and the heads: one product, its contraction in one block.
-/
module

public import proofs.«01_k».proof.Defs
public import proofs.«01_k».proof.Proof.Gen.Kernel12Ideal.Value
public import proofs.«01_k».proof.Proof.Gen.Reference12Ideal.Read
public import proofs.«01_k».proof.Proof.Common
public import Idealize.ShloMosaic.Lib.Tactic
public import Idealize.ShloMosaic.Lib.Claim

@[expose] public section

set_option maxRecDepth 16384

noncomputable section

open Idealize.ShloMosaic hiding ix1 ix2 ix3
open Idealize.ShloMosaic.TcCoe Idealize.ShloMosaic.ValueIdx Idealize.SL.Sem
open scoped BigOperators

namespace Cert.Proof.Proj

open Cert.Kernel12Ideal Cert.Kernel12Ideal.Gen

theorem hz : (![0, 0] : Fin 2 → Nat) = fun _ => 0 := funext fun a => by fin_cases a <;> rfl

/-! ## What a point of the grid leaves -/

theorem out_A {F : FTy → Type} [FloatOps F] (c : Dev nD) (i : grid0.Coords) (arg3 : Memref sig .tc .vmem S1024x1024 .bf16) (harg3 : arg3.IsWhole)
    (arg4 : Memref sig .tc .vmem S1024x1024 .bf16) (harg4 : arg4.IsWhole) (arg5 : Memref sig .tc .vmem S1024x1024 .bf16) (harg5 : arg5.IsWhole)
    (arg6 : Memref sig .tc .vmem S1024x1024 .f32) (harg6 : arg6.IsWhole) (x0 : Vec F S1024x1024 .bf16) (x1 : Vec F S1024x1024 .bf16)
    (hc0 : cond0_0 i) (hc1 : cond0_1 i) :
    out0_A_2 c i arg3 harg3 arg4 harg4 arg5 harg5 arg6 harg6 hc0 hc1 x0 x1 = k0_pay3 (k0_pay2 k0_pay1 x0 x1) := by
  unfold out0_A_2
  rw [View.read_writes_eq_canon _ _ _ (cover0_A_2 c i arg3 harg3 arg4 harg4 arg5 harg5 arg6 harg6 hc0 hc1 x0 x1)]
  unfold kernelRun0_A
  dsimp only
  sl_unfold_words
  rw [View.canon_unit_zero hz, readCov_cons_zero (S := S1024x1024) _ hz, View.readCov_unit_zero (S := S1024x1024) _ hz]
  simp only [View.readAt_eq_ld, harg3.read_unread, harg4.read_unread, View.ld_unit_zero (S := S1024x1024) hz]

/-- A block of the product. -/
theorem pay_apply (a : Vec Ideal S1024x1024 .bf16) (b : Vec Ideal S1024x1024 .bf16) (r : Fin 1024) (o : Fin 1024) :
    k0_pay3 (F := Ideal) (k0_pay2 (k0_pay1 (F := Ideal)) a b) (ix2 r o) = ∑ k : Fin 1024, a (ix2 r k) * b (ix2 k o) := by
  show k0_pay2 (F := Ideal) (k0_pay1 (F := Ideal)) a b (ix2 r o) = _
  unfold k0_pay2
  refine (shapeCast_apply _ _ _ (ix2 r o) rfl).trans ?_
  show Ideal.ofBits .f32 0x00000000#32 + FloatOps.matmul (F := Ideal) (DotDims.plain 1024 1024 1024) none (a : FVec Ideal S1024x1024 .bf16) (b : FVec Ideal S1024x1024 .bf16) (constant S1024x1024 .f32 0x00000000#32) (ix2 r o) = _
  rw [Ideal.matmul_plain_apply]
  show Ideal.ofBits .f32 0x00000000#32 + (Ideal.ofBits .f32 0x00000000#32 + _) = _
  rw [Ideal.ofBits_zero_f32, zero_add, zero_add]

/-! ## From blocks to arrays -/

variable (m : (ℓ : Loc nD τ sig) → Buf (Elt Ideal) ℓ)

abbrev A (c : Dev nD) : S8192x1024.Idx → EReal := m ((c : Thread nD τ).loc main_arg0)
abbrev B (c : Dev nD) : S1024x7168.Idx → EReal := m ((c : Thread nD τ).loc main_arg1)

def prod (a : S8192x1024.Idx → EReal) (b : S1024x7168.Idx → EReal) (r : Fin 8192) (o : Fin 7168) : EReal := ∑ k : Fin 1024, a (ix2 r k) * b (ix2 k o)

abbrev res (c : Dev nD) : Buf (Elt Ideal) ((c : Thread nD τ).loc main_v0) := fun i : S8192x7168.Idx => prod (A m c) (B m c) (i 0) (i 1)

abbrev blk0 (c : Dev nD) (t : Fin cfg0.N) : Vec Ideal S1024x1024 .bf16 := iblk m c 0 t
abbrev blk1 (c : Dev nD) (t : Fin cfg0.N) : Vec Ideal S1024x1024 .bf16 := iblk m c 1 t

theorem idx_in : ∀ t : Fin cfg0.N, win0_0.index t 0 = t.val / 7 ∧ win0_0.index t 1 = 0 ∧ win0_1.index t 0 = 0 ∧ win0_1.index t 1 = t.val % 7
    ∧ win0_2.index t 0 = t.val / 7 ∧ win0_2.index t 1 = t.val % 7 :=
  (by decide +kernel : ∀ t : Fin grid0.N, _)

theorem ltN (t : Fin cfg0.N) : t.val < 56 := lt_of_lt_of_eq t.isLt N_0

abbrev gM (t : Fin cfg0.N) (x : Fin 1024) : Fin 8192 := ⟨t.val / 7 * 1024 + x.val, by have := x.isLt; have := ltN t; omega⟩
abbrev gN (t : Fin cfg0.N) (o : Fin 1024) : Fin 7168 := ⟨t.val % 7 * 1024 + o.val, by have := o.isLt; have := ltN t; omega⟩

theorem blk0_at (c : Dev nD) (t : Fin cfg0.N) (r : Fin 1024) (k : Fin 1024) : blk0 m c t (ix2 r k) = A m c (ix2 (gM t r) k) := by
  obtain ⟨e0, e1, -⟩ := idx_in t
  show m ((c : Thread nD τ).loc main_arg0) _ = m ((c : Thread nD τ).loc main_arg0) _
  congr 1
  funext a; apply Fin.ext
  match a with
  | ⟨0, _⟩ => show win0_0.index t 0 * 1024 + 1 * r.val = t.val / 7 * 1024 + r.val; rw [e0]; omega
  | ⟨1, _⟩ => show win0_0.index t 1 * 1024 + 1 * k.val = k.val; rw [e1]; omega

theorem blk1_at (c : Dev nD) (t : Fin cfg0.N) (k : Fin 1024) (o : Fin 1024) : blk1 m c t (ix2 k o) = B m c (ix2 k (gN t o)) := by
  obtain ⟨-, -, e0, e1, -⟩ := idx_in t
  show m ((c : Thread nD τ).loc main_arg1) _ = m ((c : Thread nD τ).loc main_arg1) _
  congr 1
  funext a; apply Fin.ext
  match a with
  | ⟨0, _⟩ => show win0_1.index t 0 * 1024 + 1 * k.val = k.val; rw [e0]; omega
  | ⟨1, _⟩ => show win0_1.index t 1 * 1024 + 1 * o.val = t.val % 7 * 1024 + o.val; rw [e1]; omega

theorem flushed_eq (c : Dev nD) (t : Fin cfg0.N) (_ : (cfg0.win 2).flush t = true) :
    (dats m 0 c).flushed 2 t = ((cfg0.win 2).blk t).view.read (Elt Ideal) (res m c) := by
  obtain ⟨-, -, -, -, e0, e1⟩ := idx_in t
  rw [Value.flushed2]
  unfold outsAt0
  rw [out_A]
  funext j
  obtain ⟨r, o, rfl⟩ : ∃ (r : Fin 1024) (o : Fin 1024), j = ix2 r o := ⟨j 0, j 1, by funext a; match a with | ⟨0, _⟩ => rfl | ⟨1, _⟩ => rfl⟩
  show _ = res m c (((cfg0.win 2).blk t).view.emb (ix2 r o))
  have e : ((cfg0.win 2).blk t).view.emb (ix2 r o) = (ix2 (gM t r) (gN t o) : S8192x7168.Idx) := by
    funext a; apply Fin.ext
    match a with
    | ⟨0, _⟩ => show win0_2.index t 0 * 1024 + 1 * r.val = t.val / 7 * 1024 + r.val; rw [e0]; omega
    | ⟨1, _⟩ => show win0_2.index t 1 * 1024 + 1 * o.val = t.val % 7 * 1024 + o.val; rw [e1]; omega
  rw [e]
  refine (pay_apply (blk0 m c t) (blk1 m c t) r o).trans ?_
  show _ = prod (A m c) (B m c) (gM t r) (gN t o)
  exact Finset.sum_congr rfl fun k _ => by rw [blk0_at, blk1_at]

theorem idx_onto : ∀ p : Fin 8 × Fin 7, ∃ t : Fin cfg0.N, win0_2.index t 0 = p.1.val ∧ win0_2.index t 1 = p.2.val :=
  (by decide +kernel : ∀ p : Fin 8 × Fin 7, ∃ t : Fin grid0.N, win0_2.index t 0 = p.1.val ∧ win0_2.index t 1 = p.2.val)

theorem cover (i : S8192x7168.Idx) : ∃ t : Fin cfg0.N, (cfg0.win 2).flush t = true ∧ i ∈ ((cfg0.win 2).blk t).view.set := by
  have h0 : (i 0 : Nat) < 8192 := (i 0).isLt
  have h1 : (i 1 : Nat) < 7168 := (i 1).isLt
  obtain ⟨t, e0, e1⟩ := idx_onto (⟨(i 0).val / 1024, by omega⟩, ⟨(i 1).val / 1024, by omega⟩)
  refine ⟨t, flush0_2 t, ?_⟩
  show i ∈ ((View.whole main_v0).slice (win0_2.rect t)).set
  rw [View.set_slice_whole, Rect.mem_set_unit]
  intro a
  match a with
  | ⟨0, _⟩ => show win0_2.index t 0 * 1024 ≤ (i 0).val ∧ (i 0).val < win0_2.index t 0 * 1024 + 1024; rw [e0]; dsimp only; omega
  | ⟨1, _⟩ => show win0_2.index t 1 * 1024 ≤ (i 1).val ∧ (i 1).val < win0_2.index t 1 * 1024 + 1024; rw [e1]; dsimp only; omega

theorem final (c : Dev nD) : (dats m 0 c).arrAt 2 cfg0.N = res m c := (dats m 0 c).arrAt_eq_of_cover 2 (res m c) (flushed_eq m c) cover

/-! ## The reference -/

open Cert.Reference12Ideal.Read in
theorem ref_eq (a : S8192x1024.Idx → EReal) (b : S1024x7168.Idx → EReal) (r : Fin 8192) (o : Fin 7168) :
    val_main_v3 (F := Ideal) a b (ix2 r o) = prod a b r o := by
  show val_main_v2 (F := Ideal) a b (ix2 r o) = _
  rw [val_main_v2_apply]
  refine Finset.sum_congr rfl fun k _ => ?_
  have e1 : lidx_main_v2 (ix2 r o) k = ix2 r k := by
    funext a; apply Fin.ext
    match a with
    | ⟨0, _⟩ => rfl
    | ⟨1, _⟩ => rfl
  have e2 : ridx_main_v2 (ix2 r o) k = ix2 k o := by
    funext a; apply Fin.ext
    match a with
    | ⟨0, _⟩ => rfl
    | ⟨1, _⟩ => rfl
  rw [e1, e2]
  rfl

theorem ref_arr (c : Dev nD) : Cert.Reference12Ideal.Read.val_main_v3 (F := Ideal) (A m c) (B m c) = res m c := by
  funext i
  obtain ⟨r, o, rfl⟩ : ∃ (r : Fin 8192) (o : Fin 7168), i = ix2 r o := ⟨i 0, i 1, by funext a; match a with | ⟨0, _⟩ => rfl | ⟨1, _⟩ => rfl⟩
  exact ref_eq _ _ r o

theorem algebraic [Cert.Kernel12Ideal.Facts] [Cert.Reference12Ideal.Facts] : Cert.algebraic_Kernel12Ideal_Reference12Ideal := by
  pair_intro
  · run_from Cert.Kernel12Ideal.Value.run_blocks m g
  · run_from Cert.Reference12Ideal.Value.run m' g'
    exact (Cert.Reference12Ideal.Read.val_main_v3_eq (F := Ideal) (A m c) (B m c)).trans ((ref_arr m c).trans (final m c).symm)

end Cert.Proof.Proj

end
-- ==== Proof.Xq.lean ====
/-
  A product of the rows with a square matrix: the queries of the memory attention, and the second mixer back to the model width.
-/
module

public import proofs.«01_k».proof.Defs
public import proofs.«01_k».proof.Proof.Gen.Kernel13Ideal.Value
public import proofs.«01_k».proof.Proof.Gen.Reference13Ideal.Read
public import proofs.«01_k».proof.Proof.Common
public import Idealize.ShloMosaic.Lib.Tactic
public import Idealize.ShloMosaic.Lib.Claim

@[expose] public section

set_option maxRecDepth 16384

noncomputable section

open Idealize.ShloMosaic hiding ix1 ix2 ix3
open Idealize.ShloMosaic.TcCoe Idealize.ShloMosaic.ValueIdx Idealize.SL.Sem
open scoped BigOperators

namespace Cert.Proof.Xq

open Cert.Kernel13Ideal Cert.Kernel13Ideal.Gen

theorem hz : (![0, 0] : Fin 2 → Nat) = fun _ => 0 := funext fun a => by fin_cases a <;> rfl

/-! ## What a point of the grid leaves -/

theorem out_A {F : FTy → Type} [FloatOps F] (c : Dev nD) (i : grid0.Coords) (arg3 : Memref sig .tc .vmem S1024x1024 .bf16) (harg3 : arg3.IsWhole)
    (arg4 : Memref sig .tc .vmem S1024x1024 .bf16) (harg4 : arg4.IsWhole) (arg5 : Memref sig .tc .vmem S1024x1024 .bf16) (harg5 : arg5.IsWhole)
    (arg6 : Memref sig .tc .vmem S1024x1024 .f32) (harg6 : arg6.IsWhole) (x0 : Vec F S1024x1024 .bf16) (x1 : Vec F S1024x1024 .bf16)
    (hc0 : cond0_0 i) (hc1 : cond0_1 i) :
    out0_A_2 c i arg3 harg3 arg4 harg4 arg5 harg5 arg6 harg6 hc0 hc1 x0 x1 = k0_pay3 (k0_pay2 k0_pay1 x0 x1) := by
  unfold out0_A_2
  rw [View.read_writes_eq_canon _ _ _ (cover0_A_2 c i arg3 harg3 arg4 harg4 arg5 harg5 arg6 harg6 hc0 hc1 x0 x1)]
  unfold kernelRun0_A
  dsimp only
  sl_unfold_words
  rw [View.canon_unit_zero hz, readCov_cons_zero (S := S1024x1024) _ hz, View.readCov_unit_zero (S := S1024x1024) _ hz]
  simp only [View.readAt_eq_ld, harg3.read_unread, harg4.read_unread, View.ld_unit_zero (S := S1024x1024) hz]

/-- A block of the product. -/
theorem pay_apply (a : Vec Ideal S1024x1024 .bf16) (b : Vec Ideal S1024x1024 .bf16) (r : Fin 1024) (o : Fin 1024) :
    k0_pay3 (F := Ideal) (k0_pay2 (k0_pay1 (F := Ideal)) a b) (ix2 r o) = ∑ k : Fin 1024, a (ix2 r k) * b (ix2 k o) := by
  show k0_pay2 (F := Ideal) (k0_pay1 (F := Ideal)) a b (ix2 r o) = _
  unfold k0_pay2
  refine (shapeCast_apply _ _ _ (ix2 r o) rfl).trans ?_
  show Ideal.ofBits .f32 0x00000000#32 + FloatOps.matmul (F := Ideal) (DotDims.plain 1024 1024 1024) none (a : FVec Ideal S1024x1024 .bf16) (b : FVec Ideal S1024x1024 .bf16) (constant S1024x1024 .f32 0x00000000#32) (ix2 r o) = _
  rw [Ideal.matmul_plain_apply]
  show Ideal.ofBits .f32 0x00000000#32 + (Ideal.ofBits .f32 0x00000000#32 + _) = _
  rw [Ideal.ofBits_zero_f32, zero_add, zero_add]

/-! ## From blocks to arrays -/

variable (m : (ℓ : Loc nD τ sig) → Buf (Elt Ideal) ℓ)

abbrev A (c : Dev nD) : S8192x1024.Idx → EReal := m ((c : Thread nD τ).loc main_arg0)
abbrev B (c : Dev nD) : S1024x1024.Idx → EReal := m ((c : Thread nD τ).loc main_arg1)

def prod (a : S8192x1024.Idx → EReal) (b : S1024x1024.Idx → EReal) (r : Fin 8192) (o : Fin 1024) : EReal := ∑ k : Fin 1024, a (ix2 r k) * b (ix2 k o)

abbrev res (c : Dev nD) : Buf (Elt Ideal) ((c : Thread nD τ).loc main_v0) := fun i : S8192x1024.Idx => prod (A m c) (B m c) (i 0) (i 1)

abbrev blk0 (c : Dev nD) (t : Fin cfg0.N) : Vec Ideal S1024x1024 .bf16 := iblk m c 0 t
abbrev blk1 (c : Dev nD) (t : Fin cfg0.N) : Vec Ideal S1024x1024 .bf16 := iblk m c 1 t

theorem idx_in : ∀ t : Fin cfg0.N, win0_0.index t 0 = t.val ∧ win0_0.index t 1 = 0 ∧ win0_1.index t 0 = 0 ∧ win0_1.index t 1 = 0
    ∧ win0_2.index t 0 = t.val ∧ win0_2.index t 1 = 0 :=
  (by decide +kernel : ∀ t : Fin grid0.N, _)

theorem ltN (t : Fin cfg0.N) : t.val < 8 := lt_of_lt_of_eq t.isLt N_0

abbrev gM (t : Fin cfg0.N) (x : Fin 1024) : Fin 8192 := ⟨t.val * 1024 + x.val, by have := x.isLt; have := ltN t; omega⟩
abbrev gN (t : Fin cfg0.N) (o : Fin 1024) : Fin 1024 := ⟨o.val, by have := o.isLt; have := ltN t; omega⟩

theorem blk0_at (c : Dev nD) (t : Fin cfg0.N) (r : Fin 1024) (k : Fin 1024) : blk0 m c t (ix2 r k) = A m c (ix2 (gM t r) k) := by
  obtain ⟨e0, e1, -⟩ := idx_in t
  show m ((c : Thread nD τ).loc main_arg0) _ = m ((c : Thread nD τ).loc main_arg0) _
  congr 1
  funext a; apply Fin.ext
  match a with
  | ⟨0, _⟩ => show win0_0.index t 0 * 1024 + 1 * r.val = t.val * 1024 + r.val; rw [e0]; omega
  | ⟨1, _⟩ => show win0_0.index t 1 * 1024 + 1 * k.val = k.val; rw [e1]; omega

theorem blk1_at (c : Dev nD) (t : Fin cfg0.N) (k : Fin 1024) (o : Fin 1024) : blk1 m c t (ix2 k o) = B m c (ix2 k (gN t o)) := by
  obtain ⟨-, -, e0, e1, -⟩ := idx_in t
  show m ((c : Thread nD τ).loc main_arg1) _ = m ((c : Thread nD τ).loc main_arg1) _
  congr 1
  funext a; apply Fin.ext
  match a with
  | ⟨0, _⟩ => show win0_1.index t 0 * 1024 + 1 * k.val = k.val; rw [e0]; omega
  | ⟨1, _⟩ => show win0_1.index t 1 * 1024 + 1 * o.val = o.val; rw [e1]; omega

theorem flushed_eq (c : Dev nD) (t : Fin cfg0.N) (_ : (cfg0.win 2).flush t = true) :
    (dats m 0 c).flushed 2 t = ((cfg0.win 2).blk t).view.read (Elt Ideal) (res m c) := by
  obtain ⟨-, -, -, -, e0, e1⟩ := idx_in t
  rw [Value.flushed2]
  unfold outsAt0
  rw [out_A]
  funext j
  obtain ⟨r, o, rfl⟩ : ∃ (r : Fin 1024) (o : Fin 1024), j = ix2 r o := ⟨j 0, j 1, by funext a; match a with | ⟨0, _⟩ => rfl | ⟨1, _⟩ => rfl⟩
  show _ = res m c (((cfg0.win 2).blk t).view.emb (ix2 r o))
  have e : ((cfg0.win 2).blk t).view.emb (ix2 r o) = (ix2 (gM t r) (gN t o) : S8192x1024.Idx) := by
    funext a; apply Fin.ext
    match a with
    | ⟨0, _⟩ => show win0_2.index t 0 * 1024 + 1 * r.val = t.val * 1024 + r.val; rw [e0]; omega
    | ⟨1, _⟩ => show win0_2.index t 1 * 1024 + 1 * o.val = o.val; rw [e1]; omega
  rw [e]
  refine (pay_apply (blk0 m c t) (blk1 m c t) r o).trans ?_
  show _ = prod (A m c) (B m c) (gM t r) (gN t o)
  exact Finset.sum_congr rfl fun k _ => by rw [blk0_at, blk1_at]

theorem idx_onto : ∀ p : Fin 8 × Fin 1, ∃ t : Fin cfg0.N, win0_2.index t 0 = p.1.val ∧ win0_2.index t 1 = p.2.val :=
  (by decide +kernel : ∀ p : Fin 8 × Fin 1, ∃ t : Fin grid0.N, win0_2.index t 0 = p.1.val ∧ win0_2.index t 1 = p.2.val)

theorem cover (i : S8192x1024.Idx) : ∃ t : Fin cfg0.N, (cfg0.win 2).flush t = true ∧ i ∈ ((cfg0.win 2).blk t).view.set := by
  have h0 : (i 0 : Nat) < 8192 := (i 0).isLt
  have h1 : (i 1 : Nat) < 1024 := (i 1).isLt
  obtain ⟨t, e0, e1⟩ := idx_onto (⟨(i 0).val / 1024, by omega⟩, ⟨(i 1).val / 1024, by omega⟩)
  refine ⟨t, flush0_2 t, ?_⟩
  show i ∈ ((View.whole main_v0).slice (win0_2.rect t)).set
  rw [View.set_slice_whole, Rect.mem_set_unit]
  intro a
  match a with
  | ⟨0, _⟩ => show win0_2.index t 0 * 1024 ≤ (i 0).val ∧ (i 0).val < win0_2.index t 0 * 1024 + 1024; rw [e0]; dsimp only; omega
  | ⟨1, _⟩ => show win0_2.index t 1 * 1024 ≤ (i 1).val ∧ (i 1).val < win0_2.index t 1 * 1024 + 1024; rw [e1]; dsimp only; omega

theorem final (c : Dev nD) : (dats m 0 c).arrAt 2 cfg0.N = res m c := (dats m 0 c).arrAt_eq_of_cover 2 (res m c) (flushed_eq m c) cover

/-! ## The reference -/

open Cert.Reference13Ideal.Read in
theorem ref_eq (a : S8192x1024.Idx → EReal) (b : S1024x1024.Idx → EReal) (r : Fin 8192) (o : Fin 1024) :
    val_main_v3 (F := Ideal) a b (ix2 r o) = prod a b r o := by
  show val_main_v2 (F := Ideal) a b (ix2 r o) = _
  rw [val_main_v2_apply]
  refine Finset.sum_congr rfl fun k _ => ?_
  have e1 : lidx_main_v2 (ix2 r o) k = ix2 r k := by
    funext a; apply Fin.ext
    match a with
    | ⟨0, _⟩ => rfl
    | ⟨1, _⟩ => rfl
  have e2 : ridx_main_v2 (ix2 r o) k = ix2 k o := by
    funext a; apply Fin.ext
    match a with
    | ⟨0, _⟩ => rfl
    | ⟨1, _⟩ => rfl
  rw [e1, e2]
  rfl

theorem ref_arr (c : Dev nD) : Cert.Reference13Ideal.Read.val_main_v3 (F := Ideal) (A m c) (B m c) = res m c := by
  funext i
  obtain ⟨r, o, rfl⟩ : ∃ (r : Fin 8192) (o : Fin 1024), i = ix2 r o := ⟨i 0, i 1, by funext a; match a with | ⟨0, _⟩ => rfl | ⟨1, _⟩ => rfl⟩
  exact ref_eq _ _ r o

theorem algebraic [Cert.Kernel13Ideal.Facts] [Cert.Reference13Ideal.Facts] : Cert.algebraic_Kernel13Ideal_Reference13Ideal := by
  pair_intro
  · run_from Cert.Kernel13Ideal.Value.run_blocks m g
  · run_from Cert.Reference13Ideal.Value.run m' g'
    exact (Cert.Reference13Ideal.Read.val_main_v3_eq (F := Ideal) (A m c) (B m c)).trans ((ref_arr m c).trans (final m c).symm)

end Cert.Proof.Xq

end
-- ==== Proof.Wo.lean ====
/-
  A product with its residual added, and the next normalisation of the sum.
-/
module

public import proofs.«01_k».proof.Defs
public import proofs.«01_k».proof.Proof.Gen.Kernel14Ideal.Value
public import proofs.«01_k».proof.Proof.Gen.Reference14Ideal.Read
public import proofs.«01_k».proof.Proof.Rms
public import Idealize.ShloMosaic.Lib.Tactic
public import Idealize.ShloMosaic.Lib.Claim

@[expose] public section

set_option maxRecDepth 16384

noncomputable section

open Idealize.ShloMosaic hiding ix1 ix2 ix3
open Idealize.ShloMosaic.TcCoe Idealize.ShloMosaic.ValueIdx Idealize.SL.Sem
open Cert.Proof.Rms
open scoped BigOperators

namespace Cert.Proof.Wo

open Cert.Kernel14Ideal Cert.Kernel14Ideal.Gen

theorem hz : (![0, 0] : Fin 2 → Nat) = fun _ => 0 := funext fun a => by fin_cases a <;> rfl

/-! ## What a point of the grid leaves -/

section Outs
variable {F : FTy → Type} [FloatOps F]
variable (c : Dev nD) (i : grid0.Coords) (arg3 : Memref sig .tc .vmem S1024x1024 .bf16) (harg3 : arg3.IsWhole) (arg4 : Memref sig .tc .vmem S1024x1024 .bf16) (harg4 : arg4.IsWhole)
  (arg5 : Memref sig .tc .vmem S1024x1024 .f32) (harg5 : arg5.IsWhole) (arg6 : Memref sig .tc .vmem S1x1024 .f32) (harg6 : arg6.IsWhole)
  (arg7 : Memref sig .tc .vmem S1024x1024 .f32) (harg7 : arg7.IsWhole) (arg8 : Memref sig .tc .vmem S1024x1024 .bf16) (harg8 : arg8.IsWhole)
  (arg9 : Memref sig .tc .vmem S1024x1024 .f32) (harg9 : arg9.IsWhole)
  (x0 : Vec F S1024x1024 .bf16) (x1 : Vec F S1024x1024 .bf16) (x2 : Vec F S1024x1024 .f32) (x3 : Vec F S1x1024 .f32)

theorem out_4 (hc0 : cond0_0 i) (hc1 : cond0_1 i) :
    out0_A_4 c i arg3 harg3 arg4 harg4 arg5 harg5 arg6 harg6 arg7 harg7 arg8 harg8 arg9 harg9 hc0 hc1 x0 x1 x2 x3 = k0_pay3 (k0_pay2 k0_pay1 x0 x1) x2 := by
  unfold out0_A_4
  rw [View.read_writes_eq_canon _ _ _ (cover0_A_4 c i arg3 harg3 arg4 harg4 arg5 harg5 arg6 harg6 arg7 harg7 arg8 harg8 arg9 harg9 hc0 hc1 x0 x1 x2 x3)]
  unfold kernelRun0_A
  dsimp only
  sl_unfold_words
  rw [View.canon_unit_zero hz, readCov_cons_zero (S := S1024x1024) _ hz, View.readCov_unit_zero (S := S1024x1024) _ hz]
  simp only [View.readAt_eq_ld, harg3.read_unread, harg4.read_unread, harg5.read_unread, harg6.read_unread, harg9.read_unread, View.ld_unit_zero (S := S1024x1024) hz, View.ld_unit_zero (S := S1x1024) hz]

theorem out_5 (hc0 : cond0_0 i) (hc1 : cond0_1 i) :
    out0_A_5 c i arg3 harg3 arg4 harg4 arg5 harg5 arg6 harg6 arg7 harg7 arg8 harg8 arg9 harg9 hc0 hc1 x0 x1 x2 x3 = k0_pay4 (k0_pay2 k0_pay1 x0 x1) x2 x3 := by
  unfold out0_A_5
  rw [View.read_writes_eq_canon _ _ _ (cover0_A_5 c i arg3 harg3 arg4 harg4 arg5 harg5 arg6 harg6 arg7 harg7 arg8 harg8 arg9 harg9 hc0 hc1 x0 x1 x2 x3)]
  unfold kernelRun0_A
  dsimp only
  sl_unfold_words
  rw [View.canon_unit_zero hz, readCov_cons_zero (S := S1024x1024) _ hz, View.readCov_unit_zero (S := S1024x1024) _ hz]
  simp only [View.readAt_eq_ld, harg3.read_unread, harg4.read_unread, harg5.read_unread, harg6.read_unread, harg9.read_unread, View.ld_unit_zero (S := S1024x1024) hz, View.ld_unit_zero (S := S1x1024) hz]

end Outs

/-! ## The payloads at an index -/

theorem pay1_apply (j : S1024x1024.Idx) : k0_pay1 (F := Ideal) j = 0 := Ideal.ofBits_zero_f32

theorem pay2_apply (s : Vec Ideal S1024x1024 .f32) (a : Vec Ideal S1024x1024 .bf16) (b : Vec Ideal S1024x1024 .bf16) (r o : Fin 1024) :
    k0_pay2 (F := Ideal) s a b (ix2 r o) = s (ix2 r o) + ∑ k : Fin 1024, a (ix2 r k) * b (ix2 k o) := by
  unfold k0_pay2
  refine (shapeCast_apply _ _ _ (ix2 r o) rfl).trans ?_
  show s (ix2 r o) + FloatOps.matmul (F := Ideal) (DotDims.plain 1024 1024 1024) none (a : FVec Ideal S1024x1024 .bf16) (b : FVec Ideal S1024x1024 .bf16) (constant S1024x1024 .f32 0x00000000#32) (ix2 r o) = _
  rw [Ideal.matmul_plain_apply]
  show _ + (Ideal.ofBits .f32 0x00000000#32 + _) = _
  rw [Ideal.ofBits_zero_f32, zero_add]

theorem pay3_apply (s x : Vec Ideal S1024x1024 .f32) (r o : Fin 1024) : k0_pay3 (F := Ideal) s x (ix2 r o) = s (ix2 r o) + x (ix2 r o) := rfl

theorem bcast_col (v : FVec Ideal S1024x1 .f32) (r c : Fin 1024) :
    broadcastTo S1024x1024 v broadcasts_S1024x1_S1024x1024 (ix2 r c) = v (ix2 r (0 : Fin 1)) :=
  broadcastTo_apply _ _ _ (ix2 r (0 : Fin 1)) (fun a => match a with | ⟨0, _⟩ => rfl | ⟨1, _⟩ => rfl)

theorem bcast_vec (v : FVec Ideal S1x1024 .f32) (r c : Fin 1024) :
    broadcastTo S1024x1024 v broadcasts_S1x1024_S1024x1024 (ix2 r c) = v (ix2 (0 : Fin 1) c) :=
  broadcastTo_apply _ _ _ (ix2 (0 : Fin 1) c) (fun a => match a with | ⟨0, _⟩ => rfl | ⟨1, _⟩ => rfl)

theorem col_apply (v : FVec Ideal S1024 .f32) (r : Fin 1024) : shapeCast S1024x1 v shapeCasts_S1024_S1024x1 (ix2 r (0 : Fin 1)) = v (ix1 r) :=
  shapeCast_apply _ _ _ (ix1 r) (by rw [Shape.rowMajor_val_one, Shape.rowMajor_val_two]; show r.val = r.val * 1 + 0; omega)

theorem sum_row (x : FVec Ideal S1024x1024 .f32) (r : Fin 1024) :
    multiReduction .add [1] S1024 x 0x00000000#32 reduces_S1024x1024_S1024 (.inl rfl) rfl (ix1 r) = rsum fun k => x (ix2 r k) := by
  refine (Ideal.multiReduction_add_single _ _ _ _ _ _).trans ?_
  refine Finset.sum_congr rfl fun k _ => congrArg x ?_
  funext a; apply Fin.ext
  match a with
  | ⟨0, _⟩ => rfl
  | ⟨1, _⟩ => rfl

theorem pay4_apply (s x : Vec Ideal S1024x1024 .f32) (g : Vec Ideal S1x1024 .f32) (r o : Fin 1024) :
    k0_pay4 (F := Ideal) s x g (ix2 r o) = nrm (rowOf (n := 1024) (k0_pay3 (F := Ideal) s x) r) (rowOf (n := 1) g 0) o := by
  unfold k0_pay4 nrm xh rs ms
  refine congrArg₂ (· * ·) (congrArg (k0_pay3 (F := Ideal) s x (ix2 r o) * ·) ((bcast_col _ r o).trans ?_)) (bcast_vec g r o)
  refine congrArg (fun z => Ideal.rsqrt (Ideal.div z cN + cE)) ((col_apply _ r).trans ?_)
  exact sum_row _ r

/-! ## From blocks to arrays -/

variable (m : (ℓ : Loc nD τ sig) → Buf (Elt Ideal) ℓ)

abbrev A (c : Dev nD) : S8192x1024.Idx → EReal := m ((c : Thread nD τ).loc main_arg0)
abbrev B (c : Dev nD) : S1024x1024.Idx → EReal := m ((c : Thread nD τ).loc main_arg1)
abbrev X (c : Dev nD) : S8192x1024.Idx → EReal := m ((c : Thread nD τ).loc main_arg2)
abbrev G (c : Dev nD) : S1x1024.Idx → EReal := m ((c : Thread nD τ).loc main_arg3)

/-- The terms of an entry of the product. -/
abbrev term (a : S8192x1024.Idx → EReal) (b : S1024x1024.Idx → EReal) (r : Fin 8192) (o : Fin 1024) (k : Fin 1024) : EReal := a (ix2 r k) * b (ix2 k o)

def prod (a : S8192x1024.Idx → EReal) (b : S1024x1024.Idx → EReal) (r : Fin 8192) (o : Fin 1024) : EReal := ∑ k, term a b r o k

/-- The row with the residual added. -/
def y (a : S8192x1024.Idx → EReal) (b : S1024x1024.Idx → EReal) (x : S8192x1024.Idx → EReal) (r : Fin 8192) (o : Fin 1024) : EReal := prod a b r o + x (ix2 r o)

abbrev res4 (c : Dev nD) : Buf (Elt Ideal) ((c : Thread nD τ).loc main_v0_0) := fun i : S8192x1024.Idx => y (A m c) (B m c) (X m c) (i 0) (i 1)
abbrev res5 (c : Dev nD) : Buf (Elt Ideal) ((c : Thread nD τ).loc main_v0_1) := fun i : S8192x1024.Idx => nrm (y (A m c) (B m c) (X m c) (i 0)) (rowOf (n := 1) (G m c) 0) (i 1)

abbrev blk0 (c : Dev nD) (t : Fin cfg0.N) : Vec Ideal S1024x1024 .bf16 := iblk m c 0 t
abbrev blk1 (c : Dev nD) (t : Fin cfg0.N) : Vec Ideal S1024x1024 .bf16 := iblk m c 1 t
abbrev blk2 (c : Dev nD) (t : Fin cfg0.N) : Vec Ideal S1024x1024 .f32 := iblk m c 2 t
abbrev blk3 (c : Dev nD) (t : Fin cfg0.N) : Vec Ideal S1x1024 .f32 := iblk m c 3 t

theorem idx_in : ∀ t : Fin cfg0.N, (win0_0.index t 0 = t.val / 1 ∧ win0_0.index t 1 = t.val % 1) ∧ (win0_1.index t 0 = t.val % 1 ∧ win0_1.index t 1 = 0)
    ∧ (win0_2.index t 0 = t.val / 1 ∧ win0_2.index t 1 = 0) ∧ (win0_3.index t 0 = 0 ∧ win0_3.index t 1 = 0) :=
  (by decide +kernel : ∀ t : Fin grid0.N, _)

theorem idx_out : ∀ t : Fin cfg0.N, (win0_4.index t 0 = t.val / 1 ∧ win0_4.index t 1 = 0) ∧ (win0_5.index t 0 = t.val / 1 ∧ win0_5.index t 1 = 0) :=
  (by decide +kernel : ∀ t : Fin grid0.N, _)

theorem ltN (t : Fin cfg0.N) : t.val < 8 := lt_of_lt_of_eq t.isLt N_0

abbrev gM (t : Fin cfg0.N) (x : Fin 1024) : Fin 8192 := ⟨t.val / 1 * 1024 + x.val, by have := x.isLt; have := ltN t; omega⟩
abbrev gK (t : Fin cfg0.N) (x : Fin 1024) : Fin 1024 := ⟨t.val % 1 * 1024 + x.val, by have := x.isLt; omega⟩

theorem blk0_at (c : Dev nD) (t : Fin cfg0.N) (r : Fin 1024) (k : Fin 1024) : blk0 m c t (ix2 r k) = A m c (ix2 (gM t r) (gK t k)) := by
  obtain ⟨e0, e1⟩ := (idx_in t).1
  show m ((c : Thread nD τ).loc main_arg0) _ = m ((c : Thread nD τ).loc main_arg0) _
  congr 1
  funext a; apply Fin.ext
  match a with
  | ⟨0, _⟩ => show win0_0.index t 0 * 1024 + 1 * r.val = t.val / 1 * 1024 + r.val; rw [e0]; omega
  | ⟨1, _⟩ => show win0_0.index t 1 * 1024 + 1 * k.val = t.val % 1 * 1024 + k.val; rw [e1]; omega

theorem blk1_at (c : Dev nD) (t : Fin cfg0.N) (k : Fin 1024) (o : Fin 1024) : blk1 m c t (ix2 k o) = B m c (ix2 (gK t k) o) := by
  obtain ⟨e0, e1⟩ := (idx_in t).2.1
  show m ((c : Thread nD τ).loc main_arg1) _ = m ((c : Thread nD τ).loc main_arg1) _
  congr 1
  funext a; apply Fin.ext
  match a with
  | ⟨0, _⟩ => show win0_1.index t 0 * 1024 + 1 * k.val = t.val % 1 * 1024 + k.val; rw [e0]; omega
  | ⟨1, _⟩ => show win0_1.index t 1 * 1024 + 1 * o.val = o.val; rw [e1]; omega

theorem blk2_at (c : Dev nD) (t : Fin cfg0.N) (r : Fin 1024) (o : Fin 1024) : blk2 m c t (ix2 r o) = X m c (ix2 (gM t r) o) := by
  obtain ⟨e0, e1⟩ := (idx_in t).2.2.1
  show m ((c : Thread nD τ).loc main_arg2) _ = m ((c : Thread nD τ).loc main_arg2) _
  congr 1
  funext a; apply Fin.ext
  match a with
  | ⟨0, _⟩ => show win0_2.index t 0 * 1024 + 1 * r.val = t.val / 1 * 1024 + r.val; rw [e0]; omega
  | ⟨1, _⟩ => show win0_2.index t 1 * 1024 + 1 * o.val = o.val; rw [e1]; omega

theorem blk3_at (c : Dev nD) (t : Fin cfg0.N) (r : Fin 1) (o : Fin 1024) : blk3 m c t (ix2 r o) = G m c (ix2 r o) := by
  obtain ⟨e0, e1⟩ := (idx_in t).2.2.2
  show m ((c : Thread nD τ).loc main_arg3) _ = m ((c : Thread nD τ).loc main_arg3) _
  congr 1
  funext a; apply Fin.ext
  match a with
  | ⟨0, _⟩ => show win0_3.index t 0 * 1 + 1 * r.val = r.val; rw [e0]; omega
  | ⟨1, _⟩ => show win0_3.index t 1 * 1024 + 1 * o.val = o.val; rw [e1]; omega

/-- The product of the point's two blocks. -/
abbrev whole (c : Dev nD) (t : Fin cfg0.N) : Vec Ideal S1024x1024 .f32 := k0_pay2 (F := Ideal) (k0_pay1 (F := Ideal)) (blk0 m c t) (blk1 m c t)

theorem whole_at (c : Dev nD) (t : Fin cfg0.N) (r o : Fin 1024) : whole m c t (ix2 r o) = prod (A m c) (B m c) (gM t r) o := by
  show k0_pay2 (F := Ideal) _ _ _ (ix2 r o) = _
  rw [pay2_apply, pay1_apply, zero_add]
  refine Finset.sum_congr rfl fun k _ => ?_
  rw [blk0_at, blk1_at]
  have e2 : gK t k = k := Fin.ext (by show t.val % 1 * 1024 + k.val = k.val; omega)
  rw [e2]

theorem y_at (c : Dev nD) (t : Fin cfg0.N) (r o : Fin 1024) :
    k0_pay3 (F := Ideal) (whole m c t) (blk2 m c t) (ix2 r o) = y (A m c) (B m c) (X m c) (gM t r) o := by
  rw [pay3_apply, whole_at m c t, blk2_at]
  rfl

theorem flushed4_eq (c : Dev nD) (t : Fin cfg0.N) (ht : (cfg0.win 4).flush t = true) :
    (dats m 0 c).flushed 4 t = ((cfg0.win 4).blk t).view.read (Elt Ideal) (res4 m c) := by
  rw [Value.flushed4_A m c t, out_4]
  obtain ⟨e0, e1⟩ := (idx_out t).1
  funext j
  obtain ⟨r, o, rfl⟩ : ∃ (r : Fin 1024) (o : Fin 1024), j = ix2 r o := ⟨j 0, j 1, by funext a; match a with | ⟨0, _⟩ => rfl | ⟨1, _⟩ => rfl⟩
  show _ = res4 m c (((cfg0.win 4).blk t).view.emb (ix2 r o))
  have e : ((cfg0.win 4).blk t).view.emb (ix2 r o) = (ix2 (gM t r) o : S8192x1024.Idx) := by
    funext a; apply Fin.ext
    match a with
    | ⟨0, _⟩ => show win0_4.index t 0 * 1024 + 1 * r.val = t.val / 1 * 1024 + r.val; rw [e0]; omega
    | ⟨1, _⟩ => show win0_4.index t 1 * 1024 + 1 * o.val = o.val; rw [e1]; omega
  rw [e]
  exact y_at m c t r o

theorem cover4 (i : S8192x1024.Idx) : ∃ t : Fin cfg0.N, (cfg0.win 4).flush t = true ∧ i ∈ ((cfg0.win 4).blk t).view.set := by
  have h0 : (i 0 : Nat) < 8192 := (i 0).isLt
  have h1 : (i 1 : Nat) < 1024 := (i 1).isLt
  have hN : (i 0).val / 1024 * 1 + 0 < cfg0.N := lt_of_lt_of_eq (by omega) N_0.symm
  refine ⟨⟨_, hN⟩, flush0_4 _, ?_⟩
  obtain ⟨e0, e1⟩ := (idx_out ⟨_, hN⟩).1
  show i ∈ ((View.whole main_v0_0).slice (win0_4.rect ⟨_, hN⟩)).set
  rw [View.set_slice_whole, Rect.mem_set_unit]
  intro a
  match a with
  | ⟨0, _⟩ => show win0_4.index ⟨_, hN⟩ 0 * 1024 ≤ (i 0).val ∧ (i 0).val < win0_4.index ⟨_, hN⟩ 0 * 1024 + 1024; rw [e0]; dsimp only; omega
  | ⟨1, _⟩ => show win0_4.index ⟨_, hN⟩ 1 * 1024 ≤ (i 1).val ∧ (i 1).val < win0_4.index ⟨_, hN⟩ 1 * 1024 + 1024; rw [e1]; omega

theorem final4 (c : Dev nD) : (dats m 0 c).arrAt 4 cfg0.N = res4 m c := (dats m 0 c).arrAt_eq_of_cover 4 (res4 m c) (flushed4_eq m c) cover4

theorem flushed5_eq (c : Dev nD) (t : Fin cfg0.N) (ht : (cfg0.win 5).flush t = true) :
    (dats m 0 c).flushed 5 t = ((cfg0.win 5).blk t).view.read (Elt Ideal) (res5 m c) := by
  rw [Value.flushed5_A m c t, out_5]
  obtain ⟨e0, e1⟩ := (idx_out t).2
  funext j
  obtain ⟨r, o, rfl⟩ : ∃ (r : Fin 1024) (o : Fin 1024), j = ix2 r o := ⟨j 0, j 1, by funext a; match a with | ⟨0, _⟩ => rfl | ⟨1, _⟩ => rfl⟩
  show _ = res5 m c (((cfg0.win 5).blk t).view.emb (ix2 r o))
  have e : ((cfg0.win 5).blk t).view.emb (ix2 r o) = (ix2 (gM t r) o : S8192x1024.Idx) := by
    funext a; apply Fin.ext
    match a with
    | ⟨0, _⟩ => show win0_5.index t 0 * 1024 + 1 * r.val = t.val / 1 * 1024 + r.val; rw [e0]; omega
    | ⟨1, _⟩ => show win0_5.index t 1 * 1024 + 1 * o.val = o.val; rw [e1]; omega
  rw [e]
  refine (pay4_apply (whole m c t) (blk2 m c t) (blk3 m c t) r o).trans ?_
  show nrm _ _ _ = nrm (y (A m c) (B m c) (X m c) (gM t r)) (rowOf (n := 1) (G m c) 0) o
  rw [show rowOf (n := 1024) (k0_pay3 (F := Ideal) (whole m c t) (blk2 m c t)) r = y (A m c) (B m c) (X m c) (gM t r) from funext fun k => y_at m c t r k,
    show rowOf (n := 1) (blk3 m c t) 0 = rowOf (n := 1) (G m c) 0 from funext fun k => blk3_at m c t 0 k]

theorem cover5 (i : S8192x1024.Idx) : ∃ t : Fin cfg0.N, (cfg0.win 5).flush t = true ∧ i ∈ ((cfg0.win 5).blk t).view.set := by
  have h0 : (i 0 : Nat) < 8192 := (i 0).isLt
  have h1 : (i 1 : Nat) < 1024 := (i 1).isLt
  have hN : (i 0).val / 1024 * 1 + 0 < cfg0.N := lt_of_lt_of_eq (by omega) N_0.symm
  refine ⟨⟨_, hN⟩, flush0_5 _, ?_⟩
  obtain ⟨e0, e1⟩ := (idx_out ⟨_, hN⟩).2
  show i ∈ ((View.whole main_v0_1).slice (win0_5.rect ⟨_, hN⟩)).set
  rw [View.set_slice_whole, Rect.mem_set_unit]
  intro a
  match a with
  | ⟨0, _⟩ => show win0_5.index ⟨_, hN⟩ 0 * 1024 ≤ (i 0).val ∧ (i 0).val < win0_5.index ⟨_, hN⟩ 0 * 1024 + 1024; rw [e0]; dsimp only; omega
  | ⟨1, _⟩ => show win0_5.index ⟨_, hN⟩ 1 * 1024 ≤ (i 1).val ∧ (i 1).val < win0_5.index ⟨_, hN⟩ 1 * 1024 + 1024; rw [e1]; omega

theorem final5 (c : Dev nD) : (dats m 0 c).arrAt 5 cfg0.N = res5 m c := (dats m 0 c).arrAt_eq_of_cover 5 (res5 m c) (flushed5_eq m c) cover5

/-! ## The reference -/

open Cert.Reference14Ideal.Read

theorem ref_prod (a : S8192x1024.Idx → EReal) (b : S1024x1024.Idx → EReal) (i : S8192x1024.Idx) : val_main_v2 (F := Ideal) a b i = prod a b (i 0) (i 1) := by
  rw [val_main_v2_apply]
  refine Finset.sum_congr rfl fun k _ => ?_
  have e1 : lidx_main_v2 i k = ix2 (i 0) k := by
    funext a; apply Fin.ext
    match a with
    | ⟨0, _⟩ => rfl
    | ⟨1, _⟩ => rfl
  have e2 : ridx_main_v2 i k = ix2 k (i 1) := by
    funext a; apply Fin.ext
    match a with
    | ⟨0, _⟩ => rfl
    | ⟨1, _⟩ => rfl
  rw [e1, e2]
  rfl

theorem ref_y (a : S8192x1024.Idx → EReal) (b : S1024x1024.Idx → EReal) (x : S8192x1024.Idx → EReal) (i : S8192x1024.Idx) :
    val_main_v3 (F := Ideal) a b x i = y a b x (i 0) (i 1) := by
  show x i + val_main_v2 (F := Ideal) a b i = _
  rw [ref_prod, add_comm]
  unfold y
  exact congrArg (HAdd.hAdd _) (congrArg x (show i = ix2 (i 0) (i 1) from by funext a; match a with | ⟨0, _⟩ => rfl | ⟨1, _⟩ => rfl))

theorem ref_sum (a : S8192x1024.Idx → EReal) (b : S1024x1024.Idx → EReal) (x : S8192x1024.Idx → EReal) (i : Cert.Reference14Ideal.S8192.Idx) :
    val_main_v5 (F := Ideal) a b x i = rsum fun k => y a b x (i 0) k * y a b x (i 0) k := by
  rw [val_main_v5_apply]
  show Ideal.ofBits .f32 0x00000000#32 + _ = _
  rw [Ideal.ofBits_zero_f32, zero_add]
  refine Finset.sum_congr rfl fun k _ => ?_
  rw [val_main_v4_apply, ref_y]
  rfl

theorem ref_rs (a : S8192x1024.Idx → EReal) (b : S1024x1024.Idx → EReal) (x : S8192x1024.Idx → EReal) (i : S8192x1024.Idx) :
    val_main_v12 (F := Ideal) a b x i = rs (y a b x (i 0)) := by
  rw [val_main_v12_apply]
  show Ideal.rsqrt (Ideal.div (val_main_v6 (F := Ideal) a b x _) cN + cE) = _
  rw [val_main_v6_apply, ref_sum]
  rfl

theorem ref_h (a : S8192x1024.Idx → EReal) (b : S1024x1024.Idx → EReal) (x : S8192x1024.Idx → EReal) (g : S1x1024.Idx → EReal) (i : S8192x1024.Idx) :
    val_main_v16 (F := Ideal) a b x g i = nrm (y a b x (i 0)) (rowOf (n := 1) g 0) (i 1) := by
  show val_main_v3 (F := Ideal) a b x i * val_main_v12 (F := Ideal) a b x i * val_main_v14 (F := Ideal) g i = _
  rw [ref_y, ref_rs, val_main_v14_apply]
  unfold nrm xh
  refine congrArg (_ * ·) (congrArg g ?_)
  funext a; apply Fin.ext
  match a with
  | ⟨0, _⟩ => rfl
  | ⟨1, _⟩ => rfl

theorem algebraic [Cert.Kernel14Ideal.Facts] [Cert.Reference14Ideal.Facts] : Cert.algebraic_Kernel14Ideal_Reference14Ideal := by
  pair_intro
  · run_from Cert.Kernel14Ideal.Value.run_blocks m g
  · run_from Cert.Reference14Ideal.Value.run m' g'
    · exact (val_main_v3_eq (F := Ideal) (A m c) (B m c) (X m c)).trans ((show _ = res4 m c from funext fun i => ref_y _ _ _ i).trans (final4 m c).symm)
    · exact (val_main_v16_eq (F := Ideal) (A m c) (B m c) (X m c) (G m c)).trans ((show _ = res5 m c from funext fun i => ref_h _ _ _ _ i).trans (final5 m c).symm)

end Cert.Proof.Wo

end
-- ==== Proof.Dmerged.lean ====
/-
  The gradient of a product with a square matrix with respect to its rows, the cotangent in single precision: the merged mixers and the memory attention.
-/
module

public import proofs.«01_k».proof.Defs
public import proofs.«01_k».proof.Proof.Gen.Kernel15Ideal.Value
public import proofs.«01_k».proof.Proof.Gen.Reference15Ideal.Read
public import proofs.«01_k».proof.Proof.Common
public import Idealize.ShloMosaic.Lib.Tactic
public import Idealize.ShloMosaic.Lib.Claim

@[expose] public section

set_option maxRecDepth 16384

noncomputable section

open Idealize.ShloMosaic hiding ix1 ix2 ix3
open Idealize.ShloMosaic.TcCoe Idealize.ShloMosaic.ValueIdx Idealize.SL.Sem
open scoped BigOperators

namespace Cert.Proof.Dmerged

open Cert.Kernel15Ideal Cert.Kernel15Ideal.Gen

theorem hz : (![0, 0] : Fin 2 → Nat) = fun _ => 0 := funext fun a => by fin_cases a <;> rfl

/-! ## What a point of the grid leaves -/

theorem out_A {F : FTy → Type} [FloatOps F] (c : Dev nD) (i : grid0.Coords) (arg3 : Memref sig .tc .vmem S1024x1024 .f32) (harg3 : arg3.IsWhole)
    (arg4 : Memref sig .tc .vmem S1024x1024 .bf16) (harg4 : arg4.IsWhole) (arg5 : Memref sig .tc .vmem S1024x1024 .bf16) (harg5 : arg5.IsWhole)
    (arg6 : Memref sig .tc .vmem S1024x1024 .f32) (harg6 : arg6.IsWhole) (x0 : Vec F S1024x1024 .f32) (x1 : Vec F S1024x1024 .bf16)
    (hc0 : cond0_0 i) (hc1 : cond0_1 i) :
    out0_A_2 c i arg3 harg3 arg4 harg4 arg5 harg5 arg6 harg6 hc0 hc1 x0 x1 = k0_pay3 (k0_pay2 k0_pay1 x0 x1) := by
  unfold out0_A_2
  rw [View.read_writes_eq_canon _ _ _ (cover0_A_2 c i arg3 harg3 arg4 harg4 arg5 harg5 arg6 harg6 hc0 hc1 x0 x1)]
  unfold kernelRun0_A
  dsimp only
  sl_unfold_words
  rw [View.canon_unit_zero hz, readCov_cons_zero (S := S1024x1024) _ hz, View.readCov_unit_zero (S := S1024x1024) _ hz]
  simp only [View.readAt_eq_ld, harg3.read_unread, harg4.read_unread, View.ld_unit_zero (S := S1024x1024) hz]

/-- A block of the product. -/
theorem pay_apply (a : Vec Ideal S1024x1024 .f32) (b : Vec Ideal S1024x1024 .bf16) (r : Fin 1024) (o : Fin 1024) :
    k0_pay3 (F := Ideal) (k0_pay2 (k0_pay1 (F := Ideal)) a b) (ix2 r o) = ∑ k : Fin 1024, a (ix2 r k) * b (ix2 o k) := by
  show k0_pay2 (F := Ideal) (k0_pay1 (F := Ideal)) a b (ix2 r o) = _
  unfold k0_pay2
  refine (shapeCast_apply _ _ _ (ix2 r o) rfl).trans ?_
  show Ideal.ofBits .f32 0x00000000#32 + FloatOps.matmul (F := Ideal) (DotDims.transposedRhs 1024 1024 1024) none (truncf .bf16 a bitsLt_bf16_f32 : FVec Ideal S1024x1024 .bf16) (b : FVec Ideal S1024x1024 .bf16) (constant S1024x1024 .f32 0x00000000#32) (ix2 r o) = _
  rw [Ideal.matmul_transposedRhs_apply]
  show Ideal.ofBits .f32 0x00000000#32 + (Ideal.ofBits .f32 0x00000000#32 + _) = _
  rw [Ideal.ofBits_zero_f32, zero_add, zero_add]
  rfl

/-! ## From blocks to arrays -/

variable (m : (ℓ : Loc nD τ sig) → Buf (Elt Ideal) ℓ)

abbrev A (c : Dev nD) : S8192x1024.Idx → EReal := m ((c : Thread nD τ).loc main_arg0)
abbrev B (c : Dev nD) : S1024x1024.Idx → EReal := m ((c : Thread nD τ).loc main_arg1)

def prod (a : S8192x1024.Idx → EReal) (b : S1024x1024.Idx → EReal) (r : Fin 8192) (o : Fin 1024) : EReal := ∑ k : Fin 1024, a (ix2 r k) * b (ix2 o k)

abbrev res (c : Dev nD) : Buf (Elt Ideal) ((c : Thread nD τ).loc main_v0) := fun i : S8192x1024.Idx => prod (A m c) (B m c) (i 0) (i 1)

abbrev blk0 (c : Dev nD) (t : Fin cfg0.N) : Vec Ideal S1024x1024 .f32 := iblk m c 0 t
abbrev blk1 (c : Dev nD) (t : Fin cfg0.N) : Vec Ideal S1024x1024 .bf16 := iblk m c 1 t

theorem idx_in : ∀ t : Fin cfg0.N, win0_0.index t 0 = t.val ∧ win0_0.index t 1 = 0 ∧ win0_1.index t 0 = 0 ∧ win0_1.index t 1 = 0
    ∧ win0_2.index t 0 = t.val ∧ win0_2.index t 1 = 0 :=
  (by decide +kernel : ∀ t : Fin grid0.N, _)

theorem ltN (t : Fin cfg0.N) : t.val < 8 := lt_of_lt_of_eq t.isLt N_0

abbrev gM (t : Fin cfg0.N) (x : Fin 1024) : Fin 8192 := ⟨t.val * 1024 + x.val, by have := x.isLt; have := ltN t; omega⟩
abbrev gN (t : Fin cfg0.N) (o : Fin 1024) : Fin 1024 := ⟨o.val, by have := o.isLt; have := ltN t; omega⟩

theorem blk0_at (c : Dev nD) (t : Fin cfg0.N) (r : Fin 1024) (k : Fin 1024) : blk0 m c t (ix2 r k) = A m c (ix2 (gM t r) k) := by
  obtain ⟨e0, e1, -⟩ := idx_in t
  show m ((c : Thread nD τ).loc main_arg0) _ = m ((c : Thread nD τ).loc main_arg0) _
  congr 1
  funext a; apply Fin.ext
  match a with
  | ⟨0, _⟩ => show win0_0.index t 0 * 1024 + 1 * r.val = t.val * 1024 + r.val; rw [e0]; omega
  | ⟨1, _⟩ => show win0_0.index t 1 * 1024 + 1 * k.val = k.val; rw [e1]; omega

theorem blk1_at (c : Dev nD) (t : Fin cfg0.N) (k : Fin 1024) (o : Fin 1024) : blk1 m c t (ix2 o k) = B m c (ix2 (gN t o) k) := by
  obtain ⟨-, -, e0, e1, -⟩ := idx_in t
  show m ((c : Thread nD τ).loc main_arg1) _ = m ((c : Thread nD τ).loc main_arg1) _
  congr 1
  funext a; apply Fin.ext
  match a with
  | ⟨0, _⟩ => show win0_1.index t 0 * 1024 + 1 * o.val = o.val; rw [e0]; omega
  | ⟨1, _⟩ => show win0_1.index t 1 * 1024 + 1 * k.val = k.val; rw [e1]; omega

theorem flushed_eq (c : Dev nD) (t : Fin cfg0.N) (_ : (cfg0.win 2).flush t = true) :
    (dats m 0 c).flushed 2 t = ((cfg0.win 2).blk t).view.read (Elt Ideal) (res m c) := by
  obtain ⟨-, -, -, -, e0, e1⟩ := idx_in t
  rw [Value.flushed2]
  unfold outsAt0
  rw [out_A]
  funext j
  obtain ⟨r, o, rfl⟩ : ∃ (r : Fin 1024) (o : Fin 1024), j = ix2 r o := ⟨j 0, j 1, by funext a; match a with | ⟨0, _⟩ => rfl | ⟨1, _⟩ => rfl⟩
  show _ = res m c (((cfg0.win 2).blk t).view.emb (ix2 r o))
  have e : ((cfg0.win 2).blk t).view.emb (ix2 r o) = (ix2 (gM t r) (gN t o) : S8192x1024.Idx) := by
    funext a; apply Fin.ext
    match a with
    | ⟨0, _⟩ => show win0_2.index t 0 * 1024 + 1 * r.val = t.val * 1024 + r.val; rw [e0]; omega
    | ⟨1, _⟩ => show win0_2.index t 1 * 1024 + 1 * o.val = o.val; rw [e1]; omega
  rw [e]
  refine (pay_apply (blk0 m c t) (blk1 m c t) r o).trans ?_
  show _ = prod (A m c) (B m c) (gM t r) (gN t o)
  exact Finset.sum_congr rfl fun k _ => by rw [blk0_at, blk1_at]

theorem idx_onto : ∀ p : Fin 8 × Fin 1, ∃ t : Fin cfg0.N, win0_2.index t 0 = p.1.val ∧ win0_2.index t 1 = p.2.val :=
  (by decide +kernel : ∀ p : Fin 8 × Fin 1, ∃ t : Fin grid0.N, win0_2.index t 0 = p.1.val ∧ win0_2.index t 1 = p.2.val)

theorem cover (i : S8192x1024.Idx) : ∃ t : Fin cfg0.N, (cfg0.win 2).flush t = true ∧ i ∈ ((cfg0.win 2).blk t).view.set := by
  have h0 : (i 0 : Nat) < 8192 := (i 0).isLt
  have h1 : (i 1 : Nat) < 1024 := (i 1).isLt
  obtain ⟨t, e0, e1⟩ := idx_onto (⟨(i 0).val / 1024, by omega⟩, ⟨(i 1).val / 1024, by omega⟩)
  refine ⟨t, flush0_2 t, ?_⟩
  show i ∈ ((View.whole main_v0).slice (win0_2.rect t)).set
  rw [View.set_slice_whole, Rect.mem_set_unit]
  intro a
  match a with
  | ⟨0, _⟩ => show win0_2.index t 0 * 1024 ≤ (i 0).val ∧ (i 0).val < win0_2.index t 0 * 1024 + 1024; rw [e0]; dsimp only; omega
  | ⟨1, _⟩ => show win0_2.index t 1 * 1024 ≤ (i 1).val ∧ (i 1).val < win0_2.index t 1 * 1024 + 1024; rw [e1]; dsimp only; omega

theorem final (c : Dev nD) : (dats m 0 c).arrAt 2 cfg0.N = res m c := (dats m 0 c).arrAt_eq_of_cover 2 (res m c) (flushed_eq m c) cover

/-! ## The reference -/

open Cert.Reference15Ideal.Read in
theorem ref_eq (a : S8192x1024.Idx → EReal) (b : S1024x1024.Idx → EReal) (r : Fin 8192) (o : Fin 1024) :
    val_main_v6 (F := Ideal) a b (ix2 r o) = prod a b r o := by
  show val_main_v5 (F := Ideal) a b (ix2 r o) = _
  rw [val_main_v5_apply]
  refine Finset.sum_congr rfl fun k _ => ?_
  have e1 : lidx_main_v5 (ix2 r o) k = ix2 r k := by
    funext a; apply Fin.ext
    match a with
    | ⟨0, _⟩ => rfl
    | ⟨1, _⟩ => rfl
  have e2 : ridx_main_v5 (ix2 r o) k = ix2 o k := by
    funext a; apply Fin.ext
    match a with
    | ⟨0, _⟩ => rfl
    | ⟨1, _⟩ => rfl
  rw [e1, e2]
  rfl

theorem ref_arr (c : Dev nD) : Cert.Reference15Ideal.Read.val_main_v6 (F := Ideal) (A m c) (B m c) = res m c := by
  funext i
  obtain ⟨r, o, rfl⟩ : ∃ (r : Fin 8192) (o : Fin 1024), i = ix2 r o := ⟨i 0, i 1, by funext a; match a with | ⟨0, _⟩ => rfl | ⟨1, _⟩ => rfl⟩
  exact ref_eq _ _ r o

theorem algebraic [Cert.Kernel15Ideal.Facts] [Cert.Reference15Ideal.Facts] : Cert.algebraic_Kernel15Ideal_Reference15Ideal := by
  pair_intro
  · run_from Cert.Kernel15Ideal.Value.run_blocks m g
  · run_from Cert.Reference15Ideal.Value.run m' g'
    exact (Cert.Reference15Ideal.Read.val_main_v6_eq (F := Ideal) (A m c) (B m c)).trans ((ref_arr m c).trans (final m c).symm)

end Cert.Proof.Dmerged

end
-- ==== Proof.Dyb.lean ====
/-
  The gradient of a product with a square matrix with respect to its rows: the second mixer.
-/
module

public import proofs.«01_k».proof.Defs
public import proofs.«01_k».proof.Proof.Gen.Kernel16Ideal.Value
public import proofs.«01_k».proof.Proof.Gen.Reference16Ideal.Read
public import proofs.«01_k».proof.Proof.Common
public import Idealize.ShloMosaic.Lib.Tactic
public import Idealize.ShloMosaic.Lib.Claim

@[expose] public section

set_option maxRecDepth 16384

noncomputable section

open Idealize.ShloMosaic hiding ix1 ix2 ix3
open Idealize.ShloMosaic.TcCoe Idealize.ShloMosaic.ValueIdx Idealize.SL.Sem
open scoped BigOperators

namespace Cert.Proof.Dyb

open Cert.Kernel16Ideal Cert.Kernel16Ideal.Gen

theorem hz : (![0, 0] : Fin 2 → Nat) = fun _ => 0 := funext fun a => by fin_cases a <;> rfl

/-! ## What a point of the grid leaves -/

theorem out_A {F : FTy → Type} [FloatOps F] (c : Dev nD) (i : grid0.Coords) (arg3 : Memref sig .tc .vmem S1024x1024 .bf16) (harg3 : arg3.IsWhole)
    (arg4 : Memref sig .tc .vmem S1024x1024 .bf16) (harg4 : arg4.IsWhole) (arg5 : Memref sig .tc .vmem S1024x1024 .bf16) (harg5 : arg5.IsWhole)
    (arg6 : Memref sig .tc .vmem S1024x1024 .f32) (harg6 : arg6.IsWhole) (x0 : Vec F S1024x1024 .bf16) (x1 : Vec F S1024x1024 .bf16)
    (hc0 : cond0_0 i) (hc1 : cond0_1 i) :
    out0_A_2 c i arg3 harg3 arg4 harg4 arg5 harg5 arg6 harg6 hc0 hc1 x0 x1 = k0_pay3 (k0_pay2 k0_pay1 x0 x1) := by
  unfold out0_A_2
  rw [View.read_writes_eq_canon _ _ _ (cover0_A_2 c i arg3 harg3 arg4 harg4 arg5 harg5 arg6 harg6 hc0 hc1 x0 x1)]
  unfold kernelRun0_A
  dsimp only
  sl_unfold_words
  rw [View.canon_unit_zero hz, readCov_cons_zero (S := S1024x1024) _ hz, View.readCov_unit_zero (S := S1024x1024) _ hz]
  simp only [View.readAt_eq_ld, harg3.read_unread, harg4.read_unread, View.ld_unit_zero (S := S1024x1024) hz]

/-- A block of the product. -/
theorem pay_apply (a : Vec Ideal S1024x1024 .bf16) (b : Vec Ideal S1024x1024 .bf16) (r : Fin 1024) (o : Fin 1024) :
    k0_pay3 (F := Ideal) (k0_pay2 (k0_pay1 (F := Ideal)) a b) (ix2 r o) = ∑ k : Fin 1024, a (ix2 r k) * b (ix2 o k) := by
  show k0_pay2 (F := Ideal) (k0_pay1 (F := Ideal)) a b (ix2 r o) = _
  unfold k0_pay2
  refine (shapeCast_apply _ _ _ (ix2 r o) rfl).trans ?_
  show Ideal.ofBits .f32 0x00000000#32 + FloatOps.matmul (F := Ideal) (DotDims.transposedRhs 1024 1024 1024) none (a : FVec Ideal S1024x1024 .bf16) (b : FVec Ideal S1024x1024 .bf16) (constant S1024x1024 .f32 0x00000000#32) (ix2 r o) = _
  rw [Ideal.matmul_transposedRhs_apply]
  show Ideal.ofBits .f32 0x00000000#32 + (Ideal.ofBits .f32 0x00000000#32 + _) = _
  rw [Ideal.ofBits_zero_f32, zero_add, zero_add]

/-! ## From blocks to arrays -/

variable (m : (ℓ : Loc nD τ sig) → Buf (Elt Ideal) ℓ)

abbrev A (c : Dev nD) : S8192x1024.Idx → EReal := m ((c : Thread nD τ).loc main_arg0)
abbrev B (c : Dev nD) : S1024x1024.Idx → EReal := m ((c : Thread nD τ).loc main_arg1)

def prod (a : S8192x1024.Idx → EReal) (b : S1024x1024.Idx → EReal) (r : Fin 8192) (o : Fin 1024) : EReal := ∑ k : Fin 1024, a (ix2 r k) * b (ix2 o k)

abbrev res (c : Dev nD) : Buf (Elt Ideal) ((c : Thread nD τ).loc main_v0) := fun i : S8192x1024.Idx => prod (A m c) (B m c) (i 0) (i 1)

abbrev blk0 (c : Dev nD) (t : Fin cfg0.N) : Vec Ideal S1024x1024 .bf16 := iblk m c 0 t
abbrev blk1 (c : Dev nD) (t : Fin cfg0.N) : Vec Ideal S1024x1024 .bf16 := iblk m c 1 t

theorem idx_in : ∀ t : Fin cfg0.N, win0_0.index t 0 = t.val ∧ win0_0.index t 1 = 0 ∧ win0_1.index t 0 = 0 ∧ win0_1.index t 1 = 0
    ∧ win0_2.index t 0 = t.val ∧ win0_2.index t 1 = 0 :=
  (by decide +kernel : ∀ t : Fin grid0.N, _)

theorem ltN (t : Fin cfg0.N) : t.val < 8 := lt_of_lt_of_eq t.isLt N_0

abbrev gM (t : Fin cfg0.N) (x : Fin 1024) : Fin 8192 := ⟨t.val * 1024 + x.val, by have := x.isLt; have := ltN t; omega⟩
abbrev gN (t : Fin cfg0.N) (o : Fin 1024) : Fin 1024 := ⟨o.val, by have := o.isLt; have := ltN t; omega⟩

theorem blk0_at (c : Dev nD) (t : Fin cfg0.N) (r : Fin 1024) (k : Fin 1024) : blk0 m c t (ix2 r k) = A m c (ix2 (gM t r) k) := by
  obtain ⟨e0, e1, -⟩ := idx_in t
  show m ((c : Thread nD τ).loc main_arg0) _ = m ((c : Thread nD τ).loc main_arg0) _
  congr 1
  funext a; apply Fin.ext
  match a with
  | ⟨0, _⟩ => show win0_0.index t 0 * 1024 + 1 * r.val = t.val * 1024 + r.val; rw [e0]; omega
  | ⟨1, _⟩ => show win0_0.index t 1 * 1024 + 1 * k.val = k.val; rw [e1]; omega

theorem blk1_at (c : Dev nD) (t : Fin cfg0.N) (k : Fin 1024) (o : Fin 1024) : blk1 m c t (ix2 o k) = B m c (ix2 (gN t o) k) := by
  obtain ⟨-, -, e0, e1, -⟩ := idx_in t
  show m ((c : Thread nD τ).loc main_arg1) _ = m ((c : Thread nD τ).loc main_arg1) _
  congr 1
  funext a; apply Fin.ext
  match a with
  | ⟨0, _⟩ => show win0_1.index t 0 * 1024 + 1 * o.val = o.val; rw [e0]; omega
  | ⟨1, _⟩ => show win0_1.index t 1 * 1024 + 1 * k.val = k.val; rw [e1]; omega

theorem flushed_eq (c : Dev nD) (t : Fin cfg0.N) (_ : (cfg0.win 2).flush t = true) :
    (dats m 0 c).flushed 2 t = ((cfg0.win 2).blk t).view.read (Elt Ideal) (res m c) := by
  obtain ⟨-, -, -, -, e0, e1⟩ := idx_in t
  rw [Value.flushed2]
  unfold outsAt0
  rw [out_A]
  funext j
  obtain ⟨r, o, rfl⟩ : ∃ (r : Fin 1024) (o : Fin 1024), j = ix2 r o := ⟨j 0, j 1, by funext a; match a with | ⟨0, _⟩ => rfl | ⟨1, _⟩ => rfl⟩
  show _ = res m c (((cfg0.win 2).blk t).view.emb (ix2 r o))
  have e : ((cfg0.win 2).blk t).view.emb (ix2 r o) = (ix2 (gM t r) (gN t o) : S8192x1024.Idx) := by
    funext a; apply Fin.ext
    match a with
    | ⟨0, _⟩ => show win0_2.index t 0 * 1024 + 1 * r.val = t.val * 1024 + r.val; rw [e0]; omega
    | ⟨1, _⟩ => show win0_2.index t 1 * 1024 + 1 * o.val = o.val; rw [e1]; omega
  rw [e]
  refine (pay_apply (blk0 m c t) (blk1 m c t) r o).trans ?_
  show _ = prod (A m c) (B m c) (gM t r) (gN t o)
  exact Finset.sum_congr rfl fun k _ => by rw [blk0_at, blk1_at]

theorem idx_onto : ∀ p : Fin 8 × Fin 1, ∃ t : Fin cfg0.N, win0_2.index t 0 = p.1.val ∧ win0_2.index t 1 = p.2.val :=
  (by decide +kernel : ∀ p : Fin 8 × Fin 1, ∃ t : Fin grid0.N, win0_2.index t 0 = p.1.val ∧ win0_2.index t 1 = p.2.val)

theorem cover (i : S8192x1024.Idx) : ∃ t : Fin cfg0.N, (cfg0.win 2).flush t = true ∧ i ∈ ((cfg0.win 2).blk t).view.set := by
  have h0 : (i 0 : Nat) < 8192 := (i 0).isLt
  have h1 : (i 1 : Nat) < 1024 := (i 1).isLt
  obtain ⟨t, e0, e1⟩ := idx_onto (⟨(i 0).val / 1024, by omega⟩, ⟨(i 1).val / 1024, by omega⟩)
  refine ⟨t, flush0_2 t, ?_⟩
  show i ∈ ((View.whole main_v0).slice (win0_2.rect t)).set
  rw [View.set_slice_whole, Rect.mem_set_unit]
  intro a
  match a with
  | ⟨0, _⟩ => show win0_2.index t 0 * 1024 ≤ (i 0).val ∧ (i 0).val < win0_2.index t 0 * 1024 + 1024; rw [e0]; dsimp only; omega
  | ⟨1, _⟩ => show win0_2.index t 1 * 1024 ≤ (i 1).val ∧ (i 1).val < win0_2.index t 1 * 1024 + 1024; rw [e1]; dsimp only; omega

theorem final (c : Dev nD) : (dats m 0 c).arrAt 2 cfg0.N = res m c := (dats m 0 c).arrAt_eq_of_cover 2 (res m c) (flushed_eq m c) cover

/-! ## The reference -/

open Cert.Reference16Ideal.Read in
theorem ref_eq (a : S8192x1024.Idx → EReal) (b : S1024x1024.Idx → EReal) (r : Fin 8192) (o : Fin 1024) :
    val_main_v7 (F := Ideal) a b (ix2 r o) = prod a b r o := by
  show val_main_v6 (F := Ideal) a b (ix2 r o) = _
  rw [val_main_v6_apply]
  refine Finset.sum_congr rfl fun k _ => ?_
  have e1 : lidx_main_v6 (ix2 r o) k = ix2 r k := by
    funext a; apply Fin.ext
    match a with
    | ⟨0, _⟩ => rfl
    | ⟨1, _⟩ => rfl
  have e2 : ridx_main_v6 (ix2 r o) k = ix2 o k := by
    funext a; apply Fin.ext
    match a with
    | ⟨0, _⟩ => rfl
    | ⟨1, _⟩ => rfl
  rw [e1, e2]
  rfl

theorem ref_arr (c : Dev nD) : Cert.Reference16Ideal.Read.val_main_v7 (F := Ideal) (A m c) (B m c) = res m c := by
  funext i
  obtain ⟨r, o, rfl⟩ : ∃ (r : Fin 8192) (o : Fin 1024), i = ix2 r o := ⟨i 0, i 1, by funext a; match a with | ⟨0, _⟩ => rfl | ⟨1, _⟩ => rfl⟩
  exact ref_eq _ _ r o

theorem algebraic [Cert.Kernel16Ideal.Facts] [Cert.Reference16Ideal.Facts] : Cert.algebraic_Kernel16Ideal_Reference16Ideal := by
  pair_intro
  · run_from Cert.Kernel16Ideal.Value.run_blocks m g
  · run_from Cert.Reference16Ideal.Value.run m' g'
    exact (Cert.Reference16Ideal.Read.val_main_v7_eq (F := Ideal) (A m c) (B m c)).trans ((ref_arr m c).trans (final m c).symm)

end Cert.Proof.Dyb

end
-- ==== Proof.FlashStep.lean ====
module

public import proofs.«01_k».proof.Proof.Gen.Kernel17Ideal.Flash.Runs
public import proofs.«01_k».proof.Proof.Common
public import Idealize.ShloMosaic.Lib.Tactic
public import Idealize.ShloMosaic.Lib.Pipeline.ReadBack
public import Idealize.ShloMosaic.Lib.Pipeline.Value

@[expose] public section

set_option maxRecDepth 16384

/-! One grid point of the causal attention launch: what the body leaves in the three scratch buffers (running maximum, running sum, running weighted values) and in the two output blocks, head by head. The four paths of the body (first key block or not, diagonal or not) differ in the scores and in what the scratches held before. -/

noncomputable section

open Idealize.ShloMosaic hiding ix1 ix2 ix3
open Idealize.ShloMosaic.TcCoe Idealize.ShloMosaic.ValueIdx Idealize.SL.Sem

namespace Cert.Proof.Flash

open Cert.Kernel17Ideal Cert.Kernel17Ideal.Gen

/-! ## One head of one block -/

theorem inbK : ∀ g : Fin 8, ∀ a, (![g.val, 0, 0] : Fin 3 → ℕ) a + S1x512x80.size a ≤ S8x512x80.size a := by decide
theorem inbQ : ∀ g : Fin 8, ∀ a, (![g.val, 0, 0] : Fin 3 → ℕ) a + S1x80x512.size a ≤ S8x80x512.size a := by decide
theorem inbV : ∀ g : Fin 8, ∀ a, (![g.val, 0, 0] : Fin 3 → ℕ) a + S1x64x512.size a ≤ S8x64x512.size a := by decide
theorem inbM : ∀ g : Fin 8, ∀ a, (![g.val, 0, 0] : Fin 3 → ℕ) a + S1x1x512.size a ≤ S8x1x512.size a := by decide

/-- Head `g` of a block. -/
def hK (g : Fin 8) (x : Vec Ideal S8x512x80 .bf16) : Vec Ideal S1x512x80 .bf16 := View.ld x (Rect.unit (s := S8x512x80) ![g.val, 0, 0] S1x512x80.size (inbK g))
def hQ (g : Fin 8) (x : Vec Ideal S8x80x512 .bf16) : Vec Ideal S1x80x512 .bf16 := View.ld x (Rect.unit (s := S8x80x512) ![g.val, 0, 0] S1x80x512.size (inbQ g))
def hV (g : Fin 8) (x : Vec Ideal S8x64x512 .bf16) : Vec Ideal S1x64x512 .bf16 := View.ld x (Rect.unit (s := S8x64x512) ![g.val, 0, 0] S1x64x512.size (inbV g))
def hA (g : Fin 8) (x : Vec Ideal S8x64x512 .f32) : Vec Ideal S1x64x512 .f32 := View.ld x (Rect.unit (s := S8x64x512) ![g.val, 0, 0] S1x64x512.size (inbV g))
def hM (g : Fin 8) (x : Vec Ideal S8x1x512 .f32) : Vec Ideal S1x1x512 .f32 := View.ld x (Rect.unit (s := S8x1x512) ![g.val, 0, 0] S1x1x512.size (inbM g))

/-- The scores of a key block against a query block: off the diagonal, and on it. -/
def scOff (k : Vec Ideal S1x512x80 .bf16) (q : Vec Ideal S1x80x512 .bf16) : FVec Ideal S512x512 .f32 := k0_pay8 k q
def scDiag (k : Vec Ideal S1x512x80 .bf16) (q : Vec Ideal S1x80x512 .bf16) : FVec Ideal S512x512 .f32 := k0_pay69 k q

variable (sc : Vec Ideal S1x512x80 .bf16 → Vec Ideal S1x80x512 .bf16 → FVec Ideal S512x512 .f32)

def mRow (s : FVec Ideal S512x512 .f32) (m : Vec Ideal S1x1x512 .f32) : FVec Ideal S1x1x512 .f32 := k0_pay28 (k0_pay23 s m)
def lRow (s : FVec Ideal S512x512 .f32) (m l : Vec Ideal S1x1x512 .f32) : FVec Ideal S1x1x512 .f32 := k0_pay26 s (k0_pay23 s m) m l
def aRow (s : FVec Ideal S512x512 .f32) (m : Vec Ideal S1x1x512 .f32) (v : Vec Ideal S1x64x512 .bf16) (a : Vec Ideal S1x64x512 .f32) : FVec Ideal S1x64x512 .f32 :=
  k0_pay27 s (k0_pay23 s m) m v a

/-- The three scratches after a block. -/
def newM (x0 : Vec Ideal S8x512x80 .bf16) (x1 : Vec Ideal S8x80x512 .bf16) (m : Vec Ideal S8x1x512 .f32) : S8x1x512.Idx → Elt Ideal .f32 := fun y =>
  mRow (sc (hK (y 0) x0) (hQ (y 0) x1)) (hM (y 0) m) (ix3 0 0 (y 2))
def newL (x0 : Vec Ideal S8x512x80 .bf16) (x1 : Vec Ideal S8x80x512 .bf16) (m l : Vec Ideal S8x1x512 .f32) : S8x1x512.Idx → Elt Ideal .f32 := fun y =>
  lRow (sc (hK (y 0) x0) (hQ (y 0) x1)) (hM (y 0) m) (hM (y 0) l) (ix3 0 0 (y 2))
def newA (x0 : Vec Ideal S8x512x80 .bf16) (x1 : Vec Ideal S8x80x512 .bf16) (x2 : Vec Ideal S8x64x512 .bf16) (m : Vec Ideal S8x1x512 .f32)
    (a : Vec Ideal S8x64x512 .f32) : S8x64x512.Idx → Elt Ideal .f32 := fun y =>
  aRow (sc (hK (y 0) x0) (hQ (y 0) x1)) (hM (y 0) m) (hV (y 0) x2) (hA (y 0) a) (ix3 0 (y 1) (y 2))

/-- What the scratches are set to before the first key block. -/
abbrev m0 : Vec Ideal S8x1x512 .f32 := k0_pay1 (F := Ideal)
abbrev l0 : Vec Ideal S8x1x512 .f32 := k0_pay2 (F := Ideal)
abbrev a0 : Vec Ideal S8x64x512 .f32 := k0_pay3 (F := Ideal)

theorem pieceM (g : ℕ) (hg : g < 8) (inb) (w : S1x1x512.Idx → Elt Ideal .f32) (G : S8x1x512.Idx → Elt Ideal .f32)
    (h : ∀ q : Fin 512, w (ix3 0 0 q) = G (ix3 ⟨g, hg⟩ 0 q)) (x : (Rect.unit (s := S8x1x512) ![g, 0, 0] S1x1x512.size inb).shape.Idx) :
    w x = G ((Rect.unit (s := S8x1x512) ![g, 0, 0] S1x1x512.size inb).emb x) := by
  revert x
  show ∀ z : S1x1x512.Idx, w z = G ((Rect.unit (s := S8x1x512) ![g, 0, 0] S1x1x512.size inb).emb z)
  intro z
  obtain ⟨q, rfl⟩ : ∃ (q : Fin 512), z = ix3 0 0 q := ⟨z 2, (ValueIdx.eq_ix3 z).trans (congrArg₂ (fun a b => ix3 a b (z 2)) (Subsingleton.elim (α := Fin 1) (z 0) 0) (Subsingleton.elim (α := Fin 1) (z 1) 0))⟩
  exact (h q).trans (congrArg G (funext fun a => Fin.ext (by rw [Rect.emb_apply]; fin_cases a <;> simp [ix3])))

theorem pieceA (g : ℕ) (hg : g < 8) (inb) (w : S1x64x512.Idx → Elt Ideal .f32) (G : S8x64x512.Idx → Elt Ideal .f32)
    (h : ∀ (d : Fin 64) (q : Fin 512), w (ix3 0 d q) = G (ix3 ⟨g, hg⟩ d q)) (x : (Rect.unit (s := S8x64x512) ![g, 0, 0] S1x64x512.size inb).shape.Idx) :
    w x = G ((Rect.unit (s := S8x64x512) ![g, 0, 0] S1x64x512.size inb).emb x) := by
  revert x
  show ∀ z : S1x64x512.Idx, w z = G ((Rect.unit (s := S8x64x512) ![g, 0, 0] S1x64x512.size inb).emb z)
  intro z
  obtain ⟨d, q, rfl⟩ : ∃ (d : Fin 64) (q : Fin 512), z = ix3 0 d q := ⟨z 1, z 2, (ValueIdx.eq_ix3 z).trans (congrArg (fun a => ix3 a (z 1) (z 2)) (Subsingleton.elim (α := Fin 1) (z 0) 0))⟩
  exact (h d q).trans (congrArg G (funext fun a => Fin.ext (by rw [Rect.emb_apply]; fin_cases a <;> simp [ix3])))

/-- Eight stores, one head each, over whatever was stored before: the buffer holds `G` if each store does. -/
theorem rowsM (G : S8x1x512.Idx → Elt Ideal .f32) (w0 w1 w2 w3 w4 w5 w6 w7 : S1x1x512.Idx → Elt Ideal .f32)
    (i0 i1 i2 i3 i4 i5 i6 i7) (L : List (View.Piece (Elt Ideal) S8x1x512 .f32))
    (h0 : ∀ q : Fin 512, w0 (ix3 0 0 q) = G (ix3 0 0 q))
    (h1 : ∀ q : Fin 512, w1 (ix3 0 0 q) = G (ix3 1 0 q))
    (h2 : ∀ q : Fin 512, w2 (ix3 0 0 q) = G (ix3 2 0 q))
    (h3 : ∀ q : Fin 512, w3 (ix3 0 0 q) = G (ix3 3 0 q))
    (h4 : ∀ q : Fin 512, w4 (ix3 0 0 q) = G (ix3 4 0 q))
    (h5 : ∀ q : Fin 512, w5 (ix3 0 0 q) = G (ix3 5 0 q))
    (h6 : ∀ q : Fin 512, w6 (ix3 0 0 q) = G (ix3 6 0 q))
    (h7 : ∀ q : Fin 512, w7 (ix3 0 0 q) = G (ix3 7 0 q)) :
    View.canon (⟨Rect.unit (s := S8x1x512) ![7, 0, 0] S1x1x512.size i7, w7⟩ ::
      ⟨Rect.unit (s := S8x1x512) ![6, 0, 0] S1x1x512.size i6, w6⟩ ::
      ⟨Rect.unit (s := S8x1x512) ![5, 0, 0] S1x1x512.size i5, w5⟩ ::
      ⟨Rect.unit (s := S8x1x512) ![4, 0, 0] S1x1x512.size i4, w4⟩ ::
      ⟨Rect.unit (s := S8x1x512) ![3, 0, 0] S1x1x512.size i3, w3⟩ ::
      ⟨Rect.unit (s := S8x1x512) ![2, 0, 0] S1x1x512.size i2, w2⟩ ::
      ⟨Rect.unit (s := S8x1x512) ![1, 0, 0] S1x1x512.size i1, w1⟩ ::
      ⟨Rect.unit (s := S8x1x512) ![0, 0, 0] S1x1x512.size i0, w0⟩ :: L) = G := by
  funext y
  refine View.canon_append_of_piecesOf G L [⟨Rect.unit (s := S8x1x512) ![7, 0, 0] S1x1x512.size i7, w7⟩, ⟨Rect.unit (s := S8x1x512) ![6, 0, 0] S1x1x512.size i6, w6⟩, ⟨Rect.unit (s := S8x1x512) ![5, 0, 0] S1x1x512.size i5, w5⟩, ⟨Rect.unit (s := S8x1x512) ![4, 0, 0] S1x1x512.size i4, w4⟩, ⟨Rect.unit (s := S8x1x512) ![3, 0, 0] S1x1x512.size i3, w3⟩, ⟨Rect.unit (s := S8x1x512) ![2, 0, 0] S1x1x512.size i2, w2⟩, ⟨Rect.unit (s := S8x1x512) ![1, 0, 0] S1x1x512.size i1, w1⟩, ⟨Rect.unit (s := S8x1x512) ![0, 0, 0] S1x1x512.size i0, w0⟩]
    ⟨pieceM 7 (by decide) i7 w7 G h7, pieceM 6 (by decide) i6 w6 G h6, pieceM 5 (by decide) i5 w5 G h5, pieceM 4 (by decide) i4 w4 G h4, pieceM 3 (by decide) i3 w3 G h3, pieceM 2 (by decide) i2 w2 G h2, pieceM 1 (by decide) i1 w1 G h1, pieceM 0 (by decide) i0 w0 G h0, trivial⟩ y ?_
  have key : ∀ (g : Fin 8) inb, y 0 = g → y ∈ (Rect.unit (s := S8x1x512) ![g.val, 0, 0] S1x1x512.size inb).set := fun g inb e => by
    rw [Rect.mem_set_unit]
    intro a
    have hb := (y a).isLt
    fin_cases a
    · subst e; simp
    · simpa using hb
    · simpa using hb
  have e : ∀ g : Fin 8, g = 0 ∨ g = 1 ∨ g = 2 ∨ g = 3 ∨ g = 4 ∨ g = 5 ∨ g = 6 ∨ g = 7 := by decide
  rcases e (y 0) with e | e | e | e | e | e | e | e
  · exact ⟨⟨Rect.unit (s := S8x1x512) ![0, 0, 0] S1x1x512.size i0, w0⟩, by simp only [List.mem_cons, true_or, or_true], key 0 i0 e⟩
  · exact ⟨⟨Rect.unit (s := S8x1x512) ![1, 0, 0] S1x1x512.size i1, w1⟩, by simp only [List.mem_cons, true_or, or_true], key 1 i1 e⟩
  · exact ⟨⟨Rect.unit (s := S8x1x512) ![2, 0, 0] S1x1x512.size i2, w2⟩, by simp only [List.mem_cons, true_or, or_true], key 2 i2 e⟩
  · exact ⟨⟨Rect.unit (s := S8x1x512) ![3, 0, 0] S1x1x512.size i3, w3⟩, by simp only [List.mem_cons, true_or, or_true], key 3 i3 e⟩
  · exact ⟨⟨Rect.unit (s := S8x1x512) ![4, 0, 0] S1x1x512.size i4, w4⟩, by simp only [List.mem_cons, true_or, or_true], key 4 i4 e⟩
  · exact ⟨⟨Rect.unit (s := S8x1x512) ![5, 0, 0] S1x1x512.size i5, w5⟩, by simp only [List.mem_cons, true_or, or_true], key 5 i5 e⟩
  · exact ⟨⟨Rect.unit (s := S8x1x512) ![6, 0, 0] S1x1x512.size i6, w6⟩, by simp only [List.mem_cons, true_or, or_true], key 6 i6 e⟩
  · exact ⟨⟨Rect.unit (s := S8x1x512) ![7, 0, 0] S1x1x512.size i7, w7⟩, by simp only [List.mem_cons, true_or, or_true], key 7 i7 e⟩

/-- Eight stores, one head each, over whatever was stored before: the buffer holds `G` if each store does. -/
theorem rowsA (G : S8x64x512.Idx → Elt Ideal .f32) (w0 w1 w2 w3 w4 w5 w6 w7 : S1x64x512.Idx → Elt Ideal .f32)
    (i0 i1 i2 i3 i4 i5 i6 i7) (L : List (View.Piece (Elt Ideal) S8x64x512 .f32))
    (h0 : ∀ (d : Fin 64) (q : Fin 512), w0 (ix3 0 d q) = G (ix3 0 d q))
    (h1 : ∀ (d : Fin 64) (q : Fin 512), w1 (ix3 0 d q) = G (ix3 1 d q))
    (h2 : ∀ (d : Fin 64) (q : Fin 512), w2 (ix3 0 d q) = G (ix3 2 d q))
    (h3 : ∀ (d : Fin 64) (q : Fin 512), w3 (ix3 0 d q) = G (ix3 3 d q))
    (h4 : ∀ (d : Fin 64) (q : Fin 512), w4 (ix3 0 d q) = G (ix3 4 d q))
    (h5 : ∀ (d : Fin 64) (q : Fin 512), w5 (ix3 0 d q) = G (ix3 5 d q))
    (h6 : ∀ (d : Fin 64) (q : Fin 512), w6 (ix3 0 d q) = G (ix3 6 d q))
    (h7 : ∀ (d : Fin 64) (q : Fin 512), w7 (ix3 0 d q) = G (ix3 7 d q)) :
    View.canon (⟨Rect.unit (s := S8x64x512) ![7, 0, 0] S1x64x512.size i7, w7⟩ ::
      ⟨Rect.unit (s := S8x64x512) ![6, 0, 0] S1x64x512.size i6, w6⟩ ::
      ⟨Rect.unit (s := S8x64x512) ![5, 0, 0] S1x64x512.size i5, w5⟩ ::
      ⟨Rect.unit (s := S8x64x512) ![4, 0, 0] S1x64x512.size i4, w4⟩ ::
      ⟨Rect.unit (s := S8x64x512) ![3, 0, 0] S1x64x512.size i3, w3⟩ ::
      ⟨Rect.unit (s := S8x64x512) ![2, 0, 0] S1x64x512.size i2, w2⟩ ::
      ⟨Rect.unit (s := S8x64x512) ![1, 0, 0] S1x64x512.size i1, w1⟩ ::
      ⟨Rect.unit (s := S8x64x512) ![0, 0, 0] S1x64x512.size i0, w0⟩ :: L) = G := by
  funext y
  refine View.canon_append_of_piecesOf G L [⟨Rect.unit (s := S8x64x512) ![7, 0, 0] S1x64x512.size i7, w7⟩, ⟨Rect.unit (s := S8x64x512) ![6, 0, 0] S1x64x512.size i6, w6⟩, ⟨Rect.unit (s := S8x64x512) ![5, 0, 0] S1x64x512.size i5, w5⟩, ⟨Rect.unit (s := S8x64x512) ![4, 0, 0] S1x64x512.size i4, w4⟩, ⟨Rect.unit (s := S8x64x512) ![3, 0, 0] S1x64x512.size i3, w3⟩, ⟨Rect.unit (s := S8x64x512) ![2, 0, 0] S1x64x512.size i2, w2⟩, ⟨Rect.unit (s := S8x64x512) ![1, 0, 0] S1x64x512.size i1, w1⟩, ⟨Rect.unit (s := S8x64x512) ![0, 0, 0] S1x64x512.size i0, w0⟩]
    ⟨pieceA 7 (by decide) i7 w7 G h7, pieceA 6 (by decide) i6 w6 G h6, pieceA 5 (by decide) i5 w5 G h5, pieceA 4 (by decide) i4 w4 G h4, pieceA 3 (by decide) i3 w3 G h3, pieceA 2 (by decide) i2 w2 G h2, pieceA 1 (by decide) i1 w1 G h1, pieceA 0 (by decide) i0 w0 G h0, trivial⟩ y ?_
  have key : ∀ (g : Fin 8) inb, y 0 = g → y ∈ (Rect.unit (s := S8x64x512) ![g.val, 0, 0] S1x64x512.size inb).set := fun g inb e => by
    rw [Rect.mem_set_unit]
    intro a
    have hb := (y a).isLt
    fin_cases a
    · subst e; simp
    · simpa using hb
    · simpa using hb
  have e : ∀ g : Fin 8, g = 0 ∨ g = 1 ∨ g = 2 ∨ g = 3 ∨ g = 4 ∨ g = 5 ∨ g = 6 ∨ g = 7 := by decide
  rcases e (y 0) with e | e | e | e | e | e | e | e
  · exact ⟨⟨Rect.unit (s := S8x64x512) ![0, 0, 0] S1x64x512.size i0, w0⟩, by simp only [List.mem_cons, true_or, or_true], key 0 i0 e⟩
  · exact ⟨⟨Rect.unit (s := S8x64x512) ![1, 0, 0] S1x64x512.size i1, w1⟩, by simp only [List.mem_cons, true_or, or_true], key 1 i1 e⟩
  · exact ⟨⟨Rect.unit (s := S8x64x512) ![2, 0, 0] S1x64x512.size i2, w2⟩, by simp only [List.mem_cons, true_or, or_true], key 2 i2 e⟩
  · exact ⟨⟨Rect.unit (s := S8x64x512) ![3, 0, 0] S1x64x512.size i3, w3⟩, by simp only [List.mem_cons, true_or, or_true], key 3 i3 e⟩
  · exact ⟨⟨Rect.unit (s := S8x64x512) ![4, 0, 0] S1x64x512.size i4, w4⟩, by simp only [List.mem_cons, true_or, or_true], key 4 i4 e⟩
  · exact ⟨⟨Rect.unit (s := S8x64x512) ![5, 0, 0] S1x64x512.size i5, w5⟩, by simp only [List.mem_cons, true_or, or_true], key 5 i5 e⟩
  · exact ⟨⟨Rect.unit (s := S8x64x512) ![6, 0, 0] S1x64x512.size i6, w6⟩, by simp only [List.mem_cons, true_or, or_true], key 6 i6 e⟩
  · exact ⟨⟨Rect.unit (s := S8x64x512) ![7, 0, 0] S1x64x512.size i7, w7⟩, by simp only [List.mem_cons, true_or, or_true], key 7 i7 e⟩

theorem whole_0 (L : List (View.Piece (Elt Ideal) S8x1x512 .f32)) :
    (View.whole cc0_scratch0).writes (Elt Ideal) (View.whole cc0_scratch0).junk L = View.canon L := View.read_writes_junk_eq_canon (View.whole cc0_scratch0) L

theorem whole_1 (L : List (View.Piece (Elt Ideal) S8x1x512 .f32)) :
    (View.whole cc0_scratch1).writes (Elt Ideal) (View.whole cc0_scratch1).junk L = View.canon L := View.read_writes_junk_eq_canon (View.whole cc0_scratch1) L

theorem whole_2 (L : List (View.Piece (Elt Ideal) S8x64x512 .f32)) :
    (View.whole cc0_scratch2).writes (Elt Ideal) (View.whole cc0_scratch2).junk L = View.canon L := View.read_writes_junk_eq_canon (View.whole cc0_scratch2) L

/-- A load after a store of the whole buffer reads what was stored. -/
theorem fillM {sp : Space} (v : View sig .tc sp S8x1x512 .f32) (inb) (Z : S8x1x512.Idx → Elt Ideal .f32) (L : List (View.Piece (Elt Ideal) S8x1x512 .f32)) (r : Rect S8x1x512) :
    v.readCov (⟨Rect.unit (s := S8x1x512) ![0, 0, 0] (no_index S8x1x512.size) inb, Z⟩ :: L) r.toLoadRect = View.ld Z r :=
  View.readCov_fill v inb Z L r (by decide)

/-- A load after a store of the whole buffer reads what was stored. -/
theorem fillA {sp : Space} (v : View sig .tc sp S8x64x512 .f32) (inb) (Z : S8x64x512.Idx → Elt Ideal .f32) (L : List (View.Piece (Elt Ideal) S8x64x512 .f32)) (r : Rect S8x64x512) :
    v.readCov (⟨Rect.unit (s := S8x64x512) ![0, 0, 0] (no_index S8x64x512.size) inb, Z⟩ :: L) r.toLoadRect = View.ld Z r :=
  View.readCov_fill v inb Z L r (by decide)

theorem hz3 : (![0, 0, 0] : Fin 3 → Nat) = fun _ => 0 := funext fun a => by fin_cases a <;> rfl

/-- A load of the whole buffer after stores reads what the stores leave. -/
theorem readCov_all {S : Shape} {off : Fin S.rank → Nat} (h : off = fun _ => 0) (v : View sig .tc .vmem S .f32) (L : List (View.Piece (Elt Ideal) S .f32)) (inb) :
    v.readCov L (Rect.unit (s := S) off S.size inb).toLoadRect = View.canon L :=
  (View.readCov_eq_canon' v L _).trans (View.ld_unit_zero (S := S) h inb (View.canon L))

set_option maxHeartbeats 1000000

/-! ## Path D -/

theorem m_D (c : Dev nD) (i : grid0.Coords) (arg4 : Memref sig .tc .vmem S8x512x80 .bf16) (harg4 : arg4.IsWhole) (arg5 : Memref sig .tc .vmem S8x80x512 .bf16) (harg5 : arg5.IsWhole) (arg6 : Memref sig .tc .vmem S8x64x512 .bf16) (harg6 : arg6.IsWhole) (arg7 : Memref sig .tc .vmem S8x64x512 .f32) (harg7 : arg7.IsWhole) (arg8 : Memref sig .tc .vmem S8x1x512 .f32) (harg8 : arg8.IsWhole) (T0 : (S136.Idx → Elt Ideal .i32)) (T1 : (S136.Idx → Elt Ideal .i32))
     (x0 : (S8x512x80.Idx → Elt Ideal .bf16)) (x1 : (S8x80x512.Idx → Elt Ideal .bf16)) (x2 : (S8x64x512.Idx → Elt Ideal .bf16)) (xa0 : Buf (Elt Ideal) ((c : Thread nD τ).loc cc0_scratch0)) (xa1 : Buf (Elt Ideal) ((c : Thread nD τ).loc cc0_scratch1)) (xa2 : Buf (Elt Ideal) ((c : Thread nD τ).loc cc0_scratch2)) (hc0 : ¬((Scalar.cmpi .ne (Scalar.extui (Scalar.cmpi .eq (View.readAt (Elt Ideal) (tbM0_1).view (Rect.unit (s := S136) (k0_off1 i) S1.size (k0_off1_inb i)).toLoadRect T1 (Shape.Idx.first (numel1_S1.symm ▸ Nat.one_pos))) 0#32)) 0#32) = 1#1)) (hc1 : (Scalar.cmpi .ne (Scalar.extui (Scalar.cmpi .slt (View.readAt (Elt Ideal) (tbM0_1).view (Rect.unit (s := S136) (k0_off1 i) S1.size (k0_off1_inb i)).toLoadRect T1 (Shape.Idx.first (numel1_S1.symm ▸ Nat.one_pos))) (View.readAt (Elt Ideal) (tbM0_0).view (Rect.unit (s := S136) (k0_off1 i) S1.size (k0_off1_inb i)).toLoadRect T0 (Shape.Idx.first (numel1_S1.symm ▸ Nat.one_pos))))) 0#32) = 1#1) (k0_h3 : ¬(k0_cond3 (View.readAt (Elt Ideal) (tbM0_0).view (Rect.unit (s := S136) (k0_off1 i) S1.size (k0_off1_inb i)).toLoadRect T0 (Shape.Idx.first (numel1_S1.symm ▸ Nat.one_pos))) (View.readAt (Elt Ideal) (tbM0_1).view (Rect.unit (s := S136) (k0_off1 i) S1.size (k0_off1_inb i)).toLoadRect T1 (Shape.Idx.first (numel1_S1.symm ▸ Nat.one_pos))) = 1#1)) :
    (kernelRun0_D c i arg4 harg4 arg5 harg5 arg6 harg6 arg7 harg7 arg8 harg8 T0 T1 x0 x1 x2 xa0 xa1 xa2 hc0 hc1 k0_h3).1 = newM scOff x0 x1 xa0 := by
  unfold kernelRun0_D
  dsimp only
  sl_unfold_words
  refine (whole_0 _).trans ?_
  simp (disch := decide) only [View.readAt_eq_ld, View.read_rep, ↓View.readCov_skip, fillM, fillA]
  refine rowsM _ _ _ _ _ _ _ _ _ _ _ _ _ _ _ _ _ _ ?_ ?_ ?_ ?_ ?_ ?_ ?_ ?_
  all_goals intros; rfl

theorem l_D (c : Dev nD) (i : grid0.Coords) (arg4 : Memref sig .tc .vmem S8x512x80 .bf16) (harg4 : arg4.IsWhole) (arg5 : Memref sig .tc .vmem S8x80x512 .bf16) (harg5 : arg5.IsWhole) (arg6 : Memref sig .tc .vmem S8x64x512 .bf16) (harg6 : arg6.IsWhole) (arg7 : Memref sig .tc .vmem S8x64x512 .f32) (harg7 : arg7.IsWhole) (arg8 : Memref sig .tc .vmem S8x1x512 .f32) (harg8 : arg8.IsWhole) (T0 : (S136.Idx → Elt Ideal .i32)) (T1 : (S136.Idx → Elt Ideal .i32))
     (x0 : (S8x512x80.Idx → Elt Ideal .bf16)) (x1 : (S8x80x512.Idx → Elt Ideal .bf16)) (x2 : (S8x64x512.Idx → Elt Ideal .bf16)) (xa0 : Buf (Elt Ideal) ((c : Thread nD τ).loc cc0_scratch0)) (xa1 : Buf (Elt Ideal) ((c : Thread nD τ).loc cc0_scratch1)) (xa2 : Buf (Elt Ideal) ((c : Thread nD τ).loc cc0_scratch2)) (hc0 : ¬((Scalar.cmpi .ne (Scalar.extui (Scalar.cmpi .eq (View.readAt (Elt Ideal) (tbM0_1).view (Rect.unit (s := S136) (k0_off1 i) S1.size (k0_off1_inb i)).toLoadRect T1 (Shape.Idx.first (numel1_S1.symm ▸ Nat.one_pos))) 0#32)) 0#32) = 1#1)) (hc1 : (Scalar.cmpi .ne (Scalar.extui (Scalar.cmpi .slt (View.readAt (Elt Ideal) (tbM0_1).view (Rect.unit (s := S136) (k0_off1 i) S1.size (k0_off1_inb i)).toLoadRect T1 (Shape.Idx.first (numel1_S1.symm ▸ Nat.one_pos))) (View.readAt (Elt Ideal) (tbM0_0).view (Rect.unit (s := S136) (k0_off1 i) S1.size (k0_off1_inb i)).toLoadRect T0 (Shape.Idx.first (numel1_S1.symm ▸ Nat.one_pos))))) 0#32) = 1#1) (k0_h3 : ¬(k0_cond3 (View.readAt (Elt Ideal) (tbM0_0).view (Rect.unit (s := S136) (k0_off1 i) S1.size (k0_off1_inb i)).toLoadRect T0 (Shape.Idx.first (numel1_S1.symm ▸ Nat.one_pos))) (View.readAt (Elt Ideal) (tbM0_1).view (Rect.unit (s := S136) (k0_off1 i) S1.size (k0_off1_inb i)).toLoadRect T1 (Shape.Idx.first (numel1_S1.symm ▸ Nat.one_pos))) = 1#1)) :
    (kernelRun0_D c i arg4 harg4 arg5 harg5 arg6 harg6 arg7 harg7 arg8 harg8 T0 T1 x0 x1 x2 xa0 xa1 xa2 hc0 hc1 k0_h3).2.1 = newL scOff x0 x1 xa0 xa1 := by
  unfold kernelRun0_D
  dsimp only
  sl_unfold_words
  refine (whole_1 _).trans ?_
  simp (disch := decide) only [View.readAt_eq_ld, View.read_rep, ↓View.readCov_skip, fillM, fillA]
  refine rowsM _ _ _ _ _ _ _ _ _ _ _ _ _ _ _ _ _ _ ?_ ?_ ?_ ?_ ?_ ?_ ?_ ?_
  all_goals intros; rfl

theorem a_D (c : Dev nD) (i : grid0.Coords) (arg4 : Memref sig .tc .vmem S8x512x80 .bf16) (harg4 : arg4.IsWhole) (arg5 : Memref sig .tc .vmem S8x80x512 .bf16) (harg5 : arg5.IsWhole) (arg6 : Memref sig .tc .vmem S8x64x512 .bf16) (harg6 : arg6.IsWhole) (arg7 : Memref sig .tc .vmem S8x64x512 .f32) (harg7 : arg7.IsWhole) (arg8 : Memref sig .tc .vmem S8x1x512 .f32) (harg8 : arg8.IsWhole) (T0 : (S136.Idx → Elt Ideal .i32)) (T1 : (S136.Idx → Elt Ideal .i32))
     (x0 : (S8x512x80.Idx → Elt Ideal .bf16)) (x1 : (S8x80x512.Idx → Elt Ideal .bf16)) (x2 : (S8x64x512.Idx → Elt Ideal .bf16)) (xa0 : Buf (Elt Ideal) ((c : Thread nD τ).loc cc0_scratch0)) (xa1 : Buf (Elt Ideal) ((c : Thread nD τ).loc cc0_scratch1)) (xa2 : Buf (Elt Ideal) ((c : Thread nD τ).loc cc0_scratch2)) (hc0 : ¬((Scalar.cmpi .ne (Scalar.extui (Scalar.cmpi .eq (View.readAt (Elt Ideal) (tbM0_1).view (Rect.unit (s := S136) (k0_off1 i) S1.size (k0_off1_inb i)).toLoadRect T1 (Shape.Idx.first (numel1_S1.symm ▸ Nat.one_pos))) 0#32)) 0#32) = 1#1)) (hc1 : (Scalar.cmpi .ne (Scalar.extui (Scalar.cmpi .slt (View.readAt (Elt Ideal) (tbM0_1).view (Rect.unit (s := S136) (k0_off1 i) S1.size (k0_off1_inb i)).toLoadRect T1 (Shape.Idx.first (numel1_S1.symm ▸ Nat.one_pos))) (View.readAt (Elt Ideal) (tbM0_0).view (Rect.unit (s := S136) (k0_off1 i) S1.size (k0_off1_inb i)).toLoadRect T0 (Shape.Idx.first (numel1_S1.symm ▸ Nat.one_pos))))) 0#32) = 1#1) (k0_h3 : ¬(k0_cond3 (View.readAt (Elt Ideal) (tbM0_0).view (Rect.unit (s := S136) (k0_off1 i) S1.size (k0_off1_inb i)).toLoadRect T0 (Shape.Idx.first (numel1_S1.symm ▸ Nat.one_pos))) (View.readAt (Elt Ideal) (tbM0_1).view (Rect.unit (s := S136) (k0_off1 i) S1.size (k0_off1_inb i)).toLoadRect T1 (Shape.Idx.first (numel1_S1.symm ▸ Nat.one_pos))) = 1#1)) :
    (kernelRun0_D c i arg4 harg4 arg5 harg5 arg6 harg6 arg7 harg7 arg8 harg8 T0 T1 x0 x1 x2 xa0 xa1 xa2 hc0 hc1 k0_h3).2.2.1 = newA scOff x0 x1 x2 xa0 xa2 := by
  unfold kernelRun0_D
  dsimp only
  sl_unfold_words
  refine (whole_2 _).trans ?_
  simp (disch := decide) only [View.readAt_eq_ld, View.read_rep, ↓View.readCov_skip, fillM, fillA]
  refine rowsA _ _ _ _ _ _ _ _ _ _ _ _ _ _ _ _ _ _ ?_ ?_ ?_ ?_ ?_ ?_ ?_ ?_
  all_goals intros; rfl

/-! ## Path B -/

theorem m_B (c : Dev nD) (i : grid0.Coords) (arg4 : Memref sig .tc .vmem S8x512x80 .bf16) (harg4 : arg4.IsWhole) (arg5 : Memref sig .tc .vmem S8x80x512 .bf16) (harg5 : arg5.IsWhole) (arg6 : Memref sig .tc .vmem S8x64x512 .bf16) (harg6 : arg6.IsWhole) (arg7 : Memref sig .tc .vmem S8x64x512 .f32) (harg7 : arg7.IsWhole) (arg8 : Memref sig .tc .vmem S8x1x512 .f32) (harg8 : arg8.IsWhole) (T0 : (S136.Idx → Elt Ideal .i32)) (T1 : (S136.Idx → Elt Ideal .i32))
     (x0 : (S8x512x80.Idx → Elt Ideal .bf16)) (x1 : (S8x80x512.Idx → Elt Ideal .bf16)) (x2 : (S8x64x512.Idx → Elt Ideal .bf16)) (hc0 : (Scalar.cmpi .ne (Scalar.extui (Scalar.cmpi .eq (View.readAt (Elt Ideal) (tbM0_1).view (Rect.unit (s := S136) (k0_off1 i) S1.size (k0_off1_inb i)).toLoadRect T1 (Shape.Idx.first (numel1_S1.symm ▸ Nat.one_pos))) 0#32)) 0#32) = 1#1) (hc1 : (Scalar.cmpi .ne (Scalar.extui (Scalar.cmpi .slt (View.readAt (Elt Ideal) (tbM0_1).view (Rect.unit (s := S136) (k0_off1 i) S1.size (k0_off1_inb i)).toLoadRect T1 (Shape.Idx.first (numel1_S1.symm ▸ Nat.one_pos))) (View.readAt (Elt Ideal) (tbM0_0).view (Rect.unit (s := S136) (k0_off1 i) S1.size (k0_off1_inb i)).toLoadRect T0 (Shape.Idx.first (numel1_S1.symm ▸ Nat.one_pos))))) 0#32) = 1#1) (k0_h3 : ¬(k0_cond3 (View.readAt (Elt Ideal) (tbM0_0).view (Rect.unit (s := S136) (k0_off1 i) S1.size (k0_off1_inb i)).toLoadRect T0 (Shape.Idx.first (numel1_S1.symm ▸ Nat.one_pos))) (View.readAt (Elt Ideal) (tbM0_1).view (Rect.unit (s := S136) (k0_off1 i) S1.size (k0_off1_inb i)).toLoadRect T1 (Shape.Idx.first (numel1_S1.symm ▸ Nat.one_pos))) = 1#1)) :
    (kernelRun0_B c i arg4 harg4 arg5 harg5 arg6 harg6 arg7 harg7 arg8 harg8 T0 T1 x0 x1 x2 hc0 hc1 k0_h3).1 = newM scOff x0 x1 m0 := by
  unfold kernelRun0_B
  dsimp only
  sl_unfold_words
  refine (whole_0 _).trans ?_
  simp (disch := decide) only [View.readAt_eq_ld, View.read_rep, ↓View.readCov_skip, fillM, fillA]
  refine rowsM _ _ _ _ _ _ _ _ _ _ _ _ _ _ _ _ _ _ ?_ ?_ ?_ ?_ ?_ ?_ ?_ ?_
  all_goals intros; rfl

theorem l_B (c : Dev nD) (i : grid0.Coords) (arg4 : Memref sig .tc .vmem S8x512x80 .bf16) (harg4 : arg4.IsWhole) (arg5 : Memref sig .tc .vmem S8x80x512 .bf16) (harg5 : arg5.IsWhole) (arg6 : Memref sig .tc .vmem S8x64x512 .bf16) (harg6 : arg6.IsWhole) (arg7 : Memref sig .tc .vmem S8x64x512 .f32) (harg7 : arg7.IsWhole) (arg8 : Memref sig .tc .vmem S8x1x512 .f32) (harg8 : arg8.IsWhole) (T0 : (S136.Idx → Elt Ideal .i32)) (T1 : (S136.Idx → Elt Ideal .i32))
     (x0 : (S8x512x80.Idx → Elt Ideal .bf16)) (x1 : (S8x80x512.Idx → Elt Ideal .bf16)) (x2 : (S8x64x512.Idx → Elt Ideal .bf16)) (hc0 : (Scalar.cmpi .ne (Scalar.extui (Scalar.cmpi .eq (View.readAt (Elt Ideal) (tbM0_1).view (Rect.unit (s := S136) (k0_off1 i) S1.size (k0_off1_inb i)).toLoadRect T1 (Shape.Idx.first (numel1_S1.symm ▸ Nat.one_pos))) 0#32)) 0#32) = 1#1) (hc1 : (Scalar.cmpi .ne (Scalar.extui (Scalar.cmpi .slt (View.readAt (Elt Ideal) (tbM0_1).view (Rect.unit (s := S136) (k0_off1 i) S1.size (k0_off1_inb i)).toLoadRect T1 (Shape.Idx.first (numel1_S1.symm ▸ Nat.one_pos))) (View.readAt (Elt Ideal) (tbM0_0).view (Rect.unit (s := S136) (k0_off1 i) S1.size (k0_off1_inb i)).toLoadRect T0 (Shape.Idx.first (numel1_S1.symm ▸ Nat.one_pos))))) 0#32) = 1#1) (k0_h3 : ¬(k0_cond3 (View.readAt (Elt Ideal) (tbM0_0).view (Rect.unit (s := S136) (k0_off1 i) S1.size (k0_off1_inb i)).toLoadRect T0 (Shape.Idx.first (numel1_S1.symm ▸ Nat.one_pos))) (View.readAt (Elt Ideal) (tbM0_1).view (Rect.unit (s := S136) (k0_off1 i) S1.size (k0_off1_inb i)).toLoadRect T1 (Shape.Idx.first (numel1_S1.symm ▸ Nat.one_pos))) = 1#1)) :
    (kernelRun0_B c i arg4 harg4 arg5 harg5 arg6 harg6 arg7 harg7 arg8 harg8 T0 T1 x0 x1 x2 hc0 hc1 k0_h3).2.1 = newL scOff x0 x1 m0 l0 := by
  unfold kernelRun0_B
  dsimp only
  sl_unfold_words
  refine (whole_1 _).trans ?_
  simp (disch := decide) only [View.readAt_eq_ld, View.read_rep, ↓View.readCov_skip, fillM, fillA]
  refine rowsM _ _ _ _ _ _ _ _ _ _ _ _ _ _ _ _ _ _ ?_ ?_ ?_ ?_ ?_ ?_ ?_ ?_
  all_goals intros; rfl

theorem a_B (c : Dev nD) (i : grid0.Coords) (arg4 : Memref sig .tc .vmem S8x512x80 .bf16) (harg4 : arg4.IsWhole) (arg5 : Memref sig .tc .vmem S8x80x512 .bf16) (harg5 : arg5.IsWhole) (arg6 : Memref sig .tc .vmem S8x64x512 .bf16) (harg6 : arg6.IsWhole) (arg7 : Memref sig .tc .vmem S8x64x512 .f32) (harg7 : arg7.IsWhole) (arg8 : Memref sig .tc .vmem S8x1x512 .f32) (harg8 : arg8.IsWhole) (T0 : (S136.Idx → Elt Ideal .i32)) (T1 : (S136.Idx → Elt Ideal .i32))
     (x0 : (S8x512x80.Idx → Elt Ideal .bf16)) (x1 : (S8x80x512.Idx → Elt Ideal .bf16)) (x2 : (S8x64x512.Idx → Elt Ideal .bf16)) (hc0 : (Scalar.cmpi .ne (Scalar.extui (Scalar.cmpi .eq (View.readAt (Elt Ideal) (tbM0_1).view (Rect.unit (s := S136) (k0_off1 i) S1.size (k0_off1_inb i)).toLoadRect T1 (Shape.Idx.first (numel1_S1.symm ▸ Nat.one_pos))) 0#32)) 0#32) = 1#1) (hc1 : (Scalar.cmpi .ne (Scalar.extui (Scalar.cmpi .slt (View.readAt (Elt Ideal) (tbM0_1).view (Rect.unit (s := S136) (k0_off1 i) S1.size (k0_off1_inb i)).toLoadRect T1 (Shape.Idx.first (numel1_S1.symm ▸ Nat.one_pos))) (View.readAt (Elt Ideal) (tbM0_0).view (Rect.unit (s := S136) (k0_off1 i) S1.size (k0_off1_inb i)).toLoadRect T0 (Shape.Idx.first (numel1_S1.symm ▸ Nat.one_pos))))) 0#32) = 1#1) (k0_h3 : ¬(k0_cond3 (View.readAt (Elt Ideal) (tbM0_0).view (Rect.unit (s := S136) (k0_off1 i) S1.size (k0_off1_inb i)).toLoadRect T0 (Shape.Idx.first (numel1_S1.symm ▸ Nat.one_pos))) (View.readAt (Elt Ideal) (tbM0_1).view (Rect.unit (s := S136) (k0_off1 i) S1.size (k0_off1_inb i)).toLoadRect T1 (Shape.Idx.first (numel1_S1.symm ▸ Nat.one_pos))) = 1#1)) :
    (kernelRun0_B c i arg4 harg4 arg5 harg5 arg6 harg6 arg7 harg7 arg8 harg8 T0 T1 x0 x1 x2 hc0 hc1 k0_h3).2.2.1 = newA scOff x0 x1 x2 m0 a0 := by
  unfold kernelRun0_B
  dsimp only
  sl_unfold_words
  refine (whole_2 _).trans ?_
  simp (disch := decide) only [View.readAt_eq_ld, View.read_rep, ↓View.readCov_skip, fillM, fillA]
  refine rowsA _ _ _ _ _ _ _ _ _ _ _ _ _ _ _ _ _ _ ?_ ?_ ?_ ?_ ?_ ?_ ?_ ?_
  all_goals intros; rfl

/-! ## Path C -/

theorem m_C (c : Dev nD) (i : grid0.Coords) (arg4 : Memref sig .tc .vmem S8x512x80 .bf16) (harg4 : arg4.IsWhole) (arg5 : Memref sig .tc .vmem S8x80x512 .bf16) (harg5 : arg5.IsWhole) (arg6 : Memref sig .tc .vmem S8x64x512 .bf16) (harg6 : arg6.IsWhole) (arg7 : Memref sig .tc .vmem S8x64x512 .f32) (harg7 : arg7.IsWhole) (arg8 : Memref sig .tc .vmem S8x1x512 .f32) (harg8 : arg8.IsWhole) (T0 : (S136.Idx → Elt Ideal .i32)) (T1 : (S136.Idx → Elt Ideal .i32))
     (x0 : (S8x512x80.Idx → Elt Ideal .bf16)) (x1 : (S8x80x512.Idx → Elt Ideal .bf16)) (x2 : (S8x64x512.Idx → Elt Ideal .bf16)) (xa0 : Buf (Elt Ideal) ((c : Thread nD τ).loc cc0_scratch0)) (xa1 : Buf (Elt Ideal) ((c : Thread nD τ).loc cc0_scratch1)) (xa2 : Buf (Elt Ideal) ((c : Thread nD τ).loc cc0_scratch2)) (hc0 : ¬((Scalar.cmpi .ne (Scalar.extui (Scalar.cmpi .eq (View.readAt (Elt Ideal) (tbM0_1).view (Rect.unit (s := S136) (k0_off1 i) S1.size (k0_off1_inb i)).toLoadRect T1 (Shape.Idx.first (numel1_S1.symm ▸ Nat.one_pos))) 0#32)) 0#32) = 1#1)) (hc1 : ¬((Scalar.cmpi .ne (Scalar.extui (Scalar.cmpi .slt (View.readAt (Elt Ideal) (tbM0_1).view (Rect.unit (s := S136) (k0_off1 i) S1.size (k0_off1_inb i)).toLoadRect T1 (Shape.Idx.first (numel1_S1.symm ▸ Nat.one_pos))) (View.readAt (Elt Ideal) (tbM0_0).view (Rect.unit (s := S136) (k0_off1 i) S1.size (k0_off1_inb i)).toLoadRect T0 (Shape.Idx.first (numel1_S1.symm ▸ Nat.one_pos))))) 0#32) = 1#1)) (k0_h3 : k0_cond3 (View.readAt (Elt Ideal) (tbM0_0).view (Rect.unit (s := S136) (k0_off1 i) S1.size (k0_off1_inb i)).toLoadRect T0 (Shape.Idx.first (numel1_S1.symm ▸ Nat.one_pos))) (View.readAt (Elt Ideal) (tbM0_1).view (Rect.unit (s := S136) (k0_off1 i) S1.size (k0_off1_inb i)).toLoadRect T1 (Shape.Idx.first (numel1_S1.symm ▸ Nat.one_pos))) = 1#1) :
    (kernelRun0_C c i arg4 harg4 arg5 harg5 arg6 harg6 arg7 harg7 arg8 harg8 T0 T1 x0 x1 x2 xa0 xa1 xa2 hc0 hc1 k0_h3).2.2.1 = newM scDiag x0 x1 xa0 := by
  unfold kernelRun0_C
  dsimp only
  sl_unfold_words
  refine (whole_0 _).trans ?_
  simp (disch := decide) only [View.readAt_eq_ld, View.read_rep, ↓View.readCov_skip, fillM, fillA]
  refine rowsM _ _ _ _ _ _ _ _ _ _ _ _ _ _ _ _ _ _ ?_ ?_ ?_ ?_ ?_ ?_ ?_ ?_
  all_goals intros; rfl

theorem l_C (c : Dev nD) (i : grid0.Coords) (arg4 : Memref sig .tc .vmem S8x512x80 .bf16) (harg4 : arg4.IsWhole) (arg5 : Memref sig .tc .vmem S8x80x512 .bf16) (harg5 : arg5.IsWhole) (arg6 : Memref sig .tc .vmem S8x64x512 .bf16) (harg6 : arg6.IsWhole) (arg7 : Memref sig .tc .vmem S8x64x512 .f32) (harg7 : arg7.IsWhole) (arg8 : Memref sig .tc .vmem S8x1x512 .f32) (harg8 : arg8.IsWhole) (T0 : (S136.Idx → Elt Ideal .i32)) (T1 : (S136.Idx → Elt Ideal .i32))
     (x0 : (S8x512x80.Idx → Elt Ideal .bf16)) (x1 : (S8x80x512.Idx → Elt Ideal .bf16)) (x2 : (S8x64x512.Idx → Elt Ideal .bf16)) (xa0 : Buf (Elt Ideal) ((c : Thread nD τ).loc cc0_scratch0)) (xa1 : Buf (Elt Ideal) ((c : Thread nD τ).loc cc0_scratch1)) (xa2 : Buf (Elt Ideal) ((c : Thread nD τ).loc cc0_scratch2)) (hc0 : ¬((Scalar.cmpi .ne (Scalar.extui (Scalar.cmpi .eq (View.readAt (Elt Ideal) (tbM0_1).view (Rect.unit (s := S136) (k0_off1 i) S1.size (k0_off1_inb i)).toLoadRect T1 (Shape.Idx.first (numel1_S1.symm ▸ Nat.one_pos))) 0#32)) 0#32) = 1#1)) (hc1 : ¬((Scalar.cmpi .ne (Scalar.extui (Scalar.cmpi .slt (View.readAt (Elt Ideal) (tbM0_1).view (Rect.unit (s := S136) (k0_off1 i) S1.size (k0_off1_inb i)).toLoadRect T1 (Shape.Idx.first (numel1_S1.symm ▸ Nat.one_pos))) (View.readAt (Elt Ideal) (tbM0_0).view (Rect.unit (s := S136) (k0_off1 i) S1.size (k0_off1_inb i)).toLoadRect T0 (Shape.Idx.first (numel1_S1.symm ▸ Nat.one_pos))))) 0#32) = 1#1)) (k0_h3 : k0_cond3 (View.readAt (Elt Ideal) (tbM0_0).view (Rect.unit (s := S136) (k0_off1 i) S1.size (k0_off1_inb i)).toLoadRect T0 (Shape.Idx.first (numel1_S1.symm ▸ Nat.one_pos))) (View.readAt (Elt Ideal) (tbM0_1).view (Rect.unit (s := S136) (k0_off1 i) S1.size (k0_off1_inb i)).toLoadRect T1 (Shape.Idx.first (numel1_S1.symm ▸ Nat.one_pos))) = 1#1) :
    (kernelRun0_C c i arg4 harg4 arg5 harg5 arg6 harg6 arg7 harg7 arg8 harg8 T0 T1 x0 x1 x2 xa0 xa1 xa2 hc0 hc1 k0_h3).2.2.2.1 = newL scDiag x0 x1 xa0 xa1 := by
  unfold kernelRun0_C
  dsimp only
  sl_unfold_words
  refine (whole_1 _).trans ?_
  simp (disch := decide) only [View.readAt_eq_ld, View.read_rep, ↓View.readCov_skip, fillM, fillA]
  refine rowsM _ _ _ _ _ _ _ _ _ _ _ _ _ _ _ _ _ _ ?_ ?_ ?_ ?_ ?_ ?_ ?_ ?_
  all_goals intros; rfl

theorem a_C (c : Dev nD) (i : grid0.Coords) (arg4 : Memref sig .tc .vmem S8x512x80 .bf16) (harg4 : arg4.IsWhole) (arg5 : Memref sig .tc .vmem S8x80x512 .bf16) (harg5 : arg5.IsWhole) (arg6 : Memref sig .tc .vmem S8x64x512 .bf16) (harg6 : arg6.IsWhole) (arg7 : Memref sig .tc .vmem S8x64x512 .f32) (harg7 : arg7.IsWhole) (arg8 : Memref sig .tc .vmem S8x1x512 .f32) (harg8 : arg8.IsWhole) (T0 : (S136.Idx → Elt Ideal .i32)) (T1 : (S136.Idx → Elt Ideal .i32))
     (x0 : (S8x512x80.Idx → Elt Ideal .bf16)) (x1 : (S8x80x512.Idx → Elt Ideal .bf16)) (x2 : (S8x64x512.Idx → Elt Ideal .bf16)) (xa0 : Buf (Elt Ideal) ((c : Thread nD τ).loc cc0_scratch0)) (xa1 : Buf (Elt Ideal) ((c : Thread nD τ).loc cc0_scratch1)) (xa2 : Buf (Elt Ideal) ((c : Thread nD τ).loc cc0_scratch2)) (hc0 : ¬((Scalar.cmpi .ne (Scalar.extui (Scalar.cmpi .eq (View.readAt (Elt Ideal) (tbM0_1).view (Rect.unit (s := S136) (k0_off1 i) S1.size (k0_off1_inb i)).toLoadRect T1 (Shape.Idx.first (numel1_S1.symm ▸ Nat.one_pos))) 0#32)) 0#32) = 1#1)) (hc1 : ¬((Scalar.cmpi .ne (Scalar.extui (Scalar.cmpi .slt (View.readAt (Elt Ideal) (tbM0_1).view (Rect.unit (s := S136) (k0_off1 i) S1.size (k0_off1_inb i)).toLoadRect T1 (Shape.Idx.first (numel1_S1.symm ▸ Nat.one_pos))) (View.readAt (Elt Ideal) (tbM0_0).view (Rect.unit (s := S136) (k0_off1 i) S1.size (k0_off1_inb i)).toLoadRect T0 (Shape.Idx.first (numel1_S1.symm ▸ Nat.one_pos))))) 0#32) = 1#1)) (k0_h3 : k0_cond3 (View.readAt (Elt Ideal) (tbM0_0).view (Rect.unit (s := S136) (k0_off1 i) S1.size (k0_off1_inb i)).toLoadRect T0 (Shape.Idx.first (numel1_S1.symm ▸ Nat.one_pos))) (View.readAt (Elt Ideal) (tbM0_1).view (Rect.unit (s := S136) (k0_off1 i) S1.size (k0_off1_inb i)).toLoadRect T1 (Shape.Idx.first (numel1_S1.symm ▸ Nat.one_pos))) = 1#1) :
    (kernelRun0_C c i arg4 harg4 arg5 harg5 arg6 harg6 arg7 harg7 arg8 harg8 T0 T1 x0 x1 x2 xa0 xa1 xa2 hc0 hc1 k0_h3).2.2.2.2.1 = newA scDiag x0 x1 x2 xa0 xa2 := by
  unfold kernelRun0_C
  dsimp only
  sl_unfold_words
  refine (whole_2 _).trans ?_
  simp (disch := decide) only [View.readAt_eq_ld, View.read_rep, ↓View.readCov_skip, fillM, fillA]
  refine rowsA _ _ _ _ _ _ _ _ _ _ _ _ _ _ _ _ _ _ ?_ ?_ ?_ ?_ ?_ ?_ ?_ ?_
  all_goals intros; rfl

theorem o_C (c : Dev nD) (i : grid0.Coords) (arg4 : Memref sig .tc .vmem S8x512x80 .bf16) (harg4 : arg4.IsWhole) (arg5 : Memref sig .tc .vmem S8x80x512 .bf16) (harg5 : arg5.IsWhole) (arg6 : Memref sig .tc .vmem S8x64x512 .bf16) (harg6 : arg6.IsWhole) (arg7 : Memref sig .tc .vmem S8x64x512 .f32) (harg7 : arg7.IsWhole) (arg8 : Memref sig .tc .vmem S8x1x512 .f32) (harg8 : arg8.IsWhole) (T0 : (S136.Idx → Elt Ideal .i32)) (T1 : (S136.Idx → Elt Ideal .i32))
     (x0 : (S8x512x80.Idx → Elt Ideal .bf16)) (x1 : (S8x80x512.Idx → Elt Ideal .bf16)) (x2 : (S8x64x512.Idx → Elt Ideal .bf16)) (xa0 : Buf (Elt Ideal) ((c : Thread nD τ).loc cc0_scratch0)) (xa1 : Buf (Elt Ideal) ((c : Thread nD τ).loc cc0_scratch1)) (xa2 : Buf (Elt Ideal) ((c : Thread nD τ).loc cc0_scratch2)) (hc0 : ¬((Scalar.cmpi .ne (Scalar.extui (Scalar.cmpi .eq (View.readAt (Elt Ideal) (tbM0_1).view (Rect.unit (s := S136) (k0_off1 i) S1.size (k0_off1_inb i)).toLoadRect T1 (Shape.Idx.first (numel1_S1.symm ▸ Nat.one_pos))) 0#32)) 0#32) = 1#1)) (hc1 : ¬((Scalar.cmpi .ne (Scalar.extui (Scalar.cmpi .slt (View.readAt (Elt Ideal) (tbM0_1).view (Rect.unit (s := S136) (k0_off1 i) S1.size (k0_off1_inb i)).toLoadRect T1 (Shape.Idx.first (numel1_S1.symm ▸ Nat.one_pos))) (View.readAt (Elt Ideal) (tbM0_0).view (Rect.unit (s := S136) (k0_off1 i) S1.size (k0_off1_inb i)).toLoadRect T0 (Shape.Idx.first (numel1_S1.symm ▸ Nat.one_pos))))) 0#32) = 1#1)) (k0_h3 : k0_cond3 (View.readAt (Elt Ideal) (tbM0_0).view (Rect.unit (s := S136) (k0_off1 i) S1.size (k0_off1_inb i)).toLoadRect T0 (Shape.Idx.first (numel1_S1.symm ▸ Nat.one_pos))) (View.readAt (Elt Ideal) (tbM0_1).view (Rect.unit (s := S136) (k0_off1 i) S1.size (k0_off1_inb i)).toLoadRect T1 (Shape.Idx.first (numel1_S1.symm ▸ Nat.one_pos))) = 1#1) :
    out0_C_3 c i arg4 harg4 arg5 harg5 arg6 harg6 arg7 harg7 arg8 harg8 T0 T1 x0 x1 x2 xa0 xa1 xa2 hc0 hc1 k0_h3 = k0_pay6 (newA scDiag x0 x1 x2 xa0 xa2) (newL scDiag x0 x1 xa0 xa1) := by
  unfold out0_C_3
  rw [View.read_writes_eq_canon _ _ _ (cover0_C_3 c i arg4 harg4 arg5 harg5 arg6 harg6 arg7 harg7 arg8 harg8 T0 T1 x0 x1 x2 xa0 xa1 xa2 hc0 hc1 k0_h3)]
  unfold kernelRun0_C
  dsimp only
  sl_unfold_words
  rw [View.canon_unit_zero hz3]
  refine congrArg₂ k0_pay6 ?_ ?_
  · refine (readCov_all hz3 _ _ _).trans ?_
    simp (disch := decide) only [View.readAt_eq_ld, View.read_rep, ↓View.readCov_skip, fillM, fillA]
    refine rowsA _ _ _ _ _ _ _ _ _ _ _ _ _ _ _ _ _ _ ?_ ?_ ?_ ?_ ?_ ?_ ?_ ?_
    all_goals intros; rfl
  · refine (readCov_all hz3 _ _ _).trans ?_
    simp (disch := decide) only [View.readAt_eq_ld, View.read_rep, ↓View.readCov_skip, fillM, fillA]
    refine rowsM _ _ _ _ _ _ _ _ _ _ _ _ _ _ _ _ _ _ ?_ ?_ ?_ ?_ ?_ ?_ ?_ ?_
    all_goals intros; rfl

theorem e_C (c : Dev nD) (i : grid0.Coords) (arg4 : Memref sig .tc .vmem S8x512x80 .bf16) (harg4 : arg4.IsWhole) (arg5 : Memref sig .tc .vmem S8x80x512 .bf16) (harg5 : arg5.IsWhole) (arg6 : Memref sig .tc .vmem S8x64x512 .bf16) (harg6 : arg6.IsWhole) (arg7 : Memref sig .tc .vmem S8x64x512 .f32) (harg7 : arg7.IsWhole) (arg8 : Memref sig .tc .vmem S8x1x512 .f32) (harg8 : arg8.IsWhole) (T0 : (S136.Idx → Elt Ideal .i32)) (T1 : (S136.Idx → Elt Ideal .i32))
     (x0 : (S8x512x80.Idx → Elt Ideal .bf16)) (x1 : (S8x80x512.Idx → Elt Ideal .bf16)) (x2 : (S8x64x512.Idx → Elt Ideal .bf16)) (xa0 : Buf (Elt Ideal) ((c : Thread nD τ).loc cc0_scratch0)) (xa1 : Buf (Elt Ideal) ((c : Thread nD τ).loc cc0_scratch1)) (xa2 : Buf (Elt Ideal) ((c : Thread nD τ).loc cc0_scratch2)) (hc0 : ¬((Scalar.cmpi .ne (Scalar.extui (Scalar.cmpi .eq (View.readAt (Elt Ideal) (tbM0_1).view (Rect.unit (s := S136) (k0_off1 i) S1.size (k0_off1_inb i)).toLoadRect T1 (Shape.Idx.first (numel1_S1.symm ▸ Nat.one_pos))) 0#32)) 0#32) = 1#1)) (hc1 : ¬((Scalar.cmpi .ne (Scalar.extui (Scalar.cmpi .slt (View.readAt (Elt Ideal) (tbM0_1).view (Rect.unit (s := S136) (k0_off1 i) S1.size (k0_off1_inb i)).toLoadRect T1 (Shape.Idx.first (numel1_S1.symm ▸ Nat.one_pos))) (View.readAt (Elt Ideal) (tbM0_0).view (Rect.unit (s := S136) (k0_off1 i) S1.size (k0_off1_inb i)).toLoadRect T0 (Shape.Idx.first (numel1_S1.symm ▸ Nat.one_pos))))) 0#32) = 1#1)) (k0_h3 : k0_cond3 (View.readAt (Elt Ideal) (tbM0_0).view (Rect.unit (s := S136) (k0_off1 i) S1.size (k0_off1_inb i)).toLoadRect T0 (Shape.Idx.first (numel1_S1.symm ▸ Nat.one_pos))) (View.readAt (Elt Ideal) (tbM0_1).view (Rect.unit (s := S136) (k0_off1 i) S1.size (k0_off1_inb i)).toLoadRect T1 (Shape.Idx.first (numel1_S1.symm ▸ Nat.one_pos))) = 1#1) :
    out0_C_4 c i arg4 harg4 arg5 harg5 arg6 harg6 arg7 harg7 arg8 harg8 T0 T1 x0 x1 x2 xa0 xa1 xa2 hc0 hc1 k0_h3 = k0_pay7 (newM scDiag x0 x1 xa0) (newL scDiag x0 x1 xa0 xa1) := by
  unfold out0_C_4
  rw [View.read_writes_eq_canon _ _ _ (cover0_C_4 c i arg4 harg4 arg5 harg5 arg6 harg6 arg7 harg7 arg8 harg8 T0 T1 x0 x1 x2 xa0 xa1 xa2 hc0 hc1 k0_h3)]
  unfold kernelRun0_C
  dsimp only
  sl_unfold_words
  rw [View.canon_unit_zero hz3]
  refine congrArg₂ k0_pay7 ?_ ?_
  · refine (readCov_all hz3 _ _ _).trans ?_
    simp (disch := decide) only [View.readAt_eq_ld, View.read_rep, ↓View.readCov_skip, fillM, fillA]
    refine rowsM _ _ _ _ _ _ _ _ _ _ _ _ _ _ _ _ _ _ ?_ ?_ ?_ ?_ ?_ ?_ ?_ ?_
    all_goals intros; rfl
  · refine (readCov_all hz3 _ _ _).trans ?_
    simp (disch := decide) only [View.readAt_eq_ld, View.read_rep, ↓View.readCov_skip, fillM, fillA]
    refine rowsM _ _ _ _ _ _ _ _ _ _ _ _ _ _ _ _ _ _ ?_ ?_ ?_ ?_ ?_ ?_ ?_ ?_
    all_goals intros; rfl

/-! ## Path A -/

theorem m_A (c : Dev nD) (i : grid0.Coords) (arg4 : Memref sig .tc .vmem S8x512x80 .bf16) (harg4 : arg4.IsWhole) (arg5 : Memref sig .tc .vmem S8x80x512 .bf16) (harg5 : arg5.IsWhole) (arg6 : Memref sig .tc .vmem S8x64x512 .bf16) (harg6 : arg6.IsWhole) (arg7 : Memref sig .tc .vmem S8x64x512 .f32) (harg7 : arg7.IsWhole) (arg8 : Memref sig .tc .vmem S8x1x512 .f32) (harg8 : arg8.IsWhole) (T0 : (S136.Idx → Elt Ideal .i32)) (T1 : (S136.Idx → Elt Ideal .i32))
     (x0 : (S8x512x80.Idx → Elt Ideal .bf16)) (x1 : (S8x80x512.Idx → Elt Ideal .bf16)) (x2 : (S8x64x512.Idx → Elt Ideal .bf16)) (hc0 : (Scalar.cmpi .ne (Scalar.extui (Scalar.cmpi .eq (View.readAt (Elt Ideal) (tbM0_1).view (Rect.unit (s := S136) (k0_off1 i) S1.size (k0_off1_inb i)).toLoadRect T1 (Shape.Idx.first (numel1_S1.symm ▸ Nat.one_pos))) 0#32)) 0#32) = 1#1) (hc1 : ¬((Scalar.cmpi .ne (Scalar.extui (Scalar.cmpi .slt (View.readAt (Elt Ideal) (tbM0_1).view (Rect.unit (s := S136) (k0_off1 i) S1.size (k0_off1_inb i)).toLoadRect T1 (Shape.Idx.first (numel1_S1.symm ▸ Nat.one_pos))) (View.readAt (Elt Ideal) (tbM0_0).view (Rect.unit (s := S136) (k0_off1 i) S1.size (k0_off1_inb i)).toLoadRect T0 (Shape.Idx.first (numel1_S1.symm ▸ Nat.one_pos))))) 0#32) = 1#1)) (k0_h3 : k0_cond3 (View.readAt (Elt Ideal) (tbM0_0).view (Rect.unit (s := S136) (k0_off1 i) S1.size (k0_off1_inb i)).toLoadRect T0 (Shape.Idx.first (numel1_S1.symm ▸ Nat.one_pos))) (View.readAt (Elt Ideal) (tbM0_1).view (Rect.unit (s := S136) (k0_off1 i) S1.size (k0_off1_inb i)).toLoadRect T1 (Shape.Idx.first (numel1_S1.symm ▸ Nat.one_pos))) = 1#1) :
    (kernelRun0_A c i arg4 harg4 arg5 harg5 arg6 harg6 arg7 harg7 arg8 harg8 T0 T1 x0 x1 x2 hc0 hc1 k0_h3).2.2.1 = newM scDiag x0 x1 m0 := by
  unfold kernelRun0_A
  dsimp only
  sl_unfold_words
  refine (whole_0 _).trans ?_
  simp (disch := decide) only [View.readAt_eq_ld, View.read_rep, ↓View.readCov_skip, fillM, fillA]
  refine rowsM _ _ _ _ _ _ _ _ _ _ _ _ _ _ _ _ _ _ ?_ ?_ ?_ ?_ ?_ ?_ ?_ ?_
  all_goals intros; rfl

theorem l_A (c : Dev nD) (i : grid0.Coords) (arg4 : Memref sig .tc .vmem S8x512x80 .bf16) (harg4 : arg4.IsWhole) (arg5 : Memref sig .tc .vmem S8x80x512 .bf16) (harg5 : arg5.IsWhole) (arg6 : Memref sig .tc .vmem S8x64x512 .bf16) (harg6 : arg6.IsWhole) (arg7 : Memref sig .tc .vmem S8x64x512 .f32) (harg7 : arg7.IsWhole) (arg8 : Memref sig .tc .vmem S8x1x512 .f32) (harg8 : arg8.IsWhole) (T0 : (S136.Idx → Elt Ideal .i32)) (T1 : (S136.Idx → Elt Ideal .i32))
     (x0 : (S8x512x80.Idx → Elt Ideal .bf16)) (x1 : (S8x80x512.Idx → Elt Ideal .bf16)) (x2 : (S8x64x512.Idx → Elt Ideal .bf16)) (hc0 : (Scalar.cmpi .ne (Scalar.extui (Scalar.cmpi .eq (View.readAt (Elt Ideal) (tbM0_1).view (Rect.unit (s := S136) (k0_off1 i) S1.size (k0_off1_inb i)).toLoadRect T1 (Shape.Idx.first (numel1_S1.symm ▸ Nat.one_pos))) 0#32)) 0#32) = 1#1) (hc1 : ¬((Scalar.cmpi .ne (Scalar.extui (Scalar.cmpi .slt (View.readAt (Elt Ideal) (tbM0_1).view (Rect.unit (s := S136) (k0_off1 i) S1.size (k0_off1_inb i)).toLoadRect T1 (Shape.Idx.first (numel1_S1.symm ▸ Nat.one_pos))) (View.readAt (Elt Ideal) (tbM0_0).view (Rect.unit (s := S136) (k0_off1 i) S1.size (k0_off1_inb i)).toLoadRect T0 (Shape.Idx.first (numel1_S1.symm ▸ Nat.one_pos))))) 0#32) = 1#1)) (k0_h3 : k0_cond3 (View.readAt (Elt Ideal) (tbM0_0).view (Rect.unit (s := S136) (k0_off1 i) S1.size (k0_off1_inb i)).toLoadRect T0 (Shape.Idx.first (numel1_S1.symm ▸ Nat.one_pos))) (View.readAt (Elt Ideal) (tbM0_1).view (Rect.unit (s := S136) (k0_off1 i) S1.size (k0_off1_inb i)).toLoadRect T1 (Shape.Idx.first (numel1_S1.symm ▸ Nat.one_pos))) = 1#1) :
    (kernelRun0_A c i arg4 harg4 arg5 harg5 arg6 harg6 arg7 harg7 arg8 harg8 T0 T1 x0 x1 x2 hc0 hc1 k0_h3).2.2.2.1 = newL scDiag x0 x1 m0 l0 := by
  unfold kernelRun0_A
  dsimp only
  sl_unfold_words
  refine (whole_1 _).trans ?_
  simp (disch := decide) only [View.readAt_eq_ld, View.read_rep, ↓View.readCov_skip, fillM, fillA]
  refine rowsM _ _ _ _ _ _ _ _ _ _ _ _ _ _ _ _ _ _ ?_ ?_ ?_ ?_ ?_ ?_ ?_ ?_
  all_goals intros; rfl

theorem a_A (c : Dev nD) (i : grid0.Coords) (arg4 : Memref sig .tc .vmem S8x512x80 .bf16) (harg4 : arg4.IsWhole) (arg5 : Memref sig .tc .vmem S8x80x512 .bf16) (harg5 : arg5.IsWhole) (arg6 : Memref sig .tc .vmem S8x64x512 .bf16) (harg6 : arg6.IsWhole) (arg7 : Memref sig .tc .vmem S8x64x512 .f32) (harg7 : arg7.IsWhole) (arg8 : Memref sig .tc .vmem S8x1x512 .f32) (harg8 : arg8.IsWhole) (T0 : (S136.Idx → Elt Ideal .i32)) (T1 : (S136.Idx → Elt Ideal .i32))
     (x0 : (S8x512x80.Idx → Elt Ideal .bf16)) (x1 : (S8x80x512.Idx → Elt Ideal .bf16)) (x2 : (S8x64x512.Idx → Elt Ideal .bf16)) (hc0 : (Scalar.cmpi .ne (Scalar.extui (Scalar.cmpi .eq (View.readAt (Elt Ideal) (tbM0_1).view (Rect.unit (s := S136) (k0_off1 i) S1.size (k0_off1_inb i)).toLoadRect T1 (Shape.Idx.first (numel1_S1.symm ▸ Nat.one_pos))) 0#32)) 0#32) = 1#1) (hc1 : ¬((Scalar.cmpi .ne (Scalar.extui (Scalar.cmpi .slt (View.readAt (Elt Ideal) (tbM0_1).view (Rect.unit (s := S136) (k0_off1 i) S1.size (k0_off1_inb i)).toLoadRect T1 (Shape.Idx.first (numel1_S1.symm ▸ Nat.one_pos))) (View.readAt (Elt Ideal) (tbM0_0).view (Rect.unit (s := S136) (k0_off1 i) S1.size (k0_off1_inb i)).toLoadRect T0 (Shape.Idx.first (numel1_S1.symm ▸ Nat.one_pos))))) 0#32) = 1#1)) (k0_h3 : k0_cond3 (View.readAt (Elt Ideal) (tbM0_0).view (Rect.unit (s := S136) (k0_off1 i) S1.size (k0_off1_inb i)).toLoadRect T0 (Shape.Idx.first (numel1_S1.symm ▸ Nat.one_pos))) (View.readAt (Elt Ideal) (tbM0_1).view (Rect.unit (s := S136) (k0_off1 i) S1.size (k0_off1_inb i)).toLoadRect T1 (Shape.Idx.first (numel1_S1.symm ▸ Nat.one_pos))) = 1#1) :
    (kernelRun0_A c i arg4 harg4 arg5 harg5 arg6 harg6 arg7 harg7 arg8 harg8 T0 T1 x0 x1 x2 hc0 hc1 k0_h3).2.2.2.2.1 = newA scDiag x0 x1 x2 m0 a0 := by
  unfold kernelRun0_A
  dsimp only
  sl_unfold_words
  refine (whole_2 _).trans ?_
  simp (disch := decide) only [View.readAt_eq_ld, View.read_rep, ↓View.readCov_skip, fillM, fillA]
  refine rowsA _ _ _ _ _ _ _ _ _ _ _ _ _ _ _ _ _ _ ?_ ?_ ?_ ?_ ?_ ?_ ?_ ?_
  all_goals intros; rfl

theorem o_A (c : Dev nD) (i : grid0.Coords) (arg4 : Memref sig .tc .vmem S8x512x80 .bf16) (harg4 : arg4.IsWhole) (arg5 : Memref sig .tc .vmem S8x80x512 .bf16) (harg5 : arg5.IsWhole) (arg6 : Memref sig .tc .vmem S8x64x512 .bf16) (harg6 : arg6.IsWhole) (arg7 : Memref sig .tc .vmem S8x64x512 .f32) (harg7 : arg7.IsWhole) (arg8 : Memref sig .tc .vmem S8x1x512 .f32) (harg8 : arg8.IsWhole) (T0 : (S136.Idx → Elt Ideal .i32)) (T1 : (S136.Idx → Elt Ideal .i32))
     (x0 : (S8x512x80.Idx → Elt Ideal .bf16)) (x1 : (S8x80x512.Idx → Elt Ideal .bf16)) (x2 : (S8x64x512.Idx → Elt Ideal .bf16)) (hc0 : (Scalar.cmpi .ne (Scalar.extui (Scalar.cmpi .eq (View.readAt (Elt Ideal) (tbM0_1).view (Rect.unit (s := S136) (k0_off1 i) S1.size (k0_off1_inb i)).toLoadRect T1 (Shape.Idx.first (numel1_S1.symm ▸ Nat.one_pos))) 0#32)) 0#32) = 1#1) (hc1 : ¬((Scalar.cmpi .ne (Scalar.extui (Scalar.cmpi .slt (View.readAt (Elt Ideal) (tbM0_1).view (Rect.unit (s := S136) (k0_off1 i) S1.size (k0_off1_inb i)).toLoadRect T1 (Shape.Idx.first (numel1_S1.symm ▸ Nat.one_pos))) (View.readAt (Elt Ideal) (tbM0_0).view (Rect.unit (s := S136) (k0_off1 i) S1.size (k0_off1_inb i)).toLoadRect T0 (Shape.Idx.first (numel1_S1.symm ▸ Nat.one_pos))))) 0#32) = 1#1)) (k0_h3 : k0_cond3 (View.readAt (Elt Ideal) (tbM0_0).view (Rect.unit (s := S136) (k0_off1 i) S1.size (k0_off1_inb i)).toLoadRect T0 (Shape.Idx.first (numel1_S1.symm ▸ Nat.one_pos))) (View.readAt (Elt Ideal) (tbM0_1).view (Rect.unit (s := S136) (k0_off1 i) S1.size (k0_off1_inb i)).toLoadRect T1 (Shape.Idx.first (numel1_S1.symm ▸ Nat.one_pos))) = 1#1) :
    out0_A_3 c i arg4 harg4 arg5 harg5 arg6 harg6 arg7 harg7 arg8 harg8 T0 T1 x0 x1 x2 hc0 hc1 k0_h3 = k0_pay6 (newA scDiag x0 x1 x2 m0 a0) (newL scDiag x0 x1 m0 l0) := by
  unfold out0_A_3
  rw [View.read_writes_eq_canon _ _ _ (cover0_A_3 c i arg4 harg4 arg5 harg5 arg6 harg6 arg7 harg7 arg8 harg8 T0 T1 x0 x1 x2 hc0 hc1 k0_h3)]
  unfold kernelRun0_A
  dsimp only
  sl_unfold_words
  rw [View.canon_unit_zero hz3]
  refine congrArg₂ k0_pay6 ?_ ?_
  · refine (readCov_all hz3 _ _ _).trans ?_
    simp (disch := decide) only [View.readAt_eq_ld, View.read_rep, ↓View.readCov_skip, fillM, fillA]
    refine rowsA _ _ _ _ _ _ _ _ _ _ _ _ _ _ _ _ _ _ ?_ ?_ ?_ ?_ ?_ ?_ ?_ ?_
    all_goals intros; rfl
  · refine (readCov_all hz3 _ _ _).trans ?_
    simp (disch := decide) only [View.readAt_eq_ld, View.read_rep, ↓View.readCov_skip, fillM, fillA]
    refine rowsM _ _ _ _ _ _ _ _ _ _ _ _ _ _ _ _ _ _ ?_ ?_ ?_ ?_ ?_ ?_ ?_ ?_
    all_goals intros; rfl

theorem e_A (c : Dev nD) (i : grid0.Coords) (arg4 : Memref sig .tc .vmem S8x512x80 .bf16) (harg4 : arg4.IsWhole) (arg5 : Memref sig .tc .vmem S8x80x512 .bf16) (harg5 : arg5.IsWhole) (arg6 : Memref sig .tc .vmem S8x64x512 .bf16) (harg6 : arg6.IsWhole) (arg7 : Memref sig .tc .vmem S8x64x512 .f32) (harg7 : arg7.IsWhole) (arg8 : Memref sig .tc .vmem S8x1x512 .f32) (harg8 : arg8.IsWhole) (T0 : (S136.Idx → Elt Ideal .i32)) (T1 : (S136.Idx → Elt Ideal .i32))
     (x0 : (S8x512x80.Idx → Elt Ideal .bf16)) (x1 : (S8x80x512.Idx → Elt Ideal .bf16)) (x2 : (S8x64x512.Idx → Elt Ideal .bf16)) (hc0 : (Scalar.cmpi .ne (Scalar.extui (Scalar.cmpi .eq (View.readAt (Elt Ideal) (tbM0_1).view (Rect.unit (s := S136) (k0_off1 i) S1.size (k0_off1_inb i)).toLoadRect T1 (Shape.Idx.first (numel1_S1.symm ▸ Nat.one_pos))) 0#32)) 0#32) = 1#1) (hc1 : ¬((Scalar.cmpi .ne (Scalar.extui (Scalar.cmpi .slt (View.readAt (Elt Ideal) (tbM0_1).view (Rect.unit (s := S136) (k0_off1 i) S1.size (k0_off1_inb i)).toLoadRect T1 (Shape.Idx.first (numel1_S1.symm ▸ Nat.one_pos))) (View.readAt (Elt Ideal) (tbM0_0).view (Rect.unit (s := S136) (k0_off1 i) S1.size (k0_off1_inb i)).toLoadRect T0 (Shape.Idx.first (numel1_S1.symm ▸ Nat.one_pos))))) 0#32) = 1#1)) (k0_h3 : k0_cond3 (View.readAt (Elt Ideal) (tbM0_0).view (Rect.unit (s := S136) (k0_off1 i) S1.size (k0_off1_inb i)).toLoadRect T0 (Shape.Idx.first (numel1_S1.symm ▸ Nat.one_pos))) (View.readAt (Elt Ideal) (tbM0_1).view (Rect.unit (s := S136) (k0_off1 i) S1.size (k0_off1_inb i)).toLoadRect T1 (Shape.Idx.first (numel1_S1.symm ▸ Nat.one_pos))) = 1#1) :
    out0_A_4 c i arg4 harg4 arg5 harg5 arg6 harg6 arg7 harg7 arg8 harg8 T0 T1 x0 x1 x2 hc0 hc1 k0_h3 = k0_pay7 (newM scDiag x0 x1 m0) (newL scDiag x0 x1 m0 l0) := by
  unfold out0_A_4
  rw [View.read_writes_eq_canon _ _ _ (cover0_A_4 c i arg4 harg4 arg5 harg5 arg6 harg6 arg7 harg7 arg8 harg8 T0 T1 x0 x1 x2 hc0 hc1 k0_h3)]
  unfold kernelRun0_A
  dsimp only
  sl_unfold_words
  rw [View.canon_unit_zero hz3]
  refine congrArg₂ k0_pay7 ?_ ?_
  · refine (readCov_all hz3 _ _ _).trans ?_
    simp (disch := decide) only [View.readAt_eq_ld, View.read_rep, ↓View.readCov_skip, fillM, fillA]
    refine rowsM _ _ _ _ _ _ _ _ _ _ _ _ _ _ _ _ _ _ ?_ ?_ ?_ ?_ ?_ ?_ ?_ ?_
    all_goals intros; rfl
  · refine (readCov_all hz3 _ _ _).trans ?_
    simp (disch := decide) only [View.readAt_eq_ld, View.read_rep, ↓View.readCov_skip, fillM, fillA]
    refine rowsM _ _ _ _ _ _ _ _ _ _ _ _ _ _ _ _ _ _ ?_ ?_ ?_ ?_ ?_ ?_ ?_ ?_
    all_goals intros; rfl

end Cert.Proof.Flash

end
-- ==== Proof.FlashSum.lean ====
module

public import proofs.«01_k».proof.Proof.Common

@[expose] public section

/-! The running softmax: the maximum, the sum and the weighted sum of a row of scores taken block by block, each block rescaling what the blocks before it left. -/

noncomputable section

namespace Cert.Proof.Flash

open Idealize.ShloMosaic

/-- The largest of the first `n` scores. -/
def smax (f : ℕ → EReal) (n : ℕ) : EReal := (Finset.range n).sup f
/-- The sum of the first `n` terms, each weighted by the exponential of its score less `M`. -/
def wsum (f v : ℕ → EReal) (M : EReal) (n : ℕ) : EReal := ∑ j ∈ Finset.range n, v j * Ideal.exp (f j - M)

theorem smax_zero (f : ℕ → EReal) : smax f 0 = ⊥ := rfl
theorem wsum_zero (f v : ℕ → EReal) (M : EReal) : wsum f v M 0 = 0 := rfl

/-- A score: a real number, or minus infinity where the key is masked. -/
def Sc (x : EReal) : Prop := x = ⊥ ∨ Fin' x

theorem fold_max_eq_sup {n : ℕ} (g : Fin n → EReal) : Finset.univ.fold max ⊥ g = Finset.univ.sup g := rfl

theorem smax_add (f : ℕ → EReal) (n K : ℕ) : smax f (n + K) = max (smax f n) (Finset.univ.fold max ⊥ fun k : Fin K => f (n + k.val)) := by
  rw [fold_max_eq_sup]
  apply le_antisymm
  · refine Finset.sup_le fun j hj => ?_
    rw [Finset.mem_range] at hj
    by_cases h : j < n
    · exact le_max_of_le_left (Finset.le_sup (f := f) (Finset.mem_range.2 h))
    · have e : f j = (fun k : Fin K => f (n + k.val)) ⟨j - n, by omega⟩ := by show f j = f (n + (j - n)); rw [Nat.add_sub_cancel' (by omega)]
      rw [e]
      exact le_max_of_le_right (Finset.le_sup (f := fun k : Fin K => f (n + k.val)) (Finset.mem_univ _))
  · refine max_le (Finset.sup_mono fun j hj => ?_) (Finset.sup_le fun k _ => Finset.le_sup (f := f) (Finset.mem_range.2 (by have := k.isLt; omega)))
    rw [Finset.mem_range] at hj ⊢; omega

theorem wsum_add (f v : ℕ → EReal) (M : EReal) (n K : ℕ) :
    wsum f v M (n + K) = wsum f v M n + ∑ k : Fin K, v (n + k.val) * Ideal.exp (f (n + k.val) - M) := by
  unfold wsum
  rw [Finset.sum_range_add, Finset.sum_range fun k => v (n + k) * Ideal.exp (f (n + k) - M)]

/-- Scores of which the first is real have a real maximum. -/
theorem smax_fin {f : ℕ → EReal} (hf : ∀ j, Sc (f j)) (h0 : Fin' (f 0)) {n : ℕ} (hn : 0 < n) : Fin' (smax f n) := by
  have h1 : smax f n < ⊤ := by
    refine (Finset.sup_lt_iff (bot_lt_top)).2 fun j _ => ?_
    rcases hf j with h | ⟨r, hr⟩
    · rw [h]; exact bot_lt_top
    · rw [hr]; exact EReal.coe_lt_top r
  have h2 : ⊥ < smax f n := by
    obtain ⟨r, hr⟩ := h0
    exact (hr ▸ EReal.bot_lt_coe r).trans_le (Finset.le_sup (f := f) (Finset.mem_range.2 hn))
  exact ⟨_, (EReal.coe_toReal h1.ne h2.ne').symm⟩

theorem exp_fin {x M : EReal} (hx : Sc x) (hM : Fin' M) : Fin' (Ideal.exp (x - M)) := by
  obtain ⟨b, rfl⟩ := hM
  rcases hx with rfl | ⟨a, rfl⟩
  · exact ⟨0, by rw [EReal.bot_sub]; rfl⟩
  · exact ⟨Real.exp (a - b), by rw [← EReal.coe_sub]; rfl⟩

theorem exp_bot {M : EReal} : Ideal.exp (⊥ - M) = 0 := by rw [EReal.bot_sub]; rfl

theorem wsum_fin {f v : ℕ → EReal} (hf : ∀ j, Sc (f j)) (hv : ∀ j, Fin' (v j)) {M : EReal} (hM : Fin' M) (n : ℕ) : Fin' (wsum f v M n) :=
  Fin'.sum _ fun j => (hv j).mul (exp_fin (hf j) hM)

/-- Rescaling by the difference of two real maxima. -/
theorem exp_mul {x M M' : EReal} (hx : Sc x) (hM : Fin' M) (hM' : Fin' M') : Ideal.exp (M - M') * Ideal.exp (x - M) = Ideal.exp (x - M') := by
  obtain ⟨a, rfl⟩ := hM; obtain ⟨b, rfl⟩ := hM'
  rcases hx with rfl | ⟨c, rfl⟩
  · rw [exp_bot, exp_bot, mul_zero]
  · rw [← EReal.coe_sub, ← EReal.coe_sub, ← EReal.coe_sub]
    show ((Real.exp _ : ℝ) : EReal) * ((Real.exp _ : ℝ) : EReal) = ((Real.exp _ : ℝ) : EReal)
    rw [← EReal.coe_mul, ← Real.exp_add]
    congr 2; ring

/-- What the blocks before left, rescaled to the new maximum. -/
theorem rescale {f v : ℕ → EReal} (hf : ∀ j, Sc (f j)) (h0 : Fin' (f 0)) (hv : ∀ j, Fin' (v j)) {M' : EReal} (hM' : Fin' M') (n : ℕ) :
    Ideal.exp (smax f n - M') * wsum f v (smax f n) n = wsum f v M' n := by
  rcases Nat.eq_zero_or_pos n with rfl | hn
  · rw [wsum_zero, wsum_zero, mul_zero]
  · have hM := smax_fin hf h0 hn
    unfold wsum
    rw [mul_sum_fin _ (exp_fin (.inr hM) hM') fun j => (hv j).mul (exp_fin (hf j) hM)]
    refine Finset.sum_congr rfl fun j _ => ?_
    rw [mul_left_comm, exp_mul (hf j) hM hM']

/-- Masked scores past the first `n` add nothing. -/
theorem smax_mask {f : ℕ → EReal} {n N : ℕ} (h : n ≤ N) (hm : ∀ j, n ≤ j → f j = ⊥) : smax f N = smax f n := by
  apply le_antisymm
  · refine Finset.sup_le fun j hj => ?_
    by_cases hjn : j < n
    · exact Finset.le_sup (f := f) (Finset.mem_range.2 hjn)
    · rw [hm j (by omega)]; exact bot_le
  · exact Finset.sup_mono fun j hj => by rw [Finset.mem_range] at hj ⊢; omega

theorem wsum_mask {f v : ℕ → EReal} {M : EReal} {n N : ℕ} (h : n ≤ N) (hm : ∀ j, n ≤ j → f j = ⊥) : wsum f v M N = wsum f v M n := by
  unfold wsum
  refine (Finset.sum_subset (fun j hj => ?_) fun j _ hj => ?_).symm
  · rw [Finset.mem_range] at hj ⊢; omega
  · rw [Finset.mem_range] at hj
    rw [hm j (by omega), exp_bot, mul_zero]

/-- The sum of the weights is a positive real number. -/
theorem wsum_one_pos {f : ℕ → EReal} (hf : ∀ j, Sc (f j)) (h0 : Fin' (f 0)) {M : EReal} (hM : Fin' M) {n : ℕ} (hn : 0 < n) :
    ∃ l : ℝ, 0 < l ∧ wsum f (fun _ => 1) M n = (l : EReal) := by
  have h : ∀ j, ∃ e : ℝ, 0 ≤ e ∧ Ideal.exp (f j - M) = (e : EReal) := fun j => by
    obtain ⟨b, rfl⟩ := hM
    rcases hf j with e | ⟨a, e⟩
    · exact ⟨0, le_refl _, by rw [e, exp_bot]; rfl⟩
    · exact ⟨Real.exp (a - b), (Real.exp_pos _).le, by rw [e, ← EReal.coe_sub]; rfl⟩
  choose e he hfe using h
  have h1 : 0 < e 0 := by
    obtain ⟨a, ha⟩ := h0; obtain ⟨b, rfl⟩ := hM
    have := hfe 0
    rw [ha, ← EReal.coe_sub] at this
    have h2 : Real.exp (a - b) = e 0 := EReal.coe_injective this
    rw [← h2]; exact Real.exp_pos _
  refine ⟨∑ j ∈ Finset.range n, e j, Finset.sum_pos' (fun j _ => he j) ⟨0, Finset.mem_range.2 hn, h1⟩, ?_⟩
  unfold wsum
  rw [coe_sum]
  exact Finset.sum_congr rfl fun j _ => by rw [one_mul, hfe]

/-- Dividing the weighted sum by the sum of the weights divides each weight. -/
theorem wsum_div {f v : ℕ → EReal} (hf : ∀ j, Sc (f j)) (h0 : Fin' (f 0)) (hv : ∀ j, Fin' (v j)) {M : EReal} (hM : Fin' M) {n : ℕ} (hn : 0 < n) :
    Ideal.div (wsum f v M n) (wsum f (fun _ => 1) M n)
      = ∑ j ∈ Finset.range n, Ideal.div (Ideal.exp (f j - M)) (wsum f (fun _ => 1) M n) * v j := by
  obtain ⟨l, hl, e⟩ := wsum_one_pos hf h0 hM hn
  rw [e]
  have hl' : ((l : ℝ) : EReal) ≠ 0 := by exact_mod_cast hl.ne'
  have hd : ∀ x, Ideal.div x ((l : ℝ) : EReal) = x * ((l⁻¹ : ℝ) : EReal) := fun x => by
    unfold Ideal.div; rw [if_neg hl', EReal.coe_inv]
  rw [hd]
  unfold wsum
  rw [sum_mul_fin _ (Fin'.coe _) fun j => (hv j).mul (exp_fin (hf j) hM)]
  refine Finset.sum_congr rfl fun j _ => ?_
  rw [hd, mul_assoc, mul_comm]

end Cert.Proof.Flash

end
-- ==== Proof.FlashRow.lean ====
module

public import proofs.«01_k».proof.Proof.FlashStep
public import proofs.«01_k».proof.Proof.FlashSum

@[expose] public section

set_option maxRecDepth 16384

/-! One head of one block of the causal attention launch, read at a query. -/

noncomputable section

open Idealize.ShloMosaic hiding ix1 ix2 ix3
open Idealize.ShloMosaic.TcCoe Idealize.ShloMosaic.ValueIdx Idealize.SL.Sem

namespace Cert.Proof.Flash

open Cert.Kernel17Ideal Cert.Kernel17Ideal.Gen

theorem unit1 {n : ℕ} (v : (⟨3, ![1, 1, n]⟩ : Shape).Idx → EReal) (h : (⟨3, ![1, 1, n]⟩ : Shape).ShapeCasts ⟨2, ![1, n]⟩) (q : Fin n) :
    shapeCast ⟨2, ![1, n]⟩ v h (ix2 0 q) = v (ix3 0 0 q) :=
  shapeCast_apply _ _ _ _ (by rw [Shape.rowMajor_val_three, Shape.rowMajor_val_two]; rfl)

theorem unit3 {a b : ℕ} (v : (⟨3, ![1, a, b]⟩ : Shape).Idx → EReal) (h : (⟨3, ![1, a, b]⟩ : Shape).ShapeCasts ⟨2, ![a, b]⟩) (i : Fin a) (j : Fin b) :
    shapeCast ⟨2, ![a, b]⟩ v h (ix2 i j) = v (ix3 0 i j) :=
  shapeCast_apply _ _ _ _ (by rw [Shape.rowMajor_val_three, Shape.rowMajor_val_two]; show (0 * a + i.val) * b + j.val = i.val * b + j.val; rw [Nat.zero_mul, Nat.zero_add])

theorem unit4 {a b : ℕ} (v : (⟨2, ![a, b]⟩ : Shape).Idx → EReal) (h : (⟨2, ![a, b]⟩ : Shape).ShapeCasts ⟨3, ![1, a, b]⟩) (i : Fin a) (j : Fin b) :
    shapeCast ⟨3, ![1, a, b]⟩ v h (ix3 0 i j) = v (ix2 i j) :=
  shapeCast_apply _ _ _ _ (by rw [Shape.rowMajor_val_three, Shape.rowMajor_val_two]; show i.val * b + j.val = (0 * a + i.val) * b + j.val; rw [Nat.zero_mul, Nat.zero_add])

theorem cast_row (v : FVec Ideal S512 .f32) (q : Fin 512) : shapeCast S1x512 v shapeCasts_S512_S1x512 (ix2 0 q) = v (ix1 q) :=
  shapeCast_apply _ _ _ _ (by rw [Shape.rowMajor_val_one, Shape.rowMajor_val_two]; show q.val = 0 * 512 + q.val; omega)

theorem lift_col (h : S512x512.Reduces [0] S512) (q k : Fin 512) : h.lift (ix1 q) k = ix2 k q := by
  funext a; apply Fin.ext
  match a with
  | ⟨0, _⟩ => rfl
  | ⟨1, _⟩ => rfl

theorem sum_col (x : FVec Ideal S512x512 .f32) (q : Fin 512) :
    multiReduction .add [0] S512 x 0x00000000#32 reduces_S512x512_S512 (.inl rfl) rfl (ix1 q) = ∑ k : Fin 512, x (ix2 k q) := by
  refine (Ideal.multiReduction_add_single _ _ _ _ _ _).trans ?_
  exact Finset.sum_congr rfl fun k _ => congrArg x (lift_col _ q k)

theorem max_col (x : FVec Ideal S512x512 .f32) (q : Fin 512) :
    multiReduction .maximumf [0] S512 x 0xFF800000#32 reduces_S512x512_S512 (.inl rfl) rfl (ix1 q)
      = Finset.univ.fold max (⊥ : EReal) fun k : Fin 512 => x (ix2 k q) := by
  refine (Ideal.multiReduction_maximumf_single _ _ _ _ _ _).trans ?_
  rw [show FloatOps.ofBits (F := Ideal) .f32 0xFF800000#32 = (⊥ : EReal) from ofBits_neg_inf]
  exact congrArg (Finset.univ.fold max _) (funext fun k => congrArg x (lift_col _ q k))

/-- The new maximum at a query. -/
def nM (s : FVec Ideal S512x512 .f32) (m : Vec Ideal S1x1x512 .f32) (q : Fin 512) : EReal :=
  max (m (ix3 0 0 q)) (Finset.univ.fold max (⊥ : EReal) fun k : Fin 512 => s (ix2 k q))

theorem pay23_apply (s : FVec Ideal S512x512 .f32) (m : Vec Ideal S1x1x512 .f32) (q : Fin 512) : k0_pay23 (F := Ideal) s m (ix2 0 q) = nM s m q := by
  show max (shapeCast S1x512 m shapeCasts_S1x1x512_S1x512 (ix2 0 q)) (shapeCast S1x512 _ shapeCasts_S512_S1x512 (ix2 0 q)) = _
  rw [unit1, cast_row, max_col]
  rfl

theorem pay24_apply (M : FVec Ideal S1x512 .f32) (m : Vec Ideal S1x1x512 .f32) (q : Fin 512) :
    k0_pay24 (F := Ideal) M m (ix2 0 q) = Ideal.exp (m (ix3 0 0 q) - M (ix2 0 q)) := by
  show Ideal.exp (shapeCast S1x512 m shapeCasts_S1x1x512_S1x512 (ix2 0 q) - M (ix2 0 q)) = _
  rw [unit1]

theorem pay25_apply (s : FVec Ideal S512x512 .f32) (M : FVec Ideal S1x512 .f32) (k q : Fin 512) :
    k0_pay25 (F := Ideal) s M (ix2 k q) = Ideal.exp (s (ix2 k q) - M (ix2 0 q)) := by
  show Ideal.exp (s (ix2 k q) - broadcastTo S512x512 M broadcasts_S1x512_S512x512 (ix2 k q)) = _
  rw [broadcastTo_apply _ _ _ (ix2 (0 : Fin 1) q) (fun a => match a with | ⟨0, _⟩ => rfl | ⟨1, _⟩ => rfl)]

theorem mRow_apply (s : FVec Ideal S512x512 .f32) (m : Vec Ideal S1x1x512 .f32) (q : Fin 512) : mRow s m (ix3 0 0 q) = nM s m q := by
  unfold mRow k0_pay28
  exact (unit4 _ _ _ _).trans (pay23_apply s m q)

theorem lRow_apply (s : FVec Ideal S512x512 .f32) (m l : Vec Ideal S1x1x512 .f32) (q : Fin 512) :
    lRow s m l (ix3 0 0 q) = Ideal.exp (m (ix3 0 0 q) - nM s m q) * l (ix3 0 0 q) + ∑ k : Fin 512, Ideal.exp (s (ix2 k q) - nM s m q) := by
  unfold lRow k0_pay26
  refine (unit4 _ _ _ _).trans ?_
  show k0_pay24 (F := Ideal) (k0_pay23 s m) m (ix2 0 q) * shapeCast S1x512 l shapeCasts_S1x1x512_S1x512 (ix2 0 q) + shapeCast S1x512 _ shapeCasts_S512_S1x512 (ix2 0 q) = _
  rw [pay24_apply, unit1, cast_row, sum_col, pay23_apply]
  simp only [pay25_apply, pay23_apply]

theorem aRow_apply (s : FVec Ideal S512x512 .f32) (m : Vec Ideal S1x1x512 .f32) (v : Vec Ideal S1x64x512 .bf16) (a : Vec Ideal S1x64x512 .f32) (d : Fin 64) (q : Fin 512) :
    aRow s m v a (ix3 0 d q) = Ideal.exp (m (ix3 0 0 q) - nM s m q) * a (ix3 0 d q)
      + ((∑ k : Fin 512, v (ix3 0 d k) * Ideal.exp (s (ix2 k q) - nM s m q))
        + ∑ k : Fin 512, v (ix3 0 d k) * (Ideal.exp (s (ix2 k q) - nM s m q) - Ideal.exp (s (ix2 k q) - nM s m q))) := by
  unfold aRow k0_pay27
  refine (unit4 _ _ _ _).trans ?_
  show broadcastTo S64x512 (k0_pay24 (F := Ideal) (k0_pay23 s m) m) broadcasts_S1x512_S64x512 (ix2 d q) * shapeCast S64x512 a shapeCasts_S1x64x512_S64x512 (ix2 d q)
    + (FloatOps.matmul (F := Ideal) (φ₁ := .bf16) (φ₂ := .bf16) (DotDims.plain 64 512 512) none (shapeCast S64x512 v shapeCasts_S1x64x512_S64x512 : FVec Ideal S64x512 .bf16)
        (fun i => k0_pay25 (F := Ideal) s (k0_pay23 s m) i : FVec Ideal S512x512 .bf16) (constant S64x512 .f32 0x00000000#32) (ix2 d q)
      + FloatOps.matmul (F := Ideal) (φ₁ := .bf16) (φ₂ := .bf16) (DotDims.plain 64 512 512) none (shapeCast S64x512 v shapeCasts_S1x64x512_S64x512 : FVec Ideal S64x512 .bf16)
        (fun i => k0_pay25 (F := Ideal) s (k0_pay23 s m) i - k0_pay25 (F := Ideal) s (k0_pay23 s m) i : FVec Ideal S512x512 .bf16) (constant S64x512 .f32 0x00000000#32) (ix2 d q)) = _
  rw [Ideal.matmul_plain_apply, Ideal.matmul_plain_apply, unit3, broadcastTo_apply _ _ _ (ix2 (0 : Fin 1) q) (fun a => match a with | ⟨0, _⟩ => rfl | ⟨1, _⟩ => rfl),
    pay24_apply, pay23_apply]
  simp only [pay25_apply, pay23_apply]
  congr 2
  · rw [show constant (F := Ideal) S64x512 .f32 0x00000000#32 (ix2 d q) = 0 from Ideal.ofBits_zero_f32, zero_add]
    exact Finset.sum_congr rfl fun k _ => by rw [unit3]
  · rw [show constant (F := Ideal) S64x512 .f32 0x00000000#32 (ix2 d q) = 0 from Ideal.ofBits_zero_f32, zero_add]
    exact Finset.sum_congr rfl fun k _ => by rw [unit3]

theorem scOff_apply (x : Vec Ideal S1x512x80 .bf16) (y : Vec Ideal S1x80x512 .bf16) (k q : Fin 512) :
    scOff x y (ix2 k q) = ∑ e : Fin 80, x (ix3 0 k e) * y (ix3 0 e q) := by
  show FloatOps.matmul (F := Ideal) (φ₁ := .bf16) (φ₂ := .bf16) (DotDims.plain 512 80 512) none (shapeCast S512x80 x shapeCasts_S1x512x80_S512x80 : FVec Ideal S512x80 .bf16)
    (shapeCast S80x512 y shapeCasts_S1x80x512_S80x512 : FVec Ideal S80x512 .bf16) (constant S512x512 .f32 0x00000000#32) (ix2 k q) = _
  rw [Ideal.matmul_plain_apply, show constant (F := Ideal) S512x512 .f32 0x00000000#32 (ix2 k q) = 0 from Ideal.ofBits_zero_f32, zero_add]
  exact Finset.sum_congr rfl fun e _ => by rw [unit3, unit3]

theorem sle_iff (a b : ℕ) (ha : a < 2 ^ 31) (hb : b < 2 ^ 31) : (BitVec.ofNat 32 a).sle (BitVec.ofNat 32 b) = decide (a ≤ b) := by
  rw [BitVec.sle_eq_decide, BitVec.toInt_eq_toNat_of_lt (by rw [BitVec.toNat_ofNat]; omega), BitVec.toInt_eq_toNat_of_lt (by rw [BitVec.toNat_ofNat]; omega),
    BitVec.toNat_ofNat, BitVec.toNat_ofNat, Nat.mod_eq_of_lt (by omega), Nat.mod_eq_of_lt (by omega)]
  exact decide_eq_decide.2 (by omega)

theorem scDiag_apply (x : Vec Ideal S1x512x80 .bf16) (y : Vec Ideal S1x80x512 .bf16) (k q : Fin 512) :
    scDiag x y (ix2 k q) = if k.val ≤ q.val then ∑ e : Fin 80, x (ix3 0 k e) * y (ix3 0 e q) else ⊥ := by
  rw [← scOff_apply]
  show (if BitVec.ofBool ((iota .tc S512x512 32 [0] iota_S512x512_d0_w32 (ix2 k q)).sle (iota .tc S512x512 32 [1] iota_S512x512_d1_w32 (ix2 k q))) = 1#1 then scOff x y (ix2 k q) else ⊥) = _
  rw [iota_single_apply, iota_single_apply]
  show (if BitVec.ofBool ((BitVec.ofNat 32 k.val).sle (BitVec.ofNat 32 q.val)) = 1#1 then _ else _) = _
  rw [sle_iff _ _ (by have := k.isLt; omega) (by have := q.isLt; omega)]
  by_cases h : k.val ≤ q.val
  · rw [if_pos h, decide_eq_true h, if_pos (by decide)]
  · rw [if_neg h, decide_eq_false h, if_neg (by decide)]

end Cert.Proof.Flash

end
-- ==== Proof.FlashTraj.lean ====
module

public import proofs.«01_k».proof.Proof.FlashRow
public import proofs.«01_k».proof.Proof.Gen.Kernel17Ideal.Flash

@[expose] public section

set_option maxRecDepth 16384

/-! The grid of the causal attention launch: for each query block its key blocks up to the diagonal, in order. The three scratches after a point hold the running softmax of the keys so far. -/

noncomputable section

open Idealize.ShloMosaic hiding ix1 ix2 ix3
open Idealize.ShloMosaic.TcCoe Idealize.ShloMosaic.ValueIdx Idealize.SL.Sem

namespace Cert.Proof.Flash

open Cert.Kernel17Ideal Cert.Kernel17Ideal.Gen

/-! ## The order of the points, read off the two tables -/

abbrev kiOf (t : Fin (cfgA 0).N) : ℕ := ((cfgA 0).win (0 : Fin 5)).index t 1
abbrev qiOf (t : Fin (cfgA 0).N) : ℕ := ((cfgA 0).win (3 : Fin 5)).index t 2

theorem idx_in : ∀ t : Fin (cfgA 0).N, ((cfgA 0).win (0 : Fin 5)).index t 0 = 0 ∧ ((cfgA 0).win (0 : Fin 5)).index t 2 = 0
    ∧ ((cfgA 0).win (1 : Fin 5)).index t 0 = 0 ∧ ((cfgA 0).win (1 : Fin 5)).index t 1 = 0 ∧ ((cfgA 0).win (1 : Fin 5)).index t 2 = qiOf t
    ∧ ((cfgA 0).win (2 : Fin 5)).index t 0 = 0 ∧ ((cfgA 0).win (2 : Fin 5)).index t 1 = 0 ∧ ((cfgA 0).win (2 : Fin 5)).index t 2 = kiOf t := by
  decide +kernel

theorem idx_out : ∀ t : Fin (cfgA 0).N, ((cfgA 0).win (3 : Fin 5)).index t 0 = 0 ∧ ((cfgA 0).win (3 : Fin 5)).index t 1 = 0
    ∧ ((cfgA 0).win (4 : Fin 5)).index t 0 = 0 ∧ ((cfgA 0).win (4 : Fin 5)).index t 1 = 0 ∧ ((cfgA 0).win (4 : Fin 5)).index t 2 = qiOf t := by
  decide +kernel

theorem ki_le : ∀ t : Fin (cfgA 0).N, kiOf t ≤ qiOf t ∧ qiOf t < 16 := by
  decide +kernel

theorem path : ∀ t : Fin (cfgA 0).N, (P0_0 0 t ↔ kiOf t = 0) ∧ (P0_1 0 t ↔ kiOf t < qiOf t) := by
  decide +kernel

theorem before : ∀ t : Fin (cfgA 0).N, kiOf t ≠ 0 → t.val ≠ 0 ∧ ∀ h : t.val - 1 < (cfgA 0).N, kiOf t = kiOf ⟨t.val - 1, h⟩ + 1 ∧ qiOf t = qiOf ⟨t.val - 1, h⟩ := by
  decide +kernel

theorem last : ∀ Q : Fin 16, ∃ t : Fin (cfgA 0).N, kiOf t = Q.val ∧ qiOf t = Q.val := by
  decide +kernel

/-! ## One point -/

variable (m : (ℓ : Loc nD τ sig) → Buf (Elt Ideal) ℓ) (ρ : Dev nD → PrngReg) (c : Dev nD)

abbrev kB (t : Fin (cfgA 0).N) : Vec Ideal S8x512x80 .bf16 := iblk 0 m ρ c (0 : Fin 5) t
abbrev qB (t : Fin (cfgA 0).N) : Vec Ideal S8x80x512 .bf16 := iblk 0 m ρ c (1 : Fin 5) t
abbrev vB (t : Fin (cfgA 0).N) : Vec Ideal S8x64x512 .bf16 := iblk 0 m ρ c (2 : Fin 5) t

/-- The scratches after a point. -/
abbrev sM (t : Fin (cfgA 0).N) : Vec Ideal S8x1x512 .f32 := (traj0 0 m ρ c t.val t.isLt).2.2.1
abbrev sL (t : Fin (cfgA 0).N) : Vec Ideal S8x1x512 .f32 := (traj0 0 m ρ c t.val t.isLt).2.2.2.1
abbrev sA (t : Fin (cfgA 0).N) : Vec Ideal S8x64x512 .f32 := (traj0 0 m ρ c t.val t.isLt).2.2.2.2
/-- The scratches before a point that is not the first of its query block. -/
abbrev pM (t : Fin (cfgA 0).N) : Vec Ideal S8x1x512 .f32 := (prev0 0 m ρ c t).2.2.1
abbrev pL (t : Fin (cfgA 0).N) : Vec Ideal S8x1x512 .f32 := (prev0 0 m ρ c t).2.2.2.1
abbrev pA (t : Fin (cfgA 0).N) : Vec Ideal S8x64x512 .f32 := (prev0 0 m ρ c t).2.2.2.2

/-- What a point leaves in the scratches, from what it takes of them. -/
def Left (sc : Vec Ideal S1x512x80 .bf16 → Vec Ideal S1x80x512 .bf16 → FVec Ideal S512x512 .f32) (t : Fin (cfgA 0).N)
    (M L : Vec Ideal S8x1x512 .f32) (A : Vec Ideal S8x64x512 .f32) : Prop :=
  sM m ρ c t = newM sc (kB m ρ c t) (qB m ρ c t) M ∧ sL m ρ c t = newL sc (kB m ρ c t) (qB m ρ c t) M L
    ∧ sA m ρ c t = newA sc (kB m ρ c t) (qB m ρ c t) (vB m ρ c t) M A

/-- What a diagonal point leaves in the output blocks. -/
def Outs (t : Fin (cfgA 0).N) : Prop :=
  (traj0 0 m ρ c t.val t.isLt).1 = k0_pay6 (F := Ideal) (sA m ρ c t) (sL m ρ c t) ∧ (traj0 0 m ρ c t.val t.isLt).2.1 = k0_pay7 (F := Ideal) (sM m ρ c t) (sL m ρ c t)

theorem left_A (t : Fin (cfgA 0).N) (q0 : P0_0 0 t) (q1 : ¬P0_1 0 t) : Left m ρ c scDiag t m0 l0 a0 ∧ Outs m ρ c t := by
  have e := (traj0_eq 0 m ρ c t).trans (step0_A 0 m ρ c t _ q0 q1)
  have hm := m_A c (crd 0 t) (ms0_0 0 t) (hs0_0 0 t) (ms0_1 0 t) (hs0_1 0 t) (ms0_2 0 t) (hs0_2 0 t) (ms0_3 0 t) (hs0_3 0 t) (ms0_4 0 t) (hs0_4 0 t) (pinT_0 0) (pinT_1 0) (kB m ρ c t) (qB m ρ c t) (vB m ρ c t) (hypsR0_A 0 t q0 q1).1 (hypsR0_A 0 t q0 q1).2.1 (hypsR0_A 0 t q0 q1).2.2.1
  have hl := l_A c (crd 0 t) (ms0_0 0 t) (hs0_0 0 t) (ms0_1 0 t) (hs0_1 0 t) (ms0_2 0 t) (hs0_2 0 t) (ms0_3 0 t) (hs0_3 0 t) (ms0_4 0 t) (hs0_4 0 t) (pinT_0 0) (pinT_1 0) (iblk 0 m ρ c (0 : Fin 5) t) (iblk 0 m ρ c (1 : Fin 5) t) (iblk 0 m ρ c (2 : Fin 5) t) (hypsR0_A 0 t q0 q1).1 (hypsR0_A 0 t q0 q1).2.1 (hypsR0_A 0 t q0 q1).2.2.1
  have ha := a_A c (crd 0 t) (ms0_0 0 t) (hs0_0 0 t) (ms0_1 0 t) (hs0_1 0 t) (ms0_2 0 t) (hs0_2 0 t) (ms0_3 0 t) (hs0_3 0 t) (ms0_4 0 t) (hs0_4 0 t) (pinT_0 0) (pinT_1 0) (iblk 0 m ρ c (0 : Fin 5) t) (iblk 0 m ρ c (1 : Fin 5) t) (iblk 0 m ρ c (2 : Fin 5) t) (hypsR0_A 0 t q0 q1).1 (hypsR0_A 0 t q0 q1).2.1 (hypsR0_A 0 t q0 q1).2.2.1
  have ho := o_A c (crd 0 t) (ms0_0 0 t) (hs0_0 0 t) (ms0_1 0 t) (hs0_1 0 t) (ms0_2 0 t) (hs0_2 0 t) (ms0_3 0 t) (hs0_3 0 t) (ms0_4 0 t) (hs0_4 0 t) (pinT_0 0) (pinT_1 0) (iblk 0 m ρ c (0 : Fin 5) t) (iblk 0 m ρ c (1 : Fin 5) t) (iblk 0 m ρ c (2 : Fin 5) t) (hypsR0_A 0 t q0 q1).1 (hypsR0_A 0 t q0 q1).2.1 (hypsR0_A 0 t q0 q1).2.2.1
  have he := e_A c (crd 0 t) (ms0_0 0 t) (hs0_0 0 t) (ms0_1 0 t) (hs0_1 0 t) (ms0_2 0 t) (hs0_2 0 t) (ms0_3 0 t) (hs0_3 0 t) (ms0_4 0 t) (hs0_4 0 t) (pinT_0 0) (pinT_1 0) (iblk 0 m ρ c (0 : Fin 5) t) (iblk 0 m ρ c (1 : Fin 5) t) (iblk 0 m ρ c (2 : Fin 5) t) (hypsR0_A 0 t q0 q1).1 (hypsR0_A 0 t q0 q1).2.1 (hypsR0_A 0 t q0 q1).2.2.1
  have eM := congrArg (fun z => z.2.2.1) e
  have eL := congrArg (fun z => z.2.2.2.1) e
  have eA := congrArg (fun z => z.2.2.2.2) e
  dsimp only at eM eL eA
  rw [hm] at eM
  rw [hl] at eL
  rw [ha] at eA
  have eO := congrArg (fun z => z.1) e
  have eE := congrArg (fun z => z.2.1) e
  dsimp only at eO eE
  rw [ho, ← eA, ← eL] at eO
  rw [he, ← eM, ← eL] at eE
  exact ⟨⟨eM, eL, eA⟩, eO, eE⟩

theorem left_B (t : Fin (cfgA 0).N) (q0 : P0_0 0 t) (q1 : P0_1 0 t) : Left m ρ c scOff t m0 l0 a0 := by
  have e := (traj0_eq 0 m ρ c t).trans (step0_B 0 m ρ c t _ q0 q1)
  have hm := m_B c (crd 0 t) (ms0_0 0 t) (hs0_0 0 t) (ms0_1 0 t) (hs0_1 0 t) (ms0_2 0 t) (hs0_2 0 t) (ms0_3 0 t) (hs0_3 0 t) (ms0_4 0 t) (hs0_4 0 t) (pinT_0 0) (pinT_1 0) (iblk 0 m ρ c (0 : Fin 5) t) (iblk 0 m ρ c (1 : Fin 5) t) (iblk 0 m ρ c (2 : Fin 5) t) (hypsR0_B 0 t q0 q1).1 (hypsR0_B 0 t q0 q1).2.1 (hypsR0_B 0 t q0 q1).2.2.1
  have hl := l_B c (crd 0 t) (ms0_0 0 t) (hs0_0 0 t) (ms0_1 0 t) (hs0_1 0 t) (ms0_2 0 t) (hs0_2 0 t) (ms0_3 0 t) (hs0_3 0 t) (ms0_4 0 t) (hs0_4 0 t) (pinT_0 0) (pinT_1 0) (iblk 0 m ρ c (0 : Fin 5) t) (iblk 0 m ρ c (1 : Fin 5) t) (iblk 0 m ρ c (2 : Fin 5) t) (hypsR0_B 0 t q0 q1).1 (hypsR0_B 0 t q0 q1).2.1 (hypsR0_B 0 t q0 q1).2.2.1
  have ha := a_B c (crd 0 t) (ms0_0 0 t) (hs0_0 0 t) (ms0_1 0 t) (hs0_1 0 t) (ms0_2 0 t) (hs0_2 0 t) (ms0_3 0 t) (hs0_3 0 t) (ms0_4 0 t) (hs0_4 0 t) (pinT_0 0) (pinT_1 0) (iblk 0 m ρ c (0 : Fin 5) t) (iblk 0 m ρ c (1 : Fin 5) t) (iblk 0 m ρ c (2 : Fin 5) t) (hypsR0_B 0 t q0 q1).1 (hypsR0_B 0 t q0 q1).2.1 (hypsR0_B 0 t q0 q1).2.2.1
  have eM := congrArg (fun z => z.2.2.1) e
  have eL := congrArg (fun z => z.2.2.2.1) e
  have eA := congrArg (fun z => z.2.2.2.2) e
  dsimp only at eM eL eA
  rw [hm] at eM
  rw [hl] at eL
  rw [ha] at eA
  exact ⟨eM, eL, eA⟩

theorem left_C (t : Fin (cfgA 0).N) (q0 : ¬P0_0 0 t) (q1 : ¬P0_1 0 t) : Left m ρ c scDiag t (pM m ρ c t) (pL m ρ c t) (pA m ρ c t) ∧ Outs m ρ c t := by
  have e := (traj0_eq 0 m ρ c t).trans (step0_C 0 m ρ c t _ q0 q1)
  have hm := m_C c (crd 0 t) (ms0_0 0 t) (hs0_0 0 t) (ms0_1 0 t) (hs0_1 0 t) (ms0_2 0 t) (hs0_2 0 t) (ms0_3 0 t) (hs0_3 0 t) (ms0_4 0 t) (hs0_4 0 t) (pinT_0 0) (pinT_1 0) (iblk 0 m ρ c (0 : Fin 5) t) (iblk 0 m ρ c (1 : Fin 5) t) (iblk 0 m ρ c (2 : Fin 5) t) (prev0 0 m ρ c t).2.2.1 (prev0 0 m ρ c t).2.2.2.1 (prev0 0 m ρ c t).2.2.2.2 (hypsR0_C 0 t q0 q1).1 (hypsR0_C 0 t q0 q1).2.1 (hypsR0_C 0 t q0 q1).2.2.1
  have hl := l_C c (crd 0 t) (ms0_0 0 t) (hs0_0 0 t) (ms0_1 0 t) (hs0_1 0 t) (ms0_2 0 t) (hs0_2 0 t) (ms0_3 0 t) (hs0_3 0 t) (ms0_4 0 t) (hs0_4 0 t) (pinT_0 0) (pinT_1 0) (iblk 0 m ρ c (0 : Fin 5) t) (iblk 0 m ρ c (1 : Fin 5) t) (iblk 0 m ρ c (2 : Fin 5) t) (prev0 0 m ρ c t).2.2.1 (prev0 0 m ρ c t).2.2.2.1 (prev0 0 m ρ c t).2.2.2.2 (hypsR0_C 0 t q0 q1).1 (hypsR0_C 0 t q0 q1).2.1 (hypsR0_C 0 t q0 q1).2.2.1
  have ha := a_C c (crd 0 t) (ms0_0 0 t) (hs0_0 0 t) (ms0_1 0 t) (hs0_1 0 t) (ms0_2 0 t) (hs0_2 0 t) (ms0_3 0 t) (hs0_3 0 t) (ms0_4 0 t) (hs0_4 0 t) (pinT_0 0) (pinT_1 0) (iblk 0 m ρ c (0 : Fin 5) t) (iblk 0 m ρ c (1 : Fin 5) t) (iblk 0 m ρ c (2 : Fin 5) t) (prev0 0 m ρ c t).2.2.1 (prev0 0 m ρ c t).2.2.2.1 (prev0 0 m ρ c t).2.2.2.2 (hypsR0_C 0 t q0 q1).1 (hypsR0_C 0 t q0 q1).2.1 (hypsR0_C 0 t q0 q1).2.2.1
  have ho := o_C c (crd 0 t) (ms0_0 0 t) (hs0_0 0 t) (ms0_1 0 t) (hs0_1 0 t) (ms0_2 0 t) (hs0_2 0 t) (ms0_3 0 t) (hs0_3 0 t) (ms0_4 0 t) (hs0_4 0 t) (pinT_0 0) (pinT_1 0) (iblk 0 m ρ c (0 : Fin 5) t) (iblk 0 m ρ c (1 : Fin 5) t) (iblk 0 m ρ c (2 : Fin 5) t) (prev0 0 m ρ c t).2.2.1 (prev0 0 m ρ c t).2.2.2.1 (prev0 0 m ρ c t).2.2.2.2 (hypsR0_C 0 t q0 q1).1 (hypsR0_C 0 t q0 q1).2.1 (hypsR0_C 0 t q0 q1).2.2.1
  have he := e_C c (crd 0 t) (ms0_0 0 t) (hs0_0 0 t) (ms0_1 0 t) (hs0_1 0 t) (ms0_2 0 t) (hs0_2 0 t) (ms0_3 0 t) (hs0_3 0 t) (ms0_4 0 t) (hs0_4 0 t) (pinT_0 0) (pinT_1 0) (iblk 0 m ρ c (0 : Fin 5) t) (iblk 0 m ρ c (1 : Fin 5) t) (iblk 0 m ρ c (2 : Fin 5) t) (prev0 0 m ρ c t).2.2.1 (prev0 0 m ρ c t).2.2.2.1 (prev0 0 m ρ c t).2.2.2.2 (hypsR0_C 0 t q0 q1).1 (hypsR0_C 0 t q0 q1).2.1 (hypsR0_C 0 t q0 q1).2.2.1
  have eM := congrArg (fun z => z.2.2.1) e
  have eL := congrArg (fun z => z.2.2.2.1) e
  have eA := congrArg (fun z => z.2.2.2.2) e
  dsimp only at eM eL eA
  rw [hm] at eM
  rw [hl] at eL
  rw [ha] at eA
  have eO := congrArg (fun z => z.1) e
  have eE := congrArg (fun z => z.2.1) e
  dsimp only at eO eE
  rw [ho, ← eA, ← eL] at eO
  rw [he, ← eM, ← eL] at eE
  exact ⟨⟨eM, eL, eA⟩, eO, eE⟩

theorem left_D (t : Fin (cfgA 0).N) (q0 : ¬P0_0 0 t) (q1 : P0_1 0 t) : Left m ρ c scOff t (pM m ρ c t) (pL m ρ c t) (pA m ρ c t) := by
  have e := (traj0_eq 0 m ρ c t).trans (step0_D 0 m ρ c t _ q0 q1)
  have hm := m_D c (crd 0 t) (ms0_0 0 t) (hs0_0 0 t) (ms0_1 0 t) (hs0_1 0 t) (ms0_2 0 t) (hs0_2 0 t) (ms0_3 0 t) (hs0_3 0 t) (ms0_4 0 t) (hs0_4 0 t) (pinT_0 0) (pinT_1 0) (iblk 0 m ρ c (0 : Fin 5) t) (iblk 0 m ρ c (1 : Fin 5) t) (iblk 0 m ρ c (2 : Fin 5) t) (prev0 0 m ρ c t).2.2.1 (prev0 0 m ρ c t).2.2.2.1 (prev0 0 m ρ c t).2.2.2.2 (hypsR0_D 0 t q0 q1).1 (hypsR0_D 0 t q0 q1).2.1 (hypsR0_D 0 t q0 q1).2.2.1
  have hl := l_D c (crd 0 t) (ms0_0 0 t) (hs0_0 0 t) (ms0_1 0 t) (hs0_1 0 t) (ms0_2 0 t) (hs0_2 0 t) (ms0_3 0 t) (hs0_3 0 t) (ms0_4 0 t) (hs0_4 0 t) (pinT_0 0) (pinT_1 0) (iblk 0 m ρ c (0 : Fin 5) t) (iblk 0 m ρ c (1 : Fin 5) t) (iblk 0 m ρ c (2 : Fin 5) t) (prev0 0 m ρ c t).2.2.1 (prev0 0 m ρ c t).2.2.2.1 (prev0 0 m ρ c t).2.2.2.2 (hypsR0_D 0 t q0 q1).1 (hypsR0_D 0 t q0 q1).2.1 (hypsR0_D 0 t q0 q1).2.2.1
  have ha := a_D c (crd 0 t) (ms0_0 0 t) (hs0_0 0 t) (ms0_1 0 t) (hs0_1 0 t) (ms0_2 0 t) (hs0_2 0 t) (ms0_3 0 t) (hs0_3 0 t) (ms0_4 0 t) (hs0_4 0 t) (pinT_0 0) (pinT_1 0) (iblk 0 m ρ c (0 : Fin 5) t) (iblk 0 m ρ c (1 : Fin 5) t) (iblk 0 m ρ c (2 : Fin 5) t) (prev0 0 m ρ c t).2.2.1 (prev0 0 m ρ c t).2.2.2.1 (prev0 0 m ρ c t).2.2.2.2 (hypsR0_D 0 t q0 q1).1 (hypsR0_D 0 t q0 q1).2.1 (hypsR0_D 0 t q0 q1).2.2.1
  have eM := congrArg (fun z => z.2.2.1) e
  have eL := congrArg (fun z => z.2.2.2.1) e
  have eA := congrArg (fun z => z.2.2.2.2) e
  dsimp only at eM eL eA
  rw [hm] at eM
  rw [hl] at eL
  rw [ha] at eA
  exact ⟨eM, eL, eA⟩

end Cert.Proof.Flash

end
-- ==== Proof.FlashVal.lean ====
module

public import proofs.«01_k».proof.Proof.FlashTraj

@[expose] public section

set_option maxRecDepth 16384

/-! What the causal attention launch computes: at every query the softmax over the keys at or before it, of which the running forms of the points are partial sums. -/

noncomputable section

open Idealize.ShloMosaic hiding ix1 ix2 ix3
open Idealize.ShloMosaic.TcCoe Idealize.ShloMosaic.ValueIdx Idealize.SL.Sem

namespace Cert.Proof.Flash

open Cert.Kernel17Ideal Cert.Kernel17Ideal.Gen

/-! ## One head of one block, as a step of the running softmax -/

section Step

variable (s : FVec Ideal S512x512 .f32) (m l : Vec Ideal S1x1x512 .f32) (r : Fin 512) {f : ℕ → EReal} {n : ℕ}

theorem step_m (hm : m (ix3 0 0 r) = smax f n) (hs : ∀ k : Fin 512, s (ix2 k r) = f (n + k.val)) : nM s m r = smax f (n + 512) := by
  unfold nM
  rw [smax_add, hm]
  simp only [hs]

theorem step_l (hf : ∀ j, Sc (f j)) (h0 : Fin' (f 0)) (hm : m (ix3 0 0 r) = smax f n) (hl : l (ix3 0 0 r) = wsum f (fun _ => 1) (smax f n) n)
    (hs : ∀ k : Fin 512, s (ix2 k r) = f (n + k.val)) : lRow s m l (ix3 0 0 r) = wsum f (fun _ => 1) (smax f (n + 512)) (n + 512) := by
  rw [lRow_apply, step_m s m r hm hs, hm, hl, rescale hf h0 (fun _ => (⟨1, rfl⟩ : Fin' (1 : EReal))) (smax_fin hf h0 (by omega)), wsum_add]
  simp only [hs, one_mul]

theorem step_a (v : Vec Ideal S1x64x512 .bf16) (a : Vec Ideal S1x64x512 .f32) (d : Fin 64) {w : ℕ → EReal} (hf : ∀ j, Sc (f j)) (h0 : Fin' (f 0)) (hw : ∀ j, Fin' (w j))
    (hm : m (ix3 0 0 r) = smax f n) (ha : a (ix3 0 d r) = wsum f w (smax f n) n)
    (hs : ∀ k : Fin 512, s (ix2 k r) = f (n + k.val)) (hv : ∀ k : Fin 512, v (ix3 0 d k) = w (n + k.val)) :
    aRow s m v a (ix3 0 d r) = wsum f w (smax f (n + 512)) (n + 512) := by
  have hM := smax_fin hf h0 (n := n + 512) (by omega)
  rw [aRow_apply, step_m s m r hm hs, hm, ha, rescale hf h0 hw hM, wsum_add]
  simp only [hs, hv]
  rw [Finset.sum_eq_zero (s := Finset.univ) (f := fun k : Fin 512 => w (n + k.val) * (Ideal.exp (f (n + k.val) - smax f (n + 512)) - Ideal.exp (f (n + k.val) - smax f (n + 512)))), add_zero]
  intro k _
  obtain ⟨x, hx⟩ := exp_fin (hf (n + k.val)) hM
  rw [hx, ← EReal.coe_sub, sub_self, EReal.coe_zero, mul_zero]

end Step

theorem hK_apply (g : Fin 8) (x : Vec Ideal S8x512x80 .bf16) (k : Fin 512) (e : Fin 80) : hK g x (ix3 0 k e) = x (ix3 g k e) :=
  congrArg x (by funext a; apply Fin.ext; match a with | ⟨0, _⟩ => show g.val + 1 * 0 = g.val; omega | ⟨1, _⟩ => show 0 + 1 * k.val = k.val; omega | ⟨2, _⟩ => show 0 + 1 * e.val = e.val; omega)
theorem hQ_apply (g : Fin 8) (x : Vec Ideal S8x80x512 .bf16) (e : Fin 80) (r : Fin 512) : hQ g x (ix3 0 e r) = x (ix3 g e r) :=
  congrArg x (by funext a; apply Fin.ext; match a with | ⟨0, _⟩ => show g.val + 1 * 0 = g.val; omega | ⟨1, _⟩ => show 0 + 1 * e.val = e.val; omega | ⟨2, _⟩ => show 0 + 1 * r.val = r.val; omega)
theorem hV_apply (g : Fin 8) (x : Vec Ideal S8x64x512 .bf16) (d : Fin 64) (k : Fin 512) : hV g x (ix3 0 d k) = x (ix3 g d k) :=
  congrArg x (by funext a; apply Fin.ext; match a with | ⟨0, _⟩ => show g.val + 1 * 0 = g.val; omega | ⟨1, _⟩ => show 0 + 1 * d.val = d.val; omega | ⟨2, _⟩ => show 0 + 1 * k.val = k.val; omega)
theorem hA_apply (g : Fin 8) (x : Vec Ideal S8x64x512 .f32) (d : Fin 64) (r : Fin 512) : hA g x (ix3 0 d r) = x (ix3 g d r) :=
  congrArg x (by funext a; apply Fin.ext; match a with | ⟨0, _⟩ => show g.val + 1 * 0 = g.val; omega | ⟨1, _⟩ => show 0 + 1 * d.val = d.val; omega | ⟨2, _⟩ => show 0 + 1 * r.val = r.val; omega)
theorem hM_apply (g : Fin 8) (x : Vec Ideal S8x1x512 .f32) (r : Fin 512) : hM g x (ix3 0 0 r) = x (ix3 g 0 r) :=
  congrArg x (by funext a; apply Fin.ext; match a with | ⟨0, _⟩ => show g.val + 1 * 0 = g.val; omega | ⟨1, _⟩ => show 0 + 1 * 0 = 0; omega | ⟨2, _⟩ => show 0 + 1 * r.val = r.val; omega)

/-! ## The scores of a query -/

section Scores

variable (qa : S8x80x8192.Idx → EReal) (ka : S8x8192x80.Idx → EReal) (vt : S8x64x8192.Idx → EReal)

/-- Query `q` against key `j`: masked after the query. -/
def F (g : Fin 8) (q : Fin 8192) (j : ℕ) : EReal :=
  if h : j < 8192 then (if j ≤ q.val then ∑ e : Fin 80, ka (ix3 g ⟨j, h⟩ e) * qa (ix3 g e q) else ⊥) else ⊥
def W (g : Fin 8) (d : Fin 64) (j : ℕ) : EReal := if h : j < 8192 then vt (ix3 g d ⟨j, h⟩) else 0

variable {qa ka vt} (hq : ∀ i, Fin' (qa i)) (hk : ∀ i, Fin' (ka i)) (hv : ∀ i, Fin' (vt i))

include hq hk in
theorem F_sc (g : Fin 8) (q : Fin 8192) (j : ℕ) : Sc (F qa ka g q j) := by
  unfold F
  split
  · split
    · exact .inr (Fin'.sum _ fun e => (hk _).mul (hq _))
    · exact .inl rfl
  · exact .inl rfl

include hq hk in
theorem F_zero (g : Fin 8) (q : Fin 8192) : Fin' (F qa ka g q 0) := by
  unfold F
  rw [dif_pos (by omega), if_pos (Nat.zero_le _)]
  exact Fin'.sum _ fun e => (hk _).mul (hq _)

include hv in
theorem W_fin (g : Fin 8) (d : Fin 64) (j : ℕ) : Fin' (W vt g d j) := by
  unfold W
  split
  · exact hv _
  · exact Fin'.coe 0

theorem F_mask (g : Fin 8) (q : Fin 8192) (j : ℕ) (h : q.val < j) : F qa ka g q j = ⊥ := by
  unfold F
  split
  · rw [if_neg (by omega)]
  · rfl

end Scores

/-! ## The points -/

variable (m : (ℓ : Loc nD τ sig) → Buf (Elt Ideal) ℓ) (ρ : Dev nD → PrngReg) (c : Dev nD)

abbrev QA : S8x80x8192.Idx → EReal := m ((c : Thread nD τ).loc main_arg2)
abbrev KA : S8x8192x80.Idx → EReal := m ((c : Thread nD τ).loc main_arg3)
abbrev VT : S8x64x8192.Idx → EReal := m ((c : Thread nD τ).loc main_arg4)

abbrev gQ (t : Fin (cfgA 0).N) (r : Fin 512) : Fin 8192 := ⟨qiOf t * 512 + r.val, by have := r.isLt; have := (ki_le t).2; omega⟩
abbrev gK (t : Fin (cfgA 0).N) (r : Fin 512) : Fin 8192 := ⟨kiOf t * 512 + r.val, by have := r.isLt; have := ki_le t; omega⟩

theorem kB_at (t : Fin (cfgA 0).N) (g : Fin 8) (k : Fin 512) (e : Fin 80) : kB m ρ c t (ix3 g k e) = KA m c (ix3 g (gK t k) e) := by
  obtain ⟨e0, e1, -⟩ := idx_in t
  show m ((c : Thread nD τ).loc main_arg3) _ = m ((c : Thread nD τ).loc main_arg3) _
  congr 1
  funext a; apply Fin.ext
  match a with
  | ⟨0, _⟩ => show ((cfgA 0).win (0 : Fin 5)).index t 0 * 8 + 1 * g.val = g.val; rw [e0]; omega
  | ⟨1, _⟩ => show kiOf t * 512 + 1 * k.val = kiOf t * 512 + k.val; omega
  | ⟨2, _⟩ => show ((cfgA 0).win (0 : Fin 5)).index t 2 * 80 + 1 * e.val = e.val; rw [e1]; omega

theorem qB_at (t : Fin (cfgA 0).N) (g : Fin 8) (e : Fin 80) (r : Fin 512) : qB m ρ c t (ix3 g e r) = QA m c (ix3 g e (gQ t r)) := by
  obtain ⟨-, -, e0, e1, e2, -⟩ := idx_in t
  show m ((c : Thread nD τ).loc main_arg2) _ = m ((c : Thread nD τ).loc main_arg2) _
  congr 1
  funext a; apply Fin.ext
  match a with
  | ⟨0, _⟩ => show ((cfgA 0).win (1 : Fin 5)).index t 0 * 8 + 1 * g.val = g.val; rw [e0]; omega
  | ⟨1, _⟩ => show ((cfgA 0).win (1 : Fin 5)).index t 1 * 80 + 1 * e.val = e.val; rw [e1]; omega
  | ⟨2, _⟩ => show ((cfgA 0).win (1 : Fin 5)).index t 2 * 512 + 1 * r.val = qiOf t * 512 + r.val; rw [e2]; omega

theorem vB_at (t : Fin (cfgA 0).N) (g : Fin 8) (d : Fin 64) (k : Fin 512) : vB m ρ c t (ix3 g d k) = VT m c (ix3 g d (gK t k)) := by
  obtain ⟨-, -, -, -, -, e0, e1, e2⟩ := idx_in t
  show m ((c : Thread nD τ).loc main_arg4) _ = m ((c : Thread nD τ).loc main_arg4) _
  congr 1
  funext a; apply Fin.ext
  match a with
  | ⟨0, _⟩ => show ((cfgA 0).win (2 : Fin 5)).index t 0 * 8 + 1 * g.val = g.val; rw [e0]; omega
  | ⟨1, _⟩ => show ((cfgA 0).win (2 : Fin 5)).index t 1 * 64 + 1 * d.val = d.val; rw [e1]; omega
  | ⟨2, _⟩ => show ((cfgA 0).win (2 : Fin 5)).index t 2 * 512 + 1 * k.val = kiOf t * 512 + k.val; rw [e2]; omega

/-- The scores a point takes, off the diagonal and on it, are the query's scores at the point's keys. -/
theorem sc_off (t : Fin (cfgA 0).N) (h : kiOf t < qiOf t) (g : Fin 8) (r k : Fin 512) :
    scOff (hK g (kB m ρ c t)) (hQ g (qB m ρ c t)) (ix2 k r) = F (QA m c) (KA m c) g (gQ t r) (kiOf t * 512 + k.val) := by
  rw [scOff_apply]
  unfold F
  rw [dif_pos (gK t k).isLt, if_pos (show kiOf t * 512 + k.val ≤ qiOf t * 512 + r.val by have := k.isLt; omega)]
  exact Finset.sum_congr rfl fun e _ => by rw [hK_apply, hQ_apply, kB_at, qB_at]

theorem sc_diag (t : Fin (cfgA 0).N) (h : ¬kiOf t < qiOf t) (g : Fin 8) (r k : Fin 512) :
    scDiag (hK g (kB m ρ c t)) (hQ g (qB m ρ c t)) (ix2 k r) = F (QA m c) (KA m c) g (gQ t r) (kiOf t * 512 + k.val) := by
  have e : kiOf t = qiOf t := by have := (ki_le t).1; omega
  rw [scDiag_apply]
  unfold F
  rw [dif_pos (gK t k).isLt]
  refine if_congr (show k.val ≤ r.val ↔ kiOf t * 512 + k.val ≤ qiOf t * 512 + r.val by omega) ?_ rfl
  exact Finset.sum_congr rfl fun e _ => by rw [hK_apply, hQ_apply, kB_at, qB_at]

/-- Three scratches hold the running softmax of the first `n` keys, for the queries of a block. -/
def Run (t : Fin (cfgA 0).N) (n : ℕ) (M L : Vec Ideal S8x1x512 .f32) (A : Vec Ideal S8x64x512 .f32) : Prop :=
  ∀ (g : Fin 8) (r : Fin 512), M (ix3 g 0 r) = smax (F (QA m c) (KA m c) g (gQ t r)) n
    ∧ L (ix3 g 0 r) = wsum (F (QA m c) (KA m c) g (gQ t r)) (fun _ => 1) (smax (F (QA m c) (KA m c) g (gQ t r)) n) n
    ∧ ∀ d : Fin 64, A (ix3 g d r) = wsum (F (QA m c) (KA m c) g (gQ t r)) (W (VT m c) g d) (smax (F (QA m c) (KA m c) g (gQ t r)) n) n

theorem run_start (t : Fin (cfgA 0).N) : Run m c t 0 m0 l0 a0 := fun g r =>
  ⟨rfl, Ideal.ofBits_zero_f32, fun d => Ideal.ofBits_zero_f32⟩

variable (hq : ∀ i, Fin' (QA m c i)) (hk : ∀ i, Fin' (KA m c i)) (hv : ∀ i, Fin' (VT m c i))

include hq hk hv in
theorem run_step (t : Fin (cfgA 0).N) (sc : Vec Ideal S1x512x80 .bf16 → Vec Ideal S1x80x512 .bf16 → FVec Ideal S512x512 .f32)
    (hsc : ∀ (g : Fin 8) (r k : Fin 512), sc (hK g (kB m ρ c t)) (hQ g (qB m ρ c t)) (ix2 k r) = F (QA m c) (KA m c) g (gQ t r) (kiOf t * 512 + k.val))
    (M L : Vec Ideal S8x1x512 .f32) (A : Vec Ideal S8x64x512 .f32) (hR : Run m c t (kiOf t * 512) M L A) (hL : Left m ρ c sc t M L A) :
    Run m c t (kiOf t * 512 + 512) (sM m ρ c t) (sL m ρ c t) (sA m ρ c t) := by
  intro g r
  obtain ⟨h1, h2, h3⟩ := hR g r
  obtain ⟨e1, e2, e3⟩ := hL
  have hf := F_sc hq hk g (gQ t r)
  have h0 := F_zero hq hk g (gQ t r)
  have hm : hM g M (ix3 0 0 r) = _ := (hM_apply g M r).trans h1
  refine ⟨?_, ?_, fun d => ?_⟩
  · rw [e1]
    exact (mRow_apply _ _ r).trans (step_m _ _ r hm (hsc g r))
  · rw [e2]
    exact step_l _ _ _ r hf h0 hm ((hM_apply g L r).trans h2) (hsc g r)
  · rw [e3]
    refine step_a _ _ r _ _ d hf h0 (W_fin hv g d) hm ((hA_apply g A d r).trans (h3 d)) (hsc g r) fun k => ?_
    rw [hV_apply, vB_at]
    unfold W
    rw [dif_pos (gK t k).isLt]

omit hq hk hv in
theorem run_congr {t t' : Fin (cfgA 0).N} (h : qiOf t = qiOf t') {n : ℕ} {M L : Vec Ideal S8x1x512 .f32} {A : Vec Ideal S8x64x512 .f32} (hR : Run m c t' n M L A) : Run m c t n M L A := by
  intro g r
  rw [show gQ t r = gQ t' r from Fin.ext (by show qiOf t * 512 + r.val = qiOf t' * 512 + r.val; rw [h])]
  exact hR g r

include hq hk hv in
theorem run_at (t : Fin (cfgA 0).N) (ih : kiOf t ≠ 0 → Run m c t (kiOf t * 512) (pM m ρ c t) (pL m ρ c t) (pA m ρ c t)) :
    Run m c t (kiOf t * 512 + 512) (sM m ρ c t) (sL m ρ c t) (sA m ρ c t) := by
  by_cases q0 : P0_0 0 t
  · have h0 := (path t).1.1 q0
    have hs : Run m c t (kiOf t * 512) m0 l0 a0 := by rw [h0]; exact run_start m c t
    by_cases q1 : P0_1 0 t
    · exact run_step m ρ c hq hk hv t scOff (sc_off m ρ c t ((path t).2.1 q1)) _ _ _ hs (left_B m ρ c t q0 q1)
    · exact run_step m ρ c hq hk hv t scDiag (sc_diag m ρ c t fun h => q1 ((path t).2.2 h)) _ _ _ hs (left_A m ρ c t q0 q1).1
  · have hs := ih fun h => q0 ((path t).1.2 h)
    by_cases q1 : P0_1 0 t
    · exact run_step m ρ c hq hk hv t scOff (sc_off m ρ c t ((path t).2.1 q1)) _ _ _ hs (left_D m ρ c t q0 q1)
    · exact run_step m ρ c hq hk hv t scDiag (sc_diag m ρ c t fun h => q1 ((path t).2.2 h)) _ _ _ hs (left_C m ρ c t q0 q1).1

include hq hk hv in
theorem run_all : ∀ (n : ℕ) (h : n < (cfgA 0).N), Run m c ⟨n, h⟩ (kiOf ⟨n, h⟩ * 512 + 512) (sM m ρ c ⟨n, h⟩) (sL m ρ c ⟨n, h⟩) (sA m ρ c ⟨n, h⟩) := by
  intro n
  induction n with
  | zero => exact fun h => run_at m ρ c hq hk hv ⟨0, h⟩ fun h' => absurd rfl (before ⟨0, h⟩ h').1
  | succ n ih =>
    intro h
    refine run_at m ρ c hq hk hv ⟨n + 1, h⟩ fun h' => ?_
    have hn : n < (cfgA 0).N := Nat.lt_of_succ_lt h
    obtain ⟨e1, e2⟩ := (before ⟨n + 1, h⟩ h').2 hn
    have e1' : kiOf ⟨n + 1, h⟩ * 512 = kiOf ⟨n, hn⟩ * 512 + 512 := by rw [e1]; show (kiOf ⟨n, hn⟩ + 1) * 512 = _; omega
    rw [e1']
    refine run_congr m c (t' := ⟨n, hn⟩) e2 ?_
    have e : prev0 0 m ρ c ⟨n + 1, h⟩ = traj0 0 m ρ c n hn := by
      unfold prev0
      rw [dif_neg (Nat.succ_ne_zero n)]
      rfl
    unfold pM pL pA
    rw [e]
    exact ih hn

/-! ## The results -/

/-- The attended values, and the logarithm of the sum of the exponentials of the scores. -/
def res3 : S8x64x8192.Idx → EReal := fun i =>
  Ideal.div (wsum (F (QA m c) (KA m c) (i 0) (i 2)) (W (VT m c) (i 0) (i 1)) (smax (F (QA m c) (KA m c) (i 0) (i 2)) 8192) 8192)
    (wsum (F (QA m c) (KA m c) (i 0) (i 2)) (fun _ => 1) (smax (F (QA m c) (KA m c) (i 0) (i 2)) 8192) 8192)
def res4 : S8x1x8192.Idx → EReal := fun i =>
  smax (F (QA m c) (KA m c) (i 0) (i 2)) 8192
    + Ideal.log (wsum (F (QA m c) (KA m c) (i 0) (i 2)) (fun _ => 1) (smax (F (QA m c) (KA m c) (i 0) (i 2)) 8192) 8192)

theorem pay6_apply (a : Vec Ideal S8x64x512 .f32) (l : Vec Ideal S8x1x512 .f32) (g : Fin 8) (d : Fin 64) (r : Fin 512) :
    k0_pay6 (F := Ideal) a l (ix3 g d r) = Ideal.div (a (ix3 g d r)) (l (ix3 g 0 r)) := by
  show Ideal.div (a (ix3 g d r)) (broadcastTo S8x64x512 l broadcasts_S8x1x512_S8x64x512 (ix3 g d r)) = _
  rw [broadcastTo_apply _ _ _ (ix3 g (0 : Fin 1) r) (fun a => match a with | ⟨0, _⟩ => rfl | ⟨1, _⟩ => rfl | ⟨2, _⟩ => rfl)]

theorem pay7_apply (a l : Vec Ideal S8x1x512 .f32) (i : S8x1x512.Idx) : k0_pay7 (F := Ideal) a l i = a i + Ideal.log (l i) := rfl

include hq hk hv in
theorem run_diag (t : Fin (cfgA 0).N) (h : ¬P0_1 0 t) : Run m c t 8192 (sM m ρ c t) (sL m ρ c t) (sA m ρ c t) := by
  have e : kiOf t = qiOf t := by
    have h1 := (ki_le t).1
    have h2 : ¬kiOf t < qiOf t := fun h' => h ((path t).2.2 h')
    omega
  intro g r
  have hm : ∀ j, kiOf t * 512 + 512 ≤ j → F (QA m c) (KA m c) g (gQ t r) j = ⊥ := fun j hj =>
    F_mask g _ j (show qiOf t * 512 + r.val < j by have := r.isLt; omega)
  have hn : kiOf t * 512 + 512 ≤ 8192 := by have := (ki_le t).2; omega
  rw [smax_mask hn hm, wsum_mask hn hm]
  obtain ⟨h1, h2, h3⟩ := run_all m ρ c hq hk hv t.val t.isLt g r
  exact ⟨h1, h2, fun d => by rw [wsum_mask hn hm]; exact h3 d⟩

theorem outs (t : Fin (cfgA 0).N) (h : ¬P0_1 0 t) : Outs m ρ c t := by
  by_cases q0 : P0_0 0 t
  · exact (left_A m ρ c t q0 h).2
  · exact (left_C m ρ c t q0 h).2

theorem diag_of_flush3 (t : Fin (cfgA 0).N) (hf : ((cfgA 0).win (3 : Fin 5)).flush t = true) : ¬P0_1 0 t := fun q1 => by
  by_cases q0 : P0_0 0 t
  · exact absurd ((sched0_B 0 t q0 q1).2.1.symm.trans hf) (by decide)
  · exact absurd ((sched0_D 0 t q0 q1).2.1.symm.trans hf) (by decide)

theorem diag_of_flush4 (t : Fin (cfgA 0).N) (hf : ((cfgA 0).win (4 : Fin 5)).flush t = true) : ¬P0_1 0 t := fun q1 => by
  by_cases q0 : P0_0 0 t
  · exact absurd ((sched0_B 0 t q0 q1).2.2.2.2.1.symm.trans hf) (by decide)
  · exact absurd ((sched0_D 0 t q0 q1).2.2.2.2.1.symm.trans hf) (by decide)

theorem flush_diag (t : Fin (cfgA 0).N) (h : ¬P0_1 0 t) : ((cfgA 0).win (3 : Fin 5)).flush t = true ∧ ((cfgA 0).win (4 : Fin 5)).flush t = true := by
  by_cases q0 : P0_0 0 t
  · exact ⟨(sched0_A 0 t q0 h).2.1, (sched0_A 0 t q0 h).2.2.2.2.1⟩
  · exact ⟨(sched0_C 0 t q0 h).2.1, (sched0_C 0 t q0 h).2.2.2.2.1⟩

theorem emb3 (t : Fin (cfgA 0).N) (g : Fin 8) (d : Fin 64) (r : Fin 512) :
    (((cfgA 0).win (3 : Fin 5)).blk t).view.emb (ix3 g d r : S8x64x512.Idx) = (ix3 g d (gQ t r) : S8x64x8192.Idx) := by
  obtain ⟨e0, e1, -⟩ := idx_out t
  funext a; apply Fin.ext
  match a with
  | ⟨0, _⟩ => show ((cfgA 0).win (3 : Fin 5)).index t 0 * 8 + 1 * g.val = g.val; rw [e0]; omega
  | ⟨1, _⟩ => show ((cfgA 0).win (3 : Fin 5)).index t 1 * 64 + 1 * d.val = d.val; rw [e1]; omega
  | ⟨2, _⟩ => show qiOf t * 512 + 1 * r.val = qiOf t * 512 + r.val; omega

theorem emb4 (t : Fin (cfgA 0).N) (g : Fin 8) (r : Fin 512) :
    (((cfgA 0).win (4 : Fin 5)).blk t).view.emb (ix3 g 0 r : S8x1x512.Idx) = (ix3 g 0 (gQ t r) : S8x1x8192.Idx) := by
  obtain ⟨-, -, e0, e1, e2⟩ := idx_out t
  funext a; apply Fin.ext
  match a with
  | ⟨0, _⟩ => show ((cfgA 0).win (4 : Fin 5)).index t 0 * 8 + 1 * g.val = g.val; rw [e0]; omega
  | ⟨1, _⟩ => show ((cfgA 0).win (4 : Fin 5)).index t 1 * 1 + 1 * 0 = 0; rw [e1]
  | ⟨2, _⟩ => show ((cfgA 0).win (4 : Fin 5)).index t 2 * 512 + 1 * r.val = qiOf t * 512 + r.val; rw [e2]; omega

include hq hk hv in
theorem flushed3_eq (t : Fin (cfgA 0).N) (hf : ((cfgA 0).win (3 : Fin 5)).flush t = true) :
    (dats 0 m ρ 0 c).flushed (3 : Fin 5) t = (((cfgA 0).win (3 : Fin 5)).blk t).view.read (Elt Ideal) (res3 m c) := by
  have h1 := diag_of_flush3 t hf
  show ((cfgA 0).win (3 : Fin 5)).cut ((cfgA 0).grid.coords t) ((dats 0 m ρ 0 c).after (3 : Fin 5) t) = _
  rw [after0_3, (outs m ρ c t h1).1]
  refine funext fun (j : S8x64x512.Idx) => ?_
  obtain ⟨g, d, r, rfl⟩ : ∃ (g : Fin 8) (d : Fin 64) (r : Fin 512), j = ix3 g d r := ⟨j 0, j 1, j 2, ValueIdx.eq_ix3 j⟩
  show k0_pay6 (F := Ideal) (sA m ρ c t) (sL m ρ c t) (ix3 g d r) = res3 m c ((((cfgA 0).win (3 : Fin 5)).blk t).view.emb (ix3 g d r : S8x64x512.Idx))
  rw [emb3]
  obtain ⟨-, h2, h3⟩ := run_diag m ρ c hq hk hv t h1 g r
  rw [pay6_apply, h2, h3 d]
  rfl

include hq hk hv in
theorem flushed4_eq (t : Fin (cfgA 0).N) (hf : ((cfgA 0).win (4 : Fin 5)).flush t = true) :
    (dats 0 m ρ 0 c).flushed (4 : Fin 5) t = (((cfgA 0).win (4 : Fin 5)).blk t).view.read (Elt Ideal) (res4 m c) := by
  have h1 := diag_of_flush4 t hf
  show ((cfgA 0).win (4 : Fin 5)).cut ((cfgA 0).grid.coords t) ((dats 0 m ρ 0 c).after (4 : Fin 5) t) = _
  rw [after0_4, (outs m ρ c t h1).2]
  refine funext fun (j : S8x1x512.Idx) => ?_
  obtain ⟨g, r, rfl⟩ : ∃ (g : Fin 8) (r : Fin 512), j = ix3 g 0 r :=
    ⟨j 0, j 2, by refine (ValueIdx.eq_ix3 j).trans ?_; rw [show j 1 = (0 : Fin 1) from Subsingleton.elim (α := Fin 1) _ _]; rfl⟩
  show k0_pay7 (F := Ideal) (sM m ρ c t) (sL m ρ c t) (ix3 g 0 r) = res4 m c ((((cfgA 0).win (4 : Fin 5)).blk t).view.emb (ix3 g 0 r : S8x1x512.Idx))
  rw [emb4]
  obtain ⟨h2, h3, -⟩ := run_diag m ρ c hq hk hv t h1 g r
  rw [pay7_apply, h2, h3]
  rfl

theorem last_at (q : Fin 8192) : ∃ t : Fin (cfgA 0).N, ¬P0_1 0 t ∧ qiOf t = q.val / 512 := by
  obtain ⟨t, h1, h2⟩ := last ⟨q.val / 512, by have := q.isLt; omega⟩
  exact ⟨t, fun h => absurd ((path t).2.1 h) (by rw [h1, h2]; exact lt_irrefl _), h2⟩

theorem xs3 : ∀ t : Fin (cfgA 0).N, ∀ a, ((cfgA 0).win (3 : Fin 5)).xsize ((cfgA 0).grid.coords t) a = S8x64x512.size a ∧ ((cfgA 0).win (3 : Fin 5)).size a = S8x64x512.size a := by
  decide +kernel
theorem xs4 : ∀ t : Fin (cfgA 0).N, ∀ a, ((cfgA 0).win (4 : Fin 5)).xsize ((cfgA 0).grid.coords t) a = S8x1x512.size a ∧ ((cfgA 0).win (4 : Fin 5)).size a = S8x1x512.size a := by
  decide +kernel

theorem cover3 (i : S8x64x8192.Idx) : ∃ t : Fin (cfgA 0).N, ((cfgA 0).win (3 : Fin 5)).flush t = true ∧ i ∈ (((cfgA 0).win (3 : Fin 5)).blk t).view.set := by
  obtain ⟨t, h, e⟩ := last_at (i 2)
  refine ⟨t, (flush_diag t h).1, ?_⟩
  obtain ⟨e0, e1, -⟩ := idx_out t
  show i ∈ ((View.whole main_v0_0).slice (((cfgA 0).win (3 : Fin 5)).rect t)).set
  erw [View.set_slice_whole]
  refine (Pipeline.Window.mem_rect_iff ((cfgA 0).win (3 : Fin 5)) t i (by rfl)).mpr fun a => ?_
  rw [(xs3 t a).1, (xs3 t a).2]
  have h0 : (i 0 : ℕ) < 8 := (i 0).isLt
  have h1 : (i 1 : ℕ) < 64 := (i 1).isLt
  match a with
  | ⟨0, _⟩ => show ((cfgA 0).win (3 : Fin 5)).index t 0 * 8 ≤ (i 0).val ∧ (i 0).val < ((cfgA 0).win (3 : Fin 5)).index t 0 * 8 + 8; rw [e0]; omega
  | ⟨1, _⟩ => show ((cfgA 0).win (3 : Fin 5)).index t 1 * 64 ≤ (i 1).val ∧ (i 1).val < ((cfgA 0).win (3 : Fin 5)).index t 1 * 64 + 64; rw [e1]; omega
  | ⟨2, _⟩ => show qiOf t * 512 ≤ (i 2).val ∧ (i 2).val < qiOf t * 512 + 512; rw [e]; omega

theorem cover4 (i : S8x1x8192.Idx) : ∃ t : Fin (cfgA 0).N, ((cfgA 0).win (4 : Fin 5)).flush t = true ∧ i ∈ (((cfgA 0).win (4 : Fin 5)).blk t).view.set := by
  obtain ⟨t, h, e⟩ := last_at (i 2)
  refine ⟨t, (flush_diag t h).2, ?_⟩
  obtain ⟨-, -, e0, e1, e2⟩ := idx_out t
  show i ∈ ((View.whole main_v0_1).slice (((cfgA 0).win (4 : Fin 5)).rect t)).set
  erw [View.set_slice_whole]
  refine (Pipeline.Window.mem_rect_iff ((cfgA 0).win (4 : Fin 5)) t i (by rfl)).mpr fun a => ?_
  rw [(xs4 t a).1, (xs4 t a).2]
  have h0 : (i 0 : ℕ) < 8 := (i 0).isLt
  have h1 : (i 1 : ℕ) < 1 := (i 1).isLt
  match a with
  | ⟨0, _⟩ => show ((cfgA 0).win (4 : Fin 5)).index t 0 * 8 ≤ (i 0).val ∧ (i 0).val < ((cfgA 0).win (4 : Fin 5)).index t 0 * 8 + 8; rw [e0]; omega
  | ⟨1, _⟩ => show ((cfgA 0).win (4 : Fin 5)).index t 1 * 1 ≤ (i 1).val ∧ (i 1).val < ((cfgA 0).win (4 : Fin 5)).index t 1 * 1 + 1; rw [e1]; omega
  | ⟨2, _⟩ => show ((cfgA 0).win (4 : Fin 5)).index t 2 * 512 ≤ (i 2).val ∧ (i 2).val < ((cfgA 0).win (4 : Fin 5)).index t 2 * 512 + 512; rw [e2, e]; omega

include hq hk hv in
theorem final3 : (dats 0 m ρ 0 c).arrAt (3 : Fin 5) (cfgA 0).N = res3 m c :=
  (dats 0 m ρ 0 c).arrAt_eq_of_cover (3 : Fin 5) (res3 m c) (flushed3_eq m ρ c hq hk hv) cover3
include hq hk hv in
theorem final4 : (dats 0 m ρ 0 c).arrAt (4 : Fin 5) (cfgA 0).N = res4 m c :=
  (dats 0 m ρ 0 c).arrAt_eq_of_cover (4 : Fin 5) (res4 m c) (flushed4_eq m ρ c hq hk hv) cover4

end Cert.Proof.Flash

end
-- ==== Proof.Flash.lean ====
module

public import proofs.«01_k».proof.Proof.FlashVal
public import proofs.«01_k».proof.Proof.Pin
public import proofs.«01_k».proof.Proof.Gen.Reference17Ideal.Read

@[expose] public section

set_option maxRecDepth 16384

/-! The causal attention launch against causal attention written plainly: every score at once, the keys after the query masked, the softmax divided by its sum before the values are weighted. -/

noncomputable section

open Idealize.ShloMosaic hiding ix1 ix2 ix3
open Idealize.ShloMosaic.TcCoe Idealize.ShloMosaic.ValueIdx Idealize.SL.Sem

namespace Cert.Proof.Flash

section Launch

open Cert.Kernel17Ideal Cert.Kernel17Ideal.Gen

/-- What the precondition says: the three operands are real numbers throughout. -/
theorem fin_of_pre [Cert.Pre_finite17.Facts] (x0 x1 : S136.Idx → BitVec 32) (x2 : S8x80x8192.Idx → EReal) (x3 : S8x8192x80.Idx → EReal) (x4 : S8x64x8192.Idx → EReal)
    (h : (Cert.Pre_finite17.fn (F := Ideal) x0 x1 x2 x3 x4).2.2 = fun _ => 1#1) :
    (∀ i, Fin' (x2 i)) ∧ (∀ i, Fin' (x3 i)) ∧ ∀ i, Fin' (x4 i) := by
  have h := congrFun h (fun a => a.elim0)
  dsimp only [Cert.Pre_finite17.fn] at h
  obtain ⟨h, h2⟩ := IntOp.andi_eq_one.1 h
  obtain ⟨h0, h1⟩ := IntOp.andi_eq_one.1 h
  exact ⟨fin_of_all x2 _ (fun _ => rfl) _ _ _ _ h0, fin_of_all x3 _ (fun _ => rfl) _ _ _ _ h1, fin_of_all x4 _ (fun _ => rfl) _ _ _ _ h2⟩

/-- The launch's run, read: the two results, and the arguments unchanged. -/
theorem run (m : (ℓ : Loc nD τ sig) → Buf (Elt Ideal) ℓ) (ρ : Dev nD → PrngReg) (hp : Pinned 0 m)
    (hf : ∀ c : Dev nD, (∀ i, Fin' (QA m c i)) ∧ (∀ i, Fin' (KA m c i)) ∧ ∀ i, Fin' (VT m c i)) :
    θ_run (defs (F := Ideal)) (onTc (τ := τ) (main (F := Ideal))) ⟨m, fun _ => 0, ρ⟩ fun r => ∀ c : Dev nD,
      r.2.mem ((c : Thread nD τ).loc main_v0_0) = res3 m c
      ∧ r.2.mem ((c : Thread nD τ).loc main_v0_1) = res4 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun _ hr c => ⟨((hr c).1 (3 : Fin 5)).trans (final3 m ρ c (hf c).1 (hf c).2.1 (hf c).2.2),
      ((hr c).1 (4 : Fin 5)).trans (final4 m ρ c (hf c).1 (hf c).2.1 (hf c).2.2), ((hr c).2 0).trans (hp.1 c).symm, ((hr c).2 1).trans (hp.2 c).symm,
      ((hr c).1 (1 : Fin 5)).trans ((dats 0 m ρ 0 c).arrAt_in (1 : Fin 5) rfl _), ((hr c).1 (0 : Fin 5)).trans ((dats 0 m ρ 0 c).arrAt_in (0 : Fin 5) rfl _),
      ((hr c).1 (2 : Fin 5)).trans ((dats 0 m ρ 0 c).arrAt_in (2 : Fin 5) rfl _)⟩)
    (run_main 0 m ρ hp)

end Launch

/-! ## The reference -/

section Reference

open Cert.Reference17Ideal Cert.Reference17Ideal.Gen Cert.Reference17Ideal.Read

variable (qa : S8x80x8192.Idx → EReal) (ka : S8x8192x80.Idx → EReal) (vt : S8x64x8192.Idx → EReal)

theorem v2_at (g : Fin 8) (q k : Fin 8192) : val_main_v2 (F := Ideal) qa ka (ix3 g q k) = ∑ e : Fin 80, ka (ix3 g k e) * qa (ix3 g e q) := by
  rw [val_main_v2_apply]
  refine Finset.sum_congr rfl fun e _ => ?_
  rw [mul_comm]
  refine congrArg₂ (· * ·) (congrArg ka ?_) (congrArg qa ?_)
  · funext a; match a with | ⟨0, _⟩ => rfl | ⟨1, _⟩ => rfl | ⟨2, _⟩ => rfl
  · funext a; match a with | ⟨0, _⟩ => rfl | ⟨1, _⟩ => rfl | ⟨2, _⟩ => rfl

theorem v8_at (q k : Fin 8192) : val_main_v8 (F := Ideal) (ix3 0 q k) = BitVec.ofBool (decide (k.val ≤ q.val)) := by
  rw [val_main_v8_apply, val_main_v6_apply, val_main_v7_apply]
  show BitVec.ofBool ((BitVec.ofNat 32 k.val).sle (BitVec.ofNat 32 q.val)) = _
  rw [sle_iff _ _ (by have := k.isLt; omega) (by have := q.isLt; omega)]

theorem v9_at (g : Fin 8) (q k : Fin 8192) : val_main_v9 (F := Ideal) qa ka (ix3 g q k) = F qa ka g q k.val := by
  rw [val_main_v9_apply, v2_at, val_main_call0_v1_apply, show idx_main_call0_v1 (ix3 g q k) = ix3 0 q k from by funext a; match a with | ⟨0, _⟩ => rfl | ⟨1, _⟩ => rfl | ⟨2, _⟩ => rfl, v8_at]
  unfold F
  rw [dif_pos k.isLt]
  show (if BitVec.ofBool (decide (k.val ≤ q.val)) = 1#1 then _ else Ideal.ofBits .f32 0xFF800000#32) = _
  rw [ofBits_neg_inf]
  by_cases h : k.val ≤ q.val
  · rw [if_pos h, decide_eq_true h, if_pos (by decide)]
  · rw [if_neg h, decide_eq_false h, if_neg (by decide)]

theorem lift_key (h : S8x8192x8192.Reduces [2] S8x8192) (g : Fin 8) (q k : Fin 8192) : h.lift (ix2 g q) k = ix3 g q k := by
  funext a; apply Fin.ext
  match a with
  | ⟨0, _⟩ => rfl
  | ⟨1, _⟩ => rfl
  | ⟨2, _⟩ => rfl

theorem smax_all (f : ℕ → EReal) : Finset.univ.fold max (⊥ : EReal) (fun k : Fin 8192 => f k.val) = smax f 8192 := by
  have h := smax_add f 0 8192
  rw [Nat.zero_add, smax_zero, max_eq_right bot_le] at h
  simp only [Nat.zero_add] at h
  exact h.symm

theorem v10_at (g : Fin 8) (q : Fin 8192) : val_main_v10 (F := Ideal) qa ka (ix2 g q) = smax (F qa ka g q) 8192 := by
  unfold val_main_v10
  have e := fun (h : S8x8192x8192.Reduces [2] S8x8192) (k : Fin 8192) =>
    (congrArg (val_main_v9 (F := Ideal) qa ka) (lift_key h g q k)).trans (v9_at qa ka g q k)
  generalize val_main_v9 (F := Ideal) qa ka = y at e
  have e2 := Host.reduce_eq_fold_single (FloatOps.maximumf (F := Ideal) (φ := .f32)) y (val_main_cst_0 (F := Ideal)) reducesTo_S8x8192x8192_S8x8192_d2 (by decide : S8x8192x8192.Reduces [2] S8x8192) h_S_ (ix2 g q)
  rw [e2, ← smax_all]
  refine congrArg₂ (fun b f => Finset.univ.fold max b f) ofBits_neg_inf (funext fun k => e _ k)

theorem v11_at (g : Fin 8) (q : Fin 8192) : val_main_v11 (F := Ideal) qa ka (ix3 g q 0) = smax (F qa ka g q) 8192 := by
  rw [val_main_v11_apply, show idx_main_v11 (ix3 g q 0) = ix2 g q from by funext a; match a with | ⟨0, _⟩ => rfl | ⟨1, _⟩ => rfl, v10_at]

theorem v14_at (g : Fin 8) (q k : Fin 8192) : val_main_v14 (F := Ideal) qa ka (ix3 g q k) = Ideal.exp (F qa ka g q k.val - smax (F qa ka g q) 8192) := by
  show Ideal.exp (val_main_v9 (F := Ideal) qa ka (ix3 g q k) - val_main_v12 (F := Ideal) qa ka (ix3 g q k)) = _
  rw [v9_at, val_main_v12_apply, show idx_main_v12 (ix3 g q k) = ix3 g q 0 from by funext a; match a with | ⟨0, _⟩ => rfl | ⟨1, _⟩ => rfl | ⟨2, _⟩ => rfl, v11_at]

theorem v16_at (g : Fin 8) (q : Fin 8192) : val_main_v16 (F := Ideal) qa ka (ix3 g q 0) = wsum (F qa ka g q) (fun _ => 1) (smax (F qa ka g q) 8192) 8192 := by
  rw [val_main_v16_apply, show idx_main_v16 (ix3 g q 0) = ix2 g q from by funext a; match a with | ⟨0, _⟩ => rfl | ⟨1, _⟩ => rfl, val_main_v15_apply]
  show Ideal.ofBits .f32 0x00000000#32 + _ = _
  rw [Ideal.ofBits_zero_f32, zero_add]
  unfold wsum
  rw [Finset.sum_range]
  refine Finset.sum_congr rfl fun k _ => ?_
  rw [show idx_main_v15 (ix2 g q) k = ix3 g q k from by funext a; match a with | ⟨0, _⟩ => rfl | ⟨1, _⟩ => rfl | ⟨2, _⟩ => rfl, v14_at, one_mul]

theorem v20_at (g : Fin 8) (q k : Fin 8192) : val_main_v20 (F := Ideal) qa ka (ix3 g q k)
    = Ideal.div (Ideal.exp (F qa ka g q k.val - smax (F qa ka g q) 8192)) (wsum (F qa ka g q) (fun _ => 1) (smax (F qa ka g q) 8192) 8192) := by
  show Ideal.div (val_main_v14 (F := Ideal) qa ka (ix3 g q k)) (val_main_v17 (F := Ideal) qa ka (ix3 g q k)) = _
  rw [v14_at, val_main_v17_apply, show idx_main_v17 (ix3 g q k) = ix3 g q 0 from by funext a; match a with | ⟨0, _⟩ => rfl | ⟨1, _⟩ => rfl | ⟨2, _⟩ => rfl, v16_at]

end Reference

section Agree

open Cert.Kernel17Ideal Cert.Kernel17Ideal.Gen

variable (m : (ℓ : Loc nD τ sig) → Buf (Elt Ideal) ℓ) (c : Dev nD) (hq : ∀ i, Fin' (QA m c i)) (hk : ∀ i, Fin' (KA m c i)) (hv : ∀ i, Fin' (VT m c i))

include hq hk hv in
theorem ref_o : Cert.Reference17Ideal.Read.val_main_v22 (F := Ideal) (QA m c) (KA m c) (VT m c) = res3 m c := by
  funext i
  obtain ⟨g, d, q, rfl⟩ : ∃ (g : Fin 8) (d : Fin 64) (q : Fin 8192), i = ix3 g d q := ⟨i 0, i 1, i 2, ValueIdx.eq_ix3 i⟩
  rw [Cert.Reference17Ideal.Read.val_main_v22_apply]
  refine Eq.trans ?_ (wsum_div (F_sc hq hk g q) (F_zero hq hk g q) (W_fin hv g d) (smax_fin (F_sc hq hk g q) (F_zero hq hk g q) (by omega)) (by omega : 0 < 8192)).symm
  rw [Finset.sum_range]
  refine Finset.sum_congr rfl fun k _ => ?_
  rw [show Cert.Reference17Ideal.Read.ridx_main_v22 (ix3 g d q) k = ix3 g q k from by funext a; match a with | ⟨0, _⟩ => rfl | ⟨1, _⟩ => rfl | ⟨2, _⟩ => rfl, v20_at, mul_comm]
  refine congrArg (HMul.hMul (α := EReal) (β := EReal) (γ := EReal) _) ?_
  unfold W
  rw [dif_pos k.isLt]
  exact congrArg (VT m c) (by funext a; match a with | ⟨0, _⟩ => rfl | ⟨1, _⟩ => rfl | ⟨2, _⟩ => rfl)

theorem ref_e : Cert.Reference17Ideal.Read.val_main_v25 (F := Ideal) (QA m c) (KA m c) = res4 m c := by
  funext i
  obtain ⟨g, q, rfl⟩ : ∃ (g : Fin 8) (q : Fin 8192), i = ix3 g 0 q :=
    ⟨i 0, i 2, by refine (ValueIdx.eq_ix3 i).trans ?_; rw [show i 1 = (0 : Fin 1) from Subsingleton.elim (α := Fin 1) _ _]; rfl⟩
  rw [Cert.Reference17Ideal.Read.val_main_v25_apply,
    show Cert.Reference17Ideal.Read.idx_main_v25 (ix3 g 0 q) = ix3 g q 0 from by funext a; match a with | ⟨0, _⟩ => rfl | ⟨1, _⟩ => rfl | ⟨2, _⟩ => rfl,
    Cert.Reference17Ideal.Read.val_main_v24_apply, Cert.Reference17Ideal.Read.val_main_v23_apply, v11_at, v16_at]
  rfl

end Agree

section ReferenceRun

open Cert.Reference17Ideal Cert.Reference17Ideal.Gen Cert.Reference17Ideal.Read

/-- The reference's results, kept closed. -/
@[irreducible] def refO (qa : S8x80x8192.Idx → EReal) (ka : S8x8192x80.Idx → EReal) (vt : S8x64x8192.Idx → EReal) : S8x64x8192.Idx → EReal := val_main_v22 (F := Ideal) qa ka vt
@[irreducible] def refE (qa : S8x80x8192.Idx → EReal) (ka : S8x8192x80.Idx → EReal) : S8x1x8192.Idx → EReal := val_main_v25 (F := Ideal) qa ka

theorem refO_eq (qa : S8x80x8192.Idx → EReal) (ka : S8x8192x80.Idx → EReal) (vt : S8x64x8192.Idx → EReal) : val_main_v22 (F := Ideal) qa ka vt = refO qa ka vt := by unfold refO; rfl
theorem refE_eq (qa : S8x80x8192.Idx → EReal) (ka : S8x8192x80.Idx → EReal) : val_main_v25 (F := Ideal) qa ka = refE qa ka := by unfold refE; rfl

theorem ref_run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v22) = refO (m ((c.tc : Thread nD τ).loc main_arg2)) (m ((c.tc : Thread nD τ).loc main_arg3)) (m ((c.tc : Thread nD τ).loc main_arg4))
      ∧ r.2.mem ((c.tc : Thread nD τ).loc main_v25) = refE (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨((h c).1.trans (val_main_v22_eq _ _ _)).trans (refO_eq _ _ _), ((h c).2.1.trans (val_main_v25_eq _ _)).trans (refE_eq _ _), (h c).2.2⟩)
    (Cert.Reference17Ideal.Value.run m ρ)

end ReferenceRun

theorem algebraic [Cert.Kernel17Ideal.Facts] [Cert.Reference17Ideal.Facts] [Cert.Pre_finite17.Facts] : Cert.algebraic_Kernel17Ideal_Reference17Ideal_pre_finite17 := by
  intro m g m' g' hpre hagree
  have hf := fun c : Dev Cert.Kernel17Ideal.nD => fin_of_pre _ _ (QA m c) (KA m c) (VT m c) (hpre c).2.2
  refine ⟨fun c => res3 m c, fun c => res4 m c, run m g (Cert.Proof.Pin.Kernel17Ideal.pinned_of_fin m hpre) hf,
    (θ_run Cert.Reference17Ideal.defs _ _).mono (fun _ h c => ⟨(h c).1.trans ?_, (h c).2.1.trans ?_, (h c).2.2⟩) (ref_run m' g')⟩
  · rw [(hagree c).2.2.1, (hagree c).2.2.2.1, (hagree c).2.2.2.2]
    exact (refO_eq _ _ _).symm.trans (ref_o m c (hf c).1 (hf c).2.1 (hf c).2.2)
  · rw [(hagree c).2.2.1, (hagree c).2.2.2.1]
    exact (refE_eq _ _).symm.trans (ref_e m c)

end Cert.Proof.Flash

end
-- ==== Proof.Dwo.lean ====
/-
  The gradient of a square weight from a cotangent in single precision: the merged mixers and the memory attention,
  accumulated over blocks of 1024 tokens.
-/
module

public import proofs.«01_k».proof.Defs
public import proofs.«01_k».proof.Proof.Gen.Kernel18Ideal.Value
public import proofs.«01_k».proof.Proof.Gen.Reference18Ideal.Read
public import proofs.«01_k».proof.Proof.Common
public import Idealize.ShloMosaic.Lib.Tactic
public import Idealize.ShloMosaic.Lib.Claim

@[expose] public section

set_option maxRecDepth 16384

noncomputable section

open Idealize.ShloMosaic hiding ix1 ix2 ix3
open Idealize.ShloMosaic.TcCoe Idealize.ShloMosaic.ValueIdx Idealize.SL.Sem
open scoped BigOperators

namespace Cert.Proof.Dwo

open Cert.Kernel18Ideal Cert.Kernel18Ideal.Gen

theorem hz : (![0, 0] : Fin 2 → Nat) = fun _ => 0 := funext fun a => by fin_cases a <;> rfl

/-! ## What a point of the grid leaves -/

section Outs
variable {F : FTy → Type} [FloatOps F]
variable (c : Dev nD) (i : grid0.Coords) (arg3 : Memref sig .tc .vmem S1024x1024 .bf16) (harg3 : arg3.IsWhole) (arg4 : Memref sig .tc .vmem S1024x1024 .f32) (harg4 : arg4.IsWhole)
  (arg5 : Memref sig .tc .vmem S1024x1024 .bf16) (harg5 : arg5.IsWhole) (arg6 : Memref sig .tc .vmem S1024x1024 .f32) (harg6 : arg6.IsWhole)
  (x0 : Vec F S1024x1024 .bf16) (x1 : Vec F S1024x1024 .f32) (xs0 : Vec F S1024x1024 .f32)

theorem sout_A (hc0 : cond0_0 i) (hc1 : ¬cond0_1 i) :
    sout0_A_0 c i arg3 harg3 arg4 harg4 arg5 harg5 arg6 harg6 hc0 hc1 x0 x1 = k0_pay2 k0_pay1 x0 x1 := by
  unfold sout0_A_0
  rw [View.read_writes_eq_canon _ _ _ (scover0_A_0 c i arg3 harg3 arg4 harg4 arg5 harg5 arg6 harg6 hc0 hc1 x0 x1)]
  unfold kernelRun0_A
  dsimp only
  sl_unfold_words
  rw [View.canon_cons_unit_zero hz, View.readCov_unit_zero (S := S1024x1024) _ hz]
  simp only [View.readAt_eq_ld, harg3.read_unread, harg4.read_unread, View.ld_unit_zero (S := S1024x1024) hz]

theorem sout_B (hc0 : ¬cond0_0 i) (hc1 : ¬cond0_1 i) :
    sout0_B_0 c i arg3 harg3 arg4 harg4 arg5 harg5 arg6 harg6 hc0 hc1 x0 x1 xs0 = k0_pay2 xs0 x0 x1 := by
  unfold sout0_B_0
  rw [View.read_writes_eq_canon _ _ _ (scover0_B_0 c i arg3 harg3 arg4 harg4 arg5 harg5 arg6 harg6 hc0 hc1 x0 x1 xs0)]
  unfold kernelRun0_B
  dsimp only
  sl_unfold_words
  rw [View.canon_unit_zero hz]
  simp only [View.readAt_eq_ld, harg3.read_unread, harg4.read_unread, harg6.read_unread, View.ld_unit_zero (S := S1024x1024) hz]

theorem sout_C (hc0 : ¬cond0_0 i) (hc1 : cond0_1 i) :
    sout0_C_0 c i arg3 harg3 arg4 harg4 arg5 harg5 arg6 harg6 hc0 hc1 x0 x1 xs0 = k0_pay2 xs0 x0 x1 := by
  unfold sout0_C_0
  rw [View.read_writes_eq_canon _ _ _ (scover0_C_0 c i arg3 harg3 arg4 harg4 arg5 harg5 arg6 harg6 hc0 hc1 x0 x1 xs0)]
  unfold kernelRun0_C
  dsimp only
  sl_unfold_words
  rw [View.canon_unit_zero hz]
  simp only [View.readAt_eq_ld, harg3.read_unread, harg4.read_unread, harg6.read_unread, View.ld_unit_zero (S := S1024x1024) hz]

theorem out_C (hc0 : ¬cond0_0 i) (hc1 : cond0_1 i) :
    out0_C_2 c i arg3 harg3 arg4 harg4 arg5 harg5 arg6 harg6 hc0 hc1 x0 x1 xs0 = k0_pay3 (k0_pay2 xs0 x0 x1) := by
  unfold out0_C_2
  rw [View.read_writes_eq_canon _ _ _ (cover0_C_2 c i arg3 harg3 arg4 harg4 arg5 harg5 arg6 harg6 hc0 hc1 x0 x1 xs0)]
  unfold kernelRun0_C
  dsimp only
  sl_unfold_words
  rw [View.canon_unit_zero hz, View.readCov_unit_zero (S := S1024x1024) _ hz]
  simp only [View.readAt_eq_ld, harg3.read_unread, harg4.read_unread, harg6.read_unread, View.ld_unit_zero (S := S1024x1024) hz]

end Outs

/-! ## The payloads at an index -/

theorem pay1_apply (j : S1024x1024.Idx) : k0_pay1 (F := Ideal) j = 0 := Ideal.ofBits_zero_f32

theorem pay2_apply (s : Vec Ideal S1024x1024 .f32) (a : Vec Ideal S1024x1024 .bf16) (b : Vec Ideal S1024x1024 .f32) (r : Fin 1024) (o : Fin 1024) :
    k0_pay2 (F := Ideal) s a b (ix2 r o) = s (ix2 r o) + ∑ k : Fin 1024, a (ix2 k r) * b (ix2 k o) := by
  unfold k0_pay2
  refine (shapeCast_apply _ _ _ (ix2 r o) rfl).trans ?_
  show s (ix2 r o) + FloatOps.matmul (F := Ideal) (rowDims 1024 1024 1024) none (a : FVec Ideal S1024x1024 .bf16) (b : FVec Ideal S1024x1024 .bf16) (constant S1024x1024 .f32 0x00000000#32) (ix2 r o) = _
  rw [matmul_row_apply]
  show _ + (Ideal.ofBits .f32 0x00000000#32 + _) = _
  rw [Ideal.ofBits_zero_f32, zero_add]

/-! ## From blocks to arrays -/

variable (m : (ℓ : Loc nD τ sig) → Buf (Elt Ideal) ℓ)

abbrev A (c : Dev nD) : S8192x1024.Idx → EReal := m ((c : Thread nD τ).loc main_arg0)
abbrev B (c : Dev nD) : S8192x1024.Idx → EReal := m ((c : Thread nD τ).loc main_arg1)

/-- The terms of an entry of the product. -/
abbrev term (a : S8192x1024.Idx → EReal) (b : S8192x1024.Idx → EReal) (r : Fin 1024) (o : Fin 1024) (k : Fin 8192) : EReal := a (ix2 k r) * b (ix2 k o)

def prod (a : S8192x1024.Idx → EReal) (b : S8192x1024.Idx → EReal) (r : Fin 1024) (o : Fin 1024) : EReal := ∑ k, term a b r o k

abbrev res (c : Dev nD) : Buf (Elt Ideal) ((c : Thread nD τ).loc main_v0) := fun i : S1024x1024.Idx => prod (A m c) (B m c) (i 0) (i 1)

abbrev blk0 (c : Dev nD) (t : Fin cfg0.N) : Vec Ideal S1024x1024 .bf16 := iblk m c 0 t
abbrev blk1 (c : Dev nD) (t : Fin cfg0.N) : Vec Ideal S1024x1024 .f32 := iblk m c 1 t

theorem idx_in : ∀ t : Fin cfg0.N, win0_0.index t 0 = t.val % 8 ∧ win0_0.index t 1 = 0 ∧ win0_1.index t 0 = t.val % 8 ∧ win0_1.index t 1 = 0
    ∧ win0_2.index t 0 = 0 ∧ win0_2.index t 1 = 0 :=
  (by decide +kernel : ∀ t : Fin grid0.N, _)

theorem ltN (t : Fin cfg0.N) : t.val < 8 := lt_of_lt_of_eq t.isLt N_0

abbrev gM (t : ℕ) (x : Fin 1024) : Fin 1024 := ⟨x.val, by have := x.isLt; omega⟩
abbrev gK (t : ℕ) (x : Fin 1024) : Fin 8192 := ⟨t % 8 * 1024 + x.val, by have := x.isLt; omega⟩
abbrev gN (t : ℕ) (x : Fin 1024) : Fin 1024 := ⟨x.val, by have := x.isLt; omega⟩

theorem blk0_at (c : Dev nD) (t : Fin cfg0.N) (k : Fin 1024) (r : Fin 1024) :
    blk0 m c t (ix2 k r) = A m c (ix2 (gK t.val k) (gM t.val r)) := by
  obtain ⟨e0, e1, -⟩ := idx_in t
  have h := ltN t
  show m ((c : Thread nD τ).loc main_arg0) _ = m ((c : Thread nD τ).loc main_arg0) _
  congr 1
  funext a; apply Fin.ext
  match a with
  | ⟨0, _⟩ => show win0_0.index t 0 * 1024 + 1 * k.val = t.val % 8 * 1024 + k.val; rw [e0]; omega
  | ⟨1, _⟩ => show win0_0.index t 1 * 1024 + 1 * r.val = r.val; rw [e1]; omega

theorem blk1_at (c : Dev nD) (t : Fin cfg0.N) (k : Fin 1024) (o : Fin 1024) :
    blk1 m c t (ix2 k o) = B m c (ix2 (gK t.val k) (gN t.val o)) := by
  obtain ⟨-, -, e0, e1, -⟩ := idx_in t
  have h := ltN t
  show m ((c : Thread nD τ).loc main_arg1) _ = m ((c : Thread nD τ).loc main_arg1) _
  congr 1
  funext a; apply Fin.ext
  match a with
  | ⟨0, _⟩ => show win0_1.index t 0 * 1024 + 1 * k.val = t.val % 8 * 1024 + k.val; rw [e0]; omega
  | ⟨1, _⟩ => show win0_1.index t 1 * 1024 + 1 * o.val = o.val; rw [e1]; omega

/-! ## The accumulator, point by point -/

abbrev prevAcc (c : Dev nD) (t : Fin cfg0.N) : Vec Ideal S1024x1024 .f32 :=
  (outsAt0 m c (t.val - 1) (Nat.lt_of_le_of_lt (Nat.sub_le _ _) t.isLt)).2

theorem acc_start (c : Dev nD) (t : Fin cfg0.N) (h0 : t.val % 8 = 0) :
    (outsAt0 m c t.val t.isLt).2 = k0_pay2 (F := Ideal) (k0_pay1 (F := Ideal)) (blk0 m c t) (blk1 m c t) := by
  rw [outsAt0_A m c t h0 (by omega)]; dsimp only; rw [sout_A]

theorem acc_next (c : Dev nD) (t : Fin cfg0.N) (h0 : ¬t.val % 8 = 0) :
    (outsAt0 m c t.val t.isLt).2 = k0_pay2 (F := Ideal) (prevAcc m c t) (blk0 m c t) (blk1 m c t) := by
  by_cases h1 : t.val % 8 = 7
  · rw [outsAt0_C m c t h0 h1]; dsimp only; rw [sout_C]
  · rw [outsAt0_B m c t h0 h1]; dsimp only; rw [sout_B]

theorem acc_full (c : Dev nD) (t : Fin cfg0.N) (h : t.val % 8 = 7) (r : Fin 1024) (o : Fin 1024) :
    (outsAt0 m c t.val t.isLt).2 (ix2 r o) = prod (A m c) (B m c) (gM t.val r) (gN t.val o) := by
  refine (acc_last 8 1024 rfl (by omega) (fun n h => (outsAt0 m c n h).2 (ix2 r o))
    (fun q => term (A m c) (B m c) ⟨r.val, by have := r.isLt; omega⟩ ⟨o.val, by have := o.isLt; omega⟩)
    (fun n h k => blk0 m c ⟨n, h⟩ (ix2 k r) * blk1 m c ⟨n, h⟩ (ix2 k o))
    (fun n h k hk => ?_)
    (fun n h e => ?_)
    (fun n h _ e => ?_)
    t.val t.isLt h).trans ?_
  · rw [blk0_at, blk1_at]
  · show (outsAt0 m c n h).2 (ix2 r o) = _
    rw [acc_start m c ⟨n, h⟩ e, pay2_apply, pay1_apply, zero_add]
  · show (outsAt0 m c n h).2 (ix2 r o) = _
    rw [acc_next m c ⟨n, h⟩ e, pay2_apply]
  · rfl

theorem flushed_eq (c : Dev nD) (t : Fin cfg0.N) (ht : (cfg0.win 2).flush t = true) :
    (dats m 0 c).flushed 2 t = ((cfg0.win 2).blk t).view.read (Elt Ideal) (res m c) := by
  obtain ⟨-, -, -, -, e0, e1⟩ := idx_in t
  have h := (flush0_2 t).1 ht
  have hN := ltN t
  have ea := acc_next m c t (by omega)
  rw [Value.flushed2, outsAt0_C m c t (by omega) h]
  dsimp only
  rw [out_C]
  funext j
  obtain ⟨r, o, rfl⟩ : ∃ (r : Fin 1024) (o : Fin 1024), j = ix2 r o := ⟨j 0, j 1, by funext a; match a with | ⟨0, _⟩ => rfl | ⟨1, _⟩ => rfl⟩
  show _ = res m c (((cfg0.win 2).blk t).view.emb (ix2 r o))
  have e : ((cfg0.win 2).blk t).view.emb (ix2 r o) = (ix2 (gM t.val r) (gN t.val o) : S1024x1024.Idx) := by
    funext a; apply Fin.ext
    match a with
    | ⟨0, _⟩ => show win0_2.index t 0 * 1024 + 1 * r.val = r.val; rw [e0]; omega
    | ⟨1, _⟩ => show win0_2.index t 1 * 1024 + 1 * o.val = o.val; rw [e1]; omega
  rw [e]
  exact ((congrFun ea.symm _).trans (acc_full m c t h r o))

theorem cover (i : S1024x1024.Idx) : ∃ t : Fin cfg0.N, (cfg0.win 2).flush t = true ∧ i ∈ ((cfg0.win 2).blk t).view.set :=
  (Value.covered_iff2 i).2 (by have h0 : (i 0).val < 1024 := (i 0).isLt; have h1 : (i 1).val < 1024 := (i 1).isLt; omega)

theorem final (c : Dev nD) : (dats m 0 c).arrAt 2 cfg0.N = res m c := (dats m 0 c).arrAt_eq_of_cover 2 (res m c) (flushed_eq m c) cover

/-! ## The reference -/

open Cert.Reference18Ideal.Read in
theorem ref_eq (a : S8192x1024.Idx → EReal) (b : S8192x1024.Idx → EReal) (r : Fin 1024) (o : Fin 1024) :
    val_main_v6 (F := Ideal) a b (ix2 r o) = prod a b r o := by
  show val_main_v4 (F := Ideal) a b (ix2 r o) = _
  rw [val_main_v4_apply, val_main_v3_apply]
  refine Finset.sum_congr rfl fun k _ => ?_
  have e1 : lidx_main_v3 (idx_main_v4 (ix2 r o)) k = ix2 k o := by
    funext a; apply Fin.ext
    match a with
    | ⟨0, _⟩ => rfl
    | ⟨1, _⟩ => rfl
  have e2 : ridx_main_v3 (idx_main_v4 (ix2 r o)) k = ix2 k r := by
    funext a; apply Fin.ext
    match a with
    | ⟨0, _⟩ => rfl
    | ⟨1, _⟩ => rfl
  rw [e1, e2]
  exact mul_comm (b (ix2 k o)) (a (ix2 k r))

theorem ref_arr (c : Dev nD) : Cert.Reference18Ideal.Read.val_main_v6 (F := Ideal) (A m c) (B m c) = res m c := by
  funext i
  obtain ⟨r, o, rfl⟩ : ∃ (r : Fin 1024) (o : Fin 1024), i = ix2 r o := ⟨i 0, i 1, by funext a; match a with | ⟨0, _⟩ => rfl | ⟨1, _⟩ => rfl⟩
  exact ref_eq _ _ r o

theorem algebraic [Cert.Kernel18Ideal.Facts] [Cert.Reference18Ideal.Facts] : Cert.algebraic_Kernel18Ideal_Reference18Ideal := by
  pair_intro
  · run_from Cert.Kernel18Ideal.Value.run_blocks m g
  · run_from Cert.Reference18Ideal.Value.run m' g'
    exact (Cert.Reference18Ideal.Read.val_main_v6_eq (F := Ideal) (A m c) (B m c)).trans ((ref_arr m c).trans (final m c).symm)

end Cert.Proof.Dwo

end
-- ==== Proof.Dwxq.lean ====
/-
  The gradient of a square weight from a cotangent in half precision: the queries of the memory attention and the second
  mixer, accumulated over blocks of 1024 tokens.
-/
module

public import proofs.«01_k».proof.Defs
public import proofs.«01_k».proof.Proof.Gen.Kernel19Ideal.Value
public import proofs.«01_k».proof.Proof.Gen.Reference19Ideal.Read
public import proofs.«01_k».proof.Proof.Common
public import Idealize.ShloMosaic.Lib.Tactic
public import Idealize.ShloMosaic.Lib.Claim

@[expose] public section

set_option maxRecDepth 16384

noncomputable section

open Idealize.ShloMosaic hiding ix1 ix2 ix3
open Idealize.ShloMosaic.TcCoe Idealize.ShloMosaic.ValueIdx Idealize.SL.Sem
open scoped BigOperators

namespace Cert.Proof.Dwxq

open Cert.Kernel19Ideal Cert.Kernel19Ideal.Gen

theorem hz : (![0, 0] : Fin 2 → Nat) = fun _ => 0 := funext fun a => by fin_cases a <;> rfl

/-! ## What a point of the grid leaves -/

section Outs
variable {F : FTy → Type} [FloatOps F]
variable (c : Dev nD) (i : grid0.Coords) (arg3 : Memref sig .tc .vmem S1024x1024 .bf16) (harg3 : arg3.IsWhole) (arg4 : Memref sig .tc .vmem S1024x1024 .bf16) (harg4 : arg4.IsWhole)
  (arg5 : Memref sig .tc .vmem S1024x1024 .bf16) (harg5 : arg5.IsWhole) (arg6 : Memref sig .tc .vmem S1024x1024 .f32) (harg6 : arg6.IsWhole)
  (x0 : Vec F S1024x1024 .bf16) (x1 : Vec F S1024x1024 .bf16) (xs0 : Vec F S1024x1024 .f32)

theorem sout_A (hc0 : cond0_0 i) (hc1 : ¬cond0_1 i) :
    sout0_A_0 c i arg3 harg3 arg4 harg4 arg5 harg5 arg6 harg6 hc0 hc1 x0 x1 = k0_pay2 k0_pay1 x0 x1 := by
  unfold sout0_A_0
  rw [View.read_writes_eq_canon _ _ _ (scover0_A_0 c i arg3 harg3 arg4 harg4 arg5 harg5 arg6 harg6 hc0 hc1 x0 x1)]
  unfold kernelRun0_A
  dsimp only
  sl_unfold_words
  rw [View.canon_cons_unit_zero hz, View.readCov_unit_zero (S := S1024x1024) _ hz]
  simp only [View.readAt_eq_ld, harg3.read_unread, harg4.read_unread, View.ld_unit_zero (S := S1024x1024) hz]

theorem sout_B (hc0 : ¬cond0_0 i) (hc1 : ¬cond0_1 i) :
    sout0_B_0 c i arg3 harg3 arg4 harg4 arg5 harg5 arg6 harg6 hc0 hc1 x0 x1 xs0 = k0_pay2 xs0 x0 x1 := by
  unfold sout0_B_0
  rw [View.read_writes_eq_canon _ _ _ (scover0_B_0 c i arg3 harg3 arg4 harg4 arg5 harg5 arg6 harg6 hc0 hc1 x0 x1 xs0)]
  unfold kernelRun0_B
  dsimp only
  sl_unfold_words
  rw [View.canon_unit_zero hz]
  simp only [View.readAt_eq_ld, harg3.read_unread, harg4.read_unread, harg6.read_unread, View.ld_unit_zero (S := S1024x1024) hz]

theorem sout_C (hc0 : ¬cond0_0 i) (hc1 : cond0_1 i) :
    sout0_C_0 c i arg3 harg3 arg4 harg4 arg5 harg5 arg6 harg6 hc0 hc1 x0 x1 xs0 = k0_pay2 xs0 x0 x1 := by
  unfold sout0_C_0
  rw [View.read_writes_eq_canon _ _ _ (scover0_C_0 c i arg3 harg3 arg4 harg4 arg5 harg5 arg6 harg6 hc0 hc1 x0 x1 xs0)]
  unfold kernelRun0_C
  dsimp only
  sl_unfold_words
  rw [View.canon_unit_zero hz]
  simp only [View.readAt_eq_ld, harg3.read_unread, harg4.read_unread, harg6.read_unread, View.ld_unit_zero (S := S1024x1024) hz]

theorem out_C (hc0 : ¬cond0_0 i) (hc1 : cond0_1 i) :
    out0_C_2 c i arg3 harg3 arg4 harg4 arg5 harg5 arg6 harg6 hc0 hc1 x0 x1 xs0 = k0_pay3 (k0_pay2 xs0 x0 x1) := by
  unfold out0_C_2
  rw [View.read_writes_eq_canon _ _ _ (cover0_C_2 c i arg3 harg3 arg4 harg4 arg5 harg5 arg6 harg6 hc0 hc1 x0 x1 xs0)]
  unfold kernelRun0_C
  dsimp only
  sl_unfold_words
  rw [View.canon_unit_zero hz, View.readCov_unit_zero (S := S1024x1024) _ hz]
  simp only [View.readAt_eq_ld, harg3.read_unread, harg4.read_unread, harg6.read_unread, View.ld_unit_zero (S := S1024x1024) hz]

end Outs

/-! ## The payloads at an index -/

theorem pay1_apply (j : S1024x1024.Idx) : k0_pay1 (F := Ideal) j = 0 := Ideal.ofBits_zero_f32

theorem pay2_apply (s : Vec Ideal S1024x1024 .f32) (a : Vec Ideal S1024x1024 .bf16) (b : Vec Ideal S1024x1024 .bf16) (r : Fin 1024) (o : Fin 1024) :
    k0_pay2 (F := Ideal) s a b (ix2 r o) = s (ix2 r o) + ∑ k : Fin 1024, a (ix2 k r) * b (ix2 k o) := by
  unfold k0_pay2
  refine (shapeCast_apply _ _ _ (ix2 r o) rfl).trans ?_
  show s (ix2 r o) + FloatOps.matmul (F := Ideal) (rowDims 1024 1024 1024) none (a : FVec Ideal S1024x1024 .bf16) (b : FVec Ideal S1024x1024 .bf16) (constant S1024x1024 .f32 0x00000000#32) (ix2 r o) = _
  rw [matmul_row_apply]
  show _ + (Ideal.ofBits .f32 0x00000000#32 + _) = _
  rw [Ideal.ofBits_zero_f32, zero_add]

/-! ## From blocks to arrays -/

variable (m : (ℓ : Loc nD τ sig) → Buf (Elt Ideal) ℓ)

abbrev A (c : Dev nD) : S8192x1024.Idx → EReal := m ((c : Thread nD τ).loc main_arg0)
abbrev B (c : Dev nD) : S8192x1024.Idx → EReal := m ((c : Thread nD τ).loc main_arg1)

/-- The terms of an entry of the product. -/
abbrev term (a : S8192x1024.Idx → EReal) (b : S8192x1024.Idx → EReal) (r : Fin 1024) (o : Fin 1024) (k : Fin 8192) : EReal := a (ix2 k r) * b (ix2 k o)

def prod (a : S8192x1024.Idx → EReal) (b : S8192x1024.Idx → EReal) (r : Fin 1024) (o : Fin 1024) : EReal := ∑ k, term a b r o k

abbrev res (c : Dev nD) : Buf (Elt Ideal) ((c : Thread nD τ).loc main_v0) := fun i : S1024x1024.Idx => prod (A m c) (B m c) (i 0) (i 1)

abbrev blk0 (c : Dev nD) (t : Fin cfg0.N) : Vec Ideal S1024x1024 .bf16 := iblk m c 0 t
abbrev blk1 (c : Dev nD) (t : Fin cfg0.N) : Vec Ideal S1024x1024 .bf16 := iblk m c 1 t

theorem idx_in : ∀ t : Fin cfg0.N, win0_0.index t 0 = t.val % 8 ∧ win0_0.index t 1 = 0 ∧ win0_1.index t 0 = t.val % 8 ∧ win0_1.index t 1 = 0
    ∧ win0_2.index t 0 = 0 ∧ win0_2.index t 1 = 0 :=
  (by decide +kernel : ∀ t : Fin grid0.N, _)

theorem ltN (t : Fin cfg0.N) : t.val < 8 := lt_of_lt_of_eq t.isLt N_0

abbrev gM (t : ℕ) (x : Fin 1024) : Fin 1024 := ⟨x.val, by have := x.isLt; omega⟩
abbrev gK (t : ℕ) (x : Fin 1024) : Fin 8192 := ⟨t % 8 * 1024 + x.val, by have := x.isLt; omega⟩
abbrev gN (t : ℕ) (x : Fin 1024) : Fin 1024 := ⟨x.val, by have := x.isLt; omega⟩

theorem blk0_at (c : Dev nD) (t : Fin cfg0.N) (k : Fin 1024) (r : Fin 1024) :
    blk0 m c t (ix2 k r) = A m c (ix2 (gK t.val k) (gM t.val r)) := by
  obtain ⟨e0, e1, -⟩ := idx_in t
  have h := ltN t
  show m ((c : Thread nD τ).loc main_arg0) _ = m ((c : Thread nD τ).loc main_arg0) _
  congr 1
  funext a; apply Fin.ext
  match a with
  | ⟨0, _⟩ => show win0_0.index t 0 * 1024 + 1 * k.val = t.val % 8 * 1024 + k.val; rw [e0]; omega
  | ⟨1, _⟩ => show win0_0.index t 1 * 1024 + 1 * r.val = r.val; rw [e1]; omega

theorem blk1_at (c : Dev nD) (t : Fin cfg0.N) (k : Fin 1024) (o : Fin 1024) :
    blk1 m c t (ix2 k o) = B m c (ix2 (gK t.val k) (gN t.val o)) := by
  obtain ⟨-, -, e0, e1, -⟩ := idx_in t
  have h := ltN t
  show m ((c : Thread nD τ).loc main_arg1) _ = m ((c : Thread nD τ).loc main_arg1) _
  congr 1
  funext a; apply Fin.ext
  match a with
  | ⟨0, _⟩ => show win0_1.index t 0 * 1024 + 1 * k.val = t.val % 8 * 1024 + k.val; rw [e0]; omega
  | ⟨1, _⟩ => show win0_1.index t 1 * 1024 + 1 * o.val = o.val; rw [e1]; omega

/-! ## The accumulator, point by point -/

abbrev prevAcc (c : Dev nD) (t : Fin cfg0.N) : Vec Ideal S1024x1024 .f32 :=
  (outsAt0 m c (t.val - 1) (Nat.lt_of_le_of_lt (Nat.sub_le _ _) t.isLt)).2

theorem acc_start (c : Dev nD) (t : Fin cfg0.N) (h0 : t.val % 8 = 0) :
    (outsAt0 m c t.val t.isLt).2 = k0_pay2 (F := Ideal) (k0_pay1 (F := Ideal)) (blk0 m c t) (blk1 m c t) := by
  rw [outsAt0_A m c t h0 (by omega)]; dsimp only; rw [sout_A]

theorem acc_next (c : Dev nD) (t : Fin cfg0.N) (h0 : ¬t.val % 8 = 0) :
    (outsAt0 m c t.val t.isLt).2 = k0_pay2 (F := Ideal) (prevAcc m c t) (blk0 m c t) (blk1 m c t) := by
  by_cases h1 : t.val % 8 = 7
  · rw [outsAt0_C m c t h0 h1]; dsimp only; rw [sout_C]
  · rw [outsAt0_B m c t h0 h1]; dsimp only; rw [sout_B]

theorem acc_full (c : Dev nD) (t : Fin cfg0.N) (h : t.val % 8 = 7) (r : Fin 1024) (o : Fin 1024) :
    (outsAt0 m c t.val t.isLt).2 (ix2 r o) = prod (A m c) (B m c) (gM t.val r) (gN t.val o) := by
  refine (acc_last 8 1024 rfl (by omega) (fun n h => (outsAt0 m c n h).2 (ix2 r o))
    (fun q => term (A m c) (B m c) ⟨r.val, by have := r.isLt; omega⟩ ⟨o.val, by have := o.isLt; omega⟩)
    (fun n h k => blk0 m c ⟨n, h⟩ (ix2 k r) * blk1 m c ⟨n, h⟩ (ix2 k o))
    (fun n h k hk => ?_)
    (fun n h e => ?_)
    (fun n h _ e => ?_)
    t.val t.isLt h).trans ?_
  · rw [blk0_at, blk1_at]
  · show (outsAt0 m c n h).2 (ix2 r o) = _
    rw [acc_start m c ⟨n, h⟩ e, pay2_apply, pay1_apply, zero_add]
  · show (outsAt0 m c n h).2 (ix2 r o) = _
    rw [acc_next m c ⟨n, h⟩ e, pay2_apply]
  · rfl

theorem flushed_eq (c : Dev nD) (t : Fin cfg0.N) (ht : (cfg0.win 2).flush t = true) :
    (dats m 0 c).flushed 2 t = ((cfg0.win 2).blk t).view.read (Elt Ideal) (res m c) := by
  obtain ⟨-, -, -, -, e0, e1⟩ := idx_in t
  have h := (flush0_2 t).1 ht
  have hN := ltN t
  have ea := acc_next m c t (by omega)
  rw [Value.flushed2, outsAt0_C m c t (by omega) h]
  dsimp only
  rw [out_C]
  funext j
  obtain ⟨r, o, rfl⟩ : ∃ (r : Fin 1024) (o : Fin 1024), j = ix2 r o := ⟨j 0, j 1, by funext a; match a with | ⟨0, _⟩ => rfl | ⟨1, _⟩ => rfl⟩
  show _ = res m c (((cfg0.win 2).blk t).view.emb (ix2 r o))
  have e : ((cfg0.win 2).blk t).view.emb (ix2 r o) = (ix2 (gM t.val r) (gN t.val o) : S1024x1024.Idx) := by
    funext a; apply Fin.ext
    match a with
    | ⟨0, _⟩ => show win0_2.index t 0 * 1024 + 1 * r.val = r.val; rw [e0]; omega
    | ⟨1, _⟩ => show win0_2.index t 1 * 1024 + 1 * o.val = o.val; rw [e1]; omega
  rw [e]
  exact ((congrFun ea.symm _).trans (acc_full m c t h r o))

theorem cover (i : S1024x1024.Idx) : ∃ t : Fin cfg0.N, (cfg0.win 2).flush t = true ∧ i ∈ ((cfg0.win 2).blk t).view.set :=
  (Value.covered_iff2 i).2 (by have h0 : (i 0).val < 1024 := (i 0).isLt; have h1 : (i 1).val < 1024 := (i 1).isLt; omega)

theorem final (c : Dev nD) : (dats m 0 c).arrAt 2 cfg0.N = res m c := (dats m 0 c).arrAt_eq_of_cover 2 (res m c) (flushed_eq m c) cover

/-! ## The reference -/

open Cert.Reference19Ideal.Read in
theorem ref_eq (a : S8192x1024.Idx → EReal) (b : S8192x1024.Idx → EReal) (r : Fin 1024) (o : Fin 1024) :
    val_main_v7 (F := Ideal) a b (ix2 r o) = prod a b r o := by
  show val_main_v5 (F := Ideal) a b (ix2 r o) = _
  rw [val_main_v5_apply, val_main_v4_apply]
  refine Finset.sum_congr rfl fun k _ => ?_
  have e1 : lidx_main_v4 (idx_main_v5 (ix2 r o)) k = ix2 k o := by
    funext a; apply Fin.ext
    match a with
    | ⟨0, _⟩ => rfl
    | ⟨1, _⟩ => rfl
  have e2 : ridx_main_v4 (idx_main_v5 (ix2 r o)) k = ix2 k r := by
    funext a; apply Fin.ext
    match a with
    | ⟨0, _⟩ => rfl
    | ⟨1, _⟩ => rfl
  rw [e1, e2]
  exact mul_comm (b (ix2 k o)) (a (ix2 k r))

theorem ref_arr (c : Dev nD) : Cert.Reference19Ideal.Read.val_main_v7 (F := Ideal) (A m c) (B m c) = res m c := by
  funext i
  obtain ⟨r, o, rfl⟩ : ∃ (r : Fin 1024) (o : Fin 1024), i = ix2 r o := ⟨i 0, i 1, by funext a; match a with | ⟨0, _⟩ => rfl | ⟨1, _⟩ => rfl⟩
  exact ref_eq _ _ r o

theorem algebraic [Cert.Kernel19Ideal.Facts] [Cert.Reference19Ideal.Facts] : Cert.algebraic_Kernel19Ideal_Reference19Ideal := by
  pair_intro
  · run_from Cert.Kernel19Ideal.Value.run_blocks m g
  · run_from Cert.Reference19Ideal.Value.run m' g'
    exact (Cert.Reference19Ideal.Read.val_main_v7_eq (F := Ideal) (A m c) (B m c)).trans ((ref_arr m c).trans (final m c).symm)

end Cert.Proof.Dwxq

end
-- ==== Proof.Upa.lean ====
/-
  The first mixer back to the model width: a product with a matrix of 512 rows.
-/
module

public import proofs.«01_k».proof.Defs
public import proofs.«01_k».proof.Proof.Gen.Kernel20Ideal.Value
public import proofs.«01_k».proof.Proof.Gen.Reference20Ideal.Read
public import proofs.«01_k».proof.Proof.Common
public import Idealize.ShloMosaic.Lib.Tactic
public import Idealize.ShloMosaic.Lib.Claim

@[expose] public section

set_option maxRecDepth 16384

noncomputable section

open Idealize.ShloMosaic hiding ix1 ix2 ix3
open Idealize.ShloMosaic.TcCoe Idealize.ShloMosaic.ValueIdx Idealize.SL.Sem
open scoped BigOperators

namespace Cert.Proof.Upa

open Cert.Kernel20Ideal Cert.Kernel20Ideal.Gen

theorem hz : (![0, 0] : Fin 2 → Nat) = fun _ => 0 := funext fun a => by fin_cases a <;> rfl

/-! ## What a point of the grid leaves -/

theorem out_A {F : FTy → Type} [FloatOps F] (c : Dev nD) (i : grid0.Coords) (arg3 : Memref sig .tc .vmem S1024x512 .bf16) (harg3 : arg3.IsWhole)
    (arg4 : Memref sig .tc .vmem S512x1024 .bf16) (harg4 : arg4.IsWhole) (arg5 : Memref sig .tc .vmem S1024x1024 .bf16) (harg5 : arg5.IsWhole)
    (arg6 : Memref sig .tc .vmem S1024x1024 .f32) (harg6 : arg6.IsWhole) (x0 : Vec F S1024x512 .bf16) (x1 : Vec F S512x1024 .bf16)
    (hc0 : cond0_0 i) (hc1 : cond0_1 i) :
    out0_A_2 c i arg3 harg3 arg4 harg4 arg5 harg5 arg6 harg6 hc0 hc1 x0 x1 = k0_pay3 (k0_pay2 k0_pay1 x0 x1) := by
  unfold out0_A_2
  rw [View.read_writes_eq_canon _ _ _ (cover0_A_2 c i arg3 harg3 arg4 harg4 arg5 harg5 arg6 harg6 hc0 hc1 x0 x1)]
  unfold kernelRun0_A
  dsimp only
  sl_unfold_words
  rw [View.canon_unit_zero hz, readCov_cons_zero (S := S1024x1024) _ hz, View.readCov_unit_zero (S := S1024x1024) _ hz]
  simp only [View.readAt_eq_ld, harg3.read_unread, harg4.read_unread, View.ld_unit_zero (S := S1024x512) hz, View.ld_unit_zero (S := S512x1024) hz]

/-- A block of the product. -/
theorem pay_apply (a : Vec Ideal S1024x512 .bf16) (b : Vec Ideal S512x1024 .bf16) (r : Fin 1024) (o : Fin 1024) :
    k0_pay3 (F := Ideal) (k0_pay2 (k0_pay1 (F := Ideal)) a b) (ix2 r o) = ∑ k : Fin 512, a (ix2 r k) * b (ix2 k o) := by
  show k0_pay2 (F := Ideal) (k0_pay1 (F := Ideal)) a b (ix2 r o) = _
  unfold k0_pay2
  refine (shapeCast_apply _ _ _ (ix2 r o) rfl).trans ?_
  show Ideal.ofBits .f32 0x00000000#32 + FloatOps.matmul (F := Ideal) (DotDims.plain 1024 512 1024) none (a : FVec Ideal S1024x512 .bf16) (b : FVec Ideal S512x1024 .bf16) (constant S1024x1024 .f32 0x00000000#32) (ix2 r o) = _
  rw [Ideal.matmul_plain_apply]
  show Ideal.ofBits .f32 0x00000000#32 + (Ideal.ofBits .f32 0x00000000#32 + _) = _
  rw [Ideal.ofBits_zero_f32, zero_add, zero_add]

/-! ## From blocks to arrays -/

variable (m : (ℓ : Loc nD τ sig) → Buf (Elt Ideal) ℓ)

abbrev A (c : Dev nD) : S8192x512.Idx → EReal := m ((c : Thread nD τ).loc main_arg0)
abbrev B (c : Dev nD) : S512x1024.Idx → EReal := m ((c : Thread nD τ).loc main_arg1)

def prod (a : S8192x512.Idx → EReal) (b : S512x1024.Idx → EReal) (r : Fin 8192) (o : Fin 1024) : EReal := ∑ k : Fin 512, a (ix2 r k) * b (ix2 k o)

abbrev res (c : Dev nD) : Buf (Elt Ideal) ((c : Thread nD τ).loc main_v0) := fun i : S8192x1024.Idx => prod (A m c) (B m c) (i 0) (i 1)

abbrev blk0 (c : Dev nD) (t : Fin cfg0.N) : Vec Ideal S1024x512 .bf16 := iblk m c 0 t
abbrev blk1 (c : Dev nD) (t : Fin cfg0.N) : Vec Ideal S512x1024 .bf16 := iblk m c 1 t

theorem idx_in : ∀ t : Fin cfg0.N, win0_0.index t 0 = t.val ∧ win0_0.index t 1 = 0 ∧ win0_1.index t 0 = 0 ∧ win0_1.index t 1 = 0
    ∧ win0_2.index t 0 = t.val ∧ win0_2.index t 1 = 0 :=
  (by decide +kernel : ∀ t : Fin grid0.N, _)

theorem ltN (t : Fin cfg0.N) : t.val < 8 := lt_of_lt_of_eq t.isLt N_0

abbrev gM (t : Fin cfg0.N) (x : Fin 1024) : Fin 8192 := ⟨t.val * 1024 + x.val, by have := x.isLt; have := ltN t; omega⟩
abbrev gN (t : Fin cfg0.N) (o : Fin 1024) : Fin 1024 := ⟨o.val, by have := o.isLt; have := ltN t; omega⟩

theorem blk0_at (c : Dev nD) (t : Fin cfg0.N) (r : Fin 1024) (k : Fin 512) : blk0 m c t (ix2 r k) = A m c (ix2 (gM t r) k) := by
  obtain ⟨e0, e1, -⟩ := idx_in t
  show m ((c : Thread nD τ).loc main_arg0) _ = m ((c : Thread nD τ).loc main_arg0) _
  congr 1
  funext a; apply Fin.ext
  match a with
  | ⟨0, _⟩ => show win0_0.index t 0 * 1024 + 1 * r.val = t.val * 1024 + r.val; rw [e0]; omega
  | ⟨1, _⟩ => show win0_0.index t 1 * 512 + 1 * k.val = k.val; rw [e1]; omega

theorem blk1_at (c : Dev nD) (t : Fin cfg0.N) (k : Fin 512) (o : Fin 1024) : blk1 m c t (ix2 k o) = B m c (ix2 k (gN t o)) := by
  obtain ⟨-, -, e0, e1, -⟩ := idx_in t
  show m ((c : Thread nD τ).loc main_arg1) _ = m ((c : Thread nD τ).loc main_arg1) _
  congr 1
  funext a; apply Fin.ext
  match a with
  | ⟨0, _⟩ => show win0_1.index t 0 * 512 + 1 * k.val = k.val; rw [e0]; omega
  | ⟨1, _⟩ => show win0_1.index t 1 * 1024 + 1 * o.val = o.val; rw [e1]; omega

theorem flushed_eq (c : Dev nD) (t : Fin cfg0.N) (_ : (cfg0.win 2).flush t = true) :
    (dats m 0 c).flushed 2 t = ((cfg0.win 2).blk t).view.read (Elt Ideal) (res m c) := by
  obtain ⟨-, -, -, -, e0, e1⟩ := idx_in t
  rw [Value.flushed2]
  unfold outsAt0
  rw [out_A]
  funext j
  obtain ⟨r, o, rfl⟩ : ∃ (r : Fin 1024) (o : Fin 1024), j = ix2 r o := ⟨j 0, j 1, by funext a; match a with | ⟨0, _⟩ => rfl | ⟨1, _⟩ => rfl⟩
  show _ = res m c (((cfg0.win 2).blk t).view.emb (ix2 r o))
  have e : ((cfg0.win 2).blk t).view.emb (ix2 r o) = (ix2 (gM t r) (gN t o) : S8192x1024.Idx) := by
    funext a; apply Fin.ext
    match a with
    | ⟨0, _⟩ => show win0_2.index t 0 * 1024 + 1 * r.val = t.val * 1024 + r.val; rw [e0]; omega
    | ⟨1, _⟩ => show win0_2.index t 1 * 1024 + 1 * o.val = o.val; rw [e1]; omega
  rw [e]
  refine (pay_apply (blk0 m c t) (blk1 m c t) r o).trans ?_
  show _ = prod (A m c) (B m c) (gM t r) (gN t o)
  exact Finset.sum_congr rfl fun k _ => by rw [blk0_at, blk1_at]

theorem idx_onto : ∀ p : Fin 8 × Fin 1, ∃ t : Fin cfg0.N, win0_2.index t 0 = p.1.val ∧ win0_2.index t 1 = p.2.val :=
  (by decide +kernel : ∀ p : Fin 8 × Fin 1, ∃ t : Fin grid0.N, win0_2.index t 0 = p.1.val ∧ win0_2.index t 1 = p.2.val)

theorem cover (i : S8192x1024.Idx) : ∃ t : Fin cfg0.N, (cfg0.win 2).flush t = true ∧ i ∈ ((cfg0.win 2).blk t).view.set := by
  have h0 : (i 0 : Nat) < 8192 := (i 0).isLt
  have h1 : (i 1 : Nat) < 1024 := (i 1).isLt
  obtain ⟨t, e0, e1⟩ := idx_onto (⟨(i 0).val / 1024, by omega⟩, ⟨(i 1).val / 1024, by omega⟩)
  refine ⟨t, flush0_2 t, ?_⟩
  show i ∈ ((View.whole main_v0).slice (win0_2.rect t)).set
  rw [View.set_slice_whole, Rect.mem_set_unit]
  intro a
  match a with
  | ⟨0, _⟩ => show win0_2.index t 0 * 1024 ≤ (i 0).val ∧ (i 0).val < win0_2.index t 0 * 1024 + 1024; rw [e0]; dsimp only; omega
  | ⟨1, _⟩ => show win0_2.index t 1 * 1024 ≤ (i 1).val ∧ (i 1).val < win0_2.index t 1 * 1024 + 1024; rw [e1]; dsimp only; omega

theorem final (c : Dev nD) : (dats m 0 c).arrAt 2 cfg0.N = res m c := (dats m 0 c).arrAt_eq_of_cover 2 (res m c) (flushed_eq m c) cover

/-! ## The reference -/

open Cert.Reference20Ideal.Read in
theorem ref_eq (a : S8192x512.Idx → EReal) (b : S512x1024.Idx → EReal) (r : Fin 8192) (o : Fin 1024) :
    val_main_v3 (F := Ideal) a b (ix2 r o) = prod a b r o := by
  show val_main_v2 (F := Ideal) a b (ix2 r o) = _
  rw [val_main_v2_apply]
  refine Finset.sum_congr rfl fun k _ => ?_
  have e1 : lidx_main_v2 (ix2 r o) k = ix2 r k := by
    funext a; apply Fin.ext
    match a with
    | ⟨0, _⟩ => rfl
    | ⟨1, _⟩ => rfl
  have e2 : ridx_main_v2 (ix2 r o) k = ix2 k o := by
    funext a; apply Fin.ext
    match a with
    | ⟨0, _⟩ => rfl
    | ⟨1, _⟩ => rfl
  rw [e1, e2]
  rfl

theorem ref_arr (c : Dev nD) : Cert.Reference20Ideal.Read.val_main_v3 (F := Ideal) (A m c) (B m c) = res m c := by
  funext i
  obtain ⟨r, o, rfl⟩ : ∃ (r : Fin 8192) (o : Fin 1024), i = ix2 r o := ⟨i 0, i 1, by funext a; match a with | ⟨0, _⟩ => rfl | ⟨1, _⟩ => rfl⟩
  exact ref_eq _ _ r o

theorem algebraic [Cert.Kernel20Ideal.Facts] [Cert.Reference20Ideal.Facts] : Cert.algebraic_Kernel20Ideal_Reference20Ideal := by
  pair_intro
  · run_from Cert.Kernel20Ideal.Value.run_blocks m g
  · run_from Cert.Reference20Ideal.Value.run m' g'
    exact (Cert.Reference20Ideal.Read.val_main_v3_eq (F := Ideal) (A m c) (B m c)).trans ((ref_arr m c).trans (final m c).symm)

end Cert.Proof.Upa

end
-- ==== Proof.Dyc.lean ====
/-
  The gradient of a product with a matrix of 512 rows with respect to its rows: the first and the third mixer.
-/
module

public import proofs.«01_k».proof.Defs
public import proofs.«01_k».proof.Proof.Gen.Kernel21Ideal.Value
public import proofs.«01_k».proof.Proof.Gen.Reference21Ideal.Read
public import proofs.«01_k».proof.Proof.Common
public import Idealize.ShloMosaic.Lib.Tactic
public import Idealize.ShloMosaic.Lib.Claim

@[expose] public section

set_option maxRecDepth 16384

noncomputable section

open Idealize.ShloMosaic hiding ix1 ix2 ix3
open Idealize.ShloMosaic.TcCoe Idealize.ShloMosaic.ValueIdx Idealize.SL.Sem
open scoped BigOperators

namespace Cert.Proof.Dyc

open Cert.Kernel21Ideal Cert.Kernel21Ideal.Gen

theorem hz : (![0, 0] : Fin 2 → Nat) = fun _ => 0 := funext fun a => by fin_cases a <;> rfl

/-! ## What a point of the grid leaves -/

theorem out_A {F : FTy → Type} [FloatOps F] (c : Dev nD) (i : grid0.Coords) (arg3 : Memref sig .tc .vmem S1024x1024 .bf16) (harg3 : arg3.IsWhole)
    (arg4 : Memref sig .tc .vmem S512x1024 .bf16) (harg4 : arg4.IsWhole) (arg5 : Memref sig .tc .vmem S1024x512 .bf16) (harg5 : arg5.IsWhole)
    (arg6 : Memref sig .tc .vmem S1024x512 .f32) (harg6 : arg6.IsWhole) (x0 : Vec F S1024x1024 .bf16) (x1 : Vec F S512x1024 .bf16)
    (hc0 : cond0_0 i) (hc1 : cond0_1 i) :
    out0_A_2 c i arg3 harg3 arg4 harg4 arg5 harg5 arg6 harg6 hc0 hc1 x0 x1 = k0_pay3 (k0_pay2 k0_pay1 x0 x1) := by
  unfold out0_A_2
  rw [View.read_writes_eq_canon _ _ _ (cover0_A_2 c i arg3 harg3 arg4 harg4 arg5 harg5 arg6 harg6 hc0 hc1 x0 x1)]
  unfold kernelRun0_A
  dsimp only
  sl_unfold_words
  rw [View.canon_unit_zero hz, readCov_cons_zero (S := S1024x512) _ hz, View.readCov_unit_zero (S := S1024x512) _ hz]
  simp only [View.readAt_eq_ld, harg3.read_unread, harg4.read_unread, View.ld_unit_zero (S := S1024x1024) hz, View.ld_unit_zero (S := S512x1024) hz]

/-- A block of the product. -/
theorem pay_apply (a : Vec Ideal S1024x1024 .bf16) (b : Vec Ideal S512x1024 .bf16) (r : Fin 1024) (o : Fin 512) :
    k0_pay3 (F := Ideal) (k0_pay2 (k0_pay1 (F := Ideal)) a b) (ix2 r o) = ∑ k : Fin 1024, a (ix2 r k) * b (ix2 o k) := by
  show k0_pay2 (F := Ideal) (k0_pay1 (F := Ideal)) a b (ix2 r o) = _
  unfold k0_pay2
  refine (shapeCast_apply _ _ _ (ix2 r o) rfl).trans ?_
  show Ideal.ofBits .f32 0x00000000#32 + FloatOps.matmul (F := Ideal) (DotDims.transposedRhs 1024 1024 512) none (a : FVec Ideal S1024x1024 .bf16) (b : FVec Ideal S512x1024 .bf16) (constant S1024x512 .f32 0x00000000#32) (ix2 r o) = _
  rw [Ideal.matmul_transposedRhs_apply]
  show Ideal.ofBits .f32 0x00000000#32 + (Ideal.ofBits .f32 0x00000000#32 + _) = _
  rw [Ideal.ofBits_zero_f32, zero_add, zero_add]

/-! ## From blocks to arrays -/

variable (m : (ℓ : Loc nD τ sig) → Buf (Elt Ideal) ℓ)

abbrev A (c : Dev nD) : S8192x1024.Idx → EReal := m ((c : Thread nD τ).loc main_arg0)
abbrev B (c : Dev nD) : S512x1024.Idx → EReal := m ((c : Thread nD τ).loc main_arg1)

def prod (a : S8192x1024.Idx → EReal) (b : S512x1024.Idx → EReal) (r : Fin 8192) (o : Fin 512) : EReal := ∑ k : Fin 1024, a (ix2 r k) * b (ix2 o k)

abbrev res (c : Dev nD) : Buf (Elt Ideal) ((c : Thread nD τ).loc main_v0) := fun i : S8192x512.Idx => prod (A m c) (B m c) (i 0) (i 1)

abbrev blk0 (c : Dev nD) (t : Fin cfg0.N) : Vec Ideal S1024x1024 .bf16 := iblk m c 0 t
abbrev blk1 (c : Dev nD) (t : Fin cfg0.N) : Vec Ideal S512x1024 .bf16 := iblk m c 1 t

theorem idx_in : ∀ t : Fin cfg0.N, win0_0.index t 0 = t.val ∧ win0_0.index t 1 = 0 ∧ win0_1.index t 0 = 0 ∧ win0_1.index t 1 = 0
    ∧ win0_2.index t 0 = t.val ∧ win0_2.index t 1 = 0 :=
  (by decide +kernel : ∀ t : Fin grid0.N, _)

theorem ltN (t : Fin cfg0.N) : t.val < 8 := lt_of_lt_of_eq t.isLt N_0

abbrev gM (t : Fin cfg0.N) (x : Fin 1024) : Fin 8192 := ⟨t.val * 1024 + x.val, by have := x.isLt; have := ltN t; omega⟩
abbrev gN (t : Fin cfg0.N) (o : Fin 512) : Fin 512 := ⟨o.val, by have := o.isLt; have := ltN t; omega⟩

theorem blk0_at (c : Dev nD) (t : Fin cfg0.N) (r : Fin 1024) (k : Fin 1024) : blk0 m c t (ix2 r k) = A m c (ix2 (gM t r) k) := by
  obtain ⟨e0, e1, -⟩ := idx_in t
  show m ((c : Thread nD τ).loc main_arg0) _ = m ((c : Thread nD τ).loc main_arg0) _
  congr 1
  funext a; apply Fin.ext
  match a with
  | ⟨0, _⟩ => show win0_0.index t 0 * 1024 + 1 * r.val = t.val * 1024 + r.val; rw [e0]; omega
  | ⟨1, _⟩ => show win0_0.index t 1 * 1024 + 1 * k.val = k.val; rw [e1]; omega

theorem blk1_at (c : Dev nD) (t : Fin cfg0.N) (k : Fin 1024) (o : Fin 512) : blk1 m c t (ix2 o k) = B m c (ix2 (gN t o) k) := by
  obtain ⟨-, -, e0, e1, -⟩ := idx_in t
  show m ((c : Thread nD τ).loc main_arg1) _ = m ((c : Thread nD τ).loc main_arg1) _
  congr 1
  funext a; apply Fin.ext
  match a with
  | ⟨0, _⟩ => show win0_1.index t 0 * 512 + 1 * o.val = o.val; rw [e0]; omega
  | ⟨1, _⟩ => show win0_1.index t 1 * 1024 + 1 * k.val = k.val; rw [e1]; omega

theorem flushed_eq (c : Dev nD) (t : Fin cfg0.N) (_ : (cfg0.win 2).flush t = true) :
    (dats m 0 c).flushed 2 t = ((cfg0.win 2).blk t).view.read (Elt Ideal) (res m c) := by
  obtain ⟨-, -, -, -, e0, e1⟩ := idx_in t
  rw [Value.flushed2]
  unfold outsAt0
  rw [out_A]
  funext j
  obtain ⟨r, o, rfl⟩ : ∃ (r : Fin 1024) (o : Fin 512), j = ix2 r o := ⟨j 0, j 1, by funext a; match a with | ⟨0, _⟩ => rfl | ⟨1, _⟩ => rfl⟩
  show _ = res m c (((cfg0.win 2).blk t).view.emb (ix2 r o))
  have e : ((cfg0.win 2).blk t).view.emb (ix2 r o) = (ix2 (gM t r) (gN t o) : S8192x512.Idx) := by
    funext a; apply Fin.ext
    match a with
    | ⟨0, _⟩ => show win0_2.index t 0 * 1024 + 1 * r.val = t.val * 1024 + r.val; rw [e0]; omega
    | ⟨1, _⟩ => show win0_2.index t 1 * 512 + 1 * o.val = o.val; rw [e1]; omega
  rw [e]
  refine (pay_apply (blk0 m c t) (blk1 m c t) r o).trans ?_
  show _ = prod (A m c) (B m c) (gM t r) (gN t o)
  exact Finset.sum_congr rfl fun k _ => by rw [blk0_at, blk1_at]

theorem idx_onto : ∀ p : Fin 8 × Fin 1, ∃ t : Fin cfg0.N, win0_2.index t 0 = p.1.val ∧ win0_2.index t 1 = p.2.val :=
  (by decide +kernel : ∀ p : Fin 8 × Fin 1, ∃ t : Fin grid0.N, win0_2.index t 0 = p.1.val ∧ win0_2.index t 1 = p.2.val)

theorem cover (i : S8192x512.Idx) : ∃ t : Fin cfg0.N, (cfg0.win 2).flush t = true ∧ i ∈ ((cfg0.win 2).blk t).view.set := by
  have h0 : (i 0 : Nat) < 8192 := (i 0).isLt
  have h1 : (i 1 : Nat) < 512 := (i 1).isLt
  obtain ⟨t, e0, e1⟩ := idx_onto (⟨(i 0).val / 1024, by omega⟩, ⟨(i 1).val / 512, by omega⟩)
  refine ⟨t, flush0_2 t, ?_⟩
  show i ∈ ((View.whole main_v0).slice (win0_2.rect t)).set
  rw [View.set_slice_whole, Rect.mem_set_unit]
  intro a
  match a with
  | ⟨0, _⟩ => show win0_2.index t 0 * 1024 ≤ (i 0).val ∧ (i 0).val < win0_2.index t 0 * 1024 + 1024; rw [e0]; dsimp only; omega
  | ⟨1, _⟩ => show win0_2.index t 1 * 512 ≤ (i 1).val ∧ (i 1).val < win0_2.index t 1 * 512 + 512; rw [e1]; dsimp only; omega

theorem final (c : Dev nD) : (dats m 0 c).arrAt 2 cfg0.N = res m c := (dats m 0 c).arrAt_eq_of_cover 2 (res m c) (flushed_eq m c) cover

/-! ## The reference -/

open Cert.Reference21Ideal.Read in
theorem ref_eq (a : S8192x1024.Idx → EReal) (b : S512x1024.Idx → EReal) (r : Fin 8192) (o : Fin 512) :
    val_main_v7 (F := Ideal) a b (ix2 r o) = prod a b r o := by
  show val_main_v6 (F := Ideal) a b (ix2 r o) = _
  rw [val_main_v6_apply]
  refine Finset.sum_congr rfl fun k _ => ?_
  have e1 : lidx_main_v6 (ix2 r o) k = ix2 r k := by
    funext a; apply Fin.ext
    match a with
    | ⟨0, _⟩ => rfl
    | ⟨1, _⟩ => rfl
  have e2 : ridx_main_v6 (ix2 r o) k = ix2 o k := by
    funext a; apply Fin.ext
    match a with
    | ⟨0, _⟩ => rfl
    | ⟨1, _⟩ => rfl
  rw [e1, e2]
  rfl

theorem ref_arr (c : Dev nD) : Cert.Reference21Ideal.Read.val_main_v7 (F := Ideal) (A m c) (B m c) = res m c := by
  funext i
  obtain ⟨r, o, rfl⟩ : ∃ (r : Fin 8192) (o : Fin 512), i = ix2 r o := ⟨i 0, i 1, by funext a; match a with | ⟨0, _⟩ => rfl | ⟨1, _⟩ => rfl⟩
  exact ref_eq _ _ r o

theorem algebraic [Cert.Kernel21Ideal.Facts] [Cert.Reference21Ideal.Facts] : Cert.algebraic_Kernel21Ideal_Reference21Ideal := by
  pair_intro
  · run_from Cert.Kernel21Ideal.Value.run_blocks m g
  · run_from Cert.Reference21Ideal.Value.run m' g'
    exact (Cert.Reference21Ideal.Read.val_main_v7_eq (F := Ideal) (A m c) (B m c)).trans ((ref_arr m c).trans (final m c).symm)

end Cert.Proof.Dyc

end
-- ==== Proof.Upc.lean ====
/-
  The third mixer back to the model width: a product with a matrix of 512 rows, the attended rows in single precision.
-/
module

public import proofs.«01_k».proof.Defs
public import proofs.«01_k».proof.Proof.Gen.Kernel22Ideal.Value
public import proofs.«01_k».proof.Proof.Gen.Reference22Ideal.Read
public import proofs.«01_k».proof.Proof.Common
public import Idealize.ShloMosaic.Lib.Tactic
public import Idealize.ShloMosaic.Lib.Claim

@[expose] public section

set_option maxRecDepth 16384

noncomputable section

open Idealize.ShloMosaic hiding ix1 ix2 ix3
open Idealize.ShloMosaic.TcCoe Idealize.ShloMosaic.ValueIdx Idealize.SL.Sem
open scoped BigOperators

namespace Cert.Proof.Upc

open Cert.Kernel22Ideal Cert.Kernel22Ideal.Gen

theorem hz : (![0, 0] : Fin 2 → Nat) = fun _ => 0 := funext fun a => by fin_cases a <;> rfl

/-! ## What a point of the grid leaves -/

theorem out_A {F : FTy → Type} [FloatOps F] (c : Dev nD) (i : grid0.Coords) (arg3 : Memref sig .tc .vmem S1024x512 .f32) (harg3 : arg3.IsWhole)
    (arg4 : Memref sig .tc .vmem S512x1024 .bf16) (harg4 : arg4.IsWhole) (arg5 : Memref sig .tc .vmem S1024x1024 .bf16) (harg5 : arg5.IsWhole)
    (arg6 : Memref sig .tc .vmem S1024x1024 .f32) (harg6 : arg6.IsWhole) (x0 : Vec F S1024x512 .f32) (x1 : Vec F S512x1024 .bf16)
    (hc0 : cond0_0 i) (hc1 : cond0_1 i) :
    out0_A_2 c i arg3 harg3 arg4 harg4 arg5 harg5 arg6 harg6 hc0 hc1 x0 x1 = k0_pay3 (k0_pay2 k0_pay1 x0 x1) := by
  unfold out0_A_2
  rw [View.read_writes_eq_canon _ _ _ (cover0_A_2 c i arg3 harg3 arg4 harg4 arg5 harg5 arg6 harg6 hc0 hc1 x0 x1)]
  unfold kernelRun0_A
  dsimp only
  sl_unfold_words
  rw [View.canon_unit_zero hz, readCov_cons_zero (S := S1024x1024) _ hz, View.readCov_unit_zero (S := S1024x1024) _ hz]
  simp only [View.readAt_eq_ld, harg3.read_unread, harg4.read_unread, View.ld_unit_zero (S := S1024x512) hz, View.ld_unit_zero (S := S512x1024) hz]

/-- A block of the product. -/
theorem pay_apply (a : Vec Ideal S1024x512 .f32) (b : Vec Ideal S512x1024 .bf16) (r : Fin 1024) (o : Fin 1024) :
    k0_pay3 (F := Ideal) (k0_pay2 (k0_pay1 (F := Ideal)) a b) (ix2 r o) = ∑ k : Fin 512, a (ix2 r k) * b (ix2 k o) := by
  show k0_pay2 (F := Ideal) (k0_pay1 (F := Ideal)) a b (ix2 r o) = _
  unfold k0_pay2
  refine (shapeCast_apply _ _ _ (ix2 r o) rfl).trans ?_
  show Ideal.ofBits .f32 0x00000000#32 + FloatOps.matmul (F := Ideal) (DotDims.plain 1024 512 1024) none (a : FVec Ideal S1024x512 .bf16) (b : FVec Ideal S512x1024 .bf16) (constant S1024x1024 .f32 0x00000000#32) (ix2 r o) = _
  rw [Ideal.matmul_plain_apply]
  show Ideal.ofBits .f32 0x00000000#32 + (Ideal.ofBits .f32 0x00000000#32 + _) = _
  rw [Ideal.ofBits_zero_f32, zero_add, zero_add]

/-! ## From blocks to arrays -/

variable (m : (ℓ : Loc nD τ sig) → Buf (Elt Ideal) ℓ)

abbrev A (c : Dev nD) : S8192x512.Idx → EReal := m ((c : Thread nD τ).loc main_arg0)
abbrev B (c : Dev nD) : S512x1024.Idx → EReal := m ((c : Thread nD τ).loc main_arg1)

def prod (a : S8192x512.Idx → EReal) (b : S512x1024.Idx → EReal) (r : Fin 8192) (o : Fin 1024) : EReal := ∑ k : Fin 512, a (ix2 r k) * b (ix2 k o)

abbrev res (c : Dev nD) : Buf (Elt Ideal) ((c : Thread nD τ).loc main_v0) := fun i : S8192x1024.Idx => prod (A m c) (B m c) (i 0) (i 1)

abbrev blk0 (c : Dev nD) (t : Fin cfg0.N) : Vec Ideal S1024x512 .f32 := iblk m c 0 t
abbrev blk1 (c : Dev nD) (t : Fin cfg0.N) : Vec Ideal S512x1024 .bf16 := iblk m c 1 t

theorem idx_in : ∀ t : Fin cfg0.N, win0_0.index t 0 = t.val ∧ win0_0.index t 1 = 0 ∧ win0_1.index t 0 = 0 ∧ win0_1.index t 1 = 0
    ∧ win0_2.index t 0 = t.val ∧ win0_2.index t 1 = 0 :=
  (by decide +kernel : ∀ t : Fin grid0.N, _)

theorem ltN (t : Fin cfg0.N) : t.val < 8 := lt_of_lt_of_eq t.isLt N_0

abbrev gM (t : Fin cfg0.N) (x : Fin 1024) : Fin 8192 := ⟨t.val * 1024 + x.val, by have := x.isLt; have := ltN t; omega⟩
abbrev gN (t : Fin cfg0.N) (o : Fin 1024) : Fin 1024 := ⟨o.val, by have := o.isLt; have := ltN t; omega⟩

theorem blk0_at (c : Dev nD) (t : Fin cfg0.N) (r : Fin 1024) (k : Fin 512) : blk0 m c t (ix2 r k) = A m c (ix2 (gM t r) k) := by
  obtain ⟨e0, e1, -⟩ := idx_in t
  show m ((c : Thread nD τ).loc main_arg0) _ = m ((c : Thread nD τ).loc main_arg0) _
  congr 1
  funext a; apply Fin.ext
  match a with
  | ⟨0, _⟩ => show win0_0.index t 0 * 1024 + 1 * r.val = t.val * 1024 + r.val; rw [e0]; omega
  | ⟨1, _⟩ => show win0_0.index t 1 * 512 + 1 * k.val = k.val; rw [e1]; omega

theorem blk1_at (c : Dev nD) (t : Fin cfg0.N) (k : Fin 512) (o : Fin 1024) : blk1 m c t (ix2 k o) = B m c (ix2 k (gN t o)) := by
  obtain ⟨-, -, e0, e1, -⟩ := idx_in t
  show m ((c : Thread nD τ).loc main_arg1) _ = m ((c : Thread nD τ).loc main_arg1) _
  congr 1
  funext a; apply Fin.ext
  match a with
  | ⟨0, _⟩ => show win0_1.index t 0 * 512 + 1 * k.val = k.val; rw [e0]; omega
  | ⟨1, _⟩ => show win0_1.index t 1 * 1024 + 1 * o.val = o.val; rw [e1]; omega

theorem flushed_eq (c : Dev nD) (t : Fin cfg0.N) (_ : (cfg0.win 2).flush t = true) :
    (dats m 0 c).flushed 2 t = ((cfg0.win 2).blk t).view.read (Elt Ideal) (res m c) := by
  obtain ⟨-, -, -, -, e0, e1⟩ := idx_in t
  rw [Value.flushed2]
  unfold outsAt0
  rw [out_A]
  funext j
  obtain ⟨r, o, rfl⟩ : ∃ (r : Fin 1024) (o : Fin 1024), j = ix2 r o := ⟨j 0, j 1, by funext a; match a with | ⟨0, _⟩ => rfl | ⟨1, _⟩ => rfl⟩
  show _ = res m c (((cfg0.win 2).blk t).view.emb (ix2 r o))
  have e : ((cfg0.win 2).blk t).view.emb (ix2 r o) = (ix2 (gM t r) (gN t o) : S8192x1024.Idx) := by
    funext a; apply Fin.ext
    match a with
    | ⟨0, _⟩ => show win0_2.index t 0 * 1024 + 1 * r.val = t.val * 1024 + r.val; rw [e0]; omega
    | ⟨1, _⟩ => show win0_2.index t 1 * 1024 + 1 * o.val = o.val; rw [e1]; omega
  rw [e]
  refine (pay_apply (blk0 m c t) (blk1 m c t) r o).trans ?_
  show _ = prod (A m c) (B m c) (gM t r) (gN t o)
  exact Finset.sum_congr rfl fun k _ => by rw [blk0_at, blk1_at]

theorem idx_onto : ∀ p : Fin 8 × Fin 1, ∃ t : Fin cfg0.N, win0_2.index t 0 = p.1.val ∧ win0_2.index t 1 = p.2.val :=
  (by decide +kernel : ∀ p : Fin 8 × Fin 1, ∃ t : Fin grid0.N, win0_2.index t 0 = p.1.val ∧ win0_2.index t 1 = p.2.val)

theorem cover (i : S8192x1024.Idx) : ∃ t : Fin cfg0.N, (cfg0.win 2).flush t = true ∧ i ∈ ((cfg0.win 2).blk t).view.set := by
  have h0 : (i 0 : Nat) < 8192 := (i 0).isLt
  have h1 : (i 1 : Nat) < 1024 := (i 1).isLt
  obtain ⟨t, e0, e1⟩ := idx_onto (⟨(i 0).val / 1024, by omega⟩, ⟨(i 1).val / 1024, by omega⟩)
  refine ⟨t, flush0_2 t, ?_⟩
  show i ∈ ((View.whole main_v0).slice (win0_2.rect t)).set
  rw [View.set_slice_whole, Rect.mem_set_unit]
  intro a
  match a with
  | ⟨0, _⟩ => show win0_2.index t 0 * 1024 ≤ (i 0).val ∧ (i 0).val < win0_2.index t 0 * 1024 + 1024; rw [e0]; dsimp only; omega
  | ⟨1, _⟩ => show win0_2.index t 1 * 1024 ≤ (i 1).val ∧ (i 1).val < win0_2.index t 1 * 1024 + 1024; rw [e1]; dsimp only; omega

theorem final (c : Dev nD) : (dats m 0 c).arrAt 2 cfg0.N = res m c := (dats m 0 c).arrAt_eq_of_cover 2 (res m c) (flushed_eq m c) cover

/-! ## The reference -/

open Cert.Reference22Ideal.Read in
theorem ref_eq (a : S8192x512.Idx → EReal) (b : S512x1024.Idx → EReal) (r : Fin 8192) (o : Fin 1024) :
    val_main_v2 (F := Ideal) a b (ix2 r o) = prod a b r o := by
  show val_main_v1 (F := Ideal) a b (ix2 r o) = _
  rw [val_main_v1_apply]
  refine Finset.sum_congr rfl fun k _ => ?_
  have e1 : lidx_main_v1 (ix2 r o) k = ix2 r k := by
    funext a; apply Fin.ext
    match a with
    | ⟨0, _⟩ => rfl
    | ⟨1, _⟩ => rfl
  have e2 : ridx_main_v1 (ix2 r o) k = ix2 k o := by
    funext a; apply Fin.ext
    match a with
    | ⟨0, _⟩ => rfl
    | ⟨1, _⟩ => rfl
  rw [e1, e2]
  rfl

theorem ref_arr (c : Dev nD) : Cert.Reference22Ideal.Read.val_main_v2 (F := Ideal) (A m c) (B m c) = res m c := by
  funext i
  obtain ⟨r, o, rfl⟩ : ∃ (r : Fin 8192) (o : Fin 1024), i = ix2 r o := ⟨i 0, i 1, by funext a; match a with | ⟨0, _⟩ => rfl | ⟨1, _⟩ => rfl⟩
  exact ref_eq _ _ r o

theorem algebraic [Cert.Kernel22Ideal.Facts] [Cert.Reference22Ideal.Facts] : Cert.algebraic_Kernel22Ideal_Reference22Ideal := by
  pair_intro
  · run_from Cert.Kernel22Ideal.Value.run_blocks m g
  · run_from Cert.Reference22Ideal.Value.run m' g'
    exact (Cert.Reference22Ideal.Read.val_main_v2_eq (F := Ideal) (A m c) (B m c)).trans ((ref_arr m c).trans (final m c).symm)

end Cert.Proof.Upc

end
-- ==== Proof.Dwupa.lean ====
/-
  The gradient of the first mixer's output weight, accumulated over blocks of 1024 tokens.
-/
module

public import proofs.«01_k».proof.Defs
public import proofs.«01_k».proof.Proof.Gen.Kernel23Ideal.Value
public import proofs.«01_k».proof.Proof.Gen.Reference23Ideal.Read
public import proofs.«01_k».proof.Proof.Common
public import Idealize.ShloMosaic.Lib.Tactic
public import Idealize.ShloMosaic.Lib.Claim

@[expose] public section

set_option maxRecDepth 16384

noncomputable section

open Idealize.ShloMosaic hiding ix1 ix2 ix3
open Idealize.ShloMosaic.TcCoe Idealize.ShloMosaic.ValueIdx Idealize.SL.Sem
open scoped BigOperators

namespace Cert.Proof.Dwupa

open Cert.Kernel23Ideal Cert.Kernel23Ideal.Gen

theorem hz : (![0, 0] : Fin 2 → Nat) = fun _ => 0 := funext fun a => by fin_cases a <;> rfl

/-! ## What a point of the grid leaves -/

section Outs
variable {F : FTy → Type} [FloatOps F]
variable (c : Dev nD) (i : grid0.Coords) (arg3 : Memref sig .tc .vmem S1024x512 .bf16) (harg3 : arg3.IsWhole) (arg4 : Memref sig .tc .vmem S1024x1024 .bf16) (harg4 : arg4.IsWhole)
  (arg5 : Memref sig .tc .vmem S512x1024 .bf16) (harg5 : arg5.IsWhole) (arg6 : Memref sig .tc .vmem S512x1024 .f32) (harg6 : arg6.IsWhole)
  (x0 : Vec F S1024x512 .bf16) (x1 : Vec F S1024x1024 .bf16) (xs0 : Vec F S512x1024 .f32)

theorem sout_A (hc0 : cond0_0 i) (hc1 : ¬cond0_1 i) :
    sout0_A_0 c i arg3 harg3 arg4 harg4 arg5 harg5 arg6 harg6 hc0 hc1 x0 x1 = k0_pay2 k0_pay1 x0 x1 := by
  unfold sout0_A_0
  rw [View.read_writes_eq_canon _ _ _ (scover0_A_0 c i arg3 harg3 arg4 harg4 arg5 harg5 arg6 harg6 hc0 hc1 x0 x1)]
  unfold kernelRun0_A
  dsimp only
  sl_unfold_words
  rw [View.canon_cons_unit_zero hz, View.readCov_unit_zero (S := S512x1024) _ hz]
  simp only [View.readAt_eq_ld, harg3.read_unread, harg4.read_unread, View.ld_unit_zero (S := S512x1024) hz, View.ld_unit_zero (S := S1024x512) hz, View.ld_unit_zero (S := S1024x1024) hz]

theorem sout_B (hc0 : ¬cond0_0 i) (hc1 : ¬cond0_1 i) :
    sout0_B_0 c i arg3 harg3 arg4 harg4 arg5 harg5 arg6 harg6 hc0 hc1 x0 x1 xs0 = k0_pay2 xs0 x0 x1 := by
  unfold sout0_B_0
  rw [View.read_writes_eq_canon _ _ _ (scover0_B_0 c i arg3 harg3 arg4 harg4 arg5 harg5 arg6 harg6 hc0 hc1 x0 x1 xs0)]
  unfold kernelRun0_B
  dsimp only
  sl_unfold_words
  rw [View.canon_unit_zero hz]
  simp only [View.readAt_eq_ld, harg3.read_unread, harg4.read_unread, harg6.read_unread, View.ld_unit_zero (S := S512x1024) hz, View.ld_unit_zero (S := S1024x512) hz, View.ld_unit_zero (S := S1024x1024) hz]

theorem sout_C (hc0 : ¬cond0_0 i) (hc1 : cond0_1 i) :
    sout0_C_0 c i arg3 harg3 arg4 harg4 arg5 harg5 arg6 harg6 hc0 hc1 x0 x1 xs0 = k0_pay2 xs0 x0 x1 := by
  unfold sout0_C_0
  rw [View.read_writes_eq_canon _ _ _ (scover0_C_0 c i arg3 harg3 arg4 harg4 arg5 harg5 arg6 harg6 hc0 hc1 x0 x1 xs0)]
  unfold kernelRun0_C
  dsimp only
  sl_unfold_words
  rw [View.canon_unit_zero hz]
  simp only [View.readAt_eq_ld, harg3.read_unread, harg4.read_unread, harg6.read_unread, View.ld_unit_zero (S := S512x1024) hz, View.ld_unit_zero (S := S1024x512) hz, View.ld_unit_zero (S := S1024x1024) hz]

theorem out_C (hc0 : ¬cond0_0 i) (hc1 : cond0_1 i) :
    out0_C_2 c i arg3 harg3 arg4 harg4 arg5 harg5 arg6 harg6 hc0 hc1 x0 x1 xs0 = k0_pay3 (k0_pay2 xs0 x0 x1) := by
  unfold out0_C_2
  rw [View.read_writes_eq_canon _ _ _ (cover0_C_2 c i arg3 harg3 arg4 harg4 arg5 harg5 arg6 harg6 hc0 hc1 x0 x1 xs0)]
  unfold kernelRun0_C
  dsimp only
  sl_unfold_words
  rw [View.canon_unit_zero hz, View.readCov_unit_zero (S := S512x1024) _ hz]
  simp only [View.readAt_eq_ld, harg3.read_unread, harg4.read_unread, harg6.read_unread, View.ld_unit_zero (S := S512x1024) hz, View.ld_unit_zero (S := S1024x512) hz, View.ld_unit_zero (S := S1024x1024) hz]

end Outs

/-! ## The payloads at an index -/

theorem pay1_apply (j : S512x1024.Idx) : k0_pay1 (F := Ideal) j = 0 := Ideal.ofBits_zero_f32

theorem pay2_apply (s : Vec Ideal S512x1024 .f32) (a : Vec Ideal S1024x512 .bf16) (b : Vec Ideal S1024x1024 .bf16) (r : Fin 512) (o : Fin 1024) :
    k0_pay2 (F := Ideal) s a b (ix2 r o) = s (ix2 r o) + ∑ k : Fin 1024, a (ix2 k r) * b (ix2 k o) := by
  unfold k0_pay2
  refine (shapeCast_apply _ _ _ (ix2 r o) rfl).trans ?_
  show s (ix2 r o) + FloatOps.matmul (F := Ideal) (rowDims 512 1024 1024) none (a : FVec Ideal S1024x512 .bf16) (b : FVec Ideal S1024x1024 .bf16) (constant S512x1024 .f32 0x00000000#32) (ix2 r o) = _
  rw [matmul_row_apply]
  show _ + (Ideal.ofBits .f32 0x00000000#32 + _) = _
  rw [Ideal.ofBits_zero_f32, zero_add]

/-! ## From blocks to arrays -/

variable (m : (ℓ : Loc nD τ sig) → Buf (Elt Ideal) ℓ)

abbrev A (c : Dev nD) : S8192x512.Idx → EReal := m ((c : Thread nD τ).loc main_arg0)
abbrev B (c : Dev nD) : S8192x1024.Idx → EReal := m ((c : Thread nD τ).loc main_arg1)

/-- The terms of an entry of the product. -/
abbrev term (a : S8192x512.Idx → EReal) (b : S8192x1024.Idx → EReal) (r : Fin 512) (o : Fin 1024) (k : Fin 8192) : EReal := a (ix2 k r) * b (ix2 k o)

def prod (a : S8192x512.Idx → EReal) (b : S8192x1024.Idx → EReal) (r : Fin 512) (o : Fin 1024) : EReal := ∑ k, term a b r o k

abbrev res (c : Dev nD) : Buf (Elt Ideal) ((c : Thread nD τ).loc main_v0) := fun i : S512x1024.Idx => prod (A m c) (B m c) (i 0) (i 1)

abbrev blk0 (c : Dev nD) (t : Fin cfg0.N) : Vec Ideal S1024x512 .bf16 := iblk m c 0 t
abbrev blk1 (c : Dev nD) (t : Fin cfg0.N) : Vec Ideal S1024x1024 .bf16 := iblk m c 1 t

theorem idx_in : ∀ t : Fin cfg0.N, win0_0.index t 0 = t.val % 8 ∧ win0_0.index t 1 = 0 ∧ win0_1.index t 0 = t.val % 8 ∧ win0_1.index t 1 = 0
    ∧ win0_2.index t 0 = 0 ∧ win0_2.index t 1 = 0 :=
  (by decide +kernel : ∀ t : Fin grid0.N, _)

theorem ltN (t : Fin cfg0.N) : t.val < 8 := lt_of_lt_of_eq t.isLt N_0

abbrev gM (t : ℕ) (x : Fin 512) : Fin 512 := ⟨x.val, by have := x.isLt; omega⟩
abbrev gK (t : ℕ) (x : Fin 1024) : Fin 8192 := ⟨t % 8 * 1024 + x.val, by have := x.isLt; omega⟩
abbrev gN (t : ℕ) (x : Fin 1024) : Fin 1024 := ⟨x.val, by have := x.isLt; omega⟩

theorem blk0_at (c : Dev nD) (t : Fin cfg0.N) (k : Fin 1024) (r : Fin 512) :
    blk0 m c t (ix2 k r) = A m c (ix2 (gK t.val k) (gM t.val r)) := by
  obtain ⟨e0, e1, -⟩ := idx_in t
  have h := ltN t
  show m ((c : Thread nD τ).loc main_arg0) _ = m ((c : Thread nD τ).loc main_arg0) _
  congr 1
  funext a; apply Fin.ext
  match a with
  | ⟨0, _⟩ => show win0_0.index t 0 * 1024 + 1 * k.val = t.val % 8 * 1024 + k.val; rw [e0]; omega
  | ⟨1, _⟩ => show win0_0.index t 1 * 512 + 1 * r.val = r.val; rw [e1]; omega

theorem blk1_at (c : Dev nD) (t : Fin cfg0.N) (k : Fin 1024) (o : Fin 1024) :
    blk1 m c t (ix2 k o) = B m c (ix2 (gK t.val k) (gN t.val o)) := by
  obtain ⟨-, -, e0, e1, -⟩ := idx_in t
  have h := ltN t
  show m ((c : Thread nD τ).loc main_arg1) _ = m ((c : Thread nD τ).loc main_arg1) _
  congr 1
  funext a; apply Fin.ext
  match a with
  | ⟨0, _⟩ => show win0_1.index t 0 * 1024 + 1 * k.val = t.val % 8 * 1024 + k.val; rw [e0]; omega
  | ⟨1, _⟩ => show win0_1.index t 1 * 1024 + 1 * o.val = o.val; rw [e1]; omega

/-! ## The accumulator, point by point -/

abbrev prevAcc (c : Dev nD) (t : Fin cfg0.N) : Vec Ideal S512x1024 .f32 :=
  (outsAt0 m c (t.val - 1) (Nat.lt_of_le_of_lt (Nat.sub_le _ _) t.isLt)).2

theorem acc_start (c : Dev nD) (t : Fin cfg0.N) (h0 : t.val % 8 = 0) :
    (outsAt0 m c t.val t.isLt).2 = k0_pay2 (F := Ideal) (k0_pay1 (F := Ideal)) (blk0 m c t) (blk1 m c t) := by
  rw [outsAt0_A m c t h0 (by omega)]; dsimp only; rw [sout_A]

theorem acc_next (c : Dev nD) (t : Fin cfg0.N) (h0 : ¬t.val % 8 = 0) :
    (outsAt0 m c t.val t.isLt).2 = k0_pay2 (F := Ideal) (prevAcc m c t) (blk0 m c t) (blk1 m c t) := by
  by_cases h1 : t.val % 8 = 7
  · rw [outsAt0_C m c t h0 h1]; dsimp only; rw [sout_C]
  · rw [outsAt0_B m c t h0 h1]; dsimp only; rw [sout_B]

theorem acc_full (c : Dev nD) (t : Fin cfg0.N) (h : t.val % 8 = 7) (r : Fin 512) (o : Fin 1024) :
    (outsAt0 m c t.val t.isLt).2 (ix2 r o) = prod (A m c) (B m c) (gM t.val r) (gN t.val o) := by
  refine (acc_last 8 1024 rfl (by omega) (fun n h => (outsAt0 m c n h).2 (ix2 r o))
    (fun q => term (A m c) (B m c) ⟨r.val, by have := r.isLt; omega⟩ ⟨o.val, by have := o.isLt; omega⟩)
    (fun n h k => blk0 m c ⟨n, h⟩ (ix2 k r) * blk1 m c ⟨n, h⟩ (ix2 k o))
    (fun n h k hk => ?_)
    (fun n h e => ?_)
    (fun n h _ e => ?_)
    t.val t.isLt h).trans ?_
  · rw [blk0_at, blk1_at]
  · show (outsAt0 m c n h).2 (ix2 r o) = _
    rw [acc_start m c ⟨n, h⟩ e, pay2_apply, pay1_apply, zero_add]
  · show (outsAt0 m c n h).2 (ix2 r o) = _
    rw [acc_next m c ⟨n, h⟩ e, pay2_apply]
  · rfl

theorem flushed_eq (c : Dev nD) (t : Fin cfg0.N) (ht : (cfg0.win 2).flush t = true) :
    (dats m 0 c).flushed 2 t = ((cfg0.win 2).blk t).view.read (Elt Ideal) (res m c) := by
  obtain ⟨-, -, -, -, e0, e1⟩ := idx_in t
  have h := (flush0_2 t).1 ht
  have hN := ltN t
  have ea := acc_next m c t (by omega)
  rw [Value.flushed2, outsAt0_C m c t (by omega) h]
  dsimp only
  rw [out_C]
  funext j
  obtain ⟨r, o, rfl⟩ : ∃ (r : Fin 512) (o : Fin 1024), j = ix2 r o := ⟨j 0, j 1, by funext a; match a with | ⟨0, _⟩ => rfl | ⟨1, _⟩ => rfl⟩
  show _ = res m c (((cfg0.win 2).blk t).view.emb (ix2 r o))
  have e : ((cfg0.win 2).blk t).view.emb (ix2 r o) = (ix2 (gM t.val r) (gN t.val o) : S512x1024.Idx) := by
    funext a; apply Fin.ext
    match a with
    | ⟨0, _⟩ => show win0_2.index t 0 * 512 + 1 * r.val = r.val; rw [e0]; omega
    | ⟨1, _⟩ => show win0_2.index t 1 * 1024 + 1 * o.val = o.val; rw [e1]; omega
  rw [e]
  exact ((congrFun ea.symm _).trans (acc_full m c t h r o))

theorem cover (i : S512x1024.Idx) : ∃ t : Fin cfg0.N, (cfg0.win 2).flush t = true ∧ i ∈ ((cfg0.win 2).blk t).view.set :=
  (Value.covered_iff2 i).2 (by have h0 : (i 0).val < 512 := (i 0).isLt; have h1 : (i 1).val < 1024 := (i 1).isLt; omega)

theorem final (c : Dev nD) : (dats m 0 c).arrAt 2 cfg0.N = res m c := (dats m 0 c).arrAt_eq_of_cover 2 (res m c) (flushed_eq m c) cover

/-! ## The reference -/

open Cert.Reference23Ideal.Read in
theorem ref_eq (a : S8192x512.Idx → EReal) (b : S8192x1024.Idx → EReal) (r : Fin 512) (o : Fin 1024) :
    val_main_v7 (F := Ideal) a b (ix2 r o) = prod a b r o := by
  show val_main_v5 (F := Ideal) a b (ix2 r o) = _
  rw [val_main_v5_apply, val_main_v4_apply]
  refine Finset.sum_congr rfl fun k _ => ?_
  have e1 : lidx_main_v4 (idx_main_v5 (ix2 r o)) k = ix2 k o := by
    funext a; apply Fin.ext
    match a with
    | ⟨0, _⟩ => rfl
    | ⟨1, _⟩ => rfl
  have e2 : ridx_main_v4 (idx_main_v5 (ix2 r o)) k = ix2 k r := by
    funext a; apply Fin.ext
    match a with
    | ⟨0, _⟩ => rfl
    | ⟨1, _⟩ => rfl
  rw [e1, e2]
  exact mul_comm (b (ix2 k o)) (a (ix2 k r))

theorem ref_arr (c : Dev nD) : Cert.Reference23Ideal.Read.val_main_v7 (F := Ideal) (A m c) (B m c) = res m c := by
  funext i
  obtain ⟨r, o, rfl⟩ : ∃ (r : Fin 512) (o : Fin 1024), i = ix2 r o := ⟨i 0, i 1, by funext a; match a with | ⟨0, _⟩ => rfl | ⟨1, _⟩ => rfl⟩
  exact ref_eq _ _ r o

theorem algebraic [Cert.Kernel23Ideal.Facts] [Cert.Reference23Ideal.Facts] : Cert.algebraic_Kernel23Ideal_Reference23Ideal := by
  pair_intro
  · run_from Cert.Kernel23Ideal.Value.run_blocks m g
  · run_from Cert.Reference23Ideal.Value.run m' g'
    exact (Cert.Reference23Ideal.Read.val_main_v7_eq (F := Ideal) (A m c) (B m c)).trans ((ref_arr m c).trans (final m c).symm)

end Cert.Proof.Dwupa

end
-- ==== Proof.Dwupc.lean ====
/-
  The gradient of the third mixer's output weight, the attended rows in single precision, accumulated over blocks of
  1024 tokens.
-/
module

public import proofs.«01_k».proof.Defs
public import proofs.«01_k».proof.Proof.Gen.Kernel24Ideal.Value
public import proofs.«01_k».proof.Proof.Gen.Reference24Ideal.Read
public import proofs.«01_k».proof.Proof.Common
public import Idealize.ShloMosaic.Lib.Tactic
public import Idealize.ShloMosaic.Lib.Claim

@[expose] public section

set_option maxRecDepth 16384

noncomputable section

open Idealize.ShloMosaic hiding ix1 ix2 ix3
open Idealize.ShloMosaic.TcCoe Idealize.ShloMosaic.ValueIdx Idealize.SL.Sem
open scoped BigOperators

namespace Cert.Proof.Dwupc

open Cert.Kernel24Ideal Cert.Kernel24Ideal.Gen

theorem hz : (![0, 0] : Fin 2 → Nat) = fun _ => 0 := funext fun a => by fin_cases a <;> rfl

/-! ## What a point of the grid leaves -/

section Outs
variable {F : FTy → Type} [FloatOps F]
variable (c : Dev nD) (i : grid0.Coords) (arg3 : Memref sig .tc .vmem S1024x512 .f32) (harg3 : arg3.IsWhole) (arg4 : Memref sig .tc .vmem S1024x1024 .bf16) (harg4 : arg4.IsWhole)
  (arg5 : Memref sig .tc .vmem S512x1024 .bf16) (harg5 : arg5.IsWhole) (arg6 : Memref sig .tc .vmem S512x1024 .f32) (harg6 : arg6.IsWhole)
  (x0 : Vec F S1024x512 .f32) (x1 : Vec F S1024x1024 .bf16) (xs0 : Vec F S512x1024 .f32)

theorem sout_A (hc0 : cond0_0 i) (hc1 : ¬cond0_1 i) :
    sout0_A_0 c i arg3 harg3 arg4 harg4 arg5 harg5 arg6 harg6 hc0 hc1 x0 x1 = k0_pay2 k0_pay1 x0 x1 := by
  unfold sout0_A_0
  rw [View.read_writes_eq_canon _ _ _ (scover0_A_0 c i arg3 harg3 arg4 harg4 arg5 harg5 arg6 harg6 hc0 hc1 x0 x1)]
  unfold kernelRun0_A
  dsimp only
  sl_unfold_words
  rw [View.canon_cons_unit_zero hz, View.readCov_unit_zero (S := S512x1024) _ hz]
  simp only [View.readAt_eq_ld, harg3.read_unread, harg4.read_unread, View.ld_unit_zero (S := S512x1024) hz, View.ld_unit_zero (S := S1024x512) hz, View.ld_unit_zero (S := S1024x1024) hz]

theorem sout_B (hc0 : ¬cond0_0 i) (hc1 : ¬cond0_1 i) :
    sout0_B_0 c i arg3 harg3 arg4 harg4 arg5 harg5 arg6 harg6 hc0 hc1 x0 x1 xs0 = k0_pay2 xs0 x0 x1 := by
  unfold sout0_B_0
  rw [View.read_writes_eq_canon _ _ _ (scover0_B_0 c i arg3 harg3 arg4 harg4 arg5 harg5 arg6 harg6 hc0 hc1 x0 x1 xs0)]
  unfold kernelRun0_B
  dsimp only
  sl_unfold_words
  rw [View.canon_unit_zero hz]
  simp only [View.readAt_eq_ld, harg3.read_unread, harg4.read_unread, harg6.read_unread, View.ld_unit_zero (S := S512x1024) hz, View.ld_unit_zero (S := S1024x512) hz, View.ld_unit_zero (S := S1024x1024) hz]

theorem sout_C (hc0 : ¬cond0_0 i) (hc1 : cond0_1 i) :
    sout0_C_0 c i arg3 harg3 arg4 harg4 arg5 harg5 arg6 harg6 hc0 hc1 x0 x1 xs0 = k0_pay2 xs0 x0 x1 := by
  unfold sout0_C_0
  rw [View.read_writes_eq_canon _ _ _ (scover0_C_0 c i arg3 harg3 arg4 harg4 arg5 harg5 arg6 harg6 hc0 hc1 x0 x1 xs0)]
  unfold kernelRun0_C
  dsimp only
  sl_unfold_words
  rw [View.canon_unit_zero hz]
  simp only [View.readAt_eq_ld, harg3.read_unread, harg4.read_unread, harg6.read_unread, View.ld_unit_zero (S := S512x1024) hz, View.ld_unit_zero (S := S1024x512) hz, View.ld_unit_zero (S := S1024x1024) hz]

theorem out_C (hc0 : ¬cond0_0 i) (hc1 : cond0_1 i) :
    out0_C_2 c i arg3 harg3 arg4 harg4 arg5 harg5 arg6 harg6 hc0 hc1 x0 x1 xs0 = k0_pay3 (k0_pay2 xs0 x0 x1) := by
  unfold out0_C_2
  rw [View.read_writes_eq_canon _ _ _ (cover0_C_2 c i arg3 harg3 arg4 harg4 arg5 harg5 arg6 harg6 hc0 hc1 x0 x1 xs0)]
  unfold kernelRun0_C
  dsimp only
  sl_unfold_words
  rw [View.canon_unit_zero hz, View.readCov_unit_zero (S := S512x1024) _ hz]
  simp only [View.readAt_eq_ld, harg3.read_unread, harg4.read_unread, harg6.read_unread, View.ld_unit_zero (S := S512x1024) hz, View.ld_unit_zero (S := S1024x512) hz, View.ld_unit_zero (S := S1024x1024) hz]

end Outs

/-! ## The payloads at an index -/

theorem pay1_apply (j : S512x1024.Idx) : k0_pay1 (F := Ideal) j = 0 := Ideal.ofBits_zero_f32

theorem pay2_apply (s : Vec Ideal S512x1024 .f32) (a : Vec Ideal S1024x512 .f32) (b : Vec Ideal S1024x1024 .bf16) (r : Fin 512) (o : Fin 1024) :
    k0_pay2 (F := Ideal) s a b (ix2 r o) = s (ix2 r o) + ∑ k : Fin 1024, a (ix2 k r) * b (ix2 k o) := by
  unfold k0_pay2
  refine (shapeCast_apply _ _ _ (ix2 r o) rfl).trans ?_
  show s (ix2 r o) + FloatOps.matmul (F := Ideal) (rowDims 512 1024 1024) none (a : FVec Ideal S1024x512 .bf16) (b : FVec Ideal S1024x1024 .bf16) (constant S512x1024 .f32 0x00000000#32) (ix2 r o) = _
  rw [matmul_row_apply]
  show _ + (Ideal.ofBits .f32 0x00000000#32 + _) = _
  rw [Ideal.ofBits_zero_f32, zero_add]

/-! ## From blocks to arrays -/

variable (m : (ℓ : Loc nD τ sig) → Buf (Elt Ideal) ℓ)

abbrev A (c : Dev nD) : S8192x512.Idx → EReal := m ((c : Thread nD τ).loc main_arg0)
abbrev B (c : Dev nD) : S8192x1024.Idx → EReal := m ((c : Thread nD τ).loc main_arg1)

/-- The terms of an entry of the product. -/
abbrev term (a : S8192x512.Idx → EReal) (b : S8192x1024.Idx → EReal) (r : Fin 512) (o : Fin 1024) (k : Fin 8192) : EReal := a (ix2 k r) * b (ix2 k o)

def prod (a : S8192x512.Idx → EReal) (b : S8192x1024.Idx → EReal) (r : Fin 512) (o : Fin 1024) : EReal := ∑ k, term a b r o k

abbrev res (c : Dev nD) : Buf (Elt Ideal) ((c : Thread nD τ).loc main_v0) := fun i : S512x1024.Idx => prod (A m c) (B m c) (i 0) (i 1)

abbrev blk0 (c : Dev nD) (t : Fin cfg0.N) : Vec Ideal S1024x512 .f32 := iblk m c 0 t
abbrev blk1 (c : Dev nD) (t : Fin cfg0.N) : Vec Ideal S1024x1024 .bf16 := iblk m c 1 t

theorem idx_in : ∀ t : Fin cfg0.N, win0_0.index t 0 = t.val % 8 ∧ win0_0.index t 1 = 0 ∧ win0_1.index t 0 = t.val % 8 ∧ win0_1.index t 1 = 0
    ∧ win0_2.index t 0 = 0 ∧ win0_2.index t 1 = 0 :=
  (by decide +kernel : ∀ t : Fin grid0.N, _)

theorem ltN (t : Fin cfg0.N) : t.val < 8 := lt_of_lt_of_eq t.isLt N_0

abbrev gM (t : ℕ) (x : Fin 512) : Fin 512 := ⟨x.val, by have := x.isLt; omega⟩
abbrev gK (t : ℕ) (x : Fin 1024) : Fin 8192 := ⟨t % 8 * 1024 + x.val, by have := x.isLt; omega⟩
abbrev gN (t : ℕ) (x : Fin 1024) : Fin 1024 := ⟨x.val, by have := x.isLt; omega⟩

theorem blk0_at (c : Dev nD) (t : Fin cfg0.N) (k : Fin 1024) (r : Fin 512) :
    blk0 m c t (ix2 k r) = A m c (ix2 (gK t.val k) (gM t.val r)) := by
  obtain ⟨e0, e1, -⟩ := idx_in t
  have h := ltN t
  show m ((c : Thread nD τ).loc main_arg0) _ = m ((c : Thread nD τ).loc main_arg0) _
  congr 1
  funext a; apply Fin.ext
  match a with
  | ⟨0, _⟩ => show win0_0.index t 0 * 1024 + 1 * k.val = t.val % 8 * 1024 + k.val; rw [e0]; omega
  | ⟨1, _⟩ => show win0_0.index t 1 * 512 + 1 * r.val = r.val; rw [e1]; omega

theorem blk1_at (c : Dev nD) (t : Fin cfg0.N) (k : Fin 1024) (o : Fin 1024) :
    blk1 m c t (ix2 k o) = B m c (ix2 (gK t.val k) (gN t.val o)) := by
  obtain ⟨-, -, e0, e1, -⟩ := idx_in t
  have h := ltN t
  show m ((c : Thread nD τ).loc main_arg1) _ = m ((c : Thread nD τ).loc main_arg1) _
  congr 1
  funext a; apply Fin.ext
  match a with
  | ⟨0, _⟩ => show win0_1.index t 0 * 1024 + 1 * k.val = t.val % 8 * 1024 + k.val; rw [e0]; omega
  | ⟨1, _⟩ => show win0_1.index t 1 * 1024 + 1 * o.val = o.val; rw [e1]; omega

/-! ## The accumulator, point by point -/

abbrev prevAcc (c : Dev nD) (t : Fin cfg0.N) : Vec Ideal S512x1024 .f32 :=
  (outsAt0 m c (t.val - 1) (Nat.lt_of_le_of_lt (Nat.sub_le _ _) t.isLt)).2

theorem acc_start (c : Dev nD) (t : Fin cfg0.N) (h0 : t.val % 8 = 0) :
    (outsAt0 m c t.val t.isLt).2 = k0_pay2 (F := Ideal) (k0_pay1 (F := Ideal)) (blk0 m c t) (blk1 m c t) := by
  rw [outsAt0_A m c t h0 (by omega)]; dsimp only; rw [sout_A]

theorem acc_next (c : Dev nD) (t : Fin cfg0.N) (h0 : ¬t.val % 8 = 0) :
    (outsAt0 m c t.val t.isLt).2 = k0_pay2 (F := Ideal) (prevAcc m c t) (blk0 m c t) (blk1 m c t) := by
  by_cases h1 : t.val % 8 = 7
  · rw [outsAt0_C m c t h0 h1]; dsimp only; rw [sout_C]
  · rw [outsAt0_B m c t h0 h1]; dsimp only; rw [sout_B]

theorem acc_full (c : Dev nD) (t : Fin cfg0.N) (h : t.val % 8 = 7) (r : Fin 512) (o : Fin 1024) :
    (outsAt0 m c t.val t.isLt).2 (ix2 r o) = prod (A m c) (B m c) (gM t.val r) (gN t.val o) := by
  refine (acc_last 8 1024 rfl (by omega) (fun n h => (outsAt0 m c n h).2 (ix2 r o))
    (fun q => term (A m c) (B m c) ⟨r.val, by have := r.isLt; omega⟩ ⟨o.val, by have := o.isLt; omega⟩)
    (fun n h k => blk0 m c ⟨n, h⟩ (ix2 k r) * blk1 m c ⟨n, h⟩ (ix2 k o))
    (fun n h k hk => ?_)
    (fun n h e => ?_)
    (fun n h _ e => ?_)
    t.val t.isLt h).trans ?_
  · rw [blk0_at, blk1_at]
  · show (outsAt0 m c n h).2 (ix2 r o) = _
    rw [acc_start m c ⟨n, h⟩ e, pay2_apply, pay1_apply, zero_add]
  · show (outsAt0 m c n h).2 (ix2 r o) = _
    rw [acc_next m c ⟨n, h⟩ e, pay2_apply]
  · rfl

theorem flushed_eq (c : Dev nD) (t : Fin cfg0.N) (ht : (cfg0.win 2).flush t = true) :
    (dats m 0 c).flushed 2 t = ((cfg0.win 2).blk t).view.read (Elt Ideal) (res m c) := by
  obtain ⟨-, -, -, -, e0, e1⟩ := idx_in t
  have h := (flush0_2 t).1 ht
  have hN := ltN t
  have ea := acc_next m c t (by omega)
  rw [Value.flushed2, outsAt0_C m c t (by omega) h]
  dsimp only
  rw [out_C]
  funext j
  obtain ⟨r, o, rfl⟩ : ∃ (r : Fin 512) (o : Fin 1024), j = ix2 r o := ⟨j 0, j 1, by funext a; match a with | ⟨0, _⟩ => rfl | ⟨1, _⟩ => rfl⟩
  show _ = res m c (((cfg0.win 2).blk t).view.emb (ix2 r o))
  have e : ((cfg0.win 2).blk t).view.emb (ix2 r o) = (ix2 (gM t.val r) (gN t.val o) : S512x1024.Idx) := by
    funext a; apply Fin.ext
    match a with
    | ⟨0, _⟩ => show win0_2.index t 0 * 512 + 1 * r.val = r.val; rw [e0]; omega
    | ⟨1, _⟩ => show win0_2.index t 1 * 1024 + 1 * o.val = o.val; rw [e1]; omega
  rw [e]
  exact ((congrFun ea.symm _).trans (acc_full m c t h r o))

theorem cover (i : S512x1024.Idx) : ∃ t : Fin cfg0.N, (cfg0.win 2).flush t = true ∧ i ∈ ((cfg0.win 2).blk t).view.set :=
  (Value.covered_iff2 i).2 (by have h0 : (i 0).val < 512 := (i 0).isLt; have h1 : (i 1).val < 1024 := (i 1).isLt; omega)

theorem final (c : Dev nD) : (dats m 0 c).arrAt 2 cfg0.N = res m c := (dats m 0 c).arrAt_eq_of_cover 2 (res m c) (flushed_eq m c) cover

/-! ## The reference -/

open Cert.Reference24Ideal.Read in
theorem ref_eq (a : S8192x512.Idx → EReal) (b : S8192x1024.Idx → EReal) (r : Fin 512) (o : Fin 1024) :
    val_main_v6 (F := Ideal) a b (ix2 r o) = prod a b r o := by
  show val_main_v4 (F := Ideal) a b (ix2 r o) = _
  rw [val_main_v4_apply, val_main_v3_apply]
  refine Finset.sum_congr rfl fun k _ => ?_
  have e1 : lidx_main_v3 (idx_main_v4 (ix2 r o)) k = ix2 k o := by
    funext a; apply Fin.ext
    match a with
    | ⟨0, _⟩ => rfl
    | ⟨1, _⟩ => rfl
  have e2 : ridx_main_v3 (idx_main_v4 (ix2 r o)) k = ix2 k r := by
    funext a; apply Fin.ext
    match a with
    | ⟨0, _⟩ => rfl
    | ⟨1, _⟩ => rfl
  rw [e1, e2]
  exact mul_comm (b (ix2 k o)) (a (ix2 k r))

theorem ref_arr (c : Dev nD) : Cert.Reference24Ideal.Read.val_main_v6 (F := Ideal) (A m c) (B m c) = res m c := by
  funext i
  obtain ⟨r, o, rfl⟩ : ∃ (r : Fin 512) (o : Fin 1024), i = ix2 r o := ⟨i 0, i 1, by funext a; match a with | ⟨0, _⟩ => rfl | ⟨1, _⟩ => rfl⟩
  exact ref_eq _ _ r o

theorem algebraic [Cert.Kernel24Ideal.Facts] [Cert.Reference24Ideal.Facts] : Cert.algebraic_Kernel24Ideal_Reference24Ideal := by
  pair_intro
  · run_from Cert.Kernel24Ideal.Value.run_blocks m g
  · run_from Cert.Reference24Ideal.Value.run m' g'
    exact (Cert.Reference24Ideal.Read.val_main_v6_eq (F := Ideal) (A m c) (B m c)).trans ((ref_arr m c).trans (final m c).symm)

end Cert.Proof.Dwupc

end
-- ==== Proof.XattnFwd.lean ====
/-
  The memory attention: per head, the softmax of the scaled scores against the 256 keys, times the values. The row's
  softmax and the blocks' scores are those of the gradient's module.
-/
module

public import proofs.«01_k».proof.Defs
public import proofs.«01_k».proof.Proof.Gen.Kernel25Ideal.Value
public import proofs.«01_k».proof.Proof.Gen.Reference25Ideal.Read
public import proofs.«01_k».proof.Proof.Xattn
public import Idealize.ShloMosaic.Lib.Tactic
public import Idealize.ShloMosaic.Lib.Claim

@[expose] public section

set_option maxRecDepth 16384

noncomputable section

open Idealize.ShloMosaic hiding ix1 ix2 ix3
open Idealize.ShloMosaic.TcCoe Idealize.ShloMosaic.ValueIdx Idealize.SL.Sem
open scoped BigOperators

namespace Cert.Proof.XattnFwd

open Cert.Kernel25Ideal Cert.Kernel25Ideal.Gen
open Cert.Proof.Xattn (hz hd hc hr hd_hc rw' mx ew lw pw sc rowOf kOf vOf ks ks_apply raw raw_apply pay17_apply lift3)

/-- One row of the attended values. -/
def att (q : Fin 1024 → EReal) (k v : Fin 256 → Fin 1024 → EReal) (c : Fin 1024) : EReal := ∑ m, pw (rw' q k (hc c)) m * v m c

/-! ## What a point of the grid leaves -/

section Outs
variable {F : FTy → Type} [FloatOps F]

/-- One head's attended values over a block of rows. -/
def head (h : Fin 4) (x0 : Vec F S512x1024 .bf16) (x1 x2 : Vec F S256x1024 .bf16) : FVec F S512x256 .f32 :=
  matmul dot_S512x256_S256x256_S512x256_1_0_0_1_n_n none (truncf .bf16 (Cert.KernelIdeal.Gen.k0_pay17 (raw h x0 x1)) bitsLt_bf16_f32) (ks h x2) (constant S512x256 .f32 0x00000000#32)

def outO (x0 : Vec F S512x1024 .bf16) (x1 x2 : Vec F S256x1024 .bf16) : FVec F S512x1024 .bf16 :=
  truncf .bf16 (concatenate S512x1024 1 [⟨S512x256, head 0 x0 x1 x2⟩, ⟨S512x256, head 1 x0 x1 x2⟩, ⟨S512x256, head 2 x0 x1 x2⟩, ⟨S512x256, head 3 x0 x1 x2⟩]
    concatenates_S512x256_S512x256_S512x256_S512x256_S512x1024_d1) bitsLt_bf16_f32

theorem out_eq (x0 : Vec F S512x1024 .bf16) (x1 x2 : Vec F S256x1024 .bf16) : out0_3 x0 x1 x2 = outO x0 x1 x2 := by
  unfold out0_3
  rw [View.canon_unit_zero hz]
  simp only [View.ld_unit_zero (S := S512x1024) hz, View.ld_unit_zero (S := S256x1024) hz]
  rfl

end Outs

theorem head_apply (h : Fin 4) (x0 : Vec Ideal S512x1024 .bf16) (x1 x2 : Vec Ideal S256x1024 .bf16) (r : Fin 512) (d : Fin 256) :
    head (F := Ideal) h x0 x1 x2 (ix2 r d) = ∑ m : Fin 256, pw (rw' (rowOf (n := 512) x0 r) (rowOf (n := 256) x1) h) m * x2 (ix2 m (hd h d)) := by
  show FloatOps.matmul (DotDims.plain 512 256 256) none (truncf .bf16 (Cert.KernelIdeal.Gen.k0_pay17 (F := Ideal) (raw (F := Ideal) h x0 x1)) bitsLt_bf16_f32) (ks (F := Ideal) h x2) (constant S512x256 .f32 0x00000000#32) (ix2 r d) = _
  rw [Ideal.matmul_plain_apply]
  show Ideal.ofBits .f32 0x00000000#32 + _ = _
  rw [Ideal.ofBits_zero_f32, zero_add]
  refine Finset.sum_congr rfl fun k _ => ?_
  rw [ks_apply]
  refine congrArg (· * x2 (ix2 k (hd h d))) ?_
  show Cert.KernelIdeal.Gen.k0_pay17 (F := Ideal) (raw (F := Ideal) h x0 x1) (ix2 r k) = _
  rw [pay17_apply]
  exact congrArg (pw · k) (funext fun j => raw_apply h _ _ r j)

theorem outO_apply (x0 : Vec Ideal S512x1024 .bf16) (x1 x2 : Vec Ideal S256x1024 .bf16) (r : Fin 512) (c : Fin 1024) :
    outO (F := Ideal) x0 x1 x2 (ix2 r c) = att (rowOf (n := 512) x0 r) (rowOf (n := 256) x1) (rowOf (n := 256) x2) c := by
  refine (concatenate_ofFn_apply (t := S512x1024) (s₁ := S512x256) 1 (fun h => head (F := Ideal) h x0 x1 x2) concatenates_S512x256_S512x256_S512x256_S512x256_S512x1024_d1 rfl 256 rfl (ix2 r c) (hc c) rfl (ix2 r (hr c)) rfl
    (fun b hb => match b with | ⟨0, _⟩ => rfl | ⟨1, _⟩ => absurd rfl hb)).trans ?_
  rw [head_apply, hd_hc]
  rfl

/-! ## From blocks to arrays -/

variable (m : (ℓ : Loc nD τ sig) → Buf (Elt Ideal) ℓ)

abbrev Q (c : Dev nD) : S8192x1024.Idx → EReal := m ((c : Thread nD τ).loc main_arg0)
abbrev KV (c : Dev nD) : S256x2048.Idx → EReal := m ((c : Thread nD τ).loc main_arg1)

abbrev res (c : Dev nD) : Buf (Elt Ideal) ((c : Thread nD τ).loc main_v0) := fun i : S8192x1024.Idx =>
  att (rowOf (n := 8192) (Q m c) (i 0)) (kOf (KV m c)) (vOf (KV m c)) (i 1)

abbrev blk0 (c : Dev nD) (t : Fin cfg0.N) : Vec Ideal S512x1024 .bf16 := iblk m c 0 t
abbrev blk1 (c : Dev nD) (t : Fin cfg0.N) : Vec Ideal S256x1024 .bf16 := iblk m c 1 t
abbrev blk2 (c : Dev nD) (t : Fin cfg0.N) : Vec Ideal S256x1024 .bf16 := iblk m c 2 t

theorem idx_facts : ∀ t : Fin cfg0.N,
    win0_0.index t 0 = t.val ∧ win0_0.index t 1 = 0 ∧ win0_1.index t 0 = 0 ∧ win0_1.index t 1 = 0
      ∧ win0_2.index t 0 = 0 ∧ win0_2.index t 1 = 1 ∧ win0_3.index t 0 = t.val ∧ win0_3.index t 1 = 0 :=
  (by decide +kernel : ∀ t : Fin grid0.N, _)

theorem lt16 (t : Fin cfg0.N) : t.val < 16 := lt_of_lt_of_eq t.isLt N_0

abbrev gr (t : ℕ) (ht : t < 16) (r : Fin 512) : Fin 8192 := ⟨t * 512 + r.val, by have := r.isLt; omega⟩

theorem blk0_row (c : Dev nD) (t : Fin cfg0.N) (r : Fin 512) : rowOf (n := 512) (blk0 m c t) r = rowOf (n := 8192) (Q m c) (gr t.val (lt16 t) r) := by
  obtain ⟨e0, e1, -⟩ := idx_facts t
  funext k
  show m ((c : Thread nD τ).loc main_arg0) _ = m ((c : Thread nD τ).loc main_arg0) _
  congr 1
  funext a; apply Fin.ext
  match a with
  | ⟨0, _⟩ => show win0_0.index t 0 * 512 + 1 * r.val = t.val * 512 + r.val; rw [e0]; omega
  | ⟨1, _⟩ => show win0_0.index t 1 * 1024 + 1 * k.val = k.val; rw [e1]; omega

theorem blk1_row (c : Dev nD) (t : Fin cfg0.N) : rowOf (n := 256) (blk1 m c t) = kOf (KV m c) := by
  obtain ⟨-, -, e0, e1, -⟩ := idx_facts t
  funext r k
  show m ((c : Thread nD τ).loc main_arg1) _ = m ((c : Thread nD τ).loc main_arg1) _
  congr 1
  funext a; apply Fin.ext
  match a with
  | ⟨0, _⟩ => show win0_1.index t 0 * 256 + 1 * r.val = r.val; rw [e0]; omega
  | ⟨1, _⟩ => show win0_1.index t 1 * 1024 + 1 * k.val = k.val; rw [e1]; omega

theorem blk2_row (c : Dev nD) (t : Fin cfg0.N) : rowOf (n := 256) (blk2 m c t) = vOf (KV m c) := by
  obtain ⟨-, -, -, -, e0, e1, -⟩ := idx_facts t
  funext r k
  show m ((c : Thread nD τ).loc main_arg1) _ = m ((c : Thread nD τ).loc main_arg1) _
  congr 1
  funext a; apply Fin.ext
  match a with
  | ⟨0, _⟩ => show win0_2.index t 0 * 256 + 1 * r.val = r.val; rw [e0]; omega
  | ⟨1, _⟩ => show win0_2.index t 1 * 1024 + 1 * k.val = 1024 + k.val; rw [e1]; omega

theorem flushed_eq (c : Dev nD) (t : Fin cfg0.N) :
    (dats m 0 c).flushed 3 t = ((cfg0.win 3).blk t).view.read (Elt Ideal) (res m c) := by
  obtain ⟨-, -, -, -, -, -, e0, e1⟩ := idx_facts t
  rw [Value.flushed3, out_eq]
  funext j
  obtain ⟨r, f, rfl⟩ : ∃ (r : Fin 512) (f : Fin 1024), j = ix2 r f := ⟨j 0, j 1, by funext a; match a with | ⟨0, _⟩ => rfl | ⟨1, _⟩ => rfl⟩
  refine (outO_apply (blk0 m c t) (blk1 m c t) (blk2 m c t) r f).trans ?_
  rw [blk0_row, blk1_row, blk2_row]
  show _ = res m c (((cfg0.win 3).blk t).view.emb (ix2 r f))
  have e : ((cfg0.win 3).blk t).view.emb (ix2 r f) = (ix2 (gr t.val (lt16 t) r) f : S8192x1024.Idx) := by
    funext a; apply Fin.ext
    match a with
    | ⟨0, _⟩ => show win0_3.index t 0 * 512 + 1 * r.val = t.val * 512 + r.val; rw [e0]; omega
    | ⟨1, _⟩ => show win0_3.index t 1 * 1024 + 1 * f.val = f.val; rw [e1]; omega
  rw [e]

theorem cover (i : S8192x1024.Idx) : ∃ t : Fin cfg0.N, (cfg0.win 3).flush t = true ∧ i ∈ ((cfg0.win 3).blk t).view.set := by
  have h0 : (i 0 : Nat) < 8192 := (i 0).isLt
  have h1 : (i 1 : Nat) < 1024 := (i 1).isLt
  let t : Fin cfg0.N := ⟨(i 0).val / 512, by rw [show cfg0.N = 16 from N_0]; omega⟩
  obtain ⟨-, -, -, -, -, -, e0, e1⟩ := idx_facts t
  refine ⟨t, flush0_3 t, ?_⟩
  show i ∈ ((View.whole main_v0).slice (win0_3.rect t)).set
  rw [View.set_slice_whole, Rect.mem_set_unit]
  intro a
  match a with
  | ⟨0, _⟩ => show win0_3.index t 0 * 512 ≤ (i 0).val ∧ (i 0).val < win0_3.index t 0 * 512 + 512; rw [e0]; dsimp only [t]; omega
  | ⟨1, _⟩ => show win0_3.index t 1 * 1024 ≤ (i 1).val ∧ (i 1).val < win0_3.index t 1 * 1024 + 1024; rw [e1]; omega

theorem final (c : Dev nD) : (dats m 0 c).arrAt 3 cfg0.N = res m c :=
  (dats m 0 c).arrAt_eq_of_cover 3 (res m c) (fun t _ => flushed_eq m c t) cover

/-! ## The reference: its stages up to the scores are those of the gradient's reference -/

section Ref
open Cert.Reference25Ideal.Read

variable (x0 : S8192x1024.Idx → EReal) (x1 : S256x2048.Idx → EReal)

abbrev sR (h : Fin 4) (r : Fin 8192) : Fin 256 → EReal := rw' (rowOf (n := 8192) x0 r) (kOf x1) h

theorem v9_at (i : Cert.Reference25Ideal.S4x8192x256.Idx) : val_main_v9 (F := Ideal) x0 x1 i = sR x0 x1 (i 0) (i 1) (i 2) * sc :=
  Xattn.v9_at x0 x1 i

theorem v12_at (j : Cert.Reference25Ideal.S4x8192.Idx) : val_main_v12 (F := Ideal) x0 x1 j = mx (sR x0 x1 (j 0) (j 1)) := by
  rw [val_main_v12_apply]
  refine (congrArg (max (Ideal.ofBits .f32 0xFF800000#32)) (Xattn.v10_at x0 x1 j)).trans ?_
  rw [ofBits_neg_inf, max_eq_right bot_le]

theorem v16_at (i : Cert.Reference25Ideal.S4x8192x256.Idx) : val_main_v16 (F := Ideal) x0 x1 i = ew (sR x0 x1 (i 0) (i 1)) (i 2) := by
  show Ideal.exp (val_main_v9 (F := Ideal) x0 x1 i - val_main_v14 (F := Ideal) x0 x1 i) = _
  rw [v9_at, val_main_v14_apply, val_main_v13_apply, v12_at]
  rfl

theorem v17_at (j : Cert.Reference25Ideal.S4x8192.Idx) : val_main_v17 (F := Ideal) x0 x1 j = lw (sR x0 x1 (j 0) (j 1)) := by
  rw [val_main_v17_apply]
  show Ideal.ofBits .f32 0x00000000#32 + _ = _
  rw [Ideal.ofBits_zero_f32, zero_add]
  refine Finset.sum_congr rfl fun k _ => ?_
  rw [v16_at]
  rfl

theorem v20_at (i : Cert.Reference25Ideal.S4x8192x256.Idx) : val_main_v20 (F := Ideal) x0 x1 i = pw (sR x0 x1 (i 0) (i 1)) (i 2) := by
  show Ideal.div (val_main_v16 (F := Ideal) x0 x1 i) (val_main_v19 (F := Ideal) x0 x1 i) = _
  rw [v16_at, val_main_v19_apply, val_main_v18_apply, v17_at]
  rfl

theorem v24_at (i : S8192x1024.Idx) :
    val_main_v24 (F := Ideal) x0 x1 i = att (rowOf (n := 8192) x0 (i 0)) (kOf x1) (vOf x1) (i 1) := by
  show val_main_v23 (F := Ideal) x0 x1 i = _
  have h0 : (i 0).val < 8192 := (i 0).isLt
  have h1 : (i 1).val < 1024 := (i 1).isLt
  have e : idx_main_v22 (idx_main_v23 i) = ix3 (hc (i 1)) (hr (i 1)) (i 0) := by
    funext a; apply Fin.ext
    match a with
    | ⟨0, _⟩ => show ((i 0).val * 1024 + (i 1).val) / 256 % 4 = (i 1).val / 256; omega
    | ⟨1, _⟩ => show ((i 0).val * 1024 + (i 1).val) % 256 = (i 1).val % 256; omega
    | ⟨2, _⟩ => show ((i 0).val * 1024 + (i 1).val) / 1024 = (i 0).val; omega
  rw [val_main_v23_apply, val_main_v22_apply]
  refine (congrArg (val_main_v21 (F := Ideal) x0 x1) e).trans ((val_main_v21_apply x0 x1 _).trans ?_)
  refine Finset.sum_congr rfl fun k _ => ?_
  rw [v20_at]
  refine (congrArg (· * _) (Xattn.v6_at x1 _)).trans ((mul_comm _ _).trans ?_)
  exact congrArg (fun c => _ * vOf x1 k c) (hd_hc (i 1))

end Ref

theorem ref_arr (c : Dev nD) : Cert.Reference25Ideal.Read.val_main_v24 (F := Ideal) (Q m c) (KV m c) = res m c :=
  funext fun i => v24_at (Q m c) (KV m c) i

theorem algebraic [Cert.Kernel25Ideal.Facts] [Cert.Reference25Ideal.Facts] : Cert.algebraic_Kernel25Ideal_Reference25Ideal := by
  pair_intro
  · run_from Cert.Kernel25Ideal.Value.run_blocks m g
  · run_from Cert.Reference25Ideal.Value.run m' g'
    exact (Cert.Reference25Ideal.Read.val_main_v24_eq (F := Ideal) (Q m c) (KV m c)).trans ((ref_arr m c).trans (final m c).symm)

end Cert.Proof.XattnFwd

end
-- ==== Proof.Dhq.lean ====
/-
  The gradient of the cross attention's query normalisation with its product by w_xq: one product per block of rows, then
  the normalisation's derivative of each row, and the sum over all rows of the derivative of the normalisation's weight.
-/
module

public import proofs.«01_k».proof.Defs
public import proofs.«01_k».proof.Proof.Gen.Kernel26Ideal.Value
public import proofs.«01_k».proof.Proof.Gen.Reference26Ideal.Read
public import proofs.«01_k».proof.Proof.Rms
public import proofs.«01_k».proof.Proof.Common
public import proofs.«01_k».proof.Proof.Dh
public import Idealize.ShloMosaic.Lib.Tactic
public import Idealize.ShloMosaic.Lib.Claim

@[expose] public section

set_option maxRecDepth 16384

noncomputable section

open Idealize.ShloMosaic hiding ix1 ix2 ix3
open Idealize.ShloMosaic.TcCoe Idealize.ShloMosaic.ValueIdx Idealize.SL.Sem
open Idealize.ShloMosaic.Pipeline (Dat)
open scoped BigOperators

namespace Cert.Proof.Dhq

open Cert.Kernel26Ideal Cert.Kernel26Ideal.Gen Cert.Proof.Rms

theorem hz : (![0, 0] : Fin 2 → Nat) = fun _ => 0 := funext fun a => by fin_cases a <;> rfl

/-! ## What a point of the grid leaves -/

section Outs
variable {F : FTy → Type} [FloatOps F]
variable (c : Dev nD) (i : grid0.Coords) (arg2 : Memref sig .tc .vmem S1024x1024 .bf16) (harg2 : arg2.IsWhole) (arg3 : Memref sig .tc .vmem S1024x1024 .bf16) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (arg8 : Memref sig .tc .vmem S1x1024 .f32) (harg8 : arg8.IsWhole) (arg9 : Memref sig .tc .vmem S1024x1024 .f32) (harg9 : arg9.IsWhole)
  (x0 x1 : Vec F S1024x1024 .bf16) (x2 : Vec F S1024x1024 .f32) (x3 : Vec F S1x1024 .f32) (x4 : Vec F S1024x1024 .f32) (xo6 : Vec F S1x1024 .f32)

theorem out_A_5 (hc0 : cond0_0 i) (hc1 : cond0_1 i) (hc2 : cond0_2 i) :
    out0_A_5 c i arg2 harg2 arg3 harg3 arg4 harg4 arg5 harg5 arg6 harg6 arg7 harg7 arg8 harg8 arg9 harg9 hc0 hc1 hc2 x0 x1 x2 x3 x4 = k0_pay6 (k0_pay3 k0_pay1 x0 x1) x2 x3 x4 := by
  unfold out0_A_5
  rw [View.read_writes_eq_canon _ _ _ (cover0_A_5 c i arg2 harg2 arg3 harg3 arg4 harg4 arg5 harg5 arg6 harg6 arg7 harg7 arg8 harg8 arg9 harg9 hc0 hc1 hc2 x0 x1 x2 x3 x4)]
  unfold kernelRun0_A
  dsimp only
  sl_unfold_words
  rw [View.canon_unit_zero hz, readCov_cons_zero (S := S1024x1024) _ hz, View.readCov_unit_zero (S := S1024x1024) _ hz]
  simp only [View.readAt_eq_ld, harg2.read_unread, harg3.read_unread, harg4.read_unread, harg5.read_unread, harg6.read_unread, harg8.read_unread, View.ld_unit_zero (S := S1024x1024) hz, View.ld_unit_zero (S := S1x1024) hz]

theorem out_B_5 (hc0 : cond0_0 i) (hc1 : ¬cond0_1 i) (hc2 : cond0_2 i) :
    out0_B_5 c i arg2 harg2 arg3 harg3 arg4 harg4 arg5 harg5 arg6 harg6 arg7 harg7 arg8 harg8 arg9 harg9 hc0 hc1 hc2 x0 x1 x2 x3 x4 xo6 = k0_pay6 (k0_pay3 k0_pay1 x0 x1) x2 x3 x4 := by
  unfold out0_B_5
  rw [View.read_writes_eq_canon _ _ _ (cover0_B_5 c i arg2 harg2 arg3 harg3 arg4 harg4 arg5 harg5 arg6 harg6 arg7 harg7 arg8 harg8 arg9 harg9 hc0 hc1 hc2 x0 x1 x2 x3 x4 xo6)]
  unfold kernelRun0_B
  dsimp only
  sl_unfold_words
  rw [View.canon_unit_zero hz, readCov_cons_zero (S := S1024x1024) _ hz, View.readCov_unit_zero (S := S1024x1024) _ hz]
  simp only [View.readAt_eq_ld, harg2.read_unread, harg3.read_unread, harg4.read_unread, harg5.read_unread, harg6.read_unread, harg8.read_unread, View.ld_unit_zero (S := S1024x1024) hz, View.ld_unit_zero (S := S1x1024) hz]

theorem out_A_6 (hc0 : cond0_0 i) (hc1 : cond0_1 i) (hc2 : cond0_2 i) :
    out0_A_6 c i arg2 harg2 arg3 harg3 arg4 harg4 arg5 harg5 arg6 harg6 arg7 harg7 arg8 harg8 arg9 harg9 hc0 hc1 hc2 x0 x1 x2 x3 x4 = k0_pay7 (k0_pay3 k0_pay1 x0 x1) x2 k0_pay2 := by
  unfold out0_A_6
  rw [View.read_writes_eq_canon _ _ _ (cover0_A_6 c i arg2 harg2 arg3 harg3 arg4 harg4 arg5 harg5 arg6 harg6 arg7 harg7 arg8 harg8 arg9 harg9 hc0 hc1 hc2 x0 x1 x2 x3 x4)]
  unfold kernelRun0_A
  dsimp only
  sl_unfold_words
  rw [View.canon_cons_unit_zero hz, readCov_cons_zero (S := S1024x1024) _ hz, View.readCov_unit_zero (S := S1024x1024) _ hz, View.readCov_unit_zero (S := S1x1024) _ hz]
  simp only [View.readAt_eq_ld, harg2.read_unread, harg3.read_unread, harg4.read_unread, harg5.read_unread, harg6.read_unread, harg8.read_unread, View.ld_unit_zero (S := S1024x1024) hz, View.ld_unit_zero (S := S1x1024) hz]

theorem out_B_6 (hc0 : cond0_0 i) (hc1 : ¬cond0_1 i) (hc2 : cond0_2 i) :
    out0_B_6 c i arg2 harg2 arg3 harg3 arg4 harg4 arg5 harg5 arg6 harg6 arg7 harg7 arg8 harg8 arg9 harg9 hc0 hc1 hc2 x0 x1 x2 x3 x4 xo6 = k0_pay7 (k0_pay3 k0_pay1 x0 x1) x2 xo6 := by
  unfold out0_B_6
  rw [View.read_writes_eq_canon _ _ _ (cover0_B_6 c i arg2 harg2 arg3 harg3 arg4 harg4 arg5 harg5 arg6 harg6 arg7 harg7 arg8 harg8 arg9 harg9 hc0 hc1 hc2 x0 x1 x2 x3 x4 xo6)]
  unfold kernelRun0_B
  dsimp only
  sl_unfold_words
  rw [View.canon_unit_zero hz, readCov_cons_zero (S := S1024x1024) _ hz, View.readCov_unit_zero (S := S1024x1024) _ hz]
  simp only [View.readAt_eq_ld, harg2.read_unread, harg3.read_unread, harg4.read_unread, harg5.read_unread, harg6.read_unread, harg8.read_unread, View.ld_unit_zero (S := S1024x1024) hz, View.ld_unit_zero (S := S1x1024) hz]

end Outs

/-! ## The payloads at an index -/

theorem pay3_apply (a b : Vec Ideal S1024x1024 .bf16) (r c : Fin 1024) :
    k0_pay3 (F := Ideal) (k0_pay1 (F := Ideal)) a b (ix2 r c) = ∑ k : Fin 1024, a (ix2 r k) * b (ix2 c k) := by
  unfold k0_pay3
  refine (shapeCast_apply _ _ _ (ix2 r c) rfl).trans ?_
  show k0_pay1 (F := Ideal) (ix2 r c) + FloatOps.matmul (F := Ideal) (DotDims.transposedRhs 1024 1024 1024) none (a : FVec Ideal S1024x1024 .bf16) (b : FVec Ideal S1024x1024 .bf16) (constant S1024x1024 .f32 0x00000000#32) (ix2 r c) = _
  rw [Ideal.matmul_transposedRhs_apply]
  show Ideal.ofBits .f32 0x00000000#32 + (Ideal.ofBits .f32 0x00000000#32 + _) = _
  rw [Ideal.ofBits_zero_f32, zero_add, zero_add]

theorem pay2_apply (j : S1x1024.Idx) : k0_pay2 (F := Ideal) j = 0 := Ideal.ofBits_zero_f32

theorem pay6_apply (d x : Vec Ideal S1024x1024 .f32) (g : Vec Ideal S1x1024 .f32) (y : Vec Ideal S1024x1024 .f32) (r c : Fin 1024) :
    k0_pay6 (F := Ideal) d x g y (ix2 r c) = dk (rowOf (n := 1024) d r) (rowOf (n := 1024) x r) (rowOf (n := 1) g 0) c + y (ix2 r c) :=
  Dh.pay7_apply d x g y r c

theorem pay7_apply (d x : Vec Ideal S1024x1024 .f32) (s : Vec Ideal S1x1024 .f32) (c : Fin 1024) :
    k0_pay7 (F := Ideal) d x s (ix2 (0 : Fin 1) c) = s (ix2 (0 : Fin 1) c) + ∑ r : Fin 1024, d (ix2 r c) * xh (rowOf (n := 1024) x r) c :=
  Dh.pay8_apply d x s c

/-! ## From blocks to arrays -/

variable (m : (ℓ : Loc nD τ sig) → Buf (Elt Ideal) ℓ)

abbrev DA (c : Dev nD) : S8192x1024.Idx → EReal := m ((c : Thread nD τ).loc main_arg0)
abbrev W (c : Dev nD) : S1024x1024.Idx → EReal := m ((c : Thread nD τ).loc main_arg1)
abbrev X (c : Dev nD) : S8192x1024.Idx → EReal := m ((c : Thread nD τ).loc main_arg2)
abbrev G (c : Dev nD) : S1x1024.Idx → EReal := m ((c : Thread nD τ).loc main_arg3)
abbrev DY (c : Dev nD) : S8192x1024.Idx → EReal := m ((c : Thread nD τ).loc main_arg4)

/-- The cotangent of the normalised row. -/
def dh (a : S8192x1024.Idx → EReal) (w : S1024x1024.Idx → EReal) (R : Fin 8192) (f : Fin 1024) : EReal := ∑ k : Fin 1024, a (ix2 R k) * w (ix2 f k)

/-- The terms of the derivative with respect to the normalisation's weight. -/
abbrev gterm (a : S8192x1024.Idx → EReal) (w : S1024x1024.Idx → EReal) (x : S8192x1024.Idx → EReal) (f : Fin 1024) (R : Fin 8192) : EReal :=
  dh a w R f * xh (rowOf (n := 8192) x R) f

def dg (a : S8192x1024.Idx → EReal) (w : S1024x1024.Idx → EReal) (x : S8192x1024.Idx → EReal) (f : Fin 1024) : EReal := ∑ R, gterm a w x f R

abbrev resX (c : Dev nD) : Buf (Elt Ideal) ((c : Thread nD τ).loc main_v0_0) := fun i : S8192x1024.Idx =>
  dk (dh (DA m c) (W m c) (i 0)) (rowOf (n := 8192) (X m c) (i 0)) (rowOf (n := 1) (G m c) 0) (i 1) + DY m c (ix2 (i 0) (i 1))
abbrev resG (c : Dev nD) : Buf (Elt Ideal) ((c : Thread nD τ).loc main_v0_1) := fun i : S1x1024.Idx => dg (DA m c) (W m c) (X m c) (i 1)

abbrev blk0 (c : Dev nD) (t : Fin cfg0.N) : Vec Ideal S1024x1024 .bf16 := iblk m c 0 t
abbrev blk1 (c : Dev nD) (t : Fin cfg0.N) : Vec Ideal S1024x1024 .bf16 := iblk m c 1 t
abbrev blk2 (c : Dev nD) (t : Fin cfg0.N) : Vec Ideal S1024x1024 .f32 := iblk m c 2 t
abbrev blk3 (c : Dev nD) (t : Fin cfg0.N) : Vec Ideal S1x1024 .f32 := iblk m c 3 t
abbrev blk4 (c : Dev nD) (t : Fin cfg0.N) : Vec Ideal S1024x1024 .f32 := iblk m c 4 t

theorem idx_in : ∀ t : Fin cfg0.N,
    (win0_0.index t 0 = t.val ∧ win0_0.index t 1 = 0) ∧ (win0_1.index t 0 = 0 ∧ win0_1.index t 1 = 0)
      ∧ (win0_2.index t 0 = t.val ∧ win0_2.index t 1 = 0) ∧ (win0_3.index t 0 = 0 ∧ win0_3.index t 1 = 0)
      ∧ win0_4.index t 0 = t.val ∧ win0_4.index t 1 = 0 :=
  (by decide +kernel : ∀ t : Fin grid0.N, _)

theorem idx_out : ∀ t : Fin cfg0.N,
    win0_5.index t 0 = t.val ∧ win0_5.index t 1 = 0 ∧ win0_6.index t 0 = 0 ∧ win0_6.index t 1 = 0 :=
  (by decide +kernel : ∀ t : Fin grid0.N, _)

theorem lt8 (t : Fin cfg0.N) : t.val < 8 := lt_of_lt_of_eq t.isLt N_0

abbrev gr (t : ℕ) (ht : t < 8) (r : Fin 1024) : Fin 8192 := ⟨t * 1024 + r.val, by have := r.isLt; omega⟩

theorem blk0_at (c : Dev nD) (t : Fin cfg0.N) (r k : Fin 1024) : blk0 m c t (ix2 r k) = DA m c (ix2 (gr t.val (lt8 t) r) k) := by
  obtain ⟨e0, e1⟩ := (idx_in t).1
  show m ((c : Thread nD τ).loc main_arg0) _ = m ((c : Thread nD τ).loc main_arg0) _
  congr 1
  funext a; apply Fin.ext
  match a with
  | ⟨0, _⟩ => show win0_0.index t 0 * 1024 + 1 * r.val = t.val * 1024 + r.val; rw [e0]; omega
  | ⟨1, _⟩ => show win0_0.index t 1 * 1024 + 1 * k.val = k.val; rw [e1]; omega
theorem blk1_at (c : Dev nD) (t : Fin cfg0.N) (r k : Fin 1024) : blk1 m c t (ix2 r k) = W m c (ix2 r k) := by
  obtain ⟨e0, e1⟩ := (idx_in t).2.1
  show m ((c : Thread nD τ).loc main_arg1) _ = m ((c : Thread nD τ).loc main_arg1) _
  congr 1
  funext a; apply Fin.ext
  match a with
  | ⟨0, _⟩ => show win0_1.index t 0 * 1024 + 1 * r.val = r.val; rw [e0]; omega
  | ⟨1, _⟩ => show win0_1.index t 1 * 1024 + 1 * k.val = k.val; rw [e1]; omega
theorem blk2_at (c : Dev nD) (t : Fin cfg0.N) (r k : Fin 1024) : blk2 m c t (ix2 r k) = X m c (ix2 (gr t.val (lt8 t) r) k) := by
  obtain ⟨e0, e1⟩ := (idx_in t).2.2.1
  show m ((c : Thread nD τ).loc main_arg2) _ = m ((c : Thread nD τ).loc main_arg2) _
  congr 1
  funext a; apply Fin.ext
  match a with
  | ⟨0, _⟩ => show win0_2.index t 0 * 1024 + 1 * r.val = t.val * 1024 + r.val; rw [e0]; omega
  | ⟨1, _⟩ => show win0_2.index t 1 * 1024 + 1 * k.val = k.val; rw [e1]; omega
theorem blk3_at (c : Dev nD) (t : Fin cfg0.N) (k : Fin 1024) : blk3 m c t (ix2 (0 : Fin 1) k) = G m c (ix2 (0 : Fin 1) k) := by
  obtain ⟨e0, e1⟩ := (idx_in t).2.2.2.1
  show m ((c : Thread nD τ).loc main_arg3) _ = m ((c : Thread nD τ).loc main_arg3) _
  congr 1
  funext a; apply Fin.ext
  match a with
  | ⟨0, _⟩ => show win0_3.index t 0 * 1 + 1 * 0 = 0; rw [e0]
  | ⟨1, _⟩ => show win0_3.index t 1 * 1024 + 1 * k.val = k.val; rw [e1]; omega
theorem blk4_at (c : Dev nD) (t : Fin cfg0.N) (r k : Fin 1024) : blk4 m c t (ix2 r k) = DY m c (ix2 (gr t.val (lt8 t) r) k) := by
  obtain ⟨e0, e1⟩ := (idx_in t).2.2.2.2
  show m ((c : Thread nD τ).loc main_arg4) _ = m ((c : Thread nD τ).loc main_arg4) _
  congr 1
  funext a; apply Fin.ext
  match a with
  | ⟨0, _⟩ => show win0_4.index t 0 * 1024 + 1 * r.val = t.val * 1024 + r.val; rw [e0]; omega
  | ⟨1, _⟩ => show win0_4.index t 1 * 1024 + 1 * k.val = k.val; rw [e1]; omega

/-! ## What the points write, as functions of the arrays -/

/-- The product of a point's blocks is the cotangent of its rows. -/
theorem prod_row (c : Dev nD) (t : Fin cfg0.N) (r : Fin 1024) :
    rowOf (n := 1024) (k0_pay3 (F := Ideal) (k0_pay1 (F := Ideal)) (blk0 m c t) (blk1 m c t)) r = dh (DA m c) (W m c) (gr t.val (lt8 t) r) := by
  funext f
  refine (pay3_apply _ _ r f).trans (Finset.sum_congr rfl fun k _ => ?_)
  rw [blk0_at, blk1_at]

theorem blk2_row (c : Dev nD) (t : Fin cfg0.N) (r : Fin 1024) : rowOf (n := 1024) (blk2 m c t) r = rowOf (n := 8192) (X m c) (gr t.val (lt8 t) r) :=
  funext fun f => blk2_at m c t r f

/-- What a point adds to the weight's derivative. -/
theorem g_sum (c : Dev nD) (t : Fin cfg0.N) (s : Vec Ideal S1x1024 .f32) (f : Fin 1024) :
    k0_pay7 (F := Ideal) (k0_pay3 (F := Ideal) (k0_pay1 (F := Ideal)) (blk0 m c t) (blk1 m c t)) (blk2 m c t) s (ix2 (0 : Fin 1) f)
      = s (ix2 (0 : Fin 1) f) + ∑ r : Fin 1024, gterm (DA m c) (W m c) (X m c) f ⟨t.val * 1024 + r.val, by have := lt8 t; have := r.isLt; omega⟩ := by
  refine (pay7_apply _ _ _ f).trans (congrArg (_ + ·) (Finset.sum_congr rfl fun r _ => ?_))
  rw [blk2_row]
  exact congrArg (· * _) (congrFun (prod_row m c t r) f)

theorem x_out (c : Dev nD) (t : Fin cfg0.N) : (outsAt0 m c t.val t.isLt).1
    = k0_pay6 (F := Ideal) (k0_pay3 (F := Ideal) (k0_pay1 (F := Ideal)) (blk0 m c t) (blk1 m c t)) (blk2 m c t) (blk3 m c t) (blk4 m c t) := by
  by_cases h : t.val % 8 = 0
  · rw [outsAt0_A m c t h]; dsimp only; rw [out_A_5]
  · rw [outsAt0_B m c t h]; dsimp only; rw [out_B_5]

theorem dg_at (c : Dev nD) : ∀ (n : ℕ) (hn : n < cfg0.N) (f : Fin 1024),
    (outsAt0 m c n hn).2 (ix2 (0 : Fin 1) f) = psum (gterm (DA m c) (W m c) (X m c) f) (n * 1024 + 1024) := by
  intro n
  induction n with
  | zero =>
    intro hn f
    have e := congrArg (fun z => z.2) (outsAt0_A m c ⟨0, hn⟩ rfl)
    dsimp only at e
    rw [out_A_6] at e
    rw [e, psum_add _ _ 1024 (by omega)]
    refine (g_sum m c ⟨0, hn⟩ _ f).trans ?_
    rw [pay2_apply]
    exact congrArg (· + _) (psum_zero _).symm
  | succ n ih =>
    intro hn f
    have h8 : n + 1 < 8 := lt8 ⟨n + 1, hn⟩
    have e := congrArg (fun z => z.2) (outsAt0_B m c ⟨n + 1, hn⟩ (by show ¬(n + 1) % 8 = 0; omega))
    dsimp only at e
    rw [out_B_6] at e
    rw [e, psum_add _ _ 1024 (by omega)]
    refine (g_sum m c ⟨n + 1, hn⟩ _ f).trans (congrArg (· + _) ?_)
    refine (ih (Nat.lt_of_succ_lt hn) f).trans ?_
    rw [show n * 1024 + 1024 = (n + 1) * 1024 by omega]

theorem flushed5_eq (c : Dev nD) (t : Fin cfg0.N) (ht : (cfg0.win 5).flush t = true) :
    (dats m 0 c).flushed 5 t = ((cfg0.win 5).blk t).view.read (Elt Ideal) (resX m c) := by
  obtain ⟨e0, e1, -⟩ := idx_out t
  rw [Value.flushed5, x_out]
  funext j
  obtain ⟨r, f, rfl⟩ : ∃ (r : Fin 1024) (f : Fin 1024), j = ix2 r f := ⟨j 0, j 1, by funext a; match a with | ⟨0, _⟩ => rfl | ⟨1, _⟩ => rfl⟩
  refine (pay6_apply _ _ _ _ r f).trans ?_
  rw [blk2_row, prod_row, show rowOf (n := 1) (blk3 m c t) 0 = rowOf (n := 1) (G m c) 0 from funext fun f => blk3_at m c t f, blk4_at]
  show _ = resX m c (((cfg0.win 5).blk t).view.emb (ix2 r f))
  have e : ((cfg0.win 5).blk t).view.emb (ix2 r f) = (ix2 (gr t.val (lt8 t) r) f : S8192x1024.Idx) := by
    funext a; apply Fin.ext
    match a with
    | ⟨0, _⟩ => show win0_5.index t 0 * 1024 + 1 * r.val = t.val * 1024 + r.val; rw [e0]; omega
    | ⟨1, _⟩ => show win0_5.index t 1 * 1024 + 1 * f.val = f.val; rw [e1]; omega
  rw [e]

theorem flushed6_eq (c : Dev nD) (t : Fin cfg0.N) (ht : (cfg0.win 6).flush t = true) :
    (dats m 0 c).flushed 6 t = ((cfg0.win 6).blk t).view.read (Elt Ideal) (resG m c) := by
  obtain ⟨-, -, e0, e1⟩ := idx_out t
  have ht := (flush0_6 t).1 ht
  have h8 := lt8 t
  rw [Value.flushed6]
  funext j
  obtain ⟨r, f, rfl⟩ : ∃ (r : Fin 1) (f : Fin 1024), j = ix2 r f := ⟨j 0, j 1, by funext a; match a with | ⟨0, _⟩ => rfl | ⟨1, _⟩ => rfl⟩
  obtain rfl : r = 0 := Subsingleton.elim _ _
  refine (dg_at m c t.val t.isLt f).trans ?_
  show _ = resG m c (((cfg0.win 6).blk t).view.emb (ix2 (0 : Fin 1) f))
  have e : ((cfg0.win 6).blk t).view.emb (ix2 (0 : Fin 1) f) = (ix2 (0 : Fin 1) f : S1x1024.Idx) := by
    funext a; apply Fin.ext
    match a with
    | ⟨0, _⟩ => show win0_6.index t 0 * 1 + 1 * 0 = 0; rw [e0]
    | ⟨1, _⟩ => show win0_6.index t 1 * 1024 + 1 * f.val = f.val; rw [e1]; omega
  rw [e, show t.val * 1024 + 1024 = 8192 by omega, psum_full]
  rfl

theorem cover5 (i : S8192x1024.Idx) : ∃ t : Fin cfg0.N, (cfg0.win 5).flush t = true ∧ i ∈ ((cfg0.win 5).blk t).view.set := by
  have h0 : (i 0 : Nat) < 8192 := (i 0).isLt
  have h1 : (i 1 : Nat) < 1024 := (i 1).isLt
  let t : Fin cfg0.N := ⟨(i 0).val / 1024, by rw [show cfg0.N = 8 from N_0]; omega⟩
  obtain ⟨e0, e1, -⟩ := idx_out t
  refine ⟨t, flush0_5 t, ?_⟩
  show i ∈ ((View.whole main_v0_0).slice (win0_5.rect t)).set
  rw [View.set_slice_whole, Rect.mem_set_unit]
  intro a
  match a with
  | ⟨0, _⟩ => show win0_5.index t 0 * 1024 ≤ (i 0).val ∧ (i 0).val < win0_5.index t 0 * 1024 + 1024; rw [e0]; dsimp only [t]; omega
  | ⟨1, _⟩ => show win0_5.index t 1 * 1024 ≤ (i 1).val ∧ (i 1).val < win0_5.index t 1 * 1024 + 1024; rw [e1]; omega

theorem cover6 (i : S1x1024.Idx) : ∃ t : Fin cfg0.N, (cfg0.win 6).flush t = true ∧ i ∈ ((cfg0.win 6).blk t).view.set := by
  have h0 : (i 0 : Nat) < 1 := (i 0).isLt
  have h1 : (i 1 : Nat) < 1024 := (i 1).isLt
  let t : Fin cfg0.N := ⟨7, by rw [show cfg0.N = 8 from N_0]; omega⟩
  obtain ⟨-, -, e0, e1⟩ := idx_out t
  refine ⟨t, (flush0_6 t).2 rfl, ?_⟩
  show i ∈ ((View.whole main_v0_1).slice (win0_6.rect t)).set
  rw [View.set_slice_whole, Rect.mem_set_unit]
  intro a
  match a with
  | ⟨0, _⟩ => show win0_6.index t 0 * 1 ≤ (i 0).val ∧ (i 0).val < win0_6.index t 0 * 1 + 1; rw [e0]; omega
  | ⟨1, _⟩ => show win0_6.index t 1 * 1024 ≤ (i 1).val ∧ (i 1).val < win0_6.index t 1 * 1024 + 1024; rw [e1]; omega

theorem final5 (c : Dev nD) : (dats m 0 c).arrAt 5 cfg0.N = resX m c :=
  (dats m 0 c).arrAt_eq_of_cover 5 (resX m c) (flushed5_eq m c) cover5
theorem final6 (c : Dev nD) : (dats m 0 c).arrAt 6 cfg0.N = resG m c :=
  (dats m 0 c).arrAt_eq_of_cover 6 (resG m c) (flushed6_eq m c) cover6

/-! ## The reference's formula -/

section Ref
open Cert.Reference26Ideal.Read

variable (x0 : S8192x1024.Idx → EReal) (x1 : S1024x1024.Idx → EReal) (x2 : S8192x1024.Idx → EReal) (x3 : S1x1024.Idx → EReal)

theorem v7_at (i : Cert.Reference26Ideal.S8192x1.Idx) : val_main_v7 (F := Ideal) x2 i = ms (rowOf (n := 8192) x2 (i 0)) := by
  show Ideal.div (val_main_v3 (F := Ideal) x2 i) (val_main_v4 (F := Ideal) i) + val_main_v6 (F := Ideal) i = _
  rw [val_main_v3_apply, val_main_v2_apply, val_main_v4_apply, val_main_v6_apply]
  show Ideal.div (Ideal.ofBits .f32 0x00000000#32 + _) cN + cE = _
  rw [Ideal.ofBits_zero_f32, zero_add]
  refine congrArg (fun z => Ideal.div z cN + cE) (Finset.sum_congr rfl fun k _ => ?_)
  show x2 _ * x2 _ = _
  have e : idx_main_v2 (idx_main_v3 i) k = (ix2 (i 0) k : S8192x1024.Idx) := by
    funext a; apply Fin.ext
    match a with
    | ⟨0, _⟩ => rfl
    | ⟨1, _⟩ => rfl
  rw [e]

theorem v8_at (i : Cert.Reference26Ideal.S8192x1.Idx) : val_main_v8 (F := Ideal) x2 i = rs (rowOf (n := 8192) x2 (i 0)) :=
  congrArg Ideal.rsqrt (v7_at x2 i)

theorem v13_at (R : Fin 8192) (k : Fin 1024) : val_main_v13 (F := Ideal) x2 (ix2 R k) = xh (rowOf (n := 8192) x2 R) k := by
  show x2 (ix2 R k) * val_main_v12 (F := Ideal) x2 (ix2 R k) = _
  rw [val_main_v12_apply, v8_at]
  rfl

theorem v20_at (R : Fin 8192) (f : Fin 1024) : val_main_v20 (F := Ideal) x0 x1 (ix2 R f) = dh x0 x1 R f := by
  rw [val_main_v20_apply]
  refine Finset.sum_congr rfl fun k _ => ?_
  have e : lidx_main_v20 (ix2 R f) k = (ix2 R k : Cert.Reference26Ideal.S8192x1024.Idx) := by
    funext a; apply Fin.ext
    match a with
    | ⟨0, _⟩ => rfl
    | ⟨1, _⟩ => rfl
  have e' : ridx_main_v20 (ix2 R f) k = (ix2 f k : S1024x1024.Idx) := by
    funext a; apply Fin.ext
    match a with
    | ⟨0, _⟩ => rfl
    | ⟨1, _⟩ => rfl
  rw [e, e']
  rfl

theorem v25_at (R : Fin 8192) (k : Fin 1024) : val_main_v25 (F := Ideal) x0 x1 x3 (ix2 R k) = dh x0 x1 R k * rowOf (n := 1) x3 0 k := by
  show val_main_v20 (F := Ideal) x0 x1 (ix2 R k) * val_main_v24 (F := Ideal) x3 (ix2 R k) = _
  rw [v20_at, val_main_v24_apply]
  refine congrArg (fun z => _ * x3 z) ?_
  funext a; apply Fin.ext
  match a with
  | ⟨0, _⟩ => rfl
  | ⟨1, _⟩ => rfl

theorem v23_at (f : Fin 1024) : val_main_v23 (F := Ideal) x0 x1 x2 (ix2 (0 : Fin 1) f) = dg x0 x1 x2 f := by
  rw [val_main_v23_apply, val_main_v22_apply]
  show Ideal.ofBits .f32 0x00000000#32 + _ = _
  rw [Ideal.ofBits_zero_f32, zero_add]
  refine Finset.sum_congr rfl fun R _ => ?_
  have e : idx_main_v22 (idx_main_v23 (ix2 (0 : Fin 1) f)) R = (ix2 R f : S8192x1024.Idx) := by
    funext a; apply Fin.ext
    match a with
    | ⟨0, _⟩ => rfl
    | ⟨1, _⟩ => first | rfl | (show 0 * 1024 + f.val = f.val; omega)
  rw [e]
  show val_main_v13 (F := Ideal) x2 (ix2 R f) * val_main_v20 (F := Ideal) x0 x1 (ix2 R f) = _
  rw [v13_at, v20_at, mul_comm]

theorem v36_at (R : Fin 8192) (k : Fin 1024) :
    val_main_v36 (F := Ideal) x0 x1 x2 x3 (ix2 R k) = wr (dh x0 x1 R) (rowOf (n := 8192) x2 R) (rowOf (n := 1) x3 0) := by
  rw [val_main_v36_apply, val_main_v35_apply]
  show Ideal.ofBits .f32 0x00000000#32 + _ = _
  rw [Ideal.ofBits_zero_f32, zero_add, Fin.sum_univ_one]
  have e : idx_main_v35 (idx_main_v36 (ix2 R k)) 0 = (ix2 R (0 : Fin 1) : Cert.Reference26Ideal.S8192x1.Idx) := by
    funext a; apply Fin.ext
    match a with
    | ⟨0, _⟩ => rfl
    | ⟨1, _⟩ => rfl
  rw [e]
  show Ideal.div (val_main_v28 (F := Ideal) x0 x1 x2 x3 (ix2 R (0 : Fin 1)) * (val_main_v10 (F := Ideal) _ * Ideal.div (val_main_v8 (F := Ideal) x2 _) (val_main_v7 (F := Ideal) x2 _))) (val_main_v33 (F := Ideal) _) = _
  rw [v8_at, v7_at, val_main_v33_apply, val_main_v10_apply, val_main_v28_apply, val_main_v27_apply]
  unfold wr
  refine congrArg (fun z => Ideal.div (z * (cH * Ideal.div (rs (rowOf (n := 8192) x2 R)) (ms (rowOf (n := 8192) x2 R)))) cN) ?_
  show Ideal.ofBits .f32 0x00000000#32 + _ = _
  rw [Ideal.ofBits_zero_f32, zero_add]
  refine Finset.sum_congr rfl fun j _ => ?_
  have e : idx_main_v27 (idx_main_v28 (ix2 R (0 : Fin 1))) j = (ix2 R j : S8192x1024.Idx) := by
    funext a; apply Fin.ext
    match a with
    | ⟨0, _⟩ => show R.val * 1 + 0 = R.val; omega
    | ⟨1, _⟩ => rfl
  rw [e]
  show x2 (ix2 R j) * val_main_v25 (F := Ideal) x0 x1 x3 (ix2 R j) = _
  rw [v25_at]

theorem v40_at (x4 : S8192x1024.Idx → EReal) (R : Fin 8192) (k : Fin 1024) :
    val_main_v40 (F := Ideal) x0 x1 x2 x3 x4 (ix2 R k)
      = x4 (ix2 R k) + dh x0 x1 R k * rowOf (n := 1) x3 0 k * rs (rowOf (n := 8192) x2 R)
        + rowOf (n := 8192) x2 R k * wr (dh x0 x1 R) (rowOf (n := 8192) x2 R) (rowOf (n := 1) x3 0)
        + wr (dh x0 x1 R) (rowOf (n := 8192) x2 R) (rowOf (n := 1) x3 0) * rowOf (n := 8192) x2 R k := by
  show x4 (ix2 R k) + val_main_v25 (F := Ideal) x0 x1 x3 (ix2 R k) * val_main_v29 (F := Ideal) x2 (ix2 R k)
    + x2 (ix2 R k) * val_main_v36 (F := Ideal) x0 x1 x2 x3 (ix2 R k) + val_main_v36 (F := Ideal) x0 x1 x2 x3 (ix2 R k) * x2 (ix2 R k) = _
  rw [v25_at, v36_at, val_main_v29_apply, v8_at]
  rfl

end Ref

/-- What the precondition says: every argument but the last is a real number throughout. -/
theorem fin_of_pre [Cert.Pre_finite26.Facts] (x0 : S8192x1024.Idx → EReal) (x1 : S1024x1024.Idx → EReal) (x2 : S8192x1024.Idx → EReal) (x3 : S1x1024.Idx → EReal)
    (x4 : S8192x1024.Idx → EReal) (h : Cert.Pre_finite26.fn (F := Ideal) x0 x1 x2 x3 x4 = fun _ => 1#1) :
    (∀ i, Fin' (x0 i)) ∧ (∀ i, Fin' (x1 i)) ∧ (∀ i, Fin' (x2 i)) ∧ ∀ i, Fin' (x3 i) := by
  have h := congrFun h (fun a => a.elim0)
  dsimp only [Cert.Pre_finite26.fn] at h
  obtain ⟨h, h3⟩ := IntOp.andi_eq_one.1 h
  obtain ⟨h, h2⟩ := IntOp.andi_eq_one.1 h
  obtain ⟨h0, h1⟩ := IntOp.andi_eq_one.1 h
  exact ⟨fin_of_all x0 _ (fun _ => rfl) _ _ _ _ h0, fin_of_all x1 _ (fun _ => rfl) _ _ _ _ h1, fin_of_all x2 _ (fun _ => rfl) _ _ _ _ h2,
    fin_of_all x3 _ (fun _ => rfl) _ _ _ _ h3⟩

theorem ref_x [Cert.Pre_finite26.Facts] (hpre : Cert.Pre_Kernel26Ideal_finite26 m) (c : Dev nD) :
    Cert.Reference26Ideal.Read.val_main_v40 (F := Ideal) (DA m c) (W m c) (X m c) (G m c) (DY m c) = resX m c := by
  obtain ⟨h0, h1, h2, h3⟩ := fin_of_pre _ _ _ _ _ (hpre c)
  funext i
  obtain ⟨R, f, rfl⟩ : ∃ (R : Fin 8192) (f : Fin 1024), i = ix2 R f := ⟨i 0, i 1, by funext a; match a with | ⟨0, _⟩ => rfl | ⟨1, _⟩ => rfl⟩
  refine (v40_at _ _ _ _ _ R f).trans (dk_eq (fun k => ?_) (fun k => h2 _) (fun k => h3 _) _ f)
  exact Fin'.sum _ fun j => Fin'.mul (h0 _) (h1 _)

theorem ref_g (c : Dev nD) : Cert.Reference26Ideal.Read.val_main_v23 (F := Ideal) (DA m c) (W m c) (X m c) = resG m c := by
  funext i
  obtain ⟨r, f, rfl⟩ : ∃ (r : Fin 1) (f : Fin 1024), i = ix2 r f := ⟨i 0, i 1, by funext a; match a with | ⟨0, _⟩ => rfl | ⟨1, _⟩ => rfl⟩
  obtain rfl : r = 0 := Subsingleton.elim _ _
  exact v23_at _ _ _ f

/-- The reference's two results, as functions of its arguments. -/
@[irreducible] def refX (a : S8192x1024.Idx → EReal) (w : S1024x1024.Idx → EReal) (x : S8192x1024.Idx → EReal) (g : S1x1024.Idx → EReal)
    (y : S8192x1024.Idx → EReal) : S8192x1024.Idx → EReal := Cert.Reference26Ideal.Read.val_main_v40 (F := Ideal) a w x g y
@[irreducible] def refG (a : S8192x1024.Idx → EReal) (w : S1024x1024.Idx → EReal) (x : S8192x1024.Idx → EReal) : S1x1024.Idx → EReal :=
  Cert.Reference26Ideal.Read.val_main_v23 (F := Ideal) a w x

theorem ref_run [Cert.Reference26Ideal.Facts] (m : (ℓ : Loc Cert.Reference26Ideal.nD Cert.Reference26Ideal.τ Cert.Reference26Ideal.sig) → Buf (Elt Ideal) ℓ) (ρ : Dev Cert.Reference26Ideal.nD → PrngReg) :
    θ_run Cert.Reference26Ideal.defs (onTc (τ := Cert.Reference26Ideal.τ) (Cert.Reference26Ideal.main (F := Ideal))) ⟨m, fun _ => 0, ρ⟩ fun r => ∀ c : Dev Cert.Reference26Ideal.nD,
      r.2.mem ((c.tc : Thread Cert.Reference26Ideal.nD Cert.Reference26Ideal.τ).loc Cert.Reference26Ideal.main_v40) = refX (m ((c.tc : Thread Cert.Reference26Ideal.nD Cert.Reference26Ideal.τ).loc Cert.Reference26Ideal.main_arg0)) (m ((c.tc : Thread Cert.Reference26Ideal.nD Cert.Reference26Ideal.τ).loc Cert.Reference26Ideal.main_arg1)) (m ((c.tc : Thread Cert.Reference26Ideal.nD Cert.Reference26Ideal.τ).loc Cert.Reference26Ideal.main_arg2)) (m ((c.tc : Thread Cert.Reference26Ideal.nD Cert.Reference26Ideal.τ).loc Cert.Reference26Ideal.main_arg3)) (m ((c.tc : Thread Cert.Reference26Ideal.nD Cert.Reference26Ideal.τ).loc Cert.Reference26Ideal.main_arg4))
      ∧ r.2.mem ((c.tc : Thread Cert.Reference26Ideal.nD Cert.Reference26Ideal.τ).loc Cert.Reference26Ideal.main_v23) = refG (m ((c.tc : Thread Cert.Reference26Ideal.nD Cert.Reference26Ideal.τ).loc Cert.Reference26Ideal.main_arg0)) (m ((c.tc : Thread Cert.Reference26Ideal.nD Cert.Reference26Ideal.τ).loc Cert.Reference26Ideal.main_arg1)) (m ((c.tc : Thread Cert.Reference26Ideal.nD Cert.Reference26Ideal.τ).loc Cert.Reference26Ideal.main_arg2))
      ∧ r.2.mem ((c.tc : Thread Cert.Reference26Ideal.nD Cert.Reference26Ideal.τ).loc Cert.Reference26Ideal.main_arg0) = m ((c.tc : Thread Cert.Reference26Ideal.nD Cert.Reference26Ideal.τ).loc Cert.Reference26Ideal.main_arg0)
      ∧ r.2.mem ((c.tc : Thread Cert.Reference26Ideal.nD Cert.Reference26Ideal.τ).loc Cert.Reference26Ideal.main_arg1) = m ((c.tc : Thread Cert.Reference26Ideal.nD Cert.Reference26Ideal.τ).loc Cert.Reference26Ideal.main_arg1)
      ∧ r.2.mem ((c.tc : Thread Cert.Reference26Ideal.nD Cert.Reference26Ideal.τ).loc Cert.Reference26Ideal.main_arg2) = m ((c.tc : Thread Cert.Reference26Ideal.nD Cert.Reference26Ideal.τ).loc Cert.Reference26Ideal.main_arg2)
      ∧ r.2.mem ((c.tc : Thread Cert.Reference26Ideal.nD Cert.Reference26Ideal.τ).loc Cert.Reference26Ideal.main_arg3) = m ((c.tc : Thread Cert.Reference26Ideal.nD Cert.Reference26Ideal.τ).loc Cert.Reference26Ideal.main_arg3)
      ∧ r.2.mem ((c.tc : Thread Cert.Reference26Ideal.nD Cert.Reference26Ideal.τ).loc Cert.Reference26Ideal.main_arg4) = m ((c.tc : Thread Cert.Reference26Ideal.nD Cert.Reference26Ideal.τ).loc Cert.Reference26Ideal.main_arg4) := by
  refine (θ_run _ _ _).mono (fun r h c => ⟨(h c).1.trans ?_, (h c).2.1.trans ?_, ?_⟩) (Cert.Reference26Ideal.Value.run m ρ)
  · exact (h c).2.2
  · unfold refX; exact Cert.Reference26Ideal.Read.val_main_v40_eq m c
  · unfold refG; exact Cert.Reference26Ideal.Read.val_main_v23_eq _ _ _

theorem algebraic [Cert.Pre_finite26.Facts] [Cert.Kernel26Ideal.Facts] [Cert.Reference26Ideal.Facts] :
    Cert.algebraic_Kernel26Ideal_Reference26Ideal_pre_finite26 := by
  pair_intro
  · run_from Cert.Kernel26Ideal.Value.run_blocks m g
  · run_from ref_run m' g'
    · unfold refX
      exact (ref_x m hpre c).trans (final5 m c).symm
    · unfold refG
      exact (ref_g m c).trans (final6 m c).symm

end Cert.Proof.Dhq

end
-- ==== Proof.lean ====
/-
  The proof of `Cert.Claim`: the frames are the launches' generated ones, the references' frames are read off their
  runs, and every value claim is the last theorem of the module named after the launch.
-/
module

public import proofs.«01_k».proof.Defs
public import proofs.«01_k».proof.Proof.Pin
public import proofs.«01_k».proof.Proof.Gen.Kernel.Frame
public import proofs.«01_k».proof.Proof.Gen.KernelIdeal.Frame
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.Kernel2.Frame
public import proofs.«01_k».proof.Proof.Gen.Kernel2Ideal.Frame
public import proofs.«01_k».proof.Proof.Gen.Kernel2Ideal.Value
public import proofs.«01_k».proof.Proof.Gen.Reference2Ideal.Run
public import proofs.«01_k».proof.Proof.Gen.Reference2Ideal.Read
public import proofs.«01_k».proof.Proof.Gen.Kernel3.Frame
public import proofs.«01_k».proof.Proof.Gen.Kernel3Ideal.Frame
public import proofs.«01_k».proof.Proof.Gen.Kernel3Ideal.Value
public import proofs.«01_k».proof.Proof.Gen.Kernel4.Frame
public import proofs.«01_k».proof.Proof.Gen.Kernel4Ideal.Frame
public import proofs.«01_k».proof.Proof.Gen.Kernel4Ideal.Value
public import proofs.«01_k».proof.Proof.Gen.Reference4Ideal.Run
public import proofs.«01_k».proof.Proof.Gen.Reference4Ideal.Read
public import proofs.«01_k».proof.Proof.Gen.Kernel5.Frame
public import proofs.«01_k».proof.Proof.Gen.Kernel5Ideal.Frame
public import proofs.«01_k».proof.Proof.Gen.Kernel5Ideal.Value
public import proofs.«01_k».proof.Proof.Gen.Reference5Ideal.Run
public import proofs.«01_k».proof.Proof.Gen.Reference5Ideal.Read
public import proofs.«01_k».proof.Proof.Gen.Kernel6.Frame
public import proofs.«01_k».proof.Proof.Gen.Kernel6Ideal.Frame
public import proofs.«01_k».proof.Proof.Gen.Kernel6Ideal.Value
public import proofs.«01_k».proof.Proof.Gen.Reference6Ideal.Run
public import proofs.«01_k».proof.Proof.Gen.Reference6Ideal.Read
public import proofs.«01_k».proof.Proof.Gen.Kernel7.Frame
public import proofs.«01_k».proof.Proof.Gen.Kernel7Ideal.Frame
public import proofs.«01_k».proof.Proof.Gen.Kernel7Ideal.Value
public import proofs.«01_k».proof.Proof.Gen.Reference7Ideal.Run
public import proofs.«01_k».proof.Proof.Gen.Reference7Ideal.Read
public import proofs.«01_k».proof.Proof.Gen.Kernel8.Frame
public import proofs.«01_k».proof.Proof.Gen.Kernel8Ideal.Frame
public import proofs.«01_k».proof.Proof.Gen.Kernel8Ideal.Value
public import proofs.«01_k».proof.Proof.Gen.Reference8Ideal.Run
public import proofs.«01_k».proof.Proof.Gen.Reference8Ideal.Read
public import proofs.«01_k».proof.Proof.Gen.Kernel9.Frame
public import proofs.«01_k».proof.Proof.Gen.Kernel9Ideal.Frame
public import proofs.«01_k».proof.Proof.Gen.Kernel9Ideal.Value
public import proofs.«01_k».proof.Proof.Gen.Reference9Ideal.Run
public import proofs.«01_k».proof.Proof.Gen.Reference9Ideal.Read
public import proofs.«01_k».proof.Proof.Gen.Kernel10.Frame
public import proofs.«01_k».proof.Proof.Gen.Kernel10Ideal.Frame
public import proofs.«01_k».proof.Proof.Gen.Kernel10Ideal.Value
public import proofs.«01_k».proof.Proof.Gen.Reference10Ideal.Run
public import proofs.«01_k».proof.Proof.Gen.Reference10Ideal.Read
public import proofs.«01_k».proof.Proof.Gen.Kernel11.Frame
public import proofs.«01_k».proof.Proof.Gen.Kernel11Ideal.Frame
public import proofs.«01_k».proof.Proof.Gen.Kernel11Ideal.Value
public import proofs.«01_k».proof.Proof.Gen.Reference11Ideal.Run
public import proofs.«01_k».proof.Proof.Gen.Reference11Ideal.Read
public import proofs.«01_k».proof.Proof.Gen.Kernel12.Frame
public import proofs.«01_k».proof.Proof.Gen.Kernel12Ideal.Frame
public import proofs.«01_k».proof.Proof.Gen.Kernel12Ideal.Value
public import proofs.«01_k».proof.Proof.Gen.Reference12Ideal.Run
public import proofs.«01_k».proof.Proof.Gen.Reference12Ideal.Read
public import proofs.«01_k».proof.Proof.Gen.Kernel13.Frame
public import proofs.«01_k».proof.Proof.Gen.Kernel13Ideal.Frame
public import proofs.«01_k».proof.Proof.Gen.Kernel13Ideal.Value
public import proofs.«01_k».proof.Proof.Gen.Reference13Ideal.Run
public import proofs.«01_k».proof.Proof.Gen.Reference13Ideal.Read
public import proofs.«01_k».proof.Proof.Gen.Kernel14.Frame
public import proofs.«01_k».proof.Proof.Gen.Kernel14Ideal.Frame
public import proofs.«01_k».proof.Proof.Gen.Kernel14Ideal.Value
public import proofs.«01_k».proof.Proof.Gen.Reference14Ideal.Run
public import proofs.«01_k».proof.Proof.Gen.Reference14Ideal.Read
public import proofs.«01_k».proof.Proof.Gen.Kernel15.Frame
public import proofs.«01_k».proof.Proof.Gen.Kernel15Ideal.Frame
public import proofs.«01_k».proof.Proof.Gen.Kernel15Ideal.Value
public import proofs.«01_k».proof.Proof.Gen.Reference15Ideal.Run
public import proofs.«01_k».proof.Proof.Gen.Reference15Ideal.Read
public import proofs.«01_k».proof.Proof.Gen.Kernel16.Frame
public import proofs.«01_k».proof.Proof.Gen.Kernel16Ideal.Frame
public import proofs.«01_k».proof.Proof.Gen.Kernel16Ideal.Value
public import proofs.«01_k».proof.Proof.Gen.Reference16Ideal.Run
public import proofs.«01_k».proof.Proof.Gen.Reference16Ideal.Read
public import proofs.«01_k».proof.Proof.Gen.Kernel17.Flash
public import proofs.«01_k».proof.Proof.Gen.Kernel17Ideal.Flash
public import proofs.«01_k».proof.Proof.Gen.Reference17Ideal.Run
public import proofs.«01_k».proof.Proof.Gen.Reference17Ideal.Read
public import proofs.«01_k».proof.Proof.Gen.Kernel18.Frame
public import proofs.«01_k».proof.Proof.Gen.Kernel18Ideal.Frame
public import proofs.«01_k».proof.Proof.Gen.Kernel18Ideal.Value
public import proofs.«01_k».proof.Proof.Gen.Reference18Ideal.Run
public import proofs.«01_k».proof.Proof.Gen.Reference18Ideal.Read
public import proofs.«01_k».proof.Proof.Gen.Kernel19.Frame
public import proofs.«01_k».proof.Proof.Gen.Kernel19Ideal.Frame
public import proofs.«01_k».proof.Proof.Gen.Kernel19Ideal.Value
public import proofs.«01_k».proof.Proof.Gen.Reference19Ideal.Run
public import proofs.«01_k».proof.Proof.Gen.Reference19Ideal.Read
public import proofs.«01_k».proof.Proof.Gen.Kernel20.Frame
public import proofs.«01_k».proof.Proof.Gen.Kernel20Ideal.Frame
public import proofs.«01_k».proof.Proof.Gen.Kernel20Ideal.Value
public import proofs.«01_k».proof.Proof.Gen.Reference20Ideal.Run
public import proofs.«01_k».proof.Proof.Gen.Reference20Ideal.Read
public import proofs.«01_k».proof.Proof.Gen.Kernel21.Frame
public import proofs.«01_k».proof.Proof.Gen.Kernel21Ideal.Frame
public import proofs.«01_k».proof.Proof.Gen.Kernel21Ideal.Value
public import proofs.«01_k».proof.Proof.Gen.Reference21Ideal.Run
public import proofs.«01_k».proof.Proof.Gen.Reference21Ideal.Read
public import proofs.«01_k».proof.Proof.Gen.Kernel22.Frame
public import proofs.«01_k».proof.Proof.Gen.Kernel22Ideal.Frame
public import proofs.«01_k».proof.Proof.Gen.Kernel22Ideal.Value
public import proofs.«01_k».proof.Proof.Gen.Reference22Ideal.Run
public import proofs.«01_k».proof.Proof.Gen.Reference22Ideal.Read
public import proofs.«01_k».proof.Proof.Gen.Kernel23.Frame
public import proofs.«01_k».proof.Proof.Gen.Kernel23Ideal.Frame
public import proofs.«01_k».proof.Proof.Gen.Kernel23Ideal.Value
public import proofs.«01_k».proof.Proof.Gen.Reference23Ideal.Run
public import proofs.«01_k».proof.Proof.Gen.Reference23Ideal.Read
public import proofs.«01_k».proof.Proof.Gen.Kernel24.Frame
public import proofs.«01_k».proof.Proof.Gen.Kernel24Ideal.Frame
public import proofs.«01_k».proof.Proof.Gen.Kernel24Ideal.Value
public import proofs.«01_k».proof.Proof.Gen.Reference24Ideal.Run
public import proofs.«01_k».proof.Proof.Gen.Reference24Ideal.Read
public import proofs.«01_k».proof.Proof.Gen.Kernel25.Frame
public import proofs.«01_k».proof.Proof.Gen.Kernel25Ideal.Frame
public import proofs.«01_k».proof.Proof.Gen.Kernel25Ideal.Value
public import proofs.«01_k».proof.Proof.Gen.Reference25Ideal.Run
public import proofs.«01_k».proof.Proof.Gen.Reference25Ideal.Read
public import proofs.«01_k».proof.Proof.Gen.Kernel26.Frame
public import proofs.«01_k».proof.Proof.Gen.Kernel26Ideal.Frame
public import proofs.«01_k».proof.Proof.Gen.Kernel26Ideal.Value
public import proofs.«01_k».proof.Proof.Gen.Reference26Ideal.Run
public import proofs.«01_k».proof.Proof.Gen.Reference26Ideal.Read
public import proofs.«01_k».proof.Proof.Gen.Pre_finite1
public import proofs.«01_k».proof.Proof.Gen.Pre_finite4
public import proofs.«01_k».proof.Proof.Gen.Pre_finite5
public import proofs.«01_k».proof.Proof.Gen.Pre_tables17
public import proofs.«01_k».proof.Proof.Gen.Pre_finite17
public import proofs.«01_k».proof.Proof.Gen.Pre_finite26
public import proofs.«01_k».proof.Proof.Xattn
public import proofs.«01_k».proof.Proof.Merge
public import proofs.«01_k».proof.Proof.Swiglu
public import proofs.«01_k».proof.Proof.Dh
public import proofs.«01_k».proof.Proof.Dwout
public import proofs.«01_k».proof.Proof.Dwin
public import proofs.«01_k».proof.Proof.Dwp
public import proofs.«01_k».proof.Proof.Du
public import proofs.«01_k».proof.Proof.Gate
public import proofs.«01_k».proof.Proof.FfnOut
public import proofs.«01_k».proof.Proof.Proj
public import proofs.«01_k».proof.Proof.Xq
public import proofs.«01_k».proof.Proof.Wo
public import proofs.«01_k».proof.Proof.Dmerged
public import proofs.«01_k».proof.Proof.Dyb
public import proofs.«01_k».proof.Proof.Flash
public import proofs.«01_k».proof.Proof.Dwo
public import proofs.«01_k».proof.Proof.Dwxq
public import proofs.«01_k».proof.Proof.Upa
public import proofs.«01_k».proof.Proof.Dyc
public import proofs.«01_k».proof.Proof.Upc
public import proofs.«01_k».proof.Proof.Dwupa
public import proofs.«01_k».proof.Proof.Dwupc
public import proofs.«01_k».proof.Proof.XattnFwd
public import proofs.«01_k».proof.Proof.Dhq
public import Idealize.ShloMosaic.Adequacy
public import Idealize.ShloMosaic.Init

@[expose] public section

noncomputable section

namespace Cert.Proof

open Idealize.ShloMosaic Idealize.SL.Sem

theorem claim : Cert.Claim :=
  ⟨Cert.Kernel.Gen.facts,
    Cert.KernelIdeal.Gen.facts,
    Cert.ReferenceIdeal.Gen.facts,
    Cert.Kernel2.Gen.facts,
    Cert.Kernel2Ideal.Gen.facts,
    Cert.Reference2Ideal.Gen.facts,
    Cert.Kernel3.Gen.facts,
    Cert.Kernel3Ideal.Gen.facts,
    Cert.Kernel4.Gen.facts,
    Cert.Kernel4Ideal.Gen.facts,
    Cert.Reference4Ideal.Gen.facts,
    Cert.Kernel5.Gen.facts,
    Cert.Kernel5Ideal.Gen.facts,
    Cert.Reference5Ideal.Gen.facts,
    Cert.Kernel6.Gen.facts,
    Cert.Kernel6Ideal.Gen.facts,
    Cert.Reference6Ideal.Gen.facts,
    Cert.Kernel7.Gen.facts,
    Cert.Kernel7Ideal.Gen.facts,
    Cert.Reference7Ideal.Gen.facts,
    Cert.Kernel8.Gen.facts,
    Cert.Kernel8Ideal.Gen.facts,
    Cert.Reference8Ideal.Gen.facts,
    Cert.Kernel9.Gen.facts,
    Cert.Kernel9Ideal.Gen.facts,
    Cert.Reference9Ideal.Gen.facts,
    Cert.Kernel10.Gen.facts,
    Cert.Kernel10Ideal.Gen.facts,
    Cert.Reference10Ideal.Gen.facts,
    Cert.Kernel11.Gen.facts,
    Cert.Kernel11Ideal.Gen.facts,
    Cert.Reference11Ideal.Gen.facts,
    Cert.Kernel12.Gen.facts,
    Cert.Kernel12Ideal.Gen.facts,
    Cert.Reference12Ideal.Gen.facts,
    Cert.Kernel13.Gen.facts,
    Cert.Kernel13Ideal.Gen.facts,
    Cert.Reference13Ideal.Gen.facts,
    Cert.Kernel14.Gen.facts,
    Cert.Kernel14Ideal.Gen.facts,
    Cert.Reference14Ideal.Gen.facts,
    Cert.Kernel15.Gen.facts,
    Cert.Kernel15Ideal.Gen.facts,
    Cert.Reference15Ideal.Gen.facts,
    Cert.Kernel16.Gen.facts,
    Cert.Kernel16Ideal.Gen.facts,
    Cert.Reference16Ideal.Gen.facts,
    Cert.Kernel17.Gen.facts,
    Cert.Kernel17Ideal.Gen.facts,
    Cert.Reference17Ideal.Gen.facts,
    Cert.Kernel18.Gen.facts,
    Cert.Kernel18Ideal.Gen.facts,
    Cert.Reference18Ideal.Gen.facts,
    Cert.Kernel19.Gen.facts,
    Cert.Kernel19Ideal.Gen.facts,
    Cert.Reference19Ideal.Gen.facts,
    Cert.Kernel20.Gen.facts,
    Cert.Kernel20Ideal.Gen.facts,
    Cert.Reference20Ideal.Gen.facts,
    Cert.Kernel21.Gen.facts,
    Cert.Kernel21Ideal.Gen.facts,
    Cert.Reference21Ideal.Gen.facts,
    Cert.Kernel22.Gen.facts,
    Cert.Kernel22Ideal.Gen.facts,
    Cert.Reference22Ideal.Gen.facts,
    Cert.Kernel23.Gen.facts,
    Cert.Kernel23Ideal.Gen.facts,
    Cert.Reference23Ideal.Gen.facts,
    Cert.Kernel24.Gen.facts,
    Cert.Kernel24Ideal.Gen.facts,
    Cert.Reference24Ideal.Gen.facts,
    Cert.Kernel25.Gen.facts,
    Cert.Kernel25Ideal.Gen.facts,
    Cert.Reference25Ideal.Gen.facts,
    Cert.Kernel26.Gen.facts,
    Cert.Kernel26Ideal.Gen.facts,
    Cert.Reference26Ideal.Gen.facts,
    Cert.Pre_finite1.Gen.facts,
    Cert.Pre_finite4.Gen.facts,
    Cert.Pre_finite5.Gen.facts,
    Cert.Pre_tables17.Gen.facts,
    Cert.Pre_finite17.Gen.facts,
    Cert.Pre_finite26.Gen.facts,
    fun m g _ => Cert.Kernel.Gen.frame m g,
    fun m g _ => Cert.KernelIdeal.Gen.frame m g,
    fun m g _ => Cert.KernelIdeal.Gen.frame m g,
    fun m g _ => (θ_run _ _ _).mono (fun r h => ⟨fun c => (h c).2.2, sem_eq_zero_of_no_sems (by decide) r.2⟩) (Cert.ReferenceIdeal.Value.run m g),
    fun m g _ => (θ_run _ _ _).mono (fun r h => ⟨fun c => (h c).2.2, sem_eq_zero_of_no_sems (by decide) r.2⟩) (Cert.ReferenceIdeal.Value.run m g),
    fun m g _ => Cert.Kernel2.Gen.frame m g,
    fun m g _ => Cert.Kernel2Ideal.Gen.frame m g,
    fun m g _ => (θ_run _ _ _).mono (fun r h => ⟨fun c => (h c).2.2.2.2.2, sem_eq_zero_of_no_sems (by decide) r.2⟩) (Cert.Reference2Ideal.Value.run m g),
    fun m g _ => Cert.Kernel3.Gen.frame m g,
    fun m g _ => Cert.Kernel3Ideal.Gen.frame m g,
    fun m g _ => Cert.Kernel4.Gen.frame m g,
    fun m g _ => Cert.Kernel4Ideal.Gen.frame m g,
    fun m g _ => Cert.Kernel4Ideal.Gen.frame m g,
    fun m g _ => (θ_run _ _ _).mono (fun r h => ⟨fun c => (h c).2.2, sem_eq_zero_of_no_sems (by decide) r.2⟩) (Cert.Reference4Ideal.Value.run m g),
    fun m g _ => (θ_run _ _ _).mono (fun r h => ⟨fun c => (h c).2.2, sem_eq_zero_of_no_sems (by decide) r.2⟩) (Cert.Reference4Ideal.Value.run m g),
    fun m g _ => Cert.Kernel5.Gen.frame m g,
    fun m g _ => Cert.Kernel5Ideal.Gen.frame m g,
    fun m g _ => Cert.Kernel5Ideal.Gen.frame m g,
    fun m g _ => (θ_run _ _ _).mono (fun r h => ⟨fun c => (h c).2.2, sem_eq_zero_of_no_sems (by decide) r.2⟩) (Cert.Reference5Ideal.Value.run m g),
    fun m g _ => (θ_run _ _ _).mono (fun r h => ⟨fun c => (h c).2.2, sem_eq_zero_of_no_sems (by decide) r.2⟩) (Cert.Reference5Ideal.Value.run m g),
    fun m g _ => Cert.Kernel6.Gen.frame m g,
    fun m g _ => Cert.Kernel6Ideal.Gen.frame m g,
    fun m g _ => (θ_run _ _ _).mono (fun r h => ⟨fun c => (h c).2, sem_eq_zero_of_no_sems (by decide) r.2⟩) (Cert.Reference6Ideal.Value.run m g),
    fun m g _ => Cert.Kernel7.Gen.frame m g,
    fun m g _ => Cert.Kernel7Ideal.Gen.frame m g,
    fun m g _ => (θ_run _ _ _).mono (fun r h => ⟨fun c => (h c).2, sem_eq_zero_of_no_sems (by decide) r.2⟩) (Cert.Reference7Ideal.Value.run m g),
    fun m g _ => Cert.Kernel8.Gen.frame m g,
    fun m g _ => Cert.Kernel8Ideal.Gen.frame m g,
    fun m g _ => (θ_run _ _ _).mono (fun r h => ⟨fun c => (h c).2, sem_eq_zero_of_no_sems (by decide) r.2⟩) (Cert.Reference8Ideal.Value.run m g),
    fun m g _ => Cert.Kernel9.Gen.frame m g,
    fun m g _ => Cert.Kernel9Ideal.Gen.frame m g,
    fun m g _ => (θ_run _ _ _).mono (fun r h => ⟨fun c => (h c).2, sem_eq_zero_of_no_sems (by decide) r.2⟩) (Cert.Reference9Ideal.Value.run m g),
    fun m g _ => Cert.Kernel10.Gen.frame m g,
    fun m g _ => Cert.Kernel10Ideal.Gen.frame m g,
    fun m g _ => (θ_run _ _ _).mono (fun r h => ⟨fun c => (h c).2.2.2, sem_eq_zero_of_no_sems (by decide) r.2⟩) (Cert.Reference10Ideal.Value.run m g),
    fun m g _ => Cert.Kernel11.Gen.frame m g,
    fun m g _ => Cert.Kernel11Ideal.Gen.frame m g,
    fun m g _ => (θ_run _ _ _).mono (fun r h => ⟨fun c => (h c).2.2, sem_eq_zero_of_no_sems (by decide) r.2⟩) (Cert.Reference11Ideal.Value.run m g),
    fun m g _ => Cert.Kernel12.Gen.frame m g,
    fun m g _ => Cert.Kernel12Ideal.Gen.frame m g,
    fun m g _ => (θ_run _ _ _).mono (fun r h => ⟨fun c => (h c).2, sem_eq_zero_of_no_sems (by decide) r.2⟩) (Cert.Reference12Ideal.Value.run m g),
    fun m g _ => Cert.Kernel13.Gen.frame m g,
    fun m g _ => Cert.Kernel13Ideal.Gen.frame m g,
    fun m g _ => (θ_run _ _ _).mono (fun r h => ⟨fun c => (h c).2, sem_eq_zero_of_no_sems (by decide) r.2⟩) (Cert.Reference13Ideal.Value.run m g),
    fun m g _ => Cert.Kernel14.Gen.frame m g,
    fun m g _ => Cert.Kernel14Ideal.Gen.frame m g,
    fun m g _ => (θ_run _ _ _).mono (fun r h => ⟨fun c => (h c).2.2, sem_eq_zero_of_no_sems (by decide) r.2⟩) (Cert.Reference14Ideal.Value.run m g),
    fun m g _ => Cert.Kernel15.Gen.frame m g,
    fun m g _ => Cert.Kernel15Ideal.Gen.frame m g,
    fun m g _ => (θ_run _ _ _).mono (fun r h => ⟨fun c => (h c).2, sem_eq_zero_of_no_sems (by decide) r.2⟩) (Cert.Reference15Ideal.Value.run m g),
    fun m g _ => Cert.Kernel16.Gen.frame m g,
    fun m g _ => Cert.Kernel16Ideal.Gen.frame m g,
    fun m g _ => (θ_run _ _ _).mono (fun r h => ⟨fun c => (h c).2, sem_eq_zero_of_no_sems (by decide) r.2⟩) (Cert.Reference16Ideal.Value.run m g),
    fun m g h => (Pin.Kernel17.pinned_of_pre m h).elim fun ch hp => Cert.Kernel17.Gen.frame ch m g hp,
    fun m g h => (Pin.Kernel17Ideal.pinned_of_pre m h).elim fun ch hp => Cert.Kernel17Ideal.Gen.frame ch m g hp,
    fun m g h => Cert.Kernel17Ideal.Gen.frame 0 m g (Pin.Kernel17Ideal.pinned_of_fin m h),
    fun m g _ => (θ_run _ _ _).mono (fun r h => ⟨fun c => (h c).2.2, sem_eq_zero_of_no_sems (by decide) r.2⟩) (Cert.Reference17Ideal.Value.run m g),
    fun m g _ => (θ_run _ _ _).mono (fun r h => ⟨fun c => (h c).2.2, sem_eq_zero_of_no_sems (by decide) r.2⟩) (Cert.Reference17Ideal.Value.run m g),
    fun m g _ => Cert.Kernel18.Gen.frame m g,
    fun m g _ => Cert.Kernel18Ideal.Gen.frame m g,
    fun m g _ => (θ_run _ _ _).mono (fun r h => ⟨fun c => (h c).2, sem_eq_zero_of_no_sems (by decide) r.2⟩) (Cert.Reference18Ideal.Value.run m g),
    fun m g _ => Cert.Kernel19.Gen.frame m g,
    fun m g _ => Cert.Kernel19Ideal.Gen.frame m g,
    fun m g _ => (θ_run _ _ _).mono (fun r h => ⟨fun c => (h c).2, sem_eq_zero_of_no_sems (by decide) r.2⟩) (Cert.Reference19Ideal.Value.run m g),
    fun m g _ => Cert.Kernel20.Gen.frame m g,
    fun m g _ => Cert.Kernel20Ideal.Gen.frame m g,
    fun m g _ => (θ_run _ _ _).mono (fun r h => ⟨fun c => (h c).2, sem_eq_zero_of_no_sems (by decide) r.2⟩) (Cert.Reference20Ideal.Value.run m g),
    fun m g _ => Cert.Kernel21.Gen.frame m g,
    fun m g _ => Cert.Kernel21Ideal.Gen.frame m g,
    fun m g _ => (θ_run _ _ _).mono (fun r h => ⟨fun c => (h c).2, sem_eq_zero_of_no_sems (by decide) r.2⟩) (Cert.Reference21Ideal.Value.run m g),
    fun m g _ => Cert.Kernel22.Gen.frame m g,
    fun m g _ => Cert.Kernel22Ideal.Gen.frame m g,
    fun m g _ => (θ_run _ _ _).mono (fun r h => ⟨fun c => (h c).2, sem_eq_zero_of_no_sems (by decide) r.2⟩) (Cert.Reference22Ideal.Value.run m g),
    fun m g _ => Cert.Kernel23.Gen.frame m g,
    fun m g _ => Cert.Kernel23Ideal.Gen.frame m g,
    fun m g _ => (θ_run _ _ _).mono (fun r h => ⟨fun c => (h c).2, sem_eq_zero_of_no_sems (by decide) r.2⟩) (Cert.Reference23Ideal.Value.run m g),
    fun m g _ => Cert.Kernel24.Gen.frame m g,
    fun m g _ => Cert.Kernel24Ideal.Gen.frame m g,
    fun m g _ => (θ_run _ _ _).mono (fun r h => ⟨fun c => (h c).2, sem_eq_zero_of_no_sems (by decide) r.2⟩) (Cert.Reference24Ideal.Value.run m g),
    fun m g _ => Cert.Kernel25.Gen.frame m g,
    fun m g _ => Cert.Kernel25Ideal.Gen.frame m g,
    fun m g _ => (θ_run _ _ _).mono (fun r h => ⟨fun c => (h c).2, sem_eq_zero_of_no_sems (by decide) r.2⟩) (Cert.Reference25Ideal.Value.run m g),
    fun m g _ => Cert.Kernel26.Gen.frame m g,
    fun m g _ => Cert.Kernel26Ideal.Gen.frame m g,
    fun m g _ => Cert.Kernel26Ideal.Gen.frame m g,
    fun m g _ => (θ_run _ _ _).mono (fun r h => ⟨fun c => (h c).2.2, sem_eq_zero_of_no_sems (by decide) r.2⟩) (Cert.Reference26Ideal.Value.run m g),
    fun m g _ => (θ_run _ _ _).mono (fun r h => ⟨fun c => (h c).2.2, sem_eq_zero_of_no_sems (by decide) r.2⟩) (Cert.Reference26Ideal.Value.run m g),
    trivial,
    Xattn.algebraic,
    trivial,
    Merge.algebraic,
    trivial,
    trivial,
    Swiglu.algebraic,
    trivial,
    Dh.algebraic,
    trivial,
    Dwout.algebraic,
    trivial,
    Dwin.algebraic,
    trivial,
    Dwp.algebraic,
    trivial,
    Du.algebraic,
    trivial,
    Gate.algebraic,
    trivial,
    FfnOut.algebraic,
    trivial,
    Proj.algebraic,
    trivial,
    Xq.algebraic,
    trivial,
    Wo.algebraic,
    trivial,
    Dmerged.algebraic,
    trivial,
    Dyb.algebraic,
    IdealRules.named_const.statement Cert.Kernel17Ideal.κ "mask" .f32 0xF149F2CA#32 ⊥ rfl,
    Flash.algebraic,
    trivial,
    Dwo.algebraic,
    trivial,
    Dwxq.algebraic,
    trivial,
    Upa.algebraic,
    trivial,
    Dyc.algebraic,
    trivial,
    Upc.algebraic,
    trivial,
    Dwupa.algebraic,
    trivial,
    Dwupc.algebraic,
    trivial,
    XattnFwd.algebraic,
    trivial,
    Dhq.algebraic⟩

end Cert.Proof

end
